-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_factors [hPre_finite_factors : Cert.Pre_finite_factors.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_factors.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_finite_factors.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_finite_factors.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_factors [hPre_finite_factors : Cert.Pre_finite_factors.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_factors.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_finite_factors.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_finite_factors.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite_factors [hKernel5Ideal : Cert.Kernel5Ideal.Facts] [hPre_finite_factors : Cert.Pre_finite_factors.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_factors m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite_factors [hReference5Ideal : Cert.Reference5Ideal.Facts] [hPre_finite_factors : Cert.Pre_finite_factors.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_factors m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_v161) = v2 c
          ∧ r.2.mem ((c.tc : Thread Cert.ReferenceIdeal.nD Cert.ReferenceIdeal.τ).loc Cert.ReferenceIdeal.main_v154) = v3 c
          ∧ r.2.mem ((c.tc : Thread Cert.ReferenceIdeal.nD Cert.ReferenceIdeal.τ).loc Cert.ReferenceIdeal.main_v163) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_v56) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite_factors [hKernel5Ideal : Cert.Kernel5Ideal.Facts] [hReference5Ideal : Cert.Reference5Ideal.Facts] [hPre_finite_factors : Cert.Pre_finite_factors.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_factors m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v21) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_v21) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v42) = v0 c
          ∧ r.2.mem ((c.tc : Thread Cert.Reference12Ideal.nD Cert.Reference12Ideal.τ).loc Cert.Reference12Ideal.main_v43) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v42) = v0 c
          ∧ r.2.mem ((c.tc : Thread Cert.Reference13Ideal.nD Cert.Reference13Ideal.τ).loc Cert.Reference13Ideal.main_v43) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v16) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v42) = v0 c
          ∧ r.2.mem ((c.tc : Thread Cert.Reference15Ideal.nD Cert.Reference15Ideal.τ).loc Cert.Reference15Ideal.main_v43) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v38) = v0 c
          ∧ r.2.mem ((c.tc : Thread Cert.Reference16Ideal.nD Cert.Reference16Ideal.τ).loc Cert.Reference16Ideal.main_v39) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v27) = v0 c
          ∧ r.2.mem ((c.tc : Thread Cert.Reference20Ideal.nD Cert.Reference20Ideal.τ).loc Cert.Reference20Ideal.main_v8) = v1 c
          ∧ r.2.mem ((c.tc : Thread Cert.Reference20Ideal.nD Cert.Reference20Ideal.τ).loc Cert.Reference20Ideal.main_v14) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)) (v2 : (c : Dev Cert.Kernel21Ideal.nD) → Buf (Elt Ideal) ((c.tc : Thread Cert.Kernel21Ideal.nD Cert.Kernel21Ideal.τ).loc Cert.Kernel21Ideal.main_v4_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_v4_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v27) = v0 c
          ∧ r.2.mem ((c.tc : Thread Cert.Reference21Ideal.nD Cert.Reference21Ideal.τ).loc Cert.Reference21Ideal.main_v8) = v1 c
          ∧ r.2.mem ((c.tc : Thread Cert.Reference21Ideal.nD Cert.Reference21Ideal.τ).loc Cert.Reference21Ideal.main_v14) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v27) = v0 c
          ∧ r.2.mem ((c.tc : Thread Cert.Reference22Ideal.nD Cert.Reference22Ideal.τ).loc Cert.Reference22Ideal.main_v8) = v1 c
          ∧ r.2.mem ((c.tc : Thread Cert.Reference22Ideal.nD Cert.Reference22Ideal.τ).loc Cert.Reference22Ideal.main_v14) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)) (v2 : (c : Dev Cert.Kernel23Ideal.nD) → Buf (Elt Ideal) ((c.tc : Thread Cert.Kernel23Ideal.nD Cert.Kernel23Ideal.τ).loc Cert.Kernel23Ideal.main_v4_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_v4_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v27) = v0 c
          ∧ r.2.mem ((c.tc : Thread Cert.Reference23Ideal.nD Cert.Reference23Ideal.τ).loc Cert.Reference23Ideal.main_v8) = v1 c
          ∧ r.2.mem ((c.tc : Thread Cert.Reference23Ideal.nD Cert.Reference23Ideal.τ).loc Cert.Reference23Ideal.main_v14) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v4_0)) (v1 : (c : Dev Cert.Kernel24Ideal.nD) → Buf (Elt Ideal) ((c.tc : Thread Cert.Kernel24Ideal.nD Cert.Kernel24Ideal.τ).loc Cert.Kernel24Ideal.main_v4_1)) (v2 : (c : Dev Cert.Kernel24Ideal.nD) → Buf (Elt Ideal) ((c.tc : Thread Cert.Kernel24Ideal.nD Cert.Kernel24Ideal.τ).loc Cert.Kernel24Ideal.main_v4_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v4_0) = v0 c
          ∧ r.2.mem ((c.tc : Thread Cert.Kernel24Ideal.nD Cert.Kernel24Ideal.τ).loc Cert.Kernel24Ideal.main_v4_1) = v1 c
          ∧ r.2.mem ((c.tc : Thread Cert.Kernel24Ideal.nD Cert.Kernel24Ideal.τ).loc Cert.Kernel24Ideal.main_v4_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v27) = v0 c
          ∧ r.2.mem ((c.tc : Thread Cert.Reference24Ideal.nD Cert.Reference24Ideal.τ).loc Cert.Reference24Ideal.main_v8) = v1 c
          ∧ r.2.mem ((c.tc : Thread Cert.Reference24Ideal.nD Cert.Reference24Ideal.τ).loc Cert.Reference24Ideal.main_v14) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v4_0)) (v1 : (c : Dev Cert.Kernel26Ideal.nD) → Buf (Elt Ideal) ((c.tc : Thread Cert.Kernel26Ideal.nD Cert.Kernel26Ideal.τ).loc Cert.Kernel26Ideal.main_v4_1)) (v2 : (c : Dev Cert.Kernel26Ideal.nD) → Buf (Elt Ideal) ((c.tc : Thread Cert.Kernel26Ideal.nD Cert.Kernel26Ideal.τ).loc Cert.Kernel26Ideal.main_v4_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v4_0) = v0 c
          ∧ r.2.mem ((c.tc : Thread Cert.Kernel26Ideal.nD Cert.Kernel26Ideal.τ).loc Cert.Kernel26Ideal.main_v4_1) = v1 c
          ∧ r.2.mem ((c.tc : Thread Cert.Kernel26Ideal.nD Cert.Kernel26Ideal.τ).loc Cert.Kernel26Ideal.main_v4_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v27) = v0 c
          ∧ r.2.mem ((c.tc : Thread Cert.Reference26Ideal.nD Cert.Reference26Ideal.τ).loc Cert.Reference26Ideal.main_v8) = v1 c
          ∧ r.2.mem ((c.tc : Thread Cert.Reference26Ideal.nD Cert.Reference26Ideal.τ).loc Cert.Reference26Ideal.main_v14) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v4_0)) (v1 : (c : Dev Cert.Kernel27Ideal.nD) → Buf (Elt Ideal) ((c.tc : Thread Cert.Kernel27Ideal.nD Cert.Kernel27Ideal.τ).loc Cert.Kernel27Ideal.main_v4_1)) (v2 : (c : Dev Cert.Kernel27Ideal.nD) → Buf (Elt Ideal) ((c.tc : Thread Cert.Kernel27Ideal.nD Cert.Kernel27Ideal.τ).loc Cert.Kernel27Ideal.main_v4_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v4_0) = v0 c
          ∧ r.2.mem ((c.tc : Thread Cert.Kernel27Ideal.nD Cert.Kernel27Ideal.τ).loc Cert.Kernel27Ideal.main_v4_1) = v1 c
          ∧ r.2.mem ((c.tc : Thread Cert.Kernel27Ideal.nD Cert.Kernel27Ideal.τ).loc Cert.Kernel27Ideal.main_v4_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v27) = v0 c
          ∧ r.2.mem ((c.tc : Thread Cert.Reference27Ideal.nD Cert.Reference27Ideal.τ).loc Cert.Reference27Ideal.main_v8) = v1 c
          ∧ r.2.mem ((c.tc : Thread Cert.Reference27Ideal.nD Cert.Reference27Ideal.τ).loc Cert.Reference27Ideal.main_v14) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_v24) = v1 c
          ∧ r.2.mem ((c.tc : Thread Cert.Reference6Ideal.nD Cert.Reference6Ideal.τ).loc Cert.Reference6Ideal.main_v27) = v2 c
          ∧ r.2.mem ((c.tc : Thread Cert.Reference6Ideal.nD Cert.Reference6Ideal.τ).loc Cert.Reference6Ideal.main_v32) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v13) = v0 c
          ∧ r.2.mem ((c.tc : Thread Cert.Reference17Ideal.nD Cert.Reference17Ideal.τ).loc Cert.Reference17Ideal.main_v15) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v13) = v0 c
          ∧ r.2.mem ((c.tc : Thread Cert.Reference18Ideal.nD Cert.Reference18Ideal.τ).loc Cert.Reference18Ideal.main_v15) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v16) = v0 c
          ∧ r.2.mem ((c.tc : Thread Cert.Reference31Ideal.nD Cert.Reference31Ideal.τ).loc Cert.Reference31Ideal.main_v17) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel6 : Cert.Kernel6.Facts) (hKernel6Ideal : Cert.Kernel6Ideal.Facts) (hReference6Ideal : Cert.Reference6Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel31 : Cert.Kernel31.Facts) (hKernel31Ideal : Cert.Kernel31Ideal.Facts) (hReference31Ideal : Cert.Reference31Ideal.Facts) (hPre_finite_scores : Cert.Pre_finite_scores.Facts) (hPre_finite_factors : Cert.Pre_finite_factors.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_factors (hKernel5Ideal := hKernel5Ideal) (hPre_finite_factors := hPre_finite_factors)
    ∧ quiescent_Reference5Ideal (hReference5Ideal := hReference5Ideal)
    ∧ quiescent_Reference5Ideal_pre_finite_factors (hReference5Ideal := hReference5Ideal) (hPre_finite_factors := hPre_finite_factors)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel31 (hKernel31 := hKernel31)
    ∧ quiescent_Kernel31Ideal (hKernel31Ideal := hKernel31Ideal)
    ∧ quiescent_Reference31Ideal (hReference31Ideal := hReference31Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_factors (hKernel5Ideal := hKernel5Ideal) (hReference5Ideal := hReference5Ideal) (hPre_finite_factors := hPre_finite_factors)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel6_Kernel6Ideal
    ∧ algebraic_Kernel6Ideal_Reference6Ideal (hKernel6Ideal := hKernel6Ideal) (hReference6Ideal := hReference6Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel31_Kernel31Ideal
    ∧ algebraic_Kernel31Ideal_Reference31Ideal (hKernel31Ideal := hKernel31Ideal) (hReference31Ideal := hReference31Ideal)
-- ==== Pre_finite_factors.lean ====
abbrev S8320x1024 : Shape := ⟨2, ![8320, 1024]⟩
abbrev S4x704x1024 : Shape := ⟨3, ![4, 704, 1024]⟩
abbrev S4x8320x704 : Shape := ⟨3, ![4, 8320, 704]⟩
abbrev S_ : Shape := ⟨0, ![]⟩

class Facts : Prop where
  bcast_S_S8320x1024 : S_.BroadcastsInDim S8320x1024 (![] : Fin 0 → Fin S8320x1024.rank)
  bcast_S_S4x704x1024 : S_.BroadcastsInDim S4x704x1024 (![] : Fin 0 → Fin S4x704x1024.rank)
  bcast_S_S4x8320x704 : S_.BroadcastsInDim S4x8320x704 (![] : Fin 0 → Fin S4x8320x704.rank)

variable [Facts]

def fn {F : FTy → Type} [FloatOps F] (main_arg0 : FVec F S8320x1024 .bf16) (main_arg1 : FVec F S4x704x1024 .bf16) (main_arg2 : FVec F S4x8320x704 .bf16) (main_arg3 : FVec F S4x8320x704 .bf16) : IVec S8320x1024 1 × IVec S4x704x1024 1 × IVec S4x8320x704 1 :=
  let main_v0 : FVec F S8320x1024 .bf16 := Host.absf main_arg0
  let main_cst : FVec F S_ .bf16 := constant S_ .bf16 0x7F80#16
  let main_v1 : FVec F S8320x1024 .bf16 := broadcastInDim S8320x1024 ![] bcast_S_S8320x1024 main_cst
  let main_v2 : IVec S8320x1024 1 := cmpf .olt main_v0 main_v1
  let main_v3 : FVec F S4x704x1024 .bf16 := Host.absf main_arg1
  let main_cst_0 : FVec F S_ .bf16 := constant S_ .bf16 0x7F80#16
  let main_v4 : FVec F S4x704x1024 .bf16 := broadcastInDim S4x704x1024 ![] bcast_S_S4x704x1024 main_cst_0
  let main_v5 : IVec S4x704x1024 1 := cmpf .olt main_v3 main_v4
  let main_v6 : FVec F S4x8320x704 .bf16 := Host.absf main_arg3
  let main_cst_1 : FVec F S_ .bf16 := constant S_ .bf16 0x7F80#16
  let main_v7 : FVec F S4x8320x704 .bf16 := broadcastInDim S4x8320x704 ![] bcast_S_S4x8320x704 main_cst_1
  let main_v8 : IVec S4x8320x704 1 := cmpf .olt main_v6 main_v7
  (main_v2, main_v5, main_v8)
-- ==== Pre_finite_scores.lean ====
abbrev S8320x2304 : Shape := ⟨2, ![8320, 2304]⟩
abbrev S8 : Shape := ⟨1, ![8]⟩
abbrev S8320x1024 : Shape := ⟨2, ![8320, 1024]⟩
abbrev S8320x640 : Shape := ⟨2, ![8320, 640]⟩
abbrev S_ : Shape := ⟨0, ![]⟩

class Facts : Prop where
  slices_S8320x2304_S8320x640_0_0 : S8320x2304.Slices ![0, 0] S8320x640
  bcast_S_S8320x640 : S_.BroadcastsInDim S8320x640 (![] : Fin 0 → Fin S8320x640.rank)
  bcast_S_S8 : S_.BroadcastsInDim S8 (![] : Fin 0 → Fin S8.rank)

variable [Facts]

def fn {F : FTy → Type} [FloatOps F] (main_arg0 : FVec F S8320x2304 .f32) (main_arg1 : FVec F S8 .f32) (main_arg2 : FVec F S8320x1024 .f32) : IVec S8320x640 1 × IVec S8 1 :=
  let main_v0 : FVec F S8320x640 .f32 := (extractStridedSlice S8320x640 ![0, 0] · slices_S8320x2304_S8320x640_0_0) main_arg0
  let main_v1 : FVec F S8320x640 .f32 := Host.absf main_v0
  let main_cst : FVec F S_ .f32 := constant S_ .f32 0x7F800000#32
  let main_v2 : FVec F S8320x640 .f32 := broadcastInDim S8320x640 ![] bcast_S_S8320x640 main_cst
  let main_v3 : IVec S8320x640 1 := cmpf .olt main_v1 main_v2
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  (main_v3, main_v6)
-- ==== Kernel.lean ====
abbrev S8320x2304 : Shape := ⟨2, ![8320, 2304]⟩
abbrev S8 : Shape := ⟨1, ![8]⟩
abbrev S8320x1024 : Shape := ⟨2, ![8320, 1024]⟩
abbrev S8320x512 : Shape := ⟨2, ![8320, 512]⟩
abbrev S8320x256 : Shape := ⟨2, ![8320, 256]⟩
abbrev S128x256 : Shape := ⟨2, ![128, 256]⟩
abbrev S8x128 : Shape := ⟨2, ![8, 128]⟩
abbrev S128x512 : Shape := ⟨2, ![128, 512]⟩
abbrev S128x128 : Shape := ⟨2, ![128, 128]⟩
abbrev S128x64 : Shape := ⟨2, ![128, 64]⟩
abbrev S512x64 : Shape := ⟨2, ![512, 64]⟩
abbrev S384x64 : Shape := ⟨2, ![384, 64]⟩
abbrev S512x384 : Shape := ⟨2, ![512, 384]⟩
abbrev S512x1 : Shape := ⟨2, ![512, 1]⟩
abbrev S1 : Shape := ⟨1, ![1]⟩
abbrev S512 : Shape := ⟨1, ![512]⟩
abbrev S1x1 : Shape := ⟨2, ![1, 1]⟩
abbrev S1x128 : Shape := ⟨2, ![1, 128]⟩

abbrev nBuf : Space → Nat
  | .hbm => 8
  | .vmem => 22
  | .smem => 1
  | _ => 0

abbrev bufTy : (tb : Table) → Fin (tcTables nBuf tb) → BufTy
  | .hbm, ⟨0, _⟩ => ⟨S8320x2304, .f32⟩
  | .hbm, ⟨1, _⟩ => ⟨S8, .f32⟩
  | .hbm, ⟨2, _⟩ => ⟨S8320x1024, .f32⟩
  | .hbm, ⟨3, _⟩ => ⟨S8320x512, .f32⟩
  | .hbm, ⟨4, _⟩ => ⟨S8320x256, .f32⟩
  | .hbm, ⟨5, _⟩ => ⟨S8320x256, .f32⟩
  | .hbm, ⟨6, _⟩ => ⟨S128x256, .f32⟩
  | .hbm, ⟨7, _⟩ => ⟨S8x128, .f32⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S8x128, .f32⟩
  | .local _ .smem, ⟨0, _⟩ => ⟨S8, .f32⟩
  | _, _ => ⟨S8320x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S8320x2304 : Shape := ⟨2, ![8320, 2304]⟩
abbrev S8 : Shape := ⟨1, ![8]⟩
abbrev S8320x1024 : Shape := ⟨2, ![8320, 1024]⟩
abbrev S8320x512 : Shape := ⟨2, ![8320, 512]⟩
abbrev S8320x8x64 : Shape := ⟨3, ![8320, 8, 64]⟩
abbrev S8320x128 : Shape := ⟨2, ![8320, 128]⟩
abbrev S65x128x2x64 : Shape := ⟨4, ![65, 128, 2, 64]⟩
abbrev S_ : Shape := ⟨0, ![]⟩
abbrev S66x128x2x64 : Shape := ⟨4, ![66, 128, 2, 64]⟩
abbrev S1x16x2x64 : Shape := ⟨4, ![1, 16, 2, 64]⟩
abbrev S16x2x64 : Shape := ⟨3, ![16, 2, 64]⟩
abbrev S65x128x2x4x64 : Shape := ⟨5, ![65, 128, 2, 4, 64]⟩
abbrev S65x16x2x64 : Shape := ⟨4, ![65, 16, 2, 64]⟩
abbrev S65x272x2x64 : Shape := ⟨4, ![65, 272, 2, 64]⟩
abbrev S65 : Shape := ⟨1, ![65]⟩
abbrev S65x1 : Shape := ⟨2, ![65, 1]⟩
abbrev S128 : Shape := ⟨1, ![128]⟩
abbrev S1x128 : Shape := ⟨2, ![1, 128]⟩
abbrev S65x128 : Shape := ⟨2, ![65, 128]⟩
abbrev S256 : Shape := ⟨1, ![256]⟩
abbrev S1x256 : Shape := ⟨2, ![1, 256]⟩
abbrev S65x256 : Shape := ⟨2, ![65, 256]⟩
abbrev S65x128x1 : Shape := ⟨3, ![65, 128, 1]⟩
abbrev S65x1x256 : Shape := ⟨3, ![65, 1, 256]⟩
abbrev S65x128x256 : Shape := ⟨3, ![65, 128, 256]⟩
abbrev S16 : Shape := ⟨1, ![16]⟩
abbrev S1x1x16 : Shape := ⟨3, ![1, 1, 16]⟩
abbrev S65x128x16 : Shape := ⟨3, ![65, 128, 16]⟩
abbrev S65x128x272 : Shape := ⟨3, ![65, 128, 272]⟩
abbrev S65x2x272x128x4 : Shape := ⟨5, ![65, 2, 272, 128, 4]⟩
abbrev S65x2x4x128x272 : Shape := ⟨5, ![65, 2, 4, 128, 272]⟩
abbrev S65x1x1x128x272 : Shape := ⟨5, ![65, 1, 1, 128, 272]⟩
abbrev S1x2x4x1x1 : Shape := ⟨5, ![1, 2, 4, 1, 1]⟩
abbrev S65x2x4x128x1 : Shape := ⟨5, ![65, 2, 4, 128, 1]⟩
abbrev S65x2x4x128x273 : Shape := ⟨5, ![65, 2, 4, 128, 273]⟩
abbrev S65x2x4x128 : Shape := ⟨4, ![65, 2, 4, 128]⟩
abbrev S65x2x64x4x128 : Shape := ⟨5, ![65, 2, 64, 4, 128]⟩
abbrev S65x2x64x272 : Shape := ⟨4, ![65, 2, 64, 272]⟩
abbrev S2x4 : Shape := ⟨2, ![2, 4]⟩
abbrev S65x2x128x4x64 : Shape := ⟨5, ![65, 2, 128, 4, 64]⟩
abbrev S65x2x272x64 : Shape := ⟨4, ![65, 2, 272, 64]⟩
abbrev S16x128 : Shape := ⟨2, ![16, 128]⟩
abbrev S16x256 : Shape := ⟨2, ![16, 256]⟩
abbrev S128x256 : Shape := ⟨2, ![128, 256]⟩
abbrev S8320x256 : Shape := ⟨2, ![8320, 256]⟩
abbrev S8x1 : Shape := ⟨2, ![8, 1]⟩
abbrev S8x128 : Shape := ⟨2, ![8, 128]⟩

abbrev nBuf : Space → Nat
  | .hbm => 208
  | .vmem => 0
  | .smem => 0
  | _ => 0

abbrev hbmTy0_0 (i : Nat) : BufTy := match i % 128 with
  | 0 => ⟨S8320x2304, .f32⟩
  | 1 => ⟨S8, .f32⟩
  | 2 => ⟨S8320x1024, .f32⟩
  | 3 => ⟨S8320x512, .f32⟩
  | 4 => ⟨S8320x8x64, .f32⟩
  | 5 => ⟨S8320x128, .f32⟩
  | 6 => ⟨S65x128x2x64, .f32⟩
  | 7 => ⟨S8320x128, .f32⟩
  | 8 => ⟨S65x128x2x64, .f32⟩
  | 9 => ⟨S_, .i32⟩
  | 10 => ⟨S_, .f32⟩
  | 11 => ⟨S66x128x2x64, .f32⟩
  | 12 => ⟨S65x128x2x64, .f32⟩
  | 13 => ⟨S_, .i32⟩
  | 14 => ⟨S_, .f32⟩
  | 15 => ⟨S66x128x2x64, .f32⟩
  | 16 => ⟨S65x128x2x64, .f32⟩
  | 17 => ⟨S8320x512, .f32⟩
  | 18 => ⟨S8320x8x64, .f32⟩
  | 19 => ⟨S1x16x2x64, .f32⟩
  | 20 => ⟨S16x2x64, .f32⟩
  | 21 => ⟨S1x16x2x64, .f32⟩
  | 22 => ⟨S16x2x64, .f32⟩
  | 23 => ⟨S65x128x2x4x64, .f32⟩
  | 24 => ⟨S_, .f32⟩
  | 25 => ⟨S65x128x2x4x64, .f32⟩
  | 26 => ⟨S65x128x2x4x64, .f32⟩
  | 27 => ⟨S1x16x2x64, .f32⟩
  | 28 => ⟨S65x16x2x64, .f32⟩
  | 29 => ⟨S1x16x2x64, .f32⟩
  | 30 => ⟨S65x16x2x64, .f32⟩
  | 31 => ⟨S65x272x2x64, .f32⟩
  | 32 => ⟨S65x272x2x64, .f32⟩
  | 33 => ⟨S65, .i32⟩
  | 34 => ⟨S65x1, .i32⟩
  | 35 => ⟨S_, .i32⟩
  | 36 => ⟨S65x1, .i32⟩
  | 37 => ⟨S65x1, .i32⟩
  | 38 => ⟨S128, .i32⟩
  | 39 => ⟨S1x128, .i32⟩
  | 40 => ⟨S65x128, .i32⟩
  | 41 => ⟨S65x128, .i32⟩
  | 42 => ⟨S65x128, .i32⟩
  | 43 => ⟨S65x1, .i32⟩
  | 44 => ⟨S_, .i32⟩
  | 45 => ⟨S65x1, .i32⟩
  | 46 => ⟨S65x1, .i32⟩
  | 47 => ⟨S_, .i32⟩
  | 48 => ⟨S65x1, .i32⟩
  | 49 => ⟨S65x1, .i32⟩
  | 50 => ⟨S256, .i32⟩
  | 51 => ⟨S1x256, .i32⟩
  | 52 => ⟨S65x256, .i32⟩
  | 53 => ⟨S65x256, .i32⟩
  | 54 => ⟨S65x256, .i32⟩
  | 55 => ⟨S65x128x1, .i32⟩
  | 56 => ⟨S65x1x256, .i32⟩
  | 57 => ⟨S65x128x256, .i32⟩
  | 58 => ⟨S65x128x256, .i32⟩
  | 59 => ⟨S65x128x256, .i32⟩
  | 60 => ⟨S_, .i32⟩
  | 61 => ⟨S65x128x256, .i32⟩
  | 62 => ⟨S65x128x256, .i1⟩
  | 63 => ⟨S_, .i32⟩
  | 64 => ⟨S65x128x256, .i32⟩
  | 65 => ⟨S65x128x256, .i1⟩
  | 66 => ⟨S65x128x256, .i1⟩
  | 67 => ⟨S65x1x256, .i32⟩
  | 68 => ⟨S_, .i32⟩
  | 69 => ⟨S65x1x256, .i32⟩
  | 70 => ⟨S65x1x256, .i1⟩
  | 71 => ⟨S65x128x256, .i1⟩
  | 72 => ⟨S65x128x256, .i1⟩
  | 73 => ⟨S16, .i32⟩
  | 74 => ⟨S_, .i32⟩
  | 75 => ⟨S16, .i32⟩
  | 76 => ⟨S16, .i32⟩
  | 77 => ⟨S1x1x16, .i32⟩
  | 78 => ⟨S65x128x1, .i32⟩
  | 79 => ⟨S65x128x16, .i32⟩
  | 80 => ⟨S65x128x16, .i32⟩
  | 81 => ⟨S65x128x16, .i1⟩
  | 82 => ⟨S65x128x272, .i1⟩
  | 83 => ⟨S65x2x272x128x4, .f32⟩
  | 84 => ⟨S65x2x4x128x272, .f32⟩
  | 85 => ⟨S65x1x1x128x272, .i1⟩
  | 86 => ⟨S_, .f32⟩
  | 87 => ⟨S_, .f32⟩
  | 88 => ⟨S65x2x4x128x272, .i1⟩
  | 89 => ⟨S65x2x4x128x272, .f32⟩
  | 90 => ⟨S65x2x4x128x272, .f32⟩
  | 91 => ⟨S_, .f32⟩
  | 92 => ⟨S65x2x4x128x272, .f32⟩
  | 93 => ⟨S1x2x4x1x1, .f32⟩
  | 94 => ⟨S65x2x4x128x1, .f32⟩
  | 95 => ⟨S65x2x4x128x273, .f32⟩
  | 96 => ⟨S_, .f32⟩
  | 97 => ⟨S65x2x4x128, .f32⟩
  | 98 => ⟨S65x2x4x128x1, .f32⟩
  | 99 => ⟨S65x2x4x128x273, .f32⟩
  | 100 => ⟨S65x2x4x128x273, .i1⟩
  | 101 => ⟨S65x2x4x128x273, .f32⟩
  | 102 => ⟨S_, .f32⟩
  | 103 => ⟨S65x2x4x128, .f32⟩
  | 104 => ⟨S_, .f32⟩
  | 105 => ⟨S65x2x4x128, .f32⟩
  | 106 => ⟨S65x2x4x128, .f32⟩
  | 107 => ⟨S_, .f32⟩
  | 108 => ⟨S65x2x4x128, .f32⟩
  | 109 => ⟨S65x2x4x128, .i1⟩
  | 110 => ⟨S_, .f32⟩
  | 111 => ⟨S65x2x4x128, .f32⟩
  | 112 => ⟨S65x2x4x128, .i1⟩
  | 113 => ⟨S_, .f32⟩
  | 114 => ⟨S65x2x4x128, .f32⟩
  | 115 => ⟨S_, .f32⟩
  | 116 => ⟨S65x2x4x128, .f32⟩
  | 117 => ⟨S_, .f32⟩
  | 118 => ⟨S65x2x4x128, .f32⟩
  | 119 => ⟨S65x2x4x128, .f32⟩
  | 120 => ⟨S65x2x4x128, .f32⟩
  | 121 => ⟨S65x2x4x128x1, .f32⟩
  | 122 => ⟨S65x2x4x128x273, .f32⟩
  | 123 => ⟨S65x2x4x128x273, .f32⟩
  | 124 => ⟨S65x2x4x128x273, .f32⟩
  | 125 => ⟨S_, .f32⟩
  | 126 => ⟨S65x2x4x128, .f32⟩
  | 127 => ⟨S65x2x4x128x1, .f32⟩
  | _ => ⟨S8320x2304, .f32⟩

abbrev hbmTy0_1 (i : Nat) : BufTy := match i % 128 with
  | 0 => ⟨S65x2x4x128x273, .f32⟩
  | 1 => ⟨S65x2x4x128x273, .f32⟩
  | 2 => ⟨S65x2x4x128x1, .f32⟩
  | 3 => ⟨S_, .f32⟩
  | 4 => ⟨S65x2x4x128x1, .f32⟩
  | 5 => ⟨S65x2x4x128x1, .f32⟩
  | 6 => ⟨S65x2x4x128x272, .f32⟩
  | 7 => ⟨S65x2x64x4x128, .f32⟩
  | 8 => ⟨S65x128x2x4x64, .f32⟩
  | 9 => ⟨S8320x8x64, .f32⟩
  | 10 => ⟨S65x128x2x4x64, .f32⟩
  | 11 => ⟨S65x2x64x4x128, .f32⟩
  | 12 => ⟨S65x2x4x128x272, .f32⟩
  | 13 => ⟨S65x2x64x272, .f32⟩
  | 14 => ⟨S65x272x2x64, .f32⟩
  | 15 => ⟨S_, .f32⟩
  | 16 => ⟨S65x2x4x128x273, .f32⟩
  | 17 => ⟨S65x2x4x128x273, .f32⟩
  | 18 => ⟨S65x2x4x128x273, .f32⟩
  | 19 => ⟨S65x2x4x128x273, .f32⟩
  | 20 => ⟨S_, .f32⟩
  | 21 => ⟨S65x2x4x128, .f32⟩
  | 22 => ⟨S65x2x4x128x1, .f32⟩
  | 23 => ⟨S65x2x4x128x1, .f32⟩
  | 24 => ⟨S65x2x4x128x273, .f32⟩
  | 25 => ⟨S65x2x4x128x273, .f32⟩
  | 26 => ⟨S_, .f32⟩
  | 27 => ⟨S65x2x4x128, .f32⟩
  | 28 => ⟨S65x2x4x128x273, .f32⟩
  | 29 => ⟨S65x2x4x128x273, .f32⟩
  | 30 => ⟨S65x2x4x128x273, .f32⟩
  | 31 => ⟨S65x2x4x128x272, .f32⟩
  | 32 => ⟨S65x2x4x128x1, .f32⟩
  | 33 => ⟨S_, .f32⟩
  | 34 => ⟨S2x4, .f32⟩
  | 35 => ⟨S1x2x4x1x1, .f32⟩
  | 36 => ⟨S8, .f32⟩
  | 37 => ⟨S_, .f32⟩
  | 38 => ⟨S65x2x4x128x272, .f32⟩
  | 39 => ⟨S65x2x4x128x272, .f32⟩
  | 40 => ⟨S65x2x272x128x4, .f32⟩
  | 41 => ⟨S65x2x128x4x64, .f32⟩
  | 42 => ⟨S65x128x2x4x64, .f32⟩
  | 43 => ⟨S65x2x272x64, .f32⟩
  | 44 => ⟨S65x272x2x64, .f32⟩
  | 45 => ⟨S65x16x2x64, .f32⟩
  | 46 => ⟨S65x128x2x64, .f32⟩
  | 47 => ⟨S65x128x2x64, .f32⟩
  | 48 => ⟨S65x16x2x64, .f32⟩
  | 49 => ⟨S65x128x2x64, .f32⟩
  | 50 => ⟨S65x128x2x64, .f32⟩
  | 51 => ⟨S_, .f32⟩
  | 52 => ⟨S16x2x64, .f32⟩
  | 53 => ⟨S1x16x2x64, .f32⟩
  | 54 => ⟨S_, .f32⟩
  | 55 => ⟨S16x2x64, .f32⟩
  | 56 => ⟨S_, .f32⟩
  | 57 => ⟨S16x2x64, .f32⟩
  | 58 => ⟨S1x16x2x64, .f32⟩
  | 59 => ⟨S_, .f32⟩
  | 60 => ⟨S16x2x64, .f32⟩
  | 61 => ⟨S_, .f32⟩
  | 62 => ⟨S65x128x2x4x64, .f32⟩
  | 63 => ⟨S65x128x2x4x64, .f32⟩
  | 64 => ⟨S8320x8x64, .f32⟩
  | 65 => ⟨S16x128, .f32⟩
  | 66 => ⟨S16x128, .f32⟩
  | 67 => ⟨S16x256, .f32⟩
  | 68 => ⟨S_, .i32⟩
  | 69 => ⟨S_, .f32⟩
  | 70 => ⟨S128x256, .f32⟩
  | 71 => ⟨S8320x512, .f32⟩
  | 72 => ⟨S8320x128, .f32⟩
  | 73 => ⟨S8320x128, .f32⟩
  | 74 => ⟨S8320x256, .f32⟩
  | 75 => ⟨S8320x128, .f32⟩
  | 76 => ⟨S8320x128, .f32⟩
  | 77 => ⟨S8320x256, .f32⟩
  | 78 => ⟨S8x1, .f32⟩
  | 79 => ⟨S8x128, .f32⟩
  | _ => ⟨S8320x2304, .f32⟩

abbrev hbmTy (i : Nat) : BufTy := match i / 128 with
  | 0 => hbmTy0_0 i
  | 1 => hbmTy0_1 i
  | _ => ⟨S8320x2304, .f32⟩

abbrev bufTy : (tb : Table) → Fin (tcTables nBuf tb) → BufTy
  | .hbm, ⟨i, _⟩ => hbmTy i
  | _, _ => ⟨S8320x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_2 : Ref sig .tc := ⟨.hbm, 44, rfl⟩
abbrev main_v35 : Ref sig .tc := ⟨.hbm, 45, rfl⟩
abbrev main_v36 : Ref sig .tc := ⟨.hbm, 46, rfl⟩
abbrev main_c_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_c_4 : Ref sig .tc := ⟨.hbm, 60, rfl⟩
abbrev main_v49 : Ref sig .tc := ⟨.hbm, 61, rfl⟩
abbrev main_v50 : Ref sig .tc := ⟨.hbm, 62, rfl⟩
abbrev main_c_5 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_c_6 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_c_7 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_8 : Ref sig .tc := ⟨.hbm, 86, rfl⟩
abbrev main_call2_v0 : Ref sig .tc := ⟨.hbm, 87, rfl⟩
abbrev main_v71_1 : Ref sig .tc := ⟨.hbm, 88, rfl⟩
abbrev main_call2_v2 : Ref sig .tc := ⟨.hbm, 89, rfl⟩
abbrev main_v71_0 : Ref sig .tc := ⟨.hbm, 90, rfl⟩
abbrev main_call2_cst : Ref sig .tc := ⟨.hbm, 91, rfl⟩
abbrev main_v71_2 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_9 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_10 : Ref sig .tc := ⟨.hbm, 102, rfl⟩
abbrev main_v80 : Ref sig .tc := ⟨.hbm, 103, rfl⟩
abbrev main_cst_11 : Ref sig .tc := ⟨.hbm, 104, rfl⟩
abbrev main_v81 : Ref sig .tc := ⟨.hbm, 105, rfl⟩
abbrev main_v82 : Ref sig .tc := ⟨.hbm, 106, rfl⟩
abbrev main_cst_12 : Ref sig .tc := ⟨.hbm, 107, rfl⟩
abbrev main_v83 : Ref sig .tc := ⟨.hbm, 108, rfl⟩
abbrev main_v84 : Ref sig .tc := ⟨.hbm, 109, rfl⟩
abbrev main_cst_13 : Ref sig .tc := ⟨.hbm, 110, rfl⟩
abbrev main_v85 : Ref sig .tc := ⟨.hbm, 111, rfl⟩
abbrev main_v86 : Ref sig .tc := ⟨.hbm, 112, rfl⟩
abbrev main_cst_14 : Ref sig .tc := ⟨.hbm, 113, rfl⟩
abbrev main_v87 : Ref sig .tc := ⟨.hbm, 114, rfl⟩
abbrev main_cst_15 : Ref sig .tc := ⟨.hbm, 115, rfl⟩
abbrev main_v88 : Ref sig .tc := ⟨.hbm, 116, rfl⟩
abbrev main_cst_16 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_17 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_18 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_19 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_20 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_21 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_22 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_call3_cst : Ref sig .tc := ⟨.hbm, 165, rfl⟩
abbrev main_call3_v0 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_cst_23 : Ref sig .tc := ⟨.hbm, 179, rfl⟩
abbrev main_v142 : Ref sig .tc := ⟨.hbm, 180, rfl⟩
abbrev main_v143 : Ref sig .tc := ⟨.hbm, 181, rfl⟩
abbrev main_cst_24 : Ref sig .tc := ⟨.hbm, 182, rfl⟩
abbrev main_v144 : Ref sig .tc := ⟨.hbm, 183, rfl⟩
abbrev main_cst_25 : Ref sig .tc := ⟨.hbm, 184, rfl⟩
abbrev main_v145 : Ref sig .tc := ⟨.hbm, 185, rfl⟩
abbrev main_v146 : Ref sig .tc := ⟨.hbm, 186, rfl⟩
abbrev main_cst_26 : Ref sig .tc := ⟨.hbm, 187, rfl⟩
abbrev main_v147 : Ref sig .tc := ⟨.hbm, 188, rfl⟩
abbrev main_cst_27 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_c_28 : Ref sig .tc := ⟨.hbm, 196, rfl⟩
abbrev main_call4_v0 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩

abbrev nD : Nat := 1
abbrev τ : Topo := Topo.v7x

variable {F : FTy → Type} [FloatOps F]
-- ==== Kernel2.lean ====
abbrev S8320x1024 : Shape := ⟨2, ![8320, 1024]⟩
abbrev S4x8320x704 : Shape := ⟨3, ![4, 8320, 704]⟩
abbrev S1x8320x1024 : Shape := ⟨3, ![1, 8320, 1024]⟩
abbrev S4x1024x704 : Shape := ⟨3, ![4, 1024, 704]⟩
abbrev S1x1664x1024 : Shape := ⟨3, ![1, 1664, 1024]⟩
abbrev S1x1664x704 : Shape := ⟨3, ![1, 1664, 704]⟩
abbrev S1x1024x704 : Shape := ⟨3, ![1, 1024, 704]⟩
abbrev S1024x704 : Shape := ⟨2, ![1024, 704]⟩
abbrev S1664x1024 : Shape := ⟨2, ![1664, 1024]⟩
abbrev S1664x704 : Shape := ⟨2, ![1664, 704]⟩

abbrev nBuf : Space → Nat
  | .hbm => 4
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S4x8320x704, .bf16⟩
  | .hbm, ⟨2, _⟩ => ⟨S1x8320x1024, .bf16⟩
  | .hbm, ⟨3, _⟩ => ⟨S4x1024x704, .bf16⟩
  | .local _ .vmem, ⟨0, _⟩ => ⟨S1x1664x1024, .bf16⟩
  | .local _ .vmem, ⟨1, _⟩ => ⟨S1x1664x1024, .bf16⟩
  | .local _ .vmem, ⟨2, _⟩ => ⟨S1x1664x704, .bf16⟩
  | .local _ .vmem, ⟨3, _⟩ => ⟨S1x1664x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 5], ![false, false, false]⟩

def k0_cond2 (i : grid0.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1664x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8320x1024 : Shape := ⟨2, ![8320, 1024]⟩
abbrev S4x8320x704 : Shape := ⟨3, ![4, 8320, 704]⟩
abbrev S_ : Shape := ⟨0, ![]⟩
abbrev S1024x2816 : Shape := ⟨2, ![1024, 2816]⟩
abbrev S8320x2816 : Shape := ⟨2, ![8320, 2816]⟩
abbrev S8320x4x704 : Shape := ⟨3, ![8320, 4, 704]⟩
abbrev S2816x1024 : Shape := ⟨2, ![2816, 1024]⟩
abbrev S1024x4x704 : Shape := ⟨3, ![1024, 4, 704]⟩
abbrev S4x1024x704 : Shape := ⟨3, ![4, 1024, 704]⟩

abbrev nBuf : Space → Nat
  | .hbm => 14
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S4x8320x704, .bf16⟩
  | .hbm, ⟨2, _⟩ => ⟨S_, .f32⟩
  | .hbm, ⟨3, _⟩ => ⟨S1024x2816, .f32⟩
  | .hbm, ⟨4, _⟩ => ⟨S8320x1024, .f32⟩
  | .hbm, ⟨5, _⟩ => ⟨S8320x2816, .f32⟩
  | .hbm, ⟨6, _⟩ => ⟨S4x8320x704, .f32⟩
  | .hbm, ⟨7, _⟩ => ⟨S8320x4x704, .f32⟩
  | .hbm, ⟨8, _⟩ => ⟨S8320x2816, .f32⟩
  | .hbm, ⟨9, _⟩ => ⟨S2816x1024, .f32⟩
  | .hbm, ⟨10, _⟩ => ⟨S1024x2816, .f32⟩
  | .hbm, ⟨11, _⟩ => ⟨S1024x4x704, .f32⟩
  | .hbm, ⟨12, _⟩ => ⟨S4x1024x704, .f32⟩
  | .hbm, ⟨13, _⟩ => ⟨S4x1024x704, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel3.lean ====
abbrev S4x8320x704 : Shape := ⟨3, ![4, 8320, 704]⟩
abbrev S8320x1024 : Shape := ⟨2, ![8320, 1024]⟩
abbrev S1x8320x1024 : Shape := ⟨3, ![1, 8320, 1024]⟩
abbrev S4x704x1024 : Shape := ⟨3, ![4, 704, 1024]⟩
abbrev S1x1664x704 : Shape := ⟨3, ![1, 1664, 704]⟩
abbrev S1x1664x1024 : Shape := ⟨3, ![1, 1664, 1024]⟩
abbrev S1x704x1024 : Shape := ⟨3, ![1, 704, 1024]⟩
abbrev S704x1024 : Shape := ⟨2, ![704, 1024]⟩
abbrev S1664x704 : Shape := ⟨2, ![1664, 704]⟩
abbrev S1664x1024 : Shape := ⟨2, ![1664, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4x8320x704, .bf16⟩
  | .hbm, ⟨1, _⟩ => ⟨S8320x1024, .bf16⟩
  | .hbm, ⟨2, _⟩ => ⟨S1x8320x1024, .bf16⟩
  | .hbm, ⟨3, _⟩ => ⟨S4x704x1024, .bf16⟩
  | .local _ .vmem, ⟨0, _⟩ => ⟨S1x1664x704, .bf16⟩
  | .local _ .vmem, ⟨1, _⟩ => ⟨S1x1664x704, .bf16⟩
  | .local _ .vmem, ⟨2, _⟩ => ⟨S1x1664x1024, .bf16⟩
  | .local _ .vmem, ⟨3, _⟩ => ⟨S1x1664x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x8320x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 5], ![false, false, false]⟩

def k0_cond2 (i : grid0.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1664x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4x8320x704 : Shape := ⟨3, ![4, 8320, 704]⟩
abbrev S8320x1024 : Shape := ⟨2, ![8320, 1024]⟩
abbrev S_ : Shape := ⟨0, ![]⟩
abbrev S2816x1024 : Shape := ⟨2, ![2816, 1024]⟩
abbrev S8320x4x704 : Shape := ⟨3, ![8320, 4, 704]⟩
abbrev S8320x2816 : Shape := ⟨2, ![8320, 2816]⟩
abbrev S1024x2816 : Shape := ⟨2, ![1024, 2816]⟩
abbrev S4x704x1024 : Shape := ⟨3, ![4, 704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x8320x704, .bf16⟩
  | .hbm, ⟨1, _⟩ => ⟨S8320x1024, .bf16⟩
  | .hbm, ⟨2, _⟩ => ⟨S_, .f32⟩
  | .hbm, ⟨3, _⟩ => ⟨S2816x1024, .f32⟩
  | .hbm, ⟨4, _⟩ => ⟨S4x8320x704, .f32⟩
  | .hbm, ⟨5, _⟩ => ⟨S8320x4x704, .f32⟩
  | .hbm, ⟨6, _⟩ => ⟨S8320x2816, .f32⟩
  | .hbm, ⟨7, _⟩ => ⟨S8320x1024, .f32⟩
  | .hbm, ⟨8, _⟩ => ⟨S8320x1024, .f32⟩
  | .hbm, ⟨9, _⟩ => ⟨S1024x2816, .f32⟩
  | .hbm, ⟨10, _⟩ => ⟨S2816x1024, .f32⟩
  | .hbm, ⟨11, _⟩ => ⟨S4x704x1024, .f32⟩
  | .hbm, ⟨12, _⟩ => ⟨S4x704x1024, .bf16⟩
  | _, _ => ⟨S4x8320x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S4x8320x704 : Shape := ⟨3, ![4, 8320, 704]⟩
abbrev S4x1024x704 : Shape := ⟨3, ![4, 1024, 704]⟩
abbrev S8320x1024 : Shape := ⟨2, ![8320, 1024]⟩
abbrev S1024 : Shape := ⟨1, ![1024]⟩
abbrev S1x1024 : Shape := ⟨2, ![1, 1024]⟩
abbrev S8x1024 : Shape := ⟨2, ![8, 1024]⟩
abbrev S1x640x704 : Shape := ⟨3, ![1, 640, 704]⟩
abbrev S1x1024x704 : Shape := ⟨3, ![1, 1024, 704]⟩
abbrev S640x1024 : Shape := ⟨2, ![640, 1024]⟩
abbrev S640x704 : Shape := ⟨2, ![640, 704]⟩
abbrev S1024x704 : Shape := ⟨2, ![1024, 704]⟩
abbrev S640 : Shape := ⟨1, ![640]⟩
abbrev S640x1 : Shape := ⟨2, ![640, 1]⟩

abbrev nBuf : Space → Nat
  | .hbm => 10
  | .vmem => 17
  | .smem => 0
  | _ => 0

abbrev bufTy : (tb : Table) → Fin (tcTables nBuf tb) → BufTy
  | .hbm, ⟨0, _⟩ => ⟨S4x8320x704, .bf16⟩
  | .hbm, ⟨1, _⟩ => ⟨S4x8320x704, .bf16⟩
  | .hbm, ⟨2, _⟩ => ⟨S4x1024x704, .bf16⟩
  | .hbm, ⟨3, _⟩ => ⟨S4x1024x704, .bf16⟩
  | .hbm, ⟨4, _⟩ => ⟨S8320x1024, .f32⟩
  | .hbm, ⟨5, _⟩ => ⟨S1024, .f32⟩
  | .hbm, ⟨6, _⟩ => ⟨S8320x1024, .f32⟩
  | .hbm, ⟨7, _⟩ => ⟨S1x1024, .f32⟩
  | .hbm, ⟨8, _⟩ => ⟨S8320x1024, .f32⟩
  | .hbm, ⟨9, _⟩ => ⟨S8x1024, .f32⟩
  | .local _ .vmem, ⟨0, _⟩ => ⟨S1x640x704, .bf16⟩
  | .local _ .vmem, ⟨1, _⟩ => ⟨S1x640x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x640x704, .bf16⟩
  | .local _ .vmem, ⟨5, _⟩ => ⟨S1x640x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S640x1024, .f32⟩
  | .local _ .vmem, ⟨9, _⟩ => ⟨S640x1024, .f32⟩
  | .local _ .vmem, ⟨10, _⟩ => ⟨S1x1024, .f32⟩
  | .local _ .vmem, ⟨11, _⟩ => ⟨S640x1024, .f32⟩
  | .local _ .vmem, ⟨12, _⟩ => ⟨S640x1024, .f32⟩
  | .local _ .vmem, ⟨13, _⟩ => ⟨S640x1024, .f32⟩
  | .local _ .vmem, ⟨14, _⟩ => ⟨S640x1024, .f32⟩
  | .local _ .vmem, ⟨15, _⟩ => ⟨S8x1024, .f32⟩
  | .local _ .vmem, ⟨16, _⟩ => ⟨S640x1024, .f32⟩
  | _, _ => ⟨S4x8320x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![13, 4], ![false, false]⟩

def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_21 : BitVec 32 := 0#32
  let v25 : BitVec 1 := Scalar.cmpi .ne v24 c0_i32_21
  v25

def k0_cond3 (i : grid0.Coords) : BitVec 1 :=
  let arg0 : BitVec 32 := BitVec.ofNat 32 (i 0).val
  let c0_i32_39 : BitVec 32 := 0#32
  let v68 : BitVec 1 := Scalar.cmpi .eq arg0 c0_i32_39
  let v69 : BitVec 32 := Scalar.extui v68
  let c0_i32_40 : BitVec 32 := 0#32
  let v70 : BitVec 1 := Scalar.cmpi .ne v69 c0_i32_40
  v70

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x640x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x640x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S640x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference4Ideal.lean ====
abbrev S4x8320x704 : Shape := ⟨3, ![4, 8320, 704]⟩
abbrev S4x1024x704 : Shape := ⟨3, ![4, 1024, 704]⟩
abbrev S8320x1024 : Shape := ⟨2, ![8320, 1024]⟩
abbrev S1024 : Shape := ⟨1, ![1024]⟩
abbrev S_ : Shape := ⟨0, ![]⟩
abbrev S8320 : Shape := ⟨1, ![8320]⟩
abbrev S8320x1 : Shape := ⟨2, ![8320, 1]⟩
abbrev S1x1024 : Shape := ⟨2, ![1, 1024]⟩
abbrev S1024x4x704 : Shape := ⟨3, ![1024, 4, 704]⟩
abbrev S1024x2816 : Shape := ⟨2, ![1024, 2816]⟩
abbrev S8320x2816 : Shape := ⟨2, ![8320, 2816]⟩
abbrev S8320x4x704 : Shape := ⟨3, ![8320, 4, 704]⟩
abbrev S8208x1024 : Shape := ⟨2, ![8208, 1024]⟩
abbrev S8x1024 : Shape := ⟨2, ![8, 1024]⟩

abbrev nBuf : Space → Nat
  | .hbm => 75
  | .vmem => 0
  | .smem => 0
  | _ => 0

abbrev bufTy : (tb : Table) → Fin (tcTables nBuf tb) → BufTy
  | .hbm, ⟨0, _⟩ => ⟨S4x8320x704, .bf16⟩
  | .hbm, ⟨1, _⟩ => ⟨S4x8320x704, .bf16⟩
  | .hbm, ⟨2, _⟩ => ⟨S4x1024x704, .bf16⟩
  | .hbm, ⟨3, _⟩ => ⟨S4x1024x704, .bf16⟩
  | .hbm, ⟨4, _⟩ => ⟨S8320x1024, .f32⟩
  | .hbm, ⟨5, _⟩ => ⟨S1024, .f32⟩
  | .hbm, ⟨6, _⟩ => ⟨S8320x1024, .f32⟩
  | .hbm, ⟨7, _⟩ => ⟨S8320x1024, .f32⟩
  | .hbm, ⟨8, _⟩ => ⟨S_, .f32⟩
  | .hbm, ⟨9, _⟩ => ⟨S8320, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S_, .f32⟩
  | .hbm, ⟨15, _⟩ => ⟨S8320x1, .f32⟩
  | .hbm, ⟨16, _⟩ => ⟨S8320x1, .f32⟩
  | .hbm, ⟨17, _⟩ => ⟨S8320x1, .f32⟩
  | .hbm, ⟨18, _⟩ => ⟨S8320x1, .f32⟩
  | .hbm, ⟨19, _⟩ => ⟨S_, .f32⟩
  | .hbm, ⟨20, _⟩ => ⟨S8320x1, .f32⟩
  | .hbm, ⟨21, _⟩ => ⟨S8320x1, .f32⟩
  | .hbm, ⟨22, _⟩ => ⟨S8320x1024, .f32⟩
  | .hbm, ⟨23, _⟩ => ⟨S8320x1024, .f32⟩
  | .hbm, ⟨24, _⟩ => ⟨S1x1024, .f32⟩
  | .hbm, ⟨25, _⟩ => ⟨S8320x1024, .f32⟩
  | .hbm, ⟨26, _⟩ => ⟨S8320x1024, .f32⟩
  | .hbm, ⟨27, _⟩ => ⟨S4x1024x704, .f32⟩
  | .hbm, ⟨28, _⟩ => ⟨S1024x4x704, .f32⟩
  | .hbm, ⟨29, _⟩ => ⟨S1024x2816, .f32⟩
  | .hbm, ⟨30, _⟩ => ⟨S8320x2816, .f32⟩
  | .hbm, ⟨31, _⟩ => ⟨S4x1024x704, .f32⟩
  | .hbm, ⟨32, _⟩ => ⟨S1024x4x704, .f32⟩
  | .hbm, ⟨33, _⟩ => ⟨S1024x2816, .f32⟩
  | .hbm, ⟨34, _⟩ => ⟨S8320x2816, .f32⟩
  | .hbm, ⟨35, _⟩ => ⟨S4x8320x704, .f32⟩
  | .hbm, ⟨36, _⟩ => ⟨S8320x4x704, .f32⟩
  | .hbm, ⟨37, _⟩ => ⟨S8320x2816, .f32⟩
  | .hbm, ⟨38, _⟩ => ⟨S4x8320x704, .f32⟩
  | .hbm, ⟨39, _⟩ => ⟨S8320x4x704, .f32⟩
  | .hbm, ⟨40, _⟩ => ⟨S8320x2816, .f32⟩
  | .hbm, ⟨41, _⟩ => ⟨S8320x1024, .f32⟩
  | .hbm, ⟨42, _⟩ => ⟨S8320x1024, .f32⟩
  | .hbm, ⟨43, _⟩ => ⟨S8320x1024, .f32⟩
  | .hbm, ⟨44, _⟩ => ⟨S8320x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8320x1024, .f32⟩
  | .hbm, ⟨49, _⟩ => ⟨S8320x1024, .f32⟩
  | .hbm, ⟨50, _⟩ => ⟨S_, .f32⟩
  | .hbm, ⟨51, _⟩ => ⟨S1024, .f32⟩
  | .hbm, ⟨52, _⟩ => ⟨S8320x1024, .f32⟩
  | .hbm, ⟨53, _⟩ => ⟨S_, .f32⟩
  | .hbm, ⟨54, _⟩ => ⟨S8320, .f32⟩
  | .hbm, ⟨55, _⟩ => ⟨S8320x1, .f32⟩
  | .hbm, ⟨56, _⟩ => ⟨S8320x1024, .f32⟩
  | .hbm, ⟨57, _⟩ => ⟨S8320x1024, .f32⟩
  | .hbm, ⟨58, _⟩ => ⟨S8320x1, .f32⟩
  | .hbm, ⟨59, _⟩ => ⟨S_, .f32⟩
  | .hbm, ⟨60, _⟩ => ⟨S8320x1, .f32⟩
  | .hbm, ⟨61, _⟩ => ⟨S8320x1, .f32⟩
  | .hbm, ⟨62, _⟩ => ⟨S_, .f32⟩
  | .hbm, ⟨63, _⟩ => ⟨S8320, .f32⟩
  | .hbm, ⟨64, _⟩ => ⟨S8320x1024, .f32⟩
  | .hbm, ⟨65, _⟩ => ⟨S8320x1024, .f32⟩
  | .hbm, ⟨66, _⟩ => ⟨S8320x1024, .f32⟩
  | .hbm, ⟨67, _⟩ => ⟨S8320x1024, .f32⟩
  | .hbm, ⟨68, _⟩ => ⟨S8320x1024, .f32⟩
  | .hbm, ⟨69, _⟩ => ⟨S8320x1024, .f32⟩
  | .hbm, ⟨70, _⟩ => ⟨S8208x1024, .f32⟩
  | .hbm, ⟨71, _⟩ => ⟨S_, .i32⟩
  | .hbm, ⟨72, _⟩ => ⟨S_, .f32⟩
  | .hbm, ⟨73, _⟩ => ⟨S8320x1024, .f32⟩
  | .hbm, ⟨74, _⟩ => ⟨S8x1024, .f32⟩
  | _, _ => ⟨S4x8320x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c : Ref sig .tc := ⟨.hbm, 71, rfl⟩
abbrev main_call0_v0 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== Kernel5.lean ====
abbrev S8320x1024 : Shape := ⟨2, ![8320, 1024]⟩
abbrev S4x704x1024 : Shape := ⟨3, ![4, 704, 1024]⟩
abbrev S4x8320x704 : Shape := ⟨3, ![4, 8320, 704]⟩
abbrev S640x1024 : Shape := ⟨2, ![640, 1024]⟩
abbrev S1x704x1024 : Shape := ⟨3, ![1, 704, 1024]⟩
abbrev S1x640x704 : Shape := ⟨3, ![1, 640, 704]⟩
abbrev S704x1024 : Shape := ⟨2, ![704, 1024]⟩
abbrev S640x704 : Shape := ⟨2, ![640, 704]⟩

abbrev nBuf : Space → Nat
  | .hbm => 6
  | .vmem => 12
  | .smem => 0
  | _ => 0

abbrev bufTy : (tb : Table) → Fin (tcTables nBuf tb) → BufTy
  | .hbm, ⟨0, _⟩ => ⟨S8320x1024, .bf16⟩
  | .hbm, ⟨1, _⟩ => ⟨S4x704x1024, .bf16⟩
  | .hbm, ⟨2, _⟩ => ⟨S4x8320x704, .bf16⟩
  | .hbm, ⟨3, _⟩ => ⟨S4x8320x704, .bf16⟩
  | .hbm, ⟨4, _⟩ => ⟨S4x8320x704, .bf16⟩
  | .hbm, ⟨5, _⟩ => ⟨S4x8320x704, .bf16⟩
  | .local _ .vmem, ⟨0, _⟩ => ⟨S640x1024, .bf16⟩
  | .local _ .vmem, ⟨1, _⟩ => ⟨S640x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x640x704, .bf16⟩
  | .local _ .vmem, ⟨5, _⟩ => ⟨S1x640x704, .bf16⟩
  | .local _ .vmem, ⟨6, _⟩ => ⟨S1x640x704, .bf16⟩
  | .local _ .vmem, ⟨7, _⟩ => ⟨S1x640x704, .bf16⟩
  | .local _ .vmem, ⟨8, _⟩ => ⟨S1x640x704, .bf16⟩
  | .local _ .vmem, ⟨9, _⟩ => ⟨S1x640x704, .bf16⟩
  | .local _ .vmem, ⟨10, _⟩ => ⟨S1x640x704, .bf16⟩
  | .local _ .vmem, ⟨11, _⟩ => ⟨S1x640x704, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![13, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x640x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x640x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x640x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x640x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8320x1024 : Shape := ⟨2, ![8320, 1024]⟩
abbrev S4x704x1024 : Shape := ⟨3, ![4, 704, 1024]⟩
abbrev S4x8320x704 : Shape := ⟨3, ![4, 8320, 704]⟩
abbrev S2816x1024 : Shape := ⟨2, ![2816, 1024]⟩
abbrev S8320x4x704 : Shape := ⟨3, ![8320, 4, 704]⟩
abbrev S8320x2816 : Shape := ⟨2, ![8320, 2816]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S4x704x1024, .bf16⟩
  | .hbm, ⟨2, _⟩ => ⟨S4x8320x704, .bf16⟩
  | .hbm, ⟨3, _⟩ => ⟨S4x8320x704, .bf16⟩
  | .hbm, ⟨4, _⟩ => ⟨S4x704x1024, .f32⟩
  | .hbm, ⟨5, _⟩ => ⟨S2816x1024, .f32⟩
  | .hbm, ⟨6, _⟩ => ⟨S4x8320x704, .f32⟩
  | .hbm, ⟨7, _⟩ => ⟨S8320x4x704, .f32⟩
  | .hbm, ⟨8, _⟩ => ⟨S8320x2816, .f32⟩
  | .hbm, ⟨9, _⟩ => ⟨S4x8320x704, .f32⟩
  | .hbm, ⟨10, _⟩ => ⟨S8320x4x704, .f32⟩
  | .hbm, ⟨11, _⟩ => ⟨S8320x2816, .f32⟩
  | .hbm, ⟨12, _⟩ => ⟨S8320x2816, .f32⟩
  | .hbm, ⟨13, _⟩ => ⟨S8320x2816, .f32⟩
  | .hbm, ⟨14, _⟩ => ⟨S_, .f32⟩
  | .hbm, ⟨15, _⟩ => ⟨S8320x2816, .f32⟩
  | .hbm, ⟨16, _⟩ => ⟨S8320x2816, .f32⟩
  | .hbm, ⟨17, _⟩ => ⟨S_, .f32⟩
  | .hbm, ⟨18, _⟩ => ⟨S8320x2816, .f32⟩
  | .hbm, ⟨19, _⟩ => ⟨S8320x2816, .f32⟩
  | .hbm, ⟨20, _⟩ => ⟨S_, .f32⟩
  | .hbm, ⟨21, _⟩ => ⟨S8320x2816, .f32⟩
  | .hbm, ⟨22, _⟩ => ⟨S8320x2816, .f32⟩
  | .hbm, ⟨23, _⟩ => ⟨S8320x2816, .f32⟩
  | .hbm, ⟨24, _⟩ => ⟨S8320x2816, .f32⟩
  | .hbm, ⟨25, _⟩ => ⟨S8320x2816, .f32⟩
  | .hbm, ⟨26, _⟩ => ⟨S8320x1024, .f32⟩
  | .hbm, ⟨27, _⟩ => ⟨S8320x1024, .f32⟩
  | .hbm, ⟨28, _⟩ => ⟨S8320x2816, .f32⟩
  | .hbm, ⟨29, _⟩ => ⟨S8320x2816, .f32⟩
  | .hbm, ⟨30, _⟩ => ⟨S8320x2816, .f32⟩
  | .hbm, ⟨31, _⟩ => ⟨S8320x2816, .f32⟩
  | .hbm, ⟨32, _⟩ => ⟨S8320x2816, .f32⟩
  | .hbm, ⟨33, _⟩ => ⟨S8320x2816, .f32⟩
  | .hbm, ⟨34, _⟩ => ⟨S8320x2816, .f32⟩
  | .hbm, ⟨35, _⟩ => ⟨S8320x4x704, .f32⟩
  | .hbm, ⟨36, _⟩ => ⟨S4x8320x704, .f32⟩
  | .hbm, ⟨37, _⟩ => ⟨S4x8320x704, .bf16⟩
  | .hbm, ⟨38, _⟩ => ⟨S8320x4x704, .f32⟩
  | .hbm, ⟨39, _⟩ => ⟨S4x8320x704, .f32⟩
  | .hbm, ⟨40, _⟩ => ⟨S4x8320x704, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v8_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v8_1 : Ref sig .tc := ⟨.hbm, 23, rfl⟩
abbrev main_v8_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]
-- ==== Kernel7.lean ====
abbrev S4x8320x704 : Shape := ⟨3, ![4, 8320, 704]⟩
abbrev S4x704x1024 : Shape := ⟨3, ![4, 704, 1024]⟩
abbrev S8320x1024 : Shape := ⟨2, ![8320, 1024]⟩
abbrev S1024 : Shape := ⟨1, ![1024]⟩
abbrev S1x1024 : Shape := ⟨2, ![1, 1024]⟩
abbrev S1x640x704 : Shape := ⟨3, ![1, 640, 704]⟩
abbrev S1x704x1024 : Shape := ⟨3, ![1, 704, 1024]⟩
abbrev S640x1024 : Shape := ⟨2, ![640, 1024]⟩
abbrev S640x704 : Shape := ⟨2, ![640, 704]⟩
abbrev S704x1024 : Shape := ⟨2, ![704, 1024]⟩
abbrev S640 : Shape := ⟨1, ![640]⟩
abbrev S640x1 : Shape := ⟨2, ![640, 1]⟩

abbrev nBuf : Space → Nat
  | .hbm => 7
  | .vmem => 12
  | .smem => 0
  | _ => 0

abbrev bufTy : (tb : Table) → Fin (tcTables nBuf tb) → BufTy
  | .hbm, ⟨0, _⟩ => ⟨S4x8320x704, .bf16⟩
  | .hbm, ⟨1, _⟩ => ⟨S4x704x1024, .bf16⟩
  | .hbm, ⟨2, _⟩ => ⟨S8320x1024, .f32⟩
  | .hbm, ⟨3, _⟩ => ⟨S1024, .f32⟩
  | .hbm, ⟨4, _⟩ => ⟨S1x1024, .f32⟩
  | .hbm, ⟨5, _⟩ => ⟨S8320x1024, .f32⟩
  | .hbm, ⟨6, _⟩ => ⟨S8320x1024, .f32⟩
  | .local _ .vmem, ⟨0, _⟩ => ⟨S1x640x704, .bf16⟩
  | .local _ .vmem, ⟨1, _⟩ => ⟨S1x640x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S640x1024, .f32⟩
  | .local _ .vmem, ⟨5, _⟩ => ⟨S640x1024, .f32⟩
  | .local _ .vmem, ⟨6, _⟩ => ⟨S1x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .f32⟩
  | .local _ .vmem, ⟨11, _⟩ => ⟨S640x1024, .f32⟩
  | _, _ => ⟨S4x8320x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![13, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x640x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference7Ideal.lean ====
abbrev S4x8320x704 : Shape := ⟨3, ![4, 8320, 704]⟩
abbrev S4x704x1024 : Shape := ⟨3, ![4, 704, 1024]⟩
abbrev S8320x1024 : Shape := ⟨2, ![8320, 1024]⟩
abbrev S1024 : Shape := ⟨1, ![1024]⟩
abbrev S8320x4x704 : Shape := ⟨3, ![8320, 4, 704]⟩
abbrev S8320x2816 : Shape := ⟨2, ![8320, 2816]⟩
abbrev S2816x1024 : Shape := ⟨2, ![2816, 1024]⟩
abbrev S_ : Shape := ⟨0, ![]⟩
abbrev S8320 : Shape := ⟨1, ![8320]⟩
abbrev S8320x1 : Shape := ⟨2, ![8320, 1]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x8320x704, .bf16⟩
  | .hbm, ⟨1, _⟩ => ⟨S4x704x1024, .bf16⟩
  | .hbm, ⟨2, _⟩ => ⟨S8320x1024, .f32⟩
  | .hbm, ⟨3, _⟩ => ⟨S1024, .f32⟩
  | .hbm, ⟨4, _⟩ => ⟨S4x8320x704, .f32⟩
  | .hbm, ⟨5, _⟩ => ⟨S8320x4x704, .f32⟩
  | .hbm, ⟨6, _⟩ => ⟨S8320x2816, .f32⟩
  | .hbm, ⟨7, _⟩ => ⟨S4x704x1024, .f32⟩
  | .hbm, ⟨8, _⟩ => ⟨S2816x1024, .f32⟩
  | .hbm, ⟨9, _⟩ => ⟨S8320x1024, .f32⟩
  | .hbm, ⟨10, _⟩ => ⟨S8320x1024, .f32⟩
  | .hbm, ⟨11, _⟩ => ⟨S_, .f32⟩
  | .hbm, ⟨12, _⟩ => ⟨S8320, .f32⟩
  | .hbm, ⟨13, _⟩ => ⟨S8320x1, .f32⟩
  | .hbm, ⟨14, _⟩ => ⟨S_, .f32⟩
  | .hbm, ⟨15, _⟩ => ⟨S8320x1, .f32⟩
  | .hbm, ⟨16, _⟩ => ⟨S8320x1, .f32⟩
  | .hbm, ⟨17, _⟩ => ⟨S_, .f32⟩
  | .hbm, ⟨18, _⟩ => ⟨S8320x1, .f32⟩
  | .hbm, ⟨19, _⟩ => ⟨S8320x1, .f32⟩
  | .hbm, ⟨20, _⟩ => ⟨S8320x1, .f32⟩
  | .hbm, ⟨21, _⟩ => ⟨S8320x1024, .f32⟩
  | .hbm, ⟨22, _⟩ => ⟨S8320x1024, .f32⟩
  | .hbm, ⟨23, _⟩ => ⟨S1x1024, .f32⟩
  | .hbm, ⟨24, _⟩ => ⟨S8320x1024, .f32⟩
  | .hbm, ⟨25, _⟩ => ⟨S8320x1024, .f32⟩
  | .hbm, ⟨26, _⟩ => ⟨S_, .f32⟩
  | .hbm, ⟨27, _⟩ => ⟨S8320x1024, .f32⟩
  | .hbm, ⟨28, _⟩ => ⟨S8320x1024, .f32⟩
  | .hbm, ⟨29, _⟩ => ⟨S8320x1024, .f32⟩
  | _, _ => ⟨S4x8320x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel8.lean ====
abbrev S8320x1024 : Shape := ⟨2, ![8320, 1024]⟩
abbrev S1024x1024 : Shape := ⟨2, ![1024, 1024]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .local _ .vmem, ⟨0, _⟩ => ⟨S640x1024, .bf16⟩
  | .local _ .vmem, ⟨1, _⟩ => ⟨S640x1024, .bf16⟩
  | .local _ .vmem, ⟨2, _⟩ => ⟨S1024x1024, .bf16⟩
  | .local _ .vmem, ⟨3, _⟩ => ⟨S640x1024, .f32⟩
  | .local _ .vmem, ⟨4, _⟩ => ⟨S640x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8320x1024 : Shape := ⟨2, ![8320, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S_, .f32⟩
  | .hbm, ⟨3, _⟩ => ⟨S8320x1024, .f32⟩
  | .hbm, ⟨4, _⟩ => ⟨S1024x1024, .f32⟩
  | .hbm, ⟨5, _⟩ => ⟨S8320x1024, .f32⟩
  | .hbm, ⟨6, _⟩ => ⟨S8320x1024, .f32⟩
  | .hbm, ⟨7, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8320x1024 : Shape := ⟨2, ![8320, 1024]⟩
abbrev S1x8320x1024 : Shape := ⟨3, ![1, 8320, 1024]⟩
abbrev S1x1024x1024 : Shape := ⟨3, ![1, 1024, 1024]⟩
abbrev S1x1664x1024 : Shape := ⟨3, ![1, 1664, 1024]⟩
abbrev S1024x1024 : Shape := ⟨2, ![1024, 1024]⟩
abbrev S1664x1024 : Shape := ⟨2, ![1664, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S1x8320x1024, .bf16⟩
  | .hbm, ⟨3, _⟩ => ⟨S1x8320x1024, .bf16⟩
  | .hbm, ⟨4, _⟩ => ⟨S1x1024x1024, .bf16⟩
  | .local _ .vmem, ⟨0, _⟩ => ⟨S1x1664x1024, .bf16⟩
  | .local _ .vmem, ⟨1, _⟩ => ⟨S1x1664x1024, .bf16⟩
  | .local _ .vmem, ⟨2, _⟩ => ⟨S1x1664x1024, .bf16⟩
  | .local _ .vmem, ⟨3, _⟩ => ⟨S1x1664x1024, .bf16⟩
  | .local _ .vmem, ⟨4, _⟩ => ⟨S1x1024x1024, .bf16⟩
  | .local _ .vmem, ⟨5, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond2 (i : grid0.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8320x1024 : Shape := ⟨2, ![8320, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S_, .f32⟩
  | .hbm, ⟨3, _⟩ => ⟨S1024x1024, .f32⟩
  | .hbm, ⟨4, _⟩ => ⟨S8320x1024, .f32⟩
  | .hbm, ⟨5, _⟩ => ⟨S8320x1024, .f32⟩
  | .hbm, ⟨6, _⟩ => ⟨S8320x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | .hbm, ⟨10, _⟩ => ⟨S1x1024x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S8320x1024 : Shape := ⟨2, ![8320, 1024]⟩
abbrev S8320x4224 : Shape := ⟨2, ![8320, 4224]⟩
abbrev S1x8320x1024 : Shape := ⟨3, ![1, 8320, 1024]⟩
abbrev S1x8320x4224 : Shape := ⟨3, ![1, 8320, 4224]⟩
abbrev S1x1024x4224 : Shape := ⟨3, ![1, 1024, 4224]⟩
abbrev S1x1664x1024 : Shape := ⟨3, ![1, 1664, 1024]⟩
abbrev S1x1664x1408 : Shape := ⟨3, ![1, 1664, 1408]⟩
abbrev S1x1024x1408 : Shape := ⟨3, ![1, 1024, 1408]⟩
abbrev S1024x1408 : Shape := ⟨2, ![1024, 1408]⟩
abbrev S1664x1024 : Shape := ⟨2, ![1664, 1024]⟩
abbrev S1664x1408 : Shape := ⟨2, ![1664, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x4224, .bf16⟩
  | .hbm, ⟨2, _⟩ => ⟨S1x8320x1024, .bf16⟩
  | .hbm, ⟨3, _⟩ => ⟨S1x8320x4224, .bf16⟩
  | .hbm, ⟨4, _⟩ => ⟨S1x1024x4224, .bf16⟩
  | .local _ .vmem, ⟨0, _⟩ => ⟨S1x1664x1024, .bf16⟩
  | .local _ .vmem, ⟨1, _⟩ => ⟨S1x1664x1024, .bf16⟩
  | .local _ .vmem, ⟨2, _⟩ => ⟨S1x1664x1408, .bf16⟩
  | .local _ .vmem, ⟨3, _⟩ => ⟨S1x1664x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 5], ![false, false, false]⟩

def k0_cond2 (i : grid0.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1664x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8320x1024 : Shape := ⟨2, ![8320, 1024]⟩
abbrev S8320x4224 : Shape := ⟨2, ![8320, 4224]⟩
abbrev S_ : Shape := ⟨0, ![]⟩
abbrev S1024x4224 : Shape := ⟨2, ![1024, 4224]⟩
abbrev S4224x1024 : Shape := ⟨2, ![4224, 1024]⟩
abbrev S1x1024x4224 : Shape := ⟨3, ![1, 1024, 4224]⟩

abbrev nBuf : Space → Nat
  | .hbm => 11
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x4224, .bf16⟩
  | .hbm, ⟨2, _⟩ => ⟨S_, .f32⟩
  | .hbm, ⟨3, _⟩ => ⟨S1024x4224, .f32⟩
  | .hbm, ⟨4, _⟩ => ⟨S8320x1024, .f32⟩
  | .hbm, ⟨5, _⟩ => ⟨S8320x4224, .f32⟩
  | .hbm, ⟨6, _⟩ => ⟨S8320x4224, .f32⟩
  | .hbm, ⟨7, _⟩ => ⟨S4224x1024, .f32⟩
  | .hbm, ⟨8, _⟩ => ⟨S1024x4224, .f32⟩
  | .hbm, ⟨9, _⟩ => ⟨S1x1024x4224, .f32⟩
  | .hbm, ⟨10, _⟩ => ⟨S1x1024x4224, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S8320x1024 : Shape := ⟨2, ![8320, 1024]⟩
abbrev S8320x2304 : Shape := ⟨2, ![8320, 2304]⟩
abbrev S1x8320x1024 : Shape := ⟨3, ![1, 8320, 1024]⟩
abbrev S1x8320x2304 : Shape := ⟨3, ![1, 8320, 2304]⟩
abbrev S1x1024x2304 : Shape := ⟨3, ![1, 1024, 2304]⟩
abbrev S1x1664x1024 : Shape := ⟨3, ![1, 1664, 1024]⟩
abbrev S1x1664x768 : Shape := ⟨3, ![1, 1664, 768]⟩
abbrev S1x1024x768 : Shape := ⟨3, ![1, 1024, 768]⟩
abbrev S1024x768 : Shape := ⟨2, ![1024, 768]⟩
abbrev S1664x1024 : Shape := ⟨2, ![1664, 1024]⟩
abbrev S1664x768 : Shape := ⟨2, ![1664, 768]⟩

abbrev nBuf : Space → Nat
  | .hbm => 5
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x2304, .bf16⟩
  | .hbm, ⟨2, _⟩ => ⟨S1x8320x1024, .bf16⟩
  | .hbm, ⟨3, _⟩ => ⟨S1x8320x2304, .bf16⟩
  | .hbm, ⟨4, _⟩ => ⟨S1x1024x2304, .bf16⟩
  | .local _ .vmem, ⟨0, _⟩ => ⟨S1x1664x1024, .bf16⟩
  | .local _ .vmem, ⟨1, _⟩ => ⟨S1x1664x1024, .bf16⟩
  | .local _ .vmem, ⟨2, _⟩ => ⟨S1x1664x768, .bf16⟩
  | .local _ .vmem, ⟨3, _⟩ => ⟨S1x1664x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 5], ![false, false, false]⟩

def k0_cond2 (i : grid0.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1664x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8320x1024 : Shape := ⟨2, ![8320, 1024]⟩
abbrev S8320x2304 : Shape := ⟨2, ![8320, 2304]⟩
abbrev S_ : Shape := ⟨0, ![]⟩
abbrev S1024x2304 : Shape := ⟨2, ![1024, 2304]⟩
abbrev S2304x1024 : Shape := ⟨2, ![2304, 1024]⟩
abbrev S1x1024x2304 : Shape := ⟨3, ![1, 1024, 2304]⟩

abbrev nBuf : Space → Nat
  | .hbm => 11
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x2304, .bf16⟩
  | .hbm, ⟨2, _⟩ => ⟨S_, .f32⟩
  | .hbm, ⟨3, _⟩ => ⟨S1024x2304, .f32⟩
  | .hbm, ⟨4, _⟩ => ⟨S8320x1024, .f32⟩
  | .hbm, ⟨5, _⟩ => ⟨S8320x2304, .f32⟩
  | .hbm, ⟨6, _⟩ => ⟨S8320x2304, .f32⟩
  | .hbm, ⟨7, _⟩ => ⟨S2304x1024, .f32⟩
  | .hbm, ⟨8, _⟩ => ⟨S1024x2304, .f32⟩
  | .hbm, ⟨9, _⟩ => ⟨S1x1024x2304, .f32⟩
  | .hbm, ⟨10, _⟩ => ⟨S1x1024x2304, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S8320x4224 : Shape := ⟨2, ![8320, 4224]⟩
abbrev S1024x4224 : Shape := ⟨2, ![1024, 4224]⟩
abbrev S8320x1024 : Shape := ⟨2, ![8320, 1024]⟩
abbrev S1024 : Shape := ⟨1, ![1024]⟩
abbrev S1x8320x4224 : Shape := ⟨3, ![1, 8320, 4224]⟩
abbrev S1x1024x4224 : Shape := ⟨3, ![1, 1024, 4224]⟩
abbrev S1x1024 : Shape := ⟨2, ![1, 1024]⟩
abbrev S8x1024 : Shape := ⟨2, ![8, 1024]⟩
abbrev S1x640x1408 : Shape := ⟨3, ![1, 640, 1408]⟩
abbrev S1x1024x1408 : Shape := ⟨3, ![1, 1024, 1408]⟩
abbrev S640x1024 : Shape := ⟨2, ![640, 1024]⟩
abbrev S640x1408 : Shape := ⟨2, ![640, 1408]⟩
abbrev S1024x1408 : Shape := ⟨2, ![1024, 1408]⟩
abbrev S640 : Shape := ⟨1, ![640]⟩
abbrev S640x1 : Shape := ⟨2, ![640, 1]⟩

abbrev nBuf : Space → Nat
  | .hbm => 10
  | .vmem => 13
  | .smem => 0
  | _ => 0

abbrev bufTy : (tb : Table) → Fin (tcTables nBuf tb) → BufTy
  | .hbm, ⟨0, _⟩ => ⟨S8320x4224, .bf16⟩
  | .hbm, ⟨1, _⟩ => ⟨S1024x4224, .bf16⟩
  | .hbm, ⟨2, _⟩ => ⟨S8320x1024, .f32⟩
  | .hbm, ⟨3, _⟩ => ⟨S1024, .f32⟩
  | .hbm, ⟨4, _⟩ => ⟨S8320x1024, .f32⟩
  | .hbm, ⟨5, _⟩ => ⟨S1x8320x4224, .bf16⟩
  | .hbm, ⟨6, _⟩ => ⟨S1x1024x4224, .bf16⟩
  | .hbm, ⟨7, _⟩ => ⟨S1x1024, .f32⟩
  | .hbm, ⟨8, _⟩ => ⟨S8320x1024, .f32⟩
  | .hbm, ⟨9, _⟩ => ⟨S8x1024, .f32⟩
  | .local _ .vmem, ⟨0, _⟩ => ⟨S1x640x1408, .bf16⟩
  | .local _ .vmem, ⟨1, _⟩ => ⟨S1x640x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S640x1024, .f32⟩
  | .local _ .vmem, ⟨5, _⟩ => ⟨S640x1024, .f32⟩
  | .local _ .vmem, ⟨6, _⟩ => ⟨S1x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .f32⟩
  | .local _ .vmem, ⟨11, _⟩ => ⟨S8x1024, .f32⟩
  | .local _ .vmem, ⟨12, _⟩ => ⟨S640x1024, .f32⟩
  | _, _ => ⟨S8320x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![13, 3], ![false, false]⟩

def k0_cond2 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_10 : BitVec 32 := 0#32
  let v15 : BitVec 1 := Scalar.cmpi .ne v14 c0_i32_10
  v15

def k0_cond3 (i : grid0.Coords) : BitVec 1 :=
  let arg0 : BitVec 32 := BitVec.ofNat 32 (i 0).val
  let c0_i32_28 : BitVec 32 := 0#32
  let v58 : BitVec 1 := Scalar.cmpi .eq arg0 c0_i32_28
  let v59 : BitVec 32 := Scalar.extui v58
  let c0_i32_29 : BitVec 32 := 0#32
  let v60 : BitVec 1 := Scalar.cmpi .ne v59 c0_i32_29
  v60

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x640x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Kernel12Ideal.lean ====
abbrev S8320x4224 : Shape := ⟨2, ![8320, 4224]⟩
abbrev S1024x4224 : Shape := ⟨2, ![1024, 4224]⟩
abbrev S8320x1024 : Shape := ⟨2, ![8320, 1024]⟩
abbrev S1024 : Shape := ⟨1, ![1024]⟩
abbrev S1x8320x4224 : Shape := ⟨3, ![1, 8320, 4224]⟩
abbrev S1x1024x4224 : Shape := ⟨3, ![1, 1024, 4224]⟩
abbrev S1x1024 : Shape := ⟨2, ![1, 1024]⟩
abbrev S8x1024 : Shape := ⟨2, ![8, 1024]⟩
abbrev S1x640x1408 : Shape := ⟨3, ![1, 640, 1408]⟩
abbrev S1x1024x1408 : Shape := ⟨3, ![1, 1024, 1408]⟩
abbrev S640x1024 : Shape := ⟨2, ![640, 1024]⟩
abbrev S640x1408 : Shape := ⟨2, ![640, 1408]⟩
abbrev S1024x1408 : Shape := ⟨2, ![1024, 1408]⟩
abbrev S640 : Shape := ⟨1, ![640]⟩
abbrev S640x1 : Shape := ⟨2, ![640, 1]⟩

abbrev nBuf : Space → Nat
  | .hbm => 10
  | .vmem => 13
  | .smem => 0
  | _ => 0

abbrev bufTy : (tb : Table) → Fin (tcTables nBuf tb) → BufTy
  | .hbm, ⟨0, _⟩ => ⟨S8320x4224, .bf16⟩
  | .hbm, ⟨1, _⟩ => ⟨S1024x4224, .bf16⟩
  | .hbm, ⟨2, _⟩ => ⟨S8320x1024, .f32⟩
  | .hbm, ⟨3, _⟩ => ⟨S1024, .f32⟩
  | .hbm, ⟨4, _⟩ => ⟨S8320x1024, .f32⟩
  | .hbm, ⟨5, _⟩ => ⟨S1x8320x4224, .bf16⟩
  | .hbm, ⟨6, _⟩ => ⟨S1x1024x4224, .bf16⟩
  | .hbm, ⟨7, _⟩ => ⟨S1x1024, .f32⟩
  | .hbm, ⟨8, _⟩ => ⟨S8320x1024, .f32⟩
  | .hbm, ⟨9, _⟩ => ⟨S8x1024, .f32⟩
  | .local _ .vmem, ⟨0, _⟩ => ⟨S1x640x1408, .bf16⟩
  | .local _ .vmem, ⟨1, _⟩ => ⟨S1x640x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S640x1024, .f32⟩
  | .local _ .vmem, ⟨5, _⟩ => ⟨S640x1024, .f32⟩
  | .local _ .vmem, ⟨6, _⟩ => ⟨S1x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .f32⟩
  | .local _ .vmem, ⟨11, _⟩ => ⟨S8x1024, .f32⟩
  | .local _ .vmem, ⟨12, _⟩ => ⟨S640x1024, .f32⟩
  | _, _ => ⟨S8320x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![13, 3], ![false, false]⟩

def k0_cond2 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_10 : BitVec 32 := 0#32
  let v15 : BitVec 1 := Scalar.cmpi .ne v14 c0_i32_10
  v15

def k0_cond3 (i : grid0.Coords) : BitVec 1 :=
  let arg0 : BitVec 32 := BitVec.ofNat 32 (i 0).val
  let c0_i32_28 : BitVec 32 := 0#32
  let v58 : BitVec 1 := Scalar.cmpi .eq arg0 c0_i32_28
  let v59 : BitVec 32 := Scalar.extui v58
  let c0_i32_29 : BitVec 32 := 0#32
  let v60 : BitVec 1 := Scalar.cmpi .ne v59 c0_i32_29
  v60

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x640x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference12Ideal.lean ====
abbrev S8320x4224 : Shape := ⟨2, ![8320, 4224]⟩
abbrev S1024x4224 : Shape := ⟨2, ![1024, 4224]⟩
abbrev S8320x1024 : Shape := ⟨2, ![8320, 1024]⟩
abbrev S1024 : Shape := ⟨1, ![1024]⟩
abbrev S_ : Shape := ⟨0, ![]⟩
abbrev S8320 : Shape := ⟨1, ![8320]⟩
abbrev S8320x1 : Shape := ⟨2, ![8320, 1]⟩
abbrev S1x1024 : Shape := ⟨2, ![1, 1024]⟩
abbrev S8208x1024 : Shape := ⟨2, ![8208, 1024]⟩
abbrev S8x1024 : Shape := ⟨2, ![8, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8320x4224, .bf16⟩
  | .hbm, ⟨1, _⟩ => ⟨S1024x4224, .bf16⟩
  | .hbm, ⟨2, _⟩ => ⟨S8320x1024, .f32⟩
  | .hbm, ⟨3, _⟩ => ⟨S1024, .f32⟩
  | .hbm, ⟨4, _⟩ => ⟨S8320x1024, .f32⟩
  | .hbm, ⟨5, _⟩ => ⟨S8320x1024, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S_, .f32⟩
  | .hbm, ⟨18, _⟩ => ⟨S8320x1, .f32⟩
  | .hbm, ⟨19, _⟩ => ⟨S8320x1, .f32⟩
  | .hbm, ⟨20, _⟩ => ⟨S8320x1024, .f32⟩
  | .hbm, ⟨21, _⟩ => ⟨S8320x1024, .f32⟩
  | .hbm, ⟨22, _⟩ => ⟨S1x1024, .f32⟩
  | .hbm, ⟨23, _⟩ => ⟨S8320x1024, .f32⟩
  | .hbm, ⟨24, _⟩ => ⟨S8320x1024, .f32⟩
  | .hbm, ⟨25, _⟩ => ⟨S1024x4224, .f32⟩
  | .hbm, ⟨26, _⟩ => ⟨S8320x4224, .f32⟩
  | .hbm, ⟨27, _⟩ => ⟨S8320x4224, .f32⟩
  | .hbm, ⟨28, _⟩ => ⟨S8320x1024, .f32⟩
  | .hbm, ⟨29, _⟩ => ⟨S8320x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8320x1024, .f32⟩
  | .hbm, ⟨34, _⟩ => ⟨S8320x1024, .f32⟩
  | .hbm, ⟨35, _⟩ => ⟨S_, .f32⟩
  | .hbm, ⟨36, _⟩ => ⟨S1024, .f32⟩
  | .hbm, ⟨37, _⟩ => ⟨S8320x1024, .f32⟩
  | .hbm, ⟨38, _⟩ => ⟨S_, .f32⟩
  | .hbm, ⟨39, _⟩ => ⟨S8320, .f32⟩
  | .hbm, ⟨40, _⟩ => ⟨S8320x1, .f32⟩
  | .hbm, ⟨41, _⟩ => ⟨S8320x1024, .f32⟩
  | .hbm, ⟨42, _⟩ => ⟨S8320x1024, .f32⟩
  | .hbm, ⟨43, _⟩ => ⟨S8320x1, .f32⟩
  | .hbm, ⟨44, _⟩ => ⟨S_, .f32⟩
  | .hbm, ⟨45, _⟩ => ⟨S8320x1, .f32⟩
  | .hbm, ⟨46, _⟩ => ⟨S8320x1, .f32⟩
  | .hbm, ⟨47, _⟩ => ⟨S_, .f32⟩
  | .hbm, ⟨48, _⟩ => ⟨S8320, .f32⟩
  | .hbm, ⟨49, _⟩ => ⟨S8320x1024, .f32⟩
  | .hbm, ⟨50, _⟩ => ⟨S8320x1024, .f32⟩
  | .hbm, ⟨51, _⟩ => ⟨S8320x1024, .f32⟩
  | .hbm, ⟨52, _⟩ => ⟨S8320x1024, .f32⟩
  | .hbm, ⟨53, _⟩ => ⟨S8320x1024, .f32⟩
  | .hbm, ⟨54, _⟩ => ⟨S8320x1024, .f32⟩
  | .hbm, ⟨55, _⟩ => ⟨S8208x1024, .f32⟩
  | .hbm, ⟨56, _⟩ => ⟨S_, .i32⟩
  | .hbm, ⟨57, _⟩ => ⟨S_, .f32⟩
  | .hbm, ⟨58, _⟩ => ⟨S8320x1024, .f32⟩
  | .hbm, ⟨59, _⟩ => ⟨S8x1024, .f32⟩
  | _, _ => ⟨S8320x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c : Ref sig .tc := ⟨.hbm, 56, rfl⟩
abbrev main_call0_v0 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel13.lean ====
abbrev S8320x2304 : Shape := ⟨2, ![8320, 2304]⟩
abbrev S1024x2304 : Shape := ⟨2, ![1024, 2304]⟩
abbrev S8320x1024 : Shape := ⟨2, ![8320, 1024]⟩
abbrev S1024 : Shape := ⟨1, ![1024]⟩
abbrev S1x8320x2304 : Shape := ⟨3, ![1, 8320, 2304]⟩
abbrev S1x1024x2304 : Shape := ⟨3, ![1, 1024, 2304]⟩
abbrev S1x1024 : Shape := ⟨2, ![1, 1024]⟩
abbrev S8x1024 : Shape := ⟨2, ![8, 1024]⟩
abbrev S1x640x768 : Shape := ⟨3, ![1, 640, 768]⟩
abbrev S1x1024x768 : Shape := ⟨3, ![1, 1024, 768]⟩
abbrev S640x1024 : Shape := ⟨2, ![640, 1024]⟩
abbrev S640x768 : Shape := ⟨2, ![640, 768]⟩
abbrev S1024x768 : Shape := ⟨2, ![1024, 768]⟩
abbrev S640 : Shape := ⟨1, ![640]⟩
abbrev S640x1 : Shape := ⟨2, ![640, 1]⟩

abbrev nBuf : Space → Nat
  | .hbm => 10
  | .vmem => 13
  | .smem => 0
  | _ => 0

abbrev bufTy : (tb : Table) → Fin (tcTables nBuf tb) → BufTy
  | .hbm, ⟨0, _⟩ => ⟨S8320x2304, .bf16⟩
  | .hbm, ⟨1, _⟩ => ⟨S1024x2304, .bf16⟩
  | .hbm, ⟨2, _⟩ => ⟨S8320x1024, .f32⟩
  | .hbm, ⟨3, _⟩ => ⟨S1024, .f32⟩
  | .hbm, ⟨4, _⟩ => ⟨S8320x1024, .f32⟩
  | .hbm, ⟨5, _⟩ => ⟨S1x8320x2304, .bf16⟩
  | .hbm, ⟨6, _⟩ => ⟨S1x1024x2304, .bf16⟩
  | .hbm, ⟨7, _⟩ => ⟨S1x1024, .f32⟩
  | .hbm, ⟨8, _⟩ => ⟨S8320x1024, .f32⟩
  | .hbm, ⟨9, _⟩ => ⟨S8x1024, .f32⟩
  | .local _ .vmem, ⟨0, _⟩ => ⟨S1x640x768, .bf16⟩
  | .local _ .vmem, ⟨1, _⟩ => ⟨S1x640x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S640x1024, .f32⟩
  | .local _ .vmem, ⟨5, _⟩ => ⟨S640x1024, .f32⟩
  | .local _ .vmem, ⟨6, _⟩ => ⟨S1x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .f32⟩
  | .local _ .vmem, ⟨11, _⟩ => ⟨S8x1024, .f32⟩
  | .local _ .vmem, ⟨12, _⟩ => ⟨S640x1024, .f32⟩
  | _, _ => ⟨S8320x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![13, 3], ![false, false]⟩

def k0_cond2 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_10 : BitVec 32 := 0#32
  let v15 : BitVec 1 := Scalar.cmpi .ne v14 c0_i32_10
  v15

def k0_cond3 (i : grid0.Coords) : BitVec 1 :=
  let arg0 : BitVec 32 := BitVec.ofNat 32 (i 0).val
  let c0_i32_28 : BitVec 32 := 0#32
  let v58 : BitVec 1 := Scalar.cmpi .eq arg0 c0_i32_28
  let v59 : BitVec 32 := Scalar.extui v58
  let c0_i32_29 : BitVec 32 := 0#32
  let v60 : BitVec 1 := Scalar.cmpi .ne v59 c0_i32_29
  v60

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x640x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference13Ideal.lean ====
abbrev S8320x2304 : Shape := ⟨2, ![8320, 2304]⟩
abbrev S1024x2304 : Shape := ⟨2, ![1024, 2304]⟩
abbrev S8320x1024 : Shape := ⟨2, ![8320, 1024]⟩
abbrev S1024 : Shape := ⟨1, ![1024]⟩
abbrev S_ : Shape := ⟨0, ![]⟩
abbrev S8320 : Shape := ⟨1, ![8320]⟩
abbrev S8320x1 : Shape := ⟨2, ![8320, 1]⟩
abbrev S1x1024 : Shape := ⟨2, ![1, 1024]⟩
abbrev S8208x1024 : Shape := ⟨2, ![8208, 1024]⟩
abbrev S8x1024 : Shape := ⟨2, ![8, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8320x2304, .bf16⟩
  | .hbm, ⟨1, _⟩ => ⟨S1024x2304, .bf16⟩
  | .hbm, ⟨2, _⟩ => ⟨S8320x1024, .f32⟩
  | .hbm, ⟨3, _⟩ => ⟨S1024, .f32⟩
  | .hbm, ⟨4, _⟩ => ⟨S8320x1024, .f32⟩
  | .hbm, ⟨5, _⟩ => ⟨S8320x1024, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S_, .f32⟩
  | .hbm, ⟨18, _⟩ => ⟨S8320x1, .f32⟩
  | .hbm, ⟨19, _⟩ => ⟨S8320x1, .f32⟩
  | .hbm, ⟨20, _⟩ => ⟨S8320x1024, .f32⟩
  | .hbm, ⟨21, _⟩ => ⟨S8320x1024, .f32⟩
  | .hbm, ⟨22, _⟩ => ⟨S1x1024, .f32⟩
  | .hbm, ⟨23, _⟩ => ⟨S8320x1024, .f32⟩
  | .hbm, ⟨24, _⟩ => ⟨S8320x1024, .f32⟩
  | .hbm, ⟨25, _⟩ => ⟨S1024x2304, .f32⟩
  | .hbm, ⟨26, _⟩ => ⟨S8320x2304, .f32⟩
  | .hbm, ⟨27, _⟩ => ⟨S8320x2304, .f32⟩
  | .hbm, ⟨28, _⟩ => ⟨S8320x1024, .f32⟩
  | .hbm, ⟨29, _⟩ => ⟨S8320x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8320x1024, .f32⟩
  | .hbm, ⟨34, _⟩ => ⟨S8320x1024, .f32⟩
  | .hbm, ⟨35, _⟩ => ⟨S_, .f32⟩
  | .hbm, ⟨36, _⟩ => ⟨S1024, .f32⟩
  | .hbm, ⟨37, _⟩ => ⟨S8320x1024, .f32⟩
  | .hbm, ⟨38, _⟩ => ⟨S_, .f32⟩
  | .hbm, ⟨39, _⟩ => ⟨S8320, .f32⟩
  | .hbm, ⟨40, _⟩ => ⟨S8320x1, .f32⟩
  | .hbm, ⟨41, _⟩ => ⟨S8320x1024, .f32⟩
  | .hbm, ⟨42, _⟩ => ⟨S8320x1024, .f32⟩
  | .hbm, ⟨43, _⟩ => ⟨S8320x1, .f32⟩
  | .hbm, ⟨44, _⟩ => ⟨S_, .f32⟩
  | .hbm, ⟨45, _⟩ => ⟨S8320x1, .f32⟩
  | .hbm, ⟨46, _⟩ => ⟨S8320x1, .f32⟩
  | .hbm, ⟨47, _⟩ => ⟨S_, .f32⟩
  | .hbm, ⟨48, _⟩ => ⟨S8320, .f32⟩
  | .hbm, ⟨49, _⟩ => ⟨S8320x1024, .f32⟩
  | .hbm, ⟨50, _⟩ => ⟨S8320x1024, .f32⟩
  | .hbm, ⟨51, _⟩ => ⟨S8320x1024, .f32⟩
  | .hbm, ⟨52, _⟩ => ⟨S8320x1024, .f32⟩
  | .hbm, ⟨53, _⟩ => ⟨S8320x1024, .f32⟩
  | .hbm, ⟨54, _⟩ => ⟨S8320x1024, .f32⟩
  | .hbm, ⟨55, _⟩ => ⟨S8208x1024, .f32⟩
  | .hbm, ⟨56, _⟩ => ⟨S_, .i32⟩
  | .hbm, ⟨57, _⟩ => ⟨S_, .f32⟩
  | .hbm, ⟨58, _⟩ => ⟨S8320x1024, .f32⟩
  | .hbm, ⟨59, _⟩ => ⟨S8x1024, .f32⟩
  | _, _ => ⟨S8320x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c : Ref sig .tc := ⟨.hbm, 56, rfl⟩
abbrev main_call0_v0 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel14.lean ====
abbrev S8320x1024 : Shape := ⟨2, ![8320, 1024]⟩
abbrev S1024x1024 : Shape := ⟨2, ![1024, 1024]⟩
abbrev S1024 : Shape := ⟨1, ![1024]⟩
abbrev S1x8320x1024 : Shape := ⟨3, ![1, 8320, 1024]⟩
abbrev S1x1024x1024 : Shape := ⟨3, ![1, 1024, 1024]⟩
abbrev S1x1024 : Shape := ⟨2, ![1, 1024]⟩
abbrev S1x640x1024 : Shape := ⟨3, ![1, 640, 1024]⟩
abbrev S640x1024 : Shape := ⟨2, ![640, 1024]⟩
abbrev S640 : Shape := ⟨1, ![640]⟩
abbrev S640x1 : Shape := ⟨2, ![640, 1]⟩

abbrev nBuf : Space → Nat
  | .hbm => 9
  | .vmem => 11
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S1024, .f32⟩
  | .hbm, ⟨4, _⟩ => ⟨S1x8320x1024, .bf16⟩
  | .hbm, ⟨5, _⟩ => ⟨S1x1024x1024, .bf16⟩
  | .hbm, ⟨6, _⟩ => ⟨S1x1024, .f32⟩
  | .hbm, ⟨7, _⟩ => ⟨S8320x1024, .f32⟩
  | .hbm, ⟨8, _⟩ => ⟨S8320x1024, .f32⟩
  | .local _ .vmem, ⟨0, _⟩ => ⟨S1x640x1024, .bf16⟩
  | .local _ .vmem, ⟨1, _⟩ => ⟨S1x640x1024, .bf16⟩
  | .local _ .vmem, ⟨2, _⟩ => ⟨S1x1024x1024, .bf16⟩
  | .local _ .vmem, ⟨3, _⟩ => ⟨S640x1024, .f32⟩
  | .local _ .vmem, ⟨4, _⟩ => ⟨S640x1024, .f32⟩
  | .local _ .vmem, ⟨5, _⟩ => ⟨S1x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![13, 1], ![false, false]⟩

def k0_cond2 (i : grid0.Coords) : BitVec 1 :=
  let arg1 : BitVec 32 := BitVec.ofNat 32 (i 1).val
  let c0_i32_10 : BitVec 32 := 0#32
  let v13 : BitVec 1 := Scalar.cmpi .eq arg1 c0_i32_10
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference14Ideal.lean ====
abbrev S8320x1024 : Shape := ⟨2, ![8320, 1024]⟩
abbrev S1024x1024 : Shape := ⟨2, ![1024, 1024]⟩
abbrev S1024 : Shape := ⟨1, ![1024]⟩
abbrev S_ : Shape := ⟨0, ![]⟩
abbrev S8320 : Shape := ⟨1, ![8320]⟩
abbrev S8320x1 : Shape := ⟨2, ![8320, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S1024, .f32⟩
  | .hbm, ⟨4, _⟩ => ⟨S8320x1024, .f32⟩
  | .hbm, ⟨5, _⟩ => ⟨S1024x1024, .f32⟩
  | .hbm, ⟨6, _⟩ => ⟨S8320x1024, .f32⟩
  | .hbm, ⟨7, _⟩ => ⟨S8320x1024, .f32⟩
  | .hbm, ⟨8, _⟩ => ⟨S_, .f32⟩
  | .hbm, ⟨9, _⟩ => ⟨S8320, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S_, .f32⟩
  | .hbm, ⟨15, _⟩ => ⟨S8320x1, .f32⟩
  | .hbm, ⟨16, _⟩ => ⟨S8320x1, .f32⟩
  | .hbm, ⟨17, _⟩ => ⟨S8320x1, .f32⟩
  | .hbm, ⟨18, _⟩ => ⟨S8320x1024, .f32⟩
  | .hbm, ⟨19, _⟩ => ⟨S8320x1024, .f32⟩
  | .hbm, ⟨20, _⟩ => ⟨S1x1024, .f32⟩
  | .hbm, ⟨21, _⟩ => ⟨S8320x1024, .f32⟩
  | .hbm, ⟨22, _⟩ => ⟨S8320x1024, .f32⟩
  | .hbm, ⟨23, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel15.lean ====
abbrev S8320x1024 : Shape := ⟨2, ![8320, 1024]⟩
abbrev S1024 : Shape := ⟨1, ![1024]⟩
abbrev S1x1024 : Shape := ⟨2, ![1, 1024]⟩
abbrev S8x1024 : Shape := ⟨2, ![8, 1024]⟩
abbrev S640x1024 : Shape := ⟨2, ![640, 1024]⟩
abbrev S640 : Shape := ⟨1, ![640]⟩
abbrev S640x1 : Shape := ⟨2, ![640, 1]⟩

abbrev nBuf : Space → Nat
  | .hbm => 6
  | .vmem => 8
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S8320x1024, .f32⟩
  | .hbm, ⟨3, _⟩ => ⟨S1x1024, .f32⟩
  | .hbm, ⟨4, _⟩ => ⟨S8320x1024, .bf16⟩
  | .hbm, ⟨5, _⟩ => ⟨S8x1024, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .f32⟩
  | .local _ .vmem, ⟨4, _⟩ => ⟨S640x1024, .f32⟩
  | .local _ .vmem, ⟨5, _⟩ => ⟨S640x1024, .bf16⟩
  | .local _ .vmem, ⟨6, _⟩ => ⟨S640x1024, .bf16⟩
  | .local _ .vmem, ⟨7, _⟩ => ⟨S8x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference15Ideal.lean ====
abbrev S8320x1024 : Shape := ⟨2, ![8320, 1024]⟩
abbrev S1024 : Shape := ⟨1, ![1024]⟩
abbrev S_ : Shape := ⟨0, ![]⟩
abbrev S8320 : Shape := ⟨1, ![8320]⟩
abbrev S8320x1 : Shape := ⟨2, ![8320, 1]⟩
abbrev S1x1024 : Shape := ⟨2, ![1, 1024]⟩
abbrev S8208x1024 : Shape := ⟨2, ![8208, 1024]⟩
abbrev S8x1024 : Shape := ⟨2, ![8, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S8320x1024, .f32⟩
  | .hbm, ⟨3, _⟩ => ⟨S8320x1024, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S_, .f32⟩
  | .hbm, ⟨16, _⟩ => ⟨S8320x1, .f32⟩
  | .hbm, ⟨17, _⟩ => ⟨S8320x1, .f32⟩
  | .hbm, ⟨18, _⟩ => ⟨S8320x1024, .f32⟩
  | .hbm, ⟨19, _⟩ => ⟨S8320x1024, .f32⟩
  | .hbm, ⟨20, _⟩ => ⟨S1x1024, .f32⟩
  | .hbm, ⟨21, _⟩ => ⟨S8320x1024, .f32⟩
  | .hbm, ⟨22, _⟩ => ⟨S8320x1024, .f32⟩
  | .hbm, ⟨23, _⟩ => ⟨S_, .f32⟩
  | .hbm, ⟨24, _⟩ => ⟨S8320x1024, .f32⟩
  | .hbm, ⟨25, _⟩ => ⟨S8320x1024, .f32⟩
  | .hbm, ⟨26, _⟩ => ⟨S_, .f32⟩
  | .hbm, ⟨27, _⟩ => ⟨S8320x1024, .f32⟩
  | .hbm, ⟨28, _⟩ => ⟨S8320x1024, .f32⟩
  | .hbm, ⟨29, _⟩ => ⟨S8320x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8320x1024, .f32⟩
  | .hbm, ⟨34, _⟩ => ⟨S8320x1024, .f32⟩
  | .hbm, ⟨35, _⟩ => ⟨S_, .f32⟩
  | .hbm, ⟨36, _⟩ => ⟨S1024, .f32⟩
  | .hbm, ⟨37, _⟩ => ⟨S8320x1024, .f32⟩
  | .hbm, ⟨38, _⟩ => ⟨S_, .f32⟩
  | .hbm, ⟨39, _⟩ => ⟨S8320, .f32⟩
  | .hbm, ⟨40, _⟩ => ⟨S8320x1, .f32⟩
  | .hbm, ⟨41, _⟩ => ⟨S8320x1024, .f32⟩
  | .hbm, ⟨42, _⟩ => ⟨S8320x1024, .f32⟩
  | .hbm, ⟨43, _⟩ => ⟨S8320x1, .f32⟩
  | .hbm, ⟨44, _⟩ => ⟨S_, .f32⟩
  | .hbm, ⟨45, _⟩ => ⟨S8320x1, .f32⟩
  | .hbm, ⟨46, _⟩ => ⟨S8320x1, .f32⟩
  | .hbm, ⟨47, _⟩ => ⟨S_, .f32⟩
  | .hbm, ⟨48, _⟩ => ⟨S8320, .f32⟩
  | .hbm, ⟨49, _⟩ => ⟨S8320x1024, .f32⟩
  | .hbm, ⟨50, _⟩ => ⟨S8320x1024, .f32⟩
  | .hbm, ⟨51, _⟩ => ⟨S8320x1024, .f32⟩
  | .hbm, ⟨52, _⟩ => ⟨S8320x1024, .f32⟩
  | .hbm, ⟨53, _⟩ => ⟨S8320x1024, .f32⟩
  | .hbm, ⟨54, _⟩ => ⟨S8208x1024, .f32⟩
  | .hbm, ⟨55, _⟩ => ⟨S_, .i32⟩
  | .hbm, ⟨56, _⟩ => ⟨S_, .f32⟩
  | .hbm, ⟨57, _⟩ => ⟨S8320x1024, .f32⟩
  | .hbm, ⟨58, _⟩ => ⟨S8320x1024, .bf16⟩
  | .hbm, ⟨59, _⟩ => ⟨S8x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_call0_v0 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel16.lean ====
abbrev S8320x1024 : Shape := ⟨2, ![8320, 1024]⟩
abbrev S1024 : Shape := ⟨1, ![1024]⟩
abbrev S1x1024 : Shape := ⟨2, ![1, 1024]⟩
abbrev S8x1024 : Shape := ⟨2, ![8, 1024]⟩
abbrev S640x1024 : Shape := ⟨2, ![640, 1024]⟩
abbrev S640 : Shape := ⟨1, ![640]⟩
abbrev S640x1 : Shape := ⟨2, ![640, 1]⟩

abbrev nBuf : Space → Nat
  | .hbm => 6
  | .vmem => 8
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S8320x1024, .f32⟩
  | .hbm, ⟨3, _⟩ => ⟨S1x1024, .f32⟩
  | .hbm, ⟨4, _⟩ => ⟨S8320x1024, .bf16⟩
  | .hbm, ⟨5, _⟩ => ⟨S8x1024, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .f32⟩
  | .local _ .vmem, ⟨4, _⟩ => ⟨S640x1024, .f32⟩
  | .local _ .vmem, ⟨5, _⟩ => ⟨S640x1024, .bf16⟩
  | .local _ .vmem, ⟨6, _⟩ => ⟨S640x1024, .bf16⟩
  | .local _ .vmem, ⟨7, _⟩ => ⟨S8x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference16Ideal.lean ====
abbrev S8320x1024 : Shape := ⟨2, ![8320, 1024]⟩
abbrev S1024 : Shape := ⟨1, ![1024]⟩
abbrev S_ : Shape := ⟨0, ![]⟩
abbrev S8320 : Shape := ⟨1, ![8320]⟩
abbrev S8320x1 : Shape := ⟨2, ![8320, 1]⟩
abbrev S1x1024 : Shape := ⟨2, ![1, 1024]⟩
abbrev S8208x1024 : Shape := ⟨2, ![8208, 1024]⟩
abbrev S8x1024 : Shape := ⟨2, ![8, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S8320x1024, .f32⟩
  | .hbm, ⟨3, _⟩ => ⟨S8320x1024, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S_, .f32⟩
  | .hbm, ⟨16, _⟩ => ⟨S8320x1, .f32⟩
  | .hbm, ⟨17, _⟩ => ⟨S8320x1, .f32⟩
  | .hbm, ⟨18, _⟩ => ⟨S8320x1024, .f32⟩
  | .hbm, ⟨19, _⟩ => ⟨S8320x1024, .f32⟩
  | .hbm, ⟨20, _⟩ => ⟨S1x1024, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8320x1024, .f32⟩
  | .hbm, ⟨28, _⟩ => ⟨S8320x1024, .f32⟩
  | .hbm, ⟨29, _⟩ => ⟨S_, .f32⟩
  | .hbm, ⟨30, _⟩ => ⟨S1024, .f32⟩
  | .hbm, ⟨31, _⟩ => ⟨S8320x1024, .f32⟩
  | .hbm, ⟨32, _⟩ => ⟨S_, .f32⟩
  | .hbm, ⟨33, _⟩ => ⟨S8320, .f32⟩
  | .hbm, ⟨34, _⟩ => ⟨S8320x1, .f32⟩
  | .hbm, ⟨35, _⟩ => ⟨S8320x1024, .f32⟩
  | .hbm, ⟨36, _⟩ => ⟨S8320x1024, .f32⟩
  | .hbm, ⟨37, _⟩ => ⟨S8320x1, .f32⟩
  | .hbm, ⟨38, _⟩ => ⟨S_, .f32⟩
  | .hbm, ⟨39, _⟩ => ⟨S8320x1, .f32⟩
  | .hbm, ⟨40, _⟩ => ⟨S8320x1, .f32⟩
  | .hbm, ⟨41, _⟩ => ⟨S_, .f32⟩
  | .hbm, ⟨42, _⟩ => ⟨S8320, .f32⟩
  | .hbm, ⟨43, _⟩ => ⟨S8320x1024, .f32⟩
  | .hbm, ⟨44, _⟩ => ⟨S8320x1024, .f32⟩
  | .hbm, ⟨45, _⟩ => ⟨S8320x1024, .f32⟩
  | .hbm, ⟨46, _⟩ => ⟨S8320x1024, .f32⟩
  | .hbm, ⟨47, _⟩ => ⟨S8320x1024, .f32⟩
  | .hbm, ⟨48, _⟩ => ⟨S8208x1024, .f32⟩
  | .hbm, ⟨49, _⟩ => ⟨S_, .i32⟩
  | .hbm, ⟨50, _⟩ => ⟨S_, .f32⟩
  | .hbm, ⟨51, _⟩ => ⟨S8320x1024, .f32⟩
  | .hbm, ⟨52, _⟩ => ⟨S8320x1024, .bf16⟩
  | .hbm, ⟨53, _⟩ => ⟨S8x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c : Ref sig .tc := ⟨.hbm, 49, rfl⟩
abbrev main_call0_v0 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel20.lean ====
abbrev S2x2x1024x704 : Shape := ⟨4, ![2, 2, 1024, 704]⟩
abbrev S4096x704 : Shape := ⟨2, ![4096, 704]⟩
abbrev S512x704 : Shape := ⟨2, ![512, 704]⟩

abbrev nBuf : Space → Nat
  | .hbm => 11
  | .vmem => 14
  | .smem => 0
  | _ => 0

abbrev bufTy : (tb : Table) → Fin (tcTables nBuf tb) → BufTy
  | .hbm, ⟨0, _⟩ => ⟨S2x2x1024x704, .f32⟩
  | .hbm, ⟨1, _⟩ => ⟨S2x2x1024x704, .f32⟩
  | .hbm, ⟨2, _⟩ => ⟨S2x2x1024x704, .f32⟩
  | .hbm, ⟨3, _⟩ => ⟨S2x2x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S2x2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel20Ideal.lean ====
abbrev S2x2x1024x704 : Shape := ⟨4, ![2, 2, 1024, 704]⟩
abbrev S4096x704 : Shape := ⟨2, ![4096, 704]⟩
abbrev S512x704 : Shape := ⟨2, ![512, 704]⟩

abbrev nBuf : Space → Nat
  | .hbm => 11
  | .vmem => 14
  | .smem => 0
  | _ => 0

abbrev bufTy : (tb : Table) → Fin (tcTables nBuf tb) → BufTy
  | .hbm, ⟨0, _⟩ => ⟨S2x2x1024x704, .f32⟩
  | .hbm, ⟨1, _⟩ => ⟨S2x2x1024x704, .f32⟩
  | .hbm, ⟨2, _⟩ => ⟨S2x2x1024x704, .f32⟩
  | .hbm, ⟨3, _⟩ => ⟨S2x2x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S2x2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S2x2x1024x704 : Shape := ⟨4, ![2, 2, 1024, 704]⟩
abbrev S4096x704 : Shape := ⟨2, ![4096, 704]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x2x1024x704, .f32⟩
  | .hbm, ⟨1, _⟩ => ⟨S2x2x1024x704, .f32⟩
  | .hbm, ⟨2, _⟩ => ⟨S2x2x1024x704, .f32⟩
  | .hbm, ⟨3, _⟩ => ⟨S2x2x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S_, .f32⟩
  | .hbm, ⟨9, _⟩ => ⟨S4096x704, .f32⟩
  | .hbm, ⟨10, _⟩ => ⟨S4096x704, .f32⟩
  | .hbm, ⟨11, _⟩ => ⟨S_, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S_, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S_, .f32⟩
  | .hbm, ⟨20, _⟩ => ⟨S4096x704, .f32⟩
  | .hbm, ⟨21, _⟩ => ⟨S4096x704, .f32⟩
  | .hbm, ⟨22, _⟩ => ⟨S4096x704, .f32⟩
  | .hbm, ⟨23, _⟩ => ⟨S_, .f32⟩
  | .hbm, ⟨24, _⟩ => ⟨S4096x704, .f32⟩
  | .hbm, ⟨25, _⟩ => ⟨S4096x704, .f32⟩
  | .hbm, ⟨26, _⟩ => ⟨S_, .f32⟩
  | .hbm, ⟨27, _⟩ => ⟨S4096x704, .f32⟩
  | .hbm, ⟨28, _⟩ => ⟨S4096x704, .f32⟩
  | .hbm, ⟨29, _⟩ => ⟨S4096x704, .f32⟩
  | .hbm, ⟨30, _⟩ => ⟨S_, .f32⟩
  | .hbm, ⟨31, _⟩ => ⟨S4096x704, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | .hbm, ⟨37, _⟩ => ⟨S4096x704, .f32⟩
  | .hbm, ⟨38, _⟩ => ⟨S_, .f32⟩
  | .hbm, ⟨39, _⟩ => ⟨S4096x704, .f32⟩
  | .hbm, ⟨40, _⟩ => ⟨S4096x704, .f32⟩
  | _, _ => ⟨S2x2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel21.lean ====
abbrev S2x2x704x1024 : Shape := ⟨4, ![2, 2, 704, 1024]⟩
abbrev S2816x1024 : Shape := ⟨2, ![2816, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x2x704x1024, .f32⟩
  | .hbm, ⟨1, _⟩ => ⟨S2x2x704x1024, .f32⟩
  | .hbm, ⟨2, _⟩ => ⟨S2x2x704x1024, .f32⟩
  | .hbm, ⟨3, _⟩ => ⟨S2x2x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel21Ideal.lean ====
abbrev S2x2x704x1024 : Shape := ⟨4, ![2, 2, 704, 1024]⟩
abbrev S2816x1024 : Shape := ⟨2, ![2816, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x2x704x1024, .f32⟩
  | .hbm, ⟨1, _⟩ => ⟨S2x2x704x1024, .f32⟩
  | .hbm, ⟨2, _⟩ => ⟨S2x2x704x1024, .f32⟩
  | .hbm, ⟨3, _⟩ => ⟨S2x2x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S2x2x704x1024 : Shape := ⟨4, ![2, 2, 704, 1024]⟩
abbrev S2816x1024 : Shape := ⟨2, ![2816, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x2x704x1024, .f32⟩
  | .hbm, ⟨1, _⟩ => ⟨S2x2x704x1024, .f32⟩
  | .hbm, ⟨2, _⟩ => ⟨S2x2x704x1024, .f32⟩
  | .hbm, ⟨3, _⟩ => ⟨S2x2x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S_, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S2816x1024, .f32⟩
  | .hbm, ⟨23, _⟩ => ⟨S_, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | .hbm, ⟨37, _⟩ => ⟨S2816x1024, .f32⟩
  | .hbm, ⟨38, _⟩ => ⟨S_, .f32⟩
  | .hbm, ⟨39, _⟩ => ⟨S2816x1024, .f32⟩
  | .hbm, ⟨40, _⟩ => ⟨S2816x1024, .f32⟩
  | _, _ => ⟨S2x2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel22.lean ====
abbrev S1x1024x1026 : Shape := ⟨3, ![1, 1024, 1026]⟩
abbrev S1024x1026 : Shape := ⟨2, ![1024, 1026]⟩
abbrev S512x1026 : Shape := ⟨2, ![512, 1026]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x1026, .f32⟩
  | .hbm, ⟨1, _⟩ => ⟨S1x1024x1026, .f32⟩
  | .hbm, ⟨2, _⟩ => ⟨S1x1024x1026, .f32⟩
  | .hbm, ⟨3, _⟩ => ⟨S1x1024x1026, .f32⟩
  | .hbm, ⟨4, _⟩ => ⟨S1024x1026, .f32⟩
  | .hbm, ⟨5, _⟩ => ⟨S1024x1026, .f32⟩
  | .hbm, ⟨6, _⟩ => ⟨S1024x1026, .f32⟩
  | .hbm, ⟨7, _⟩ => ⟨S1024x1026, .f32⟩
  | .hbm, ⟨8, _⟩ => ⟨S1024x1026, .f32⟩
  | .hbm, ⟨9, _⟩ => ⟨S1024x1026, .f32⟩
  | .hbm, ⟨10, _⟩ => ⟨S1024x1026, .f32⟩
  | .local _ .vmem, ⟨0, _⟩ => ⟨S512x1026, .f32⟩
  | .local _ .vmem, ⟨1, _⟩ => ⟨S512x1026, .f32⟩
  | .local _ .vmem, ⟨2, _⟩ => ⟨S512x1026, .f32⟩
  | .local _ .vmem, ⟨3, _⟩ => ⟨S512x1026, .f32⟩
  | .local _ .vmem, ⟨4, _⟩ => ⟨S512x1026, .f32⟩
  | .local _ .vmem, ⟨5, _⟩ => ⟨S512x1026, .f32⟩
  | .local _ .vmem, ⟨6, _⟩ => ⟨S512x1026, .f32⟩
  | .local _ .vmem, ⟨7, _⟩ => ⟨S512x1026, .f32⟩
  | .local _ .vmem, ⟨8, _⟩ => ⟨S512x1026, .f32⟩
  | .local _ .vmem, ⟨9, _⟩ => ⟨S512x1026, .f32⟩
  | .local _ .vmem, ⟨10, _⟩ => ⟨S512x1026, .f32⟩
  | .local _ .vmem, ⟨11, _⟩ => ⟨S512x1026, .f32⟩
  | .local _ .vmem, ⟨12, _⟩ => ⟨S512x1026, .f32⟩
  | .local _ .vmem, ⟨13, _⟩ => ⟨S512x1026, .f32⟩
  | _, _ => ⟨S1x1024x1026, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1026 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1026 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1026 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1026 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1026 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1026 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1026 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel22Ideal.lean ====
abbrev S1x1024x1026 : Shape := ⟨3, ![1, 1024, 1026]⟩
abbrev S1024x1026 : Shape := ⟨2, ![1024, 1026]⟩
abbrev S512x1026 : Shape := ⟨2, ![512, 1026]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x1026, .f32⟩
  | .hbm, ⟨1, _⟩ => ⟨S1x1024x1026, .f32⟩
  | .hbm, ⟨2, _⟩ => ⟨S1x1024x1026, .f32⟩
  | .hbm, ⟨3, _⟩ => ⟨S1x1024x1026, .f32⟩
  | .hbm, ⟨4, _⟩ => ⟨S1024x1026, .f32⟩
  | .hbm, ⟨5, _⟩ => ⟨S1024x1026, .f32⟩
  | .hbm, ⟨6, _⟩ => ⟨S1024x1026, .f32⟩
  | .hbm, ⟨7, _⟩ => ⟨S1024x1026, .f32⟩
  | .hbm, ⟨8, _⟩ => ⟨S1024x1026, .f32⟩
  | .hbm, ⟨9, _⟩ => ⟨S1024x1026, .f32⟩
  | .hbm, ⟨10, _⟩ => ⟨S1024x1026, .f32⟩
  | .local _ .vmem, ⟨0, _⟩ => ⟨S512x1026, .f32⟩
  | .local _ .vmem, ⟨1, _⟩ => ⟨S512x1026, .f32⟩
  | .local _ .vmem, ⟨2, _⟩ => ⟨S512x1026, .f32⟩
  | .local _ .vmem, ⟨3, _⟩ => ⟨S512x1026, .f32⟩
  | .local _ .vmem, ⟨4, _⟩ => ⟨S512x1026, .f32⟩
  | .local _ .vmem, ⟨5, _⟩ => ⟨S512x1026, .f32⟩
  | .local _ .vmem, ⟨6, _⟩ => ⟨S512x1026, .f32⟩
  | .local _ .vmem, ⟨7, _⟩ => ⟨S512x1026, .f32⟩
  | .local _ .vmem, ⟨8, _⟩ => ⟨S512x1026, .f32⟩
  | .local _ .vmem, ⟨9, _⟩ => ⟨S512x1026, .f32⟩
  | .local _ .vmem, ⟨10, _⟩ => ⟨S512x1026, .f32⟩
  | .local _ .vmem, ⟨11, _⟩ => ⟨S512x1026, .f32⟩
  | .local _ .vmem, ⟨12, _⟩ => ⟨S512x1026, .f32⟩
  | .local _ .vmem, ⟨13, _⟩ => ⟨S512x1026, .f32⟩
  | _, _ => ⟨S1x1024x1026, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1026 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1026 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1026 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1026 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1026 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1026 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1026 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S1x1024x1026 : Shape := ⟨3, ![1, 1024, 1026]⟩
abbrev S1024x1026 : Shape := ⟨2, ![1024, 1026]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x1026, .f32⟩
  | .hbm, ⟨1, _⟩ => ⟨S1x1024x1026, .f32⟩
  | .hbm, ⟨2, _⟩ => ⟨S1x1024x1026, .f32⟩
  | .hbm, ⟨3, _⟩ => ⟨S1x1024x1026, .f32⟩
  | .hbm, ⟨4, _⟩ => ⟨S1024x1026, .f32⟩
  | .hbm, ⟨5, _⟩ => ⟨S1024x1026, .f32⟩
  | .hbm, ⟨6, _⟩ => ⟨S1024x1026, .f32⟩
  | .hbm, ⟨7, _⟩ => ⟨S1024x1026, .f32⟩
  | .hbm, ⟨8, _⟩ => ⟨S_, .f32⟩
  | .hbm, ⟨9, _⟩ => ⟨S1024x1026, .f32⟩
  | .hbm, ⟨10, _⟩ => ⟨S1024x1026, .f32⟩
  | .hbm, ⟨11, _⟩ => ⟨S_, .f32⟩
  | .hbm, ⟨12, _⟩ => ⟨S1024x1026, .f32⟩
  | .hbm, ⟨13, _⟩ => ⟨S1024x1026, .f32⟩
  | .hbm, ⟨14, _⟩ => ⟨S1024x1026, .f32⟩
  | .hbm, ⟨15, _⟩ => ⟨S_, .f32⟩
  | .hbm, ⟨16, _⟩ => ⟨S1024x1026, .f32⟩
  | .hbm, ⟨17, _⟩ => ⟨S1024x1026, .f32⟩
  | .hbm, ⟨18, _⟩ => ⟨S1024x1026, .f32⟩
  | .hbm, ⟨19, _⟩ => ⟨S_, .f32⟩
  | .hbm, ⟨20, _⟩ => ⟨S1024x1026, .f32⟩
  | .hbm, ⟨21, _⟩ => ⟨S1024x1026, .f32⟩
  | .hbm, ⟨22, _⟩ => ⟨S1024x1026, .f32⟩
  | .hbm, ⟨23, _⟩ => ⟨S_, .f32⟩
  | .hbm, ⟨24, _⟩ => ⟨S1024x1026, .f32⟩
  | .hbm, ⟨25, _⟩ => ⟨S1024x1026, .f32⟩
  | .hbm, ⟨26, _⟩ => ⟨S_, .f32⟩
  | .hbm, ⟨27, _⟩ => ⟨S1024x1026, .f32⟩
  | .hbm, ⟨28, _⟩ => ⟨S1024x1026, .f32⟩
  | .hbm, ⟨29, _⟩ => ⟨S1024x1026, .f32⟩
  | .hbm, ⟨30, _⟩ => ⟨S_, .f32⟩
  | .hbm, ⟨31, _⟩ => ⟨S1024x1026, .f32⟩
  | .hbm, ⟨32, _⟩ => ⟨S1024x1026, .f32⟩
  | .hbm, ⟨33, _⟩ => ⟨S1024x1026, .f32⟩
  | .hbm, ⟨34, _⟩ => ⟨S_, .f32⟩
  | .hbm, ⟨35, _⟩ => ⟨S1024x1026, .f32⟩
  | .hbm, ⟨36, _⟩ => ⟨S1024x1026, .f32⟩
  | .hbm, ⟨37, _⟩ => ⟨S1024x1026, .f32⟩
  | .hbm, ⟨38, _⟩ => ⟨S_, .f32⟩
  | .hbm, ⟨39, _⟩ => ⟨S1024x1026, .f32⟩
  | .hbm, ⟨40, _⟩ => ⟨S1024x1026, .f32⟩
  | _, _ => ⟨S1x1024x1026, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel23.lean ====
abbrev S1x1024x576 : Shape := ⟨3, ![1, 1024, 576]⟩
abbrev S1024x576 : Shape := ⟨2, ![1024, 576]⟩
abbrev S512x576 : Shape := ⟨2, ![512, 576]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x576, .f32⟩
  | .hbm, ⟨1, _⟩ => ⟨S1x1024x576, .f32⟩
  | .hbm, ⟨2, _⟩ => ⟨S1x1024x576, .f32⟩
  | .hbm, ⟨3, _⟩ => ⟨S1x1024x576, .f32⟩
  | .hbm, ⟨4, _⟩ => ⟨S1024x576, .f32⟩
  | .hbm, ⟨5, _⟩ => ⟨S1024x576, .f32⟩
  | .hbm, ⟨6, _⟩ => ⟨S1024x576, .f32⟩
  | .hbm, ⟨7, _⟩ => ⟨S1024x576, .f32⟩
  | .hbm, ⟨8, _⟩ => ⟨S1024x576, .f32⟩
  | .hbm, ⟨9, _⟩ => ⟨S1024x576, .f32⟩
  | .hbm, ⟨10, _⟩ => ⟨S1024x576, .f32⟩
  | .local _ .vmem, ⟨0, _⟩ => ⟨S512x576, .f32⟩
  | .local _ .vmem, ⟨1, _⟩ => ⟨S512x576, .f32⟩
  | .local _ .vmem, ⟨2, _⟩ => ⟨S512x576, .f32⟩
  | .local _ .vmem, ⟨3, _⟩ => ⟨S512x576, .f32⟩
  | .local _ .vmem, ⟨4, _⟩ => ⟨S512x576, .f32⟩
  | .local _ .vmem, ⟨5, _⟩ => ⟨S512x576, .f32⟩
  | .local _ .vmem, ⟨6, _⟩ => ⟨S512x576, .f32⟩
  | .local _ .vmem, ⟨7, _⟩ => ⟨S512x576, .f32⟩
  | .local _ .vmem, ⟨8, _⟩ => ⟨S512x576, .f32⟩
  | .local _ .vmem, ⟨9, _⟩ => ⟨S512x576, .f32⟩
  | .local _ .vmem, ⟨10, _⟩ => ⟨S512x576, .f32⟩
  | .local _ .vmem, ⟨11, _⟩ => ⟨S512x576, .f32⟩
  | .local _ .vmem, ⟨12, _⟩ => ⟨S512x576, .f32⟩
  | .local _ .vmem, ⟨13, _⟩ => ⟨S512x576, .f32⟩
  | _, _ => ⟨S1x1024x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel23Ideal.lean ====
abbrev S1x1024x576 : Shape := ⟨3, ![1, 1024, 576]⟩
abbrev S1024x576 : Shape := ⟨2, ![1024, 576]⟩
abbrev S512x576 : Shape := ⟨2, ![512, 576]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x576, .f32⟩
  | .hbm, ⟨1, _⟩ => ⟨S1x1024x576, .f32⟩
  | .hbm, ⟨2, _⟩ => ⟨S1x1024x576, .f32⟩
  | .hbm, ⟨3, _⟩ => ⟨S1x1024x576, .f32⟩
  | .hbm, ⟨4, _⟩ => ⟨S1024x576, .f32⟩
  | .hbm, ⟨5, _⟩ => ⟨S1024x576, .f32⟩
  | .hbm, ⟨6, _⟩ => ⟨S1024x576, .f32⟩
  | .hbm, ⟨7, _⟩ => ⟨S1024x576, .f32⟩
  | .hbm, ⟨8, _⟩ => ⟨S1024x576, .f32⟩
  | .hbm, ⟨9, _⟩ => ⟨S1024x576, .f32⟩
  | .hbm, ⟨10, _⟩ => ⟨S1024x576, .f32⟩
  | .local _ .vmem, ⟨0, _⟩ => ⟨S512x576, .f32⟩
  | .local _ .vmem, ⟨1, _⟩ => ⟨S512x576, .f32⟩
  | .local _ .vmem, ⟨2, _⟩ => ⟨S512x576, .f32⟩
  | .local _ .vmem, ⟨3, _⟩ => ⟨S512x576, .f32⟩
  | .local _ .vmem, ⟨4, _⟩ => ⟨S512x576, .f32⟩
  | .local _ .vmem, ⟨5, _⟩ => ⟨S512x576, .f32⟩
  | .local _ .vmem, ⟨6, _⟩ => ⟨S512x576, .f32⟩
  | .local _ .vmem, ⟨7, _⟩ => ⟨S512x576, .f32⟩
  | .local _ .vmem, ⟨8, _⟩ => ⟨S512x576, .f32⟩
  | .local _ .vmem, ⟨9, _⟩ => ⟨S512x576, .f32⟩
  | .local _ .vmem, ⟨10, _⟩ => ⟨S512x576, .f32⟩
  | .local _ .vmem, ⟨11, _⟩ => ⟨S512x576, .f32⟩
  | .local _ .vmem, ⟨12, _⟩ => ⟨S512x576, .f32⟩
  | .local _ .vmem, ⟨13, _⟩ => ⟨S512x576, .f32⟩
  | _, _ => ⟨S1x1024x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S1x1024x576 : Shape := ⟨3, ![1, 1024, 576]⟩
abbrev S1024x576 : Shape := ⟨2, ![1024, 576]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x576, .f32⟩
  | .hbm, ⟨1, _⟩ => ⟨S1x1024x576, .f32⟩
  | .hbm, ⟨2, _⟩ => ⟨S1x1024x576, .f32⟩
  | .hbm, ⟨3, _⟩ => ⟨S1x1024x576, .f32⟩
  | .hbm, ⟨4, _⟩ => ⟨S1024x576, .f32⟩
  | .hbm, ⟨5, _⟩ => ⟨S1024x576, .f32⟩
  | .hbm, ⟨6, _⟩ => ⟨S1024x576, .f32⟩
  | .hbm, ⟨7, _⟩ => ⟨S1024x576, .f32⟩
  | .hbm, ⟨8, _⟩ => ⟨S_, .f32⟩
  | .hbm, ⟨9, _⟩ => ⟨S1024x576, .f32⟩
  | .hbm, ⟨10, _⟩ => ⟨S1024x576, .f32⟩
  | .hbm, ⟨11, _⟩ => ⟨S_, .f32⟩
  | .hbm, ⟨12, _⟩ => ⟨S1024x576, .f32⟩
  | .hbm, ⟨13, _⟩ => ⟨S1024x576, .f32⟩
  | .hbm, ⟨14, _⟩ => ⟨S1024x576, .f32⟩
  | .hbm, ⟨15, _⟩ => ⟨S_, .f32⟩
  | .hbm, ⟨16, _⟩ => ⟨S1024x576, .f32⟩
  | .hbm, ⟨17, _⟩ => ⟨S1024x576, .f32⟩
  | .hbm, ⟨18, _⟩ => ⟨S1024x576, .f32⟩
  | .hbm, ⟨19, _⟩ => ⟨S_, .f32⟩
  | .hbm, ⟨20, _⟩ => ⟨S1024x576, .f32⟩
  | .hbm, ⟨21, _⟩ => ⟨S1024x576, .f32⟩
  | .hbm, ⟨22, _⟩ => ⟨S1024x576, .f32⟩
  | .hbm, ⟨23, _⟩ => ⟨S_, .f32⟩
  | .hbm, ⟨24, _⟩ => ⟨S1024x576, .f32⟩
  | .hbm, ⟨25, _⟩ => ⟨S1024x576, .f32⟩
  | .hbm, ⟨26, _⟩ => ⟨S_, .f32⟩
  | .hbm, ⟨27, _⟩ => ⟨S1024x576, .f32⟩
  | .hbm, ⟨28, _⟩ => ⟨S1024x576, .f32⟩
  | .hbm, ⟨29, _⟩ => ⟨S1024x576, .f32⟩
  | .hbm, ⟨30, _⟩ => ⟨S_, .f32⟩
  | .hbm, ⟨31, _⟩ => ⟨S1024x576, .f32⟩
  | .hbm, ⟨32, _⟩ => ⟨S1024x576, .f32⟩
  | .hbm, ⟨33, _⟩ => ⟨S1024x576, .f32⟩
  | .hbm, ⟨34, _⟩ => ⟨S_, .f32⟩
  | .hbm, ⟨35, _⟩ => ⟨S1024x576, .f32⟩
  | .hbm, ⟨36, _⟩ => ⟨S1024x576, .f32⟩
  | .hbm, ⟨37, _⟩ => ⟨S1024x576, .f32⟩
  | .hbm, ⟨38, _⟩ => ⟨S_, .f32⟩
  | .hbm, ⟨39, _⟩ => ⟨S1024x576, .f32⟩
  | .hbm, ⟨40, _⟩ => ⟨S1024x576, .f32⟩
  | _, _ => ⟨S1x1024x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel24.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel24Ideal.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel25.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel25Ideal.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S16x256 : Shape := ⟨2, ![16, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S_, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S2x6x256 : Shape := ⟨3, ![2, 6, 256]⟩
abbrev S12x256 : Shape := ⟨2, ![12, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x6x256, .f32⟩
  | .hbm, ⟨1, _⟩ => ⟨S2x6x256, .f32⟩
  | .hbm, ⟨2, _⟩ => ⟨S2x6x256, .f32⟩
  | .hbm, ⟨3, _⟩ => ⟨S2x6x256, .f32⟩
  | .hbm, ⟨4, _⟩ => ⟨S12x256, .f32⟩
  | .hbm, ⟨5, _⟩ => ⟨S12x256, .f32⟩
  | .hbm, ⟨6, _⟩ => ⟨S12x256, .f32⟩
  | .hbm, ⟨7, _⟩ => ⟨S12x256, .f32⟩
  | .hbm, ⟨8, _⟩ => ⟨S12x256, .f32⟩
  | .hbm, ⟨9, _⟩ => ⟨S12x256, .f32⟩
  | .hbm, ⟨10, _⟩ => ⟨S12x256, .f32⟩
  | .local _ .vmem, ⟨0, _⟩ => ⟨S12x256, .f32⟩
  | .local _ .vmem, ⟨1, _⟩ => ⟨S12x256, .f32⟩
  | .local _ .vmem, ⟨2, _⟩ => ⟨S12x256, .f32⟩
  | .local _ .vmem, ⟨3, _⟩ => ⟨S12x256, .f32⟩
  | .local _ .vmem, ⟨4, _⟩ => ⟨S12x256, .f32⟩
  | .local _ .vmem, ⟨5, _⟩ => ⟨S12x256, .f32⟩
  | .local _ .vmem, ⟨6, _⟩ => ⟨S12x256, .f32⟩
  | _, _ => ⟨S2x6x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel26Ideal.lean ====
abbrev S2x6x256 : Shape := ⟨3, ![2, 6, 256]⟩
abbrev S12x256 : Shape := ⟨2, ![12, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x6x256, .f32⟩
  | .hbm, ⟨1, _⟩ => ⟨S2x6x256, .f32⟩
  | .hbm, ⟨2, _⟩ => ⟨S2x6x256, .f32⟩
  | .hbm, ⟨3, _⟩ => ⟨S2x6x256, .f32⟩
  | .hbm, ⟨4, _⟩ => ⟨S12x256, .f32⟩
  | .hbm, ⟨5, _⟩ => ⟨S12x256, .f32⟩
  | .hbm, ⟨6, _⟩ => ⟨S12x256, .f32⟩
  | .hbm, ⟨7, _⟩ => ⟨S12x256, .f32⟩
  | .hbm, ⟨8, _⟩ => ⟨S12x256, .f32⟩
  | .hbm, ⟨9, _⟩ => ⟨S12x256, .f32⟩
  | .hbm, ⟨10, _⟩ => ⟨S12x256, .f32⟩
  | .local _ .vmem, ⟨0, _⟩ => ⟨S12x256, .f32⟩
  | .local _ .vmem, ⟨1, _⟩ => ⟨S12x256, .f32⟩
  | .local _ .vmem, ⟨2, _⟩ => ⟨S12x256, .f32⟩
  | .local _ .vmem, ⟨3, _⟩ => ⟨S12x256, .f32⟩
  | .local _ .vmem, ⟨4, _⟩ => ⟨S12x256, .f32⟩
  | .local _ .vmem, ⟨5, _⟩ => ⟨S12x256, .f32⟩
  | .local _ .vmem, ⟨6, _⟩ => ⟨S12x256, .f32⟩
  | _, _ => ⟨S2x6x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference26Ideal.lean ====
abbrev S2x6x256 : Shape := ⟨3, ![2, 6, 256]⟩
abbrev S12x256 : Shape := ⟨2, ![12, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x6x256, .f32⟩
  | .hbm, ⟨1, _⟩ => ⟨S2x6x256, .f32⟩
  | .hbm, ⟨2, _⟩ => ⟨S2x6x256, .f32⟩
  | .hbm, ⟨3, _⟩ => ⟨S2x6x256, .f32⟩
  | .hbm, ⟨4, _⟩ => ⟨S12x256, .f32⟩
  | .hbm, ⟨5, _⟩ => ⟨S12x256, .f32⟩
  | .hbm, ⟨6, _⟩ => ⟨S12x256, .f32⟩
  | .hbm, ⟨7, _⟩ => ⟨S12x256, .f32⟩
  | .hbm, ⟨8, _⟩ => ⟨S_, .f32⟩
  | .hbm, ⟨9, _⟩ => ⟨S12x256, .f32⟩
  | .hbm, ⟨10, _⟩ => ⟨S12x256, .f32⟩
  | .hbm, ⟨11, _⟩ => ⟨S_, .f32⟩
  | .hbm, ⟨12, _⟩ => ⟨S12x256, .f32⟩
  | .hbm, ⟨13, _⟩ => ⟨S12x256, .f32⟩
  | .hbm, ⟨14, _⟩ => ⟨S12x256, .f32⟩
  | .hbm, ⟨15, _⟩ => ⟨S_, .f32⟩
  | .hbm, ⟨16, _⟩ => ⟨S12x256, .f32⟩
  | .hbm, ⟨17, _⟩ => ⟨S12x256, .f32⟩
  | .hbm, ⟨18, _⟩ => ⟨S12x256, .f32⟩
  | .hbm, ⟨19, _⟩ => ⟨S_, .f32⟩
  | .hbm, ⟨20, _⟩ => ⟨S12x256, .f32⟩
  | .hbm, ⟨21, _⟩ => ⟨S12x256, .f32⟩
  | .hbm, ⟨22, _⟩ => ⟨S12x256, .f32⟩
  | .hbm, ⟨23, _⟩ => ⟨S_, .f32⟩
  | .hbm, ⟨24, _⟩ => ⟨S12x256, .f32⟩
  | .hbm, ⟨25, _⟩ => ⟨S12x256, .f32⟩
  | .hbm, ⟨26, _⟩ => ⟨S_, .f32⟩
  | .hbm, ⟨27, _⟩ => ⟨S12x256, .f32⟩
  | .hbm, ⟨28, _⟩ => ⟨S12x256, .f32⟩
  | .hbm, ⟨29, _⟩ => ⟨S12x256, .f32⟩
  | .hbm, ⟨30, _⟩ => ⟨S_, .f32⟩
  | .hbm, ⟨31, _⟩ => ⟨S12x256, .f32⟩
  | .hbm, ⟨32, _⟩ => ⟨S12x256, .f32⟩
  | .hbm, ⟨33, _⟩ => ⟨S12x256, .f32⟩
  | .hbm, ⟨34, _⟩ => ⟨S_, .f32⟩
  | .hbm, ⟨35, _⟩ => ⟨S12x256, .f32⟩
  | .hbm, ⟨36, _⟩ => ⟨S12x256, .f32⟩
  | .hbm, ⟨37, _⟩ => ⟨S12x256, .f32⟩
  | .hbm, ⟨38, _⟩ => ⟨S_, .f32⟩
  | .hbm, ⟨39, _⟩ => ⟨S12x256, .f32⟩
  | .hbm, ⟨40, _⟩ => ⟨S12x256, .f32⟩
  | _, _ => ⟨S2x6x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel27.lean ====
abbrev S1x4x384 : Shape := ⟨3, ![1, 4, 384]⟩
abbrev S4x384 : Shape := ⟨2, ![4, 384]⟩

abbrev nBuf : Space → Nat
  | .hbm => 11
  | .vmem => 7
  | .smem => 0
  | _ => 0

abbrev bufTy : (tb : Table) → Fin (tcTables nBuf tb) → BufTy
  | .hbm, ⟨0, _⟩ => ⟨S1x4x384, .f32⟩
  | .hbm, ⟨1, _⟩ => ⟨S1x4x384, .f32⟩
  | .hbm, ⟨2, _⟩ => ⟨S1x4x384, .f32⟩
  | .hbm, ⟨3, _⟩ => ⟨S1x4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .hbm, ⟨8, _⟩ => ⟨S4x384, .f32⟩
  | .hbm, ⟨9, _⟩ => ⟨S4x384, .f32⟩
  | .hbm, ⟨10, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S1x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel27Ideal.lean ====
abbrev S1x4x384 : Shape := ⟨3, ![1, 4, 384]⟩
abbrev S4x384 : Shape := ⟨2, ![4, 384]⟩

abbrev nBuf : Space → Nat
  | .hbm => 11
  | .vmem => 7
  | .smem => 0
  | _ => 0

abbrev bufTy : (tb : Table) → Fin (tcTables nBuf tb) → BufTy
  | .hbm, ⟨0, _⟩ => ⟨S1x4x384, .f32⟩
  | .hbm, ⟨1, _⟩ => ⟨S1x4x384, .f32⟩
  | .hbm, ⟨2, _⟩ => ⟨S1x4x384, .f32⟩
  | .hbm, ⟨3, _⟩ => ⟨S1x4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .hbm, ⟨8, _⟩ => ⟨S4x384, .f32⟩
  | .hbm, ⟨9, _⟩ => ⟨S4x384, .f32⟩
  | .hbm, ⟨10, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S1x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference27Ideal.lean ====
abbrev S1x4x384 : Shape := ⟨3, ![1, 4, 384]⟩
abbrev S4x384 : Shape := ⟨2, ![4, 384]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x4x384, .f32⟩
  | .hbm, ⟨1, _⟩ => ⟨S1x4x384, .f32⟩
  | .hbm, ⟨2, _⟩ => ⟨S1x4x384, .f32⟩
  | .hbm, ⟨3, _⟩ => ⟨S1x4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .hbm, ⟨8, _⟩ => ⟨S_, .f32⟩
  | .hbm, ⟨9, _⟩ => ⟨S4x384, .f32⟩
  | .hbm, ⟨10, _⟩ => ⟨S4x384, .f32⟩
  | .hbm, ⟨11, _⟩ => ⟨S_, .f32⟩
  | .hbm, ⟨12, _⟩ => ⟨S4x384, .f32⟩
  | .hbm, ⟨13, _⟩ => ⟨S4x384, .f32⟩
  | .hbm, ⟨14, _⟩ => ⟨S4x384, .f32⟩
  | .hbm, ⟨15, _⟩ => ⟨S_, .f32⟩
  | .hbm, ⟨16, _⟩ => ⟨S4x384, .f32⟩
  | .hbm, ⟨17, _⟩ => ⟨S4x384, .f32⟩
  | .hbm, ⟨18, _⟩ => ⟨S4x384, .f32⟩
  | .hbm, ⟨19, _⟩ => ⟨S_, .f32⟩
  | .hbm, ⟨20, _⟩ => ⟨S4x384, .f32⟩
  | .hbm, ⟨21, _⟩ => ⟨S4x384, .f32⟩
  | .hbm, ⟨22, _⟩ => ⟨S4x384, .f32⟩
  | .hbm, ⟨23, _⟩ => ⟨S_, .f32⟩
  | .hbm, ⟨24, _⟩ => ⟨S4x384, .f32⟩
  | .hbm, ⟨25, _⟩ => ⟨S4x384, .f32⟩
  | .hbm, ⟨26, _⟩ => ⟨S_, .f32⟩
  | .hbm, ⟨27, _⟩ => ⟨S4x384, .f32⟩
  | .hbm, ⟨28, _⟩ => ⟨S4x384, .f32⟩
  | .hbm, ⟨29, _⟩ => ⟨S4x384, .f32⟩
  | .hbm, ⟨30, _⟩ => ⟨S_, .f32⟩
  | .hbm, ⟨31, _⟩ => ⟨S4x384, .f32⟩
  | .hbm, ⟨32, _⟩ => ⟨S4x384, .f32⟩
  | .hbm, ⟨33, _⟩ => ⟨S4x384, .f32⟩
  | .hbm, ⟨34, _⟩ => ⟨S_, .f32⟩
  | .hbm, ⟨35, _⟩ => ⟨S4x384, .f32⟩
  | .hbm, ⟨36, _⟩ => ⟨S4x384, .f32⟩
  | .hbm, ⟨37, _⟩ => ⟨S4x384, .f32⟩
  | .hbm, ⟨38, _⟩ => ⟨S_, .f32⟩
  | .hbm, ⟨39, _⟩ => ⟨S4x384, .f32⟩
  | .hbm, ⟨40, _⟩ => ⟨S4x384, .f32⟩
  | _, _ => ⟨S1x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel28.lean ====
abbrev S1x4 : Shape := ⟨2, ![1, 4]⟩

abbrev nBuf : Space → Nat
  | .hbm => 7
  | .vmem => 7
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S1x4, .f32⟩
  | .hbm, ⟨3, _⟩ => ⟨S1x4, .f32⟩
  | .hbm, ⟨4, _⟩ => ⟨S1x4, .f32⟩
  | .hbm, ⟨5, _⟩ => ⟨S1x4, .f32⟩
  | .hbm, ⟨6, _⟩ => ⟨S1x4, .f32⟩
  | .local _ .vmem, ⟨0, _⟩ => ⟨S1x4, .f32⟩
  | .local _ .vmem, ⟨1, _⟩ => ⟨S1x4, .f32⟩
  | .local _ .vmem, ⟨2, _⟩ => ⟨S1x4, .f32⟩
  | .local _ .vmem, ⟨3, _⟩ => ⟨S1x4, .f32⟩
  | .local _ .vmem, ⟨4, _⟩ => ⟨S1x4, .f32⟩
  | .local _ .vmem, ⟨5, _⟩ => ⟨S1x4, .f32⟩
  | .local _ .vmem, ⟨6, _⟩ => ⟨S1x4, .f32⟩
  | _, _ => ⟨S1x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel28Ideal.lean ====
abbrev S1x4 : Shape := ⟨2, ![1, 4]⟩

abbrev nBuf : Space → Nat
  | .hbm => 7
  | .vmem => 7
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S1x4, .f32⟩
  | .hbm, ⟨3, _⟩ => ⟨S1x4, .f32⟩
  | .hbm, ⟨4, _⟩ => ⟨S1x4, .f32⟩
  | .hbm, ⟨5, _⟩ => ⟨S1x4, .f32⟩
  | .hbm, ⟨6, _⟩ => ⟨S1x4, .f32⟩
  | .local _ .vmem, ⟨0, _⟩ => ⟨S1x4, .f32⟩
  | .local _ .vmem, ⟨1, _⟩ => ⟨S1x4, .f32⟩
  | .local _ .vmem, ⟨2, _⟩ => ⟨S1x4, .f32⟩
  | .local _ .vmem, ⟨3, _⟩ => ⟨S1x4, .f32⟩
  | .local _ .vmem, ⟨4, _⟩ => ⟨S1x4, .f32⟩
  | .local _ .vmem, ⟨5, _⟩ => ⟨S1x4, .f32⟩
  | .local _ .vmem, ⟨6, _⟩ => ⟨S1x4, .f32⟩
  | _, _ => ⟨S1x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference28Ideal.lean ====
abbrev S1x4 : Shape := ⟨2, ![1, 4]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S1x4, .f32⟩
  | .hbm, ⟨3, _⟩ => ⟨S1x4, .f32⟩
  | .hbm, ⟨4, _⟩ => ⟨S_, .f32⟩
  | .hbm, ⟨5, _⟩ => ⟨S1x4, .f32⟩
  | .hbm, ⟨6, _⟩ => ⟨S1x4, .f32⟩
  | .hbm, ⟨7, _⟩ => ⟨S_, .f32⟩
  | .hbm, ⟨8, _⟩ => ⟨S1x4, .f32⟩
  | .hbm, ⟨9, _⟩ => ⟨S1x4, .f32⟩
  | .hbm, ⟨10, _⟩ => ⟨S1x4, .f32⟩
  | .hbm, ⟨11, _⟩ => ⟨S_, .f32⟩
  | .hbm, ⟨12, _⟩ => ⟨S1x4, .f32⟩
  | .hbm, ⟨13, _⟩ => ⟨S1x4, .f32⟩
  | .hbm, ⟨14, _⟩ => ⟨S1x4, .f32⟩
  | .hbm, ⟨15, _⟩ => ⟨S_, .f32⟩
  | .hbm, ⟨16, _⟩ => ⟨S1x4, .f32⟩
  | .hbm, ⟨17, _⟩ => ⟨S1x4, .f32⟩
  | .hbm, ⟨18, _⟩ => ⟨S1x4, .f32⟩
  | .hbm, ⟨19, _⟩ => ⟨S_, .f32⟩
  | .hbm, ⟨20, _⟩ => ⟨S1x4, .f32⟩
  | .hbm, ⟨21, _⟩ => ⟨S1x4, .f32⟩
  | .hbm, ⟨22, _⟩ => ⟨S_, .f32⟩
  | .hbm, ⟨23, _⟩ => ⟨S1x4, .f32⟩
  | .hbm, ⟨24, _⟩ => ⟨S1x4, .f32⟩
  | .hbm, ⟨25, _⟩ => ⟨S1x4, .f32⟩
  | .hbm, ⟨26, _⟩ => ⟨S_, .f32⟩
  | .hbm, ⟨27, _⟩ => ⟨S1x4, .f32⟩
  | .hbm, ⟨28, _⟩ => ⟨S1x4, .f32⟩
  | .hbm, ⟨29, _⟩ => ⟨S1x4, .f32⟩
  | .hbm, ⟨30, _⟩ => ⟨S_, .f32⟩
  | .hbm, ⟨31, _⟩ => ⟨S1x4, .f32⟩
  | .hbm, ⟨32, _⟩ => ⟨S1x4, .f32⟩
  | .hbm, ⟨33, _⟩ => ⟨S1x4, .f32⟩
  | .hbm, ⟨34, _⟩ => ⟨S_, .f32⟩
  | .hbm, ⟨35, _⟩ => ⟨S1x4, .f32⟩
  | .hbm, ⟨36, _⟩ => ⟨S1x4, .f32⟩
  | _, _ => ⟨S1x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel29Ideal.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference29Ideal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference30Ideal.lean ====
abbrev S1x8 : Shape := ⟨2, ![1, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S_, .f32⟩
  | .hbm, ⟨5, _⟩ => ⟨S1x8, .f32⟩
  | .hbm, ⟨6, _⟩ => ⟨S1x8, .f32⟩
  | .hbm, ⟨7, _⟩ => ⟨S_, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S_, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S_, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S_, .f32⟩
  | .hbm, ⟨20, _⟩ => ⟨S1x8, .f32⟩
  | .hbm, ⟨21, _⟩ => ⟨S1x8, .f32⟩
  | .hbm, ⟨22, _⟩ => ⟨S_, .f32⟩
  | .hbm, ⟨23, _⟩ => ⟨S1x8, .f32⟩
  | .hbm, ⟨24, _⟩ => ⟨S1x8, .f32⟩
  | .hbm, ⟨25, _⟩ => ⟨S1x8, .f32⟩
  | .hbm, ⟨26, _⟩ => ⟨S_, .f32⟩
  | .hbm, ⟨27, _⟩ => ⟨S1x8, .f32⟩
  | .hbm, ⟨28, _⟩ => ⟨S1x8, .f32⟩
  | .hbm, ⟨29, _⟩ => ⟨S1x8, .f32⟩
  | .hbm, ⟨30, _⟩ => ⟨S_, .f32⟩
  | .hbm, ⟨31, _⟩ => ⟨S1x8, .f32⟩
  | .hbm, ⟨32, _⟩ => ⟨S1x8, .f32⟩
  | .hbm, ⟨33, _⟩ => ⟨S1x8, .f32⟩
  | .hbm, ⟨34, _⟩ => ⟨S_, .f32⟩
  | .hbm, ⟨35, _⟩ => ⟨S1x8, .f32⟩
  | .hbm, ⟨36, _⟩ => ⟨S1x8, .f32⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel6.lean ====
abbrev S8320x1024 : Shape := ⟨2, ![8320, 1024]⟩
abbrev S1024 : Shape := ⟨1, ![1024]⟩
abbrev S4x1024x704 : Shape := ⟨3, ![4, 1024, 704]⟩
abbrev S1x1024 : Shape := ⟨2, ![1, 1024]⟩
abbrev S4x8320x704 : Shape := ⟨3, ![4, 8320, 704]⟩
abbrev S640x1024 : Shape := ⟨2, ![640, 1024]⟩
abbrev S1x1024x704 : Shape := ⟨3, ![1, 1024, 704]⟩
abbrev S1x640x704 : Shape := ⟨3, ![1, 640, 704]⟩
abbrev S640 : Shape := ⟨1, ![640]⟩
abbrev S640x1 : Shape := ⟨2, ![640, 1]⟩
abbrev S1024x704 : Shape := ⟨2, ![1024, 704]⟩
abbrev S640x704 : Shape := ⟨2, ![640, 704]⟩

abbrev nBuf : Space → Nat
  | .hbm => 9
  | .vmem => 15
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S4x1024x704, .bf16⟩
  | .hbm, ⟨3, _⟩ => ⟨S4x1024x704, .bf16⟩
  | .hbm, ⟨4, _⟩ => ⟨S1x1024, .f32⟩
  | .hbm, ⟨5, _⟩ => ⟨S8320x1024, .bf16⟩
  | .hbm, ⟨6, _⟩ => ⟨S4x8320x704, .bf16⟩
  | .hbm, ⟨7, _⟩ => ⟨S4x8320x704, .bf16⟩
  | .hbm, ⟨8, _⟩ => ⟨S4x8320x704, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S640x1024, .bf16⟩
  | .local _ .vmem, ⟨8, _⟩ => ⟨S640x1024, .bf16⟩
  | .local _ .vmem, ⟨9, _⟩ => ⟨S1x640x704, .bf16⟩
  | .local _ .vmem, ⟨10, _⟩ => ⟨S1x640x704, .bf16⟩
  | .local _ .vmem, ⟨11, _⟩ => ⟨S1x640x704, .bf16⟩
  | .local _ .vmem, ⟨12, _⟩ => ⟨S1x640x704, .bf16⟩
  | .local _ .vmem, ⟨13, _⟩ => ⟨S1x640x704, .bf16⟩
  | .local _ .vmem, ⟨14, _⟩ => ⟨S1x640x704, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![13, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S640x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x640x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x640x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x640x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S8320x1024 : Shape := ⟨2, ![8320, 1024]⟩
abbrev S1024 : Shape := ⟨1, ![1024]⟩
abbrev S4x1024x704 : Shape := ⟨3, ![4, 1024, 704]⟩
abbrev S_ : Shape := ⟨0, ![]⟩
abbrev S8320 : Shape := ⟨1, ![8320]⟩
abbrev S8320x1 : Shape := ⟨2, ![8320, 1]⟩
abbrev S1x1024 : Shape := ⟨2, ![1, 1024]⟩
abbrev S1024x4x704 : Shape := ⟨3, ![1024, 4, 704]⟩
abbrev S1024x2816 : Shape := ⟨2, ![1024, 2816]⟩
abbrev S8320x2816 : Shape := ⟨2, ![8320, 2816]⟩
abbrev S8320x4x704 : Shape := ⟨3, ![8320, 4, 704]⟩
abbrev S4x8320x704 : Shape := ⟨3, ![4, 8320, 704]⟩

abbrev nBuf : Space → Nat
  | .hbm => 48
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S4x1024x704, .bf16⟩
  | .hbm, ⟨3, _⟩ => ⟨S4x1024x704, .bf16⟩
  | .hbm, ⟨4, _⟩ => ⟨S8320x1024, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x1024, .f32⟩
  | .hbm, ⟨16, _⟩ => ⟨S8320x1024, .f32⟩
  | .hbm, ⟨17, _⟩ => ⟨S1x1024, .f32⟩
  | .hbm, ⟨18, _⟩ => ⟨S8320x1024, .f32⟩
  | .hbm, ⟨19, _⟩ => ⟨S8320x1024, .f32⟩
  | .hbm, ⟨20, _⟩ => ⟨S4x1024x704, .f32⟩
  | .hbm, ⟨21, _⟩ => ⟨S1024x4x704, .f32⟩
  | .hbm, ⟨22, _⟩ => ⟨S1024x2816, .f32⟩
  | .hbm, ⟨23, _⟩ => ⟨S8320x2816, .f32⟩
  | .hbm, ⟨24, _⟩ => ⟨S4x1024x704, .f32⟩
  | .hbm, ⟨25, _⟩ => ⟨S1024x4x704, .f32⟩
  | .hbm, ⟨26, _⟩ => ⟨S1024x2816, .f32⟩
  | .hbm, ⟨27, _⟩ => ⟨S8320x2816, .f32⟩
  | .hbm, ⟨28, _⟩ => ⟨S8320x1024, .bf16⟩
  | .hbm, ⟨29, _⟩ => ⟨S8320x4x704, .f32⟩
  | .hbm, ⟨30, _⟩ => ⟨S4x8320x704, .f32⟩
  | .hbm, ⟨31, _⟩ => ⟨S4x8320x704, .bf16⟩
  | .hbm, ⟨32, _⟩ => ⟨S8320x4x704, .f32⟩
  | .hbm, ⟨33, _⟩ => ⟨S4x8320x704, .f32⟩
  | .hbm, ⟨34, _⟩ => ⟨S4x8320x704, .bf16⟩
  | .hbm, ⟨35, _⟩ => ⟨S8320x2816, .f32⟩
  | .hbm, ⟨36, _⟩ => ⟨S8320x2816, .f32⟩
  | .hbm, ⟨37, _⟩ => ⟨S_, .f32⟩
  | .hbm, ⟨38, _⟩ => ⟨S8320x2816, .f32⟩
  | .hbm, ⟨39, _⟩ => ⟨S8320x2816, .f32⟩
  | .hbm, ⟨40, _⟩ => ⟨S_, .f32⟩
  | .hbm, ⟨41, _⟩ => ⟨S8320x2816, .f32⟩
  | .hbm, ⟨42, _⟩ => ⟨S8320x2816, .f32⟩
  | .hbm, ⟨43, _⟩ => ⟨S8320x2816, .f32⟩
  | .hbm, ⟨44, _⟩ => ⟨S8320x2816, .f32⟩
  | .hbm, ⟨45, _⟩ => ⟨S8320x4x704, .f32⟩
  | .hbm, ⟨46, _⟩ => ⟨S4x8320x704, .f32⟩
  | .hbm, ⟨47, _⟩ => ⟨S4x8320x704, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Kernel17.lean ====
abbrev S8320x1024 : Shape := ⟨2, ![8320, 1024]⟩
abbrev S1024 : Shape := ⟨1, ![1024]⟩
abbrev S1024x4224 : Shape := ⟨2, ![1024, 4224]⟩
abbrev S1x1024 : Shape := ⟨2, ![1, 1024]⟩
abbrev S8320x4224 : Shape := ⟨2, ![8320, 4224]⟩
abbrev S640x1024 : Shape := ⟨2, ![640, 1024]⟩
abbrev S1024x1408 : Shape := ⟨2, ![1024, 1408]⟩
abbrev S640x1408 : Shape := ⟨2, ![640, 1408]⟩
abbrev S640 : Shape := ⟨1, ![640]⟩
abbrev S640x1 : Shape := ⟨2, ![640, 1]⟩

abbrev nBuf : Space → Nat
  | .hbm => 6
  | .vmem => 9
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S1024x4224, .bf16⟩
  | .hbm, ⟨3, _⟩ => ⟨S1x1024, .f32⟩
  | .hbm, ⟨4, _⟩ => ⟨S8320x1024, .bf16⟩
  | .hbm, ⟨5, _⟩ => ⟨S8320x4224, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S640x1024, .bf16⟩
  | .local _ .vmem, ⟨6, _⟩ => ⟨S640x1024, .bf16⟩
  | .local _ .vmem, ⟨7, _⟩ => ⟨S640x1408, .f32⟩
  | .local _ .vmem, ⟨8, _⟩ => ⟨S640x1408, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![13, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S640x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference17Ideal.lean ====
abbrev S8320x1024 : Shape := ⟨2, ![8320, 1024]⟩
abbrev S1024 : Shape := ⟨1, ![1024]⟩
abbrev S1024x4224 : Shape := ⟨2, ![1024, 4224]⟩
abbrev S_ : Shape := ⟨0, ![]⟩
abbrev S8320 : Shape := ⟨1, ![8320]⟩
abbrev S8320x1 : Shape := ⟨2, ![8320, 1]⟩
abbrev S1x1024 : Shape := ⟨2, ![1, 1024]⟩
abbrev S8320x4224 : Shape := ⟨2, ![8320, 4224]⟩

abbrev nBuf : Space → Nat
  | .hbm => 22
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S1024x4224, .bf16⟩
  | .hbm, ⟨3, _⟩ => ⟨S8320x1024, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x1024, .f32⟩
  | .hbm, ⟨15, _⟩ => ⟨S8320x1024, .f32⟩
  | .hbm, ⟨16, _⟩ => ⟨S1x1024, .f32⟩
  | .hbm, ⟨17, _⟩ => ⟨S8320x1024, .f32⟩
  | .hbm, ⟨18, _⟩ => ⟨S8320x1024, .f32⟩
  | .hbm, ⟨19, _⟩ => ⟨S8320x1024, .bf16⟩
  | .hbm, ⟨20, _⟩ => ⟨S1024x4224, .f32⟩
  | .hbm, ⟨21, _⟩ => ⟨S8320x4224, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel18.lean ====
abbrev S8320x1024 : Shape := ⟨2, ![8320, 1024]⟩
abbrev S1024 : Shape := ⟨1, ![1024]⟩
abbrev S1024x2304 : Shape := ⟨2, ![1024, 2304]⟩
abbrev S1x1024 : Shape := ⟨2, ![1, 1024]⟩
abbrev S8320x2304 : Shape := ⟨2, ![8320, 2304]⟩
abbrev S640x1024 : Shape := ⟨2, ![640, 1024]⟩
abbrev S1024x768 : Shape := ⟨2, ![1024, 768]⟩
abbrev S640x768 : Shape := ⟨2, ![640, 768]⟩
abbrev S640 : Shape := ⟨1, ![640]⟩
abbrev S640x1 : Shape := ⟨2, ![640, 1]⟩

abbrev nBuf : Space → Nat
  | .hbm => 6
  | .vmem => 9
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S1024x2304, .bf16⟩
  | .hbm, ⟨3, _⟩ => ⟨S1x1024, .f32⟩
  | .hbm, ⟨4, _⟩ => ⟨S8320x1024, .bf16⟩
  | .hbm, ⟨5, _⟩ => ⟨S8320x2304, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1024x768, .bf16⟩
  | .local _ .vmem, ⟨4, _⟩ => ⟨S1024x768, .bf16⟩
  | .local _ .vmem, ⟨5, _⟩ => ⟨S640x1024, .bf16⟩
  | .local _ .vmem, ⟨6, _⟩ => ⟨S640x1024, .bf16⟩
  | .local _ .vmem, ⟨7, _⟩ => ⟨S640x768, .f32⟩
  | .local _ .vmem, ⟨8, _⟩ => ⟨S640x768, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![13, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S640x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference18Ideal.lean ====
abbrev S8320x1024 : Shape := ⟨2, ![8320, 1024]⟩
abbrev S1024 : Shape := ⟨1, ![1024]⟩
abbrev S1024x2304 : Shape := ⟨2, ![1024, 2304]⟩
abbrev S_ : Shape := ⟨0, ![]⟩
abbrev S8320 : Shape := ⟨1, ![8320]⟩
abbrev S8320x1 : Shape := ⟨2, ![8320, 1]⟩
abbrev S1x1024 : Shape := ⟨2, ![1, 1024]⟩
abbrev S8320x2304 : Shape := ⟨2, ![8320, 2304]⟩

abbrev nBuf : Space → Nat
  | .hbm => 22
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S1024x2304, .bf16⟩
  | .hbm, ⟨3, _⟩ => ⟨S8320x1024, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x1024, .f32⟩
  | .hbm, ⟨15, _⟩ => ⟨S8320x1024, .f32⟩
  | .hbm, ⟨16, _⟩ => ⟨S1x1024, .f32⟩
  | .hbm, ⟨17, _⟩ => ⟨S8320x1024, .f32⟩
  | .hbm, ⟨18, _⟩ => ⟨S8320x1024, .f32⟩
  | .hbm, ⟨19, _⟩ => ⟨S8320x1024, .bf16⟩
  | .hbm, ⟨20, _⟩ => ⟨S1024x2304, .f32⟩
  | .hbm, ⟨21, _⟩ => ⟨S8320x2304, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel31.lean ====
abbrev S8320x1024 : Shape := ⟨2, ![8320, 1024]⟩
abbrev S8192x1024 : Shape := ⟨2, ![8192, 1024]⟩
abbrev S8x128 : Shape := ⟨2, ![8, 128]⟩
abbrev S128x1024 : Shape := ⟨2, ![128, 1024]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8320x1024, .f32⟩
  | .hbm, ⟨1, _⟩ => ⟨S8192x1024, .f32⟩
  | .hbm, ⟨2, _⟩ => ⟨S8320x1024, .f32⟩
  | .hbm, ⟨3, _⟩ => ⟨S8x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S8x128, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference31Ideal.lean ====
abbrev S8320x1024 : Shape := ⟨2, ![8320, 1024]⟩
abbrev S8192x1024 : Shape := ⟨2, ![8192, 1024]⟩
abbrev S_ : Shape := ⟨0, ![]⟩
abbrev S8192 : Shape := ⟨1, ![8192]⟩
abbrev S8x128 : Shape := ⟨2, ![8, 128]⟩

abbrev nBuf : Space → Nat
  | .hbm => 29
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8320x1024, .f32⟩
  | .hbm, ⟨28, _⟩ => ⟨S8x128, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Proof.Swa.Row.lean ====
/- One row of the sliding-window attention with a sink, and its backward pass, as the kernel computes it
   (`rowP`, `rowDelta`, `rowDS`: 384 columns, of which the first 112 are never seen) and as the derivative
   of the softmax over 272 columns and the sink computes it. The two agree when the scores seen and the
   sink are finite. -/
module

public import Idealize.ShloMosaic.Lib.Pointwise

@[expose] public section

noncomputable section

namespace Cert.Swa

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem coe_sum {n : ℕ} (g : Fin n → ℝ) : ((∑ i, g i : ℝ) : EReal) = ∑ i, (g i : EReal) := by
  induction (Finset.univ : Finset (Fin n)) using Finset.induction_on with
  | empty => simp
  | insert a t ha ih => rw [Finset.sum_insert ha, Finset.sum_insert ha, EReal.coe_add, ih]

theorem IsReal.sum {n : ℕ} {f : Fin n → EReal} (h : ∀ i, IsReal (f i)) : IsReal (∑ i, f i) := by
  choose g hg using h
  exact ⟨∑ i, g i, by simp only [hg]; exact (coe_sum _).symm⟩

/-! ### The kernel's row -/

/-- The largest visible score, or the sink. -/
def rowM (v : Fin 384 → BitVec 1) (s : Fin 384 → EReal) (σ : EReal) : EReal :=
  max (Finset.univ.fold max ⊥ fun j => Scalar.select (v j) (s j) ⊥) σ

/-- The weights before the division. -/
def rowE (v : Fin 384 → BitVec 1) (s : Fin 384 → EReal) (σ : EReal) (j : Fin 384) : EReal :=
  Scalar.select (v j) (Ideal.exp (Scalar.select (v j) (s j - rowM v s σ) 0)) 0

/-- The sink's weight before the division. -/
def rowEs (v : Fin 384 → BitVec 1) (s : Fin 384 → EReal) (σ : EReal) : EReal :=
  Ideal.exp (σ - rowM v s σ)

/-- The sum of all weights. -/
def rowDen (v : Fin 384 → BitVec 1) (s : Fin 384 → EReal) (σ : EReal) : EReal :=
  (∑ j, rowE v s σ j) + rowEs v s σ

/-- The attention weights. -/
def rowP (v : Fin 384 → BitVec 1) (s : Fin 384 → EReal) (σ : EReal) (j : Fin 384) : EReal :=
  Ideal.div (rowE v s σ j) (rowDen v s σ)

/-- The sink's attention weight. -/
def rowPs (v : Fin 384 → BitVec 1) (s : Fin 384 → EReal) (σ : EReal) : EReal :=
  Ideal.div (rowEs v s σ) (rowDen v s σ)

/-- The mean of the weights' cotangents `g`. -/
def rowDelta (v : Fin 384 → BitVec 1) (s : Fin 384 → EReal) (σ : EReal) (g : Fin 384 → EReal) : EReal :=
  ∑ j, rowP v s σ j * g j

/-- The gradient of the scores. -/
def rowDS (v : Fin 384 → BitVec 1) (s : Fin 384 → EReal) (σ : EReal) (g : Fin 384 → EReal) (j : Fin 384) : EReal :=
  rowP v s σ j * (g j - rowDelta v s σ g)

/-- The gradient of the sink. -/
def rowDsk (v : Fin 384 → BitVec 1) (s : Fin 384 → EReal) (σ : EReal) (g : Fin 384 → EReal) : EReal :=
  (0 - rowPs v s σ) * rowDelta v s σ g

/-! ### The reference's row: 272 columns, then the sink -/

/-- The reference's columns: the 272 scores, unseen ones at `⊥`, and the sink. -/
def refX (v : Fin 272 → BitVec 1) (s : Fin 272 → EReal) (σ : EReal) (k : Fin 273) : EReal :=
  if h : (k : ℕ) < 272 then Scalar.select (v ⟨k, h⟩) (s ⟨k, h⟩) ⊥ else σ

/-- The reference's column `j` is the kernel's column `112 + j`. -/
def shift (j : Fin 272) : Fin 384 := ⟨112 + j, by omega⟩

section
variable {v : Fin 384 → BitVec 1} {s : Fin 384 → EReal} {σ : EReal}
  (hv : ∀ j : Fin 384, (j : ℕ) < 112 → v j = 0#1) (hs : ∀ j, v j = 1#1 → IsReal (s j)) (hσ : IsReal σ)

theorem bit_cases (b : BitVec 1) : b = 0#1 ∨ b = 1#1 := by
  revert b; decide

include hv in
/-- A sum over the kernel's columns whose terms vanish at unseen columns is a sum over the reference's. -/
theorem sum_shift (f : Fin 384 → EReal) (hf : ∀ j, v j = 0#1 → f j = 0) :
    ∑ j, f j = ∑ j : Fin 272, f (shift j) := by
  have h := Fin.sum_univ_add (a := 112) (b := 272) (fun j : Fin (112 + 272) => f j)
  refine h.trans ?_
  rw [Finset.sum_eq_zero, zero_add]
  · rfl
  · intro i _
    exact hf _ (hv _ (by simp))

theorem le_rowM (k : Fin 384) : Scalar.select (v k) (s k) ⊥ ≤ rowM v s σ :=
  le_max_of_le_left (Finset.le_fold_max _ |>.mpr (Or.inr ⟨k, Finset.mem_univ _, le_rfl⟩))

theorem sink_le_rowM : σ ≤ rowM v s σ := le_max_right _ _

include hs hσ in
theorem rowM_real : IsReal (rowM v s σ) := by
  obtain ⟨r, hr⟩ := hσ
  have hbot : rowM v s σ ≠ ⊥ := by
    intro h
    have := sink_le_rowM (v := v) (s := s) (σ := σ)
    rw [h, hr] at this
    exact absurd (le_bot_iff.mp this) (EReal.coe_ne_bot r)
  have htop : rowM v s σ < ⊤ := by
    refine max_lt ?_ (by rw [hr]; exact EReal.coe_lt_top r)
    rw [Finset.fold_max_lt]
    refine ⟨bot_lt_top, fun k _ => ?_⟩
    rcases bit_cases (v k) with h | h
    · rw [h]; exact bot_lt_top
    · obtain ⟨q, hq⟩ := hs k h
      rw [h, ValueIdx.select_one, hq]
      exact EReal.coe_lt_top q
  exact ⟨(rowM v s σ).toReal, (EReal.coe_toReal htop.ne hbot).symm⟩

include hv in
/-- The reference's largest column is the kernel's. -/
theorem max_eq (M : EReal) (hM : ∀ k, refX (fun j => v (shift j)) (fun j => s (shift j)) σ k ≤ M)
    (hM' : ∀ b, (∀ k, refX (fun j => v (shift j)) (fun j => s (shift j)) σ k ≤ b) → M ≤ b) :
    M = rowM v s σ := by
  refine le_antisymm (hM' _ fun k => ?_) (max_le ?_ ?_)
  · unfold refX
    split
    · exact le_rowM _
    · exact sink_le_rowM
  · rw [Finset.fold_max_le]
    refine ⟨bot_le, fun j _ => ?_⟩
    by_cases hj : (j : ℕ) < 112
    · rw [hv j hj, ValueIdx.select_zero]; exact bot_le
    · have h := hM ⟨j - 112, by omega⟩
      unfold refX at h
      rw [dif_pos (show (j : ℕ) - 112 < 272 by omega)] at h
      have e : shift ⟨(j : ℕ) - 112, by omega⟩ = j := Fin.ext (by simp [shift]; omega)
      simpa only [e] using h
  · have h := hM ⟨272, by omega⟩
    unfold refX at h
    rwa [dif_neg (by simp)] at h

include hs hσ in
/-- The weight of a reference's column is the kernel's. -/
theorem exp_eq (k : Fin 272) :
    Ideal.exp (refX (fun j => v (shift j)) (fun j => s (shift j)) σ ⟨k, by omega⟩ - rowM v s σ) = rowE v s σ (shift k) := by
  obtain ⟨M, hM⟩ := rowM_real hs hσ
  unfold refX rowE
  rw [dif_pos (by simp), hM]
  rcases bit_cases (v (shift k)) with h | h
  · simp only [Fin.eta, h, ValueIdx.select_zero]
    rw [EReal.bot_sub]; rfl
  · simp only [Fin.eta, h, ValueIdx.select_one]

theorem exp_sink : Ideal.exp (refX (fun j => v (shift j)) (fun j => s (shift j)) σ ⟨272, by omega⟩ - rowM v s σ)
    = rowEs v s σ := by
  unfold refX rowEs
  rw [dif_neg (by simp)]

theorem rowE_zero (j : Fin 384) (h : v j = 0#1) : rowE v s σ j = 0 := by
  unfold rowE; rw [h, ValueIdx.select_zero]

include hs hσ in
theorem rowE_real (j : Fin 384) : ∃ r : ℝ, 0 ≤ r ∧ rowE v s σ j = (r : EReal) := by
  obtain ⟨M, hM⟩ := rowM_real hs hσ
  rcases bit_cases (v j) with h | h
  · exact ⟨0, le_rfl, rowE_zero j h⟩
  · obtain ⟨q, hq⟩ := hs j h
    refine ⟨Real.exp (q - M), (Real.exp_pos _).le, ?_⟩
    unfold rowE
    rw [h, ValueIdx.select_one, ValueIdx.select_one, hq, hM, ← EReal.coe_sub]; rfl

include hs hσ in
theorem rowEs_real : ∃ r : ℝ, 0 < r ∧ rowEs v s σ = (r : EReal) := by
  obtain ⟨M, hM⟩ := rowM_real hs hσ
  obtain ⟨q, hq⟩ := hσ
  refine ⟨Real.exp (q - M), Real.exp_pos _, ?_⟩
  unfold rowEs
  rw [hM, hq, ← EReal.coe_sub]; rfl

include hs hσ in
theorem rowDen_real : ∃ r : ℝ, 0 < r ∧ rowDen v s σ = (r : EReal) := by
  choose e he0 he using rowE_real (v := v) (s := s) (σ := σ) hs hσ
  obtain ⟨q, hq0, hq⟩ := rowEs_real hs hσ
  refine ⟨(∑ j, e j) + q, add_pos_of_nonneg_of_pos (Finset.sum_nonneg fun j _ => he0 j) hq0, ?_⟩
  unfold rowDen
  rw [hq, EReal.coe_add, coe_sum]
  simp only [he]

theorem coe_mul_sum {n : ℕ} (c : ℝ) (hc : 0 ≤ c) (f : Fin n → EReal) : (c : EReal) * ∑ i, f i = ∑ i, (c : EReal) * f i := by
  have h0 : (0 : EReal) ≤ c := by exact_mod_cast hc
  induction (Finset.univ : Finset (Fin n)) using Finset.induction_on with
  | empty => simp
  | insert a t ha ih =>
    rw [Finset.sum_insert ha, Finset.sum_insert ha, EReal.left_distrib_of_nonneg_of_ne_top h0 (EReal.coe_ne_top c), ih]

theorem coe_mul_sub (c : ℝ) (hc : 0 ≤ c) (x y : EReal) : (c : EReal) * (x - y) = (c : EReal) * x - (c : EReal) * y := by
  have h0 : (0 : EReal) ≤ c := by exact_mod_cast hc
  rw [sub_eq_add_neg, EReal.left_distrib_of_nonneg_of_ne_top h0 (EReal.coe_ne_top c), mul_neg, ← sub_eq_add_neg]

/-- The sum of the reference's weights, over the columns and the sink, is the kernel's denominator. -/
theorem den_eq (e : Fin 273 → EReal) (he : ∀ k : Fin 272, e ⟨k, by omega⟩ = rowE v s σ (shift k))
    (hes : e ⟨272, by omega⟩ = rowEs v s σ) (hv : ∀ j : Fin 384, (j : ℕ) < 112 → v j = 0#1) :
    ∑ k, e k = rowDen v s σ := by
  have h := Fin.sum_univ_castSucc (n := 272) e
  rw [h]
  unfold rowDen
  rw [sum_shift hv _ fun j hj => rowE_zero j hj]
  congr 1
  · exact Finset.sum_congr rfl fun k _ => he k

/-- The derivative of the softmax at one column: the reference divides twice and sums over all columns,
    the kernel subtracts the mean. -/
theorem ds_eq (hv : ∀ j : Fin 384, (j : ℕ) < 112 → v j = 0#1) (hs : ∀ j, v j = 1#1 → IsReal (s j)) (hσ : IsReal σ)
    (e ct : Fin 273 → EReal) (he : ∀ k : Fin 272, e ⟨k, by omega⟩ = rowE v s σ (shift k))
    (hes : e ⟨272, by omega⟩ = rowEs v s σ) (g : Fin 384 → EReal)
    (hct : ∀ k : Fin 272, v (shift k) = 1#1 → ct ⟨k, by omega⟩ = g (shift k)) (hct0 : ct ⟨272, by omega⟩ = 0) :
    (∀ k : Fin 272, v (shift k) = 1#1 →
      (Ideal.div (ct ⟨k, by omega⟩) (rowDen v s σ)
        + ∑ _x : Fin 1, -(∑ i, ct i * Ideal.div 1 (rowDen v s σ * rowDen v s σ) * e i)) * e ⟨k, by omega⟩
        = rowDS v s σ g (shift k))
    ∧ (Ideal.div (ct ⟨272, by omega⟩) (rowDen v s σ)
        + ∑ _x : Fin 1, -(∑ i, ct i * Ideal.div 1 (rowDen v s σ * rowDen v s σ) * e i)) * e ⟨272, by omega⟩
        = rowDsk v s σ g := by
  obtain ⟨D, hD0, hD⟩ := rowDen_real hs hσ
  have hc : (0 : ℝ) ≤ 1 / D := by positivity
  have hP : ∀ j, rowP v s σ j = ((1 / D : ℝ) : EReal) * rowE v s σ j := fun j => by
    unfold rowP; rw [hD, Ideal.div_coe hD0.ne', mul_comm]
  have hT : (∑ i, ct i * Ideal.div 1 (rowDen v s σ * rowDen v s σ) * e i)
      = ((1 / D : ℝ) : EReal) * rowDelta v s σ g := by
    have h := Fin.sum_univ_castSucc (n := 272) fun i => ct i * Ideal.div 1 (rowDen v s σ * rowDen v s σ) * e i
    rw [h]
    have hl : ct (Fin.last 272) = 0 := hct0
    rw [hl, zero_mul, zero_mul, add_zero]
    unfold rowDelta
    rw [sum_shift hv _ fun j hj => by rw [hP, rowE_zero j hj, mul_zero, zero_mul], coe_mul_sum _ hc]
    refine Finset.sum_congr rfl fun k _ => ?_
    have e1 : e k.castSucc = rowE v s σ (shift k) := he k
    rcases bit_cases (v (shift k)) with h0 | h1
    · rw [e1, hP, rowE_zero _ h0, mul_zero, mul_zero, zero_mul, mul_zero]
    · have e2 : ct k.castSucc = g (shift k) := hct k h1
      rw [e1, e2, hP, hD, ← EReal.coe_mul, Ideal.div_coe (mul_pos hD0 hD0).ne', one_mul]
      rw [show (1 / (D * D) : ℝ) = 1 / D * (1 / D) by field_simp, EReal.coe_mul]
      ac_rfl
  rw [Fin.sum_univ_one, hT]
  refine ⟨fun k h1 => ?_, ?_⟩
  · rw [he k, hct k h1, hD, Ideal.div_coe hD0.ne', ← sub_eq_add_neg, mul_comm (g (shift k)), ← coe_mul_sub _ hc]
    unfold rowDS
    rw [hP]
    ac_rfl
  · rw [hes, hct0, hD, Ideal.div_coe hD0.ne', zero_mul, zero_add]
    unfold rowDsk rowPs
    rw [hD, Ideal.div_coe hD0.ne', zero_sub, neg_mul, neg_mul]
    congr 1
    ac_rfl

theorem rowDS_zero (g : Fin 384 → EReal) (hs : ∀ j, v j = 1#1 → IsReal (s j)) (hσ : IsReal σ) (j : Fin 384) (h : v j = 0#1) :
    rowP v s σ j = 0 ∧ rowDS v s σ g j = 0 := by
  obtain ⟨D, hD0, hD⟩ := rowDen_real hs hσ
  have h0 : rowP v s σ j = 0 := by
    unfold rowP; rw [rowE_zero j h, hD, Ideal.div_coe hD0.ne', zero_mul]
  exact ⟨h0, by unfold rowDS; rw [h0, zero_mul]⟩

end

end Cert.Swa

end
-- ==== Proof.Swa.Spec.lean ====
/- The backward pass of one block of 512 rows (4 heads of 128 queries) over 384 columns (128 meta keys,
   128 keys of the block before and 128 of this block), as plain functions of the block's queries, keys,
   values, cotangents, sinks and mask. -/
module

public import proofs.«01_k».proof.Proof.Swa.Row

@[expose] public section

noncomputable section

namespace Cert.Swa

open Idealize.ShloMosaic

/-- Query `i` of block `n` sees column `j`: the 16 meta keys in causal order, the keys of the block before
    inside the window, and the keys of its own block in causal order. -/
def Visible (n i j : ℕ) : Prop :=
  (j < 128 ∧ 112 ≤ j ∧ (j ≤ i ∨ 0 < n)) ∨ (128 ≤ j ∧ j < 256 ∧ i < j - 128 ∧ 2 ≤ n) ∨ (256 ≤ j ∧ j - 256 ≤ i ∧ 1 ≤ n)

instance (n i j : ℕ) : Decidable (Visible n i j) := by unfold Visible; infer_instance

/-- The mask's bit at row `r` (query `r % 128`) and column `j`. -/
def vis (n : ℕ) (r : Fin 512) (j : Fin 384) : BitVec 1 := BitVec.ofBool (decide (Visible n (r.val % 128) j.val))

theorem vis_pad (n : ℕ) (r : Fin 512) (j : Fin 384) (h : (j : ℕ) < 112) : vis n r j = 0#1 := by
  unfold vis
  rw [decide_eq_false]
  · rfl
  · unfold Visible; omega

/-- The scale of the scores. -/
def c8 : EReal := Ideal.ofBits .f32 1040187392#32

/-- The products of the rows of two tables. -/
def dots (X : Fin 512 → Fin 64 → EReal) (Y : Fin 384 → Fin 64 → EReal) (r : Fin 512) (j : Fin 384) : EReal :=
  ∑ d, X r d * Y j d

section
variable (n : ℕ) (Q D : Fin 512 → Fin 64 → EReal) (K W : Fin 384 → Fin 64 → EReal) (σ : Fin 512 → EReal)

/-- The weights. -/
def attP (r : Fin 512) (j : Fin 384) : EReal := rowP (vis n r) (dots Q K r) (σ r) j
/-- The gradient of the scores. -/
def attDS (r : Fin 512) (j : Fin 384) : EReal := rowDS (vis n r) (dots Q K r) (σ r) (dots D W r) j
/-- The gradient of the queries. -/
def attDQ (r : Fin 512) (d : Fin 64) : EReal := (∑ j, attDS n Q D K W σ r j * K j d) * c8
/-- The gradient of the keys. -/
def attDK (j : Fin 384) (d : Fin 64) : EReal := ∑ r, attDS n Q D K W σ r j * Q r d
/-- The gradient of the values. -/
def attDV (j : Fin 384) (d : Fin 64) : EReal := ∑ r, attP n Q K σ r j * D r d
/-- The gradient of a head's sink. -/
def attDSink (h : Fin 4) : EReal :=
  ∑ r : Fin 512, if r.val / 128 = h.val then rowDsk (vis n r) (dots Q K r) (σ r) (dots D W r) else 0
end

end Cert.Swa

end
-- ==== Proof.Swa.Mask.lean ====
/- The kernel's mask: what its comparisons of row and column numbers come to. -/
module

public import proofs.«01_k».proof.Proof.Gen.KernelIdeal.Skeleton
public import proofs.«01_k».proof.Proof.Swa.Spec
public import Idealize.ShloMosaic.Lib.Pointwise
public import Idealize.ShloMosaic.Lib.WordCmp

@[expose] public section

set_option maxRecDepth 16384

noncomputable section

open Idealize.ShloMosaic Idealize.ShloMosaic.TcCoe Idealize.SL.Sem
namespace Cert.KernelIdeal.Value
open Cert.KernelIdeal Cert.KernelIdeal.Gen Cert.Swa

/-- The column numbers, as both groups' masks start from them. -/
abbrev colIota : IVec S512x384 32 := iota Kind.tc S512x384 32 [1] iota_S512x384_d1_w32
/-- The row numbers of a column. -/
abbrev rowIota : IVec S512x1 32 := iota Kind.tc S512x1 32 [0] iota_S512x1_d0_w32

theorem row0 (r : Fin 512) (j : Fin 384) :
    k0_pay10 (128#32) k0_pay8 k0_pay9 0#32 (ix2 r j) = BitVec.ofNat 32 (r.val % 128) := by
  pointwise [k0_pay10, k0_pay8, k0_pay9]
  revert r; decide +kernel

theorem row1 (r : Fin 512) (j : Fin 384) : k0_pay54 (ix2 r j) = BitVec.ofNat 32 (r.val % 128) := by
  pointwise [k0_pay54]
  revert r; decide +kernel

theorem part0 (r : Fin 512) (j : Fin 384) : k0_pay11 colIota (ix2 r j) = BitVec.ofNat 32 (j.val / 128) := by
  pointwise [k0_pay11]
  revert j; decide +kernel

theorem part1 (r : Fin 512) (j : Fin 384) :
    k0_pay59 k0_pay55 k0_pay56 k0_pay57 k0_pay58 (ix2 r j) = BitVec.ofNat 32 (j.val / 128) := by
  pointwise [k0_pay59, k0_pay55, k0_pay56, k0_pay57, k0_pay58]
  revert j; decide +kernel

theorem col1 (r : Fin 512) (j : Fin 384) : k0_pay60 colIota (ix2 r j) = BitVec.ofNat 32 (j.val % 128) := by
  pointwise [k0_pay60]
  revert j; decide +kernel

/-- Group 0's wrapped column number, as its mask states it in three parts. -/
theorem col0 (r : Fin 512) (j : Fin 384) :
    Scalar.select (IntOp.andi (k0_pay14 colIota (ix2 r j)) (k0_pay13 colIota (ix2 r j)))
      (IntOp.addi (k0_pay12 colIota (ix2 r j)) 128#32) (k0_pay12 colIota (ix2 r j)) = BitVec.ofNat 32 (j.val % 128) := by
  pointwise [k0_pay14, k0_pay13, k0_pay12]
  revert j; decide +kernel

/-- The bits of the mask from the row's query `a`, the column's part `p` and its place `b`. -/
theorem bits (n a p b : ℕ) (hn : n < 2 ^ 31) (ha : a < 128) (hp : p < 3) (hb : b < 128) :
    IntOp.ori (IntOp.ori
      (IntOp.andi (IntOp.andi (IntOp.cmpi .eq (BitVec.ofNat 32 p) 0#32) (IntOp.cmpi .sge (BitVec.ofNat 32 b) 112#32))
        (IntOp.ori (IntOp.cmpi .sle (BitVec.ofNat 32 b) (BitVec.ofNat 32 a)) (IntOp.cmpi .sgt (BitVec.ofNat 32 n) 0#32)))
      (IntOp.andi (IntOp.andi (IntOp.cmpi .eq (BitVec.ofNat 32 p) 1#32) (IntOp.cmpi .sgt (BitVec.ofNat 32 b) (BitVec.ofNat 32 a)))
        (IntOp.cmpi .sge (BitVec.ofNat 32 n) 2#32)))
      (IntOp.andi (IntOp.andi (IntOp.cmpi .eq (BitVec.ofNat 32 p) 2#32) (IntOp.cmpi .sle (BitVec.ofNat 32 b) (BitVec.ofNat 32 a)))
        (IntOp.cmpi .sge (BitVec.ofNat 32 n) 1#32))
      = BitVec.ofBool (decide (Visible n a (128 * p + b))) := by
  have h1 : ∀ q : ℕ, q < 2 ^ 31 → IntOp.cmpi .eq (BitVec.ofNat 32 p) (BitVec.ofNat 32 q) = BitVec.ofBool (decide (p = q)) :=
    fun q hq => WordCmp.cmpi_eq_ofNat (by omega) (by omega)
  rw [h1 0 (by omega), h1 1 (by omega), h1 2 (by omega),
    WordCmp.cmpi_sge_ofNat (a := b) (b := 112) (by omega) (by omega),
    WordCmp.cmpi_sle_ofNat (a := b) (b := a) (by omega) (by omega),
    WordCmp.cmpi_sgt_ofNat (a := b) (b := a) (by omega) (by omega),
    WordCmp.cmpi_sgt_ofNat (a := n) (b := 0) (by omega) (by omega),
    WordCmp.cmpi_sge_ofNat (a := n) (b := 2) (by omega) (by omega),
    WordCmp.cmpi_sge_ofNat (a := n) (b := 1) (by omega) (by omega)]
  simp only [WordCmp.andi_ofBool, WordCmp.ori_ofBool]
  congr 1
  rw [Bool.eq_iff_iff]
  simp only [Bool.or_eq_true, Bool.and_eq_true, decide_eq_true_eq]
  unfold Visible
  omega

theorem bits_at (n : ℕ) (hn : n < 2 ^ 31) (r : Fin 512) (j : Fin 384) :
    BitVec.ofBool (decide (Visible n (r.val % 128) (128 * (j.val / 128) + j.val % 128))) = vis n r j := by
  rw [Nat.div_add_mod]; rfl

/-- Group 0's mask. -/
theorem mask0 (n : ℕ) (hn : n < 2 ^ 31) (r : Fin 512) (j : Fin 384) :
    k0_pay15 (BitVec.ofNat 32 n) (k0_pay10 (128#32) k0_pay8 k0_pay9 0#32) (k0_pay11 colIota) (128#32) (k0_pay12 colIota)
      (k0_pay13 colIota) (k0_pay14 colIota) (ix2 r j) = vis n r j := by
  pointwise [k0_pay15]
  rw [col0, row0, part0]
  exact (bits n _ _ _ hn (by omega) (by omega) (by omega)).trans (bits_at n hn r j)

/-- Group 1's mask. -/
theorem mask1 (n : ℕ) (hn : n < 2 ^ 31) (r : Fin 512) (j : Fin 384) :
    k0_pay63 (k0_pay61 (BitVec.ofNat 32 n) colIota k0_pay54 k0_pay55 k0_pay56 k0_pay57 k0_pay58)
      (k0_pay62 (BitVec.ofNat 32 n) colIota k0_pay54 k0_pay55 k0_pay56 k0_pay57 k0_pay58) (ix2 r j) = vis n r j := by
  pointwise [k0_pay63, k0_pay61, k0_pay62]
  rw [col1, row1, part1]
  exact (bits n _ _ _ hn (by omega) (by omega) (by omega)).trans (bits_at n hn r j)

/-- The row's head, as group 0 computes it. -/
theorem grp0 (r : Fin 512) : k0_pay19 rowIota k0_pay16 k0_pay17 k0_pay18 (ix2 r 0) = BitVec.ofNat 32 (r.val / 128) := by
  pointwise [k0_pay19, k0_pay16, k0_pay17, k0_pay18]
  revert r; decide +kernel

/-- The row's head, as group 1 computes it. -/
theorem grp1 (r : Fin 512) : k0_pay64 (ix2 r 0) = BitVec.ofNat 32 (r.val / 128) := by
  pointwise [k0_pay64]
  revert r; decide +kernel

end Cert.KernelIdeal.Value

end
-- ==== Proof.Swa.Pay.lean ====
/- What one grid point of the kernel computes for one group of four heads, read at an index: the specification's
   values of the tables that the group's pieces of queries, keys, values, cotangents and sinks make up. -/
module

public import proofs.«01_k».proof.Proof.Swa.Mask

@[expose] public section

set_option maxRecDepth 16384

noncomputable section

open Idealize.ShloMosaic Idealize.ShloMosaic.TcCoe Idealize.SL.Sem
namespace Cert.KernelIdeal.Value
open Cert.KernelIdeal Cert.KernelIdeal.Gen Cert.Swa

/-- A block of 128 rows and 64 columns. -/
abbrev Piece : Type := FVec Ideal S128x64 .f32

/-- Four pieces on top of one another. -/
def cat4 (a b c d : Piece) (r : Fin 512) (x : Fin 64) : EReal :=
  if h : r.val < 128 then a (ix2 ⟨r.val, h⟩ x)
  else if h : r.val - 128 < 128 then b (ix2 ⟨r.val - 128, h⟩ x)
  else if h : r.val - 128 - 128 < 128 then c (ix2 ⟨r.val - 128 - 128, h⟩ x)
  else d (ix2 ⟨r.val - 128 - 128 - 128, by omega⟩ x)

/-- Three pieces on top of one another. -/
def cat3 (a b c : Piece) (r : Fin 384) (x : Fin 64) : EReal :=
  if h : r.val < 128 then a (ix2 ⟨r.val, h⟩ x)
  else if h : r.val - 128 < 128 then b (ix2 ⟨r.val - 128, h⟩ x)
  else c (ix2 ⟨r.val - 128 - 128, by omega⟩ x)

/-- The sink of a row's head. -/
def sel4 (s0 s1 s2 s3 : EReal) (r : Fin 512) : EReal :=
  if r.val / 128 = 3 then s3 else if r.val / 128 = 2 then s2 else if r.val / 128 = 1 then s1 else s0

theorem grp_eq (r : Fin 512) (h : ℕ) (hh : h < 4) :
    IntOp.cmpi .eq (BitVec.ofNat 32 (r.val / 128)) (BitVec.ofNat 32 h) = BitVec.ofBool (decide (r.val / 128 = h)) :=
  WordCmp.cmpi_eq_ofNat (by omega) (by omega)

theorem sel_eq (r : Fin 512) (s0 s1 s2 s3 : EReal) :
    Scalar.select (IntOp.cmpi .eq (BitVec.ofNat 32 (r.val / 128)) 3#32) s3
      (Scalar.select (IntOp.cmpi .eq (BitVec.ofNat 32 (r.val / 128)) 2#32) s2
        (Scalar.select (IntOp.cmpi .eq (BitVec.ofNat 32 (r.val / 128)) 1#32) s1
          (Scalar.select (IntOp.cmpi .eq (BitVec.ofNat 32 (r.val / 128)) 0#32) s0 0))) = sel4 s0 s1 s2 s3 r := by
  rw [grp_eq r 3 (by omega), grp_eq r 2 (by omega), grp_eq r 1 (by omega), grp_eq r 0 (by omega)]
  simp only [WordCmp.select_decide]
  unfold sel4
  split_ifs <;> first | rfl | omega

/-- The mask's constant is `⊥`. -/
theorem mask_bot : (Named.named (F := Ideal) κ "mask" (φ := .f32) 4048155338#32 : EReal) = ⊥ :=
  IdealRules.named_const.ideal_named_scalar _ _ _ _ rfl

theorem ninf_bot : Ideal.ofBits .f32 4286578688#32 = ⊥ := by
  simp [Ideal.ofBits, Ideal.ieee]

theorem zero_ofBits : Ideal.ofBits .f32 0#32 = (0 : EReal) := by
  simp [Ideal.ofBits, Ideal.ieee]

section Group0
variable (q0 q1 q2 q3 k0 k1 k2 w0 w1 w2 d0 d1 d2 d3 : Piece) (s0 s1 s2 s3 : EReal) (n : ℕ)

abbrev mask0V (n : ℕ) : IVec S512x384 1 :=
  k0_pay15 (BitVec.ofNat 32 n) (k0_pay10 (128#32) k0_pay8 k0_pay9 0#32) (k0_pay11 colIota) (128#32) (k0_pay12 colIota)
      (k0_pay13 colIota) (k0_pay14 colIota)
abbrev sc0V : FVec Ideal S512x384 .f32 := k0_pay7 q0 q1 q2 q3 k0 k1 k2
abbrev e0V : FVec Ideal S512x384 .f32 :=
  k0_pay22 (F := Ideal) (sc0V q0 q1 q2 q3 k0 k1 k2) (mask0V n) rowIota k0_pay16 k0_pay17 k0_pay18 s0 s1 s2 s3
abbrev es0V : FVec Ideal S512x1 .f32 :=
  k0_pay23 (F := Ideal) (sc0V q0 q1 q2 q3 k0 k1 k2) (mask0V n) rowIota k0_pay16 k0_pay17 k0_pay18 s0 s1 s2 s3
abbrev sum0V : FVec Ideal S512x1 .f32 :=
  k0_pay24 (F := Ideal) (sc0V q0 q1 q2 q3 k0 k1 k2) (mask0V n) rowIota k0_pay16 k0_pay17 k0_pay18 s0 s1 s2 s3

/-- The scaled queries. -/
abbrev qT (r : Fin 512) (x : Fin 64) : EReal := cat4 q0 q1 q2 q3 r x * c8

theorem sc0 (r : Fin 512) (j : Fin 384) :
    (sc0V q0 q1 q2 q3 k0 k1 k2) (ix2 r j) = dots (qT q0 q1 q2 q3) (cat3 k0 k1 k2) r j := by
  pointwise [k0_pay7, k0_pay4, k0_pay5]
  rfl

theorem sink0 (r : Fin 512) :
    k0_pay20 (F := Ideal) rowIota k0_pay16 k0_pay17 k0_pay18 s0 s1 s2 s3 (ix2 r 0) = sel4 s0 s1 s2 s3 r := by
  pointwise [k0_pay20]
  rw [grp0]
  exact sel_eq r s0 s1 s2 s3

theorem m0 (hn : n < 2 ^ 31) (r : Fin 512) :
    k0_pay21 (F := Ideal) (sc0V q0 q1 q2 q3 k0 k1 k2) (mask0V n) rowIota k0_pay16 k0_pay17 k0_pay18 s0 s1 s2 s3 (ix2 r 0)
      = rowM (vis n r) (dots (qT q0 q1 q2 q3) (cat3 k0 k1 k2) r) (sel4 s0 s1 s2 s3 r) := by
  pointwise [k0_pay21]
  rw [sink0, ninf_bot, mask_bot]
  simp only [mask0 n hn, sc0]
  rfl

theorem e0 (hn : n < 2 ^ 31) (r : Fin 512) (j : Fin 384) :
    e0V q0 q1 q2 q3 k0 k1 k2 s0 s1 s2 s3 n (ix2 r j)
      = rowE (vis n r) (dots (qT q0 q1 q2 q3) (cat3 k0 k1 k2) r) (sel4 s0 s1 s2 s3 r) j := by
  pointwise [k0_pay22]
  rw [m0 _ _ _ _ _ _ _ _ _ _ _ n hn, sc0]
  simp only [mask0 n hn]
  rfl

theorem es0 (hn : n < 2 ^ 31) (r : Fin 512) :
    es0V q0 q1 q2 q3 k0 k1 k2 s0 s1 s2 s3 n (ix2 r 0)
      = rowEs (vis n r) (dots (qT q0 q1 q2 q3) (cat3 k0 k1 k2) r) (sel4 s0 s1 s2 s3 r) := by
  pointwise [k0_pay23]
  rw [m0 _ _ _ _ _ _ _ _ _ _ _ n hn, sink0]
  rfl

theorem sum0 (hn : n < 2 ^ 31) (r : Fin 512) :
    sum0V q0 q1 q2 q3 k0 k1 k2 s0 s1 s2 s3 n (ix2 r 0)
      = ∑ j, rowE (vis n r) (dots (qT q0 q1 q2 q3) (cat3 k0 k1 k2) r) (sel4 s0 s1 s2 s3 r) j := by
  pointwise [k0_pay24]
  exact Finset.sum_congr rfl fun j _ => e0 _ _ _ _ _ _ _ _ _ _ _ n hn r j

theorem p0 (hn : n < 2 ^ 31) (r : Fin 512) (j : Fin 384) :
    k0_pay26 (F := Ideal) (e0V q0 q1 q2 q3 k0 k1 k2 s0 s1 s2 s3 n) (es0V q0 q1 q2 q3 k0 k1 k2 s0 s1 s2 s3 n)
      (sum0V q0 q1 q2 q3 k0 k1 k2 s0 s1 s2 s3 n) (ix2 r j)
      = attP n (qT q0 q1 q2 q3) (cat3 k0 k1 k2) (sel4 s0 s1 s2 s3) r j := by
  pointwise [k0_pay26, k0_pay25]
  rw [e0 _ _ _ _ _ _ _ _ _ _ _ n hn, es0 _ _ _ _ _ _ _ _ _ _ _ n hn, sum0 _ _ _ _ _ _ _ _ _ _ _ n hn]
  rfl

theorem dP0 (r : Fin 512) (j : Fin 384) :
    k0_pay28 (F := Ideal) (k0_pay6 w0 w1 w2) d0 d1 d2 d3 (ix2 r j) = dots (cat4 d0 d1 d2 d3) (cat3 w0 w1 w2) r j := by
  pointwise [k0_pay28, k0_pay27, k0_pay6]
  rfl

theorem delta0 (hn : n < 2 ^ 31) (r : Fin 512) :
    k0_pay29 (F := Ideal) (k0_pay6 w0 w1 w2) (e0V q0 q1 q2 q3 k0 k1 k2 s0 s1 s2 s3 n) (es0V q0 q1 q2 q3 k0 k1 k2 s0 s1 s2 s3 n)
      (sum0V q0 q1 q2 q3 k0 k1 k2 s0 s1 s2 s3 n) d0 d1 d2 d3 (ix2 r 0)
      = rowDelta (vis n r) (dots (qT q0 q1 q2 q3) (cat3 k0 k1 k2) r) (sel4 s0 s1 s2 s3 r)
          (dots (cat4 d0 d1 d2 d3) (cat3 w0 w1 w2) r) := by
  pointwise [k0_pay29]
  exact Finset.sum_congr rfl fun j _ => by
    rw [p0 _ _ _ _ _ _ _ _ _ _ _ n hn, dP0]; rfl

theorem dS0 (hn : n < 2 ^ 31) (r : Fin 512) (j : Fin 384) :
    k0_pay30 (F := Ideal) (k0_pay6 w0 w1 w2) (e0V q0 q1 q2 q3 k0 k1 k2 s0 s1 s2 s3 n) (es0V q0 q1 q2 q3 k0 k1 k2 s0 s1 s2 s3 n)
      (sum0V q0 q1 q2 q3 k0 k1 k2 s0 s1 s2 s3 n) d0 d1 d2 d3 (ix2 r j)
      = attDS n (qT q0 q1 q2 q3) (cat4 d0 d1 d2 d3) (cat3 k0 k1 k2) (cat3 w0 w1 w2) (sel4 s0 s1 s2 s3) r j := by
  pointwise [k0_pay30]
  rw [p0 _ _ _ _ _ _ _ _ _ _ _ n hn, dP0, delta0 _ _ _ _ _ _ _ _ _ _ _ _ _ _ _ _ _ _ n hn]
  rfl

theorem dQ0 (hn : n < 2 ^ 31) (r : Fin 512) (x : Fin 64) :
    k0_pay31 (F := Ideal) (k0_pay5 k0 k1 k2) (k0_pay6 w0 w1 w2) (e0V q0 q1 q2 q3 k0 k1 k2 s0 s1 s2 s3 n)
      (es0V q0 q1 q2 q3 k0 k1 k2 s0 s1 s2 s3 n) (sum0V q0 q1 q2 q3 k0 k1 k2 s0 s1 s2 s3 n) d0 d1 d2 d3 (ix2 r x)
      = attDQ n (qT q0 q1 q2 q3) (cat4 d0 d1 d2 d3) (cat3 k0 k1 k2) (cat3 w0 w1 w2) (sel4 s0 s1 s2 s3) r x := by
  pointwise [k0_pay31, k0_pay5]
  simp only [dS0 _ _ _ _ _ _ _ _ _ _ _ _ _ _ _ _ _ _ n hn]
  rfl

theorem dK0 (hn : n < 2 ^ 31) (j : Fin 384) (x : Fin 64) :
    k0_pay32 (F := Ideal) (k0_pay4 q0 q1 q2 q3) (k0_pay6 w0 w1 w2) (e0V q0 q1 q2 q3 k0 k1 k2 s0 s1 s2 s3 n)
      (es0V q0 q1 q2 q3 k0 k1 k2 s0 s1 s2 s3 n) (sum0V q0 q1 q2 q3 k0 k1 k2 s0 s1 s2 s3 n) d0 d1 d2 d3 (ix2 j x)
      = attDK n (qT q0 q1 q2 q3) (cat4 d0 d1 d2 d3) (cat3 k0 k1 k2) (cat3 w0 w1 w2) (sel4 s0 s1 s2 s3) j x := by
  pointwise [k0_pay32, k0_pay4]
  simp only [dS0 _ _ _ _ _ _ _ _ _ _ _ _ _ _ _ _ _ _ n hn]
  rfl

theorem dV0 (hn : n < 2 ^ 31) (j : Fin 384) (x : Fin 64) :
    k0_pay33 (F := Ideal) (e0V q0 q1 q2 q3 k0 k1 k2 s0 s1 s2 s3 n)
      (es0V q0 q1 q2 q3 k0 k1 k2 s0 s1 s2 s3 n) (sum0V q0 q1 q2 q3 k0 k1 k2 s0 s1 s2 s3 n) d0 d1 d2 d3 (ix2 j x)
      = attDV n (qT q0 q1 q2 q3) (cat4 d0 d1 d2 d3) (cat3 k0 k1 k2) (sel4 s0 s1 s2 s3) j x := by
  pointwise [k0_pay33, k0_pay27]
  simp only [p0 _ _ _ _ _ _ _ _ _ _ _ n hn]
  rfl

theorem dsk0 (hn : n < 2 ^ 31) (r : Fin 512) :
    k0_pay34 (F := Ideal) (k0_pay6 w0 w1 w2) (e0V q0 q1 q2 q3 k0 k1 k2 s0 s1 s2 s3 n) (es0V q0 q1 q2 q3 k0 k1 k2 s0 s1 s2 s3 n)
      (sum0V q0 q1 q2 q3 k0 k1 k2 s0 s1 s2 s3 n) d0 d1 d2 d3 (ix2 r 0)
      = rowDsk (vis n r) (dots (qT q0 q1 q2 q3) (cat3 k0 k1 k2) r) (sel4 s0 s1 s2 s3 r)
          (dots (cat4 d0 d1 d2 d3) (cat3 w0 w1 w2) r) := by
  pointwise [k0_pay34, k0_pay25]
  rw [delta0 _ _ _ _ _ _ _ _ _ _ _ _ _ _ _ _ _ _ n hn, es0 _ _ _ _ _ _ _ _ _ _ _ n hn, sum0 _ _ _ _ _ _ _ _ _ _ _ n hn]
  rfl

end Group0

section Group1
variable (q0 q1 q2 q3 k0 k1 k2 w0 w1 w2 d0 d1 d2 d3 : Piece) (s0 s1 s2 s3 : EReal) (n : ℕ)

abbrev mask1V (n : ℕ) : IVec S512x384 1 :=
  k0_pay63 (k0_pay61 (BitVec.ofNat 32 n) colIota k0_pay54 k0_pay55 k0_pay56 k0_pay57 k0_pay58)
      (k0_pay62 (BitVec.ofNat 32 n) colIota k0_pay54 k0_pay55 k0_pay56 k0_pay57 k0_pay58)
abbrev sc1V : FVec Ideal S512x384 .f32 := k0_pay53 (k0_pay50 q0 q1 q2 q3) (k0_pay51 k0 k1 k2)

theorem sc1 (r : Fin 512) (j : Fin 384) :
    (sc1V q0 q1 q2 q3 k0 k1 k2) (ix2 r j) = dots (qT q0 q1 q2 q3) (cat3 k0 k1 k2) r j := by
  pointwise [k0_pay53, k0_pay50, k0_pay51]
  rfl

theorem sink1 (r : Fin 512) :
    k0_pay67 (F := Ideal) (k0_pay65 s0 s1 s2) k0_pay66 s3 (ix2 r 0) = sel4 s0 s1 s2 s3 r := by
  pointwise [k0_pay67, k0_pay65, k0_pay66]
  rw [grp1]
  exact sel_eq r s0 s1 s2 s3

theorem m1 (hn : n < 2 ^ 31) (r : Fin 512) :
    k0_pay68 (F := Ideal) (sc1V q0 q1 q2 q3 k0 k1 k2) (mask1V n) (k0_pay65 s0 s1 s2) k0_pay66 s3 (ix2 r 0)
      = rowM (vis n r) (dots (qT q0 q1 q2 q3) (cat3 k0 k1 k2) r) (sel4 s0 s1 s2 s3 r) := by
  pointwise [k0_pay68]
  rw [sink1, ninf_bot, mask_bot]
  simp only [mask1 n hn, sc1]
  rfl

theorem e1 (hn : n < 2 ^ 31) (r : Fin 512) (j : Fin 384) :
    k0_pay69 (F := Ideal) (sc1V q0 q1 q2 q3 k0 k1 k2) (mask1V n) (k0_pay65 s0 s1 s2) k0_pay66 s3 (ix2 r j)
      = rowE (vis n r) (dots (qT q0 q1 q2 q3) (cat3 k0 k1 k2) r) (sel4 s0 s1 s2 s3 r) j := by
  pointwise [k0_pay69]
  rw [m1 _ _ _ _ _ _ _ _ _ _ _ n hn, sc1]
  simp only [mask1 n hn]
  rfl

theorem es1 (hn : n < 2 ^ 31) (r : Fin 512) :
    k0_pay70 (F := Ideal) (sc1V q0 q1 q2 q3 k0 k1 k2) (mask1V n) (k0_pay65 s0 s1 s2) k0_pay66 s3 (ix2 r 0)
      = rowEs (vis n r) (dots (qT q0 q1 q2 q3) (cat3 k0 k1 k2) r) (sel4 s0 s1 s2 s3 r) := by
  pointwise [k0_pay70]
  rw [m1 _ _ _ _ _ _ _ _ _ _ _ n hn, sink1]
  rfl

theorem den1 (hn : n < 2 ^ 31) (r : Fin 512) :
    k0_pay71 (F := Ideal) (sc1V q0 q1 q2 q3 k0 k1 k2) (mask1V n) (k0_pay65 s0 s1 s2) k0_pay66 s3 (ix2 r 0)
      = rowDen (vis n r) (dots (qT q0 q1 q2 q3) (cat3 k0 k1 k2) r) (sel4 s0 s1 s2 s3 r) := by
  pointwise [k0_pay71]
  rw [es1 _ _ _ _ _ _ _ _ _ _ _ n hn]
  simp only [e1 _ _ _ _ _ _ _ _ _ _ _ n hn]
  rfl

theorem p1 (hn : n < 2 ^ 31) (r : Fin 512) (j : Fin 384) :
    k0_pay72 (F := Ideal) (sc1V q0 q1 q2 q3 k0 k1 k2) (mask1V n) (k0_pay65 s0 s1 s2) k0_pay66 s3 (ix2 r j)
      = attP n (qT q0 q1 q2 q3) (cat3 k0 k1 k2) (sel4 s0 s1 s2 s3) r j := by
  pointwise [k0_pay72]
  rw [e1 _ _ _ _ _ _ _ _ _ _ _ n hn, den1 _ _ _ _ _ _ _ _ _ _ _ n hn]
  rfl

theorem dP1 (r : Fin 512) (j : Fin 384) :
    k0_pay75 (F := Ideal) (k0_pay52 w0 w1 w2) d0 d1 d2 d3 (ix2 r j) = dots (cat4 d0 d1 d2 d3) (cat3 w0 w1 w2) r j := by
  pointwise [k0_pay75, k0_pay74, k0_pay52]
  rfl

theorem delta1 (hn : n < 2 ^ 31) (r : Fin 512) :
    k0_pay76 (F := Ideal) (k0_pay52 w0 w1 w2) (sc1V q0 q1 q2 q3 k0 k1 k2) (mask1V n) (k0_pay65 s0 s1 s2) k0_pay66 s3
      d0 d1 d2 d3 (ix2 r 0)
      = rowDelta (vis n r) (dots (qT q0 q1 q2 q3) (cat3 k0 k1 k2) r) (sel4 s0 s1 s2 s3 r)
          (dots (cat4 d0 d1 d2 d3) (cat3 w0 w1 w2) r) := by
  pointwise [k0_pay76]
  exact Finset.sum_congr rfl fun j _ => by
    rw [p1 _ _ _ _ _ _ _ _ _ _ _ n hn, dP1]; rfl

theorem dS1 (hn : n < 2 ^ 31) (r : Fin 512) (j : Fin 384) :
    k0_pay77 (F := Ideal) (k0_pay52 w0 w1 w2) (sc1V q0 q1 q2 q3 k0 k1 k2) (mask1V n) (k0_pay65 s0 s1 s2) k0_pay66 s3
      d0 d1 d2 d3 (ix2 r j)
      = attDS n (qT q0 q1 q2 q3) (cat4 d0 d1 d2 d3) (cat3 k0 k1 k2) (cat3 w0 w1 w2) (sel4 s0 s1 s2 s3) r j := by
  pointwise [k0_pay77]
  rw [p1 _ _ _ _ _ _ _ _ _ _ _ n hn, dP1, delta1 _ _ _ _ _ _ _ _ _ _ _ _ _ _ _ _ _ _ n hn]
  rfl

theorem dQ1 (hn : n < 2 ^ 31) (r : Fin 512) (x : Fin 64) :
    k0_pay78 (F := Ideal) (k0_pay51 k0 k1 k2) (k0_pay52 w0 w1 w2) (sc1V q0 q1 q2 q3 k0 k1 k2) (mask1V n)
      (k0_pay65 s0 s1 s2) k0_pay66 s3 d0 d1 d2 d3 (ix2 r x)
      = attDQ n (qT q0 q1 q2 q3) (cat4 d0 d1 d2 d3) (cat3 k0 k1 k2) (cat3 w0 w1 w2) (sel4 s0 s1 s2 s3) r x := by
  pointwise [k0_pay78, k0_pay51]
  simp only [dS1 _ _ _ _ _ _ _ _ _ _ _ _ _ _ _ _ _ _ n hn]
  rfl

theorem dK1 (hn : n < 2 ^ 31) (j : Fin 384) (x : Fin 64) :
    k0_pay80 (F := Ideal) (k0_pay50 q0 q1 q2 q3) (k0_pay79 (k0_pay52 w0 w1 w2) (sc1V q0 q1 q2 q3 k0 k1 k2) (mask1V n)
      (k0_pay65 s0 s1 s2) k0_pay66 s3 d0 d1 d2 d3) (ix2 j x)
      = attDK n (qT q0 q1 q2 q3) (cat4 d0 d1 d2 d3) (cat3 k0 k1 k2) (cat3 w0 w1 w2) (sel4 s0 s1 s2 s3) j x := by
  pointwise [k0_pay80, k0_pay79, k0_pay50]
  simp only [dS1 _ _ _ _ _ _ _ _ _ _ _ _ _ _ _ _ _ _ n hn]
  rfl

theorem dV1 (hn : n < 2 ^ 31) (j : Fin 384) (x : Fin 64) :
    k0_pay81 (F := Ideal) (k0_pay72 (sc1V q0 q1 q2 q3 k0 k1 k2) (mask1V n) (k0_pay65 s0 s1 s2) k0_pay66 s3)
      (k0_pay74 d0 d1 d2 d3) (ix2 j x)
      = attDV n (qT q0 q1 q2 q3) (cat4 d0 d1 d2 d3) (cat3 k0 k1 k2) (sel4 s0 s1 s2 s3) j x := by
  pointwise [k0_pay81, k0_pay74]
  simp only [p1 _ _ _ _ _ _ _ _ _ _ _ n hn]
  rfl

theorem dsk1 (hn : n < 2 ^ 31) (r : Fin 512) :
    k0_pay82 (F := Ideal) (k0_pay73 (sc1V q0 q1 q2 q3 k0 k1 k2) (mask1V n) (k0_pay65 s0 s1 s2) k0_pay66 s3)
      (k0_pay76 (k0_pay52 w0 w1 w2) (sc1V q0 q1 q2 q3 k0 k1 k2) (mask1V n) (k0_pay65 s0 s1 s2) k0_pay66 s3
      d0 d1 d2 d3) (ix2 r 0)
      = rowDsk (vis n r) (dots (qT q0 q1 q2 q3) (cat3 k0 k1 k2) r) (sel4 s0 s1 s2 s3 r)
          (dots (cat4 d0 d1 d2 d3) (cat3 w0 w1 w2) r) := by
  pointwise [k0_pay82, k0_pay73]
  rw [delta1 _ _ _ _ _ _ _ _ _ _ _ _ _ _ _ _ _ _ n hn, es1 _ _ _ _ _ _ _ _ _ _ _ n hn, den1 _ _ _ _ _ _ _ _ _ _ _ n hn]
  rfl

end Group1

/-! ### The rows of sink gradients -/

section Sinks
variable (g : IVec S512x1 32) (hg : ∀ r : Fin 512, g (ix2 r 0) = BitVec.ofNat 32 (r.val / 128))
  (f : Fin 512 → EReal)

include hg in
theorem sum_sel (w : FVec Ideal S512x1 .f32) (hw : ∀ r : Fin 512, (w (ix2 r 0) : EReal) = f r) (h : Fin 4) :
    (∑ x : Fin 512, Scalar.select (IntOp.cmpi .eq (g (ix2 x 0)) (BitVec.ofNat 32 h.val)) (w (ix2 x 0) : EReal) 0)
      = ∑ r : Fin 512, if r.val / 128 = h.val then f r else 0 :=
  Finset.sum_congr rfl fun r _ => by
    rw [hg, hw, grp_eq r h.val h.isLt, WordCmp.select_decide]

include hg in
theorem rows0 (w : FVec Ideal S512x1 .f32) (hw : ∀ r : Fin 512, (w (ix2 r 0) : EReal) = f r) (x : Fin 128) :
    (k0_pay39 (F := Ideal) g w (ix2 0 x) : EReal) = (∑ r : Fin 512, if r.val / 128 = 1 then f r else 0)
    ∧ (k0_pay41 (F := Ideal) g w (ix2 0 x) : EReal) = (∑ r : Fin 512, if r.val / 128 = 2 then f r else 0)
    ∧ (k0_pay43 (F := Ideal) g w (ix2 0 x) : EReal) = (∑ r : Fin 512, if r.val / 128 = 3 then f r else 0) := by
  refine ⟨?_, ?_, ?_⟩
  · pointwise [k0_pay39]; exact sum_sel g hg f w hw 1
  · pointwise [k0_pay41]; exact sum_sel g hg f w hw 2
  · pointwise [k0_pay43]; exact sum_sel g hg f w hw 3

include hg in
theorem row0_0 (v17 : FVec Ideal S384x64 .f32) (v162 : FVec Ideal S512x384 .f32) (v164 v166 : FVec Ideal S512x1 .f32)
    (d0 d1 d2 d3 : Piece)
    (hw : ∀ r : Fin 512, (k0_pay34 (F := Ideal) v17 v162 v164 v166 d0 d1 d2 d3 (ix2 r 0) : EReal) = f r) (x : Fin 128) :
    (k0_pay37 (F := Ideal) (k0_pay36 v17 g v162 v164 v166 d0 d1 d2 d3) (ix2 0 x) : EReal)
      = ∑ r : Fin 512, if r.val / 128 = 0 then f r else 0 := by
  pointwise [k0_pay37, k0_pay36]
  exact sum_sel g hg f _ hw 0

include hg in
theorem rows1 (u v : FVec Ideal S512x1 .f32) (hw : ∀ r : Fin 512, (k0_pay82 (F := Ideal) u v (ix2 r 0) : EReal) = f r) (x : Fin 128) :
    (k0_pay84 (F := Ideal) g u v (ix2 0 x) : EReal) = (∑ r : Fin 512, if r.val / 128 = 0 then f r else 0)
    ∧ (k0_pay86 (F := Ideal) g u v (ix2 0 x) : EReal) = (∑ r : Fin 512, if r.val / 128 = 1 then f r else 0)
    ∧ (k0_pay88 (F := Ideal) g u v (ix2 0 x) : EReal) = (∑ r : Fin 512, if r.val / 128 = 2 then f r else 0) := by
  refine ⟨?_, ?_, ?_⟩
  · pointwise [k0_pay84]; exact sum_sel g hg f _ hw 0
  · pointwise [k0_pay86]; exact sum_sel g hg f _ hw 1
  · pointwise [k0_pay88]; exact sum_sel g hg f _ hw 2

include hg in
/-- The eight rows that a grid point adds to the sinks' gradient. -/
theorem rows (r0 r1 r2 r3 r4 r5 r6 : FVec Ideal S1x128 .f32) (w : FVec Ideal S512x1 .f32)
    (hw : ∀ r : Fin 512, (w (ix2 r 0) : EReal) = f r) (G : Fin 8 → EReal)
    (h0 : ∀ x, (r0 (ix2 0 x) : EReal) = G 0) (h1 : ∀ x, (r1 (ix2 0 x) : EReal) = G 1) (h2 : ∀ x, (r2 (ix2 0 x) : EReal) = G 2)
    (h3 : ∀ x, (r3 (ix2 0 x) : EReal) = G 3) (h4 : ∀ x, (r4 (ix2 0 x) : EReal) = G 4) (h5 : ∀ x, (r5 (ix2 0 x) : EReal) = G 5)
    (h6 : ∀ x, (r6 (ix2 0 x) : EReal) = G 6) (h7 : (∑ r : Fin 512, if r.val / 128 = 3 then f r else 0) = G 7)
    (p : FVec Ideal S8x128 .f32) (h : Fin 8) (x : Fin 128) :
    (k0_pay1 (F := Ideal) (k0_pay96 p) (k0_pay97 r0 r1 r2 r3 g w r4 r5 r6) (ix2 h x) : EReal) = p (ix2 h x) + G h := by
  have key : (k0_pay97 (F := Ideal) r0 r1 r2 r3 g w r4 r5 r6 (ix2 h x) : EReal) = G h := by
    fin_cases h
    · pointwise [k0_pay97]; exact h0 x
    · pointwise [k0_pay97]; exact h1 x
    · pointwise [k0_pay97]; exact h2 x
    · pointwise [k0_pay97]; exact h3 x
    · pointwise [k0_pay97]; exact h4 x
    · pointwise [k0_pay97]; exact h5 x
    · pointwise [k0_pay97]; exact h6 x
    · pointwise [k0_pay97]; exact (sum_sel g hg f w hw 3).trans h7
  pointwise [k0_pay1, k0_pay96]
  rw [key]

end Sinks

end Cert.KernelIdeal.Value

end
-- ==== Proof.Swa.Tables.lean ====
/- The tables of queries, keys, values, cotangents and sinks that belong to block `n` and key head `kv`, read
   off the call's three arrays, and what the call returns of them. -/
module

public import proofs.«01_k».proof.Proof.Swa.Spec

@[expose] public section

noncomputable section

namespace Cert.Swa

open Idealize.ShloMosaic

/-- The row of the array that holds key column `j` of block `n`. -/
def keyRow (n : Fin 65) (j : Fin 384) : Fin 8320 :=
  if j.val < 128 then ⟨j.val, by omega⟩ else if j.val < 256 then ⟨128 * (n.val - 1) + (j.val - 128), by omega⟩
  else ⟨128 * n.val + (j.val - 256), by omega⟩

section
variable (A : Fin 8320 → Fin 2304 → EReal) (s : Fin 8 → EReal) (D : Fin 8320 → Fin 1024 → EReal) (n : Fin 65) (kv : Fin 2)

/-- The queries of the group's four heads. -/
def gQ0 (r : Fin 512) (x : Fin 64) : EReal :=
  A ⟨128 * n.val + r.val % 128, by omega⟩ ⟨256 * kv.val + 64 * (r.val / 128) + x.val, by omega⟩
/-- The scaled queries. -/
def gQ (r : Fin 512) (x : Fin 64) : EReal := gQ0 A n kv r x * c8
/-- The cotangents of the group's outputs. -/
def gD (r : Fin 512) (x : Fin 64) : EReal :=
  D ⟨128 * n.val + r.val % 128, by omega⟩ ⟨256 * kv.val + 64 * (r.val / 128) + x.val, by omega⟩
/-- The keys. -/
def gK (j : Fin 384) (x : Fin 64) : EReal := A (keyRow n j) ⟨512 + 64 * kv.val + x.val, by omega⟩
/-- The values. -/
def gV (j : Fin 384) (x : Fin 64) : EReal := A (keyRow n j) ⟨640 + 64 * kv.val + x.val, by omega⟩
/-- The sinks. -/
def gS (r : Fin 512) : EReal := s ⟨4 * kv.val + r.val / 128, by omega⟩

/-- The gradient of the queries of block `n`. -/
def oDQ (r : Fin 512) (x : Fin 64) : EReal := attDQ n.val (gQ A n kv) (gD D n kv) (gK A n kv) (gV A n kv) (gS s kv) r x
/-- Block `n`'s part of the gradient of the keys. -/
def oDK (j : Fin 384) (x : Fin 64) : EReal := attDK n.val (gQ A n kv) (gD D n kv) (gK A n kv) (gV A n kv) (gS s kv) j x
/-- Block `n`'s part of the gradient of the values. -/
def oDV (j : Fin 384) (x : Fin 64) : EReal := attDV n.val (gQ A n kv) (gD D n kv) (gK A n kv) (gS s kv) j x
/-- Block `n`'s part of the gradient of a sink. -/
def oDSink (h : Fin 4) : EReal := attDSink n.val (gQ A n kv) (gD D n kv) (gK A n kv) (gV A n kv) (gS s kv) h

/-- The gradients of the keys (columns below 128) and of the values of both key heads, side by side. -/
def oKV (j : Fin 384) (q : Fin 256) : EReal :=
  if q.val < 128 then oDK A s D n ⟨q.val / 64 % 2, by omega⟩ j ⟨q.val % 64, by omega⟩
  else oDV A s D n ⟨q.val / 64 % 2, by omega⟩ j ⟨q.val % 64, by omega⟩

/-- The gradient of the queries, as the call returns it: row `i` of block `n`, heads side by side. -/
def oQ (i : Fin 128) (q : Fin 512) : EReal :=
  oDQ A s D n ⟨q.val / 256, by omega⟩ ⟨128 * (q.val / 64 % 4) + i.val, by omega⟩ ⟨q.val % 64, by omega⟩

/-- The gradient of the eight sinks. -/
def oS (h : Fin 8) : EReal := oDSink A s D n ⟨h.val / 4, by omega⟩ ⟨h.val % 4, by omega⟩
end

end Cert.Swa

end
-- ==== Proof.Swa.Loads.lean ====
/- What the kernel loads at a grid point: the tables of the point's block. -/
module

public import proofs.«01_k».proof.Proof.Gen.KernelIdeal.Value
public import proofs.«01_k».proof.Proof.Swa.Pay
public import proofs.«01_k».proof.Proof.Swa.Tables
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
namespace Cert.KernelIdeal.Value
open Cert.KernelIdeal Cert.KernelIdeal.Gen Cert.Swa

variable (m : (ℓ : Loc nD τ sig) → Buf (Elt Ideal) ℓ)

/-- The block of every window at a grid point. -/
theorem idx : ∀ t : Fin cfg0.N, win0_0.index t = ![t.val, 0] ∧ win0_1.index t = ![0, 4] ∧ win0_2.index t = ![t.val - 1, 4]
    ∧ win0_3.index t = ![t.val, 4] ∧ win0_4.index t = ![0, 5] ∧ win0_5.index t = ![t.val - 1, 5] ∧ win0_6.index t = ![t.val, 5]
    ∧ win0_7.index t = ![0] ∧ win0_8.index t = ![t.val, 0] ∧ win0_9.index t = ![t.val, 0] ∧ win0_10.index t = ![t.val, 0]
    ∧ win0_11.index t = ![t.val, 0] ∧ win0_12.index t = ![0, 0] ∧ win0_13.index t = ![0, 0] ∧ (grid0.coords t 0).val = t.val :=
  (by decide +kernel : ∀ t : Fin grid0.N, _)

theorem coord (t : Fin cfg0.N) : (grid0.coords t 0).val = t.val := (idx t).2.2.2.2.2.2.2.2.2.2.2.2.2.2

/-- A grid point as a block number. -/
def pt (t : Fin cfg0.N) : Fin 65 := ⟨t.val, lt_of_lt_of_eq t.isLt N_0⟩

/-- The array of queries, keys and values. -/
def arrA (c : Dev nD) (i : Fin 8320) (q : Fin 2304) : EReal :=
  (show FVec Ideal S8320x2304 .f32 from m ((c : Thread nD τ).loc main_arg0)) (ix2 i q)
/-- The sinks. -/
def arrS (c : Dev nD) (h : Fin 8) : EReal := (show FVec Ideal S8 .f32 from m ((c : Thread nD τ).loc main_arg1)) (ix1 h)
/-- The cotangents. -/
def arrD (c : Dev nD) (i : Fin 8320) (q : Fin 1024) : EReal :=
  (show FVec Ideal S8320x1024 .f32 from m ((c : Thread nD τ).loc main_arg2)) (ix2 i q)

variable (c : Dev nD) (t : Fin cfg0.N)

theorem blk0 (i : Fin 128) (q : Fin 512) :
    (X0_0 m c t (ix2 i q) : EReal) = arrA m c ⟨128 * (pt t).val + i.val, by omega⟩ ⟨q.val, by omega⟩ := by
  unfold X0_0 Pipeline.Window.fill arrA pt
  rw [dif_pos (moved0_0 t _)]
  blk_ext [iblk, V, idx t]

theorem blk1 (i : Fin 128) (q : Fin 128) :
    (iblk m c 1 t (ix2 i q) : EReal) = arrA m c ⟨i.val, by omega⟩ ⟨512 + q.val, by omega⟩ := by
  unfold arrA; blk_ext [iblk, V, idx t]
theorem blk2 (i : Fin 128) (q : Fin 128) :
    (iblk m c 2 t (ix2 i q) : EReal) = arrA m c ⟨128 * ((pt t).val - 1) + i.val, by omega⟩ ⟨512 + q.val, by omega⟩ := by
  unfold arrA pt; blk_ext [iblk, V, idx t]
theorem blk3 (i : Fin 128) (q : Fin 128) :
    (iblk m c 3 t (ix2 i q) : EReal) = arrA m c ⟨128 * (pt t).val + i.val, by omega⟩ ⟨512 + q.val, by omega⟩ := by
  unfold arrA pt; blk_ext [iblk, V, idx t]
theorem blk4 (i : Fin 128) (q : Fin 128) :
    (iblk m c 4 t (ix2 i q) : EReal) = arrA m c ⟨i.val, by omega⟩ ⟨640 + q.val, by omega⟩ := by
  unfold arrA; blk_ext [iblk, V, idx t]
theorem blk5 (i : Fin 128) (q : Fin 128) :
    (iblk m c 5 t (ix2 i q) : EReal) = arrA m c ⟨128 * ((pt t).val - 1) + i.val, by omega⟩ ⟨640 + q.val, by omega⟩ := by
  unfold arrA pt; blk_ext [iblk, V, idx t]
theorem blk6 (i : Fin 128) (q : Fin 128) :
    (iblk m c 6 t (ix2 i q) : EReal) = arrA m c ⟨128 * (pt t).val + i.val, by omega⟩ ⟨640 + q.val, by omega⟩ := by
  unfold arrA pt; blk_ext [iblk, V, idx t]
theorem blk7 (h : Fin 8) : (iblk m c 7 t (ix1 h) : EReal) = arrS m c h := by
  unfold arrS; blk_ext [iblk, V, idx t]
theorem blk8 (i : Fin 128) (q : Fin 512) :
    (iblk m c 8 t (ix2 i q) : EReal) = arrD m c ⟨128 * (pt t).val + i.val, by omega⟩ ⟨q.val, by omega⟩ := by
  unfold arrD pt; blk_ext [iblk, V, idx t]

theorem cat4_eq (a b c d : Piece) (F : Fin 512 → Fin 64 → EReal)
    (ha : ∀ (i : Fin 128) x, (a (ix2 i x) : EReal) = F ⟨i.val, by omega⟩ x)
    (hb : ∀ (i : Fin 128) x, (b (ix2 i x) : EReal) = F ⟨128 + i.val, by omega⟩ x)
    (hc : ∀ (i : Fin 128) x, (c (ix2 i x) : EReal) = F ⟨256 + i.val, by omega⟩ x)
    (hd : ∀ (i : Fin 128) x, (d (ix2 i x) : EReal) = F ⟨384 + i.val, by omega⟩ x) : cat4 a b c d = F := by
  funext r x
  unfold cat4
  split_ifs
  · exact ha _ x
  · rw [hb]; congr 1; exact Fin.ext (by simp only []; omega)
  · rw [hc]; congr 1; exact Fin.ext (by simp only []; omega)
  · rw [hd]; congr 1; exact Fin.ext (by simp only []; omega)

theorem cat3_eq (a b c : Piece) (F : Fin 384 → Fin 64 → EReal)
    (ha : ∀ (i : Fin 128) x, (a (ix2 i x) : EReal) = F ⟨i.val, by omega⟩ x)
    (hb : ∀ (i : Fin 128) x, (b (ix2 i x) : EReal) = F ⟨128 + i.val, by omega⟩ x)
    (hc : ∀ (i : Fin 128) x, (c (ix2 i x) : EReal) = F ⟨256 + i.val, by omega⟩ x) : cat3 a b c = F := by
  funext r x
  unfold cat3
  split_ifs
  · exact ha _ x
  · rw [hb]; congr 1; exact Fin.ext (by simp only []; omega)
  · rw [hc]; congr 1; exact Fin.ext (by simp only []; omega)

theorem sel4_eq (s0 s1 s2 s3 : EReal) (kv : Fin 2) (S : Fin 8 → EReal) (h0 : s0 = S ⟨4 * kv.val, by omega⟩)
    (h1 : s1 = S ⟨4 * kv.val + 1, by omega⟩) (h2 : s2 = S ⟨4 * kv.val + 2, by omega⟩) (h3 : s3 = S ⟨4 * kv.val + 3, by omega⟩) :
    sel4 s0 s1 s2 s3 = gS S kv := by
  funext r
  unfold sel4 gS
  split_ifs
  · rw [h3]; congr 1; exact Fin.ext (by simp only []; omega)
  · rw [h2]; congr 1; exact Fin.ext (by simp only []; omega)
  · rw [h1]; congr 1; exact Fin.ext (by simp only []; omega)
  · rw [h0]; congr 1; exact Fin.ext (by simp only []; omega)

theorem keyRow0 (n : Fin 65) (i : Fin 128) (h : i.val < 384) : keyRow n ⟨i.val, h⟩ = ⟨i.val, by omega⟩ := by
  unfold keyRow; rw [if_pos i.isLt]
theorem keyRow1 (n : Fin 65) (i : Fin 128) (h : 128 + i.val < 384) : keyRow n ⟨128 + i.val, h⟩ = ⟨128 * (n.val - 1) + i.val, by omega⟩ := by
  unfold keyRow
  rw [if_neg (by simp), if_pos (by simp only []; omega)]
  exact Fin.ext (by simp only []; omega)
theorem keyRow2 (n : Fin 65) (i : Fin 128) (h : 256 + i.val < 384) : keyRow n ⟨256 + i.val, h⟩ = ⟨128 * n.val + i.val, by omega⟩ := by
  unfold keyRow
  rw [if_neg (by simp only []; omega), if_neg (by simp)]
  exact Fin.ext (by simp only []; omega)

theorem arrA_congr {i i' : Fin 8320} {q q' : Fin 2304} (hi : i.val = i'.val) (hq : q.val = q'.val) : arrA m c i q = arrA m c i' q' := by
  rw [Fin.ext hi, Fin.ext hq]
theorem arrD_congr {i i' : Fin 8320} {q q' : Fin 1024} (hi : i.val = i'.val) (hq : q.val = q'.val) : arrD m c i q = arrD m c i' q' := by
  rw [Fin.ext hi, Fin.ext hq]

/-! ### The tables -/

theorem tabQ0 : cat4 (View.ld (X0_0 m c t) (Rect.unit ![0, 0] ![128, 64] inb_S128x512_S128x64_0_0)) (View.ld (X0_0 m c t) (Rect.unit ![0, 64] ![128, 64] inb_S128x512_S128x64_0_64)) (View.ld (X0_0 m c t) (Rect.unit ![0, 128] ![128, 64] inb_S128x512_S128x64_0_128)) (View.ld (X0_0 m c t) (Rect.unit ![0, 192] ![128, 64] inb_S128x512_S128x64_0_192))
    = gQ0 (arrA m c) (pt t) 0 := by
  refine cat4_eq _ _ _ _ _ ?_ ?_ ?_ ?_ <;> intro i x <;> pointwise <;> refine (blk0 m c t _ _).trans (arrA_congr m c ?_ ?_) <;> simp only [Fin.val_zero, Fin.val_one] <;> omega

theorem tabD0 : cat4 (View.ld (iblk m c 8 t) (Rect.unit ![0, 0] ![128, 64] inb_S128x512_S128x64_0_0)) (View.ld (iblk m c 8 t) (Rect.unit ![0, 64] ![128, 64] inb_S128x512_S128x64_0_64)) (View.ld (iblk m c 8 t) (Rect.unit ![0, 128] ![128, 64] inb_S128x512_S128x64_0_128)) (View.ld (iblk m c 8 t) (Rect.unit ![0, 192] ![128, 64] inb_S128x512_S128x64_0_192))
    = gD (arrD m c) (pt t) 0 := by
  refine cat4_eq _ _ _ _ _ ?_ ?_ ?_ ?_ <;> intro i x <;> pointwise <;> refine (blk8 m c t _ _).trans (arrD_congr m c ?_ ?_) <;> simp only [Fin.val_zero, Fin.val_one] <;> omega

theorem tabK0 : cat3 (View.ld (iblk m c 1 t) (Rect.unit ![0, 0] ![128, 64] inb_S128x128_S128x64_0_0)) (View.ld (iblk m c 2 t) (Rect.unit ![0, 0] ![128, 64] inb_S128x128_S128x64_0_0)) (View.ld (iblk m c 3 t) (Rect.unit ![0, 0] ![128, 64] inb_S128x128_S128x64_0_0))
    = gK (arrA m c) (pt t) 0 := by
  refine cat3_eq _ _ _ _ ?_ ?_ ?_ <;> intro i x <;> pointwise
  · refine (blk1 m c t _ _).trans ?_
    unfold gK
    rw [keyRow0]
    refine arrA_congr m c ?_ ?_ <;> simp only [Fin.val_zero, Fin.val_one] <;> omega
  · refine (blk2 m c t _ _).trans ?_
    unfold gK
    rw [keyRow1]
    refine arrA_congr m c ?_ ?_ <;> simp only [Fin.val_zero, Fin.val_one] <;> omega
  · refine (blk3 m c t _ _).trans ?_
    unfold gK
    rw [keyRow2]
    refine arrA_congr m c ?_ ?_ <;> simp only [Fin.val_zero, Fin.val_one] <;> omega

theorem tabV0 : cat3 (View.ld (iblk m c 4 t) (Rect.unit ![0, 0] ![128, 64] inb_S128x128_S128x64_0_0)) (View.ld (iblk m c 5 t) (Rect.unit ![0, 0] ![128, 64] inb_S128x128_S128x64_0_0)) (View.ld (iblk m c 6 t) (Rect.unit ![0, 0] ![128, 64] inb_S128x128_S128x64_0_0))
    = gV (arrA m c) (pt t) 0 := by
  refine cat3_eq _ _ _ _ ?_ ?_ ?_ <;> intro i x <;> pointwise
  · refine (blk4 m c t _ _).trans ?_
    unfold gV
    rw [keyRow0]
    refine arrA_congr m c ?_ ?_ <;> simp only [Fin.val_zero, Fin.val_one] <;> omega
  · refine (blk5 m c t _ _).trans ?_
    unfold gV
    rw [keyRow1]
    refine arrA_congr m c ?_ ?_ <;> simp only [Fin.val_zero, Fin.val_one] <;> omega
  · refine (blk6 m c t _ _).trans ?_
    unfold gV
    rw [keyRow2]
    refine arrA_congr m c ?_ ?_ <;> simp only [Fin.val_zero, Fin.val_one] <;> omega

theorem tabS0 : sel4 (View.ld (iblk m c 7 t) (Rect.unit ![0] ![1] inb_S8_S1_0) (Shape.Idx.first (show 0 < S1.numel by decide))) (View.ld (iblk m c 7 t) (Rect.unit ![1] ![1] inb_S8_S1_1) (Shape.Idx.first (show 0 < S1.numel by decide))) (View.ld (iblk m c 7 t) (Rect.unit ![2] ![1] inb_S8_S1_2) (Shape.Idx.first (show 0 < S1.numel by decide))) (View.ld (iblk m c 7 t) (Rect.unit ![3] ![1] inb_S8_S1_3) (Shape.Idx.first (show 0 < S1.numel by decide)))
    = gS (arrS m c) 0 := by
  refine sel4_eq _ _ _ _ _ _ ?_ ?_ ?_ ?_ <;> pointwise <;> exact blk7 m c t _

theorem tabQ1 : cat4 (View.ld (X0_0 m c t) (Rect.unit ![0, 256] ![128, 64] inb_S128x512_S128x64_0_256)) (View.ld (X0_0 m c t) (Rect.unit ![0, 320] ![128, 64] inb_S128x512_S128x64_0_320)) (View.ld (X0_0 m c t) (Rect.unit ![0, 384] ![128, 64] inb_S128x512_S128x64_0_384)) (View.ld (X0_0 m c t) (Rect.unit ![0, 448] ![128, 64] inb_S128x512_S128x64_0_448))
    = gQ0 (arrA m c) (pt t) 1 := by
  refine cat4_eq _ _ _ _ _ ?_ ?_ ?_ ?_ <;> intro i x <;> pointwise <;> refine (blk0 m c t _ _).trans (arrA_congr m c ?_ ?_) <;> simp only [Fin.val_zero, Fin.val_one] <;> omega

theorem tabD1 : cat4 (View.ld (iblk m c 8 t) (Rect.unit ![0, 256] ![128, 64] inb_S128x512_S128x64_0_256)) (View.ld (iblk m c 8 t) (Rect.unit ![0, 320] ![128, 64] inb_S128x512_S128x64_0_320)) (View.ld (iblk m c 8 t) (Rect.unit ![0, 384] ![128, 64] inb_S128x512_S128x64_0_384)) (View.ld (iblk m c 8 t) (Rect.unit ![0, 448] ![128, 64] inb_S128x512_S128x64_0_448))
    = gD (arrD m c) (pt t) 1 := by
  refine cat4_eq _ _ _ _ _ ?_ ?_ ?_ ?_ <;> intro i x <;> pointwise <;> refine (blk8 m c t _ _).trans (arrD_congr m c ?_ ?_) <;> simp only [Fin.val_zero, Fin.val_one] <;> omega

theorem tabK1 : cat3 (View.ld (iblk m c 1 t) (Rect.unit ![0, 64] ![128, 64] inb_S128x128_S128x64_0_64)) (View.ld (iblk m c 2 t) (Rect.unit ![0, 64] ![128, 64] inb_S128x128_S128x64_0_64)) (View.ld (iblk m c 3 t) (Rect.unit ![0, 64] ![128, 64] inb_S128x128_S128x64_0_64))
    = gK (arrA m c) (pt t) 1 := by
  refine cat3_eq _ _ _ _ ?_ ?_ ?_ <;> intro i x <;> pointwise
  · refine (blk1 m c t _ _).trans ?_
    unfold gK
    rw [keyRow0]
    refine arrA_congr m c ?_ ?_ <;> simp only [Fin.val_zero, Fin.val_one] <;> omega
  · refine (blk2 m c t _ _).trans ?_
    unfold gK
    rw [keyRow1]
    refine arrA_congr m c ?_ ?_ <;> simp only [Fin.val_zero, Fin.val_one] <;> omega
  · refine (blk3 m c t _ _).trans ?_
    unfold gK
    rw [keyRow2]
    refine arrA_congr m c ?_ ?_ <;> simp only [Fin.val_zero, Fin.val_one] <;> omega

theorem tabV1 : cat3 (View.ld (iblk m c 4 t) (Rect.unit ![0, 64] ![128, 64] inb_S128x128_S128x64_0_64)) (View.ld (iblk m c 5 t) (Rect.unit ![0, 64] ![128, 64] inb_S128x128_S128x64_0_64)) (View.ld (iblk m c 6 t) (Rect.unit ![0, 64] ![128, 64] inb_S128x128_S128x64_0_64))
    = gV (arrA m c) (pt t) 1 := by
  refine cat3_eq _ _ _ _ ?_ ?_ ?_ <;> intro i x <;> pointwise
  · refine (blk4 m c t _ _).trans ?_
    unfold gV
    rw [keyRow0]
    refine arrA_congr m c ?_ ?_ <;> simp only [Fin.val_zero, Fin.val_one] <;> omega
  · refine (blk5 m c t _ _).trans ?_
    unfold gV
    rw [keyRow1]
    refine arrA_congr m c ?_ ?_ <;> simp only [Fin.val_zero, Fin.val_one] <;> omega
  · refine (blk6 m c t _ _).trans ?_
    unfold gV
    rw [keyRow2]
    refine arrA_congr m c ?_ ?_ <;> simp only [Fin.val_zero, Fin.val_one] <;> omega

theorem tabS1 : sel4 (View.ld (iblk m c 7 t) (Rect.unit ![4] ![1] inb_S8_S1_4) (Shape.Idx.first (show 0 < S1.numel by decide))) (View.ld (iblk m c 7 t) (Rect.unit ![5] ![1] inb_S8_S1_5) (Shape.Idx.first (show 0 < S1.numel by decide))) (View.ld (iblk m c 7 t) (Rect.unit ![6] ![1] inb_S8_S1_6) (Shape.Idx.first (show 0 < S1.numel by decide))) (View.ld (iblk m c 7 t) (Rect.unit ![7] ![1] inb_S8_S1_7) (Shape.Idx.first (show 0 < S1.numel by decide)))
    = gS (arrS m c) 1 := by
  refine sel4_eq _ _ _ _ _ _ ?_ ?_ ?_ ?_ <;> pointwise <;> exact blk7 m c t _

end Cert.KernelIdeal.Value

end
-- ==== Proof.Swa.Outs.lean ====
/- What the kernel leaves in its output blocks at a grid point: the specification's tables of the point. -/
module

public import proofs.«01_k».proof.Proof.Swa.Loads

@[expose] public section

set_option maxRecDepth 16384

noncomputable section

open Idealize.ShloMosaic Idealize.ShloMosaic.TcCoe Idealize.SL.Sem
open Idealize.ShloMosaic.Pipeline (Dat)
namespace Cert.KernelIdeal.Value
open Cert.KernelIdeal Cert.KernelIdeal.Gen Cert.Swa

section
variable {n n' : ℕ} {Q Q' D D' : Fin 512 → Fin 64 → EReal} {K K' W W' : Fin 384 → Fin 64 → EReal} {σ σ' : Fin 512 → EReal}

theorem attDQ_congr (hn : n = n') (hQ : Q = Q') (hD : D = D') (hK : K = K') (hW : W = W') (hσ : σ = σ') (r : Fin 512) (x : Fin 64) :
    attDQ n Q D K W σ r x = attDQ n' Q' D' K' W' σ' r x := by subst hn hQ hD hK hW hσ; rfl
theorem attDK_congr (hn : n = n') (hQ : Q = Q') (hD : D = D') (hK : K = K') (hW : W = W') (hσ : σ = σ') (r : Fin 384) (x : Fin 64) :
    attDK n Q D K W σ r x = attDK n' Q' D' K' W' σ' r x := by subst hn hQ hD hK hW hσ; rfl
theorem attDV_congr (hn : n = n') (hQ : Q = Q') (hD : D = D') (hK : K = K') (hσ : σ = σ') (r : Fin 384) (x : Fin 64) :
    attDV n Q D K σ r x = attDV n' Q' D' K' σ' r x := by subst hn hQ hD hK hσ; rfl
theorem attDSink_congr (hn : n = n') (hQ : Q = Q') (hD : D = D') (hK : K = K') (hW : W = W') (hσ : σ = σ') (h : Fin 4) :
    attDSink n Q D K W σ h = attDSink n' Q' D' K' W' σ' h := by subst hn hQ hD hK hW hσ; rfl
end

/-- The scaled queries from the queries. -/
theorem qT_eq {q0 q1 q2 q3 : Piece} {A : Fin 8320 → Fin 2304 → EReal} {n : Fin 65} {kv : Fin 2}
    (h : cat4 q0 q1 q2 q3 = gQ0 A n kv) : qT q0 q1 q2 q3 = gQ A n kv := by
  funext r x; unfold qT gQ; rw [h]

section
variable (A : Fin 8320 → Fin 2304 → EReal) (s : Fin 8 → EReal) (D : Fin 8320 → Fin 1024 → EReal) (n : Fin 65)

theorem doneQ (kv : Fin 2) (h : Fin 4) {r : Fin 512} {x : Fin 64} {i : Fin 128} {q : Fin 512} (hi : r.val = 128 * h.val + i.val)
    (hq : q.val = 256 * kv.val + 64 * h.val + x.val) : oDQ A s D n kv r x = oQ A s D n i q := by
  unfold oQ
  congr 1
  · exact Fin.ext (by simp only []; omega)
  · exact Fin.ext (by simp only []; omega)
  · exact Fin.ext (by simp only []; omega)

theorem doneK (kv : Fin 2) {j j' : Fin 384} {x : Fin 64} {q : Fin 256} (hj : j.val = j'.val) (hq : q.val = 64 * kv.val + x.val) :
    oDK A s D n kv j x = oKV A s D n j' q := by
  unfold oKV
  rw [if_pos (by omega), Fin.ext hj]
  congr 1
  · exact Fin.ext (by simp only []; omega)
  · exact Fin.ext (by simp only []; omega)

theorem doneV (kv : Fin 2) {j j' : Fin 384} {x : Fin 64} {q : Fin 256} (hj : j.val = j'.val) (hq : q.val = 128 + 64 * kv.val + x.val) :
    oDV A s D n kv j x = oKV A s D n j' q := by
  unfold oKV
  rw [if_neg (by omega), Fin.ext hj]
  congr 1
  · exact Fin.ext (by simp only []; omega)
  · exact Fin.ext (by simp only []; omega)
end

variable (m : (ℓ : Loc nD τ sig) → Buf (Elt Ideal) ℓ)
variable (c : Dev nD) (t : Fin cfg0.N)

theorem lt32 : (grid0.coords t 0).val < 2 ^ 31 := by
  have := coord t; have := (pt t).isLt; have : (pt t).val = t.val := rfl; omega

theorem tabS0' : sel4 (iblk m c 7 t (ix1 0)) (iblk m c 7 t (ix1 1)) (iblk m c 7 t (ix1 2)) (iblk m c 7 t (ix1 3))
    = gS (arrS m c) 0 := by
  refine sel4_eq _ _ _ _ _ _ ?_ ?_ ?_ ?_ <;> exact blk7 m c t _
theorem tabS1' : sel4 (iblk m c 7 t (ix1 4)) (iblk m c 7 t (ix1 5)) (iblk m c 7 t (ix1 6)) (iblk m c 7 t (ix1 7))
    = gS (arrS m c) 1 := by
  refine sel4_eq _ _ _ _ _ _ ?_ ?_ ?_ ?_ <;> exact blk7 m c t _

theorem q9A (h0 : t.val % 65 = 0) (y : S128x512.Idx) :
    ((outsAt0 m c t.val t.isLt).1 y : EReal) = oQ (arrA m c) (arrS m c) (arrD m c) (pt t) (y 0) (y 1) := by
  rw [outsAt0_A m c t h0]; frame_out
  clear h0
  canon_tiles x h
  case piece0 =>
    pointwise [k0_pay89]
    refine (dQ1 _ _ _ _ _ _ _ _ _ _ _ _ _ _ _ _ _ _ _ (lt32 t) _ _).trans ((attDQ_congr (coord t) (qT_eq (tabQ1 m c t)) (tabD1 m c t) (tabK1 m c t) (tabV1 m c t) (tabS1' m c t) _ _).trans ?_)
    refine doneQ _ _ _ _ 1 3 ?_ ?_ <;> simp only [Fin.val_zero, Fin.val_one, Fin.isValue] <;> omega
  case piece1 =>
    pointwise [k0_pay87]
    refine (dQ1 _ _ _ _ _ _ _ _ _ _ _ _ _ _ _ _ _ _ _ (lt32 t) _ _).trans ((attDQ_congr (coord t) (qT_eq (tabQ1 m c t)) (tabD1 m c t) (tabK1 m c t) (tabV1 m c t) (tabS1' m c t) _ _).trans ?_)
    refine doneQ _ _ _ _ 1 2 ?_ ?_ <;> simp only [Fin.val_zero, Fin.val_one, Fin.isValue] <;> omega
  case piece2 =>
    pointwise [k0_pay85]
    refine (dQ1 _ _ _ _ _ _ _ _ _ _ _ _ _ _ _ _ _ _ _ (lt32 t) _ _).trans ((attDQ_congr (coord t) (qT_eq (tabQ1 m c t)) (tabD1 m c t) (tabK1 m c t) (tabV1 m c t) (tabS1' m c t) _ _).trans ?_)
    refine doneQ _ _ _ _ 1 1 ?_ ?_ <;> simp only [Fin.val_zero, Fin.val_one, Fin.isValue] <;> omega
  case piece3 =>
    pointwise [k0_pay83]
    refine (dQ1 _ _ _ _ _ _ _ _ _ _ _ _ _ _ _ _ _ _ _ (lt32 t) _ _).trans ((attDQ_congr (coord t) (qT_eq (tabQ1 m c t)) (tabD1 m c t) (tabK1 m c t) (tabV1 m c t) (tabS1' m c t) _ _).trans ?_)
    refine doneQ _ _ _ _ 1 0 ?_ ?_ <;> simp only [Fin.val_zero, Fin.val_one, Fin.isValue] <;> omega
  case piece4 =>
    pointwise [k0_pay42]
    refine (dQ0 _ _ _ _ _ _ _ _ _ _ _ _ _ _ _ _ _ _ _ (lt32 t) _ _).trans ((attDQ_congr (coord t) (qT_eq (tabQ0 m c t)) (tabD0 m c t) (tabK0 m c t) (tabV0 m c t) (tabS0' m c t) _ _).trans ?_)
    refine doneQ _ _ _ _ 0 3 ?_ ?_ <;> simp only [Fin.val_zero, Fin.val_one, Fin.isValue] <;> omega
  case piece5 =>
    pointwise [k0_pay40]
    refine (dQ0 _ _ _ _ _ _ _ _ _ _ _ _ _ _ _ _ _ _ _ (lt32 t) _ _).trans ((attDQ_congr (coord t) (qT_eq (tabQ0 m c t)) (tabD0 m c t) (tabK0 m c t) (tabV0 m c t) (tabS0' m c t) _ _).trans ?_)
    refine doneQ _ _ _ _ 0 2 ?_ ?_ <;> simp only [Fin.val_zero, Fin.val_one, Fin.isValue] <;> omega
  case piece6 =>
    pointwise [k0_pay38]
    refine (dQ0 _ _ _ _ _ _ _ _ _ _ _ _ _ _ _ _ _ _ _ (lt32 t) _ _).trans ((attDQ_congr (coord t) (qT_eq (tabQ0 m c t)) (tabD0 m c t) (tabK0 m c t) (tabV0 m c t) (tabS0' m c t) _ _).trans ?_)
    refine doneQ _ _ _ _ 0 1 ?_ ?_ <;> simp only [Fin.val_zero, Fin.val_one, Fin.isValue] <;> omega
  case piece7 =>
    pointwise [k0_pay35]
    refine (dQ0 _ _ _ _ _ _ _ _ _ _ _ _ _ _ _ _ _ _ _ (lt32 t) _ _).trans ((attDQ_congr (coord t) (qT_eq (tabQ0 m c t)) (tabD0 m c t) (tabK0 m c t) (tabV0 m c t) (tabS0' m c t) _ _).trans ?_)
    refine doneQ _ _ _ _ 0 0 ?_ ?_ <;> simp only [Fin.val_zero, Fin.val_one, Fin.isValue] <;> omega

theorem q10A (h0 : t.val % 65 = 0) (y : S128x256.Idx) :
    ((outsAt0 m c t.val t.isLt).2.1 y : EReal)
      = oKV (arrA m c) (arrS m c) (arrD m c) (pt t) ⟨256 + (y 0).val, Nat.add_lt_add_left (m := 128) (lt_of_lt_of_le (y 0).isLt (by decide)) _ |>.trans_le (by decide)⟩ (y 1) := by
  rw [outsAt0_A m c t h0]; frame_out
  clear h0
  canon_tiles x h
  case piece0 =>
    pointwise [k0_pay95]
    refine (dV1 _ _ _ _ _ _ _ _ _ _ _ _ _ _ _ _ (lt32 t) _ _).trans ((attDV_congr (coord t) (qT_eq (tabQ1 m c t)) (tabD1 m c t) (tabK1 m c t) (tabS1' m c t) _ _).trans ?_)
    refine doneV _ _ _ _ 1 ?_ ?_ <;> simp only [Fin.val_zero, Fin.val_one, Fin.isValue] <;> omega
  case piece1 =>
    pointwise [k0_pay94]
    refine (dK1 _ _ _ _ _ _ _ _ _ _ _ _ _ _ _ _ _ _ _ (lt32 t) _ _).trans ((attDK_congr (coord t) (qT_eq (tabQ1 m c t)) (tabD1 m c t) (tabK1 m c t) (tabV1 m c t) (tabS1' m c t) _ _).trans ?_)
    refine doneK _ _ _ _ 1 ?_ ?_ <;> simp only [Fin.val_zero, Fin.val_one, Fin.isValue] <;> omega
  case piece2 =>
    pointwise [k0_pay49]
    refine (dV0 _ _ _ _ _ _ _ _ _ _ _ _ _ _ _ _ (lt32 t) _ _).trans ((attDV_congr (coord t) (qT_eq (tabQ0 m c t)) (tabD0 m c t) (tabK0 m c t) (tabS0' m c t) _ _).trans ?_)
    refine doneV _ _ _ _ 0 ?_ ?_ <;> simp only [Fin.val_zero, Fin.val_one, Fin.isValue] <;> omega
  case piece3 =>
    pointwise [k0_pay48]
    refine (dK0 _ _ _ _ _ _ _ _ _ _ _ _ _ _ _ _ _ _ _ (lt32 t) _ _).trans ((attDK_congr (coord t) (qT_eq (tabQ0 m c t)) (tabD0 m c t) (tabK0 m c t) (tabV0 m c t) (tabS0' m c t) _ _).trans ?_)
    refine doneK _ _ _ _ 0 ?_ ?_ <;> simp only [Fin.val_zero, Fin.val_one, Fin.isValue] <;> omega

theorem q11A (h0 : t.val % 65 = 0) (y : S128x256.Idx) :
    ((outsAt0 m c t.val t.isLt).2.2.1 y : EReal)
      = oKV (arrA m c) (arrS m c) (arrD m c) (pt t) ⟨128 + (y 0).val, Nat.add_lt_add_left (m := 128) (lt_of_lt_of_le (y 0).isLt (by decide)) _ |>.trans_le (by decide)⟩ (y 1) := by
  rw [outsAt0_A m c t h0]; frame_out
  clear h0
  canon_tiles x h
  case piece0 =>
    pointwise [k0_pay93]
    refine (dV1 _ _ _ _ _ _ _ _ _ _ _ _ _ _ _ _ (lt32 t) _ _).trans ((attDV_congr (coord t) (qT_eq (tabQ1 m c t)) (tabD1 m c t) (tabK1 m c t) (tabS1' m c t) _ _).trans ?_)
    refine doneV _ _ _ _ 1 ?_ ?_ <;> simp only [Fin.val_zero, Fin.val_one, Fin.isValue] <;> omega
  case piece1 =>
    pointwise [k0_pay92]
    refine (dK1 _ _ _ _ _ _ _ _ _ _ _ _ _ _ _ _ _ _ _ (lt32 t) _ _).trans ((attDK_congr (coord t) (qT_eq (tabQ1 m c t)) (tabD1 m c t) (tabK1 m c t) (tabV1 m c t) (tabS1' m c t) _ _).trans ?_)
    refine doneK _ _ _ _ 1 ?_ ?_ <;> simp only [Fin.val_zero, Fin.val_one, Fin.isValue] <;> omega
  case piece2 =>
    pointwise [k0_pay47]
    refine (dV0 _ _ _ _ _ _ _ _ _ _ _ _ _ _ _ _ (lt32 t) _ _).trans ((attDV_congr (coord t) (qT_eq (tabQ0 m c t)) (tabD0 m c t) (tabK0 m c t) (tabS0' m c t) _ _).trans ?_)
    refine doneV _ _ _ _ 0 ?_ ?_ <;> simp only [Fin.val_zero, Fin.val_one, Fin.isValue] <;> omega
  case piece3 =>
    pointwise [k0_pay46]
    refine (dK0 _ _ _ _ _ _ _ _ _ _ _ _ _ _ _ _ _ _ _ (lt32 t) _ _).trans ((attDK_congr (coord t) (qT_eq (tabQ0 m c t)) (tabD0 m c t) (tabK0 m c t) (tabV0 m c t) (tabS0' m c t) _ _).trans ?_)
    refine doneK _ _ _ _ 0 ?_ ?_ <;> simp only [Fin.val_zero, Fin.val_one, Fin.isValue] <;> omega

theorem q9B (h0 : ¬ t.val % 65 = 0) (y : S128x512.Idx) :
    ((outsAt0 m c t.val t.isLt).1 y : EReal) = oQ (arrA m c) (arrS m c) (arrD m c) (pt t) (y 0) (y 1) := by
  rw [outsAt0_B m c t h0]; frame_out
  clear h0
  canon_tiles x h
  case piece0 =>
    pointwise [k0_pay89]
    refine (dQ1 _ _ _ _ _ _ _ _ _ _ _ _ _ _ _ _ _ _ _ (lt32 t) _ _).trans ((attDQ_congr (coord t) (qT_eq (tabQ1 m c t)) (tabD1 m c t) (tabK1 m c t) (tabV1 m c t) (tabS1' m c t) _ _).trans ?_)
    refine doneQ _ _ _ _ 1 3 ?_ ?_ <;> simp only [Fin.val_zero, Fin.val_one, Fin.isValue] <;> omega
  case piece1 =>
    pointwise [k0_pay87]
    refine (dQ1 _ _ _ _ _ _ _ _ _ _ _ _ _ _ _ _ _ _ _ (lt32 t) _ _).trans ((attDQ_congr (coord t) (qT_eq (tabQ1 m c t)) (tabD1 m c t) (tabK1 m c t) (tabV1 m c t) (tabS1' m c t) _ _).trans ?_)
    refine doneQ _ _ _ _ 1 2 ?_ ?_ <;> simp only [Fin.val_zero, Fin.val_one, Fin.isValue] <;> omega
  case piece2 =>
    pointwise [k0_pay85]
    refine (dQ1 _ _ _ _ _ _ _ _ _ _ _ _ _ _ _ _ _ _ _ (lt32 t) _ _).trans ((attDQ_congr (coord t) (qT_eq (tabQ1 m c t)) (tabD1 m c t) (tabK1 m c t) (tabV1 m c t) (tabS1' m c t) _ _).trans ?_)
    refine doneQ _ _ _ _ 1 1 ?_ ?_ <;> simp only [Fin.val_zero, Fin.val_one, Fin.isValue] <;> omega
  case piece3 =>
    pointwise [k0_pay83]
    refine (dQ1 _ _ _ _ _ _ _ _ _ _ _ _ _ _ _ _ _ _ _ (lt32 t) _ _).trans ((attDQ_congr (coord t) (qT_eq (tabQ1 m c t)) (tabD1 m c t) (tabK1 m c t) (tabV1 m c t) (tabS1' m c t) _ _).trans ?_)
    refine doneQ _ _ _ _ 1 0 ?_ ?_ <;> simp only [Fin.val_zero, Fin.val_one, Fin.isValue] <;> omega
  case piece4 =>
    pointwise [k0_pay42]
    refine (dQ0 _ _ _ _ _ _ _ _ _ _ _ _ _ _ _ _ _ _ _ (lt32 t) _ _).trans ((attDQ_congr (coord t) (qT_eq (tabQ0 m c t)) (tabD0 m c t) (tabK0 m c t) (tabV0 m c t) (tabS0' m c t) _ _).trans ?_)
    refine doneQ _ _ _ _ 0 3 ?_ ?_ <;> simp only [Fin.val_zero, Fin.val_one, Fin.isValue] <;> omega
  case piece5 =>
    pointwise [k0_pay40]
    refine (dQ0 _ _ _ _ _ _ _ _ _ _ _ _ _ _ _ _ _ _ _ (lt32 t) _ _).trans ((attDQ_congr (coord t) (qT_eq (tabQ0 m c t)) (tabD0 m c t) (tabK0 m c t) (tabV0 m c t) (tabS0' m c t) _ _).trans ?_)
    refine doneQ _ _ _ _ 0 2 ?_ ?_ <;> simp only [Fin.val_zero, Fin.val_one, Fin.isValue] <;> omega
  case piece6 =>
    pointwise [k0_pay38]
    refine (dQ0 _ _ _ _ _ _ _ _ _ _ _ _ _ _ _ _ _ _ _ (lt32 t) _ _).trans ((attDQ_congr (coord t) (qT_eq (tabQ0 m c t)) (tabD0 m c t) (tabK0 m c t) (tabV0 m c t) (tabS0' m c t) _ _).trans ?_)
    refine doneQ _ _ _ _ 0 1 ?_ ?_ <;> simp only [Fin.val_zero, Fin.val_one, Fin.isValue] <;> omega
  case piece7 =>
    pointwise [k0_pay35]
    refine (dQ0 _ _ _ _ _ _ _ _ _ _ _ _ _ _ _ _ _ _ _ (lt32 t) _ _).trans ((attDQ_congr (coord t) (qT_eq (tabQ0 m c t)) (tabD0 m c t) (tabK0 m c t) (tabV0 m c t) (tabS0' m c t) _ _).trans ?_)
    refine doneQ _ _ _ _ 0 0 ?_ ?_ <;> simp only [Fin.val_zero, Fin.val_one, Fin.isValue] <;> omega

theorem q10B (h0 : ¬ t.val % 65 = 0) (y : S128x256.Idx) :
    ((outsAt0 m c t.val t.isLt).2.1 y : EReal)
      = oKV (arrA m c) (arrS m c) (arrD m c) (pt t) ⟨256 + (y 0).val, Nat.add_lt_add_left (m := 128) (lt_of_lt_of_le (y 0).isLt (by decide)) _ |>.trans_le (by decide)⟩ (y 1) := by
  rw [outsAt0_B m c t h0]; frame_out
  clear h0
  canon_tiles x h
  case piece0 =>
    pointwise [k0_pay95]
    refine (dV1 _ _ _ _ _ _ _ _ _ _ _ _ _ _ _ _ (lt32 t) _ _).trans ((attDV_congr (coord t) (qT_eq (tabQ1 m c t)) (tabD1 m c t) (tabK1 m c t) (tabS1' m c t) _ _).trans ?_)
    refine doneV _ _ _ _ 1 ?_ ?_ <;> simp only [Fin.val_zero, Fin.val_one, Fin.isValue] <;> omega
  case piece1 =>
    pointwise [k0_pay94]
    refine (dK1 _ _ _ _ _ _ _ _ _ _ _ _ _ _ _ _ _ _ _ (lt32 t) _ _).trans ((attDK_congr (coord t) (qT_eq (tabQ1 m c t)) (tabD1 m c t) (tabK1 m c t) (tabV1 m c t) (tabS1' m c t) _ _).trans ?_)
    refine doneK _ _ _ _ 1 ?_ ?_ <;> simp only [Fin.val_zero, Fin.val_one, Fin.isValue] <;> omega
  case piece2 =>
    pointwise [k0_pay49]
    refine (dV0 _ _ _ _ _ _ _ _ _ _ _ _ _ _ _ _ (lt32 t) _ _).trans ((attDV_congr (coord t) (qT_eq (tabQ0 m c t)) (tabD0 m c t) (tabK0 m c t) (tabS0' m c t) _ _).trans ?_)
    refine doneV _ _ _ _ 0 ?_ ?_ <;> simp only [Fin.val_zero, Fin.val_one, Fin.isValue] <;> omega
  case piece3 =>
    pointwise [k0_pay48]
    refine (dK0 _ _ _ _ _ _ _ _ _ _ _ _ _ _ _ _ _ _ _ (lt32 t) _ _).trans ((attDK_congr (coord t) (qT_eq (tabQ0 m c t)) (tabD0 m c t) (tabK0 m c t) (tabV0 m c t) (tabS0' m c t) _ _).trans ?_)
    refine doneK _ _ _ _ 0 ?_ ?_ <;> simp only [Fin.val_zero, Fin.val_one, Fin.isValue] <;> omega

theorem q11B (h0 : ¬ t.val % 65 = 0) (y : S128x256.Idx) :
    ((outsAt0 m c t.val t.isLt).2.2.1 y : EReal)
      = oKV (arrA m c) (arrS m c) (arrD m c) (pt t) ⟨128 + (y 0).val, Nat.add_lt_add_left (m := 128) (lt_of_lt_of_le (y 0).isLt (by decide)) _ |>.trans_le (by decide)⟩ (y 1) := by
  rw [outsAt0_B m c t h0]; frame_out
  clear h0
  canon_tiles x h
  case piece0 =>
    pointwise [k0_pay93]
    refine (dV1 _ _ _ _ _ _ _ _ _ _ _ _ _ _ _ _ (lt32 t) _ _).trans ((attDV_congr (coord t) (qT_eq (tabQ1 m c t)) (tabD1 m c t) (tabK1 m c t) (tabS1' m c t) _ _).trans ?_)
    refine doneV _ _ _ _ 1 ?_ ?_ <;> simp only [Fin.val_zero, Fin.val_one, Fin.isValue] <;> omega
  case piece1 =>
    pointwise [k0_pay92]
    refine (dK1 _ _ _ _ _ _ _ _ _ _ _ _ _ _ _ _ _ _ _ (lt32 t) _ _).trans ((attDK_congr (coord t) (qT_eq (tabQ1 m c t)) (tabD1 m c t) (tabK1 m c t) (tabV1 m c t) (tabS1' m c t) _ _).trans ?_)
    refine doneK _ _ _ _ 1 ?_ ?_ <;> simp only [Fin.val_zero, Fin.val_one, Fin.isValue] <;> omega
  case piece2 =>
    pointwise [k0_pay47]
    refine (dV0 _ _ _ _ _ _ _ _ _ _ _ _ _ _ _ _ (lt32 t) _ _).trans ((attDV_congr (coord t) (qT_eq (tabQ0 m c t)) (tabD0 m c t) (tabK0 m c t) (tabS0' m c t) _ _).trans ?_)
    refine doneV _ _ _ _ 0 ?_ ?_ <;> simp only [Fin.val_zero, Fin.val_one, Fin.isValue] <;> omega
  case piece3 =>
    pointwise [k0_pay46]
    refine (dK0 _ _ _ _ _ _ _ _ _ _ _ _ _ _ _ _ _ _ _ (lt32 t) _ _).trans ((attDK_congr (coord t) (qT_eq (tabQ0 m c t)) (tabD0 m c t) (tabK0 m c t) (tabV0 m c t) (tabS0' m c t) _ _).trans ?_)
    refine doneK _ _ _ _ 0 ?_ ?_ <;> simp only [Fin.val_zero, Fin.val_one, Fin.isValue] <;> omega

end Cert.KernelIdeal.Value

end
-- ==== Proof.Swa.Accs.lean ====
/- What the kernel adds to its two accumulators at a grid point. -/
module

public import proofs.«01_k».proof.Proof.Swa.Outs
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
namespace Cert.KernelIdeal.Value
open Cert.KernelIdeal Cert.KernelIdeal.Gen Cert.Swa

/-- Stores that cover an index hide what was stored there before. -/
theorem canon_hide {S : Shape} (L' : List (View.Piece (Elt Ideal) S .f32)) (y : S.Idx) :
    ∀ L : List (View.Piece (Elt Ideal) S .f32), (∃ p ∈ L, y ∈ p.1.set) → View.canon (L ++ L') y = View.canon L y
  | [], h => absurd h (by simp)
  | p :: L, h => by
    by_cases hp : y ∈ p.1.set
    · obtain ⟨x, rfl⟩ := p.1.exists_idx_of_mem hp
      exact (View.canon_cons_emb p.1 p.2 _ x).trans (View.canon_cons_emb p.1 p.2 _ x).symm
    · rw [List.cons_append, View.canon_cons_of_not_mem _ _ hp, View.canon_cons_of_not_mem _ _ hp]
      refine canon_hide L' y L ?_
      obtain ⟨q, hq, hy⟩ := h
      rcases List.mem_cons.mp hq with rfl | hq
      · exact absurd hy hp
      · exact ⟨q, hq, hy⟩

variable (m : (ℓ : Loc nD τ sig) → Buf (Elt Ideal) ℓ)
variable (c : Dev nD) (t : Fin cfg0.N)

/-- The row of the first block that a row of the accumulator is. -/
abbrev accRow (y : S128x256.Idx) : Fin 384 := ⟨(y 0).val, (y 0).isLt.trans (by decide)⟩

theorem fill12 (y : S128x256.Idx) : (k0_pay2 (F := Ideal) y : EReal) = 0 := by pointwise [k0_pay2]
theorem fill12_ld (r : Rect S128x256) (x : r.shape.Idx) : (View.ld (Val := Elt Ideal) (e' := .f32) (k0_pay2 (F := Ideal)) r x : EReal) = (0 : EReal) := fill12 _
theorem add_of_eq {a b a' b' : EReal} (h : a = a') (h' : b = b') : a + b = a' + b' := by rw [h, h']
theorem fill13 (y : S8x128.Idx) : (k0_pay3 (F := Ideal) y : EReal) = 0 := by pointwise [k0_pay3]

theorem q12A (h0 : t.val % 65 = 0) (y : S128x256.Idx) :
    ((outsAt0 m c t.val t.isLt).2.2.2.1 y : EReal)
      = (0 : EReal) + oKV (arrA m c) (arrS m c) (arrD m c) (pt t) (accRow y) (y 1) := by
  rw [outsAt0_A m c t h0]; frame_out
  clear h0
  refine (canon_hide [_] y [_, _, _, _] (View.cover_of_tiled_head _ _ _ (by rfl) y)).trans ?_
  canon_tiles x h
  case piece0 =>
    pointwise [k0_pay91]
    simp (disch := decide) only [↓View.readCov_skip, ↓View.readCov_fill]
    refine (add_of_eq (b' := oKV (arrA m c) (arrS m c) (arrD m c) (pt t) (accRow y) (y 1)) (a' := 0) ?_ ?_).trans (zero_add _)
    · exact fill12_ld _ _
    refine (dV1 _ _ _ _ _ _ _ _ _ _ _ _ _ _ _ _ (lt32 t) _ _).trans ((attDV_congr (coord t) (qT_eq (tabQ1 m c t)) (tabD1 m c t) (tabK1 m c t) (tabS1' m c t) _ _).trans ?_)
    refine doneV _ _ _ _ 1 ?_ ?_ <;> simp only [Fin.val_zero, Fin.val_one, Fin.isValue] <;> omega
  case piece1 =>
    pointwise [k0_pay90]
    simp (disch := decide) only [↓View.readCov_skip, ↓View.readCov_fill]
    refine (add_of_eq (b' := oKV (arrA m c) (arrS m c) (arrD m c) (pt t) (accRow y) (y 1)) (a' := 0) ?_ ?_).trans (zero_add _)
    · exact fill12_ld _ _
    refine (dK1 _ _ _ _ _ _ _ _ _ _ _ _ _ _ _ _ _ _ _ (lt32 t) _ _).trans ((attDK_congr (coord t) (qT_eq (tabQ1 m c t)) (tabD1 m c t) (tabK1 m c t) (tabV1 m c t) (tabS1' m c t) _ _).trans ?_)
    refine doneK _ _ _ _ 1 ?_ ?_ <;> simp only [Fin.val_zero, Fin.val_one, Fin.isValue] <;> omega
  case piece2 =>
    pointwise [k0_pay45]
    simp (disch := decide) only [↓View.readCov_skip, ↓View.readCov_fill]
    refine (add_of_eq (b' := oKV (arrA m c) (arrS m c) (arrD m c) (pt t) (accRow y) (y 1)) (a' := 0) ?_ ?_).trans (zero_add _)
    · exact fill12_ld _ _
    refine (dV0 _ _ _ _ _ _ _ _ _ _ _ _ _ _ _ _ (lt32 t) _ _).trans ((attDV_congr (coord t) (qT_eq (tabQ0 m c t)) (tabD0 m c t) (tabK0 m c t) (tabS0' m c t) _ _).trans ?_)
    refine doneV _ _ _ _ 0 ?_ ?_ <;> simp only [Fin.val_zero, Fin.val_one, Fin.isValue] <;> omega
  case piece3 =>
    pointwise [k0_pay44]
    simp (disch := decide) only [↓View.readCov_skip, ↓View.readCov_fill]
    refine (add_of_eq (b' := oKV (arrA m c) (arrS m c) (arrD m c) (pt t) (accRow y) (y 1)) (a' := 0) ?_ ?_).trans (zero_add _)
    · exact fill12_ld _ _
    refine (dK0 _ _ _ _ _ _ _ _ _ _ _ _ _ _ _ _ _ _ _ (lt32 t) _ _).trans ((attDK_congr (coord t) (qT_eq (tabQ0 m c t)) (tabD0 m c t) (tabK0 m c t) (tabV0 m c t) (tabS0' m c t) _ _).trans ?_)
    refine doneK _ _ _ _ 0 ?_ ?_ <;> simp only [Fin.val_zero, Fin.val_one, Fin.isValue] <;> omega

theorem q12B (h0 : ¬ t.val % 65 = 0) (y : S128x256.Idx) :
    ((outsAt0 m c t.val t.isLt).2.2.2.1 y : EReal)
      = ((outsAt0 m c (t.val - 1) (Nat.lt_of_le_of_lt (Nat.sub_le _ _) t.isLt)).2.2.2.1 y : EReal) + oKV (arrA m c) (arrS m c) (arrD m c) (pt t) (accRow y) (y 1) := by
  rw [outsAt0_B m c t h0]; frame_out
  clear h0
  canon_tiles x h
  case piece0 =>
    pointwise [k0_pay91]
    refine add_of_eq (congrArg _ ?_) ?_
    · refine Eq.trans ?_ (eq_ix2 y).symm
      exact (ix2_inj _ _ _ _).mpr ⟨Fin.ext (by simp only []; omega), Fin.ext (by simp only []; omega)⟩
    refine (dV1 _ _ _ _ _ _ _ _ _ _ _ _ _ _ _ _ (lt32 t) _ _).trans ((attDV_congr (coord t) (qT_eq (tabQ1 m c t)) (tabD1 m c t) (tabK1 m c t) (tabS1' m c t) _ _).trans ?_)
    refine doneV _ _ _ _ 1 ?_ ?_ <;> simp only [Fin.val_zero, Fin.val_one, Fin.isValue] <;> omega
  case piece1 =>
    pointwise [k0_pay90]
    refine add_of_eq (congrArg _ ?_) ?_
    · refine Eq.trans ?_ (eq_ix2 y).symm
      exact (ix2_inj _ _ _ _).mpr ⟨Fin.ext (by simp only []; omega), Fin.ext (by simp only []; omega)⟩
    refine (dK1 _ _ _ _ _ _ _ _ _ _ _ _ _ _ _ _ _ _ _ (lt32 t) _ _).trans ((attDK_congr (coord t) (qT_eq (tabQ1 m c t)) (tabD1 m c t) (tabK1 m c t) (tabV1 m c t) (tabS1' m c t) _ _).trans ?_)
    refine doneK _ _ _ _ 1 ?_ ?_ <;> simp only [Fin.val_zero, Fin.val_one, Fin.isValue] <;> omega
  case piece2 =>
    pointwise [k0_pay45]
    refine add_of_eq (congrArg _ ?_) ?_
    · refine Eq.trans ?_ (eq_ix2 y).symm
      exact (ix2_inj _ _ _ _).mpr ⟨Fin.ext (by simp only []; omega), Fin.ext (by simp only []; omega)⟩
    refine (dV0 _ _ _ _ _ _ _ _ _ _ _ _ _ _ _ _ (lt32 t) _ _).trans ((attDV_congr (coord t) (qT_eq (tabQ0 m c t)) (tabD0 m c t) (tabK0 m c t) (tabS0' m c t) _ _).trans ?_)
    refine doneV _ _ _ _ 0 ?_ ?_ <;> simp only [Fin.val_zero, Fin.val_one, Fin.isValue] <;> omega
  case piece3 =>
    pointwise [k0_pay44]
    refine add_of_eq (congrArg _ ?_) ?_
    · refine Eq.trans ?_ (eq_ix2 y).symm
      exact (ix2_inj _ _ _ _).mpr ⟨Fin.ext (by simp only []; omega), Fin.ext (by simp only []; omega)⟩
    refine (dK0 _ _ _ _ _ _ _ _ _ _ _ _ _ _ _ _ _ _ _ (lt32 t) _ _).trans ((attDK_congr (coord t) (qT_eq (tabQ0 m c t)) (tabD0 m c t) (tabK0 m c t) (tabV0 m c t) (tabS0' m c t) _ _).trans ?_)
    refine doneK _ _ _ _ 0 ?_ ?_ <;> simp only [Fin.val_zero, Fin.val_one, Fin.isValue] <;> omega

theorem q13A (h0 : t.val % 65 = 0) (y : S8x128.Idx) :
    ((outsAt0 m c t.val t.isLt).2.2.2.2 y : EReal)
      = (0 : EReal) + oS (arrA m c) (arrS m c) (arrD m c) (pt t) (y 0) := by
  rw [outsAt0_A m c t h0]; frame_out
  clear h0
  rw [eq_ix2 y]
  refine (rows k0_pay64 grp1 _ _ _ _ _ _ _ _ _ (fun r => dsk1 _ _ _ _ _ _ _ _ _ _ _ _ _ _ _ _ _ _ _ (lt32 t) r) (oS (arrA m c) (arrS m c) (arrD m c) (pt t))
    (fun x => ?_) (fun x => ?_) (fun x => ?_) (fun x => ?_) (fun x => ?_) (fun x => ?_) (fun x => ?_) ?_ _ _ _).trans ?_
  · exact (row0_0 _ grp0 _ _ _ _ _ _ _ _ _ (fun r => dsk0 _ _ _ _ _ _ _ _ _ _ _ _ _ _ _ _ _ _ _ (lt32 t) r) x).trans (attDSink_congr (coord t) (qT_eq (tabQ0 m c t)) (tabD0 m c t) (tabK0 m c t) (tabV0 m c t) (tabS0 m c t) 0)
  · exact (rows0 _ grp0 _ _ (fun r => dsk0 _ _ _ _ _ _ _ _ _ _ _ _ _ _ _ _ _ _ _ (lt32 t) r) x).1.trans (attDSink_congr (coord t) (qT_eq (tabQ0 m c t)) (tabD0 m c t) (tabK0 m c t) (tabV0 m c t) (tabS0 m c t) 1)
  · exact (rows0 _ grp0 _ _ (fun r => dsk0 _ _ _ _ _ _ _ _ _ _ _ _ _ _ _ _ _ _ _ (lt32 t) r) x).2.1.trans (attDSink_congr (coord t) (qT_eq (tabQ0 m c t)) (tabD0 m c t) (tabK0 m c t) (tabV0 m c t) (tabS0 m c t) 2)
  · exact (rows0 _ grp0 _ _ (fun r => dsk0 _ _ _ _ _ _ _ _ _ _ _ _ _ _ _ _ _ _ _ (lt32 t) r) x).2.2.trans (attDSink_congr (coord t) (qT_eq (tabQ0 m c t)) (tabD0 m c t) (tabK0 m c t) (tabV0 m c t) (tabS0 m c t) 3)
  · exact (rows1 _ grp1 _ _ _ (fun r => dsk1 _ _ _ _ _ _ _ _ _ _ _ _ _ _ _ _ _ _ _ (lt32 t) r) x).1.trans (attDSink_congr (coord t) (qT_eq (tabQ1 m c t)) (tabD1 m c t) (tabK1 m c t) (tabV1 m c t) (tabS1 m c t) 0)
  · exact (rows1 _ grp1 _ _ _ (fun r => dsk1 _ _ _ _ _ _ _ _ _ _ _ _ _ _ _ _ _ _ _ (lt32 t) r) x).2.1.trans (attDSink_congr (coord t) (qT_eq (tabQ1 m c t)) (tabD1 m c t) (tabK1 m c t) (tabV1 m c t) (tabS1 m c t) 1)
  · exact (rows1 _ grp1 _ _ _ (fun r => dsk1 _ _ _ _ _ _ _ _ _ _ _ _ _ _ _ _ _ _ _ (lt32 t) r) x).2.2.trans (attDSink_congr (coord t) (qT_eq (tabQ1 m c t)) (tabD1 m c t) (tabK1 m c t) (tabV1 m c t) (tabS1 m c t) 2)
  · exact attDSink_congr (coord t) (qT_eq (tabQ1 m c t)) (tabD1 m c t) (tabK1 m c t) (tabV1 m c t) (tabS1 m c t) 3
  · first | rfl | exact add_of_eq (fill13 _) rfl

theorem q13B (h0 : ¬ t.val % 65 = 0) (y : S8x128.Idx) :
    ((outsAt0 m c t.val t.isLt).2.2.2.2 y : EReal)
      = ((outsAt0 m c (t.val - 1) (Nat.lt_of_le_of_lt (Nat.sub_le _ _) t.isLt)).2.2.2.2 y : EReal) + oS (arrA m c) (arrS m c) (arrD m c) (pt t) (y 0) := by
  rw [outsAt0_B m c t h0]; frame_out
  clear h0
  rw [eq_ix2 y]
  refine (rows k0_pay64 grp1 _ _ _ _ _ _ _ _ _ (fun r => dsk1 _ _ _ _ _ _ _ _ _ _ _ _ _ _ _ _ _ _ _ (lt32 t) r) (oS (arrA m c) (arrS m c) (arrD m c) (pt t))
    (fun x => ?_) (fun x => ?_) (fun x => ?_) (fun x => ?_) (fun x => ?_) (fun x => ?_) (fun x => ?_) ?_ _ _ _).trans ?_
  · exact (row0_0 _ grp0 _ _ _ _ _ _ _ _ _ (fun r => dsk0 _ _ _ _ _ _ _ _ _ _ _ _ _ _ _ _ _ _ _ (lt32 t) r) x).trans (attDSink_congr (coord t) (qT_eq (tabQ0 m c t)) (tabD0 m c t) (tabK0 m c t) (tabV0 m c t) (tabS0 m c t) 0)
  · exact (rows0 _ grp0 _ _ (fun r => dsk0 _ _ _ _ _ _ _ _ _ _ _ _ _ _ _ _ _ _ _ (lt32 t) r) x).1.trans (attDSink_congr (coord t) (qT_eq (tabQ0 m c t)) (tabD0 m c t) (tabK0 m c t) (tabV0 m c t) (tabS0 m c t) 1)
  · exact (rows0 _ grp0 _ _ (fun r => dsk0 _ _ _ _ _ _ _ _ _ _ _ _ _ _ _ _ _ _ _ (lt32 t) r) x).2.1.trans (attDSink_congr (coord t) (qT_eq (tabQ0 m c t)) (tabD0 m c t) (tabK0 m c t) (tabV0 m c t) (tabS0 m c t) 2)
  · exact (rows0 _ grp0 _ _ (fun r => dsk0 _ _ _ _ _ _ _ _ _ _ _ _ _ _ _ _ _ _ _ (lt32 t) r) x).2.2.trans (attDSink_congr (coord t) (qT_eq (tabQ0 m c t)) (tabD0 m c t) (tabK0 m c t) (tabV0 m c t) (tabS0 m c t) 3)
  · exact (rows1 _ grp1 _ _ _ (fun r => dsk1 _ _ _ _ _ _ _ _ _ _ _ _ _ _ _ _ _ _ _ (lt32 t) r) x).1.trans (attDSink_congr (coord t) (qT_eq (tabQ1 m c t)) (tabD1 m c t) (tabK1 m c t) (tabV1 m c t) (tabS1 m c t) 0)
  · exact (rows1 _ grp1 _ _ _ (fun r => dsk1 _ _ _ _ _ _ _ _ _ _ _ _ _ _ _ _ _ _ _ (lt32 t) r) x).2.1.trans (attDSink_congr (coord t) (qT_eq (tabQ1 m c t)) (tabD1 m c t) (tabK1 m c t) (tabV1 m c t) (tabS1 m c t) 1)
  · exact (rows1 _ grp1 _ _ _ (fun r => dsk1 _ _ _ _ _ _ _ _ _ _ _ _ _ _ _ _ _ _ _ (lt32 t) r) x).2.2.trans (attDSink_congr (coord t) (qT_eq (tabQ1 m c t)) (tabD1 m c t) (tabK1 m c t) (tabV1 m c t) (tabS1 m c t) 2)
  · exact attDSink_congr (coord t) (qT_eq (tabQ1 m c t)) (tabD1 m c t) (tabK1 m c t) (tabV1 m c t) (tabS1 m c t) 3
  · first | rfl | exact add_of_eq (fill13 _) rfl

end Cert.KernelIdeal.Value

end
-- ==== Proof.Swa.Arrays.lean ====
/- The five result arrays of the specification. -/
module

public import proofs.«01_k».proof.Proof.Swa.Tables

@[expose] public section

noncomputable section

namespace Cert.Swa

variable (A : Fin 8320 → Fin 2304 → EReal) (s : Fin 8 → EReal) (D : Fin 8320 → Fin 1024 → EReal)

/-- The block a row lies in, and the row within the block. -/
def blkOf (i : Fin 8320) : Fin 65 := ⟨i.val / 128, by omega⟩
def rowOf (i : Fin 8320) : Fin 128 := ⟨i.val % 128, by omega⟩

/-- The gradient of the queries. -/
def aQ (i : Fin 8320) (q : Fin 512) : EReal := oQ A s D (blkOf i) (rowOf i) q
/-- What a block sends to its own keys and values. -/
def aCur (i : Fin 8320) (q : Fin 256) : EReal := oKV A s D (blkOf i) ⟨256 + (rowOf i).val, by omega⟩ q
/-- What a block sends to the keys and values of the block before. -/
def aPrev (i : Fin 8320) (q : Fin 256) : EReal := oKV A s D (blkOf i) ⟨128 + (rowOf i).val, by omega⟩ q
/-- What all blocks send to the keys and values of the first block's last rows. -/
def aMeta (i : Fin 128) (q : Fin 256) : EReal := ∑ n : Fin 65, oKV A s D n ⟨i.val, by omega⟩ q
/-- The gradient of the sinks. -/
def aSink (h : Fin 8) : EReal := ∑ n : Fin 65, oS A s D n h

variable (i : Fin 8320) (n : Fin 65) (r : Fin 128) (h : i.val = 128 * n.val + r.val)

include h in
theorem blkOf_eq : blkOf i = n := Fin.ext (by simp only [blkOf]; omega)
include h in
theorem rowOf_eq : rowOf i = r := Fin.ext (by simp only [rowOf]; omega)

include h in
theorem aQ_eq (q q' : Fin 512) (hq : q.val = q'.val) : aQ A s D i q = oQ A s D n r q' := by
  unfold aQ; rw [blkOf_eq i n r h, rowOf_eq i n r h, Fin.ext hq]
include h in
theorem aCur_eq (q q' : Fin 256) (hq : q.val = q'.val) : aCur A s D i q = oKV A s D n ⟨256 + r.val, by omega⟩ q' := by
  unfold aCur; rw [blkOf_eq i n r h, Fin.ext hq]; simp only [rowOf_eq i n r h]
include h in
theorem aPrev_eq (q q' : Fin 256) (hq : q.val = q'.val) : aPrev A s D i q = oKV A s D n ⟨128 + r.val, by omega⟩ q' := by
  unfold aPrev; rw [blkOf_eq i n r h, Fin.ext hq]; simp only [rowOf_eq i n r h]

end Cert.Swa

end
-- ==== Proof.Swa.Blocks.lean ====
/- The kernel's five result arrays after the run. -/
module

public import proofs.«01_k».proof.Proof.Swa.Accs
public import proofs.«01_k».proof.Proof.Swa.Arrays

@[expose] public section

set_option maxRecDepth 16384

noncomputable section

open Idealize.ShloMosaic Idealize.ShloMosaic.TcCoe Idealize.SL.Sem
open Idealize.ShloMosaic.Pipeline (Dat)
namespace Cert.KernelIdeal.Value
open Cert.KernelIdeal Cert.KernelIdeal.Gen Cert.Swa

variable (m : (ℓ : Loc nD τ sig) → Buf (Elt Ideal) ℓ)
variable (c : Dev nD)

theorem arr9 : (dats m 0 c).arrAt 9 cfg0.N
    = fun z : S8320x512.Idx => (aQ (arrA m c) (arrS m c) (arrD m c) (z 0) (z 1) : EReal) := by
  refine (dats m 0 c).arrAt_eq_of_covers 9 _ (by decide +kernel) fun t hf y => ?_
  blk_simp [idx t]
  rw [after0_9]
  have e0 : ((win0_9.blk t).view.emb y 0).val = 128 * t.val + (y 0).val := by blk_simp [idx t]; omega
  have e1 : ((win0_9.blk t).view.emb y 1).val = (y 1).val := by blk_simp [idx t]
  refine Eq.trans ?_ (aQ_eq (arrA m c) (arrS m c) (arrD m c) _ (pt t) (y 0) e0 _ (y 1) e1).symm
  by_cases h0 : t.val % 65 = 0
  · exact q9A m c t h0 _
  · exact q9B m c t h0 _

theorem arr10 : (dats m 0 c).arrAt 10 cfg0.N
    = fun z : S8320x256.Idx => (aCur (arrA m c) (arrS m c) (arrD m c) (z 0) (z 1) : EReal) := by
  refine (dats m 0 c).arrAt_eq_of_covers 10 _ (by decide +kernel) fun t hf y => ?_
  blk_simp [idx t]
  rw [after0_10]
  have e0 : ((win0_10.blk t).view.emb y 0).val = 128 * t.val + (y 0).val := by blk_simp [idx t]; omega
  have e1 : ((win0_10.blk t).view.emb y 1).val = (y 1).val := by blk_simp [idx t]
  refine Eq.trans ?_ (aCur_eq (arrA m c) (arrS m c) (arrD m c) _ (pt t) (y 0) e0 _ (y 1) e1).symm
  by_cases h0 : t.val % 65 = 0
  · exact q10A m c t h0 _
  · exact q10B m c t h0 _

theorem arr11 : (dats m 0 c).arrAt 11 cfg0.N
    = fun z : S8320x256.Idx => (aPrev (arrA m c) (arrS m c) (arrD m c) (z 0) (z 1) : EReal) := by
  refine (dats m 0 c).arrAt_eq_of_covers 11 _ (by decide +kernel) fun t hf y => ?_
  blk_simp [idx t]
  rw [after0_11]
  have e0 : ((win0_11.blk t).view.emb y 0).val = 128 * t.val + (y 0).val := by blk_simp [idx t]; omega
  have e1 : ((win0_11.blk t).view.emb y 1).val = (y 1).val := by blk_simp [idx t]
  refine Eq.trans ?_ (aPrev_eq (arrA m c) (arrS m c) (arrD m c) _ (pt t) (y 0) e0 _ (y 1) e1).symm
  by_cases h0 : t.val % 65 = 0
  · exact q11A m c t h0 _
  · exact q11B m c t h0 _

theorem acc12 (t : Fin cfg0.N) (ht : t.val % 65 = 64) (y : S128x256.Idx) :
    ((outsAt0 m c t.val t.isLt).2.2.2.1 y : EReal) = aMeta (arrA m c) (arrS m c) (arrD m c) (y 0) (y 1) := by
  refine (Pipeline.eq_sum_fin_of_reset_step_apply_of_flush (fun n h y => ((outsAt0 m c n h).2.2.2.1 y : EReal)) 65 (fun _ => 0)
    (fun t y => oKV (arrA m c) (arrS m c) (arrD m c) (pt t) (accRow y) (y 1))
    (fun t h j => q12A m c t h j) (fun t h j => q12B m c t h j) t ht y).trans ?_
  rw [zero_add]
  have h65 := lt_of_lt_of_eq t.isLt N_0
  refine Finset.sum_congr rfl fun n _ => ?_
  have : pt ⟨65 * (t.val / 65) + n.val, Pipeline.run_point_lt_of_flush t ht n⟩ = n := Fin.ext (by simp only [pt]; omega)
  rw [this]

theorem acc13 (t : Fin cfg0.N) (ht : t.val % 65 = 64) (y : S8x128.Idx) :
    ((outsAt0 m c t.val t.isLt).2.2.2.2 y : EReal) = aSink (arrA m c) (arrS m c) (arrD m c) (y 0) := by
  refine (Pipeline.eq_sum_fin_of_reset_step_apply_of_flush (fun n h y => ((outsAt0 m c n h).2.2.2.2 y : EReal)) 65 (fun _ => 0)
    (fun t y => oS (arrA m c) (arrS m c) (arrD m c) (pt t) (y 0))
    (fun t h j => q13A m c t h j) (fun t h j => q13B m c t h j) t ht y).trans ?_
  rw [zero_add]
  have h65 := lt_of_lt_of_eq t.isLt N_0
  refine Finset.sum_congr rfl fun n _ => ?_
  have : pt ⟨65 * (t.val / 65) + n.val, Pipeline.run_point_lt_of_flush t ht n⟩ = n := Fin.ext (by simp only [pt]; omega)
  rw [this]

theorem arr12 : (dats m 0 c).arrAt 12 cfg0.N
    = fun z : S128x256.Idx => (aMeta (arrA m c) (arrS m c) (arrD m c) (z 0) (z 1) : EReal) := by
  refine (dats m 0 c).arrAt_eq_of_covers 12 _ (by decide +kernel) fun t hf y => ?_
  blk_simp [idx t]
  rw [after0_12]
  have h0 : (win0_12.blk t).view.emb y 0 = y 0 := Fin.ext (by blk_simp [idx t])
  have h1 : (win0_12.blk t).view.emb y 1 = y 1 := Fin.ext (by blk_simp [idx t])
  exact (acc12 m c t ((flush0_12 t).mp hf) _).trans (congrArg₂ (aMeta (arrA m c) (arrS m c) (arrD m c)) h0 h1).symm

theorem arr13 : (dats m 0 c).arrAt 13 cfg0.N
    = fun z : S8x128.Idx => (aSink (arrA m c) (arrS m c) (arrD m c) (z 0) : EReal) := by
  refine (dats m 0 c).arrAt_eq_of_covers 13 _ (by decide +kernel) fun t hf y => ?_
  blk_simp [idx t]
  rw [after0_13]
  have h0 : (win0_13.blk t).view.emb y 0 = y 0 := Fin.ext (by blk_simp [idx t])
  exact (acc13 m c t ((flush0_13 t).mp hf) _).trans (congrArg (aSink (arrA m c) (arrS m c) (arrD m c)) h0).symm

end Cert.KernelIdeal.Value

end
-- ==== Proof.Swa.RefScores.lean ====
/- The reference's queries, keys, values, mask and scores are the specification's. -/
module

public import proofs.«01_k».proof.Proof.Gen.ReferenceIdeal.Run
public import proofs.«01_k».proof.Proof.Swa.Arrays
public import Idealize.ShloMosaic.Lib.Pointwise
public import Idealize.ShloMosaic.Lib.WordCmp
public import Idealize.ShloMosaic.Lib.WordArith

@[expose] public section

set_option maxRecDepth 16384

noncomputable section

namespace Cert.ReferenceIdeal.Swa
open Idealize.ShloMosaic Idealize.SL.Sem Idealize.ShloMosaic.StableHlo
open Cert.ReferenceIdeal Cert.ReferenceIdeal.Gen Cert.ReferenceIdeal.Value Cert.Swa

variable (V : Valuation τ sig (Elt Ideal))

/-- The array of queries, keys and values. -/
def rA (i : Fin 8320) (q : Fin 2304) : EReal := (show FVec Ideal S8320x2304 .f32 from V (Proc.devRef .tc main_arg0)) (ix2 i q)
/-- The sinks. -/
def rS (h : Fin 8) : EReal := (show FVec Ideal S8 .f32 from V (Proc.devRef .tc main_arg1)) (ix1 h)
/-- The cotangents. -/
def rD (i : Fin 8320) (q : Fin 1024) : EReal := (show FVec Ideal S8320x1024 .f32 from V (Proc.devRef .tc main_arg2)) (ix2 i q)

/-- Row `i` of head `h` among the group's rows. -/
def gRow (h : Fin 4) (i : Fin 128) : Fin 512 := ⟨128 * h.val + i.val, by omega⟩

variable (n : Fin 65) (kv : Fin 2) (h : Fin 4) (i : Fin 128)

theorem gRow_div : (gRow h i).val / 128 = h.val := by simp only [gRow]; omega
theorem gRow_mod : (gRow h i).val % 128 = i.val := by simp only [gRow]; omega

theorem q_eq (d : Fin 64) : ((res_main_v18 V : FVec Ideal S65x128x2x4x64 .f32) (ix5 n i kv h d) : EReal) = gQ (rA V) n kv (gRow h i) d := by
  pointwise [res_main_v18]
  unfold gQ gQ0 rA c8
  congr 3 <;> refine Fin.ext ?_
  · simp only [gRow_mod]; omega
  · simp only [gRow_div]; omega

theorem do_eq (d : Fin 64) : ((res_main_v108 V : FVec Ideal S65x2x64x4x128 .f32) (ix5 n kv d h i) : EReal) = gD (rD V) n kv (gRow h i) d := by
  pointwise [res_main_v108]
  unfold gD rD
  congr 2 <;> refine Fin.ext ?_
  · simp only [gRow_mod]; omega
  · simp only [gRow_div]; omega

theorem k_raw (j : Fin 128) (d : Fin 64) : ((res_main_v3 V : FVec Ideal S65x128x2x64 .f32) (ix4 n j kv d) : EReal)
    = rA V ⟨128 * n.val + j.val, by omega⟩ ⟨512 + 64 * kv.val + d.val, by omega⟩ := by
  pointwise [res_main_v3]
  unfold rA
  refine congrArg _ ((ix2_inj _ _ _ _).mpr ⟨Fin.ext ?_, Fin.ext ?_⟩) <;> simp only [] <;> omega

theorem v_raw (j : Fin 128) (d : Fin 64) : ((res_main_v5 V : FVec Ideal S65x128x2x64 .f32) (ix4 n j kv d) : EReal)
    = rA V ⟨128 * n.val + j.val, by omega⟩ ⟨640 + 64 * kv.val + d.val, by omega⟩ := by
  pointwise [res_main_v5]
  unfold rA
  refine congrArg _ ((ix2_inj _ _ _ _).mpr ⟨Fin.ext ?_, Fin.ext ?_⟩) <;> simp only [] <;> omega

theorem mask_eq (j : Fin 272) : (res_main_v71_1 V : IVec S65x2x4x128x272 1) (ix5 n kv h i j) = vis n.val (gRow h i) (shift j) := by
  pointwise [res_main_v71_1, res_main_v48, res_main_v43, res_main_v33, res_main_v25]
  have hn := WordArith.toInt_ofNat_small n.val (by omega)
  have hi := WordArith.toInt_ofNat_small i.val (by omega)
  have c128 : (128#32 : BitVec 32).toInt = 128 := by decide
  have c112 : (112#32 : BitVec 32).toInt = 112 := by decide
  have c1 : (1#32 : BitVec 32).toInt = 1 := by decide
  have c0 : (0#32 : BitVec 32).toInt = 0 := by decide
  have hm : (BitVec.ofNat 32 n.val * 128#32).toInt = n.val * 128 := by
    rw [WordArith.toInt_mul_of_bounds] <;> rw [hn, c128] <;> omega
  have hq : (BitVec.ofNat 32 n.val * 128#32 + BitVec.ofNat 32 i.val).toInt = n.val * 128 + i.val := by
    rw [WordArith.toInt_add_of_bounds] <;> rw [hm, hi] <;> omega
  unfold vis
  rw [gRow_mod]
  split_ifs with hj
  · have hk : (112#32 + BitVec.ofNat 32 j.val : BitVec 32).toInt = 112 + j.val := by
      have := WordArith.toInt_ofNat_small j.val (by omega)
      rw [WordArith.toInt_add_of_bounds] <;> rw [c112, this] <;> omega
    rw [WordCmp.cmpi_sle_eq]
    simp only [IntOp.addi, IntOp.muli, hq, hk]
    refine congrArg _ (decide_eq_decide.mpr ?_)
    unfold Visible shift
    simp only []
    omega
  · have hs : (BitVec.ofNat 32 n.val - 1#32).toInt = n.val - 1 := by
      rw [WordArith.toInt_sub_of_bounds] <;> rw [hn, c1] <;> omega
    have hm' : ((BitVec.ofNat 32 n.val - 1#32) * 128#32).toInt = (n.val - 1) * 128 := by
      rw [WordArith.toInt_mul_of_bounds] <;> rw [hs, c128] <;> omega
    have hk : ((BitVec.ofNat 32 n.val - 1#32) * 128#32 + BitVec.ofNat 32 (j.val - 16)).toInt = (n.val - 1) * 128 + (j.val - 16) := by
      have := WordArith.toInt_ofNat_small (j.val - 16) (by omega)
      rw [WordArith.toInt_add_of_bounds] <;> rw [hm', this] <;> omega
    have hd : (BitVec.ofNat 32 n.val * 128#32 + BitVec.ofNat 32 i.val
        - ((BitVec.ofNat 32 n.val - 1#32) * 128#32 + BitVec.ofNat 32 (j.val - 16))).toInt
        = n.val * 128 + i.val - ((n.val - 1) * 128 + (j.val - 16)) := by
      rw [WordArith.toInt_sub_of_bounds] <;> rw [hq, hk] <;> omega
    rw [WordCmp.cmpi_sge_eq, WordCmp.cmpi_slt_eq, WordCmp.cmpi_sge_eq, WordCmp.andi_ofBool, WordCmp.andi_ofBool]
    simp only [IntOp.addi, IntOp.muli, IntOp.subi, hd, hk, c0, c128, ← Bool.decide_and]
    refine congrArg _ (decide_eq_decide.mpr ?_)
    unfold Visible shift
    simp only []
    omega

theorem shift_lt (j : Fin 272) (hj : j.val < 16) : keyRow n (shift j) = ⟨112 + j.val, by omega⟩ := by
  unfold keyRow shift; rw [if_pos (by simp only []; omega)]
theorem shift_mid (j : Fin 272) (hj : ¬ j.val < 16) (hj' : j.val - 16 < 128) :
    keyRow n (shift j) = ⟨128 * (n.val - 1) + (j.val - 16), by omega⟩ := by
  unfold keyRow shift; rw [if_neg (by simp only []; omega), if_pos (by simp only []; omega)]
  exact Fin.ext (by simp only []; omega)
theorem shift_hi (j : Fin 272) (hj' : ¬ j.val - 16 < 128) :
    keyRow n (shift j) = ⟨128 * n.val + (j.val - 16 - 128), by omega⟩ := by
  unfold keyRow shift; rw [if_neg (by simp only []; omega), if_neg (by simp only []; omega)]
  exact Fin.ext (by simp only []; omega)

/-- The reference's 272 keys (or values) of every block: the 16 meta keys, the block before, the block. -/
def cat (X : FVec Ideal S65x128x2x64 .f32) : FVec Ideal S65x272x2x64 .f32 :=
  concatenate S65x272x2x64 1 [⟨S65x16x2x64, (broadcastInDim S65x16x2x64 ![0, 1, 2, 3] bcast_S1x16x2x64_S65x16x2x64_0_1_2_3
      (broadcastInDim S1x16x2x64 ![1, 2, 3] bcast_S16x2x64_S1x16x2x64_1_2_3 (shapeCast _ (extractStridedSlice S1x16x2x64 ![0, 112, 0, 0] X
        slices_S65x128x2x64_S1x16x2x64_0_112_0_0) shapeCasts_S1x16x2x64_S16x2x64)) : FVec Ideal S65x16x2x64 .f32)⟩,
    ⟨S65x128x2x64, (extractStridedSlice S65x128x2x64 ![0, 0, 0, 0] (pad S66x128x2x64 ![1, 0, 0, 0] ![0, 0, 0, 0] ![0, 0, 0, 0] X
      (sitofp .f32 (constantI S_ 32 0#32)) pads_S65x128x2x64_S66x128x2x64_100_000_000_000 h_S_) slices_S66x128x2x64_S65x128x2x64_0_0_0_0
      : FVec Ideal S65x128x2x64 .f32)⟩,
    ⟨S65x128x2x64, X⟩] concatenates_S65x16x2x64_S65x128x2x64_S65x128x2x64_S65x272x2x64_d1

theorem cat_lt (X : FVec Ideal S65x128x2x64 .f32) (j : Fin 272) (d : Fin 64) (hj : j.val < 16) :
    cat X (ix4 n j kv d) = X (ix4 0 ⟨112 + j.val, by omega⟩ kv d) := by
  pointwise [cat]
  rw [dif_pos hj]
theorem cat_mid (X : FVec Ideal S65x128x2x64 .f32) (j : Fin 272) (d : Fin 64) (hj : ¬ j.val < 16) (hj' : j.val - 16 < 128) (hn : 1 ≤ n.val) :
    cat X (ix4 n j kv d) = X (ix4 ⟨n.val - 1, by omega⟩ ⟨j.val - 16, by omega⟩ kv d) := by
  pointwise [cat]
  rw [dif_neg hj, dif_pos hj']
  split_ifs <;> first | rfl | omega
theorem cat_hi (X : FVec Ideal S65x128x2x64 .f32) (j : Fin 272) (d : Fin 64) (hj' : ¬ j.val - 16 < 128) :
    cat X (ix4 n j kv d) = X (ix4 n ⟨j.val - 16 - 128, by omega⟩ kv d) := by
  pointwise [cat]
  rw [dif_neg (by omega), dif_neg hj']

theorem k_eq_cat : res_main_v23 V = cat (res_main_v3 V) := rfl
theorem v_eq_cat : res_main_v24 V = cat (res_main_v5 V) := rfl

theorem vis_one {r : Fin 512} {j : Fin 384} (hj : vis n.val r j = 1#1) : Visible n.val (r.val % 128) j.val := by
  unfold vis at hj
  by_contra hc
  rw [decide_eq_false hc] at hj
  exact absurd hj (by decide)

/-- The keys or values that a query sees, from the rows of the array. -/
theorem cat_eq (X : FVec Ideal S65x128x2x64 .f32) (f : Fin 8320 → EReal) (d : Fin 64)
    (hX : ∀ (n : Fin 65) (j : Fin 128), (X (ix4 n j kv d) : EReal) = f ⟨128 * n.val + j.val, by omega⟩)
    (j : Fin 272) (r : Fin 512) (hv : vis n.val r (shift j) = 1#1) : (cat X (ix4 n j kv d) : EReal) = f (keyRow n (shift j)) := by
  have hV := vis_one n hv
  by_cases h1 : j.val < 16
  · rw [cat_lt n kv X j d h1, shift_lt n j h1, hX]
    exact congrArg f (Fin.ext (by simp))
  · by_cases h2 : j.val - 16 < 128
    · have h3 : 1 ≤ n.val := by
        unfold Visible shift at hV
        simp only [] at hV
        omega
      rw [cat_mid n kv X j d h1 h2 h3, shift_mid n j h1 h2, hX]
    · rw [cat_hi n kv X j d h2, shift_hi n j h2, hX]

theorem k_eq (j : Fin 272) (d : Fin 64) (r : Fin 512) (hv : vis n.val r (shift j) = 1#1) :
    ((res_main_v23 V : FVec Ideal S65x272x2x64 .f32) (ix4 n j kv d) : EReal) = gK (rA V) n kv (shift j) d := by
  rw [k_eq_cat]
  exact cat_eq n kv (res_main_v3 V) (fun i => rA V i ⟨512 + 64 * kv.val + d.val, by omega⟩) d (fun n j => k_raw V n kv j d) j r hv
theorem v_eq (j : Fin 272) (d : Fin 64) (r : Fin 512) (hv : vis n.val r (shift j) = 1#1) :
    ((res_main_v24 V : FVec Ideal S65x272x2x64 .f32) (ix4 n j kv d) : EReal) = gV (rA V) n kv (shift j) d := by
  rw [v_eq_cat]
  exact cat_eq n kv (res_main_v5 V) (fun i => rA V i ⟨640 + 64 * kv.val + d.val, by omega⟩) d (fun n j => v_raw V n kv j d) j r hv

/-- The scores of a row, and the mask. -/
abbrev sc (r : Fin 512) : Fin 384 → EReal := dots (gQ (rA V) n kv) (gK (rA V) n kv) r
/-- The cotangents of a row's weights. -/
abbrev ctg (r : Fin 512) : Fin 384 → EReal := dots (gD (rD V) n kv) (gV (rA V) n kv) r

theorem ninf : (Ideal.ofBits .f32 4286578688#32 : EReal) = ⊥ := by simp [Ideal.ofBits, Ideal.ieee]

theorem x_eq (k : Fin 273) : ((res_main_v74 V : FVec Ideal S65x2x4x128x273 .f32) (ix5 n kv h i k) : EReal)
    = refX (fun j => vis n.val (gRow h i) (shift j)) (fun j => sc V n kv (gRow h i) (shift j)) (gS (rS V) kv (gRow h i)) k := by
  pointwise [res_main_v74]
  unfold refX
  split_ifs with hk
  · beta_reduce
    rw [mask_eq]
    rcases bit_cases (vis n.val (gRow h i) (shift ⟨k.val, hk⟩)) with hb | hb
    · rw [hb]
      exact (ValueIdx.select_zero _ _).trans (ninf.trans (ValueIdx.select_zero _ _).symm)
    · rw [hb, ValueIdx.select_one, ValueIdx.select_one]
      refine Finset.sum_congr (M := EReal) rfl fun x _ => ?_
      rw [k_eq V n kv _ x _ hb, q_eq V n kv h i x]
      exact mul_comm _ _
  · unfold gS rS
    refine congrArg _ (congrArg _ (Fin.ext ?_))
    simp only [gRow_div]; omega

theorem ct_eq (k : Fin 272) (hv : vis n.val (gRow h i) (shift k) = 1#1) :
    ((res_main_v112 V : FVec Ideal S65x2x4x128x273 .f32) (ix5 n kv h i ⟨k.val, by omega⟩) : EReal) = ctg V n kv (gRow h i) (shift k) := by
  pointwise [res_main_v112]
  refine Finset.sum_congr (M := EReal) rfl fun x _ => ?_
  rw [do_eq V n kv h i x]
  exact congrArg _ (v_eq V n kv k x _ hv)
theorem ct_zero : ((res_main_v112 V : FVec Ideal S65x2x4x128x273 .f32) (ix5 n kv h i ⟨272, by omega⟩) : EReal) = (0 : EReal) := by
  pointwise [res_main_v112]

end Cert.ReferenceIdeal.Swa

end
-- ==== Proof.Swa.RefOps.lean ====
/- The array operations of the reference's softmax and of its derivative, read at one index. -/
module

public import proofs.«01_k».proof.Proof.Gen.ReferenceIdeal.Run
public import proofs.«01_k».proof.Proof.Swa.Arrays
public import Idealize.ShloMosaic.Lib.Pointwise

@[expose] public section

set_option maxRecDepth 16384

noncomputable section

namespace Cert.ReferenceIdeal.Swa
open Idealize.ShloMosaic Idealize.SL.Sem Idealize.ShloMosaic.StableHlo
open Cert.ReferenceIdeal Cert.ReferenceIdeal.Gen Cert.ReferenceIdeal.Value Cert.Swa

/-- An array over the blocks, groups, heads, rows, columns and the sink. -/
abbrev Full := FVec Ideal S65x2x4x128x273 .f32

variable (n : Fin 65) (kv : Fin 2) (h : Fin 4) (i : Fin 128)

def opMax (X : Full) : FVec Ideal S65x2x4x128 .f32 :=
  Host.reduce FloatOps.maximumf X (constant S_ .f32 0xFF800000#32) reducesTo_S65x2x4x128x273_S65x2x4x128_d4 h_S_

theorem opMax_eq (X : Full) : (opMax X (ix4 n kv h i) : EReal)
    = Finset.univ.fold max (Ideal.ofBits .f32 4286578688#32 : EReal) fun k : Fin 273 => (X (ix5 n kv h i k) : EReal) := by
  pointwise [opMax]

def opE (X : Full) (M : FVec Ideal S65x2x4x128 .f32) : Full :=
  Host.exp (subf X (broadcastInDim S65x2x4x128x273 ![0, 1, 2, 3, 4] bcast_S65x2x4x128x1_S65x2x4x128x273_0_1_2_3_4 (broadcastInDim S65x2x4x128x1 ![0, 1, 2, 3] bcast_S65x2x4x128_S65x2x4x128x1_0_1_2_3 (maximumf (broadcastInDim S65x2x4x128 ![] bcast_S_S65x2x4x128 (constant S_ .f32 0xFF800000#32)) M))))

theorem opE_eq (X : Full) (M : FVec Ideal S65x2x4x128 .f32) (k : Fin 273) : (opE X M (ix5 n kv h i k) : EReal)
    = Ideal.exp (X (ix5 n kv h i k) - max (Ideal.ofBits .f32 4286578688#32) (M (ix4 n kv h i))) := by
  pointwise [opE]

def opDen (E : Full) : FVec Ideal S65x2x4x128x1 .f32 :=
  broadcastInDim S65x2x4x128x1 ![0, 1, 2, 3] bcast_S65x2x4x128_S65x2x4x128x1_0_1_2_3 (Host.reduceAdd E (constant S_ .f32 0x00000000#32) reducesTo_S65x2x4x128x273_S65x2x4x128_d4 h_S_)

theorem opDen_eq (E : Full) : (opDen E (ix5 n kv h i 0) : EReal) = ∑ k : Fin 273, (E (ix5 n kv h i k) : EReal) := by
  pointwise [opDen]

def opP (E : Full) (N : FVec Ideal S65x2x4x128x1 .f32) : FVec Ideal S65x2x4x128x272 .f32 :=
  extractStridedSlice S65x2x4x128x272 ![0, 0, 0, 0, 0] (Host.divf E (broadcastInDim S65x2x4x128x273 ![0, 1, 2, 3, 4] bcast_S65x2x4x128x1_S65x2x4x128x273_0_1_2_3_4 N)) slices_S65x2x4x128x273_S65x2x4x128x272_0_0_0_0_0

theorem opP_eq (E : Full) (N : FVec Ideal S65x2x4x128x1 .f32) (k : Fin 272) : (opP E N (ix5 n kv h i k) : EReal)
    = Ideal.div (E (ix5 n kv h i ⟨k.val, by omega⟩)) (N (ix5 n kv h i 0)) := by
  pointwise [opP]

def opDS (C : Full) (N : FVec Ideal S65x2x4x128x1 .f32) (E : Full) : Full :=
  mulf (addf (Host.divf C (broadcastInDim S65x2x4x128x273 ![0, 1, 2, 3, 4] bcast_S65x2x4x128x1_S65x2x4x128x273_0_1_2_3_4 N)) (broadcastInDim S65x2x4x128x273 ![0, 1, 2, 3] bcast_S65x2x4x128_S65x2x4x128x273_0_1_2_3 (Host.reduceAdd (Host.negf (shapeCast _ (Host.reduceAdd (mulf (mulf C (broadcastInDim S65x2x4x128x273 ![0, 1, 2, 3, 4] bcast_S65x2x4x128x1_S65x2x4x128x273_0_1_2_3_4 (Host.divf (broadcastInDim S65x2x4x128x1 ![] bcast_S_S65x2x4x128x1 (constant S_ .f32 0x3F800000#32)) (mulf N N)))) E) (constant S_ .f32 0x00000000#32) reducesTo_S65x2x4x128x273_S65x2x4x128_d4 h_S_) shapeCasts_S65x2x4x128_S65x2x4x128x1)) (constant S_ .f32 0x00000000#32) reducesTo_S65x2x4x128x1_S65x2x4x128_d4 h_S_))) E

theorem opDS_eq (C : Full) (N : FVec Ideal S65x2x4x128x1 .f32) (E : Full) (k : Fin 273) : (opDS C N E (ix5 n kv h i k) : EReal)
    = (Ideal.div (C (ix5 n kv h i k)) (N (ix5 n kv h i 0))
        + ∑ _x : Fin 1, -(∑ x : Fin 273, (C (ix5 n kv h i x) : EReal) * Ideal.div 1 (N (ix5 n kv h i 0) * N (ix5 n kv h i 0)) * E (ix5 n kv h i x)))
      * E (ix5 n kv h i k) := by
  pointwise [opDS]

def opSel (B : IVec S65x2x4x128x272 1) (G : Full) : FVec Ideal S65x2x272x128x4 .f32 :=
  transpose S65x2x272x128x4 [0, 1, 4, 3, 2] (select B (extractStridedSlice S65x2x4x128x272 ![0, 0, 0, 0, 0] G slices_S65x2x4x128x273_S65x2x4x128x272_0_0_0_0_0) (broadcastInDim S65x2x4x128x272 ![] bcast_S_S65x2x4x128x272 (constant S_ .f32 0x00000000#32))) transposes_S65x2x4x128x272_S65x2x272x128x4_0_1_4_3_2

theorem opSel_eq (B : IVec S65x2x4x128x272 1) (G : Full) (j : Fin 272) : (opSel B G (ix5 n kv j i h) : EReal)
    = Scalar.select (B (ix5 n kv h i j)) (G (ix5 n kv h i ⟨j.val, by omega⟩)) (0 : EReal) := by
  pointwise [opSel]

def opDK (Z : FVec Ideal S65x2x272x128x4 .f32) (Q : FVec Ideal S65x128x2x4x64 .f32) : FVec Ideal S65x272x2x64 .f32 :=
  transpose S65x272x2x64 [0, 2, 1, 3] (Host.dotGeneral dot_S65x2x272x128x4_S65x128x2x4x64_S65x2x272x64_34_13_2_4_01_02 none Z Q : FVec Ideal S65x2x272x64 .f32) transposes_S65x2x272x64_S65x272x2x64_0_2_1_3

theorem opDK_eq (Z : FVec Ideal S65x2x272x128x4 .f32) (Q : FVec Ideal S65x128x2x4x64 .f32) (j : Fin 272) (d : Fin 64) :
    (opDK Z Q (ix4 n j kv d) : EReal) = ∑ i : Fin 128, ∑ h : Fin 4, (Z (ix5 n kv j i h) : EReal) * Q (ix5 n i kv h d) := by
  pointwise [opDK]

def opDV (D : FVec Ideal S65x2x64x4x128 .f32) (P : FVec Ideal S65x2x4x128x272 .f32) : FVec Ideal S65x272x2x64 .f32 :=
  transpose S65x272x2x64 [0, 3, 1, 2] (Host.dotGeneral dot_S65x2x64x4x128_S65x2x4x128x272_S65x2x64x272_34_23_2_4_01_01 none D P : FVec Ideal S65x2x64x272 .f32) transposes_S65x2x64x272_S65x272x2x64_0_3_1_2

theorem opDV_eq (D : FVec Ideal S65x2x64x4x128 .f32) (P : FVec Ideal S65x2x4x128x272 .f32) (j : Fin 272) (d : Fin 64) :
    (opDV D P (ix4 n j kv d) : EReal) = ∑ h : Fin 4, ∑ i : Fin 128, (D (ix5 n kv d h i) : EReal) * P (ix5 n kv h i j) := by
  pointwise [opDV]

def opDQ (Z : FVec Ideal S65x2x272x128x4 .f32) (K : FVec Ideal S65x272x2x64 .f32) : FVec Ideal S8320x512 .f32 :=
  shapeCast S8320x512 (shapeCast S8320x8x64 (mulf (transpose S65x128x2x4x64 [0, 2, 1, 3, 4] (Host.dotGeneral dot_S65x2x272x128x4_S65x272x2x64_S65x2x128x4x64_2_1_34_3_01_02 none Z K : FVec Ideal S65x2x128x4x64 .f32) transposes_S65x2x128x4x64_S65x128x2x4x64_0_2_1_3_4) (broadcastInDim S65x128x2x4x64 ![] bcast_S_S65x128x2x4x64 (constant S_ .f32 0x3E000000#32))) shapeCasts_S65x128x2x4x64_S8320x8x64) shapeCasts_S8320x8x64_S8320x512

theorem opDQ_eq (Z : FVec Ideal S65x2x272x128x4 .f32) (K : FVec Ideal S65x272x2x64 .f32) (r : Fin 8320) (q : Fin 512) :
    (opDQ Z K (ix2 r q) : EReal) = (∑ j : Fin 272, (Z (ix5 ⟨r.val / 128, by omega⟩ ⟨q.val / 256, by omega⟩ j ⟨r.val % 128, by omega⟩ ⟨q.val / 64 % 4, by omega⟩) : EReal)
      * K (ix4 ⟨r.val / 128, by omega⟩ j ⟨q.val / 256, by omega⟩ ⟨q.val % 64, by omega⟩)) * c8 := by
  pointwise [opDQ]
  unfold c8
  rfl

def opCur (X Y : FVec Ideal S65x272x2x64 .f32) : FVec Ideal S8320x256 .f32 :=
  concatenate S8320x256 1 [⟨S8320x128, (shapeCast _ (extractStridedSlice S65x128x2x64 ![0, 144, 0, 0] X slices_S65x272x2x64_S65x128x2x64_0_144_0_0) shapeCasts_S65x128x2x64_S8320x128 : FVec Ideal S8320x128 .f32)⟩, ⟨S8320x128, (shapeCast _ (extractStridedSlice S65x128x2x64 ![0, 144, 0, 0] Y slices_S65x272x2x64_S65x128x2x64_0_144_0_0) shapeCasts_S65x128x2x64_S8320x128 : FVec Ideal S8320x128 .f32)⟩] concatenates_S8320x128_S8320x128_S8320x256_d1

theorem opCur_eq (X Y : FVec Ideal S65x272x2x64 .f32) (r : Fin 8320) (q : Fin 256) : (opCur X Y (ix2 r q) : EReal)
    = if h : q.val < 128 then X (ix4 ⟨r.val / 128, by omega⟩ ⟨144 + r.val % 128, by omega⟩ ⟨q.val / 64, by omega⟩ ⟨q.val % 64, by omega⟩)
      else Y (ix4 ⟨r.val / 128, by omega⟩ ⟨144 + r.val % 128, by omega⟩ ⟨(q.val - 128) / 64, by omega⟩ ⟨(q.val - 128) % 64, by omega⟩) := by
  pointwise [opCur]

def opPrev (X Y : FVec Ideal S65x272x2x64 .f32) : FVec Ideal S8320x256 .f32 :=
  concatenate S8320x256 1 [⟨S8320x128, (shapeCast _ (extractStridedSlice S65x128x2x64 ![0, 16, 0, 0] X slices_S65x272x2x64_S65x128x2x64_0_16_0_0) shapeCasts_S65x128x2x64_S8320x128 : FVec Ideal S8320x128 .f32)⟩, ⟨S8320x128, (shapeCast _ (extractStridedSlice S65x128x2x64 ![0, 16, 0, 0] Y slices_S65x272x2x64_S65x128x2x64_0_16_0_0) shapeCasts_S65x128x2x64_S8320x128 : FVec Ideal S8320x128 .f32)⟩] concatenates_S8320x128_S8320x128_S8320x256_d1

theorem opPrev_eq (X Y : FVec Ideal S65x272x2x64 .f32) (r : Fin 8320) (q : Fin 256) : (opPrev X Y (ix2 r q) : EReal)
    = if h : q.val < 128 then X (ix4 ⟨r.val / 128, by omega⟩ ⟨16 + r.val % 128, by omega⟩ ⟨q.val / 64, by omega⟩ ⟨q.val % 64, by omega⟩)
      else Y (ix4 ⟨r.val / 128, by omega⟩ ⟨16 + r.val % 128, by omega⟩ ⟨(q.val - 128) / 64, by omega⟩ ⟨(q.val - 128) % 64, by omega⟩) := by
  pointwise [opPrev]

/-- The sum over the blocks of the gradients of the meta keys. -/
def opMetaSum (X : FVec Ideal S65x272x2x64 .f32) : FVec Ideal S16x128 .f32 :=
  shapeCast _ (Host.reduceAdd (broadcastInDim S1x16x2x64 ![1, 2, 3] bcast_S16x2x64_S1x16x2x64_1_2_3 (Host.reduceAdd (extractStridedSlice S65x16x2x64 ![0, 0, 0, 0] X slices_S65x272x2x64_S65x16x2x64_0_0_0_0) (constant S_ .f32 0x00000000#32) reducesTo_S65x16x2x64_S16x2x64_d0 h_S_)) (constant S_ .f32 0x00000000#32) reducesTo_S1x16x2x64_S16x2x64_d0 h_S_) shapeCasts_S16x2x64_S16x128

theorem opMetaSum_eq (X : FVec Ideal S65x272x2x64 .f32) (r : Fin 16) (q : Fin 128) : (opMetaSum X (ix2 r q) : EReal)
    = ∑ n : Fin 65, (X (ix4 n ⟨r.val, by omega⟩ ⟨q.val / 64, by omega⟩ ⟨q.val % 64, by omega⟩) : EReal) := by
  pointwise [opMetaSum]
  exact Fin.sum_univ_one _

def opMeta (X Y : FVec Ideal S16x128 .f32) : FVec Ideal S128x256 .f32 :=
  pad S128x256 ![112, 0] ![0, 0] ![0, 0] (concatenate S16x256 1 [⟨S16x128, X⟩, ⟨S16x128, Y⟩] concatenates_S16x128_S16x128_S16x256_d1) (sitofp .f32 (constantI S_ 32 0#32)) pads_S16x256_S128x256_11200_000 h_S_

theorem opMeta_lo (X Y : FVec Ideal S16x128 .f32) (r : Fin 128) (q : Fin 256) (hr : r.val < 112) : (opMeta X Y (ix2 r q) : EReal) = 0 := by
  pointwise [opMeta]
  rw [dif_neg (by omega)]
  exact (congrArg ((↑) : ℝ → EReal) (by simp : (((0#32 : BitVec 32).toInt : ℤ) : ℝ) = 0)).trans EReal.coe_zero
theorem opMeta_hi (X Y : FVec Ideal S16x128 .f32) (r : Fin 128) (q : Fin 256) (hr : 112 ≤ r.val) : (opMeta X Y (ix2 r q) : EReal)
    = if h : q.val < 128 then X (ix2 ⟨r.val - 112, by omega⟩ ⟨q.val, by omega⟩) else Y (ix2 ⟨r.val - 112, by omega⟩ ⟨q.val - 128, by omega⟩) := by
  pointwise [opMeta]
  rw [dif_pos ⟨hr, by omega⟩]

/-- The entries of a group and head, one for each block and row. -/
theorem sink_fiber (a : Fin 2) (b : Fin 4) (y : S65x2x4x128x1.Idx) :
    reducesTo_S65x2x4x128x1_S2x4_d0_3_4.drop y = ix2 a b ↔ ∃ p : Fin 65 × Fin 128, ix5 p.1 a b p.2 (0 : Fin 1) = y := by
  constructor
  · intro e
    refine ⟨(y 0, y 3), ?_⟩
    funext c; apply Fin.ext
    match c with
    | ⟨0, _⟩ => rfl
    | ⟨1, _⟩ => exact (congrArg Fin.val (congrFun e 0)).symm
    | ⟨2, _⟩ => exact (congrArg Fin.val (congrFun e 1)).symm
    | ⟨3, _⟩ => rfl
    | ⟨4, _⟩ => exact (Nat.lt_one_iff.mp (y 4).isLt).symm
  · rintro ⟨p, rfl⟩
    funext c; apply Fin.ext
    match c with
    | ⟨0, _⟩ => rfl
    | ⟨1, _⟩ => rfl

theorem sum_sink (a : Fin 2) (b : Fin 4) (v : S65x2x4x128x1.Idx → EReal) :
    ∑ y ∈ Finset.univ.filter (fun y => reducesTo_S65x2x4x128x1_S2x4_d0_3_4.drop y = ix2 a b), v y
      = ∑ n : Fin 65, ∑ i : Fin 128, v (ix5 n a b i (0 : Fin 1)) := by
  rw [Finset.sum_filter_eq_sum_of_fiber _ (fun p : Fin 65 × Fin 128 => ix5 p.1 a b p.2 (0 : Fin 1))
    (fun p q e => Prod.ext (congrFun e 0) (congrFun e 3)) (sink_fiber a b) v, Fintype.sum_prod_type]

def opSink (G : Full) : FVec Ideal S8x128 .f32 :=
  broadcastInDim S8x128 ![0, 1] bcast_S8x1_S8x128_0_1 (broadcastInDim S8x1 ![0] bcast_S8_S8x1_0 (shapeCast _ (broadcastInDim S1x2x4x1x1 ![1, 2] bcast_S2x4_S1x2x4x1x1_1_2 (Host.reduceAdd (extractStridedSlice S65x2x4x128x1 ![0, 0, 0, 0, 272] G slices_S65x2x4x128x273_S65x2x4x128x1_0_0_0_0_272) (constant S_ .f32 0x00000000#32) reducesTo_S65x2x4x128x1_S2x4_d0_3_4 h_S_)) shapeCasts_S1x2x4x1x1_S8))

theorem opSink_eq (G : Full) (r : Fin 8) (q : Fin 128) : (opSink G (ix2 r q) : EReal)
    = ∑ n : Fin 65, ∑ i : Fin 128, (G (ix5 n ⟨r.val / 4, by omega⟩ ⟨r.val % 4, by omega⟩ i ⟨272, by omega⟩) : EReal) := by
  pointwise [opSink]
  refine (congrArg (fun e : EReal => 0 + e) (sum_sink _ _ _)).trans ((zero_add _).trans ?_)
  refine Finset.sum_congr rfl fun n _ => Finset.sum_congr rfl fun i _ => ?_
  pointwise

end Cert.ReferenceIdeal.Swa

end
-- ==== Proof.Swa.RefRows.lean ====
/- The reference's weights and score gradients are the specification's. -/
module

public import proofs.«01_k».proof.Proof.Swa.RefScores
public import proofs.«01_k».proof.Proof.Swa.RefOps

@[expose] public section

set_option maxRecDepth 16384

noncomputable section

namespace Cert.ReferenceIdeal.Swa
open Idealize.ShloMosaic Idealize.SL.Sem Idealize.ShloMosaic.StableHlo
open Cert.ReferenceIdeal Cert.ReferenceIdeal.Gen Cert.ReferenceIdeal.Value Cert.Swa

/-! ### One row: the largest score, the weights before the division, their sum and the weights -/
section
variable (X : Full) (n : Fin 65) (kv : Fin 2) (h : Fin 4) (i : Fin 128)
variable {v : Fin 384 → BitVec 1} {s : Fin 384 → EReal} {σ : EReal}
  (hv : ∀ j : Fin 384, (j : ℕ) < 112 → v j = 0#1) (hs : ∀ j, v j = 1#1 → IsReal (s j)) (hσ : IsReal σ)
  (hX : ∀ k, (X (ix5 n kv h i k) : EReal) = refX (fun j => v (shift j)) (fun j => s (shift j)) σ k)

include hv hX in
theorem opMax_row : (opMax X (ix4 n kv h i) : EReal) = rowM v s σ := by
  refine max_eq hv _ (fun k => ?_) fun b hb => ?_
  · rw [← hX k, opMax_eq]
    exact (Finset.le_fold_max _).mpr (Or.inr ⟨k, Finset.mem_univ _, le_rfl⟩)
  · rw [opMax_eq]
    refine (Finset.fold_max_le _).mpr ⟨?_, fun k _ => ?_⟩
    · rw [ninf]; exact bot_le
    · rw [hX k]; exact hb k

include hv hX in
theorem opE_raw (k : Fin 273) : (opE X (opMax X) (ix5 n kv h i k) : EReal)
    = Ideal.exp (refX (fun j => v (shift j)) (fun j => s (shift j)) σ k - rowM v s σ) := by
  rw [opE_eq, hX k, opMax_row X n kv h i hv hX, ninf, max_eq_right bot_le]

include hv hs hσ hX in
theorem opE_row (k : Fin 272) : (opE X (opMax X) (ix5 n kv h i ⟨k.val, by omega⟩) : EReal) = rowE v s σ (shift k) :=
  (opE_raw X n kv h i hv hX _).trans (exp_eq hs hσ k)
include hv hX in
theorem opE_sink : (opE X (opMax X) (ix5 n kv h i ⟨272, by omega⟩) : EReal) = rowEs v s σ :=
  (opE_raw X n kv h i hv hX _).trans exp_sink

include hv hs hσ hX in
theorem opDen_row : (opDen (opE X (opMax X)) (ix5 n kv h i 0) : EReal) = rowDen v s σ := by
  rw [opDen_eq]
  exact den_eq _ (opE_row X n kv h i hv hs hσ hX) (opE_sink X n kv h i hv hX) hv

include hv hs hσ hX in
theorem opP_row (k : Fin 272) : (opP (opE X (opMax X)) (opDen (opE X (opMax X))) (ix5 n kv h i k) : EReal) = rowP v s σ (shift k) := by
  rw [opP_eq, opDen_row X n kv h i hv hs hσ hX, opE_row X n kv h i hv hs hσ hX]
  rfl

variable (C : Full) (g : Fin 384 → EReal) (hC : ∀ k : Fin 272, v (shift k) = 1#1 → (C (ix5 n kv h i ⟨k.val, by omega⟩) : EReal) = g (shift k))
  (hC0 : (C (ix5 n kv h i ⟨272, by omega⟩) : EReal) = 0)

include hv hs hσ hX hC hC0 in
/-- The derivative of the softmax along the row. -/
theorem opDS_row : (∀ k : Fin 272, v (shift k) = 1#1 →
      (opDS C (opDen (opE X (opMax X))) (opE X (opMax X)) (ix5 n kv h i ⟨k.val, by omega⟩) : EReal) = rowDS v s σ g (shift k))
    ∧ (opDS C (opDen (opE X (opMax X))) (opE X (opMax X)) (ix5 n kv h i ⟨272, by omega⟩) : EReal) = rowDsk v s σ g := by
  have hd := ds_eq hv hs hσ (fun k => (opE X (opMax X) (ix5 n kv h i k) : EReal)) (fun k => (C (ix5 n kv h i k) : EReal))
    (opE_row X n kv h i hv hs hσ hX) (opE_sink X n kv h i hv hX) g hC hC0
  refine ⟨fun k hk => ?_, ?_⟩
  · rw [opDS_eq, opDen_row X n kv h i hv hs hσ hX]
    exact hd.1 k hk
  · rw [opDS_eq, opDen_row X n kv h i hv hs hσ hX]
    exact hd.2

variable (B : IVec S65x2x4x128x272 1) (hB : ∀ j, B (ix5 n kv h i j) = v (shift j))

include hv hs hσ hX hC hC0 hB in
theorem opSel_row (k : Fin 272) :
    (opSel B (opDS C (opDen (opE X (opMax X))) (opE X (opMax X))) (ix5 n kv k i h) : EReal) = rowDS v s σ g (shift k) := by
  rw [opSel_eq, hB]
  rcases bit_cases (v (shift k)) with h0 | h1
  · rw [h0, ValueIdx.select_zero, (rowDS_zero g hs hσ _ h0).2]
  · rw [h1, ValueIdx.select_one]
    exact (opDS_row X n kv h i hv hs hσ hX C g hC hC0).1 k h1
end

variable (V : Valuation τ sig (Elt Ideal))
variable (hA : ∀ i q, q.val < 640 → IsReal (rA V i q)) (hS : ∀ h, IsReal (rS V h))
variable (n : Fin 65) (kv : Fin 2) (h : Fin 4) (i : Fin 128)

theorem c8_real : IsReal c8 := ⟨1 / 8, by unfold c8; simp [Ideal.ofBits, Ideal.ieee, -EReal.coe_mul]; norm_num⟩

include hA in
theorem sc_real (r : Fin 512) (j : Fin 384) : IsReal (sc V n kv r j) := by
  refine IsReal.sum fun d => IsReal.mul (IsReal.mul (hA _ _ ?_) c8_real) (hA _ _ ?_) <;> simp only [] <;> omega

include hS in
theorem sink_real (r : Fin 512) : IsReal (gS (rS V) kv r) := hS _

theorem eqE : res_main_v95 V = opE (res_main_v74 V) (opMax (res_main_v74 V)) := rfl
theorem eqDen : res_main_v97 V = opDen (res_main_v95 V) := rfl
theorem eqP : res_main_v103 V = opP (res_main_v95 V) (res_main_v97 V) := rfl
theorem eqDS : res_main_v124 V = opDS (res_main_v112 V) (res_main_v97 V) (res_main_v95 V) := rfl
theorem eqSel : res_main_v131 V = opSel (res_main_v71_1 V) (res_main_v124 V) := rfl

include hA hS in
/-- The attention weights. -/
theorem p_eq (k : Fin 272) : ((res_main_v103 V : FVec Ideal S65x2x4x128x272 .f32) (ix5 n kv h i k) : EReal)
    = attP n.val (gQ (rA V) n kv) (gK (rA V) n kv) (gS (rS V) kv) (gRow h i) (shift k) := by
  rw [eqP, eqDen, eqE]
  exact opP_row (res_main_v74 V) n kv h i (vis_pad _ _) (fun j _ => sc_real V hA n kv (gRow h i) j) (sink_real V hS kv (gRow h i)) (x_eq V n kv h i) k

include hA hS in
/-- The gradient of the scores. -/
theorem ds_row (k : Fin 272) : ((res_main_v131 V : FVec Ideal S65x2x272x128x4 .f32) (ix5 n kv k i h) : EReal)
    = attDS n.val (gQ (rA V) n kv) (gD (rD V) n kv) (gK (rA V) n kv) (gV (rA V) n kv) (gS (rS V) kv) (gRow h i) (shift k) := by
  rw [eqSel, eqDS, eqDen, eqE]
  exact opSel_row (res_main_v74 V) n kv h i (vis_pad _ _) (fun j _ => sc_real V hA n kv (gRow h i) j) (sink_real V hS kv (gRow h i)) (x_eq V n kv h i)
    (res_main_v112 V) (ctg V n kv (gRow h i)) (ct_eq V n kv h i) (ct_zero V n kv h i) (res_main_v71_1 V) (mask_eq V n kv h i) k

include hA hS in
/-- The gradient of the sink, at one row. -/
theorem dsk_row : ((res_main_v124 V : Full) (ix5 n kv h i ⟨272, by omega⟩) : EReal)
    = rowDsk (vis n.val (gRow h i)) (sc V n kv (gRow h i)) (gS (rS V) kv (gRow h i)) (ctg V n kv (gRow h i)) := by
  rw [eqDS, eqDen, eqE]
  exact (opDS_row (res_main_v74 V) n kv h i (vis_pad _ _) (fun j _ => sc_real V hA n kv (gRow h i) j) (sink_real V hS kv (gRow h i)) (x_eq V n kv h i)
    (res_main_v112 V) (ctg V n kv (gRow h i)) (ct_eq V n kv h i) (ct_zero V n kv h i)).2

end Cert.ReferenceIdeal.Swa

end
-- ==== Proof.Swa.RefResults.lean ====
/- The reference's five results are the specification's arrays. -/
module

public import proofs.«01_k».proof.Proof.Swa.RefRows

@[expose] public section

set_option maxRecDepth 16384

noncomputable section

namespace Cert.ReferenceIdeal.Swa
open Idealize.ShloMosaic Idealize.SL.Sem Idealize.ShloMosaic.StableHlo
open Cert.ReferenceIdeal Cert.ReferenceIdeal.Gen Cert.ReferenceIdeal.Value Cert.Swa

/-- The rows of a group, head by head. -/
theorem sum_gRow (f : Fin 512 → EReal) : ∑ r, f r = ∑ h : Fin 4, ∑ i : Fin 128, f (gRow h i) := by
  rw [← (finProdFinEquiv (m := 4) (n := 128)).sum_comp f, Fintype.sum_prod_type]
  refine Finset.sum_congr rfl fun h _ => Finset.sum_congr rfl fun i _ => congrArg f (Fin.ext ?_)
  simp [finProdFinEquiv, gRow]; omega

theorem opDK_rows (n : Fin 65) (kv : Fin 2) (Z : FVec Ideal S65x2x272x128x4 .f32) (Q : FVec Ideal S65x128x2x4x64 .f32) (j : Fin 272) (d : Fin 64)
    (f g : Fin 512 → EReal) (hZ : ∀ h i, (Z (ix5 n kv j i h) : EReal) = f (gRow h i)) (hQ : ∀ h i, (Q (ix5 n i kv h d) : EReal) = g (gRow h i)) :
    (opDK Z Q (ix4 n j kv d) : EReal) = ∑ r, f r * g r := by
  rw [opDK_eq, sum_gRow, Finset.sum_comm]
  exact Finset.sum_congr rfl fun h _ => Finset.sum_congr rfl fun i _ => by rw [hZ, hQ]

theorem opDV_rows (n : Fin 65) (kv : Fin 2) (D : FVec Ideal S65x2x64x4x128 .f32) (P : FVec Ideal S65x2x4x128x272 .f32) (j : Fin 272) (d : Fin 64)
    (f g : Fin 512 → EReal) (hD : ∀ h i, (D (ix5 n kv d h i) : EReal) = g (gRow h i)) (hP : ∀ h i, (P (ix5 n kv h i j) : EReal) = f (gRow h i)) :
    (opDV D P (ix4 n j kv d) : EReal) = ∑ r, f r * g r := by
  rw [opDV_eq, sum_gRow]
  exact Finset.sum_congr rfl fun h _ => Finset.sum_congr rfl fun i _ => by rw [hD, hP, mul_comm]

variable (V : Valuation τ sig (Elt Ideal))
variable (hA : ∀ i q, q.val < 640 → IsReal (rA V i q)) (hS : ∀ h, IsReal (rS V h))
variable (n : Fin 65) (kv : Fin 2)

theorem eqDK : res_main_v135 V = opDK (res_main_v131 V) (res_main_v18 V) := rfl
theorem eqDV : res_main_v111 V = opDV (res_main_v108 V) (res_main_v103 V) := rfl

include hA hS in
/-- The gradient of a block's keys. -/
theorem dk_eq (j : Fin 272) (d : Fin 64) : ((res_main_v135 V : FVec Ideal S65x272x2x64 .f32) (ix4 n j kv d) : EReal)
    = oDK (rA V) (rS V) (rD V) n kv (shift j) d := by
  rw [eqDK]
  exact opDK_rows n kv (res_main_v131 V) (res_main_v18 V) j d (fun r => attDS n.val (gQ (rA V) n kv) (gD (rD V) n kv) (gK (rA V) n kv) (gV (rA V) n kv) (gS (rS V) kv) r (shift j))
    (fun r => gQ (rA V) n kv r d) (fun h i => ds_row V hA hS n kv h i j) (fun h i => q_eq V n kv h i d)

include hA hS in
/-- The gradient of a block's values. -/
theorem dv_eq (j : Fin 272) (d : Fin 64) : ((res_main_v111 V : FVec Ideal S65x272x2x64 .f32) (ix4 n j kv d) : EReal)
    = oDV (rA V) (rS V) (rD V) n kv (shift j) d := by
  rw [eqDV]
  exact opDV_rows n kv (res_main_v108 V) (res_main_v103 V) j d (fun r => attP n.val (gQ (rA V) n kv) (gK (rA V) n kv) (gS (rS V) kv) r (shift j))
    (fun r => gD (rD V) n kv r d) (fun h i => do_eq V n kv h i d) (fun h i => p_eq V hA hS n kv h i j)

include hA hS in
/-- What a block sends to a key column, keys and values side by side. -/
theorem kv_eq (j : Fin 272) (q : Fin 256) :
    (if _h : q.val < 128 then ((res_main_v135 V : FVec Ideal S65x272x2x64 .f32) (ix4 n j ⟨q.val / 64, by omega⟩ ⟨q.val % 64, by omega⟩) : EReal)
      else (res_main_v111 V : FVec Ideal S65x272x2x64 .f32) (ix4 n j ⟨(q.val - 128) / 64, by omega⟩ ⟨(q.val - 128) % 64, by omega⟩))
      = oKV (rA V) (rS V) (rD V) n (shift j) q := by
  unfold oKV
  split_ifs with hq
  · rw [dk_eq V hA hS]
    congr 1 <;> exact Fin.ext (by simp only []; omega)
  · rw [dv_eq V hA hS]
    congr 1 <;> exact Fin.ext (by simp only []; omega)

include hA hS in
theorem cur_eq (r : Fin 8320) (q : Fin 256) : (opCur (res_main_v135 V) (res_main_v111 V) (ix2 r q) : EReal) = aCur (rA V) (rS V) (rD V) r q := by
  rw [opCur_eq]
  refine (kv_eq V hA hS (blkOf r) ⟨144 + r.val % 128, by omega⟩ q).trans ?_
  unfold aCur
  exact congrArg (fun j => oKV (rA V) (rS V) (rD V) (blkOf r) j q) (Fin.ext (by simp only [shift, rowOf]; omega))

include hA hS in
theorem prev_eq (r : Fin 8320) (q : Fin 256) : (opPrev (res_main_v135 V) (res_main_v111 V) (ix2 r q) : EReal) = aPrev (rA V) (rS V) (rD V) r q := by
  rw [opPrev_eq]
  refine (kv_eq V hA hS (blkOf r) ⟨16 + r.val % 128, by omega⟩ q).trans ?_
  unfold aPrev
  exact congrArg (fun j => oKV (rA V) (rS V) (rD V) (blkOf r) j q) (Fin.ext (by simp only [shift, rowOf]; omega))

include hA hS in
/-- Nothing flows through a column that a row does not see. -/
theorem unseen (r : Fin 512) (j : Fin 384) (h0 : vis n.val r j = 0#1) :
    attP n.val (gQ (rA V) n kv) (gK (rA V) n kv) (gS (rS V) kv) r j = 0
    ∧ attDS n.val (gQ (rA V) n kv) (gD (rD V) n kv) (gK (rA V) n kv) (gV (rA V) n kv) (gS (rS V) kv) r j = 0 :=
  rowDS_zero (ctg V n kv r) (fun j _ => sc_real V hA n kv r j) (sink_real V hS kv r) j h0

include hA hS in
/-- The gradient of one query. -/
theorem dq_eq (Z : FVec Ideal S65x2x272x128x4 .f32) (hZ : Z = res_main_v131 V) (K : FVec Ideal S65x272x2x64 .f32) (hK : K = res_main_v23 V)
    (h : Fin 4) (i : Fin 128) (d : Fin 64) :
    (∑ j : Fin 272, (Z (ix5 n kv j i h) : EReal) * K (ix4 n j kv d)) * c8 = oDQ (rA V) (rS V) (rD V) n kv (gRow h i) d := by
  unfold oDQ attDQ
  rw [sum_shift (v := vis n.val (gRow h i)) (vis_pad _ _) _ fun j h0 => by rw [(unseen V hA hS n kv _ j h0).2, zero_mul]]
  refine congrArg (fun e : EReal => e * c8) (Finset.sum_congr rfl fun j _ => ?_)
  have e1 : (Z (ix5 n kv j i h) : EReal) = _ := (congrFun hZ _).trans (ds_row V hA hS n kv h i j)
  rw [e1]
  rcases bit_cases (vis n.val (gRow h i) (shift j)) with h0 | h1
  · rw [(unseen V hA hS n kv _ _ h0).2, zero_mul, zero_mul]
  · have e2 : (K (ix4 n j kv d) : EReal) = _ := (congrFun hK _).trans (k_eq V n kv j d _ h1)
    rw [e2]

include hA hS in
theorem q_res (r : Fin 8320) (q : Fin 512) : (opDQ (res_main_v131 V) (res_main_v23 V) (ix2 r q) : EReal) = aQ (rA V) (rS V) (rD V) r q := by
  rw [opDQ_eq]
  exact dq_eq V hA hS (blkOf r) ⟨q.val / 256, by omega⟩ _ rfl _ rfl ⟨q.val / 64 % 4, by omega⟩ (rowOf r) ⟨q.val % 64, by omega⟩

include hA hS in
theorem sink_res (h : Fin 8) (q : Fin 128) : (opSink (res_main_v124 V) (ix2 h q) : EReal) = aSink (rA V) (rS V) (rD V) h := by
  rw [opSink_eq]
  unfold aSink oS oDSink attDSink
  refine Finset.sum_congr rfl fun n _ => ?_
  rw [sum_gRow, Finset.sum_eq_single (⟨h.val % 4, by omega⟩ : Fin 4)]
  · refine Finset.sum_congr rfl fun i _ => ?_
    rw [if_pos (gRow_div _ _), dsk_row V hA hS]
  · intro b _ hb
    refine Finset.sum_eq_zero fun i _ => ?_
    rw [gRow_div, if_neg fun e => hb (Fin.ext e)]
  · exact fun hc => absurd (Finset.mem_univ _) hc

include hA hS in
theorem kv_pad (j : Fin 384) (hj : j.val < 112) (q : Fin 256) : oKV (rA V) (rS V) (rD V) n j q = 0 := by
  unfold oKV oDK oDV attDK attDV
  split_ifs
  · exact Finset.sum_eq_zero fun r _ => by rw [(unseen V hA hS n _ r j (vis_pad _ _ _ hj)).2, zero_mul]
  · exact Finset.sum_eq_zero fun r _ => by rw [(unseen V hA hS n _ r j (vis_pad _ _ _ hj)).1, zero_mul]

include hA hS in
theorem meta_res (r : Fin 128) (q : Fin 256) :
    (opMeta (opMetaSum (res_main_v135 V)) (opMetaSum (res_main_v111 V)) (ix2 r q) : EReal) = aMeta (rA V) (rS V) (rD V) r q := by
  unfold aMeta
  by_cases hr : r.val < 112
  · rw [opMeta_lo _ _ _ _ hr]
    exact (Finset.sum_eq_zero fun n _ => kv_pad V hA hS n _ hr q).symm
  · have e : ∀ n, oKV (rA V) (rS V) (rD V) n ⟨r.val, by omega⟩ q = _ := fun n =>
      (congrArg (fun j => oKV (rA V) (rS V) (rD V) n j q) (Fin.ext (by simp only [shift]; omega))).trans
        (kv_eq V hA hS n ⟨r.val - 112, by omega⟩ q).symm
    rw [opMeta_hi _ _ _ _ (by omega), Finset.sum_congr rfl fun n _ => e n]
    by_cases hq : q.val < 128
    · simp only [dif_pos hq]
      exact opMetaSum_eq _ _ _
    · simp only [dif_neg hq]
      exact opMetaSum_eq _ _ _

end Cert.ReferenceIdeal.Swa

end
-- ==== Proof.Swa.RefFinal.lean ====
/- The reference's run ends with the specification's arrays. -/
module

public import proofs.«01_k».proof.Proof.Swa.RefResults

@[expose] public section

set_option maxRecDepth 16384

noncomputable section

namespace Cert.ReferenceIdeal.Swa
open Idealize.ShloMosaic Idealize.SL.Sem Idealize.ShloMosaic.StableHlo
open Cert.ReferenceIdeal Cert.ReferenceIdeal.Gen Cert.ReferenceIdeal.Value Cert.Swa

variable (m : (ℓ : Loc nD τ sig) → Buf (Elt Ideal) ℓ) (ρ : Dev nD → PrngReg)

/-- The reference's results, named by the operations that make them. -/
theorem run_ops : θ_run defs (onTc (τ := τ) (main (F := Ideal))) ⟨m, fun _ => 0, ρ⟩ fun r => ∀ c : Dev nD,
      r.2.mem ((c.tc : Thread nD τ).loc main_v155) = opDQ (res_main_v131 (launchContents m c)) (res_main_v23 (launchContents m c))
      ∧ r.2.mem ((c.tc : Thread nD τ).loc main_v158) = opCur (res_main_v135 (launchContents m c)) (res_main_v111 (launchContents m c))
      ∧ r.2.mem ((c.tc : Thread nD τ).loc main_v161) = opPrev (res_main_v135 (launchContents m c)) (res_main_v111 (launchContents m c))
      ∧ r.2.mem ((c.tc : Thread nD τ).loc main_v154) = opMeta (opMetaSum (res_main_v135 (launchContents m c))) (opMetaSum (res_main_v111 (launchContents m c)))
      ∧ r.2.mem ((c.tc : Thread nD τ).loc main_v163) = opSink (res_main_v124 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

/-- The arguments as the run finds them. -/
abbrev mA (c : Dev nD) := rA (launchContents m c)
abbrev mS (c : Dev nD) := rS (launchContents m c)
abbrev mD (c : Dev nD) := rD (launchContents m c)

variable (hA : ∀ c i q, q.val < 640 → IsReal (mA m c i q)) (hS : ∀ c h, IsReal (mS m c h))

theorem ext2 {a b : Nat} (X : FVec Ideal ⟨2, ![a, b]⟩ .f32) (f : Fin a → Fin b → EReal) (h : ∀ i j, (X (ix2 i j) : EReal) = f i j) :
    X = fun z => f (z 0) (z 1) :=
  funext fun z => (congrArg X (eq_ix2 z)).trans (h _ _)

include hA hS in
theorem run_arrays : θ_run defs (onTc (τ := τ) (main (F := Ideal))) ⟨m, fun _ => 0, ρ⟩ fun r => ∀ c : Dev nD,
      r.2.mem ((c.tc : Thread nD τ).loc main_v155) = (fun z : S8320x512.Idx => (aQ (mA m c) (mS m c) (mD m c) (z 0) (z 1) : EReal))
      ∧ r.2.mem ((c.tc : Thread nD τ).loc main_v158) = (fun z : S8320x256.Idx => (aCur (mA m c) (mS m c) (mD m c) (z 0) (z 1) : EReal))
      ∧ r.2.mem ((c.tc : Thread nD τ).loc main_v161) = (fun z : S8320x256.Idx => (aPrev (mA m c) (mS m c) (mD m c) (z 0) (z 1) : EReal))
      ∧ r.2.mem ((c.tc : Thread nD τ).loc main_v154) = (fun z : S128x256.Idx => (aMeta (mA m c) (mS m c) (mD m c) (z 0) (z 1) : EReal))
      ∧ r.2.mem ((c.tc : Thread nD τ).loc main_v163) = (fun z : S8x128.Idx => (aSink (mA m c) (mS m c) (mD m c) (z 0) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).1.trans (ext2 _ _ fun i j => q_res _ (hA c) (hS c) i j),
      (h c).2.1.trans (ext2 _ _ fun i j => cur_eq _ (hA c) (hS c) i j),
      (h c).2.2.1.trans (ext2 _ _ fun i j => prev_eq _ (hA c) (hS c) i j),
      (h c).2.2.2.1.trans (ext2 _ _ fun i j => meta_res _ (hA c) (hS c) i j),
      (h c).2.2.2.2.1.trans (ext2 _ (fun i _ => aSink (mA m c) (mS m c) (mD m c) i) fun i j => sink_res _ (hA c) (hS c) i j),
      (h c).2.2.2.2.2⟩) (run_ops m ρ)

end Cert.ReferenceIdeal.Swa

end
-- ==== Proof.Swa.Pre.lean ====
/- Where the precondition holds, every query, key and sink is a real number. -/
module

public import proofs.«01_k».proof.Pre_finite_scores
public import proofs.«01_k».proof.Proof.Swa.Row
public import Idealize.ShloMosaic.Lib.WordCmp

@[expose] public section

noncomputable section

namespace Cert.Pre_finite_scores
open Idealize.ShloMosaic Cert.Swa

instance facts : Facts where
  slices_S8320x2304_S8320x640_0_0 := by decide
  bcast_S_S8320x640 := by decide
  bcast_S_S8 := by decide

/-- A number whose absolute value lies below `∞` is real. -/
theorem real_of_lt (x : EReal) (h : BitVec.ofBool (decide (max x (-x) < Ideal.ofBits .f32 2139095040#32)) = 1#1) : IsReal x := by
  have hb : ∀ p : Bool, BitVec.ofBool p = 1#1 → p = true := by decide
  have hx := of_decide_eq_true (hb _ h)
  have e : (Ideal.ofBits .f32 2139095040#32 : EReal) = ⊤ := by simp [Ideal.ofBits, Ideal.ieee]
  rw [e, max_lt_iff] at hx
  refine ⟨x.toReal, (EReal.coe_toReal hx.1.ne fun h => ?_).symm⟩
  rw [h] at hx
  exact absurd hx.2 (by simp)

variable (A : FVec Ideal S8320x2304 .f32) (S : FVec Ideal S8 .f32) (D : FVec Ideal S8320x1024 .f32)

theorem real_scores (h : (fn A S D).1 = fun _ => 1#1) (i : Fin 8320) (q : Fin 2304) (hq : q.val < 640) : IsReal (A (ix2 i q)) := by
  have e := congrFun h (ix2 i ⟨q.val, hq⟩)
  revert e
  pointwise [fn]
  exact fun e => real_of_lt _ e

theorem real_sinks (h : (fn A S D).2 = fun _ => 1#1) (k : Fin 8) : IsReal (S (ix1 k)) := by
  have e := congrFun h (ix1 k)
  revert e
  pointwise [fn]
  exact fun e => real_of_lt _ e

end Cert.Pre_finite_scores

end
-- ==== Proof.Swa.Equation.lean ====
/- The idealized kernel and the idealized reference end with equal results. -/
module

public import proofs.«01_k».proof.Defs
public import proofs.«01_k».proof.Proof.Swa.Blocks
public import proofs.«01_k».proof.Proof.Swa.RefFinal
public import proofs.«01_k».proof.Proof.Swa.Pre

@[expose] public section

set_option maxRecDepth 16384

noncomputable section

namespace Cert.Swa
open Idealize.ShloMosaic Idealize.SL.Sem

theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.facts) := by
  intro m g m' g' hpre hagree
  have eA : ∀ c, Cert.ReferenceIdeal.Swa.mA m' c = Cert.KernelIdeal.Value.arrA m c := fun c =>
    funext fun i => funext fun q => congrFun (hagree c).1 (ix2 i q)
  have eS : ∀ c, Cert.ReferenceIdeal.Swa.mS m' c = Cert.KernelIdeal.Value.arrS m c := fun c =>
    funext fun h => congrFun (hagree c).2.1 (ix1 h)
  have eD : ∀ c, Cert.ReferenceIdeal.Swa.mD m' c = Cert.KernelIdeal.Value.arrD m c := fun c =>
    funext fun i => funext fun q => congrFun (hagree c).2.2 (ix2 i q)
  have hR := Cert.ReferenceIdeal.Swa.run_arrays m' g'
    (fun c i q hq => by rw [eA]; exact Cert.Pre_finite_scores.real_scores _ _ _ (hpre c).1 i q hq)
    (fun c h => by rw [eS]; exact Cert.Pre_finite_scores.real_sinks _ _ _ (hpre c).2 h)
  refine ⟨fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    fun c => (Cert.KernelIdeal.Gen.dats m 0 c).arrAt 13 Cert.KernelIdeal.cfg0.N,
    Cert.KernelIdeal.Value.run_blocks m g, ?_⟩
  refine (θ_run Cert.ReferenceIdeal.defs _ _).mono (fun r h c => ?_) hR
  obtain ⟨h0, h1, h2, h3, h4, ha⟩ := h c
  rw [eA, eS, eD] at h0 h1 h2 h3 h4
  exact ⟨h0.trans (Cert.KernelIdeal.Value.arr9 m c).symm, h1.trans (Cert.KernelIdeal.Value.arr10 m c).symm,
    h2.trans (Cert.KernelIdeal.Value.arr11 m c).symm, h3.trans (Cert.KernelIdeal.Value.arr12 m c).symm,
    h4.trans (Cert.KernelIdeal.Value.arr13 m c).symm, ha⟩

end Cert.Swa

end
-- ==== Proof.Ffn.Base.lean ====
/- Equations between products and between entries of an array. -/
module

public import Idealize.ShloMosaic.PureOps.Ideal

@[expose] public section

noncomputable section

open Idealize.ShloMosaic
namespace Cert.Ffn

theorem mul_of_eq {a b a' b' : EReal} (h : a = a') (h' : b = b') : a * b = a' * b' := by rw [h, h']
theorem add_of_eq {a b a' b' : EReal} (h : a = a') (h' : b = b') : a + b = a' + b' := by rw [h, h']

theorem at2 {p q : ℕ} (f : Fin p → Fin q → EReal) {i i' : Fin p} {j j' : Fin q} (hi : i.val = i'.val) (hj : j.val = j'.val) :
    f i j = f i' j' := by rw [Fin.ext hi, Fin.ext hj]
theorem at3 {p q r : ℕ} (f : Fin p → Fin q → Fin r → EReal) {i i' : Fin p} {j j' : Fin q} {k k' : Fin r}
    (hi : i.val = i'.val) (hj : j.val = j'.val) (hk : k.val = k'.val) : f i j k = f i' j' k' := by rw [Fin.ext hi, Fin.ext hj, Fin.ext hk]

/-- The reciprocal of a row's root mean square. -/
def rinv (x : Fin 1024 → EReal) : EReal :=
  Ideal.rsqrt (Ideal.div (∑ k : Fin 1024, x k * x k) (Ideal.ofBits FTy.f32 0x44800000#32) + Ideal.ofBits FTy.f32 0x358637BD#32)

/-- Half of a normalised row added to the residual. -/
def addHalf (h : EReal) (x : Fin 1024 → EReal) (g : EReal) (q : Fin 1024) : EReal :=
  h + Ideal.ofBits FTy.f32 0x3F000000#32 * (x q * rinv x * g)

theorem addHalf_congr {h h' : EReal} {x x' : Fin 1024 → EReal} {g g' : EReal} {q : Fin 1024} (eh : h = h') (ex : ∀ k, x k = x' k) (eg : g = g') :
    addHalf h x g q = addHalf h' x' g' q := by rw [eh, eg, funext ex]

end Cert.Ffn

end
-- ==== Proof.Ffn.Up.lean ====
/- The weight gradient of one of the two products that go up: what the kernel's array holds. -/
module

public import proofs.«01_k».proof.Proof.Gen.Kernel2Ideal.Value
public import Idealize.ShloMosaic.Lib.Pipeline.ValueKit
public import Idealize.ShloMosaic.Lib.Pipeline.ReadBack
public import proofs.«01_k».proof.Proof.Ffn.Base

@[expose] public section

set_option maxRecDepth 16384

noncomputable section

open Idealize.ShloMosaic Idealize.ShloMosaic.TcCoe Idealize.SL.Sem
open Idealize.ShloMosaic.Pipeline (Dat)
namespace Cert.Kernel2Ideal.Value
open Cert.Kernel2Ideal Cert.Kernel2Ideal.Gen Cert.Ffn

variable (m : (ℓ : Loc nD τ sig) → Buf (Elt Ideal) ℓ)

theorem idx : ∀ t : Fin cfg0.N, win0_0.index t = ![0, t.val % 5, 0] ∧ win0_1.index t = ![t.val / 5, t.val % 5, 0] ∧ win0_2.index t = ![t.val / 5, 0, 0] :=
  (by decide +kernel : ∀ t : Fin grid0.N, _)

/-- The inputs of the product. -/
def arrU (c : Dev nD) (k : Fin 8320) (q : Fin 1024) : EReal :=
  (show FVec Ideal S8320x1024 .bf16 from m ((c : Thread nD τ).loc main_arg0)) (ix2 k q)
/-- The cotangents. -/
def arrG (c : Dev nD) (s : Fin 4) (k : Fin 8320) (q : Fin 704) : EReal :=
  (show FVec Ideal S4x8320x704 .bf16 from m ((c : Thread nD τ).loc main_arg1)) (ix3 s k q)

/-- What one grid point adds: the product over its rows. -/
def part (X : Vec Ideal S1x1664x1024 .bf16) (Y : Vec Ideal S1x1664x704 .bf16) (y : S1024x704.Idx) : EReal :=
  ∑ k : Fin 1664, X (ix3 0 k (y 0)) * Y (ix3 0 k (y 1))

theorem hzero (y : S1024x704.Idx) : (k0_pay1 (F := Ideal) y : EReal) = 0 := by pointwise [k0_pay1]
theorem hpay (A : Vec Ideal S1024x704 .f32) (X : Vec Ideal S1x1664x1024 .bf16) (Y : Vec Ideal S1x1664x704 .bf16) (y : S1024x704.Idx) :
    (k0_pay2 (F := Ideal) A X Y y : EReal) = A y + part X Y y := by unfold part; pointwise [k0_pay2]
theorem hout (A : Vec Ideal S1024x704 .f32) (y : S1x1024x704.Idx) :
    (k0_pay3 (F := Ideal) A y : EReal) = A (ix2 (y 1) (y 2)) := by pointwise [k0_pay3]

variable (c : Dev nD)

theorem stepA (t : Fin cfg0.N) (h : t.val % 5 = 0) (y : S1024x704.Idx) :
    ((outsAt0 m c t.val t.isLt).2 y : EReal) = 0 + part (iblk m c 0 t) (iblk m c 1 t) y := by
  rw [outsAt0_A m c t h (by omega)]; frame_out
  rw [hpay, hzero]

theorem stepBC (t : Fin cfg0.N) (h : ¬ t.val % 5 = 0) (y : S1024x704.Idx) :
    ((outsAt0 m c t.val t.isLt).2 y : EReal)
      = (outsAt0 m c (t.val - 1) (Nat.lt_of_le_of_lt (Nat.sub_le _ _) t.isLt)).2 y + part (iblk m c 0 t) (iblk m c 1 t) y := by
  by_cases h4 : t.val % 5 = 4
  · rw [outsAt0_C m c t h h4]; frame_out; rw [hpay, read_unread_whole]
  · rw [outsAt0_B m c t h h4]; frame_out; rw [hpay, read_unread_whole]

theorem entryU : V m c main_v0 = (broadcastInDim S1x8320x1024 ![1, 2] bcast_S8320x1024_S1x8320x1024_1_2 (show FVec Ideal S8320x1024 .bf16 from m ((c : Thread nD τ).loc main_arg0)) : FVec Ideal S1x8320x1024 .bf16) := by
  show StableHlo.after hostOps0 _ _ = _
  after_results <;> rfl

theorem blkU (t : Fin cfg0.N) (k : Fin 1664) (q : Fin 1024) :
    (iblk m c 0 t (ix3 0 k q) : EReal) = arrU m c ⟨t.val % 5 * 1664 + k.val, by omega⟩ q := by
  show (V m c main_v0 ((win0_0.blk t).view.emb (ix3 0 k q)) : EReal) = _
  rw [entryU]
  unfold arrU
  pointwise []
  blk_ext [idx t]

theorem blkG (t : Fin cfg0.N) (k : Fin 1664) (q : Fin 704) :
    (iblk m c 1 t (ix3 0 k q) : EReal)
      = arrG m c ⟨t.val / 5, by have := lt_of_lt_of_eq t.isLt N_0; omega⟩ ⟨t.val % 5 * 1664 + k.val, by omega⟩ q := by
  show (V m c main_arg1 ((win0_1.blk t).view.emb (ix3 0 k q)) : EReal) = _
  rw [V_main_arg1]
  unfold arrG
  blk_ext [idx t]

/-- The block of the result that a grid point works at. -/
def sh (t : Fin cfg0.N) : Fin 4 := ⟨t.val / 5, by have := lt_of_lt_of_eq t.isLt N_0; omega⟩

theorem acc (t : Fin cfg0.N) (ht : t.val % 5 = 4) (y : S1024x704.Idx) :
    ((outsAt0 m c t.val t.isLt).2 y : EReal) = ∑ k : Fin 8320, arrU m c k (y 0) * arrG m c (sh t) k (y 1) := by
  refine (Pipeline.eq_sum_fin_of_reset_step_apply_of_flush (fun n h y => ((outsAt0 m c n h).2 y : EReal)) 5 (fun _ => 0)
    (fun p y => part (iblk m c 0 p) (iblk m c 1 p) y) (fun t h j => stepA m c t h j) (fun t h j => stepBC m c t h j) t ht y).trans ?_
  rw [zero_add]
  refine Fin.sum_mul_add_congr fun s k hl => ?_
  refine (mul_of_eq (blkU m c _ k (y 0)) (blkG m c _ k (y 1))).trans ?_
  exact mul_of_eq (at2 _ (by simp only []; omega) rfl) (at3 _ (by simp only [sh]; omega) (by simp only []; omega) rfl)

theorem arr : (dats m 0 c).arrAt 2 cfg0.N
    = fun z : S4x1024x704.Idx => (∑ k : Fin 8320, arrU m c k (z 1) * arrG m c (z 0) k (z 2) : EReal) := by
  refine (dats m 0 c).arrAt_eq_of_covers 2 _ (by decide +kernel) fun t hf y => ?_
  have ht : t.val % 5 = 4 := (flush0_2 t).mp hf
  blk_simp [idx t]
  have h1 := acc m c t ht (ix2 (y 1) (y 2))
  rw [after0_2]
  rw [outsAt0_C m c t (by omega) ht] at h1 ⊢
  frame_out
  frame_out at h1
  rw [hout]
  have e0 : ((win0_2.blk t).view.emb y 0).val = t.val / 5 := by
    have y0 : (y 0).val < 1 := (y 0).isLt
    blk_simp [idx t]
  have e1 : ((win0_2.blk t).view.emb y 1).val = (y 1).val := by blk_simp [idx t]
  have e2 : ((win0_2.blk t).view.emb y 2).val = (y 2).val := by blk_simp [idx t]
  refine h1.trans (Finset.sum_congr (M := EReal) rfl fun k _ => ?_)
  exact mul_of_eq (at2 _ rfl e1.symm) (at3 _ e0.symm rfl e2.symm)

end Cert.Kernel2Ideal.Value

end
-- ==== Proof.Ffn.UpEq.lean ====
/- The weight gradient of one of the two products that go up: the reference, and the equation. -/
module

public import proofs.«01_k».proof.Defs
public import proofs.«01_k».proof.Proof.Ffn.Up
public import proofs.«01_k».proof.Proof.Gen.Reference2Ideal.Run

@[expose] public section

set_option maxRecDepth 16384

noncomputable section

open Idealize.ShloMosaic Idealize.ShloMosaic.TcCoe Idealize.SL.Sem
namespace Cert.Reference2Ideal.Value
open Cert.Reference2Ideal Cert.Reference2Ideal.Gen

/-- The reference's operations on the cotangents and the inputs. -/
def opW (G : FVec Ideal S4x8320x704 .bf16) (U : FVec Ideal S8320x1024 .bf16) : FVec Ideal S4x1024x704 .bf16 :=
  truncf .bf16 (transpose S4x1024x704 [1, 0, 2] (shapeCast _ (transpose S1024x2816 [1, 0] (Host.dotGeneral dot_S8320x2816_S8320x1024_S2816x1024_0_0_1_1_n_n none (shapeCast _ (transpose S8320x4x704 [1, 0, 2] (extf .f32 G bitsLt_bf16_f32) transposes_S4x8320x704_S8320x4x704_1_0_2) shapeCasts_S8320x4x704_S8320x2816) (extf .f32 U bitsLt_bf16_f32)) transposes_S2816x1024_S1024x2816_1_0) shapeCasts_S1024x2816_S1024x4x704) transposes_S1024x4x704_S4x1024x704_1_0_2) bitsLt_bf16_f32

theorem opW_eq (G : FVec Ideal S4x8320x704 .bf16) (U : FVec Ideal S8320x1024 .bf16) (y : S4x1024x704.Idx) :
    (opW G U y : EReal) = ∑ k : Fin 8320, (U (ix2 k (y 1)) : EReal) * (G (ix3 (y 0) k (y 2)) : EReal) := by
  pointwise [opW]
  exact Finset.sum_congr rfl fun k _ => mul_comm _ _

end Cert.Reference2Ideal.Value

namespace Cert.Ffn

theorem algebraic2 : Cert.algebraic_Kernel2Ideal_Reference2Ideal (hKernel2Ideal := Cert.Kernel2Ideal.Gen.facts)
    (hReference2Ideal := Cert.Reference2Ideal.Gen.facts) := by
  intro m g m' g' hpre hagree
  refine ⟨fun c => (Cert.Kernel2Ideal.Gen.dats m 0 c).arrAt 2 Cert.Kernel2Ideal.cfg0.N, Cert.Kernel2Ideal.Value.run_blocks m g, ?_⟩
  refine (θ_run Cert.Reference2Ideal.defs _ _).mono (fun r h c => ?_) (Cert.Reference2Ideal.Value.run (F := Ideal) m' g')
  obtain ⟨h0, ha⟩ := h c
  refine ⟨h0.trans (Eq.trans (funext fun y => ?_) (Cert.Kernel2Ideal.Value.arr m c).symm), ha⟩
  refine (Cert.Reference2Ideal.Value.opW_eq _ _ y).trans ?_
  rw [(hagree c).1, (hagree c).2]
  rfl

end Cert.Ffn

end
-- ==== Proof.Ffn.Down.lean ====
/- The weight gradient of the product that goes down: what the kernel's array holds. -/
module

public import proofs.«01_k».proof.Proof.Gen.Kernel3Ideal.Value
public import Idealize.ShloMosaic.Lib.Pipeline.ValueKit
public import Idealize.ShloMosaic.Lib.Pipeline.ReadBack
public import proofs.«01_k».proof.Proof.Ffn.Base

@[expose] public section

set_option maxRecDepth 16384

noncomputable section

open Idealize.ShloMosaic Idealize.ShloMosaic.TcCoe Idealize.SL.Sem
open Idealize.ShloMosaic.Pipeline (Dat)
namespace Cert.Kernel3Ideal.Value
open Cert.Kernel3Ideal Cert.Kernel3Ideal.Gen Cert.Ffn

variable (m : (ℓ : Loc nD τ sig) → Buf (Elt Ideal) ℓ)

theorem idx : ∀ t : Fin cfg0.N, win0_0.index t = ![t.val / 5, t.val % 5, 0] ∧ win0_1.index t = ![0, t.val % 5, 0] ∧ win0_2.index t = ![t.val / 5, 0, 0] :=
  (by decide +kernel : ∀ t : Fin grid0.N, _)

/-- The inputs of the product. -/
def arrA (c : Dev nD) (s : Fin 4) (k : Fin 8320) (q : Fin 704) : EReal :=
  (show FVec Ideal S4x8320x704 .bf16 from m ((c : Thread nD τ).loc main_arg0)) (ix3 s k q)
/-- The cotangents. -/
def arrY (c : Dev nD) (k : Fin 8320) (q : Fin 1024) : EReal :=
  (show FVec Ideal S8320x1024 .bf16 from m ((c : Thread nD τ).loc main_arg1)) (ix2 k q)

/-- What one grid point adds: the product over its rows. -/
def part (X : Vec Ideal S1x1664x704 .bf16) (Y : Vec Ideal S1x1664x1024 .bf16) (y : S704x1024.Idx) : EReal :=
  ∑ k : Fin 1664, X (ix3 0 k (y 0)) * Y (ix3 0 k (y 1))

theorem hzero (y : S704x1024.Idx) : (k0_pay1 (F := Ideal) y : EReal) = 0 := by pointwise [k0_pay1]
theorem hpay (A : Vec Ideal S704x1024 .f32) (X : Vec Ideal S1x1664x704 .bf16) (Y : Vec Ideal S1x1664x1024 .bf16) (y : S704x1024.Idx) :
    (k0_pay2 (F := Ideal) A X Y y : EReal) = A y + part X Y y := by unfold part; pointwise [k0_pay2]
theorem hout (A : Vec Ideal S704x1024 .f32) (y : S1x704x1024.Idx) :
    (k0_pay3 (F := Ideal) A y : EReal) = A (ix2 (y 1) (y 2)) := by pointwise [k0_pay3]

variable (c : Dev nD)

theorem stepA (t : Fin cfg0.N) (h : t.val % 5 = 0) (y : S704x1024.Idx) :
    ((outsAt0 m c t.val t.isLt).2 y : EReal) = 0 + part (iblk m c 0 t) (iblk m c 1 t) y := by
  rw [outsAt0_A m c t h (by omega)]; frame_out
  rw [hpay, hzero]

theorem stepBC (t : Fin cfg0.N) (h : ¬ t.val % 5 = 0) (y : S704x1024.Idx) :
    ((outsAt0 m c t.val t.isLt).2 y : EReal)
      = (outsAt0 m c (t.val - 1) (Nat.lt_of_le_of_lt (Nat.sub_le _ _) t.isLt)).2 y + part (iblk m c 0 t) (iblk m c 1 t) y := by
  by_cases h4 : t.val % 5 = 4
  · rw [outsAt0_C m c t h h4]; frame_out; rw [hpay, read_unread_whole]
  · rw [outsAt0_B m c t h h4]; frame_out; rw [hpay, read_unread_whole]

theorem entryY : V m c main_v0 = (broadcastInDim S1x8320x1024 ![1, 2] bcast_S8320x1024_S1x8320x1024_1_2 (show FVec Ideal S8320x1024 .bf16 from m ((c : Thread nD τ).loc main_arg1)) : FVec Ideal S1x8320x1024 .bf16) := by
  show StableHlo.after hostOps0 _ _ = _
  after_results <;> rfl

theorem blkY (t : Fin cfg0.N) (k : Fin 1664) (q : Fin 1024) :
    (iblk m c 1 t (ix3 0 k q) : EReal) = arrY m c ⟨t.val % 5 * 1664 + k.val, by omega⟩ q := by
  show (V m c main_v0 ((win0_1.blk t).view.emb (ix3 0 k q)) : EReal) = _
  rw [entryY]
  unfold arrY
  pointwise []
  blk_ext [idx t]

theorem blkA (t : Fin cfg0.N) (k : Fin 1664) (q : Fin 704) :
    (iblk m c 0 t (ix3 0 k q) : EReal)
      = arrA m c ⟨t.val / 5, by have := lt_of_lt_of_eq t.isLt N_0; omega⟩ ⟨t.val % 5 * 1664 + k.val, by omega⟩ q := by
  show (V m c main_arg0 ((win0_0.blk t).view.emb (ix3 0 k q)) : EReal) = _
  rw [V_main_arg0]
  unfold arrA
  blk_ext [idx t]

/-- The block of the result that a grid point works at. -/
def sh (t : Fin cfg0.N) : Fin 4 := ⟨t.val / 5, by have := lt_of_lt_of_eq t.isLt N_0; omega⟩

theorem acc (t : Fin cfg0.N) (ht : t.val % 5 = 4) (y : S704x1024.Idx) :
    ((outsAt0 m c t.val t.isLt).2 y : EReal) = ∑ k : Fin 8320, arrA m c (sh t) k (y 0) * arrY m c k (y 1) := by
  refine (Pipeline.eq_sum_fin_of_reset_step_apply_of_flush (fun n h y => ((outsAt0 m c n h).2 y : EReal)) 5 (fun _ => 0)
    (fun p y => part (iblk m c 0 p) (iblk m c 1 p) y) (fun t h j => stepA m c t h j) (fun t h j => stepBC m c t h j) t ht y).trans ?_
  rw [zero_add]
  refine Fin.sum_mul_add_congr fun s k hl => ?_
  refine (mul_of_eq (blkA m c _ k (y 0)) (blkY m c _ k (y 1))).trans ?_
  exact mul_of_eq (at3 _ (by simp only [sh]; omega) (by simp only []; omega) rfl) (at2 _ (by simp only []; omega) rfl)

theorem arr : (dats m 0 c).arrAt 2 cfg0.N
    = fun z : S4x704x1024.Idx => (∑ k : Fin 8320, arrA m c (z 0) k (z 1) * arrY m c k (z 2) : EReal) := by
  refine (dats m 0 c).arrAt_eq_of_covers 2 _ (by decide +kernel) fun t hf y => ?_
  have ht : t.val % 5 = 4 := (flush0_2 t).mp hf
  blk_simp [idx t]
  have h1 := acc m c t ht (ix2 (y 1) (y 2))
  rw [after0_2]
  rw [outsAt0_C m c t (by omega) ht] at h1 ⊢
  frame_out
  frame_out at h1
  rw [hout]
  have e0 : ((win0_2.blk t).view.emb y 0).val = t.val / 5 := by
    have y0 : (y 0).val < 1 := (y 0).isLt
    blk_simp [idx t]
  have e1 : ((win0_2.blk t).view.emb y 1).val = (y 1).val := by blk_simp [idx t]
  have e2 : ((win0_2.blk t).view.emb y 2).val = (y 2).val := by blk_simp [idx t]
  refine h1.trans (Finset.sum_congr (M := EReal) rfl fun k _ => ?_)
  exact mul_of_eq (at3 _ e0.symm rfl e1.symm) (at2 _ rfl e2.symm)

end Cert.Kernel3Ideal.Value

end
-- ==== Proof.Ffn.DownEq.lean ====
/- The weight gradient of the product that goes down: the reference, and the equation. -/
module

public import proofs.«01_k».proof.Defs
public import proofs.«01_k».proof.Proof.Ffn.Down
public import proofs.«01_k».proof.Proof.Gen.Reference3Ideal.Run

@[expose] public section

set_option maxRecDepth 16384

noncomputable section

open Idealize.ShloMosaic Idealize.ShloMosaic.TcCoe Idealize.SL.Sem
namespace Cert.Reference3Ideal.Value
open Cert.Reference3Ideal Cert.Reference3Ideal.Gen

/-- The reference's operations on the cotangents and the inputs. -/
def opW (Y : FVec Ideal S8320x1024 .bf16) (A : FVec Ideal S4x8320x704 .bf16) : FVec Ideal S4x704x1024 .bf16 :=
  truncf .bf16 (shapeCast _ (transpose S2816x1024 [1, 0] (Host.dotGeneral dot_S8320x1024_S8320x2816_S1024x2816_0_0_1_1_n_n none (extf .f32 Y bitsLt_bf16_f32) (shapeCast _ (transpose S8320x4x704 [1, 0, 2] (extf .f32 A bitsLt_bf16_f32) transposes_S4x8320x704_S8320x4x704_1_0_2) shapeCasts_S8320x4x704_S8320x2816)) transposes_S1024x2816_S2816x1024_1_0) shapeCasts_S2816x1024_S4x704x1024) bitsLt_bf16_f32

theorem opW_eq (Y : FVec Ideal S8320x1024 .bf16) (A : FVec Ideal S4x8320x704 .bf16) (y : S4x704x1024.Idx) :
    (opW Y A y : EReal) = ∑ k : Fin 8320, (A (ix3 (y 0) k (y 1)) : EReal) * (Y (ix2 k (y 2)) : EReal) := by
  pointwise [opW]
  exact Finset.sum_congr rfl fun k _ => mul_comm _ _

end Cert.Reference3Ideal.Value

namespace Cert.Ffn

theorem algebraic3 : Cert.algebraic_Kernel3Ideal_Reference3Ideal (hKernel3Ideal := Cert.Kernel3Ideal.Gen.facts)
    (hReference3Ideal := Cert.Reference3Ideal.Gen.facts) := by
  intro m g m' g' hpre hagree
  refine ⟨fun c => (Cert.Kernel3Ideal.Gen.dats m 0 c).arrAt 2 Cert.Kernel3Ideal.cfg0.N, Cert.Kernel3Ideal.Value.run_blocks m g, ?_⟩
  refine (θ_run Cert.Reference3Ideal.defs _ _).mono (fun r h c => ?_) (Cert.Reference3Ideal.Value.run (F := Ideal) m' g')
  obtain ⟨h0, ha⟩ := h c
  refine ⟨h0.trans (Eq.trans (funext fun y => ?_) (Cert.Kernel3Ideal.Value.arr m c).symm), ha⟩
  refine (Cert.Reference3Ideal.Value.opW_eq _ _ y).trans ?_
  rw [(hagree c).1, (hagree c).2]
  rfl

end Cert.Ffn

end
-- ==== Proof.Ffn.BackMath.lean ====
/- The derivative of a normalised row, written in two ways. -/
module

public import proofs.«01_k».proof.Proof.Ffn.Base

@[expose] public section

noncomputable section

open Idealize.ShloMosaic
namespace Cert.Ffn

/-- The mean square of a row and the small constant. -/
def msq (x : Fin 1024 → EReal) : EReal :=
  Ideal.div (∑ k : Fin 1024, x k * x k) (Ideal.ofBits FTy.f32 0x44800000#32) + Ideal.ofBits FTy.f32 0x358637BD#32

theorem rinv_eq (x : Fin 1024 → EReal) : rinv x = Ideal.rsqrt (msq x) := rfl

/-- The kernel's way: the mean of the products with the normalised row is taken away. -/
def dnorm (x a : Fin 1024 → EReal) (q : Fin 1024) : EReal :=
  rinv x * (a q - x q * rinv x * Ideal.div (∑ k : Fin 1024, a k * (x k * rinv x)) (Ideal.ofBits FTy.f32 0x44800000#32))

/-- What the derivative of the mean square carries in the reference. -/
def carry (x a : Fin 1024 → EReal) : EReal :=
  Ideal.div ((∑ k : Fin 1024, x k * a k) * (Ideal.ofBits FTy.f32 0xBF000000#32 * Ideal.div (rinv x) (msq x))) (Ideal.ofBits FTy.f32 0x44800000#32)

theorem c1024 : Ideal.ofBits FTy.f32 0x44800000#32 = ((1024 : ℝ) : EReal) := by
  simp [Ideal.ofBits, Ideal.ieee]; rw [← EReal.coe_mul]; norm_num
theorem cone : Ideal.ofBits FTy.f32 0x3F800000#32 = 1 := by
  simp [Ideal.ofBits, Ideal.ieee]; rw [← EReal.coe_mul]; norm_num
theorem chalf : Ideal.ofBits FTy.f32 0xBF000000#32 = ((-(1 / 2) : ℝ) : EReal) := by
  simp [Ideal.ofBits, Ideal.ieee]; rw [← EReal.coe_mul]; norm_num
theorem ceps : ∃ e : ℝ, 0 < e ∧ Ideal.ofBits FTy.f32 0x358637BD#32 = (e : EReal) := by
  refine ⟨_, ?_, by simp [Ideal.ofBits, Ideal.ieee]; rfl⟩
  norm_num

theorem div_coe (x : EReal) {r : ℝ} (h : r ≠ 0) : Ideal.div x (r : EReal) = x * ((r⁻¹ : ℝ) : EReal) := by
  unfold Ideal.div
  rw [if_neg (by exact_mod_cast h), EReal.coe_inv]

theorem sq_nonneg' (x : EReal) : 0 ≤ x * x := by
  induction x with
  | bot => simp
  | top => simp
  | coe r => exact_mod_cast mul_self_nonneg r

theorem msq_cases (x : Fin 1024 → EReal) : msq x = ⊤ ∨ ∃ r : ℝ, 0 < r ∧ msq x = (r : EReal) := by
  obtain ⟨e, he, h⟩ := ceps
  have h0 : 0 ≤ ∑ k : Fin 1024, x k * x k := Finset.sum_nonneg fun k _ => sq_nonneg' (x k)
  unfold msq
  rw [h, c1024, div_coe _ (by norm_num)]
  generalize (∑ k : Fin 1024, x k * x k) = s at h0
  induction s with
  | bot => simp at h0
  | top => left; rw [EReal.top_mul_coe_of_pos (by norm_num)]; rfl
  | coe r =>
    right
    have hr : 0 ≤ r := by exact_mod_cast h0
    exact ⟨r * 1024⁻¹ + e, by positivity, by push_cast; rfl⟩

theorem sum_mul_coe {ι : Type} (s : Finset ι) (f : ι → EReal) {c : ℝ} (hc : 0 ≤ c) : (∑ k ∈ s, f k) * (c : EReal) = ∑ k ∈ s, f k * (c : EReal) := by
  classical
  induction s using Finset.induction_on with
  | empty => simp
  | insert a s h ih =>
    rw [Finset.sum_insert h, Finset.sum_insert h, EReal.right_distrib_of_nonneg_of_ne_top (by exact_mod_cast hc) (EReal.coe_ne_top c), ih]

theorem neg_twice (p : EReal) : -p + -p = -(p + p) := by
  induction p with
  | bot => simp
  | top => simp
  | coe r => norm_cast; ring

/-- Twice a multiple by a negative half. -/
theorem twice_half (w : EReal) {v : ℝ} (hv : 0 ≤ v) : w * ((-(v / 2) : ℝ) : EReal) + w * ((-(v / 2) : ℝ) : EReal) = -(w * (v : EReal)) := by
  have h : (0 : EReal) ≤ ((v / 2 : ℝ) : EReal) := by exact_mod_cast (by positivity : 0 ≤ v / 2)
  rw [EReal.coe_neg, mul_neg, neg_twice, ← EReal.left_distrib_of_nonneg h h, ← EReal.coe_add, add_halves]

/-- The two ways agree. -/
theorem dnorm_eq (x a : Fin 1024 → EReal) (q : Fin 1024) :
    dnorm x a q = a q * rinv x + x q * carry x a + carry x a * x q := by
  rcases msq_cases x with h | ⟨ρ, hρ, h⟩
  · have hr : rinv x = 0 := by rw [rinv_eq, h]; rfl
    have hc : carry x a = 0 := by
      unfold carry
      rw [hr, h, c1024, div_coe _ (by norm_num)]
      simp [Ideal.div]
    unfold dnorm
    rw [hc, hr]; simp
  · have hr : rinv x = (((√ρ)⁻¹ : ℝ) : EReal) := by
      rw [rinv_eq, h]
      show (if ρ < 0 then (⊥ : EReal) else if ρ = 0 then ⊤ else (((√ρ)⁻¹ : ℝ) : EReal)) = _
      rw [if_neg (not_lt.mpr hρ.le), if_neg hρ.ne']
    have hc0 : 0 ≤ (√ρ)⁻¹ := by positivity
    have hcc : (√ρ)⁻¹ * (√ρ)⁻¹ = ρ⁻¹ := by rw [← mul_inv, Real.mul_self_sqrt hρ.le]
    unfold dnorm carry
    rw [hr, h, c1024, chalf, div_coe _ (by norm_num : (1024 : ℝ) ≠ 0), div_coe _ (by norm_num : (1024 : ℝ) ≠ 0), div_coe _ hρ.ne']
    generalize (√ρ)⁻¹ = c at hc0 hcc
    have hs : ∑ k : Fin 1024, a k * (x k * (c : EReal)) = (∑ k : Fin 1024, x k * a k) * (c : EReal) := by
      rw [sum_mul_coe _ _ hc0]
      exact Finset.sum_congr rfl fun k _ => by rw [mul_comm (x k) (a k), mul_assoc]
    rw [hs]
    generalize (∑ k : Fin 1024, x k * a k) = S
    rw [sub_eq_add_neg, EReal.left_distrib_of_nonneg_of_ne_top (by exact_mod_cast hc0) (EReal.coe_ne_top c), add_assoc, mul_comm (c : EReal) (a q)]
    congr 1
    have e1 : (c : EReal) * -(x q * (c : EReal) * (S * (c : EReal) * ((1024⁻¹ : ℝ) : EReal))) = -(x q * S * ((c * c * c * 1024⁻¹ : ℝ) : EReal)) := by
      rw [mul_neg]; push_cast; congr 1; ac_rfl
    have e2 : x q * (S * (((-(1 / 2) : ℝ) : EReal) * ((c : EReal) * ((ρ⁻¹ : ℝ) : EReal))) * ((1024⁻¹ : ℝ) : EReal))
        = x q * S * ((-((c * c * c * 1024⁻¹) / 2) : ℝ) : EReal) := by
      rw [show (-((c * c * c * 1024⁻¹) / 2) : ℝ) = -(1 / 2) * (c * ρ⁻¹) * 1024⁻¹ by rw [← hcc]; ring]
      rw [EReal.coe_mul, EReal.coe_mul, EReal.coe_mul]; ac_rfl
    rw [e1, mul_comm _ (x q), e2, twice_half _ (by positivity)]

theorem dnorm_at {x x' a a' : Fin 1024 → EReal} {r : Fin 8320} {q : Fin 1024} (ex : ∀ k, x k = x' k) (ea : ∀ k, a k = a' k) :
    (if 112 ≤ r.val then dnorm x a q else 0) = (if 112 ≤ r.val then dnorm x' a' q else 0) := by
  rw [funext ex, funext ea]

theorem outH_congr {R R' : EReal} {x x' a a' : Fin 1024 → EReal} {r : Fin 8320} {q : Fin 1024} (eR : R = R') (ex : ∀ k, x k = x' k) (ea : ∀ k, a k = a' k) :
    (if 112 ≤ r.val then R + dnorm x a q else 0) = (if 112 ≤ r.val then R' + dnorm x' a' q else 0) := by
  rw [eR, funext ex, funext ea]

end Cert.Ffn

end
-- ==== Proof.Ffn.Back.lean ====
/- The cotangent of the feed-forward block's input: what the kernel's arrays hold. -/
module

public import proofs.«01_k».proof.Proof.Gen.Kernel4Ideal.Value
public import Idealize.ShloMosaic.Lib.Pipeline.ValueKit
public import Idealize.ShloMosaic.Lib.Pipeline.ReadBack
public import proofs.«01_k».proof.Proof.Ffn.BackMath

@[expose] public section

set_option maxRecDepth 16384

noncomputable section

open Idealize.ShloMosaic Idealize.ShloMosaic.TcCoe Idealize.SL.Sem
open Idealize.ShloMosaic.Pipeline (Dat)
namespace Cert.Kernel4Ideal.Value
open Cert.Kernel4Ideal Cert.Kernel4Ideal.Gen Cert.Ffn

variable (m : (ℓ : Loc nD τ sig) → Buf (Elt Ideal) ℓ)

theorem idx : ∀ t : Fin cfg0.N, win0_0.index t = ![t.val % 4, t.val / 4, 0] ∧ win0_1.index t = ![t.val % 4, 0, 0]
    ∧ win0_2.index t = ![t.val % 4, t.val / 4, 0] ∧ win0_3.index t = ![t.val % 4, 0, 0] ∧ win0_4.index t = ![t.val / 4, 0]
    ∧ win0_5.index t = ![0, 0] ∧ win0_6.index t = ![t.val / 4, 0] ∧ win0_7.index t = ![t.val / 4, 0] ∧ win0_8.index t = ![0, 0] :=
  (by decide +kernel : ∀ t : Fin grid0.N, _)

/-- The cotangents of the two products. -/
def arrDG (c : Dev nD) (s : Fin 4) (r : Fin 8320) (f : Fin 704) : EReal :=
  (show FVec Ideal S4x8320x704 .bf16 from m ((c : Thread nD τ).loc main_arg0)) (ix3 s r f)
def arrDU (c : Dev nD) (s : Fin 4) (r : Fin 8320) (f : Fin 704) : EReal :=
  (show FVec Ideal S4x8320x704 .bf16 from m ((c : Thread nD τ).loc main_arg1)) (ix3 s r f)
/-- The weights. -/
def arrWG (c : Dev nD) (s : Fin 4) (q : Fin 1024) (f : Fin 704) : EReal :=
  (show FVec Ideal S4x1024x704 .bf16 from m ((c : Thread nD τ).loc main_arg2)) (ix3 s q f)
def arrWU (c : Dev nD) (s : Fin 4) (q : Fin 1024) (f : Fin 704) : EReal :=
  (show FVec Ideal S4x1024x704 .bf16 from m ((c : Thread nD τ).loc main_arg3)) (ix3 s q f)
/-- The block's input. -/
def arrH (c : Dev nD) (r : Fin 8320) (q : Fin 1024) : EReal :=
  (show FVec Ideal S8320x1024 .f32 from m ((c : Thread nD τ).loc main_arg4)) (ix2 r q)
/-- The gain. -/
def gain (c : Dev nD) (q : Fin 1024) : EReal :=
  (show FVec Ideal S1024 .f32 from m ((c : Thread nD τ).loc main_arg5)) (ix1 q)
/-- The cotangent that goes around the block. -/
def arrR (c : Dev nD) (r : Fin 8320) (q : Fin 1024) : EReal :=
  (show FVec Ideal S8320x1024 .f32 from m ((c : Thread nD τ).loc main_arg6)) (ix2 r q)

/-- What one grid point adds for one pair: the product over its columns. -/
def part (X : Vec Ideal S1x640x704 .bf16) (Y : Vec Ideal S1x1024x704 .bf16) (y : S640x1024.Idx) : EReal :=
  ∑ k : Fin 704, X (ix3 0 (y 0) k) * Y (ix3 0 (y 1) k)

theorem hzero (y : S640x1024.Idx) : (k0_pay1 (F := Ideal) y : EReal) = 0 := by pointwise [k0_pay1]
theorem hpay2 (A : Vec Ideal S640x1024 .f32) (X : Vec Ideal S1x640x704 .bf16) (Y : Vec Ideal S1x1024x704 .bf16) (y : S640x1024.Idx) :
    (k0_pay2 (F := Ideal) A X Y y : EReal) = A y + part X Y y := by unfold part; pointwise [k0_pay2]
theorem hpay3 (A : Vec Ideal S640x1024 .f32) (X : Vec Ideal S1x640x704 .bf16) (Y : Vec Ideal S1x1024x704 .bf16) (y : S640x1024.Idx) :
    (k0_pay3 (F := Ideal) A X Y y : EReal) = A y + part X Y y := by unfold part; pointwise [k0_pay3]
theorem hzero8 (y : S8x1024.Idx) : (k0_pay4 (F := Ideal) y : EReal) = 0 := by pointwise [k0_pay4]
theorem hpay5 (v : FVec Ideal S1x1024 .f32) (A : Vec Ideal S8x1024 .f32) (y : S8x1024.Idx) :
    (k0_pay5 (F := Ideal) v A y : EReal) = A y + v (ix2 0 (y 1)) := by pointwise [k0_pay5]
theorem hpay6 (X : Vec Ideal S640x1024 .f32) (y : S640x1.Idx) :
    (k0_pay6 (F := Ideal) X y : EReal) = rinv (fun k => X (ix2 (y 0) k)) := by
  unfold rinv
  pointwise [k0_pay6]
theorem hpay7 (X : Vec Ideal S640x1024 .f32) (y : S640x1024.Idx) :
    (k0_pay7 (F := Ideal) X y : EReal) = X y * rinv (fun k => X (ix2 (y 0) k)) := by
  pointwise [k0_pay7]
  rw [hpay6]
  try rfl
/-- The gain's gradient from one tile. -/
theorem hpay8 (X D : Vec Ideal S640x1024 .f32) (q : Fin 1024) :
    (k0_pay8 (F := Ideal) X D (ix2 0 q) : EReal) = ∑ r : Fin 640, D (ix2 r q) * (X (ix2 r q) * rinv (fun k => X (ix2 r k))) := by
  pointwise [k0_pay8]
  refine Finset.sum_congr (M := EReal) rfl fun r _ => ?_
  rw [hpay7]
  try rfl
theorem hpay9 (n : ℕ) (hn : n < 13) (X : Vec Ideal S640x1024 .f32) (G : Vec Ideal S1x1024 .f32) (D : Vec Ideal S640x1024 .f32) (R : Vec Ideal S640x1024 .f32)
    (r : Fin 640) (q : Fin 1024) :
    (k0_pay9 (F := Ideal) (BitVec.ofNat 32 n) X G D R (ix2 r q) : EReal)
      = if 112 ≤ n * 640 + r.val then R (ix2 r q) + dnorm (fun k => X (ix2 r k)) (fun k => D (ix2 r k) * G (ix2 0 k)) q else 0 := by
  unfold dnorm
  pointwise [k0_pay9]
  simp only [hpay7, hpay6]
  have e : IntOp.cmpi .sge (IntOp.addi (Scalar.muli (BitVec.ofNat 32 n) 640#32) (BitVec.ofNat 32 r.val)) 112#32
      = BitVec.ofBool (decide (112 ≤ n * 640 + r.val)) := by
    rw [show Scalar.muli (BitVec.ofNat 32 n) 640#32 = BitVec.ofNat 32 (n * 640) from WordCmp.muli_ofNat _ _, WordCmp.addi_ofNat]
    rw [show (112#32 : BitVec 32) = BitVec.ofNat 32 112 from rfl, WordCmp.cmpi_sge_ofNat (by omega) (by omega)]
  exact (congrArg (fun b => Scalar.select b _ _) e).trans (WordCmp.select_decide _ _ _)

variable (c : Dev nD)

/-- What one grid point adds. -/
def parts (t : Fin cfg0.N) (y : S640x1024.Idx) : EReal :=
  part (iblk m c 0 t) (iblk m c 1 t) y + part (iblk m c 2 t) (iblk m c 3 t) y

theorem stepA (t : Fin cfg0.N) (h : t.val % 4 = 0) (y : S640x1024.Idx) :
    ((outsAt0 m c t.val t.isLt).2.2 y : EReal) = 0 + parts m c t y := by
  rw [outsAt0_A m c t h (by omega)]; frame_out
  rw [hpay3, hpay2, hzero, add_assoc]
  rfl

theorem stepB (t : Fin cfg0.N) (h : ¬ t.val % 4 = 0) (y : S640x1024.Idx) :
    ((outsAt0 m c t.val t.isLt).2.2 y : EReal)
      = (outsAt0 m c (t.val - 1) (Nat.lt_of_le_of_lt (Nat.sub_le _ _) t.isLt)).2.2 y + parts m c t y := by
  by_cases h4 : t.val % 4 = 3
  · by_cases hz : t.val < 4
    · rw [outsAt0_C m c t h h4 hz]; frame_out; rw [hpay3, hpay2, read_unread_whole, add_assoc]; rfl
    · rw [outsAt0_D m c t h h4 hz]; frame_out; rw [hpay3, hpay2, read_unread_whole, add_assoc]; rfl
  · rw [outsAt0_B m c t h h4]; frame_out; rw [hpay3, hpay2, read_unread_whole, add_assoc]; rfl

theorem entryG : V m c main_v0 = (shapeCast S1x1024 (show FVec Ideal S1024 .f32 from m ((c : Thread nD τ).loc main_arg5)) shapeCasts_S1024_S1x1024 : FVec Ideal S1x1024 .f32) := by
  show StableHlo.after hostOps0 _ _ = _
  after_results <;> rfl

/-- The rows that a grid point works at. -/
def row (t : Fin cfg0.N) (r : Fin 640) : Fin 8320 := ⟨t.val / 4 * 640 + r.val, by have := lt_of_lt_of_eq t.isLt N_0; omega⟩

theorem blkDG (t : Fin cfg0.N) (r : Fin 640) (f : Fin 704) :
    (iblk m c 0 t (ix3 0 r f) : EReal) = arrDG m c ⟨t.val % 4, by omega⟩ (row t r) f := by
  show (V m c main_arg0 ((win0_0.blk t).view.emb (ix3 0 r f)) : EReal) = _
  rw [V_main_arg0]
  unfold arrDG row
  blk_ext [idx t]
theorem blkDU (t : Fin cfg0.N) (r : Fin 640) (f : Fin 704) :
    (iblk m c 2 t (ix3 0 r f) : EReal) = arrDU m c ⟨t.val % 4, by omega⟩ (row t r) f := by
  show (V m c main_arg1 ((win0_2.blk t).view.emb (ix3 0 r f)) : EReal) = _
  rw [V_main_arg1]
  unfold arrDU row
  blk_ext [idx t]
theorem blkWG (t : Fin cfg0.N) (q : Fin 1024) (f : Fin 704) :
    (iblk m c 1 t (ix3 0 q f) : EReal) = arrWG m c ⟨t.val % 4, by omega⟩ q f := by
  show (V m c main_arg2 ((win0_1.blk t).view.emb (ix3 0 q f)) : EReal) = _
  rw [V_main_arg2]
  unfold arrWG
  blk_ext [idx t]
theorem blkWU (t : Fin cfg0.N) (q : Fin 1024) (f : Fin 704) :
    (iblk m c 3 t (ix3 0 q f) : EReal) = arrWU m c ⟨t.val % 4, by omega⟩ q f := by
  show (V m c main_arg3 ((win0_3.blk t).view.emb (ix3 0 q f)) : EReal) = _
  rw [V_main_arg3]
  unfold arrWU
  blk_ext [idx t]
theorem blkH (t : Fin cfg0.N) (r : Fin 640) (q : Fin 1024) :
    (iblk m c 4 t (ix2 r q) : EReal) = arrH m c (row t r) q := by
  show (V m c main_arg4 ((win0_4.blk t).view.emb (ix2 r q)) : EReal) = _
  rw [V_main_arg4]
  unfold arrH row
  blk_ext [idx t]
theorem blkR (t : Fin cfg0.N) (r : Fin 640) (q : Fin 1024) :
    (iblk m c 6 t (ix2 r q) : EReal) = arrR m c (row t r) q := by
  show (V m c main_arg6 ((win0_6.blk t).view.emb (ix2 r q)) : EReal) = _
  rw [V_main_arg6]
  unfold arrR row
  blk_ext [idx t]
theorem blkG (t : Fin cfg0.N) (q : Fin 1024) :
    (iblk m c 5 t (ix2 0 q) : EReal) = gain m c q := by
  show (V m c main_v0 ((win0_5.blk t).view.emb (ix2 0 q)) : EReal) = _
  rw [entryG]
  unfold gain
  pointwise []
  blk_ext [idx t]

/-- The two products. -/
def prodG (r : Fin 8320) (q : Fin 1024) : EReal :=
  ∑ k : Fin 2816, arrDG m c ⟨k.val / 704, by omega⟩ r ⟨k.val % 704, by omega⟩ * arrWG m c ⟨k.val / 704, by omega⟩ q ⟨k.val % 704, by omega⟩
def prodU (r : Fin 8320) (q : Fin 1024) : EReal :=
  ∑ k : Fin 2816, arrDU m c ⟨k.val / 704, by omega⟩ r ⟨k.val % 704, by omega⟩ * arrWU m c ⟨k.val / 704, by omega⟩ q ⟨k.val % 704, by omega⟩
/-- The cotangent of the normalised row. -/
def prod (r : Fin 8320) (q : Fin 1024) : EReal := prodU m c r q + prodG m c r q

theorem acc (t : Fin cfg0.N) (ht : t.val % 4 = 3) (y : S640x1024.Idx) :
    ((outsAt0 m c t.val t.isLt).2.2 y : EReal) = prod m c (row t (y 0)) (y 1) := by
  refine (Pipeline.eq_sum_fin_of_reset_step_apply_of_flush (fun n h y => ((outsAt0 m c n h).2.2 y : EReal)) 4 (fun _ => 0)
    (fun p y => parts m c p y) (fun t h j => stepA m c t h j) (fun t h j => stepB m c t h j) t ht y).trans ?_
  rw [zero_add]
  unfold parts prod
  rw [Finset.sum_add_distrib, add_comm]
  refine add_of_eq ?_ ?_
  · unfold prodU
    refine Fin.sum_mul_add_congr fun s k hl => ?_
    refine (mul_of_eq (blkDU m c _ (y 0) k) (blkWU m c _ (y 1) k)).trans ?_
    exact mul_of_eq (at3 _ (by simp only []; omega) (by simp only [row]; omega) (by simp only []; omega))
      (at3 _ (by simp only []; omega) rfl (by simp only []; omega))
  · unfold prodG
    refine Fin.sum_mul_add_congr fun s k hl => ?_
    refine (mul_of_eq (blkDG m c _ (y 0) k) (blkWG m c _ (y 1) k)).trans ?_
    exact mul_of_eq (at3 _ (by simp only []; omega) (by simp only [row]; omega) (by simp only []; omega))
      (at3 _ (by simp only []; omega) rfl (by simp only []; omega))

theorem emb7 (t : Fin cfg0.N) (y : S640x1024.Idx) :
    ((win0_7.blk t).view.emb y 0).val = t.val / 4 * 640 + (y 0).val ∧ ((win0_7.blk t).view.emb y 1).val = (y 1).val := by
  constructor <;> blk_simp [idx t]

/-- The result's entries. -/
def outH (r : Fin 8320) (q : Fin 1024) : EReal :=
  if 112 ≤ r.val then arrR m c r q + dnorm (arrH m c r) (fun k => prod m c r k * gain m c k) q else 0

/-- A finished tile of the result, from the accumulator's contents. -/
theorem tileH (t : Fin cfg0.N) (n : ℕ) (hn : n = t.val / 4) (A : Vec Ideal S640x1024 .f32) (y : S640x1024.Idx)
    (hA : ∀ z : S640x1024.Idx, (A z : EReal) = prod m c (row t (z 0)) (z 1)) :
    (k0_pay9 (F := Ideal) (BitVec.ofNat 32 n) (iblk m c 4 t) (iblk m c 5 t) A (iblk m c 6 t) y : EReal) = outH m c (row t (y 0)) (y 1) := by
  have hN := lt_of_lt_of_eq t.isLt N_0
  obtain ⟨r, q, rfl⟩ : ∃ r q, y = ix2 r q := ⟨y 0, y 1, by funext i; fin_cases i <;> rfl⟩
  refine (hpay9 n (by omega) _ _ _ _ r q).trans ?_
  rw [funext (fun k => blkH m c t r k), blkR m c t r q, funext (fun k => mul_of_eq (hA (ix2 r k)) (blkG m c t k))]
  subst hn
  rfl

theorem at_outH {r r' : Fin 8320} {q q' : Fin 1024} (hr : r.val = r'.val) (hq : q.val = q'.val) : outH m c r q = outH m c r' q' := at2 _ hr hq

theorem arr7 : (dats m 0 c).arrAt 7 cfg0.N = fun z : S8320x1024.Idx => outH m c (z 0) (z 1) := by
  refine (dats m 0 c).arrAt_eq_of_covers 7 _ (by decide +kernel) fun t hf y => ?_
  have ht : t.val % 4 = 3 := (flush0_7 t).mp hf
  have hN := lt_of_lt_of_eq t.isLt N_0
  have h1 := fun z => acc m c t ht z
  have e := emb7 t y
  have hc : (grid0.coords t 0).val = t.val / 4 := (Pipeline.Grid.coords_val t 0 (by decide) rfl : (grid0.coords t 0).val = t.val / 4 % 13).trans (by omega)
  rw [after0_7]
  by_cases hz : t.val < 4
  · rw [outsAt0_C m c t (by omega) ht hz] at h1 ⊢
    frame_out
    frame_out at h1
    exact (tileH m c t _ hc _ y h1).trans (at_outH m c e.1.symm e.2.symm)
  · rw [outsAt0_D m c t (by omega) ht hz] at h1 ⊢
    frame_out
    frame_out at h1
    exact (tileH m c t _ hc _ y h1).trans (at_outH m c e.1.symm e.2.symm)

/-- One row's share of the gain's gradient. -/
def rowG (r : Fin 8320) (q : Fin 1024) : EReal := prod m c r q * (arrH m c r q * rinv (arrH m c r))
/-- One tile's share. -/
def tileG (n : ℕ) (q : Fin 1024) : EReal :=
  if h : n < 13 then ∑ r : Fin 640, rowG m c ⟨n * 640 + r.val, by omega⟩ q else 0

theorem tile_eq (t : Fin cfg0.N) (A : Vec Ideal S640x1024 .f32) (q : Fin 1024)
    (hA : ∀ z : S640x1024.Idx, (A z : EReal) = prod m c (row t (z 0)) (z 1)) :
    (k0_pay8 (F := Ideal) (iblk m c 4 t) A (ix2 0 q) : EReal) = tileG m c (t.val / 4) q := by
  have hN := lt_of_lt_of_eq t.isLt N_0
  refine (hpay8 _ _ q).trans ?_
  unfold tileG
  rw [dif_pos (by omega)]
  refine Finset.sum_congr (M := EReal) rfl fun r _ => ?_
  rw [funext (fun k => blkH m c t r k), blkH m c t r q, hA (ix2 r q)]
  rfl

theorem gradC (t : Fin cfg0.N) (ht : t.val % 4 = 3) (hz : t.val < 4) (y : S8x1024.Idx) :
    ((outsAt0 m c t.val t.isLt).2.1 y : EReal) = 0 + tileG m c (t.val / 4) (y 1) := by
  have h1 := fun z => acc m c t ht z
  rw [outsAt0_C m c t (by omega) ht hz] at h1 ⊢
  frame_out
  frame_out at h1
  rw [hpay5, hzero8]
  exact congrArg (0 + ·) (tile_eq m c t _ (y 1) h1)

theorem gradD (t : Fin cfg0.N) (ht : t.val % 4 = 3) (hz : ¬ t.val < 4) (y : S8x1024.Idx) :
    ((outsAt0 m c t.val t.isLt).2.1 y : EReal)
      = (outsAt0 m c (t.val - 1) (Nat.lt_of_le_of_lt (Nat.sub_le _ _) t.isLt)).2.1 y + tileG m c (t.val / 4) (y 1) := by
  have h1 := fun z => acc m c t ht z
  rw [outsAt0_D m c t (by omega) ht hz] at h1 ⊢
  frame_out
  frame_out at h1
  rw [hpay5]
  simp only [read_unread_whole] at h1 ⊢
  exact congrArg (_ + ·) (tile_eq m c t _ (y 1) h1)

theorem gradAB (t : Fin cfg0.N) (ht : ¬ t.val % 4 = 3) (hz : 0 < t.val) (y : S8x1024.Idx) :
    ((outsAt0 m c t.val t.isLt).2.1 y : EReal)
      = (outsAt0 m c (t.val - 1) (Nat.lt_of_le_of_lt (Nat.sub_le _ _) t.isLt)).2.1 y := by
  by_cases h : t.val % 4 = 0
  · rw [outsAt0_A m c t h ht]; unfold out0_A_8; simp only [read_unread_whole]
  · rw [outsAt0_B m c t h ht]; unfold out0_B_8; simp only [read_unread_whole]

theorem grad_at (n : ℕ) (hn : n < cfg0.N) (h3 : 3 ≤ n) (y : S8x1024.Idx) :
    ((outsAt0 m c n hn).2.1 y : EReal) = ∑ i ∈ Finset.range ((n + 1) / 4), tileG m c i (y 1) := by
  induction n with
  | zero => omega
  | succ n ih =>
    by_cases ht : (n + 1) % 4 = 3
    · by_cases hz : n + 1 < 4
      · refine (gradC m c ⟨n + 1, hn⟩ ht hz y).trans ?_
        obtain rfl : n = 2 := by omega
        rw [show (2 + 1 + 1) / 4 = 1 from rfl, Finset.sum_range_one, zero_add]
        exact congrArg (fun i => tileG m c i (y 1)) (show (2 + 1) / 4 = 0 by norm_num)
      · refine (gradD m c ⟨n + 1, hn⟩ ht hz y).trans ?_
        rw [show (n + 1 + 1) / 4 = (n + 1) / 4 + 1 by omega, Finset.sum_range_succ]
        exact congrArg (· + _) (ih (by omega) (by omega))
    · refine (gradAB m c ⟨n + 1, hn⟩ ht (Nat.succ_pos n) y).trans ?_
      rw [show (n + 1 + 1) / 4 = (n + 1) / 4 by omega]
      exact ih (by omega) (by omega)

/-- The gain's gradient. -/
def outG (q : Fin 1024) : EReal := ∑ r : Fin 8320, rowG m c r q

theorem sum_tiles (q : Fin 1024) : ∑ i ∈ Finset.range 13, tileG m c i q = outG m c q := by
  rw [Finset.sum_range]
  unfold outG tileG
  refine (Finset.sum_congr (M := EReal) rfl fun i _ => dif_pos i.isLt).trans ?_
  refine Fin.sum_mul_add_congr fun s k hl => ?_
  exact at2 (rowG m c) (by omega) rfl

theorem emb8 (t : Fin cfg0.N) (y : S8x1024.Idx) : ((win0_8.blk t).view.emb y 1).val = (y 1).val := by
  blk_simp [idx t]

theorem arr8 : (dats m 0 c).arrAt 8 cfg0.N = fun z : S8x1024.Idx => outG m c (z 1) := by
  refine (dats m 0 c).arrAt_eq_of_covers 8 _ (by decide +kernel) fun t hf y => ?_
  have ht : t.val % 52 = 51 := (flush0_8 t).mp hf
  have hN := lt_of_lt_of_eq t.isLt N_0
  rw [after0_8]
  refine (grad_at m c t.val t.isLt (by omega) y).trans ?_
  rw [show (t.val + 1) / 4 = 13 by omega]
  refine (sum_tiles m c (y 1)).trans ?_
  exact congrArg (outG m c) (Fin.ext (emb8 t y).symm)

end Cert.Kernel4Ideal.Value

end
-- ==== Proof.Ffn.BackEq.lean ====
/- The cotangent of the feed-forward block's input: the reference, and the equation. -/
module

public import proofs.«01_k».proof.Defs
public import proofs.«01_k».proof.Proof.Ffn.Back
public import proofs.«01_k».proof.Proof.Gen.Reference4Ideal.Run

@[expose] public section

set_option maxRecDepth 16384

noncomputable section

open Idealize.ShloMosaic Idealize.ShloMosaic.TcCoe Idealize.SL.Sem
namespace Cert.Reference4Ideal.Value
open Cert.Reference4Ideal Cert.Reference4Ideal.Gen Cert.Ffn

/-- One of the reference's products. -/
def opP (D : FVec Ideal S4x8320x704 .bf16) (W : FVec Ideal S4x1024x704 .bf16) : FVec Ideal S8320x1024 .f32 :=
  Host.dotGeneral dot_S8320x2816_S1024x2816_S8320x1024_1_1_0_0_n_n none (shapeCast _ (transpose S8320x4x704 [1, 0, 2] (extf .f32 D bitsLt_bf16_f32) transposes_S4x8320x704_S8320x4x704_1_0_2) shapeCasts_S8320x4x704_S8320x2816) (shapeCast _ (transpose S1024x4x704 [1, 0, 2] (extf .f32 W bitsLt_bf16_f32) transposes_S4x1024x704_S1024x4x704_1_0_2) shapeCasts_S1024x4x704_S1024x2816)
/-- Their sum. -/
def opY (DG DU : FVec Ideal S4x8320x704 .bf16) (WG WU : FVec Ideal S4x1024x704 .bf16) : FVec Ideal S8320x1024 .f32 :=
  addf (opP DU WU) (opP DG WG)
/-- The mean squares with the small constant. -/
def opQ (H : FVec Ideal S8320x1024 .f32) : FVec Ideal S8320x1 .f32 :=
  addf (Host.divf (broadcastInDim S8320x1 ![0] bcast_S8320_S8320x1_0 (Host.reduceAdd (mulf H H) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32))
/-- The product with the gain. -/
def opA (Y : FVec Ideal S8320x1024 .f32) (g : FVec Ideal S1024 .f32) : FVec Ideal S8320x1024 .f32 :=
  mulf Y (broadcastInDim S8320x1024 ![0, 1] bcast_S1x1024_S8320x1024_0_1 (broadcastInDim S1x1024 ![1] bcast_S1024_S1x1024_1 g))
/-- What the derivative of the mean squares carries. -/
def opT (H A : FVec Ideal S8320x1024 .f32) (Q : FVec Ideal S8320x1 .f32) : FVec Ideal S8320 .f32 :=
  Host.reduceAdd (Host.divf (mulf (shapeCast _ (Host.reduceAdd (mulf H A) (constant S_ .f32 0x00000000#32) reducesTo_S8320x1024_S8320_d1 h_S_) shapeCasts_S8320_S8320x1) (mulf (broadcastInDim S8320x1 ![] bcast_S_S8320x1 (constant S_ .f32 0xBF000000#32)) (Host.divf (Host.rsqrt Q) Q))) (broadcastInDim S8320x1 ![] bcast_S_S8320x1 (constant S_ .f32 0x44800000#32))) (constant S_ .f32 0x00000000#32) reducesTo_S8320x1_S8320_d1 h_S_
/-- The first result from these. -/
def opH (R A H : FVec Ideal S8320x1024 .f32) (Q : FVec Ideal S8320x1 .f32) (T : FVec Ideal S8320 .f32) : FVec Ideal S8320x1024 .f32 :=
  pad S8320x1024 ![112, 0] ![0, 0] ![0, 0] (extractStridedSlice S8208x1024 ![112, 0] (addf R (addf (addf (mulf A (broadcastInDim S8320x1024 ![0, 1] bcast_S8320x1_S8320x1024_0_1 (Host.rsqrt Q))) (mulf H (broadcastInDim S8320x1024 ![0] bcast_S8320_S8320x1024_0 T))) (mulf (broadcastInDim S8320x1024 ![0] bcast_S8320_S8320x1024_0 T) H))) slices_S8320x1024_S8208x1024_112_0) (sitofp .f32 (constantI S_ 32 0#32)) pads_S8208x1024_S8320x1024_11200_000 h_S_
/-- The second result. -/
def opG (H Y : FVec Ideal S8320x1024 .f32) (Q : FVec Ideal S8320x1 .f32) : FVec Ideal S8x1024 .f32 :=
  broadcastInDim S8x1024 ![1] bcast_S1024_S8x1024_1 (Host.reduceAdd (shapeCast _ (Host.reduceAdd (mulf (mulf H (broadcastInDim S8320x1024 ![0, 1] bcast_S8320x1_S8320x1024_0_1 (Host.rsqrt Q))) Y) (constant S_ .f32 0x00000000#32) reducesTo_S8320x1024_S1024_d0 h_S_) shapeCasts_S1024_S1x1024) (constant S_ .f32 0x00000000#32) reducesTo_S1x1024_S1024_d0 h_S_)

theorem opP_eq (D : FVec Ideal S4x8320x704 .bf16) (W : FVec Ideal S4x1024x704 .bf16) (y : S8320x1024.Idx) :
    (opP D W y : EReal) = ∑ k : Fin 2816, (D (ix3 (⟨k.val / 704, by omega⟩ : Fin 4) (y 0) (⟨k.val % 704, by omega⟩ : Fin 704)) : EReal) * (W (ix3 (⟨k.val / 704, by omega⟩ : Fin 4) (y 1) (⟨k.val % 704, by omega⟩ : Fin 704)) : EReal) := by
  pointwise [opP]
theorem opY_eq (DG DU : FVec Ideal S4x8320x704 .bf16) (WG WU : FVec Ideal S4x1024x704 .bf16) (y : S8320x1024.Idx) :
    (opY DG DU WG WU y : EReal) = opP DU WU y + opP DG WG y := by
  pointwise [opY]
theorem opQ_eq (H : FVec Ideal S8320x1024 .f32) (y : S8320x1.Idx) : (opQ H y : EReal) = msq (fun k => H (ix2 (y 0) k)) := by
  unfold msq
  pointwise [opQ]
theorem opA_eq (Y : FVec Ideal S8320x1024 .f32) (g : FVec Ideal S1024 .f32) (r : Fin 8320) (q : Fin 1024) :
    (opA Y g (ix2 r q) : EReal) = Y (ix2 r q) * g (ix1 q) := by
  pointwise [opA]
theorem opT_eq (H A : FVec Ideal S8320x1024 .f32) (Q : FVec Ideal S8320x1 .f32) (r : Fin 8320) :
    (opT H A Q (ix1 r) : EReal) = Ideal.div ((∑ k : Fin 1024, H (ix2 r k) * A (ix2 r k))
      * (Ideal.ofBits FTy.f32 0xBF000000#32 * Ideal.div (Ideal.rsqrt (Q (ix2 r 0))) (Q (ix2 r 0)))) (Ideal.ofBits FTy.f32 0x44800000#32) := by
  pointwise [opT]
  exact Fin.sum_univ_one _
theorem opH_eq (R A H : FVec Ideal S8320x1024 .f32) (Q : FVec Ideal S8320x1 .f32) (T : FVec Ideal S8320 .f32) (r : Fin 8320) (q : Fin 1024) :
    (opH R A H Q T (ix2 r q) : EReal) = if 112 ≤ r.val then R (ix2 r q)
      + (A (ix2 r q) * Ideal.rsqrt (Q (ix2 r 0)) + H (ix2 r q) * T (ix1 r) + T (ix1 r) * H (ix2 r q)) else 0 := by
  pointwise [opH]
  by_cases h : 112 ≤ r.val
  · have e : (⟨112 + (r.val - 112), by omega⟩ : Fin 8320) = r := Fin.ext (by simp only []; omega)
    rw [dif_pos ⟨h, by omega⟩, if_pos h]
    simp only [e]
  · rw [dif_neg (fun a => h a.1), if_neg h]
    show (((0#32).toInt : ℝ) : EReal) = 0
    simp
theorem opG_eq (H Y : FVec Ideal S8320x1024 .f32) (Q : FVec Ideal S8320x1 .f32) (y : S8x1024.Idx) :
    (opG H Y Q y : EReal) = ∑ r : Fin 8320, H (ix2 r (y 1)) * Ideal.rsqrt (Q (ix2 r 0)) * Y (ix2 r (y 1)) := by
  pointwise [opG]
  exact Fin.sum_univ_one _

/-- The first result's entries. -/
theorem entryH (R H Y : FVec Ideal S8320x1024 .f32) (g : FVec Ideal S1024 .f32) (r : Fin 8320) (q : Fin 1024) :
    (opH R (opA Y g) H (opQ H) (opT H (opA Y g) (opQ H)) (ix2 r q) : EReal)
      = if 112 ≤ r.val then (R (ix2 r q) : EReal) + dnorm (fun k => H (ix2 r k)) (fun k => (Y (ix2 r k) : EReal) * (g (ix1 k) : EReal)) q else 0 := by
  refine (opH_eq _ _ _ _ _ r q).trans ?_
  rw [dnorm_eq, opT_eq, opQ_eq, opA_eq]
  simp only [opA_eq]
  rfl
/-- The second result's entries. -/
theorem entryG (H Y : FVec Ideal S8320x1024 .f32) (y : S8x1024.Idx) :
    (opG H Y (opQ H) y : EReal) = ∑ r : Fin 8320, (Y (ix2 r (y 1)) : EReal) * ((H (ix2 r (y 1)) : EReal) * rinv (fun k => H (ix2 r k))) := by
  refine (opG_eq _ _ _ y).trans ?_
  refine Finset.sum_congr (M := EReal) rfl fun r _ => ?_
  rw [opQ_eq]
  exact mul_comm _ _

end Cert.Reference4Ideal.Value

namespace Cert.Ffn

theorem algebraic4 : Cert.algebraic_Kernel4Ideal_Reference4Ideal (hKernel4Ideal := Cert.Kernel4Ideal.Gen.facts)
    (hReference4Ideal := Cert.Reference4Ideal.Gen.facts) := by
  intro m g m' g' hpre hagree
  refine ⟨fun c => (Cert.Kernel4Ideal.Gen.dats m 0 c).arrAt 7 Cert.Kernel4Ideal.cfg0.N, fun c => (Cert.Kernel4Ideal.Gen.dats m 0 c).arrAt 8 Cert.Kernel4Ideal.cfg0.N, Cert.Kernel4Ideal.Value.run_blocks m g, ?_⟩
  refine (θ_run Cert.Reference4Ideal.defs _ _).mono (fun r h c => ?_) (Cert.Reference4Ideal.Value.run (F := Ideal) m' g')
  obtain ⟨h0, h1, ha⟩ := h c
  obtain ⟨e0, e1, e2, e3, e4, e5, e6⟩ := hagree c
  have hY : ∀ (a : Fin 8320) (b : Fin 1024), (Cert.Reference4Ideal.Value.opY (m (c.tc.loc Cert.Kernel4Ideal.main_arg0)) (m (c.tc.loc Cert.Kernel4Ideal.main_arg1)) (m (c.tc.loc Cert.Kernel4Ideal.main_arg2)) (m (c.tc.loc Cert.Kernel4Ideal.main_arg3)) (ix2 a b) : EReal)
      = Cert.Kernel4Ideal.Value.prod m c a b := fun a b =>
    (Cert.Reference4Ideal.Value.opY_eq _ _ _ _ (ix2 a b)).trans (add_of_eq (Cert.Reference4Ideal.Value.opP_eq _ _ (ix2 a b)) (Cert.Reference4Ideal.Value.opP_eq _ _ (ix2 a b)))
  refine ⟨h0.trans (Eq.trans (funext fun y => ?_) (Cert.Kernel4Ideal.Value.arr7 m c).symm), h1.trans (Eq.trans (funext fun y => ?_) (Cert.Kernel4Ideal.Value.arr8 m c).symm), ha⟩
  · obtain ⟨a, b, rfl⟩ : ∃ (a : Fin 8320) (b : Fin 1024), y = ix2 a b := ⟨y 0, y 1, by funext i; fin_cases i <;> rfl⟩
    refine (Cert.Reference4Ideal.Value.entryH _ _ (Cert.Reference4Ideal.Value.opY _ _ _ _) _ a b).trans ?_
    rw [e0, e1, e2, e3, e4, e5, e6]
    exact outH_congr rfl (fun _ => rfl) (fun k => mul_of_eq (hY a k) rfl)
  · refine (Cert.Reference4Ideal.Value.entryG _ (Cert.Reference4Ideal.Value.opY _ _ _ _) y).trans ?_
    rw [e0, e1, e2, e3, e4]
    exact Finset.sum_congr (M := EReal) rfl fun k _ => mul_of_eq (hY k (y 1)) rfl

end Cert.Ffn

end
-- ==== Proof.Ffn.Silu.lean ====
/- The derivative of the gate's activation: the product form and the form with two terms are equal. -/
module

public import Idealize.ShloMosaic.PureOps.Ideal
public import proofs.«01_k».proof.Proof.Swa.Row

@[expose] public section

noncomputable section

open Idealize.ShloMosaic Cert.Swa
namespace Cert.Ffn

/-- The logistic function. -/
def sgm (x : EReal) : EReal := Ideal.div 1 (1 + Ideal.exp (-x))

theorem sgm_top : sgm ⊤ = 1 := by
  have e : Ideal.exp (-⊤) = 0 := by rw [EReal.neg_top]; rfl
  unfold sgm
  rw [e, add_zero]
  simp [Ideal.div]

theorem sgm_bot : sgm ⊥ = 0 := by
  have e : Ideal.exp (-⊥) = ⊤ := by rw [EReal.neg_bot]; rfl
  unfold sgm
  rw [e, EReal.add_top_of_ne_bot (by decide)]
  simp [Ideal.div]

theorem sgm_real (a : ℝ) : sgm (a : EReal) = ((1 / (1 + Real.exp (-a)) : ℝ) : EReal) := by
  have e : Ideal.exp (-(a : EReal)) = (Real.exp (-a) : EReal) := by rw [← EReal.coe_neg]; rfl
  have hp : (1 + Real.exp (-a) : ℝ) ≠ 0 := by positivity
  unfold sgm
  rw [e, ← EReal.coe_one, ← EReal.coe_add]
  unfold Ideal.div
  rw [if_neg (by exact_mod_cast hp), ← EReal.coe_inv, ← EReal.coe_mul]
  congr 1

theorem silu_bwd (da u G : EReal) (hd : IsReal da) (hu : IsReal u) :
    da * u * sgm G * (1 + G * (1 - sgm G)) = da * u * sgm G + G * (da * u) * (sgm G * (1 - sgm G)) := by
  obtain ⟨d, rfl⟩ := hd
  obtain ⟨v, rfl⟩ := hu
  induction G using EReal.rec with
  | bot => simp [sgm_bot]
  | top =>
    have h : (1 : EReal) - 1 = 0 := by rw [← EReal.coe_one, ← EReal.coe_sub]; simp
    simp [sgm_top, h]
  | coe a =>
    rw [sgm_real]
    norm_cast
    ring

end Cert.Ffn

end
-- ==== Proof.Ffn.Act.lean ====
/- The backward pass through the gated activation: what the kernel's arrays hold. -/
module

public import proofs.«01_k».proof.Proof.Gen.Kernel5Ideal.Value
public import Idealize.ShloMosaic.Lib.Pipeline.ValueKit
public import proofs.«01_k».proof.Proof.Ffn.Base
public import proofs.«01_k».proof.Proof.Ffn.Silu

@[expose] public section

set_option maxRecDepth 16384

noncomputable section

open Idealize.ShloMosaic Idealize.ShloMosaic.TcCoe Idealize.SL.Sem
open Idealize.ShloMosaic.Pipeline (Dat)
namespace Cert.Kernel5Ideal.Value
open Cert.Kernel5Ideal Cert.Kernel5Ideal.Gen Cert.Ffn

variable (m : (ℓ : Loc nD τ sig) → Buf (Elt Ideal) ℓ)

theorem idx : ∀ t : Fin cfg0.N, win0_0.index t = ![t.val / 4, 0] ∧ win0_1.index t = ![t.val % 4, 0, 0]
    ∧ win0_2.index t = ![t.val % 4, t.val / 4, 0] ∧ win0_3.index t = ![t.val % 4, t.val / 4, 0]
    ∧ win0_4.index t = ![t.val % 4, t.val / 4, 0] ∧ win0_5.index t = ![t.val % 4, t.val / 4, 0] :=
  (by decide +kernel : ∀ t : Fin grid0.N, _)

/-- The cotangents, the weights, the gate's argument and the second factor. -/
def arrY (c : Dev nD) (r : Fin 8320) (k : Fin 1024) : EReal :=
  (show FVec Ideal S8320x1024 .bf16 from m ((c : Thread nD τ).loc main_arg0)) (ix2 r k)
def arrW (c : Dev nD) (s : Fin 4) (f : Fin 704) (k : Fin 1024) : EReal :=
  (show FVec Ideal S4x704x1024 .bf16 from m ((c : Thread nD τ).loc main_arg1)) (ix3 s f k)
def arrG (c : Dev nD) (s : Fin 4) (r : Fin 8320) (f : Fin 704) : EReal :=
  (show FVec Ideal S4x8320x704 .bf16 from m ((c : Thread nD τ).loc main_arg2)) (ix3 s r f)
def arrU (c : Dev nD) (s : Fin 4) (r : Fin 8320) (f : Fin 704) : EReal :=
  (show FVec Ideal S4x8320x704 .bf16 from m ((c : Thread nD τ).loc main_arg3)) (ix3 s r f)

/-- What one grid point multiplies. -/
def part (X : Vec Ideal S640x1024 .bf16) (Y : Vec Ideal S1x704x1024 .bf16) (r : Fin 640) (f : Fin 704) : EReal :=
  ∑ k : Fin 1024, X (ix2 r k) * Y (ix3 0 f k)

theorem eta (y : S1x640x704.Idx) : y = ix3 (0 : Fin 1) (y 1) (y 2) := by
  have h : y 0 = (0 : Fin 1) := Fin.ext (by have h0 : (y 0).val < 1 := (y 0).isLt; simp only [Fin.val_zero]; omega)
  funext i
  fin_cases i
  · exact h
  · rfl
  · rfl

theorem hdU (X : Vec Ideal S640x1024 .bf16) (Y : Vec Ideal S1x704x1024 .bf16) (G : Vec Ideal S1x640x704 .bf16) (y : S1x640x704.Idx) :
    (k0_pay4 (F := Ideal) X Y G y : EReal) = part X Y (y 1) (y 2) * G (ix3 0 (y 1) (y 2)) * sgm (G (ix3 0 (y 1) (y 2))) := by
  unfold part sgm
  pointwise [k0_pay4, k0_pay3, k0_pay2, k0_pay1]
  rw [show (G y : EReal) = G (ix3 0 (y 1) (y 2)) from congrArg G (eta y), zero_sub]

theorem hdG (X : Vec Ideal S640x1024 .bf16) (Y : Vec Ideal S1x704x1024 .bf16) (G U : Vec Ideal S1x640x704 .bf16) (y : S1x640x704.Idx) :
    (k0_pay5 (F := Ideal) X Y G U y : EReal) = part X Y (y 1) (y 2) * U (ix3 0 (y 1) (y 2)) * sgm (G (ix3 0 (y 1) (y 2)))
      * (1 + G (ix3 0 (y 1) (y 2)) * (1 - sgm (G (ix3 0 (y 1) (y 2))))) := by
  unfold part sgm
  pointwise [k0_pay5, k0_pay3, k0_pay2, k0_pay1]
  rw [show (G y : EReal) = G (ix3 0 (y 1) (y 2)) from congrArg G (eta y), show (U y : EReal) = U (ix3 0 (y 1) (y 2)) from congrArg U (eta y), zero_sub]

variable (c : Dev nD)

/-- The row of a block's row, and the shard a grid point works at. -/
def row (t : Fin cfg0.N) (r : Fin 640) : Fin 8320 := ⟨t.val / 4 * 640 + r.val, by have := lt_of_lt_of_eq t.isLt N_0; omega⟩
def sh (t : Fin cfg0.N) : Fin 4 := ⟨t.val % 4, by omega⟩

theorem blkY (t : Fin cfg0.N) (r : Fin 640) (k : Fin 1024) : (iblk m c 0 t (ix2 r k) : EReal) = arrY m c (row t r) k := by
  show (V m c main_arg0 ((win0_0.blk t).view.emb (ix2 r k)) : EReal) = _
  rw [V_main_arg0]
  unfold arrY row
  blk_ext [idx t]
theorem blkW (t : Fin cfg0.N) (f : Fin 704) (k : Fin 1024) : (iblk m c 1 t (ix3 0 f k) : EReal) = arrW m c (sh t) f k := by
  show (V m c main_arg1 ((win0_1.blk t).view.emb (ix3 0 f k)) : EReal) = _
  rw [V_main_arg1]
  unfold arrW sh
  blk_ext [idx t]
theorem blkG (t : Fin cfg0.N) (r : Fin 640) (f : Fin 704) : (iblk m c 2 t (ix3 0 r f) : EReal) = arrG m c (sh t) (row t r) f := by
  show (V m c main_arg2 ((win0_2.blk t).view.emb (ix3 0 r f)) : EReal) = _
  rw [V_main_arg2]
  unfold arrG sh row
  blk_ext [idx t]
theorem blkU (t : Fin cfg0.N) (r : Fin 640) (f : Fin 704) : (iblk m c 3 t (ix3 0 r f) : EReal) = arrU m c (sh t) (row t r) f := by
  show (V m c main_arg3 ((win0_3.blk t).view.emb (ix3 0 r f)) : EReal) = _
  rw [V_main_arg3]
  unfold arrU sh row
  blk_ext [idx t]

/-- The cotangent of the activation. -/
def dA (s : Fin 4) (r : Fin 8320) (f : Fin 704) : EReal := ∑ k : Fin 1024, arrY m c r k * arrW m c s f k

theorem part_eq (t : Fin cfg0.N) (r : Fin 640) (f : Fin 704) : part (iblk m c 0 t) (iblk m c 1 t) r f = dA m c (sh t) (row t r) f :=
  Finset.sum_congr (M := EReal) rfl fun k _ => mul_of_eq (blkY m c t r k) (blkW m c t f k)

/-- The two cotangents the kernel makes. -/
def outG (s : Fin 4) (r : Fin 8320) (f : Fin 704) : EReal :=
  dA m c s r f * arrU m c s r f * sgm (arrG m c s r f) * (1 + arrG m c s r f * (1 - sgm (arrG m c s r f)))
def outU (s : Fin 4) (r : Fin 8320) (f : Fin 704) : EReal := dA m c s r f * arrG m c s r f * sgm (arrG m c s r f)

theorem blkOutG (t : Fin cfg0.N) (y : S1x640x704.Idx) :
    (k0_pay5 (F := Ideal) (iblk m c 0 t) (iblk m c 1 t) (iblk m c 2 t) (iblk m c 3 t) y : EReal) = outG m c (sh t) (row t (y 1)) (y 2) := by
  refine (hdG _ _ _ _ y).trans ?_
  unfold outG
  exact mul_of_eq (mul_of_eq (mul_of_eq (part_eq m c t _ _) (blkU m c t _ _)) (congrArg sgm (blkG m c t _ _)))
    (congrArg (fun x => 1 + x * (1 - sgm x)) (blkG m c t _ _))
theorem blkOutU (t : Fin cfg0.N) (y : S1x640x704.Idx) :
    (k0_pay4 (F := Ideal) (iblk m c 0 t) (iblk m c 1 t) (iblk m c 2 t) y : EReal) = outU m c (sh t) (row t (y 1)) (y 2) := by
  refine (hdU _ _ _ y).trans ?_
  unfold outU
  exact mul_of_eq (mul_of_eq (part_eq m c t _ _) (blkG m c t _ _)) (congrArg sgm (blkG m c t _ _))

theorem emb4 (t : Fin cfg0.N) (y : S1x640x704.Idx) :
    ((win0_4.blk t).view.emb y 0).val = t.val % 4 ∧ ((win0_4.blk t).view.emb y 1).val = t.val / 4 * 640 + (y 1).val ∧ ((win0_4.blk t).view.emb y 2).val = (y 2).val := by
  have y0 : (y 0).val < 1 := (y 0).isLt
  refine ⟨?_, ?_, ?_⟩ <;> blk_simp [idx t]
theorem emb5 (t : Fin cfg0.N) (y : S1x640x704.Idx) :
    ((win0_5.blk t).view.emb y 0).val = t.val % 4 ∧ ((win0_5.blk t).view.emb y 1).val = t.val / 4 * 640 + (y 1).val ∧ ((win0_5.blk t).view.emb y 2).val = (y 2).val := by
  have y0 : (y 0).val < 1 := (y 0).isLt
  refine ⟨?_, ?_, ?_⟩ <;> blk_simp [idx t]

theorem arr4 : (dats m 0 c).arrAt 4 cfg0.N = fun z : S4x8320x704.Idx => outG m c (z 0) (z 1) (z 2) := by
  refine (dats m 0 c).arrAt_eq_of_covers 4 _ (by decide +kernel) fun t hf y => ?_
  have e := emb4 t y
  rw [after0_4]
  unfold out0_4
  frame_out
  exact (blkOutG m c t y).trans <| at3 (outG m c) e.1.symm e.2.1.symm e.2.2.symm

theorem arr5 : (dats m 0 c).arrAt 5 cfg0.N = fun z : S4x8320x704.Idx => outU m c (z 0) (z 1) (z 2) := by
  refine (dats m 0 c).arrAt_eq_of_covers 5 _ (by decide +kernel) fun t hf y => ?_
  have e := emb5 t y
  rw [after0_5]
  unfold out0_5
  frame_out
  exact (blkOutU m c t y).trans <| at3 (outU m c) e.1.symm e.2.1.symm e.2.2.symm

end Cert.Kernel5Ideal.Value

end
-- ==== Proof.Ffn.ActEq.lean ====
/- The backward pass through the gated activation: the reference, and the equation. -/
module

public import proofs.«01_k».proof.Defs
public import proofs.«01_k».proof.Proof.Ffn.Act
public import proofs.«01_k».proof.Proof.Swa.Pre
public import proofs.«01_k».proof.Proof.Gen.Reference5Ideal.Run

@[expose] public section

set_option maxRecDepth 16384

noncomputable section

open Idealize.ShloMosaic Idealize.ShloMosaic.TcCoe Idealize.SL.Sem
namespace Cert.Pre_finite_factors
open Cert.Swa

instance facts : Facts where
  bcast_S_S8320x1024 := by decide
  bcast_S_S4x704x1024 := by decide
  bcast_S_S4x8320x704 := by decide

/-- A number whose absolute value lies below `∞` is real. -/
theorem real_of_lt (x : EReal) (h : BitVec.ofBool (decide (max x (-x) < Ideal.ofBits .bf16 0x7F80#16)) = 1#1) : IsReal x := by
  refine Cert.Pre_finite_scores.real_of_lt x ?_
  have e : (Ideal.ofBits .f32 2139095040#32 : EReal) = Ideal.ofBits .bf16 0x7F80#16 := by simp [Ideal.ofBits, Ideal.ieee]
  rw [e]
  exact h

variable (Y : FVec Ideal S8320x1024 .bf16) (W : FVec Ideal S4x704x1024 .bf16) (G U : FVec Ideal S4x8320x704 .bf16)

theorem real_cotangents (h : (fn Y W G U).1 = fun _ => 1#1) (y : S8320x1024.Idx) : IsReal (Y y) := by
  have e := congrFun h y
  revert e
  pointwise [fn]
  exact fun e => real_of_lt _ e

theorem real_weights (h : (fn Y W G U).2.1 = fun _ => 1#1) (y : S4x704x1024.Idx) : IsReal (W y) := by
  have e := congrFun h y
  revert e
  pointwise [fn]
  exact fun e => real_of_lt _ e

theorem real_second (h : (fn Y W G U).2.2 = fun _ => 1#1) (y : S4x8320x704.Idx) : IsReal (U y) := by
  have e := congrFun h y
  revert e
  pointwise [fn]
  exact fun e => real_of_lt _ e

end Cert.Pre_finite_factors

namespace Cert.Reference5Ideal.Value
open Cert.Reference5Ideal Cert.Reference5Ideal.Gen Cert.Ffn

variable (Y : FVec Ideal S8320x1024 .bf16) (W : FVec Ideal S4x704x1024 .bf16) (G U : FVec Ideal S4x8320x704 .bf16)

/-- The cotangent of the activation. -/
def dA (s : Fin 4) (r : Fin 8320) (f : Fin 704) : EReal := ∑ k : Fin 1024, (Y (ix2 r k) : EReal) * (W (ix3 s f k) : EReal)

/-- The cotangent of the gate's argument. -/
def opG : FVec Ideal S4x8320x704 .bf16 :=
  truncf .bf16 (transpose S4x8320x704 [1, 0, 2] (shapeCast _ (addf (mulf (mulf (Host.dotGeneral dot_S8320x1024_S2816x1024_S8320x2816_1_1_0_0_n_n none (extf .f32 Y bitsLt_bf16_f32) (shapeCast _ (extf .f32 W bitsLt_bf16_f32) shapeCasts_S4x704x1024_S2816x1024)) (shapeCast _ (transpose S8320x4x704 [1, 0, 2] (extf .f32 U bitsLt_bf16_f32) transposes_S4x8320x704_S8320x4x704_1_0_2) shapeCasts_S8320x4x704_S8320x2816)) (Host.divf (broadcastInDim S8320x2816 ![] bcast_S_S8320x2816 (constant S_ .f32 0x3F800000#32)) (addf (broadcastInDim S8320x2816 ![] bcast_S_S8320x2816 (constant S_ .f32 0x3F800000#32)) (Host.exp (Host.negf (shapeCast _ (transpose S8320x4x704 [1, 0, 2] (extf .f32 G bitsLt_bf16_f32) transposes_S4x8320x704_S8320x4x704_1_0_2) shapeCasts_S8320x4x704_S8320x2816)))))) (mulf (mulf (shapeCast _ (transpose S8320x4x704 [1, 0, 2] (extf .f32 G bitsLt_bf16_f32) transposes_S4x8320x704_S8320x4x704_1_0_2) shapeCasts_S8320x4x704_S8320x2816) (mulf (Host.dotGeneral dot_S8320x1024_S2816x1024_S8320x2816_1_1_0_0_n_n none (extf .f32 Y bitsLt_bf16_f32) (shapeCast _ (extf .f32 W bitsLt_bf16_f32) shapeCasts_S4x704x1024_S2816x1024)) (shapeCast _ (transpose S8320x4x704 [1, 0, 2] (extf .f32 U bitsLt_bf16_f32) transposes_S4x8320x704_S8320x4x704_1_0_2) shapeCasts_S8320x4x704_S8320x2816))) (mulf (Host.divf (broadcastInDim S8320x2816 ![] bcast_S_S8320x2816 (constant S_ .f32 0x3F800000#32)) (addf (broadcastInDim S8320x2816 ![] bcast_S_S8320x2816 (constant S_ .f32 0x3F800000#32)) (Host.exp (Host.negf (shapeCast _ (transpose S8320x4x704 [1, 0, 2] (extf .f32 G bitsLt_bf16_f32) transposes_S4x8320x704_S8320x4x704_1_0_2) shapeCasts_S8320x4x704_S8320x2816))))) (subf (broadcastInDim S8320x2816 ![] bcast_S_S8320x2816 (constant S_ .f32 0x3F800000#32)) (Host.divf (broadcastInDim S8320x2816 ![] bcast_S_S8320x2816 (constant S_ .f32 0x3F800000#32)) (addf (broadcastInDim S8320x2816 ![] bcast_S_S8320x2816 (constant S_ .f32 0x3F800000#32)) (Host.exp (Host.negf (shapeCast _ (transpose S8320x4x704 [1, 0, 2] (extf .f32 G bitsLt_bf16_f32) transposes_S4x8320x704_S8320x4x704_1_0_2) shapeCasts_S8320x4x704_S8320x2816))))))))) shapeCasts_S8320x2816_S8320x4x704) transposes_S8320x4x704_S4x8320x704_1_0_2) bitsLt_bf16_f32

/-- The cotangent of the second factor. -/
def opU : FVec Ideal S4x8320x704 .bf16 :=
  truncf .bf16 (transpose S4x8320x704 [1, 0, 2] (shapeCast _ (mulf (mulf (shapeCast _ (transpose S8320x4x704 [1, 0, 2] (extf .f32 G bitsLt_bf16_f32) transposes_S4x8320x704_S8320x4x704_1_0_2) shapeCasts_S8320x4x704_S8320x2816) (Host.divf (broadcastInDim S8320x2816 ![] bcast_S_S8320x2816 (constant S_ .f32 0x3F800000#32)) (addf (broadcastInDim S8320x2816 ![] bcast_S_S8320x2816 (constant S_ .f32 0x3F800000#32)) (Host.exp (Host.negf (shapeCast _ (transpose S8320x4x704 [1, 0, 2] (extf .f32 G bitsLt_bf16_f32) transposes_S4x8320x704_S8320x4x704_1_0_2) shapeCasts_S8320x4x704_S8320x2816)))))) (Host.dotGeneral dot_S8320x1024_S2816x1024_S8320x2816_1_1_0_0_n_n none (extf .f32 Y bitsLt_bf16_f32) (shapeCast _ (extf .f32 W bitsLt_bf16_f32) shapeCasts_S4x704x1024_S2816x1024))) shapeCasts_S8320x2816_S8320x4x704) transposes_S8320x4x704_S4x8320x704_1_0_2) bitsLt_bf16_f32

theorem opG_eq (s : Fin 4) (r : Fin 8320) (f : Fin 704) :
    (opG Y W G U (ix3 s r f) : EReal) = dA Y W s r f * (U (ix3 s r f) : EReal) * sgm (G (ix3 s r f) : EReal)
      + (G (ix3 s r f) : EReal) * (dA Y W s r f * (U (ix3 s r f) : EReal)) * (sgm (G (ix3 s r f) : EReal) * (1 - sgm (G (ix3 s r f) : EReal))) := by
  unfold dA sgm
  pointwise [opG]

theorem opU_eq (s : Fin 4) (r : Fin 8320) (f : Fin 704) :
    (opU Y W G (ix3 s r f) : EReal) = dA Y W s r f * (G (ix3 s r f) : EReal) * sgm (G (ix3 s r f) : EReal) := by
  unfold dA sgm
  pointwise [opU]
  rw [mul_comm, ← mul_assoc]

end Cert.Reference5Ideal.Value

namespace Cert.Ffn
open Cert.Swa

theorem algebraic5 : Cert.algebraic_Kernel5Ideal_Reference5Ideal_pre_finite_factors (hKernel5Ideal := Cert.Kernel5Ideal.Gen.facts)
    (hReference5Ideal := Cert.Reference5Ideal.Gen.facts) (hPre_finite_factors := Cert.Pre_finite_factors.facts) := by
  intro m g m' g' hpre hagree
  refine ⟨fun c => (Cert.Kernel5Ideal.Gen.dats m 0 c).arrAt 4 Cert.Kernel5Ideal.cfg0.N, fun c => (Cert.Kernel5Ideal.Gen.dats m 0 c).arrAt 5 Cert.Kernel5Ideal.cfg0.N, Cert.Kernel5Ideal.Value.run_blocks m g, ?_⟩
  refine (θ_run Cert.Reference5Ideal.defs _ _).mono (fun r h c => ?_) (Cert.Reference5Ideal.Value.run (F := Ideal) m' g')
  obtain ⟨h0, h1, ha⟩ := h c
  obtain ⟨e0, e1, e2, e3⟩ := hagree c
  obtain ⟨p0, p1, p2⟩ := hpre c
  have e : ∀ y : Cert.Kernel5Ideal.S4x8320x704.Idx, y = ix3 (y 0) (y 1) (y 2) := fun y => by funext i; fin_cases i <;> rfl
  refine ⟨h0.trans (Eq.trans (funext fun y => ?_) (Cert.Kernel5Ideal.Value.arr4 m c).symm), h1.trans (Eq.trans (funext fun y => ?_) (Cert.Kernel5Ideal.Value.arr5 m c).symm), ha⟩
  · rw [e0, e1, e2, e3]
    refine (congrArg (Cert.Reference5Ideal.Value.opG _ _ _ _) (e y)).trans ((Cert.Reference5Ideal.Value.opG_eq _ _ _ _ _ _ _).trans (silu_bwd _ _ _ ?_ ?_).symm)
    · exact IsReal.sum fun k => IsReal.mul (Cert.Pre_finite_factors.real_cotangents _ _ _ _ p0 _) (Cert.Pre_finite_factors.real_weights _ _ _ _ p1 _)
    · exact Cert.Pre_finite_factors.real_second _ _ _ _ p2 _
  · rw [e0, e1, e2]
    exact (congrArg (Cert.Reference5Ideal.Value.opU _ _ _) (e y)).trans (Cert.Reference5Ideal.Value.opU_eq _ _ _ _ _ _)

end Cert.Ffn

end
-- ==== Proof.Ffn.Out.lean ====
/- The product that goes down with the residual sum of its normalised rows: what the kernel's arrays hold. -/
module

public import proofs.«01_k».proof.Proof.Gen.Kernel7Ideal.Value
public import Idealize.ShloMosaic.Lib.Pipeline.ValueKit
public import Idealize.ShloMosaic.Lib.Pipeline.ReadBack
public import proofs.«01_k».proof.Proof.Ffn.Base

@[expose] public section

set_option maxRecDepth 16384

noncomputable section

open Idealize.ShloMosaic Idealize.ShloMosaic.TcCoe Idealize.SL.Sem
open Idealize.ShloMosaic.Pipeline (Dat)
namespace Cert.Kernel7Ideal.Value
open Cert.Kernel7Ideal Cert.Kernel7Ideal.Gen Cert.Ffn

variable (m : (ℓ : Loc nD τ sig) → Buf (Elt Ideal) ℓ)

theorem idx : ∀ t : Fin cfg0.N, win0_0.index t = ![t.val % 4, t.val / 4, 0] ∧ win0_1.index t = ![t.val % 4, 0, 0]
    ∧ win0_2.index t = ![t.val / 4, 0] ∧ win0_3.index t = ![0, 0] ∧ win0_4.index t = ![t.val / 4, 0] ∧ win0_5.index t = ![t.val / 4, 0] :=
  (by decide +kernel : ∀ t : Fin grid0.N, _)

/-- The factors. -/
def arrA (c : Dev nD) (s : Fin 4) (r : Fin 8320) (f : Fin 704) : EReal :=
  (show FVec Ideal S4x8320x704 .bf16 from m ((c : Thread nD τ).loc main_arg0)) (ix3 s r f)
def arrW (c : Dev nD) (s : Fin 4) (f : Fin 704) (q : Fin 1024) : EReal :=
  (show FVec Ideal S4x704x1024 .bf16 from m ((c : Thread nD τ).loc main_arg1)) (ix3 s f q)
/-- The residual. -/
def arrH (c : Dev nD) (r : Fin 8320) (q : Fin 1024) : EReal :=
  (show FVec Ideal S8320x1024 .f32 from m ((c : Thread nD τ).loc main_arg2)) (ix2 r q)
/-- The gain. -/
def gain (c : Dev nD) (q : Fin 1024) : EReal :=
  (show FVec Ideal S1024 .f32 from m ((c : Thread nD τ).loc main_arg3)) (ix1 q)

/-- What one grid point adds: the product over its columns. -/
def part (X : Vec Ideal S1x640x704 .bf16) (Y : Vec Ideal S1x704x1024 .bf16) (y : S640x1024.Idx) : EReal :=
  ∑ k : Fin 704, X (ix3 0 (y 0) k) * Y (ix3 0 k (y 1))

theorem hzero (y : S640x1024.Idx) : (k0_pay1 (F := Ideal) y : EReal) = 0 := by pointwise [k0_pay1]
theorem hpay (A : Vec Ideal S640x1024 .f32) (X : Vec Ideal S1x640x704 .bf16) (Y : Vec Ideal S1x704x1024 .bf16) (y : S640x1024.Idx) :
    (k0_pay2 (F := Ideal) A X Y y : EReal) = A y + part X Y y := by unfold part; pointwise [k0_pay2]
theorem hout (A : Vec Ideal S640x1024 .f32) (H : Vec Ideal S640x1024 .f32) (G : Vec Ideal S1x1024 .f32) (y : S640x1024.Idx) :
    (k0_pay3 (F := Ideal) A H G y : EReal) = addHalf (H y) (fun k => A (ix2 (y 0) k)) (G (ix2 0 (y 1))) (y 1) := by
  unfold addHalf rinv
  pointwise [k0_pay3]

variable (c : Dev nD)

theorem stepA (t : Fin cfg0.N) (h : t.val % 4 = 0) (y : S640x1024.Idx) :
    ((outsAt0 m c t.val t.isLt).2.2 y : EReal) = 0 + part (iblk m c 0 t) (iblk m c 1 t) y := by
  rw [outsAt0_A m c t h (by omega)]; frame_out
  rw [hpay, hzero]

theorem stepBC (t : Fin cfg0.N) (h : ¬ t.val % 4 = 0) (y : S640x1024.Idx) :
    ((outsAt0 m c t.val t.isLt).2.2 y : EReal)
      = (outsAt0 m c (t.val - 1) (Nat.lt_of_le_of_lt (Nat.sub_le _ _) t.isLt)).2.2 y + part (iblk m c 0 t) (iblk m c 1 t) y := by
  by_cases h4 : t.val % 4 = 3
  · rw [outsAt0_C m c t h h4]; frame_out; rw [hpay, read_unread_whole]
  · rw [outsAt0_B m c t h h4]; frame_out; rw [hpay, read_unread_whole]

theorem entryG : V m c main_v0 = (shapeCast S1x1024 (show FVec Ideal S1024 .f32 from m ((c : Thread nD τ).loc main_arg3)) shapeCasts_S1024_S1x1024 : FVec Ideal S1x1024 .f32) := by
  show StableHlo.after hostOps0 _ _ = _
  after_results <;> rfl

theorem blkA (t : Fin cfg0.N) (r : Fin 640) (f : Fin 704) :
    (iblk m c 0 t (ix3 0 r f) : EReal)
      = arrA m c ⟨t.val % 4, by omega⟩ ⟨t.val / 4 * 640 + r.val, by have := lt_of_lt_of_eq t.isLt N_0; omega⟩ f := by
  show (V m c main_arg0 ((win0_0.blk t).view.emb (ix3 0 r f)) : EReal) = _
  rw [V_main_arg0]
  unfold arrA
  blk_ext [idx t]

theorem blkW (t : Fin cfg0.N) (f : Fin 704) (q : Fin 1024) :
    (iblk m c 1 t (ix3 0 f q) : EReal) = arrW m c ⟨t.val % 4, by omega⟩ f q := by
  show (V m c main_arg1 ((win0_1.blk t).view.emb (ix3 0 f q)) : EReal) = _
  rw [V_main_arg1]
  unfold arrW
  blk_ext [idx t]

theorem blkH (t : Fin cfg0.N) (y : S640x1024.Idx) :
    (iblk m c 2 t y : EReal) = arrH m c ⟨t.val / 4 * 640 + (y 0).val, by have := lt_of_lt_of_eq t.isLt N_0; have : (y 0).val < 640 := (y 0).isLt; omega⟩ (y 1) := by
  show (V m c main_arg2 ((win0_2.blk t).view.emb y) : EReal) = _
  rw [V_main_arg2]
  unfold arrH
  blk_ext [idx t]

theorem blkG (t : Fin cfg0.N) (q : Fin 1024) :
    (iblk m c 3 t (ix2 0 q) : EReal) = gain m c q := by
  show (V m c main_v0 ((win0_3.blk t).view.emb (ix2 0 q)) : EReal) = _
  rw [entryG]
  unfold gain
  pointwise []
  blk_ext [idx t]

/-- The rows that a grid point works at. -/
def row (t : Fin cfg0.N) (r : Fin 640) : Fin 8320 := ⟨t.val / 4 * 640 + r.val, by have := lt_of_lt_of_eq t.isLt N_0; omega⟩

/-- The product. -/
def prod (r : Fin 8320) (q : Fin 1024) : EReal :=
  ∑ k : Fin 2816, arrA m c ⟨k.val / 704, by omega⟩ r ⟨k.val % 704, by omega⟩ * arrW m c ⟨k.val / 704, by omega⟩ ⟨k.val % 704, by omega⟩ q

theorem acc (t : Fin cfg0.N) (ht : t.val % 4 = 3) (y : S640x1024.Idx) :
    ((outsAt0 m c t.val t.isLt).2.2 y : EReal) = prod m c (row t (y 0)) (y 1) := by
  refine (Pipeline.eq_sum_fin_of_reset_step_apply_of_flush (fun n h y => ((outsAt0 m c n h).2.2 y : EReal)) 4 (fun _ => 0)
    (fun p y => part (iblk m c 0 p) (iblk m c 1 p) y) (fun t h j => stepA m c t h j) (fun t h j => stepBC m c t h j) t ht y).trans ?_
  rw [zero_add]
  unfold prod
  refine Fin.sum_mul_add_congr fun s k hl => ?_
  refine (mul_of_eq (blkA m c _ (y 0) k) (blkW m c _ k (y 1))).trans ?_
  exact mul_of_eq (at3 _ (by simp only []; omega) (by simp only [row]; omega) (by simp only []; omega))
    (at3 _ (by simp only []; omega) (by simp only []; omega) rfl)

theorem emb4 (t : Fin cfg0.N) (y : S640x1024.Idx) :
    ((win0_4.blk t).view.emb y 0).val = t.val / 4 * 640 + (y 0).val ∧ ((win0_4.blk t).view.emb y 1).val = (y 1).val := by
  constructor <;> blk_simp [idx t]
theorem emb5 (t : Fin cfg0.N) (y : S640x1024.Idx) :
    ((win0_5.blk t).view.emb y 0).val = t.val / 4 * 640 + (y 0).val ∧ ((win0_5.blk t).view.emb y 1).val = (y 1).val := by
  constructor <;> blk_simp [idx t]

theorem arr4 : (dats m 0 c).arrAt 4 cfg0.N = fun z : S8320x1024.Idx => prod m c (z 0) (z 1) := by
  refine (dats m 0 c).arrAt_eq_of_covers 4 _ (by decide +kernel) fun t hf y => ?_
  have ht : t.val % 4 = 3 := (flush0_4 t).mp hf
  have h1 := acc m c t ht y
  have e := emb4 t y
  rw [after0_4]
  rw [outsAt0_C m c t (by omega) ht] at h1 ⊢
  frame_out
  frame_out at h1
  exact h1.trans (at2 _ e.1.symm e.2.symm)

theorem addHalf_row {r r' : Fin 8320} {q q' : Fin 1024} (hr : r = r') (hq : q = q') {f : Fin 1024 → EReal}
    (hf : ∀ k, f k = prod m c r k) : addHalf (arrH m c r q) f (gain m c q) q = addHalf (arrH m c r' q') (prod m c r') (gain m c q') q' := by
  subst hr hq
  rw [show f = prod m c r from funext hf]

theorem arr5 : (dats m 0 c).arrAt 5 cfg0.N
    = fun z : S8320x1024.Idx => addHalf (arrH m c (z 0) (z 1)) (prod m c (z 0)) (gain m c (z 1)) (z 1) := by
  refine (dats m 0 c).arrAt_eq_of_covers 5 _ (by decide +kernel) fun t hf y => ?_
  have ht : t.val % 4 = 3 := (flush0_5 t).mp hf
  have h1 := fun z => acc m c t ht z
  have e := emb5 t y
  rw [after0_5]
  rw [outsAt0_C m c t (by omega) ht] at h1 ⊢
  frame_out
  frame_out at h1
  rw [hout]
  have e0 : row t (y 0) = (win0_5.blk t).view.emb y 0 := Fin.ext e.1.symm
  have e1 : y 1 = (win0_5.blk t).view.emb y 1 := Fin.ext e.2.symm
  rw [blkG m c t (y 1), blkH m c t y]
  exact addHalf_row m c e0 e1 (fun k => h1 (ix2 (y 0) k))

end Cert.Kernel7Ideal.Value

end
-- ==== Proof.Ffn.OutEq.lean ====
/- The product that goes down with the residual sum of its normalised rows: the reference, and the equation. -/
module

public import proofs.«01_k».proof.Defs
public import proofs.«01_k».proof.Proof.Ffn.Out
public import proofs.«01_k».proof.Proof.Gen.Reference7Ideal.Run

@[expose] public section

set_option maxRecDepth 16384

noncomputable section

open Idealize.ShloMosaic Idealize.ShloMosaic.TcCoe Idealize.SL.Sem
namespace Cert.Reference7Ideal.Value
open Cert.Reference7Ideal Cert.Reference7Ideal.Gen Cert.Ffn

/-- The reference's product. -/
def opY (A : FVec Ideal S4x8320x704 .bf16) (W : FVec Ideal S4x704x1024 .bf16) : FVec Ideal S8320x1024 .f32 :=
  Host.dotGeneral dot_S8320x2816_S2816x1024_S8320x1024_1_0_0_1_n_n none (shapeCast _ (transpose S8320x4x704 [1, 0, 2] (extf .f32 A bitsLt_bf16_f32) transposes_S4x8320x704_S8320x4x704_1_0_2) shapeCasts_S8320x4x704_S8320x2816) (shapeCast _ (extf .f32 W bitsLt_bf16_f32) shapeCasts_S4x704x1024_S2816x1024)

theorem opY_eq (A : FVec Ideal S4x8320x704 .bf16) (W : FVec Ideal S4x704x1024 .bf16) (y : S8320x1024.Idx) :
    (opY A W y : EReal) = ∑ k : Fin 2816, (A (ix3 (⟨k.val / 704, by omega⟩ : Fin 4) (y 0) (⟨k.val % 704, by omega⟩ : Fin 704)) : EReal) * (W (ix3 (⟨k.val / 704, by omega⟩ : Fin 4) (⟨k.val % 704, by omega⟩ : Fin 704) (y 1)) : EReal) := by
  pointwise [opY]

/-- The residual sum, from the product. -/
def opO (H : FVec Ideal S8320x1024 .f32) (Y : FVec Ideal S8320x1024 .f32) (g : FVec Ideal S1024 .f32) : FVec Ideal S8320x1024 .f32 :=
  addf H (mulf (broadcastInDim S8320x1024 ![] bcast_S_S8320x1024 (constant S_ .f32 0x3F000000#32)) (mulf (mulf Y (broadcastInDim S8320x1024 ![0, 1] bcast_S8320x1_S8320x1024_0_1 (Host.rsqrt (addf (Host.divf (broadcastInDim S8320x1 ![0] bcast_S8320_S8320x1_0 (Host.reduceAdd (mulf Y Y) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (broadcastInDim S1x1024 ![1] bcast_S1024_S1x1024_1 g))))

theorem opO_eq (H : FVec Ideal S8320x1024 .f32) (Y : FVec Ideal S8320x1024 .f32) (g : FVec Ideal S1024 .f32) (y : S8320x1024.Idx) :
    (opO H Y g y : EReal) = addHalf (H y) (fun k => Y (ix2 (y 0) k)) (g (ix1 (y 1))) (y 1) := by
  unfold addHalf rinv
  pointwise [opO]

end Cert.Reference7Ideal.Value

namespace Cert.Ffn

theorem algebraic7 : Cert.algebraic_Kernel7Ideal_Reference7Ideal (hKernel7Ideal := Cert.Kernel7Ideal.Gen.facts)
    (hReference7Ideal := Cert.Reference7Ideal.Gen.facts) := by
  intro m g m' g' hpre hagree
  refine ⟨fun c => (Cert.Kernel7Ideal.Gen.dats m 0 c).arrAt 4 Cert.Kernel7Ideal.cfg0.N, fun c => (Cert.Kernel7Ideal.Gen.dats m 0 c).arrAt 5 Cert.Kernel7Ideal.cfg0.N, Cert.Kernel7Ideal.Value.run_blocks m g, ?_⟩
  refine (θ_run Cert.Reference7Ideal.defs _ _).mono (fun r h c => ?_) (Cert.Reference7Ideal.Value.run (F := Ideal) m' g')
  obtain ⟨h0, h1, ha⟩ := h c
  obtain ⟨e0, e1, e2, e3⟩ := hagree c
  refine ⟨h0.trans (Eq.trans (funext fun y => ?_) (Cert.Kernel7Ideal.Value.arr4 m c).symm), h1.trans (Eq.trans (funext fun y => ?_) (Cert.Kernel7Ideal.Value.arr5 m c).symm), ha⟩
  · refine (Cert.Reference7Ideal.Value.opY_eq _ _ y).trans ?_
    rw [e0, e1]
    rfl
  · refine (Cert.Reference7Ideal.Value.opO_eq _ (Cert.Reference7Ideal.Value.opY _ _) _ y).trans ?_
    rw [e0, e1, e2, e3]
    refine addHalf_congr (congrArg (m _) ?_) (fun k => Cert.Reference7Ideal.Value.opY_eq _ _ (ix2 (y 0) k)) rfl
    funext i
    fin_cases i <;> rfl

end Cert.Ffn

end
-- ==== Proof.Mixer.DMix.lean ====
/- The cotangent of a mixer's output: what the kernel's array holds. -/
module

public import proofs.«01_k».proof.Proof.Gen.Kernel8Ideal.Value
public import Idealize.ShloMosaic.Lib.Pipeline.ValueKit
public import Idealize.ShloMosaic.Lib.Pipeline.ReadBack
public import proofs.«01_k».proof.Proof.Ffn.Base

@[expose] public section

set_option maxRecDepth 16384

noncomputable section

open Idealize.ShloMosaic Idealize.ShloMosaic.TcCoe Idealize.SL.Sem
open Idealize.ShloMosaic.Pipeline (Dat)
namespace Cert.Kernel8Ideal.Value
open Cert.Kernel8Ideal Cert.Kernel8Ideal.Gen Cert.Ffn

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The cotangents of the product. -/
def arrY (r : Fin 8320) (k : Fin 1024) : EReal :=
  (show FVec Ideal S8320x1024 .bf16 from m ((c : Thread nD τ).loc main_arg0)) (ix2 r k)
/-- The weights. -/
def arrW (q k : Fin 1024) : EReal :=
  (show FVec Ideal S1024x1024 .bf16 from m ((c : Thread nD τ).loc main_arg1)) (ix2 q k)

theorem hpay (Y : Vec Ideal S640x1024 .bf16) (W : Vec Ideal S1024x1024 .bf16) (y : S640x1024.Idx) :
    (k0_pay1 (F := Ideal) Y W y : EReal) = ∑ k : Fin 1024, Y (ix2 (y 0) k) * W (ix2 (y 1) k) := by pointwise [k0_pay1]

/-- The rows that a grid point works at. -/
def row (t : Fin cfg0.N) (r : Fin 640) : Fin 8320 := ⟨t.val * 640 + r.val, by have := lt_of_lt_of_eq t.isLt N_0; omega⟩

theorem blkY (t : Fin cfg0.N) (r : Fin 640) (k : Fin 1024) : (iblk m c 0 t (ix2 r k) : EReal) = arrY m c (row t r) k := by
  show (V m c main_arg0 ((win0_0.blk t).view.emb (ix2 r k)) : EReal) = _
  rw [V_main_arg0]
  unfold arrY row
  blk_ext [idx t]

theorem blkW (t : Fin cfg0.N) (q k : Fin 1024) : (iblk m c 1 t (ix2 q k) : EReal) = arrW m c q k := by
  show (V m c main_arg1 ((win0_1.blk t).view.emb (ix2 q k)) : EReal) = _
  rw [V_main_arg1]
  unfold arrW
  blk_ext [idx t]

theorem emb (t : Fin cfg0.N) (y : S640x1024.Idx) :
    ((win0_2.blk t).view.emb y 0).val = t.val * 640 + (y 0).val ∧ ((win0_2.blk t).view.emb y 1).val = (y 1).val := by
  constructor <;> blk_simp [idx t]

theorem arr : (dats m 0 c).arrAt 2 cfg0.N
    = fun z : S8320x1024.Idx => (∑ k : Fin 1024, arrY m c (z 0) k * arrW m c (z 1) k : EReal) := by
  refine (dats m 0 c).arrAt_eq_of_covers 2 _ (by decide +kernel) fun t hf y => ?_
  have e := emb t y
  rw [after0_2]
  unfold out0_2
  frame_out
  refine (hpay _ _ y).trans (Finset.sum_congr (M := EReal) rfl fun k _ => ?_)
  refine (mul_of_eq (blkY m c t (y 0) k) (blkW m c t (y 1) k)).trans ?_
  exact mul_of_eq (at2 _ e.1.symm rfl) (at2 _ e.2.symm rfl)

end Cert.Kernel8Ideal.Value

end
-- ==== Proof.Mixer.DMixEq.lean ====
/- The cotangent of a mixer's output: the reference, and the equation. -/
module

public import proofs.«01_k».proof.Defs
public import proofs.«01_k».proof.Proof.Mixer.DMix
public import proofs.«01_k».proof.Proof.Gen.Reference8Ideal.Run

@[expose] public section

set_option maxRecDepth 16384

noncomputable section

open Idealize.ShloMosaic Idealize.ShloMosaic.TcCoe Idealize.SL.Sem
namespace Cert.Reference8Ideal.Value
open Cert.Reference8Ideal Cert.Reference8Ideal.Gen

/-- The reference's operations on the cotangents and the weights. -/
def opY (Y : FVec Ideal S8320x1024 .bf16) (W : FVec Ideal S1024x1024 .bf16) : FVec Ideal S8320x1024 .f32 :=
  Host.dotGeneral dot_S8320x1024_S1024x1024_S8320x1024_1_1_0_0_n_n none (extf .f32 Y bitsLt_bf16_f32) (extf .f32 W bitsLt_bf16_f32)

theorem opY_eq (Y : FVec Ideal S8320x1024 .bf16) (W : FVec Ideal S1024x1024 .bf16) (y : S8320x1024.Idx) :
    (opY Y W y : EReal) = ∑ k : Fin 1024, (Y (ix2 (y 0) k) : EReal) * (W (ix2 (y 1) k) : EReal) := by
  pointwise [opY]

end Cert.Reference8Ideal.Value

namespace Cert.Ffn

theorem algebraic8 : Cert.algebraic_Kernel8Ideal_Reference8Ideal (hKernel8Ideal := Cert.Kernel8Ideal.Gen.facts)
    (hReference8Ideal := Cert.Reference8Ideal.Gen.facts) := by
  intro m g m' g' hpre hagree
  refine ⟨fun c => (Cert.Kernel8Ideal.Gen.dats m 0 c).arrAt 2 Cert.Kernel8Ideal.cfg0.N, Cert.Kernel8Ideal.Value.run_blocks m g, ?_⟩
  refine (θ_run Cert.Reference8Ideal.defs _ _).mono (fun r h c => ?_) (Cert.Reference8Ideal.Value.run (F := Ideal) m' g')
  obtain ⟨h0, ha⟩ := h c
  refine ⟨h0.trans (Eq.trans (funext fun y => ?_) (Cert.Kernel8Ideal.Value.arr m c).symm), ha⟩
  refine (Cert.Reference8Ideal.Value.opY_eq _ _ y).trans ?_
  rw [(hagree c).1, (hagree c).2]
  rfl

end Cert.Ffn

end
-- ==== Proof.Mixer.WOut.lean ====
/- The weight gradient of a mixer's projection out: what the kernel's array holds. -/
module

public import proofs.«01_k».proof.Proof.Gen.Kernel9Ideal.Value
public import Idealize.ShloMosaic.Lib.Pipeline.ValueKit
public import Idealize.ShloMosaic.Lib.Pipeline.ReadBack
public import proofs.«01_k».proof.Proof.Ffn.Base

@[expose] public section

set_option maxRecDepth 16384

noncomputable section

open Idealize.ShloMosaic Idealize.ShloMosaic.TcCoe Idealize.SL.Sem
open Idealize.ShloMosaic.Pipeline (Dat)
namespace Cert.Kernel9Ideal.Value
open Cert.Kernel9Ideal Cert.Kernel9Ideal.Gen Cert.Ffn

variable (m : (ℓ : Loc nD τ sig) → Buf (Elt Ideal) ℓ)

theorem idx : ∀ t : Fin cfg0.N, win0_0.index t = ![0, t.val % 5, 0] ∧ win0_1.index t = ![0, t.val % 5, t.val / 5] ∧ win0_2.index t = ![0, 0, t.val / 5] :=
  (by decide +kernel : ∀ t : Fin grid0.N, _)

/-- The inputs of the product. -/
def arrX (c : Dev nD) (k : Fin 8320) (q : Fin 1024) : EReal :=
  (show FVec Ideal S8320x1024 .bf16 from m ((c : Thread nD τ).loc main_arg0)) (ix2 k q)
/-- The cotangents. -/
def arrY (c : Dev nD) (k : Fin 8320) (q : Fin 1024) : EReal :=
  (show FVec Ideal S8320x1024 .bf16 from m ((c : Thread nD τ).loc main_arg1)) (ix2 k q)

/-- What one grid point adds: the product over its rows. -/
def part (X : Vec Ideal S1x1664x1024 .bf16) (Y : Vec Ideal S1x1664x1024 .bf16) (y : S1024x1024.Idx) : EReal :=
  ∑ k : Fin 1664, X (ix3 0 k (y 0)) * Y (ix3 0 k (y 1))

theorem hzero (y : S1024x1024.Idx) : (k0_pay1 (F := Ideal) y : EReal) = 0 := by pointwise [k0_pay1]
theorem hpay (A : Vec Ideal S1024x1024 .f32) (X : Vec Ideal S1x1664x1024 .bf16) (Y : Vec Ideal S1x1664x1024 .bf16) (y : S1024x1024.Idx) :
    (k0_pay2 (F := Ideal) A X Y y : EReal) = A y + part X Y y := by unfold part; pointwise [k0_pay2]
theorem hout (A : Vec Ideal S1024x1024 .f32) (y : S1x1024x1024.Idx) :
    (k0_pay3 (F := Ideal) A y : EReal) = A (ix2 (y 1) (y 2)) := by pointwise [k0_pay3]

variable (c : Dev nD)

theorem stepA (t : Fin cfg0.N) (h : t.val % 5 = 0) (y : S1024x1024.Idx) :
    ((outsAt0 m c t.val t.isLt).2 y : EReal) = 0 + part (iblk m c 0 t) (iblk m c 1 t) y := by
  rw [outsAt0_A m c t h (by omega)]; frame_out
  rw [hpay, hzero]

theorem stepBC (t : Fin cfg0.N) (h : ¬ t.val % 5 = 0) (y : S1024x1024.Idx) :
    ((outsAt0 m c t.val t.isLt).2 y : EReal)
      = (outsAt0 m c (t.val - 1) (Nat.lt_of_le_of_lt (Nat.sub_le _ _) t.isLt)).2 y + part (iblk m c 0 t) (iblk m c 1 t) y := by
  by_cases h4 : t.val % 5 = 4
  · rw [outsAt0_C m c t h h4]; frame_out; rw [hpay, read_unread_whole]
  · rw [outsAt0_B m c t h h4]; frame_out; rw [hpay, read_unread_whole]

theorem entryX : V m c main_v0 = (broadcastInDim S1x8320x1024 ![1, 2] bcast_S8320x1024_S1x8320x1024_1_2 (show FVec Ideal S8320x1024 .bf16 from m ((c : Thread nD τ).loc main_arg0)) : FVec Ideal S1x8320x1024 .bf16) := by
  show StableHlo.after hostOps0 _ _ = _
  after_results <;> rfl
theorem entryY : V m c main_v1 = (broadcastInDim S1x8320x1024 ![1, 2] bcast_S8320x1024_S1x8320x1024_1_2 (show FVec Ideal S8320x1024 .bf16 from m ((c : Thread nD τ).loc main_arg1)) : FVec Ideal S1x8320x1024 .bf16) := by
  show StableHlo.after hostOps0 _ _ = _
  after_results <;> rfl

theorem blkX (t : Fin cfg0.N) (k : Fin 1664) (q : Fin 1024) :
    (iblk m c 0 t (ix3 0 k q) : EReal) = arrX m c ⟨t.val % 5 * 1664 + k.val, by omega⟩ q := by
  show (V m c main_v0 ((win0_0.blk t).view.emb (ix3 0 k q)) : EReal) = _
  rw [entryX]
  unfold arrX
  pointwise []
  blk_ext [idx t]

/-- The columns that a grid point works at. -/
def col (t : Fin cfg0.N) (q : Fin 1024) : Fin 1024 := ⟨t.val / 5 * 1024 + q.val, by have := lt_of_lt_of_eq t.isLt N_0; omega⟩

theorem blkY (t : Fin cfg0.N) (k : Fin 1664) (q : Fin 1024) :
    (iblk m c 1 t (ix3 0 k q) : EReal) = arrY m c ⟨t.val % 5 * 1664 + k.val, by omega⟩ (col t q) := by
  show (V m c main_v1 ((win0_1.blk t).view.emb (ix3 0 k q)) : EReal) = _
  rw [entryY]
  unfold arrY col
  pointwise []
  blk_ext [idx t]

theorem acc (t : Fin cfg0.N) (ht : t.val % 5 = 4) (y : S1024x1024.Idx) :
    ((outsAt0 m c t.val t.isLt).2 y : EReal) = ∑ k : Fin 8320, arrX m c k (y 0) * arrY m c k (col t (y 1)) := by
  refine (Pipeline.eq_sum_fin_of_reset_step_apply_of_flush (fun n h y => ((outsAt0 m c n h).2 y : EReal)) 5 (fun _ => 0)
    (fun p y => part (iblk m c 0 p) (iblk m c 1 p) y) (fun t h j => stepA m c t h j) (fun t h j => stepBC m c t h j) t ht y).trans ?_
  rw [zero_add]
  refine Fin.sum_mul_add_congr fun s k hl => ?_
  refine (mul_of_eq (blkX m c _ k (y 0)) (blkY m c _ k (y 1))).trans ?_
  exact mul_of_eq (at2 _ (by simp only []; omega) rfl) (at2 _ (by simp only []; omega) (by simp only [col]; omega))

theorem arr : (dats m 0 c).arrAt 2 cfg0.N
    = fun z : S1x1024x1024.Idx => (∑ k : Fin 8320, arrX m c k (z 1) * arrY m c k (z 2) : EReal) := by
  refine (dats m 0 c).arrAt_eq_of_covers 2 _ (by decide +kernel) fun t hf y => ?_
  have ht : t.val % 5 = 4 := (flush0_2 t).mp hf
  blk_simp [idx t]
  have h1 := acc m c t ht (ix2 (y 1) (y 2))
  rw [after0_2]
  rw [outsAt0_C m c t (by omega) ht] at h1 ⊢
  frame_out
  frame_out at h1
  rw [hout]
  have e1 : ((win0_2.blk t).view.emb y 1).val = (y 1).val := by blk_simp [idx t]
  have e2 : ((win0_2.blk t).view.emb y 2).val = t.val / 5 * 1024 + (y 2).val := by blk_simp [idx t]
  refine h1.trans (Finset.sum_congr (M := EReal) rfl fun k _ => ?_)
  exact mul_of_eq (at2 _ rfl e1.symm) (at2 _ rfl (by simp only [col]; exact e2.symm))

end Cert.Kernel9Ideal.Value

end
-- ==== Proof.Mixer.WOutEq.lean ====
/- The weight gradient of a mixer's projection out: the reference, and the equation. -/
module

public import proofs.«01_k».proof.Defs
public import proofs.«01_k».proof.Proof.Mixer.WOut
public import proofs.«01_k».proof.Proof.Gen.Reference9Ideal.Run

@[expose] public section

set_option maxRecDepth 16384

noncomputable section

open Idealize.ShloMosaic Idealize.ShloMosaic.TcCoe Idealize.SL.Sem
namespace Cert.Reference9Ideal.Value
open Cert.Reference9Ideal Cert.Reference9Ideal.Gen

/-- The reference's operations on the cotangents and the inputs. -/
def opW (Y : FVec Ideal S8320x1024 .bf16) (X : FVec Ideal S8320x1024 .bf16) : FVec Ideal S1x1024x1024 .bf16 :=
  truncf .bf16 (broadcastInDim S1x1024x1024 ![1, 2] bcast_S1024x1024_S1x1024x1024_1_2 (transpose S1024x1024 [1, 0] (Host.dotGeneral dot_S8320x1024_S8320x1024_S1024x1024_0_0_1_1_n_n none (extf .f32 Y bitsLt_bf16_f32) (extf .f32 X bitsLt_bf16_f32)) transposes_S1024x1024_S1024x1024_1_0)) bitsLt_bf16_f32

theorem opW_eq (Y : FVec Ideal S8320x1024 .bf16) (X : FVec Ideal S8320x1024 .bf16) (y : S1x1024x1024.Idx) :
    (opW Y X y : EReal) = ∑ k : Fin 8320, (X (ix2 k (y 1)) : EReal) * (Y (ix2 k (y 2)) : EReal) := by
  pointwise [opW]
  exact Finset.sum_congr rfl fun k _ => mul_comm _ _

end Cert.Reference9Ideal.Value

namespace Cert.Ffn

theorem algebraic9 : Cert.algebraic_Kernel9Ideal_Reference9Ideal (hKernel9Ideal := Cert.Kernel9Ideal.Gen.facts)
    (hReference9Ideal := Cert.Reference9Ideal.Gen.facts) := by
  intro m g m' g' hpre hagree
  refine ⟨fun c => (Cert.Kernel9Ideal.Gen.dats m 0 c).arrAt 2 Cert.Kernel9Ideal.cfg0.N, Cert.Kernel9Ideal.Value.run_blocks m g, ?_⟩
  refine (θ_run Cert.Reference9Ideal.defs _ _).mono (fun r h c => ?_) (Cert.Reference9Ideal.Value.run (F := Ideal) m' g')
  obtain ⟨h0, ha⟩ := h c
  refine ⟨h0.trans (Eq.trans (funext fun y => ?_) (Cert.Kernel9Ideal.Value.arr m c).symm), ha⟩
  refine (Cert.Reference9Ideal.Value.opW_eq _ _ y).trans ?_
  rw [(hagree c).1, (hagree c).2]
  rfl

end Cert.Ffn

end
-- ==== Proof.Mixer.WAb.lean ====
/- The weight gradient of the first mixer's projection in: what the kernel's array holds. -/
module

public import proofs.«01_k».proof.Proof.Gen.Kernel10Ideal.Value
public import Idealize.ShloMosaic.Lib.Pipeline.ValueKit
public import Idealize.ShloMosaic.Lib.Pipeline.ReadBack
public import proofs.«01_k».proof.Proof.Ffn.Base

@[expose] public section

set_option maxRecDepth 16384

noncomputable section

open Idealize.ShloMosaic Idealize.ShloMosaic.TcCoe Idealize.SL.Sem
open Idealize.ShloMosaic.Pipeline (Dat)
namespace Cert.Kernel10Ideal.Value
open Cert.Kernel10Ideal Cert.Kernel10Ideal.Gen Cert.Ffn

variable (m : (ℓ : Loc nD τ sig) → Buf (Elt Ideal) ℓ)

theorem idx : ∀ t : Fin cfg0.N, win0_0.index t = ![0, t.val % 5, 0] ∧ win0_1.index t = ![0, t.val % 5, t.val / 5] ∧ win0_2.index t = ![0, 0, t.val / 5] :=
  (by decide +kernel : ∀ t : Fin grid0.N, _)

/-- The inputs of the product. -/
def arrX (c : Dev nD) (k : Fin 8320) (q : Fin 1024) : EReal :=
  (show FVec Ideal S8320x1024 .bf16 from m ((c : Thread nD τ).loc main_arg0)) (ix2 k q)
/-- The cotangents. -/
def arrY (c : Dev nD) (k : Fin 8320) (q : Fin 4224) : EReal :=
  (show FVec Ideal S8320x4224 .bf16 from m ((c : Thread nD τ).loc main_arg1)) (ix2 k q)

/-- What one grid point adds: the product over its rows. -/
def part (X : Vec Ideal S1x1664x1024 .bf16) (Y : Vec Ideal S1x1664x1408 .bf16) (y : S1024x1408.Idx) : EReal :=
  ∑ k : Fin 1664, X (ix3 0 k (y 0)) * Y (ix3 0 k (y 1))

theorem hzero (y : S1024x1408.Idx) : (k0_pay1 (F := Ideal) y : EReal) = 0 := by pointwise [k0_pay1]
theorem hpay (A : Vec Ideal S1024x1408 .f32) (X : Vec Ideal S1x1664x1024 .bf16) (Y : Vec Ideal S1x1664x1408 .bf16) (y : S1024x1408.Idx) :
    (k0_pay2 (F := Ideal) A X Y y : EReal) = A y + part X Y y := by unfold part; pointwise [k0_pay2]
theorem hout (A : Vec Ideal S1024x1408 .f32) (y : S1x1024x1408.Idx) :
    (k0_pay3 (F := Ideal) A y : EReal) = A (ix2 (y 1) (y 2)) := by pointwise [k0_pay3]

variable (c : Dev nD)

theorem stepA (t : Fin cfg0.N) (h : t.val % 5 = 0) (y : S1024x1408.Idx) :
    ((outsAt0 m c t.val t.isLt).2 y : EReal) = 0 + part (iblk m c 0 t) (iblk m c 1 t) y := by
  rw [outsAt0_A m c t h (by omega)]; frame_out
  rw [hpay, hzero]

theorem stepBC (t : Fin cfg0.N) (h : ¬ t.val % 5 = 0) (y : S1024x1408.Idx) :
    ((outsAt0 m c t.val t.isLt).2 y : EReal)
      = (outsAt0 m c (t.val - 1) (Nat.lt_of_le_of_lt (Nat.sub_le _ _) t.isLt)).2 y + part (iblk m c 0 t) (iblk m c 1 t) y := by
  by_cases h4 : t.val % 5 = 4
  · rw [outsAt0_C m c t h h4]; frame_out; rw [hpay, read_unread_whole]
  · rw [outsAt0_B m c t h h4]; frame_out; rw [hpay, read_unread_whole]

theorem entryX : V m c main_v0 = (broadcastInDim S1x8320x1024 ![1, 2] bcast_S8320x1024_S1x8320x1024_1_2 (show FVec Ideal S8320x1024 .bf16 from m ((c : Thread nD τ).loc main_arg0)) : FVec Ideal S1x8320x1024 .bf16) := by
  show StableHlo.after hostOps0 _ _ = _
  after_results <;> rfl
theorem entryY : V m c main_v1 = (broadcastInDim S1x8320x4224 ![1, 2] bcast_S8320x4224_S1x8320x4224_1_2 (show FVec Ideal S8320x4224 .bf16 from m ((c : Thread nD τ).loc main_arg1)) : FVec Ideal S1x8320x4224 .bf16) := by
  show StableHlo.after hostOps0 _ _ = _
  after_results <;> rfl

theorem blkX (t : Fin cfg0.N) (k : Fin 1664) (q : Fin 1024) :
    (iblk m c 0 t (ix3 0 k q) : EReal) = arrX m c ⟨t.val % 5 * 1664 + k.val, by omega⟩ q := by
  show (V m c main_v0 ((win0_0.blk t).view.emb (ix3 0 k q)) : EReal) = _
  rw [entryX]
  unfold arrX
  pointwise []
  blk_ext [idx t]

/-- The columns that a grid point works at. -/
def col (t : Fin cfg0.N) (q : Fin 1408) : Fin 4224 := ⟨t.val / 5 * 1408 + q.val, by have := lt_of_lt_of_eq t.isLt N_0; omega⟩

theorem blkY (t : Fin cfg0.N) (k : Fin 1664) (q : Fin 1408) :
    (iblk m c 1 t (ix3 0 k q) : EReal) = arrY m c ⟨t.val % 5 * 1664 + k.val, by omega⟩ (col t q) := by
  show (V m c main_v1 ((win0_1.blk t).view.emb (ix3 0 k q)) : EReal) = _
  rw [entryY]
  unfold arrY col
  pointwise []
  blk_ext [idx t]

theorem acc (t : Fin cfg0.N) (ht : t.val % 5 = 4) (y : S1024x1408.Idx) :
    ((outsAt0 m c t.val t.isLt).2 y : EReal) = ∑ k : Fin 8320, arrX m c k (y 0) * arrY m c k (col t (y 1)) := by
  refine (Pipeline.eq_sum_fin_of_reset_step_apply_of_flush (fun n h y => ((outsAt0 m c n h).2 y : EReal)) 5 (fun _ => 0)
    (fun p y => part (iblk m c 0 p) (iblk m c 1 p) y) (fun t h j => stepA m c t h j) (fun t h j => stepBC m c t h j) t ht y).trans ?_
  rw [zero_add]
  refine Fin.sum_mul_add_congr fun s k hl => ?_
  refine (mul_of_eq (blkX m c _ k (y 0)) (blkY m c _ k (y 1))).trans ?_
  exact mul_of_eq (at2 _ (by simp only []; omega) rfl) (at2 _ (by simp only []; omega) (by simp only [col]; omega))

theorem arr : (dats m 0 c).arrAt 2 cfg0.N
    = fun z : S1x1024x4224.Idx => (∑ k : Fin 8320, arrX m c k (z 1) * arrY m c k (z 2) : EReal) := by
  refine (dats m 0 c).arrAt_eq_of_covers 2 _ (by decide +kernel) fun t hf y => ?_
  have ht : t.val % 5 = 4 := (flush0_2 t).mp hf
  blk_simp [idx t]
  have h1 := acc m c t ht (ix2 (y 1) (y 2))
  rw [after0_2]
  rw [outsAt0_C m c t (by omega) ht] at h1 ⊢
  frame_out
  frame_out at h1
  rw [hout]
  have e1 : ((win0_2.blk t).view.emb y 1).val = (y 1).val := by blk_simp [idx t]
  have e2 : ((win0_2.blk t).view.emb y 2).val = t.val / 5 * 1408 + (y 2).val := by blk_simp [idx t]
  refine h1.trans (Finset.sum_congr (M := EReal) rfl fun k _ => ?_)
  exact mul_of_eq (at2 _ rfl e1.symm) (at2 _ rfl (by simp only [col]; exact e2.symm))

end Cert.Kernel10Ideal.Value

end
-- ==== Proof.Mixer.WAbEq.lean ====
/- The weight gradient of the first mixer's projection in: the reference, and the equation. -/
module

public import proofs.«01_k».proof.Defs
public import proofs.«01_k».proof.Proof.Mixer.WAb
public import proofs.«01_k».proof.Proof.Gen.Reference10Ideal.Run

@[expose] public section

set_option maxRecDepth 16384

noncomputable section

open Idealize.ShloMosaic Idealize.ShloMosaic.TcCoe Idealize.SL.Sem
namespace Cert.Reference10Ideal.Value
open Cert.Reference10Ideal Cert.Reference10Ideal.Gen

/-- The reference's operations on the cotangents and the inputs. -/
def opW (Y : FVec Ideal S8320x4224 .bf16) (X : FVec Ideal S8320x1024 .bf16) : FVec Ideal S1x1024x4224 .bf16 :=
  truncf .bf16 (broadcastInDim S1x1024x4224 ![1, 2] bcast_S1024x4224_S1x1024x4224_1_2 (transpose S1024x4224 [1, 0] (Host.dotGeneral dot_S8320x4224_S8320x1024_S4224x1024_0_0_1_1_n_n none (extf .f32 Y bitsLt_bf16_f32) (extf .f32 X bitsLt_bf16_f32)) transposes_S4224x1024_S1024x4224_1_0)) bitsLt_bf16_f32

theorem opW_eq (Y : FVec Ideal S8320x4224 .bf16) (X : FVec Ideal S8320x1024 .bf16) (y : S1x1024x4224.Idx) :
    (opW Y X y : EReal) = ∑ k : Fin 8320, (X (ix2 k (y 1)) : EReal) * (Y (ix2 k (y 2)) : EReal) := by
  pointwise [opW]
  exact Finset.sum_congr rfl fun k _ => mul_comm _ _

end Cert.Reference10Ideal.Value

namespace Cert.Ffn

theorem algebraic10 : Cert.algebraic_Kernel10Ideal_Reference10Ideal (hKernel10Ideal := Cert.Kernel10Ideal.Gen.facts)
    (hReference10Ideal := Cert.Reference10Ideal.Gen.facts) := by
  intro m g m' g' hpre hagree
  refine ⟨fun c => (Cert.Kernel10Ideal.Gen.dats m 0 c).arrAt 2 Cert.Kernel10Ideal.cfg0.N, Cert.Kernel10Ideal.Value.run_blocks m g, ?_⟩
  refine (θ_run Cert.Reference10Ideal.defs _ _).mono (fun r h c => ?_) (Cert.Reference10Ideal.Value.run (F := Ideal) m' g')
  obtain ⟨h0, ha⟩ := h c
  refine ⟨h0.trans (Eq.trans (funext fun y => ?_) (Cert.Kernel10Ideal.Value.arr m c).symm), ha⟩
  refine (Cert.Reference10Ideal.Value.opW_eq _ _ y).trans ?_
  rw [(hagree c).1, (hagree c).2]
  rfl

end Cert.Ffn

end
-- ==== Proof.Mixer.WCd.lean ====
/- The weight gradient of the second mixer's projection in: what the kernel's array holds. -/
module

public import proofs.«01_k».proof.Proof.Gen.Kernel11Ideal.Value
public import Idealize.ShloMosaic.Lib.Pipeline.ValueKit
public import Idealize.ShloMosaic.Lib.Pipeline.ReadBack
public import proofs.«01_k».proof.Proof.Ffn.Base

@[expose] public section

set_option maxRecDepth 16384

noncomputable section

open Idealize.ShloMosaic Idealize.ShloMosaic.TcCoe Idealize.SL.Sem
open Idealize.ShloMosaic.Pipeline (Dat)
namespace Cert.Kernel11Ideal.Value
open Cert.Kernel11Ideal Cert.Kernel11Ideal.Gen Cert.Ffn

variable (m : (ℓ : Loc nD τ sig) → Buf (Elt Ideal) ℓ)

theorem idx : ∀ t : Fin cfg0.N, win0_0.index t = ![0, t.val % 5, 0] ∧ win0_1.index t = ![0, t.val % 5, t.val / 5] ∧ win0_2.index t = ![0, 0, t.val / 5] :=
  (by decide +kernel : ∀ t : Fin grid0.N, _)

/-- The inputs of the product. -/
def arrX (c : Dev nD) (k : Fin 8320) (q : Fin 1024) : EReal :=
  (show FVec Ideal S8320x1024 .bf16 from m ((c : Thread nD τ).loc main_arg0)) (ix2 k q)
/-- The cotangents. -/
def arrY (c : Dev nD) (k : Fin 8320) (q : Fin 2304) : EReal :=
  (show FVec Ideal S8320x2304 .bf16 from m ((c : Thread nD τ).loc main_arg1)) (ix2 k q)

/-- What one grid point adds: the product over its rows. -/
def part (X : Vec Ideal S1x1664x1024 .bf16) (Y : Vec Ideal S1x1664x768 .bf16) (y : S1024x768.Idx) : EReal :=
  ∑ k : Fin 1664, X (ix3 0 k (y 0)) * Y (ix3 0 k (y 1))

theorem hzero (y : S1024x768.Idx) : (k0_pay1 (F := Ideal) y : EReal) = 0 := by pointwise [k0_pay1]
theorem hpay (A : Vec Ideal S1024x768 .f32) (X : Vec Ideal S1x1664x1024 .bf16) (Y : Vec Ideal S1x1664x768 .bf16) (y : S1024x768.Idx) :
    (k0_pay2 (F := Ideal) A X Y y : EReal) = A y + part X Y y := by unfold part; pointwise [k0_pay2]
theorem hout (A : Vec Ideal S1024x768 .f32) (y : S1x1024x768.Idx) :
    (k0_pay3 (F := Ideal) A y : EReal) = A (ix2 (y 1) (y 2)) := by pointwise [k0_pay3]

variable (c : Dev nD)

theorem stepA (t : Fin cfg0.N) (h : t.val % 5 = 0) (y : S1024x768.Idx) :
    ((outsAt0 m c t.val t.isLt).2 y : EReal) = 0 + part (iblk m c 0 t) (iblk m c 1 t) y := by
  rw [outsAt0_A m c t h (by omega)]; frame_out
  rw [hpay, hzero]

theorem stepBC (t : Fin cfg0.N) (h : ¬ t.val % 5 = 0) (y : S1024x768.Idx) :
    ((outsAt0 m c t.val t.isLt).2 y : EReal)
      = (outsAt0 m c (t.val - 1) (Nat.lt_of_le_of_lt (Nat.sub_le _ _) t.isLt)).2 y + part (iblk m c 0 t) (iblk m c 1 t) y := by
  by_cases h4 : t.val % 5 = 4
  · rw [outsAt0_C m c t h h4]; frame_out; rw [hpay, read_unread_whole]
  · rw [outsAt0_B m c t h h4]; frame_out; rw [hpay, read_unread_whole]

theorem entryX : V m c main_v0 = (broadcastInDim S1x8320x1024 ![1, 2] bcast_S8320x1024_S1x8320x1024_1_2 (show FVec Ideal S8320x1024 .bf16 from m ((c : Thread nD τ).loc main_arg0)) : FVec Ideal S1x8320x1024 .bf16) := by
  show StableHlo.after hostOps0 _ _ = _
  after_results <;> rfl
theorem entryY : V m c main_v1 = (broadcastInDim S1x8320x2304 ![1, 2] bcast_S8320x2304_S1x8320x2304_1_2 (show FVec Ideal S8320x2304 .bf16 from m ((c : Thread nD τ).loc main_arg1)) : FVec Ideal S1x8320x2304 .bf16) := by
  show StableHlo.after hostOps0 _ _ = _
  after_results <;> rfl

theorem blkX (t : Fin cfg0.N) (k : Fin 1664) (q : Fin 1024) :
    (iblk m c 0 t (ix3 0 k q) : EReal) = arrX m c ⟨t.val % 5 * 1664 + k.val, by omega⟩ q := by
  show (V m c main_v0 ((win0_0.blk t).view.emb (ix3 0 k q)) : EReal) = _
  rw [entryX]
  unfold arrX
  pointwise []
  blk_ext [idx t]

/-- The columns that a grid point works at. -/
def col (t : Fin cfg0.N) (q : Fin 768) : Fin 2304 := ⟨t.val / 5 * 768 + q.val, by have := lt_of_lt_of_eq t.isLt N_0; omega⟩

theorem blkY (t : Fin cfg0.N) (k : Fin 1664) (q : Fin 768) :
    (iblk m c 1 t (ix3 0 k q) : EReal) = arrY m c ⟨t.val % 5 * 1664 + k.val, by omega⟩ (col t q) := by
  show (V m c main_v1 ((win0_1.blk t).view.emb (ix3 0 k q)) : EReal) = _
  rw [entryY]
  unfold arrY col
  pointwise []
  blk_ext [idx t]

theorem acc (t : Fin cfg0.N) (ht : t.val % 5 = 4) (y : S1024x768.Idx) :
    ((outsAt0 m c t.val t.isLt).2 y : EReal) = ∑ k : Fin 8320, arrX m c k (y 0) * arrY m c k (col t (y 1)) := by
  refine (Pipeline.eq_sum_fin_of_reset_step_apply_of_flush (fun n h y => ((outsAt0 m c n h).2 y : EReal)) 5 (fun _ => 0)
    (fun p y => part (iblk m c 0 p) (iblk m c 1 p) y) (fun t h j => stepA m c t h j) (fun t h j => stepBC m c t h j) t ht y).trans ?_
  rw [zero_add]
  refine Fin.sum_mul_add_congr fun s k hl => ?_
  refine (mul_of_eq (blkX m c _ k (y 0)) (blkY m c _ k (y 1))).trans ?_
  exact mul_of_eq (at2 _ (by simp only []; omega) rfl) (at2 _ (by simp only []; omega) (by simp only [col]; omega))

theorem arr : (dats m 0 c).arrAt 2 cfg0.N
    = fun z : S1x1024x2304.Idx => (∑ k : Fin 8320, arrX m c k (z 1) * arrY m c k (z 2) : EReal) := by
  refine (dats m 0 c).arrAt_eq_of_covers 2 _ (by decide +kernel) fun t hf y => ?_
  have ht : t.val % 5 = 4 := (flush0_2 t).mp hf
  blk_simp [idx t]
  have h1 := acc m c t ht (ix2 (y 1) (y 2))
  rw [after0_2]
  rw [outsAt0_C m c t (by omega) ht] at h1 ⊢
  frame_out
  frame_out at h1
  rw [hout]
  have e1 : ((win0_2.blk t).view.emb y 1).val = (y 1).val := by blk_simp [idx t]
  have e2 : ((win0_2.blk t).view.emb y 2).val = t.val / 5 * 768 + (y 2).val := by blk_simp [idx t]
  refine h1.trans (Finset.sum_congr (M := EReal) rfl fun k _ => ?_)
  exact mul_of_eq (at2 _ rfl e1.symm) (at2 _ rfl (by simp only [col]; exact e2.symm))

end Cert.Kernel11Ideal.Value

end
-- ==== Proof.Mixer.WCdEq.lean ====
/- The weight gradient of the second mixer's projection in: the reference, and the equation. -/
module

public import proofs.«01_k».proof.Defs
public import proofs.«01_k».proof.Proof.Mixer.WCd
public import proofs.«01_k».proof.Proof.Gen.Reference11Ideal.Run

@[expose] public section

set_option maxRecDepth 16384

noncomputable section

open Idealize.ShloMosaic Idealize.ShloMosaic.TcCoe Idealize.SL.Sem
namespace Cert.Reference11Ideal.Value
open Cert.Reference11Ideal Cert.Reference11Ideal.Gen

/-- The reference's operations on the cotangents and the inputs. -/
def opW (Y : FVec Ideal S8320x2304 .bf16) (X : FVec Ideal S8320x1024 .bf16) : FVec Ideal S1x1024x2304 .bf16 :=
  truncf .bf16 (broadcastInDim S1x1024x2304 ![1, 2] bcast_S1024x2304_S1x1024x2304_1_2 (transpose S1024x2304 [1, 0] (Host.dotGeneral dot_S8320x2304_S8320x1024_S2304x1024_0_0_1_1_n_n none (extf .f32 Y bitsLt_bf16_f32) (extf .f32 X bitsLt_bf16_f32)) transposes_S2304x1024_S1024x2304_1_0)) bitsLt_bf16_f32

theorem opW_eq (Y : FVec Ideal S8320x2304 .bf16) (X : FVec Ideal S8320x1024 .bf16) (y : S1x1024x2304.Idx) :
    (opW Y X y : EReal) = ∑ k : Fin 8320, (X (ix2 k (y 1)) : EReal) * (Y (ix2 k (y 2)) : EReal) := by
  pointwise [opW]
  exact Finset.sum_congr rfl fun k _ => mul_comm _ _

end Cert.Reference11Ideal.Value

namespace Cert.Ffn

theorem algebraic11 : Cert.algebraic_Kernel11Ideal_Reference11Ideal (hKernel11Ideal := Cert.Kernel11Ideal.Gen.facts)
    (hReference11Ideal := Cert.Reference11Ideal.Gen.facts) := by
  intro m g m' g' hpre hagree
  refine ⟨fun c => (Cert.Kernel11Ideal.Gen.dats m 0 c).arrAt 2 Cert.Kernel11Ideal.cfg0.N, Cert.Kernel11Ideal.Value.run_blocks m g, ?_⟩
  refine (θ_run Cert.Reference11Ideal.defs _ _).mono (fun r h c => ?_) (Cert.Reference11Ideal.Value.run (F := Ideal) m' g')
  obtain ⟨h0, ha⟩ := h c
  refine ⟨h0.trans (Eq.trans (funext fun y => ?_) (Cert.Kernel11Ideal.Value.arr m c).symm), ha⟩
  refine (Cert.Reference11Ideal.Value.opW_eq _ _ y).trans ?_
  rw [(hagree c).1, (hagree c).2]
  rfl

end Cert.Ffn

end
-- ==== Proof.Mixer.BackAb.lean ====
/- The cotangent of the first mixer's input: what the kernel's arrays hold. -/
module

public import proofs.«01_k».proof.Proof.Gen.Kernel12Ideal.Value
public import Idealize.ShloMosaic.Lib.Pipeline.ValueKit
public import Idealize.ShloMosaic.Lib.Pipeline.ReadBack
public import proofs.«01_k».proof.Proof.Ffn.BackMath

@[expose] public section

set_option maxRecDepth 16384

noncomputable section

open Idealize.ShloMosaic Idealize.ShloMosaic.TcCoe Idealize.SL.Sem
open Idealize.ShloMosaic.Pipeline (Dat)
namespace Cert.Kernel12Ideal.Value
open Cert.Kernel12Ideal Cert.Kernel12Ideal.Gen Cert.Ffn

variable (m : (ℓ : Loc nD τ sig) → Buf (Elt Ideal) ℓ)

theorem idx : ∀ t : Fin cfg0.N, win0_0.index t = ![0, t.val / 3, t.val % 3] ∧ win0_1.index t = ![0, 0, t.val % 3]
    ∧ win0_2.index t = ![t.val / 3, 0] ∧ win0_3.index t = ![0, 0] ∧ win0_4.index t = ![t.val / 3, 0] ∧ win0_5.index t = ![t.val / 3, 0] ∧ win0_6.index t = ![0, 0] :=
  (by decide +kernel : ∀ t : Fin grid0.N, _)

/-- The cotangents of the product. -/
def arrD (c : Dev nD) (r : Fin 8320) (f : Fin 4224) : EReal :=
  (show FVec Ideal S8320x4224 .bf16 from m ((c : Thread nD τ).loc main_arg0)) (ix2 r f)
/-- The weights. -/
def arrW (c : Dev nD) (q : Fin 1024) (f : Fin 4224) : EReal :=
  (show FVec Ideal S1024x4224 .bf16 from m ((c : Thread nD τ).loc main_arg1)) (ix2 q f)
/-- The mixer's input. -/
def arrH (c : Dev nD) (r : Fin 8320) (q : Fin 1024) : EReal :=
  (show FVec Ideal S8320x1024 .f32 from m ((c : Thread nD τ).loc main_arg2)) (ix2 r q)
/-- The gain. -/
def gain (c : Dev nD) (q : Fin 1024) : EReal :=
  (show FVec Ideal S1024 .f32 from m ((c : Thread nD τ).loc main_arg3)) (ix1 q)
/-- The cotangent that goes around the mixer. -/
def arrR (c : Dev nD) (r : Fin 8320) (q : Fin 1024) : EReal :=
  (show FVec Ideal S8320x1024 .f32 from m ((c : Thread nD τ).loc main_arg4)) (ix2 r q)

/-- What one grid point adds: the product over its columns. -/
def part (X : Vec Ideal S1x640x1408 .bf16) (Y : Vec Ideal S1x1024x1408 .bf16) (y : S640x1024.Idx) : EReal :=
  ∑ k : Fin 1408, X (ix3 0 (y 0) k) * Y (ix3 0 (y 1) k)

theorem hzero (y : S640x1024.Idx) : (k0_pay1 (F := Ideal) y : EReal) = 0 := by pointwise [k0_pay1]
theorem hpay2 (A : Vec Ideal S640x1024 .f32) (X : Vec Ideal S1x640x1408 .bf16) (Y : Vec Ideal S1x1024x1408 .bf16) (y : S640x1024.Idx) :
    (k0_pay2 (F := Ideal) A X Y y : EReal) = A y + part X Y y := by unfold part; pointwise [k0_pay2]
theorem hzero8 (y : S8x1024.Idx) : (k0_pay3 (F := Ideal) y : EReal) = 0 := by pointwise [k0_pay3]
theorem hpay5 (v : FVec Ideal S1x1024 .f32) (A : Vec Ideal S8x1024 .f32) (y : S8x1024.Idx) :
    (k0_pay4 (F := Ideal) v A y : EReal) = A y + v (ix2 0 (y 1)) := by pointwise [k0_pay4]
theorem hpay6 (X : Vec Ideal S640x1024 .f32) (y : S640x1.Idx) :
    (k0_pay5 (F := Ideal) X y : EReal) = rinv (fun k => X (ix2 (y 0) k)) := by
  unfold rinv
  pointwise [k0_pay5]
theorem hpay7 (X : Vec Ideal S640x1024 .f32) (y : S640x1024.Idx) :
    (k0_pay6 (F := Ideal) X y : EReal) = X y * rinv (fun k => X (ix2 (y 0) k)) := by
  pointwise [k0_pay6]
  rw [hpay6]
  try rfl
/-- The gain's gradient from one tile. -/
theorem hpay8 (X D : Vec Ideal S640x1024 .f32) (q : Fin 1024) :
    (k0_pay7 (F := Ideal) X D (ix2 0 q) : EReal) = ∑ r : Fin 640, D (ix2 r q) * (X (ix2 r q) * rinv (fun k => X (ix2 r k))) := by
  pointwise [k0_pay7]
  refine Finset.sum_congr (M := EReal) rfl fun r _ => ?_
  rw [hpay7]
  try rfl
theorem hpay9 (n : ℕ) (hn : n < 13) (X : Vec Ideal S640x1024 .f32) (G : Vec Ideal S1x1024 .f32) (D : Vec Ideal S640x1024 .f32) (R : Vec Ideal S640x1024 .f32)
    (r : Fin 640) (q : Fin 1024) :
    (k0_pay8 (F := Ideal) (BitVec.ofNat 32 n) X G D R (ix2 r q) : EReal)
      = if 112 ≤ n * 640 + r.val then R (ix2 r q) + dnorm (fun k => X (ix2 r k)) (fun k => D (ix2 r k) * G (ix2 0 k)) q else 0 := by
  unfold dnorm
  pointwise [k0_pay8]
  simp only [hpay7, hpay6]
  have e : IntOp.cmpi .sge (IntOp.addi (Scalar.muli (BitVec.ofNat 32 n) 640#32) (BitVec.ofNat 32 r.val)) 112#32
      = BitVec.ofBool (decide (112 ≤ n * 640 + r.val)) := by
    rw [show Scalar.muli (BitVec.ofNat 32 n) 640#32 = BitVec.ofNat 32 (n * 640) from WordCmp.muli_ofNat _ _, WordCmp.addi_ofNat]
    rw [show (112#32 : BitVec 32) = BitVec.ofNat 32 112 from rfl, WordCmp.cmpi_sge_ofNat (by omega) (by omega)]
  exact (congrArg (fun b => Scalar.select b _ _) e).trans (WordCmp.select_decide _ _ _)

variable (c : Dev nD)

/-- What one grid point adds. -/
def parts (t : Fin cfg0.N) (y : S640x1024.Idx) : EReal := part (iblk m c 0 t) (iblk m c 1 t) y

theorem stepA (t : Fin cfg0.N) (h : t.val % 3 = 0) (y : S640x1024.Idx) :
    ((outsAt0 m c t.val t.isLt).2.2 y : EReal) = 0 + parts m c t y := by
  rw [outsAt0_A m c t h (by omega)]; frame_out
  rw [hpay2, hzero]
  rfl

theorem stepB (t : Fin cfg0.N) (h : ¬ t.val % 3 = 0) (y : S640x1024.Idx) :
    ((outsAt0 m c t.val t.isLt).2.2 y : EReal)
      = (outsAt0 m c (t.val - 1) (Nat.lt_of_le_of_lt (Nat.sub_le _ _) t.isLt)).2.2 y + parts m c t y := by
  by_cases h4 : t.val % 3 = 2
  · by_cases hz : t.val < 3
    · rw [outsAt0_C m c t h h4 hz]; frame_out; rw [hpay2, read_unread_whole]; rfl
    · rw [outsAt0_D m c t h h4 hz]; frame_out; rw [hpay2, read_unread_whole]; rfl
  · rw [outsAt0_B m c t h h4]; frame_out; rw [hpay2, read_unread_whole]; rfl

theorem entryD : V m c main_v0 = (broadcastInDim S1x8320x4224 ![1, 2] bcast_S8320x4224_S1x8320x4224_1_2 (show FVec Ideal S8320x4224 .bf16 from m ((c : Thread nD τ).loc main_arg0)) : FVec Ideal S1x8320x4224 .bf16) := by
  show StableHlo.after hostOps0 _ _ = _
  after_results <;> rfl
theorem entryW : V m c main_v1 = (broadcastInDim S1x1024x4224 ![1, 2] bcast_S1024x4224_S1x1024x4224_1_2 (show FVec Ideal S1024x4224 .bf16 from m ((c : Thread nD τ).loc main_arg1)) : FVec Ideal S1x1024x4224 .bf16) := by
  show StableHlo.after hostOps0 _ _ = _
  after_results <;> rfl
theorem entryG : V m c main_v2 = (shapeCast S1x1024 (show FVec Ideal S1024 .f32 from m ((c : Thread nD τ).loc main_arg3)) shapeCasts_S1024_S1x1024 : FVec Ideal S1x1024 .f32) := by
  show StableHlo.after hostOps0 _ _ = _
  after_results <;> rfl

/-- The rows that a grid point works at. -/
def row (t : Fin cfg0.N) (r : Fin 640) : Fin 8320 := ⟨t.val / 3 * 640 + r.val, by have := lt_of_lt_of_eq t.isLt N_0; omega⟩

theorem blkD (t : Fin cfg0.N) (r : Fin 640) (f : Fin 1408) :
    (iblk m c 0 t (ix3 0 r f) : EReal) = arrD m c (row t r) ⟨t.val % 3 * 1408 + f.val, by omega⟩ := by
  show (V m c main_v0 ((win0_0.blk t).view.emb (ix3 0 r f)) : EReal) = _
  rw [entryD]
  unfold arrD row
  pointwise []
  blk_ext [idx t]
theorem blkW (t : Fin cfg0.N) (q : Fin 1024) (f : Fin 1408) :
    (iblk m c 1 t (ix3 0 q f) : EReal) = arrW m c q ⟨t.val % 3 * 1408 + f.val, by omega⟩ := by
  show (V m c main_v1 ((win0_1.blk t).view.emb (ix3 0 q f)) : EReal) = _
  rw [entryW]
  unfold arrW
  pointwise []
  blk_ext [idx t]
theorem blkH (t : Fin cfg0.N) (r : Fin 640) (q : Fin 1024) :
    (iblk m c 2 t (ix2 r q) : EReal) = arrH m c (row t r) q := by
  show (V m c main_arg2 ((win0_2.blk t).view.emb (ix2 r q)) : EReal) = _
  rw [V_main_arg2]
  unfold arrH row
  blk_ext [idx t]
theorem blkR (t : Fin cfg0.N) (r : Fin 640) (q : Fin 1024) :
    (iblk m c 4 t (ix2 r q) : EReal) = arrR m c (row t r) q := by
  show (V m c main_arg4 ((win0_4.blk t).view.emb (ix2 r q)) : EReal) = _
  rw [V_main_arg4]
  unfold arrR row
  blk_ext [idx t]
theorem blkG (t : Fin cfg0.N) (q : Fin 1024) :
    (iblk m c 3 t (ix2 0 q) : EReal) = gain m c q := by
  show (V m c main_v2 ((win0_3.blk t).view.emb (ix2 0 q)) : EReal) = _
  rw [entryG]
  unfold gain
  pointwise []
  blk_ext [idx t]

/-- The cotangent of the normalised row. -/
def prod (r : Fin 8320) (q : Fin 1024) : EReal := ∑ k : Fin 4224, arrD m c r k * arrW m c q k

theorem acc (t : Fin cfg0.N) (ht : t.val % 3 = 2) (y : S640x1024.Idx) :
    ((outsAt0 m c t.val t.isLt).2.2 y : EReal) = prod m c (row t (y 0)) (y 1) := by
  refine (Pipeline.eq_sum_fin_of_reset_step_apply_of_flush (fun n h y => ((outsAt0 m c n h).2.2 y : EReal)) 3 (fun _ => 0)
    (fun p y => parts m c p y) (fun t h j => stepA m c t h j) (fun t h j => stepB m c t h j) t ht y).trans ?_
  rw [zero_add]
  unfold parts prod
  refine Fin.sum_mul_add_congr fun s k hl => ?_
  refine (mul_of_eq (blkD m c _ (y 0) k) (blkW m c _ (y 1) k)).trans ?_
  exact mul_of_eq (at2 _ (by simp only [row]; omega) (by simp only []; omega)) (at2 _ rfl (by simp only []; omega))

theorem emb5 (t : Fin cfg0.N) (y : S640x1024.Idx) :
    ((win0_5.blk t).view.emb y 0).val = t.val / 3 * 640 + (y 0).val ∧ ((win0_5.blk t).view.emb y 1).val = (y 1).val := by
  constructor <;> blk_simp [idx t]

/-- The result's entries. -/
def outH (r : Fin 8320) (q : Fin 1024) : EReal :=
  if 112 ≤ r.val then arrR m c r q + dnorm (arrH m c r) (fun k => prod m c r k * gain m c k) q else 0

/-- A finished tile of the result, from the accumulator's contents. -/
theorem tileH (t : Fin cfg0.N) (n : ℕ) (hn : n = t.val / 3) (A : Vec Ideal S640x1024 .f32) (y : S640x1024.Idx)
    (hA : ∀ z : S640x1024.Idx, (A z : EReal) = prod m c (row t (z 0)) (z 1)) :
    (k0_pay8 (F := Ideal) (BitVec.ofNat 32 n) (iblk m c 2 t) (iblk m c 3 t) A (iblk m c 4 t) y : EReal) = outH m c (row t (y 0)) (y 1) := by
  have hN := lt_of_lt_of_eq t.isLt N_0
  obtain ⟨r, q, rfl⟩ : ∃ r q, y = ix2 r q := ⟨y 0, y 1, by funext i; fin_cases i <;> rfl⟩
  refine (hpay9 n (by omega) _ _ _ _ r q).trans ?_
  rw [funext (fun k => blkH m c t r k), blkR m c t r q, funext (fun k => mul_of_eq (hA (ix2 r k)) (blkG m c t k))]
  subst hn
  rfl

theorem at_outH {r r' : Fin 8320} {q q' : Fin 1024} (hr : r.val = r'.val) (hq : q.val = q'.val) : outH m c r q = outH m c r' q' := at2 _ hr hq

theorem arr5 : (dats m 0 c).arrAt 5 cfg0.N = fun z : S8320x1024.Idx => outH m c (z 0) (z 1) := by
  refine (dats m 0 c).arrAt_eq_of_covers 5 _ (by decide +kernel) fun t hf y => ?_
  have ht : t.val % 3 = 2 := (flush0_5 t).mp hf
  have hN := lt_of_lt_of_eq t.isLt N_0
  have h1 := fun z => acc m c t ht z
  have e := emb5 t y
  have hc : (grid0.coords t 0).val = t.val / 3 := (Pipeline.Grid.coords_val t 0 (by decide) rfl : (grid0.coords t 0).val = t.val / 3 % 13).trans (by omega)
  rw [after0_5]
  by_cases hz : t.val < 3
  · rw [outsAt0_C m c t (by omega) ht hz] at h1 ⊢
    frame_out
    frame_out at h1
    exact (tileH m c t _ hc _ y h1).trans (at_outH m c e.1.symm e.2.symm)
  · rw [outsAt0_D m c t (by omega) ht hz] at h1 ⊢
    frame_out
    frame_out at h1
    exact (tileH m c t _ hc _ y h1).trans (at_outH m c e.1.symm e.2.symm)

/-- One row's share of the gain's gradient. -/
def rowG (r : Fin 8320) (q : Fin 1024) : EReal := prod m c r q * (arrH m c r q * rinv (arrH m c r))
/-- One tile's share. -/
def tileG (n : ℕ) (q : Fin 1024) : EReal :=
  if h : n < 13 then ∑ r : Fin 640, rowG m c ⟨n * 640 + r.val, by omega⟩ q else 0

theorem tile_eq (t : Fin cfg0.N) (A : Vec Ideal S640x1024 .f32) (q : Fin 1024)
    (hA : ∀ z : S640x1024.Idx, (A z : EReal) = prod m c (row t (z 0)) (z 1)) :
    (k0_pay7 (F := Ideal) (iblk m c 2 t) A (ix2 0 q) : EReal) = tileG m c (t.val / 3) q := by
  have hN := lt_of_lt_of_eq t.isLt N_0
  refine (hpay8 _ _ q).trans ?_
  unfold tileG
  rw [dif_pos (by omega)]
  refine Finset.sum_congr (M := EReal) rfl fun r _ => ?_
  rw [funext (fun k => blkH m c t r k), blkH m c t r q, hA (ix2 r q)]
  rfl

theorem gradC (t : Fin cfg0.N) (ht : t.val % 3 = 2) (hz : t.val < 3) (y : S8x1024.Idx) :
    ((outsAt0 m c t.val t.isLt).2.1 y : EReal) = 0 + tileG m c (t.val / 3) (y 1) := by
  have h1 := fun z => acc m c t ht z
  rw [outsAt0_C m c t (by omega) ht hz] at h1 ⊢
  frame_out
  frame_out at h1
  rw [hpay5, hzero8]
  exact congrArg (0 + ·) (tile_eq m c t _ (y 1) h1)

theorem gradD (t : Fin cfg0.N) (ht : t.val % 3 = 2) (hz : ¬ t.val < 3) (y : S8x1024.Idx) :
    ((outsAt0 m c t.val t.isLt).2.1 y : EReal)
      = (outsAt0 m c (t.val - 1) (Nat.lt_of_le_of_lt (Nat.sub_le _ _) t.isLt)).2.1 y + tileG m c (t.val / 3) (y 1) := by
  have h1 := fun z => acc m c t ht z
  rw [outsAt0_D m c t (by omega) ht hz] at h1 ⊢
  frame_out
  frame_out at h1
  rw [hpay5]
  simp only [read_unread_whole] at h1 ⊢
  exact congrArg (_ + ·) (tile_eq m c t _ (y 1) h1)

theorem gradAB (t : Fin cfg0.N) (ht : ¬ t.val % 3 = 2) (hz : 0 < t.val) (y : S8x1024.Idx) :
    ((outsAt0 m c t.val t.isLt).2.1 y : EReal)
      = (outsAt0 m c (t.val - 1) (Nat.lt_of_le_of_lt (Nat.sub_le _ _) t.isLt)).2.1 y := by
  by_cases h : t.val % 3 = 0
  · rw [outsAt0_A m c t h ht]; unfold out0_A_6; simp only [read_unread_whole]
  · rw [outsAt0_B m c t h ht]; unfold out0_B_6; simp only [read_unread_whole]

theorem grad_at (n : ℕ) (hn : n < cfg0.N) (h3 : 2 ≤ n) (y : S8x1024.Idx) :
    ((outsAt0 m c n hn).2.1 y : EReal) = ∑ i ∈ Finset.range ((n + 1) / 3), tileG m c i (y 1) := by
  induction n with
  | zero => omega
  | succ n ih =>
    by_cases ht : (n + 1) % 3 = 2
    · by_cases hz : n + 1 < 3
      · refine (gradC m c ⟨n + 1, hn⟩ ht hz y).trans ?_
        obtain rfl : n = 1 := by omega
        rw [show (1 + 1 + 1) / 3 = 1 from rfl, Finset.sum_range_one, zero_add]
        exact congrArg (fun i => tileG m c i (y 1)) (show (1 + 1) / 3 = 0 by norm_num)
      · refine (gradD m c ⟨n + 1, hn⟩ ht hz y).trans ?_
        rw [show (n + 1 + 1) / 3 = (n + 1) / 3 + 1 by omega, Finset.sum_range_succ]
        exact congrArg (· + _) (ih (by omega) (by omega))
    · refine (gradAB m c ⟨n + 1, hn⟩ ht (Nat.succ_pos n) y).trans ?_
      rw [show (n + 1 + 1) / 3 = (n + 1) / 3 by omega]
      exact ih (by omega) (by omega)

/-- The gain's gradient. -/
def outG (q : Fin 1024) : EReal := ∑ r : Fin 8320, rowG m c r q

theorem sum_tiles (q : Fin 1024) : ∑ i ∈ Finset.range 13, tileG m c i q = outG m c q := by
  rw [Finset.sum_range]
  unfold outG tileG
  refine (Finset.sum_congr (M := EReal) rfl fun i _ => dif_pos i.isLt).trans ?_
  refine Fin.sum_mul_add_congr fun s k hl => ?_
  exact at2 (rowG m c) (by omega) rfl

theorem emb6 (t : Fin cfg0.N) (y : S8x1024.Idx) : ((win0_6.blk t).view.emb y 1).val = (y 1).val := by
  blk_simp [idx t]

theorem arr6 : (dats m 0 c).arrAt 6 cfg0.N = fun z : S8x1024.Idx => outG m c (z 1) := by
  refine (dats m 0 c).arrAt_eq_of_covers 6 _ (by decide +kernel) fun t hf y => ?_
  have ht : t.val % 39 = 38 := (flush0_6 t).mp hf
  have hN := lt_of_lt_of_eq t.isLt N_0
  rw [after0_6]
  refine (grad_at m c t.val t.isLt (by omega) y).trans ?_
  rw [show (t.val + 1) / 3 = 13 by omega]
  refine (sum_tiles m c (y 1)).trans ?_
  exact congrArg (outG m c) (Fin.ext (emb6 t y).symm)

end Cert.Kernel12Ideal.Value

end
-- ==== Proof.Mixer.BackAbEq.lean ====
/- The cotangent of the first mixer's input: the reference, and the equation. -/
module

public import proofs.«01_k».proof.Defs
public import proofs.«01_k».proof.Proof.Mixer.BackAb
public import proofs.«01_k».proof.Proof.Gen.Reference12Ideal.Run

@[expose] public section

set_option maxRecDepth 16384

noncomputable section

open Idealize.ShloMosaic Idealize.ShloMosaic.TcCoe Idealize.SL.Sem
namespace Cert.Reference12Ideal.Value
open Cert.Reference12Ideal Cert.Reference12Ideal.Gen Cert.Ffn

/-- The reference's product. -/
def opY (D : FVec Ideal S8320x4224 .bf16) (W : FVec Ideal S1024x4224 .bf16) : FVec Ideal S8320x1024 .f32 :=
  Host.dotGeneral dot_S8320x4224_S1024x4224_S8320x1024_1_1_0_0_n_n none (extf .f32 D bitsLt_bf16_f32) (extf .f32 W bitsLt_bf16_f32)
/-- The mean squares with the small constant. -/
def opQ (H : FVec Ideal S8320x1024 .f32) : FVec Ideal S8320x1 .f32 :=
  addf (Host.divf (broadcastInDim S8320x1 ![0] bcast_S8320_S8320x1_0 (Host.reduceAdd (mulf H H) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32))
/-- The product with the gain. -/
def opA (Y : FVec Ideal S8320x1024 .f32) (g : FVec Ideal S1024 .f32) : FVec Ideal S8320x1024 .f32 :=
  mulf Y (broadcastInDim S8320x1024 ![0, 1] bcast_S1x1024_S8320x1024_0_1 (broadcastInDim S1x1024 ![1] bcast_S1024_S1x1024_1 g))
/-- What the derivative of the mean squares carries. -/
def opT (H A : FVec Ideal S8320x1024 .f32) (Q : FVec Ideal S8320x1 .f32) : FVec Ideal S8320 .f32 :=
  Host.reduceAdd (Host.divf (mulf (shapeCast _ (Host.reduceAdd (mulf H A) (constant S_ .f32 0x00000000#32) reducesTo_S8320x1024_S8320_d1 h_S_) shapeCasts_S8320_S8320x1) (mulf (broadcastInDim S8320x1 ![] bcast_S_S8320x1 (constant S_ .f32 0xBF000000#32)) (Host.divf (Host.rsqrt Q) Q))) (broadcastInDim S8320x1 ![] bcast_S_S8320x1 (constant S_ .f32 0x44800000#32))) (constant S_ .f32 0x00000000#32) reducesTo_S8320x1_S8320_d1 h_S_
/-- The first result from these. -/
def opH (R A H : FVec Ideal S8320x1024 .f32) (Q : FVec Ideal S8320x1 .f32) (T : FVec Ideal S8320 .f32) : FVec Ideal S8320x1024 .f32 :=
  pad S8320x1024 ![112, 0] ![0, 0] ![0, 0] (extractStridedSlice S8208x1024 ![112, 0] (addf R (addf (addf (mulf A (broadcastInDim S8320x1024 ![0, 1] bcast_S8320x1_S8320x1024_0_1 (Host.rsqrt Q))) (mulf H (broadcastInDim S8320x1024 ![0] bcast_S8320_S8320x1024_0 T))) (mulf (broadcastInDim S8320x1024 ![0] bcast_S8320_S8320x1024_0 T) H))) slices_S8320x1024_S8208x1024_112_0) (sitofp .f32 (constantI S_ 32 0#32)) pads_S8208x1024_S8320x1024_11200_000 h_S_
/-- The second result. -/
def opG (H Y : FVec Ideal S8320x1024 .f32) (Q : FVec Ideal S8320x1 .f32) : FVec Ideal S8x1024 .f32 :=
  broadcastInDim S8x1024 ![1] bcast_S1024_S8x1024_1 (Host.reduceAdd (shapeCast _ (Host.reduceAdd (mulf (mulf H (broadcastInDim S8320x1024 ![0, 1] bcast_S8320x1_S8320x1024_0_1 (Host.rsqrt Q))) Y) (constant S_ .f32 0x00000000#32) reducesTo_S8320x1024_S1024_d0 h_S_) shapeCasts_S1024_S1x1024) (constant S_ .f32 0x00000000#32) reducesTo_S1x1024_S1024_d0 h_S_)

theorem opY_eq (D : FVec Ideal S8320x4224 .bf16) (W : FVec Ideal S1024x4224 .bf16) (y : S8320x1024.Idx) :
    (opY D W y : EReal) = ∑ k : Fin 4224, (D (ix2 (y 0) k) : EReal) * (W (ix2 (y 1) k) : EReal) := by
  pointwise [opY]
theorem opQ_eq (H : FVec Ideal S8320x1024 .f32) (y : S8320x1.Idx) : (opQ H y : EReal) = msq (fun k => H (ix2 (y 0) k)) := by
  unfold msq
  pointwise [opQ]
theorem opA_eq (Y : FVec Ideal S8320x1024 .f32) (g : FVec Ideal S1024 .f32) (r : Fin 8320) (q : Fin 1024) :
    (opA Y g (ix2 r q) : EReal) = Y (ix2 r q) * g (ix1 q) := by
  pointwise [opA]
theorem opT_eq (H A : FVec Ideal S8320x1024 .f32) (Q : FVec Ideal S8320x1 .f32) (r : Fin 8320) :
    (opT H A Q (ix1 r) : EReal) = Ideal.div ((∑ k : Fin 1024, H (ix2 r k) * A (ix2 r k))
      * (Ideal.ofBits FTy.f32 0xBF000000#32 * Ideal.div (Ideal.rsqrt (Q (ix2 r 0))) (Q (ix2 r 0)))) (Ideal.ofBits FTy.f32 0x44800000#32) := by
  pointwise [opT]
  exact Fin.sum_univ_one _
theorem opH_eq (R A H : FVec Ideal S8320x1024 .f32) (Q : FVec Ideal S8320x1 .f32) (T : FVec Ideal S8320 .f32) (r : Fin 8320) (q : Fin 1024) :
    (opH R A H Q T (ix2 r q) : EReal) = if 112 ≤ r.val then R (ix2 r q)
      + (A (ix2 r q) * Ideal.rsqrt (Q (ix2 r 0)) + H (ix2 r q) * T (ix1 r) + T (ix1 r) * H (ix2 r q)) else 0 := by
  pointwise [opH]
  by_cases h : 112 ≤ r.val
  · have e : (⟨112 + (r.val - 112), by omega⟩ : Fin 8320) = r := Fin.ext (by simp only []; omega)
    rw [dif_pos ⟨h, by omega⟩, if_pos h]
    simp only [e]
  · rw [dif_neg (fun a => h a.1), if_neg h]
    show (((0#32).toInt : ℝ) : EReal) = 0
    simp
theorem opG_eq (H Y : FVec Ideal S8320x1024 .f32) (Q : FVec Ideal S8320x1 .f32) (y : S8x1024.Idx) :
    (opG H Y Q y : EReal) = ∑ r : Fin 8320, H (ix2 r (y 1)) * Ideal.rsqrt (Q (ix2 r 0)) * Y (ix2 r (y 1)) := by
  pointwise [opG]
  exact Fin.sum_univ_one _

/-- The first result's entries. -/
theorem entryH (R H Y : FVec Ideal S8320x1024 .f32) (g : FVec Ideal S1024 .f32) (r : Fin 8320) (q : Fin 1024) :
    (opH R (opA Y g) H (opQ H) (opT H (opA Y g) (opQ H)) (ix2 r q) : EReal)
      = if 112 ≤ r.val then (R (ix2 r q) : EReal) + dnorm (fun k => H (ix2 r k)) (fun k => (Y (ix2 r k) : EReal) * (g (ix1 k) : EReal)) q else 0 := by
  refine (opH_eq _ _ _ _ _ r q).trans ?_
  rw [dnorm_eq, opT_eq, opQ_eq, opA_eq]
  simp only [opA_eq]
  rfl
/-- The second result's entries. -/
theorem entryG (H Y : FVec Ideal S8320x1024 .f32) (y : S8x1024.Idx) :
    (opG H Y (opQ H) y : EReal) = ∑ r : Fin 8320, (Y (ix2 r (y 1)) : EReal) * ((H (ix2 r (y 1)) : EReal) * rinv (fun k => H (ix2 r k))) := by
  refine (opG_eq _ _ _ y).trans ?_
  refine Finset.sum_congr (M := EReal) rfl fun r _ => ?_
  rw [opQ_eq]
  exact mul_comm _ _

end Cert.Reference12Ideal.Value

namespace Cert.Ffn

theorem algebraic12 : Cert.algebraic_Kernel12Ideal_Reference12Ideal (hKernel12Ideal := Cert.Kernel12Ideal.Gen.facts)
    (hReference12Ideal := Cert.Reference12Ideal.Gen.facts) := by
  intro m g m' g' hpre hagree
  refine ⟨fun c => (Cert.Kernel12Ideal.Gen.dats m 0 c).arrAt 5 Cert.Kernel12Ideal.cfg0.N, fun c => (Cert.Kernel12Ideal.Gen.dats m 0 c).arrAt 6 Cert.Kernel12Ideal.cfg0.N, Cert.Kernel12Ideal.Value.run_blocks m g, ?_⟩
  refine (θ_run Cert.Reference12Ideal.defs _ _).mono (fun r h c => ?_) (Cert.Reference12Ideal.Value.run (F := Ideal) m' g')
  obtain ⟨h0, h1, ha⟩ := h c
  obtain ⟨e0, e1, e2, e3, e4⟩ := hagree c
  have hY : ∀ (a : Fin 8320) (b : Fin 1024), (Cert.Reference12Ideal.Value.opY (m (c.tc.loc Cert.Kernel12Ideal.main_arg0)) (m (c.tc.loc Cert.Kernel12Ideal.main_arg1)) (ix2 a b) : EReal)
      = Cert.Kernel12Ideal.Value.prod m c a b := fun a b => Cert.Reference12Ideal.Value.opY_eq _ _ (ix2 a b)
  refine ⟨h0.trans (Eq.trans (funext fun y => ?_) (Cert.Kernel12Ideal.Value.arr5 m c).symm), h1.trans (Eq.trans (funext fun y => ?_) (Cert.Kernel12Ideal.Value.arr6 m c).symm), ha⟩
  · obtain ⟨a, b, rfl⟩ : ∃ (a : Fin 8320) (b : Fin 1024), y = ix2 a b := ⟨y 0, y 1, by funext i; fin_cases i <;> rfl⟩
    refine (Cert.Reference12Ideal.Value.entryH _ _ (Cert.Reference12Ideal.Value.opY _ _) _ a b).trans ?_
    rw [e0, e1, e2, e3, e4]
    exact outH_congr rfl (fun _ => rfl) (fun k => mul_of_eq (hY a k) rfl)
  · refine (Cert.Reference12Ideal.Value.entryG _ (Cert.Reference12Ideal.Value.opY _ _) y).trans ?_
    rw [e0, e1, e2]
    exact Finset.sum_congr (M := EReal) rfl fun k _ => mul_of_eq (hY k (y 1)) rfl

end Cert.Ffn

end
-- ==== Proof.Mixer.BackCd.lean ====
/- The cotangent of the second mixer's input: what the kernel's arrays hold. -/
module

public import proofs.«01_k».proof.Proof.Gen.Kernel13Ideal.Value
public import Idealize.ShloMosaic.Lib.Pipeline.ValueKit
public import Idealize.ShloMosaic.Lib.Pipeline.ReadBack
public import proofs.«01_k».proof.Proof.Ffn.BackMath

@[expose] public section

set_option maxRecDepth 16384

noncomputable section

open Idealize.ShloMosaic Idealize.ShloMosaic.TcCoe Idealize.SL.Sem
open Idealize.ShloMosaic.Pipeline (Dat)
namespace Cert.Kernel13Ideal.Value
open Cert.Kernel13Ideal Cert.Kernel13Ideal.Gen Cert.Ffn

variable (m : (ℓ : Loc nD τ sig) → Buf (Elt Ideal) ℓ)

theorem idx : ∀ t : Fin cfg0.N, win0_0.index t = ![0, t.val / 3, t.val % 3] ∧ win0_1.index t = ![0, 0, t.val % 3]
    ∧ win0_2.index t = ![t.val / 3, 0] ∧ win0_3.index t = ![0, 0] ∧ win0_4.index t = ![t.val / 3, 0] ∧ win0_5.index t = ![t.val / 3, 0] ∧ win0_6.index t = ![0, 0] :=
  (by decide +kernel : ∀ t : Fin grid0.N, _)

/-- The cotangents of the product. -/
def arrD (c : Dev nD) (r : Fin 8320) (f : Fin 2304) : EReal :=
  (show FVec Ideal S8320x2304 .bf16 from m ((c : Thread nD τ).loc main_arg0)) (ix2 r f)
/-- The weights. -/
def arrW (c : Dev nD) (q : Fin 1024) (f : Fin 2304) : EReal :=
  (show FVec Ideal S1024x2304 .bf16 from m ((c : Thread nD τ).loc main_arg1)) (ix2 q f)
/-- The mixer's input. -/
def arrH (c : Dev nD) (r : Fin 8320) (q : Fin 1024) : EReal :=
  (show FVec Ideal S8320x1024 .f32 from m ((c : Thread nD τ).loc main_arg2)) (ix2 r q)
/-- The gain. -/
def gain (c : Dev nD) (q : Fin 1024) : EReal :=
  (show FVec Ideal S1024 .f32 from m ((c : Thread nD τ).loc main_arg3)) (ix1 q)
/-- The cotangent that goes around the mixer. -/
def arrR (c : Dev nD) (r : Fin 8320) (q : Fin 1024) : EReal :=
  (show FVec Ideal S8320x1024 .f32 from m ((c : Thread nD τ).loc main_arg4)) (ix2 r q)

/-- What one grid point adds: the product over its columns. -/
def part (X : Vec Ideal S1x640x768 .bf16) (Y : Vec Ideal S1x1024x768 .bf16) (y : S640x1024.Idx) : EReal :=
  ∑ k : Fin 768, X (ix3 0 (y 0) k) * Y (ix3 0 (y 1) k)

theorem hzero (y : S640x1024.Idx) : (k0_pay1 (F := Ideal) y : EReal) = 0 := by pointwise [k0_pay1]
theorem hpay2 (A : Vec Ideal S640x1024 .f32) (X : Vec Ideal S1x640x768 .bf16) (Y : Vec Ideal S1x1024x768 .bf16) (y : S640x1024.Idx) :
    (k0_pay2 (F := Ideal) A X Y y : EReal) = A y + part X Y y := by unfold part; pointwise [k0_pay2]
theorem hzero8 (y : S8x1024.Idx) : (k0_pay3 (F := Ideal) y : EReal) = 0 := by pointwise [k0_pay3]
theorem hpay5 (v : FVec Ideal S1x1024 .f32) (A : Vec Ideal S8x1024 .f32) (y : S8x1024.Idx) :
    (k0_pay4 (F := Ideal) v A y : EReal) = A y + v (ix2 0 (y 1)) := by pointwise [k0_pay4]
theorem hpay6 (X : Vec Ideal S640x1024 .f32) (y : S640x1.Idx) :
    (k0_pay5 (F := Ideal) X y : EReal) = rinv (fun k => X (ix2 (y 0) k)) := by
  unfold rinv
  pointwise [k0_pay5]
theorem hpay7 (X : Vec Ideal S640x1024 .f32) (y : S640x1024.Idx) :
    (k0_pay6 (F := Ideal) X y : EReal) = X y * rinv (fun k => X (ix2 (y 0) k)) := by
  pointwise [k0_pay6]
  rw [hpay6]
  try rfl
/-- The gain's gradient from one tile. -/
theorem hpay8 (X D : Vec Ideal S640x1024 .f32) (q : Fin 1024) :
    (k0_pay7 (F := Ideal) X D (ix2 0 q) : EReal) = ∑ r : Fin 640, D (ix2 r q) * (X (ix2 r q) * rinv (fun k => X (ix2 r k))) := by
  pointwise [k0_pay7]
  refine Finset.sum_congr (M := EReal) rfl fun r _ => ?_
  rw [hpay7]
  try rfl
theorem hpay9 (n : ℕ) (hn : n < 13) (X : Vec Ideal S640x1024 .f32) (G : Vec Ideal S1x1024 .f32) (D : Vec Ideal S640x1024 .f32) (R : Vec Ideal S640x1024 .f32)
    (r : Fin 640) (q : Fin 1024) :
    (k0_pay8 (F := Ideal) (BitVec.ofNat 32 n) X G D R (ix2 r q) : EReal)
      = if 112 ≤ n * 640 + r.val then R (ix2 r q) + dnorm (fun k => X (ix2 r k)) (fun k => D (ix2 r k) * G (ix2 0 k)) q else 0 := by
  unfold dnorm
  pointwise [k0_pay8]
  simp only [hpay7, hpay6]
  have e : IntOp.cmpi .sge (IntOp.addi (Scalar.muli (BitVec.ofNat 32 n) 640#32) (BitVec.ofNat 32 r.val)) 112#32
      = BitVec.ofBool (decide (112 ≤ n * 640 + r.val)) := by
    rw [show Scalar.muli (BitVec.ofNat 32 n) 640#32 = BitVec.ofNat 32 (n * 640) from WordCmp.muli_ofNat _ _, WordCmp.addi_ofNat]
    rw [show (112#32 : BitVec 32) = BitVec.ofNat 32 112 from rfl, WordCmp.cmpi_sge_ofNat (by omega) (by omega)]
  exact (congrArg (fun b => Scalar.select b _ _) e).trans (WordCmp.select_decide _ _ _)

variable (c : Dev nD)

/-- What one grid point adds. -/
def parts (t : Fin cfg0.N) (y : S640x1024.Idx) : EReal := part (iblk m c 0 t) (iblk m c 1 t) y

theorem stepA (t : Fin cfg0.N) (h : t.val % 3 = 0) (y : S640x1024.Idx) :
    ((outsAt0 m c t.val t.isLt).2.2 y : EReal) = 0 + parts m c t y := by
  rw [outsAt0_A m c t h (by omega)]; frame_out
  rw [hpay2, hzero]
  rfl

theorem stepB (t : Fin cfg0.N) (h : ¬ t.val % 3 = 0) (y : S640x1024.Idx) :
    ((outsAt0 m c t.val t.isLt).2.2 y : EReal)
      = (outsAt0 m c (t.val - 1) (Nat.lt_of_le_of_lt (Nat.sub_le _ _) t.isLt)).2.2 y + parts m c t y := by
  by_cases h4 : t.val % 3 = 2
  · by_cases hz : t.val < 3
    · rw [outsAt0_C m c t h h4 hz]; frame_out; rw [hpay2, read_unread_whole]; rfl
    · rw [outsAt0_D m c t h h4 hz]; frame_out; rw [hpay2, read_unread_whole]; rfl
  · rw [outsAt0_B m c t h h4]; frame_out; rw [hpay2, read_unread_whole]; rfl

theorem entryD : V m c main_v0 = (broadcastInDim S1x8320x2304 ![1, 2] bcast_S8320x2304_S1x8320x2304_1_2 (show FVec Ideal S8320x2304 .bf16 from m ((c : Thread nD τ).loc main_arg0)) : FVec Ideal S1x8320x2304 .bf16) := by
  show StableHlo.after hostOps0 _ _ = _
  after_results <;> rfl
theorem entryW : V m c main_v1 = (broadcastInDim S1x1024x2304 ![1, 2] bcast_S1024x2304_S1x1024x2304_1_2 (show FVec Ideal S1024x2304 .bf16 from m ((c : Thread nD τ).loc main_arg1)) : FVec Ideal S1x1024x2304 .bf16) := by
  show StableHlo.after hostOps0 _ _ = _
  after_results <;> rfl
theorem entryG : V m c main_v2 = (shapeCast S1x1024 (show FVec Ideal S1024 .f32 from m ((c : Thread nD τ).loc main_arg3)) shapeCasts_S1024_S1x1024 : FVec Ideal S1x1024 .f32) := by
  show StableHlo.after hostOps0 _ _ = _
  after_results <;> rfl

/-- The rows that a grid point works at. -/
def row (t : Fin cfg0.N) (r : Fin 640) : Fin 8320 := ⟨t.val / 3 * 640 + r.val, by have := lt_of_lt_of_eq t.isLt N_0; omega⟩

theorem blkD (t : Fin cfg0.N) (r : Fin 640) (f : Fin 768) :
    (iblk m c 0 t (ix3 0 r f) : EReal) = arrD m c (row t r) ⟨t.val % 3 * 768 + f.val, by omega⟩ := by
  show (V m c main_v0 ((win0_0.blk t).view.emb (ix3 0 r f)) : EReal) = _
  rw [entryD]
  unfold arrD row
  pointwise []
  blk_ext [idx t]
theorem blkW (t : Fin cfg0.N) (q : Fin 1024) (f : Fin 768) :
    (iblk m c 1 t (ix3 0 q f) : EReal) = arrW m c q ⟨t.val % 3 * 768 + f.val, by omega⟩ := by
  show (V m c main_v1 ((win0_1.blk t).view.emb (ix3 0 q f)) : EReal) = _
  rw [entryW]
  unfold arrW
  pointwise []
  blk_ext [idx t]
theorem blkH (t : Fin cfg0.N) (r : Fin 640) (q : Fin 1024) :
    (iblk m c 2 t (ix2 r q) : EReal) = arrH m c (row t r) q := by
  show (V m c main_arg2 ((win0_2.blk t).view.emb (ix2 r q)) : EReal) = _
  rw [V_main_arg2]
  unfold arrH row
  blk_ext [idx t]
theorem blkR (t : Fin cfg0.N) (r : Fin 640) (q : Fin 1024) :
    (iblk m c 4 t (ix2 r q) : EReal) = arrR m c (row t r) q := by
  show (V m c main_arg4 ((win0_4.blk t).view.emb (ix2 r q)) : EReal) = _
  rw [V_main_arg4]
  unfold arrR row
  blk_ext [idx t]
theorem blkG (t : Fin cfg0.N) (q : Fin 1024) :
    (iblk m c 3 t (ix2 0 q) : EReal) = gain m c q := by
  show (V m c main_v2 ((win0_3.blk t).view.emb (ix2 0 q)) : EReal) = _
  rw [entryG]
  unfold gain
  pointwise []
  blk_ext [idx t]

/-- The cotangent of the normalised row. -/
def prod (r : Fin 8320) (q : Fin 1024) : EReal := ∑ k : Fin 2304, arrD m c r k * arrW m c q k

theorem acc (t : Fin cfg0.N) (ht : t.val % 3 = 2) (y : S640x1024.Idx) :
    ((outsAt0 m c t.val t.isLt).2.2 y : EReal) = prod m c (row t (y 0)) (y 1) := by
  refine (Pipeline.eq_sum_fin_of_reset_step_apply_of_flush (fun n h y => ((outsAt0 m c n h).2.2 y : EReal)) 3 (fun _ => 0)
    (fun p y => parts m c p y) (fun t h j => stepA m c t h j) (fun t h j => stepB m c t h j) t ht y).trans ?_
  rw [zero_add]
  unfold parts prod
  refine Fin.sum_mul_add_congr fun s k hl => ?_
  refine (mul_of_eq (blkD m c _ (y 0) k) (blkW m c _ (y 1) k)).trans ?_
  exact mul_of_eq (at2 _ (by simp only [row]; omega) (by simp only []; omega)) (at2 _ rfl (by simp only []; omega))

theorem emb5 (t : Fin cfg0.N) (y : S640x1024.Idx) :
    ((win0_5.blk t).view.emb y 0).val = t.val / 3 * 640 + (y 0).val ∧ ((win0_5.blk t).view.emb y 1).val = (y 1).val := by
  constructor <;> blk_simp [idx t]

/-- The result's entries. -/
def outH (r : Fin 8320) (q : Fin 1024) : EReal :=
  if 112 ≤ r.val then arrR m c r q + dnorm (arrH m c r) (fun k => prod m c r k * gain m c k) q else 0

/-- A finished tile of the result, from the accumulator's contents. -/
theorem tileH (t : Fin cfg0.N) (n : ℕ) (hn : n = t.val / 3) (A : Vec Ideal S640x1024 .f32) (y : S640x1024.Idx)
    (hA : ∀ z : S640x1024.Idx, (A z : EReal) = prod m c (row t (z 0)) (z 1)) :
    (k0_pay8 (F := Ideal) (BitVec.ofNat 32 n) (iblk m c 2 t) (iblk m c 3 t) A (iblk m c 4 t) y : EReal) = outH m c (row t (y 0)) (y 1) := by
  have hN := lt_of_lt_of_eq t.isLt N_0
  obtain ⟨r, q, rfl⟩ : ∃ r q, y = ix2 r q := ⟨y 0, y 1, by funext i; fin_cases i <;> rfl⟩
  refine (hpay9 n (by omega) _ _ _ _ r q).trans ?_
  rw [funext (fun k => blkH m c t r k), blkR m c t r q, funext (fun k => mul_of_eq (hA (ix2 r k)) (blkG m c t k))]
  subst hn
  rfl

theorem at_outH {r r' : Fin 8320} {q q' : Fin 1024} (hr : r.val = r'.val) (hq : q.val = q'.val) : outH m c r q = outH m c r' q' := at2 _ hr hq

theorem arr5 : (dats m 0 c).arrAt 5 cfg0.N = fun z : S8320x1024.Idx => outH m c (z 0) (z 1) := by
  refine (dats m 0 c).arrAt_eq_of_covers 5 _ (by decide +kernel) fun t hf y => ?_
  have ht : t.val % 3 = 2 := (flush0_5 t).mp hf
  have hN := lt_of_lt_of_eq t.isLt N_0
  have h1 := fun z => acc m c t ht z
  have e := emb5 t y
  have hc : (grid0.coords t 0).val = t.val / 3 := (Pipeline.Grid.coords_val t 0 (by decide) rfl : (grid0.coords t 0).val = t.val / 3 % 13).trans (by omega)
  rw [after0_5]
  by_cases hz : t.val < 3
  · rw [outsAt0_C m c t (by omega) ht hz] at h1 ⊢
    frame_out
    frame_out at h1
    exact (tileH m c t _ hc _ y h1).trans (at_outH m c e.1.symm e.2.symm)
  · rw [outsAt0_D m c t (by omega) ht hz] at h1 ⊢
    frame_out
    frame_out at h1
    exact (tileH m c t _ hc _ y h1).trans (at_outH m c e.1.symm e.2.symm)

/-- One row's share of the gain's gradient. -/
def rowG (r : Fin 8320) (q : Fin 1024) : EReal := prod m c r q * (arrH m c r q * rinv (arrH m c r))
/-- One tile's share. -/
def tileG (n : ℕ) (q : Fin 1024) : EReal :=
  if h : n < 13 then ∑ r : Fin 640, rowG m c ⟨n * 640 + r.val, by omega⟩ q else 0

theorem tile_eq (t : Fin cfg0.N) (A : Vec Ideal S640x1024 .f32) (q : Fin 1024)
    (hA : ∀ z : S640x1024.Idx, (A z : EReal) = prod m c (row t (z 0)) (z 1)) :
    (k0_pay7 (F := Ideal) (iblk m c 2 t) A (ix2 0 q) : EReal) = tileG m c (t.val / 3) q := by
  have hN := lt_of_lt_of_eq t.isLt N_0
  refine (hpay8 _ _ q).trans ?_
  unfold tileG
  rw [dif_pos (by omega)]
  refine Finset.sum_congr (M := EReal) rfl fun r _ => ?_
  rw [funext (fun k => blkH m c t r k), blkH m c t r q, hA (ix2 r q)]
  rfl

theorem gradC (t : Fin cfg0.N) (ht : t.val % 3 = 2) (hz : t.val < 3) (y : S8x1024.Idx) :
    ((outsAt0 m c t.val t.isLt).2.1 y : EReal) = 0 + tileG m c (t.val / 3) (y 1) := by
  have h1 := fun z => acc m c t ht z
  rw [outsAt0_C m c t (by omega) ht hz] at h1 ⊢
  frame_out
  frame_out at h1
  rw [hpay5, hzero8]
  exact congrArg (0 + ·) (tile_eq m c t _ (y 1) h1)

theorem gradD (t : Fin cfg0.N) (ht : t.val % 3 = 2) (hz : ¬ t.val < 3) (y : S8x1024.Idx) :
    ((outsAt0 m c t.val t.isLt).2.1 y : EReal)
      = (outsAt0 m c (t.val - 1) (Nat.lt_of_le_of_lt (Nat.sub_le _ _) t.isLt)).2.1 y + tileG m c (t.val / 3) (y 1) := by
  have h1 := fun z => acc m c t ht z
  rw [outsAt0_D m c t (by omega) ht hz] at h1 ⊢
  frame_out
  frame_out at h1
  rw [hpay5]
  simp only [read_unread_whole] at h1 ⊢
  exact congrArg (_ + ·) (tile_eq m c t _ (y 1) h1)

theorem gradAB (t : Fin cfg0.N) (ht : ¬ t.val % 3 = 2) (hz : 0 < t.val) (y : S8x1024.Idx) :
    ((outsAt0 m c t.val t.isLt).2.1 y : EReal)
      = (outsAt0 m c (t.val - 1) (Nat.lt_of_le_of_lt (Nat.sub_le _ _) t.isLt)).2.1 y := by
  by_cases h : t.val % 3 = 0
  · rw [outsAt0_A m c t h ht]; unfold out0_A_6; simp only [read_unread_whole]
  · rw [outsAt0_B m c t h ht]; unfold out0_B_6; simp only [read_unread_whole]

theorem grad_at (n : ℕ) (hn : n < cfg0.N) (h3 : 2 ≤ n) (y : S8x1024.Idx) :
    ((outsAt0 m c n hn).2.1 y : EReal) = ∑ i ∈ Finset.range ((n + 1) / 3), tileG m c i (y 1) := by
  induction n with
  | zero => omega
  | succ n ih =>
    by_cases ht : (n + 1) % 3 = 2
    · by_cases hz : n + 1 < 3
      · refine (gradC m c ⟨n + 1, hn⟩ ht hz y).trans ?_
        obtain rfl : n = 1 := by omega
        rw [show (1 + 1 + 1) / 3 = 1 from rfl, Finset.sum_range_one, zero_add]
        exact congrArg (fun i => tileG m c i (y 1)) (show (1 + 1) / 3 = 0 by norm_num)
      · refine (gradD m c ⟨n + 1, hn⟩ ht hz y).trans ?_
        rw [show (n + 1 + 1) / 3 = (n + 1) / 3 + 1 by omega, Finset.sum_range_succ]
        exact congrArg (· + _) (ih (by omega) (by omega))
    · refine (gradAB m c ⟨n + 1, hn⟩ ht (Nat.succ_pos n) y).trans ?_
      rw [show (n + 1 + 1) / 3 = (n + 1) / 3 by omega]
      exact ih (by omega) (by omega)

/-- The gain's gradient. -/
def outG (q : Fin 1024) : EReal := ∑ r : Fin 8320, rowG m c r q

theorem sum_tiles (q : Fin 1024) : ∑ i ∈ Finset.range 13, tileG m c i q = outG m c q := by
  rw [Finset.sum_range]
  unfold outG tileG
  refine (Finset.sum_congr (M := EReal) rfl fun i _ => dif_pos i.isLt).trans ?_
  refine Fin.sum_mul_add_congr fun s k hl => ?_
  exact at2 (rowG m c) (by omega) rfl

theorem emb6 (t : Fin cfg0.N) (y : S8x1024.Idx) : ((win0_6.blk t).view.emb y 1).val = (y 1).val := by
  blk_simp [idx t]

theorem arr6 : (dats m 0 c).arrAt 6 cfg0.N = fun z : S8x1024.Idx => outG m c (z 1) := by
  refine (dats m 0 c).arrAt_eq_of_covers 6 _ (by decide +kernel) fun t hf y => ?_
  have ht : t.val % 39 = 38 := (flush0_6 t).mp hf
  have hN := lt_of_lt_of_eq t.isLt N_0
  rw [after0_6]
  refine (grad_at m c t.val t.isLt (by omega) y).trans ?_
  rw [show (t.val + 1) / 3 = 13 by omega]
  refine (sum_tiles m c (y 1)).trans ?_
  exact congrArg (outG m c) (Fin.ext (emb6 t y).symm)

end Cert.Kernel13Ideal.Value

end
-- ==== Proof.Mixer.BackCdEq.lean ====
/- The cotangent of the second mixer's input: the reference, and the equation. -/
module

public import proofs.«01_k».proof.Defs
public import proofs.«01_k».proof.Proof.Mixer.BackCd
public import proofs.«01_k».proof.Proof.Gen.Reference13Ideal.Run

@[expose] public section

set_option maxRecDepth 16384

noncomputable section

open Idealize.ShloMosaic Idealize.ShloMosaic.TcCoe Idealize.SL.Sem
namespace Cert.Reference13Ideal.Value
open Cert.Reference13Ideal Cert.Reference13Ideal.Gen Cert.Ffn

/-- The reference's product. -/
def opY (D : FVec Ideal S8320x2304 .bf16) (W : FVec Ideal S1024x2304 .bf16) : FVec Ideal S8320x1024 .f32 :=
  Host.dotGeneral dot_S8320x2304_S1024x2304_S8320x1024_1_1_0_0_n_n none (extf .f32 D bitsLt_bf16_f32) (extf .f32 W bitsLt_bf16_f32)
/-- The mean squares with the small constant. -/
def opQ (H : FVec Ideal S8320x1024 .f32) : FVec Ideal S8320x1 .f32 :=
  addf (Host.divf (broadcastInDim S8320x1 ![0] bcast_S8320_S8320x1_0 (Host.reduceAdd (mulf H H) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32))
/-- The product with the gain. -/
def opA (Y : FVec Ideal S8320x1024 .f32) (g : FVec Ideal S1024 .f32) : FVec Ideal S8320x1024 .f32 :=
  mulf Y (broadcastInDim S8320x1024 ![0, 1] bcast_S1x1024_S8320x1024_0_1 (broadcastInDim S1x1024 ![1] bcast_S1024_S1x1024_1 g))
/-- What the derivative of the mean squares carries. -/
def opT (H A : FVec Ideal S8320x1024 .f32) (Q : FVec Ideal S8320x1 .f32) : FVec Ideal S8320 .f32 :=
  Host.reduceAdd (Host.divf (mulf (shapeCast _ (Host.reduceAdd (mulf H A) (constant S_ .f32 0x00000000#32) reducesTo_S8320x1024_S8320_d1 h_S_) shapeCasts_S8320_S8320x1) (mulf (broadcastInDim S8320x1 ![] bcast_S_S8320x1 (constant S_ .f32 0xBF000000#32)) (Host.divf (Host.rsqrt Q) Q))) (broadcastInDim S8320x1 ![] bcast_S_S8320x1 (constant S_ .f32 0x44800000#32))) (constant S_ .f32 0x00000000#32) reducesTo_S8320x1_S8320_d1 h_S_
/-- The first result from these. -/
def opH (R A H : FVec Ideal S8320x1024 .f32) (Q : FVec Ideal S8320x1 .f32) (T : FVec Ideal S8320 .f32) : FVec Ideal S8320x1024 .f32 :=
  pad S8320x1024 ![112, 0] ![0, 0] ![0, 0] (extractStridedSlice S8208x1024 ![112, 0] (addf R (addf (addf (mulf A (broadcastInDim S8320x1024 ![0, 1] bcast_S8320x1_S8320x1024_0_1 (Host.rsqrt Q))) (mulf H (broadcastInDim S8320x1024 ![0] bcast_S8320_S8320x1024_0 T))) (mulf (broadcastInDim S8320x1024 ![0] bcast_S8320_S8320x1024_0 T) H))) slices_S8320x1024_S8208x1024_112_0) (sitofp .f32 (constantI S_ 32 0#32)) pads_S8208x1024_S8320x1024_11200_000 h_S_
/-- The second result. -/
def opG (H Y : FVec Ideal S8320x1024 .f32) (Q : FVec Ideal S8320x1 .f32) : FVec Ideal S8x1024 .f32 :=
  broadcastInDim S8x1024 ![1] bcast_S1024_S8x1024_1 (Host.reduceAdd (shapeCast _ (Host.reduceAdd (mulf (mulf H (broadcastInDim S8320x1024 ![0, 1] bcast_S8320x1_S8320x1024_0_1 (Host.rsqrt Q))) Y) (constant S_ .f32 0x00000000#32) reducesTo_S8320x1024_S1024_d0 h_S_) shapeCasts_S1024_S1x1024) (constant S_ .f32 0x00000000#32) reducesTo_S1x1024_S1024_d0 h_S_)

theorem opY_eq (D : FVec Ideal S8320x2304 .bf16) (W : FVec Ideal S1024x2304 .bf16) (y : S8320x1024.Idx) :
    (opY D W y : EReal) = ∑ k : Fin 2304, (D (ix2 (y 0) k) : EReal) * (W (ix2 (y 1) k) : EReal) := by
  pointwise [opY]
theorem opQ_eq (H : FVec Ideal S8320x1024 .f32) (y : S8320x1.Idx) : (opQ H y : EReal) = msq (fun k => H (ix2 (y 0) k)) := by
  unfold msq
  pointwise [opQ]
theorem opA_eq (Y : FVec Ideal S8320x1024 .f32) (g : FVec Ideal S1024 .f32) (r : Fin 8320) (q : Fin 1024) :
    (opA Y g (ix2 r q) : EReal) = Y (ix2 r q) * g (ix1 q) := by
  pointwise [opA]
theorem opT_eq (H A : FVec Ideal S8320x1024 .f32) (Q : FVec Ideal S8320x1 .f32) (r : Fin 8320) :
    (opT H A Q (ix1 r) : EReal) = Ideal.div ((∑ k : Fin 1024, H (ix2 r k) * A (ix2 r k))
      * (Ideal.ofBits FTy.f32 0xBF000000#32 * Ideal.div (Ideal.rsqrt (Q (ix2 r 0))) (Q (ix2 r 0)))) (Ideal.ofBits FTy.f32 0x44800000#32) := by
  pointwise [opT]
  exact Fin.sum_univ_one _
theorem opH_eq (R A H : FVec Ideal S8320x1024 .f32) (Q : FVec Ideal S8320x1 .f32) (T : FVec Ideal S8320 .f32) (r : Fin 8320) (q : Fin 1024) :
    (opH R A H Q T (ix2 r q) : EReal) = if 112 ≤ r.val then R (ix2 r q)
      + (A (ix2 r q) * Ideal.rsqrt (Q (ix2 r 0)) + H (ix2 r q) * T (ix1 r) + T (ix1 r) * H (ix2 r q)) else 0 := by
  pointwise [opH]
  by_cases h : 112 ≤ r.val
  · have e : (⟨112 + (r.val - 112), by omega⟩ : Fin 8320) = r := Fin.ext (by simp only []; omega)
    rw [dif_pos ⟨h, by omega⟩, if_pos h]
    simp only [e]
  · rw [dif_neg (fun a => h a.1), if_neg h]
    show (((0#32).toInt : ℝ) : EReal) = 0
    simp
theorem opG_eq (H Y : FVec Ideal S8320x1024 .f32) (Q : FVec Ideal S8320x1 .f32) (y : S8x1024.Idx) :
    (opG H Y Q y : EReal) = ∑ r : Fin 8320, H (ix2 r (y 1)) * Ideal.rsqrt (Q (ix2 r 0)) * Y (ix2 r (y 1)) := by
  pointwise [opG]
  exact Fin.sum_univ_one _

/-- The first result's entries. -/
theorem entryH (R H Y : FVec Ideal S8320x1024 .f32) (g : FVec Ideal S1024 .f32) (r : Fin 8320) (q : Fin 1024) :
    (opH R (opA Y g) H (opQ H) (opT H (opA Y g) (opQ H)) (ix2 r q) : EReal)
      = if 112 ≤ r.val then (R (ix2 r q) : EReal) + dnorm (fun k => H (ix2 r k)) (fun k => (Y (ix2 r k) : EReal) * (g (ix1 k) : EReal)) q else 0 := by
  refine (opH_eq _ _ _ _ _ r q).trans ?_
  rw [dnorm_eq, opT_eq, opQ_eq, opA_eq]
  simp only [opA_eq]
  rfl
/-- The second result's entries. -/
theorem entryG (H Y : FVec Ideal S8320x1024 .f32) (y : S8x1024.Idx) :
    (opG H Y (opQ H) y : EReal) = ∑ r : Fin 8320, (Y (ix2 r (y 1)) : EReal) * ((H (ix2 r (y 1)) : EReal) * rinv (fun k => H (ix2 r k))) := by
  refine (opG_eq _ _ _ y).trans ?_
  refine Finset.sum_congr (M := EReal) rfl fun r _ => ?_
  rw [opQ_eq]
  exact mul_comm _ _

end Cert.Reference13Ideal.Value

namespace Cert.Ffn

theorem algebraic13 : Cert.algebraic_Kernel13Ideal_Reference13Ideal (hKernel13Ideal := Cert.Kernel13Ideal.Gen.facts)
    (hReference13Ideal := Cert.Reference13Ideal.Gen.facts) := by
  intro m g m' g' hpre hagree
  refine ⟨fun c => (Cert.Kernel13Ideal.Gen.dats m 0 c).arrAt 5 Cert.Kernel13Ideal.cfg0.N, fun c => (Cert.Kernel13Ideal.Gen.dats m 0 c).arrAt 6 Cert.Kernel13Ideal.cfg0.N, Cert.Kernel13Ideal.Value.run_blocks m g, ?_⟩
  refine (θ_run Cert.Reference13Ideal.defs _ _).mono (fun r h c => ?_) (Cert.Reference13Ideal.Value.run (F := Ideal) m' g')
  obtain ⟨h0, h1, ha⟩ := h c
  obtain ⟨e0, e1, e2, e3, e4⟩ := hagree c
  have hY : ∀ (a : Fin 8320) (b : Fin 1024), (Cert.Reference13Ideal.Value.opY (m (c.tc.loc Cert.Kernel13Ideal.main_arg0)) (m (c.tc.loc Cert.Kernel13Ideal.main_arg1)) (ix2 a b) : EReal)
      = Cert.Kernel13Ideal.Value.prod m c a b := fun a b => Cert.Reference13Ideal.Value.opY_eq _ _ (ix2 a b)
  refine ⟨h0.trans (Eq.trans (funext fun y => ?_) (Cert.Kernel13Ideal.Value.arr5 m c).symm), h1.trans (Eq.trans (funext fun y => ?_) (Cert.Kernel13Ideal.Value.arr6 m c).symm), ha⟩
  · obtain ⟨a, b, rfl⟩ : ∃ (a : Fin 8320) (b : Fin 1024), y = ix2 a b := ⟨y 0, y 1, by funext i; fin_cases i <;> rfl⟩
    refine (Cert.Reference13Ideal.Value.entryH _ _ (Cert.Reference13Ideal.Value.opY _ _) _ a b).trans ?_
    rw [e0, e1, e2, e3, e4]
    exact outH_congr rfl (fun _ => rfl) (fun k => mul_of_eq (hY a k) rfl)
  · refine (Cert.Reference13Ideal.Value.entryG _ (Cert.Reference13Ideal.Value.opY _ _) y).trans ?_
    rw [e0, e1, e2]
    exact Finset.sum_congr (M := EReal) rfl fun k _ => mul_of_eq (hY k (y 1)) rfl

end Cert.Ffn

end
-- ==== Proof.Mixer.OutBase.lean ====
/- A normalised row added to the residual. -/
module

public import proofs.«01_k».proof.Proof.Ffn.BackMath

@[expose] public section

noncomputable section

open Idealize.ShloMosaic
namespace Cert.Ffn

/-- A normalised row added to the residual. -/
def addOne (h : EReal) (x : Fin 1024 → EReal) (g : EReal) (q : Fin 1024) : EReal := h + x q * rinv x * g

theorem addOne_eq (h : EReal) (x : Fin 1024 → EReal) (g : EReal) (q : Fin 1024) :
    addOne h x g q = h + Ideal.ofBits FTy.f32 0x3F800000#32 * (x q * rinv x * g) := by
  unfold addOne
  rw [cone, one_mul]

theorem addOne_congr {h h' : EReal} {x x' : Fin 1024 → EReal} {g g' : EReal} {q : Fin 1024} (eh : h = h') (ex : ∀ k, x k = x' k) (eg : g = g') :
    addOne h x g q = addOne h' x' g' q := by rw [eh, eg, funext ex]

end Cert.Ffn

end
-- ==== Proof.Mixer.Out.lean ====
/- A mixer's output product with the residual sum of its normalised rows: what the kernel's arrays hold. -/
module

public import proofs.«01_k».proof.Proof.Gen.Kernel14Ideal.Value
public import Idealize.ShloMosaic.Lib.Pipeline.ValueKit
public import Idealize.ShloMosaic.Lib.Pipeline.ReadBack
public import proofs.«01_k».proof.Proof.Mixer.OutBase

@[expose] public section

set_option maxRecDepth 16384

noncomputable section

open Idealize.ShloMosaic Idealize.ShloMosaic.TcCoe Idealize.SL.Sem
open Idealize.ShloMosaic.Pipeline (Dat)
namespace Cert.Kernel14Ideal.Value
open Cert.Kernel14Ideal Cert.Kernel14Ideal.Gen Cert.Ffn

variable (m : (ℓ : Loc nD τ sig) → Buf (Elt Ideal) ℓ)

theorem idx : ∀ t : Fin cfg0.N, win0_0.index t = ![0, t.val, 0] ∧ win0_1.index t = ![0, 0, 0]
    ∧ win0_2.index t = ![t.val, 0] ∧ win0_3.index t = ![0, 0] ∧ win0_4.index t = ![t.val, 0] ∧ win0_5.index t = ![t.val, 0] :=
  (by decide +kernel : ∀ t : Fin grid0.N, _)

/-- The factors. -/
def arrA (c : Dev nD) (r : Fin 8320) (f : Fin 1024) : EReal :=
  (show FVec Ideal S8320x1024 .bf16 from m ((c : Thread nD τ).loc main_arg0)) (ix2 r f)
def arrW (c : Dev nD) (f : Fin 1024) (q : Fin 1024) : EReal :=
  (show FVec Ideal S1024x1024 .bf16 from m ((c : Thread nD τ).loc main_arg1)) (ix2 f q)
/-- The residual. -/
def arrH (c : Dev nD) (r : Fin 8320) (q : Fin 1024) : EReal :=
  (show FVec Ideal S8320x1024 .f32 from m ((c : Thread nD τ).loc main_arg2)) (ix2 r q)
/-- The gain. -/
def gain (c : Dev nD) (q : Fin 1024) : EReal :=
  (show FVec Ideal S1024 .f32 from m ((c : Thread nD τ).loc main_arg3)) (ix1 q)

theorem hzero (y : S640x1024.Idx) : (k0_pay1 (F := Ideal) y : EReal) = 0 := by pointwise [k0_pay1]
theorem hpay (A : Vec Ideal S640x1024 .f32) (X : Vec Ideal S1x640x1024 .bf16) (Y : Vec Ideal S1x1024x1024 .bf16) (y : S640x1024.Idx) :
    (k0_pay2 (F := Ideal) A X Y y : EReal) = A y + ∑ k : Fin 1024, X (ix3 0 (y 0) k) * Y (ix3 0 k (y 1)) := by pointwise [k0_pay2]
theorem hout (A : Vec Ideal S640x1024 .f32) (H : Vec Ideal S640x1024 .f32) (G : Vec Ideal S1x1024 .f32) (y : S640x1024.Idx) :
    (k0_pay3 (F := Ideal) A H G y : EReal)
      = addOne (H y) (fun k => A (ix2 (y 0) k)) (G (ix2 0 (y 1))) (y 1) := by
  refine Eq.trans ?_ (addOne_eq _ _ _ _).symm
  unfold rinv
  pointwise [k0_pay3]

variable (c : Dev nD)

theorem entryA : V m c main_v0 = (broadcastInDim S1x8320x1024 ![1, 2] bcast_S8320x1024_S1x8320x1024_1_2 (show FVec Ideal S8320x1024 .bf16 from m ((c : Thread nD τ).loc main_arg0)) : FVec Ideal S1x8320x1024 .bf16) := by
  show StableHlo.after hostOps0 _ _ = _
  after_results <;> rfl
theorem entryW : V m c main_v1 = (broadcastInDim S1x1024x1024 ![1, 2] bcast_S1024x1024_S1x1024x1024_1_2 (show FVec Ideal S1024x1024 .bf16 from m ((c : Thread nD τ).loc main_arg1)) : FVec Ideal S1x1024x1024 .bf16) := by
  show StableHlo.after hostOps0 _ _ = _
  after_results <;> rfl
theorem entryG : V m c main_v2 = (shapeCast S1x1024 (show FVec Ideal S1024 .f32 from m ((c : Thread nD τ).loc main_arg3)) shapeCasts_S1024_S1x1024 : FVec Ideal S1x1024 .f32) := by
  show StableHlo.after hostOps0 _ _ = _
  after_results <;> rfl

/-- The rows that a grid point works at. -/
def row (t : Fin cfg0.N) (r : Fin 640) : Fin 8320 := ⟨t.val * 640 + r.val, by have := lt_of_lt_of_eq t.isLt N_0; omega⟩

theorem blkA (t : Fin cfg0.N) (r : Fin 640) (f : Fin 1024) : (iblk m c 0 t (ix3 0 r f) : EReal) = arrA m c (row t r) f := by
  show (V m c main_v0 ((win0_0.blk t).view.emb (ix3 0 r f)) : EReal) = _
  rw [entryA]
  unfold arrA row
  pointwise []
  blk_ext [idx t]
theorem blkW (t : Fin cfg0.N) (f : Fin 1024) (q : Fin 1024) : (iblk m c 1 t (ix3 0 f q) : EReal) = arrW m c f q := by
  show (V m c main_v1 ((win0_1.blk t).view.emb (ix3 0 f q)) : EReal) = _
  rw [entryW]
  unfold arrW
  pointwise []
  blk_ext [idx t]
theorem blkH (t : Fin cfg0.N) (y : S640x1024.Idx) : (iblk m c 2 t y : EReal) = arrH m c (row t (y 0)) (y 1) := by
  show (V m c main_arg2 ((win0_2.blk t).view.emb y) : EReal) = _
  rw [V_main_arg2]
  unfold arrH row
  blk_ext [idx t]
theorem blkG (t : Fin cfg0.N) (q : Fin 1024) : (iblk m c 3 t (ix2 0 q) : EReal) = gain m c q := by
  show (V m c main_v2 ((win0_3.blk t).view.emb (ix2 0 q)) : EReal) = _
  rw [entryG]
  unfold gain
  pointwise []
  blk_ext [idx t]

/-- The product. -/
def prod (r : Fin 8320) (q : Fin 1024) : EReal := ∑ k : Fin 1024, arrA m c r k * arrW m c k q

theorem acc (t : Fin cfg0.N) (y : S640x1024.Idx) :
    (k0_pay2 (F := Ideal) (k0_pay1 (F := Ideal)) (iblk m c 0 t) (iblk m c 1 t) y : EReal) = prod m c (row t (y 0)) (y 1) := by
  rw [hpay, hzero, zero_add]
  unfold prod
  exact Finset.sum_congr (M := EReal) rfl fun k _ => mul_of_eq (blkA m c t (y 0) k) (blkW m c t k (y 1))

theorem emb4 (t : Fin cfg0.N) (y : S640x1024.Idx) :
    ((win0_4.blk t).view.emb y 0).val = t.val * 640 + (y 0).val ∧ ((win0_4.blk t).view.emb y 1).val = (y 1).val := by
  constructor <;> blk_simp [idx t]
theorem emb5 (t : Fin cfg0.N) (y : S640x1024.Idx) :
    ((win0_5.blk t).view.emb y 0).val = t.val * 640 + (y 0).val ∧ ((win0_5.blk t).view.emb y 1).val = (y 1).val := by
  constructor <;> blk_simp [idx t]

theorem arr4 : (dats m 0 c).arrAt 4 cfg0.N = fun z : S8320x1024.Idx => prod m c (z 0) (z 1) := by
  refine (dats m 0 c).arrAt_eq_of_covers 4 _ (by decide +kernel) fun t hf y => ?_
  have e := emb4 t y
  rw [after0_4]
  unfold outsAt0
  frame_out
  exact (acc m c t y).trans (at2 (prod m c) e.1.symm e.2.symm)

theorem tile5 (t : Fin cfg0.N) (y : S640x1024.Idx) :
    (k0_pay3 (F := Ideal) (k0_pay2 (F := Ideal) (k0_pay1 (F := Ideal)) (iblk m c 0 t) (iblk m c 1 t)) (iblk m c 2 t) (iblk m c 3 t) y : EReal)
      = addOne (arrH m c (row t (y 0)) (y 1)) (prod m c (row t (y 0))) (gain m c (y 1)) (y 1) :=
  (hout _ _ _ y).trans (addOne_congr (blkH m c t y) (fun k => acc m c t (ix2 (y 0) k)) (blkG m c t (y 1)))

theorem out5 (t : Fin cfg0.N) : (outsAt0 m c t).2
    = k0_pay3 (F := Ideal) (k0_pay2 (F := Ideal) (k0_pay1 (F := Ideal)) (iblk m c 0 t) (iblk m c 1 t)) (iblk m c 2 t) (iblk m c 3 t) := by
  unfold outsAt0
  frame_out

theorem at_sum {r r' : Fin 8320} {q q' : Fin 1024} (hr : r.val = r'.val) (hq : q.val = q'.val) :
    addOne (arrH m c r q) (prod m c r) (gain m c q) q = addOne (arrH m c r' q') (prod m c r') (gain m c q') q' := by
  obtain rfl := Fin.ext hr
  obtain rfl := Fin.ext hq
  rfl

theorem arr5 : (dats m 0 c).arrAt 5 cfg0.N
    = fun z : S8320x1024.Idx => addOne (arrH m c (z 0) (z 1)) (prod m c (z 0)) (gain m c (z 1)) (z 1) := by
  refine (dats m 0 c).arrAt_eq_of_covers 5 _ (by decide +kernel) fun t hf y => ?_
  have e := emb5 t y
  rw [after0_5, out5]
  exact (tile5 m c t y).trans (at_sum m c e.1.symm e.2.symm)

end Cert.Kernel14Ideal.Value

end
-- ==== Proof.Mixer.OutEq.lean ====
/- A mixer's output product with the residual sum of its normalised rows: the reference, and the equation. -/
module

public import proofs.«01_k».proof.Defs
public import proofs.«01_k».proof.Proof.Mixer.Out
public import proofs.«01_k».proof.Proof.Gen.Reference14Ideal.Run

@[expose] public section

set_option maxRecDepth 16384

noncomputable section

open Idealize.ShloMosaic Idealize.ShloMosaic.TcCoe Idealize.SL.Sem
namespace Cert.Reference14Ideal.Value
open Cert.Reference14Ideal Cert.Reference14Ideal.Gen Cert.Ffn

/-- The reference's product. -/
def opY (A : FVec Ideal S8320x1024 .bf16) (W : FVec Ideal S1024x1024 .bf16) : FVec Ideal S8320x1024 .f32 :=
  Host.dotGeneral dot_S8320x1024_S1024x1024_S8320x1024_1_0_0_1_n_n none (extf .f32 A bitsLt_bf16_f32) (extf .f32 W bitsLt_bf16_f32)

theorem opY_eq (A : FVec Ideal S8320x1024 .bf16) (W : FVec Ideal S1024x1024 .bf16) (y : S8320x1024.Idx) :
    (opY A W y : EReal) = ∑ k : Fin 1024, (A (ix2 (y 0) k) : EReal) * (W (ix2 k (y 1)) : EReal) := by
  pointwise [opY]

/-- The residual sum, from the product. -/
def opO (H : FVec Ideal S8320x1024 .f32) (Y : FVec Ideal S8320x1024 .f32) (g : FVec Ideal S1024 .f32) : FVec Ideal S8320x1024 .f32 :=
  addf H (mulf (mulf Y (broadcastInDim S8320x1024 ![0, 1] bcast_S8320x1_S8320x1024_0_1 (Host.rsqrt (addf (Host.divf (broadcastInDim S8320x1 ![0] bcast_S8320_S8320x1_0 (Host.reduceAdd (mulf Y Y) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (broadcastInDim S1x1024 ![1] bcast_S1024_S1x1024_1 g)))

theorem opO_eq (H : FVec Ideal S8320x1024 .f32) (Y : FVec Ideal S8320x1024 .f32) (g : FVec Ideal S1024 .f32) (y : S8320x1024.Idx) :
    (opO H Y g y : EReal) = addOne (H y) (fun k => Y (ix2 (y 0) k)) (g (ix1 (y 1))) (y 1) := by
  unfold addOne rinv
  pointwise [opO]

end Cert.Reference14Ideal.Value

namespace Cert.Ffn

theorem algebraic14 : Cert.algebraic_Kernel14Ideal_Reference14Ideal (hKernel14Ideal := Cert.Kernel14Ideal.Gen.facts)
    (hReference14Ideal := Cert.Reference14Ideal.Gen.facts) := by
  intro m g m' g' hpre hagree
  refine ⟨fun c => (Cert.Kernel14Ideal.Gen.dats m 0 c).arrAt 4 Cert.Kernel14Ideal.cfg0.N, fun c => (Cert.Kernel14Ideal.Gen.dats m 0 c).arrAt 5 Cert.Kernel14Ideal.cfg0.N, Cert.Kernel14Ideal.Value.run_blocks m g, ?_⟩
  refine (θ_run Cert.Reference14Ideal.defs _ _).mono (fun r h c => ?_) (Cert.Reference14Ideal.Value.run (F := Ideal) m' g')
  obtain ⟨h0, h1, ha⟩ := h c
  obtain ⟨e0, e1, e2, e3⟩ := hagree c
  refine ⟨h0.trans (Eq.trans (funext fun y => ?_) (Cert.Kernel14Ideal.Value.arr4 m c).symm), h1.trans (Eq.trans (funext fun y => ?_) (Cert.Kernel14Ideal.Value.arr5 m c).symm), ha⟩
  · refine (Cert.Reference14Ideal.Value.opY_eq _ _ y).trans ?_
    rw [e0, e1]
    rfl
  · refine (Cert.Reference14Ideal.Value.opO_eq _ (Cert.Reference14Ideal.Value.opY _ _) _ y).trans ?_
    rw [e0, e1, e2, e3]
    refine addOne_congr (congrArg (m _) ?_) (fun k => Cert.Reference14Ideal.Value.opY_eq _ _ (ix2 (y 0) k)) rfl
    funext i
    fin_cases i <;> rfl

end Cert.Ffn

end
-- ==== Proof.Norm.Half.lean ====
/- The cotangent of a mixer's or a block's output before its norm, whose half was added: what the kernel's arrays hold. -/
module

public import proofs.«01_k».proof.Proof.Gen.Kernel15Ideal.Value
public import Idealize.ShloMosaic.Lib.Pipeline.ValueKit
public import Idealize.ShloMosaic.Lib.Pipeline.ReadBack
public import proofs.«01_k».proof.Proof.Ffn.BackMath

@[expose] public section

set_option maxRecDepth 16384

noncomputable section

open Idealize.ShloMosaic Idealize.ShloMosaic.TcCoe Idealize.SL.Sem
open Idealize.ShloMosaic.Pipeline (Dat)
namespace Cert.Kernel15Ideal.Value
open Cert.Kernel15Ideal Cert.Kernel15Ideal.Gen Cert.Ffn

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-- The factor that the normalised rows had. -/
def coef : EReal := Ideal.ofBits FTy.f32 0x3F000000#32
/-- The rows before the norm. -/
def arrY (c : Dev nD) (r : Fin 8320) (q : Fin 1024) : EReal :=
  (show FVec Ideal S8320x1024 .f32 from m ((c : Thread nD τ).loc main_arg0)) (ix2 r q)
/-- The gain. -/
def gain (c : Dev nD) (q : Fin 1024) : EReal :=
  (show FVec Ideal S1024 .f32 from m ((c : Thread nD τ).loc main_arg1)) (ix1 q)
/-- The cotangents of the sum. -/
def arrD (c : Dev nD) (r : Fin 8320) (q : Fin 1024) : EReal :=
  (show FVec Ideal S8320x1024 .f32 from m ((c : Thread nD τ).loc main_arg2)) (ix2 r q)

theorem hzero (y : S8x1024.Idx) : (k0_pay1 (F := Ideal) y : EReal) = 0 := by pointwise [k0_pay1]
theorem hpay2 (v : FVec Ideal S1x1024 .f32) (A : Vec Ideal S8x1024 .f32) (y : S8x1024.Idx) :
    (k0_pay2 (F := Ideal) v A y : EReal) = A y + v (ix2 0 (y 1)) := by pointwise [k0_pay2]
theorem hpay3 (D : Vec Ideal S640x1024 .f32) (y : S640x1024.Idx) : (k0_pay3 (F := Ideal) D y : EReal) = coef * D y := by
  unfold coef
  pointwise [k0_pay3]
theorem hpay4 (X : Vec Ideal S640x1024 .f32) (y : S640x1.Idx) :
    (k0_pay4 (F := Ideal) X y : EReal) = rinv (fun k => X (ix2 (y 0) k)) := by
  unfold rinv
  pointwise [k0_pay4]
theorem hpay5 (X : Vec Ideal S640x1024 .f32) (y : S640x1024.Idx) :
    (k0_pay5 (F := Ideal) X y : EReal) = X y * rinv (fun k => X (ix2 (y 0) k)) := by
  pointwise [k0_pay5]
  rw [hpay4]
  try rfl
/-- The gain's gradient from one tile. -/
theorem hpay6 (X D : Vec Ideal S640x1024 .f32) (q : Fin 1024) :
    (k0_pay6 (F := Ideal) X D (ix2 0 q) : EReal) = ∑ r : Fin 640, coef * D (ix2 r q) * (X (ix2 r q) * rinv (fun k => X (ix2 r k))) := by
  pointwise [k0_pay6]
  refine Finset.sum_congr (M := EReal) rfl fun r _ => ?_
  rw [hpay5, hpay3]
  try rfl
theorem hpay7 (i : grid0.Coords) (n : ℕ) (hi : (i 0).val = n) (hn : n < 13) (X : Vec Ideal S640x1024 .f32) (G : Vec Ideal S1x1024 .f32) (D : Vec Ideal S640x1024 .f32)
    (r : Fin 640) (q : Fin 1024) :
    (k0_pay7 (F := Ideal) i X G D (ix2 r q) : EReal)
      = if 112 ≤ n * 640 + r.val then dnorm (fun k => X (ix2 r k)) (fun k => coef * D (ix2 r k) * G (ix2 0 k)) q else 0 := by
  unfold dnorm
  pointwise [k0_pay7]
  simp only [hpay5, hpay4, hpay3, hi]
  have e : IntOp.cmpi .sge (IntOp.addi (Scalar.muli (BitVec.ofNat 32 n) 640#32) (BitVec.ofNat 32 r.val)) 112#32
      = BitVec.ofBool (decide (112 ≤ n * 640 + r.val)) := by
    rw [show Scalar.muli (BitVec.ofNat 32 n) 640#32 = BitVec.ofNat 32 (n * 640) from WordCmp.muli_ofNat _ _, WordCmp.addi_ofNat]
    rw [show (112#32 : BitVec 32) = BitVec.ofNat 32 112 from rfl, WordCmp.cmpi_sge_ofNat (by omega) (by omega)]
  exact (congrArg (fun b => Scalar.select b _ _) e).trans (WordCmp.select_decide _ _ _)

variable (c : Dev nD)

theorem entryG : V m c main_v0 = (shapeCast S1x1024 (show FVec Ideal S1024 .f32 from m ((c : Thread nD τ).loc main_arg1)) shapeCasts_S1024_S1x1024 : FVec Ideal S1x1024 .f32) := by
  show StableHlo.after hostOps0 _ _ = _
  after_results <;> rfl

/-- The rows that a grid point works at. -/
def row (t : Fin cfg0.N) (r : Fin 640) : Fin 8320 := ⟨t.val * 640 + r.val, by have := lt_of_lt_of_eq t.isLt N_0; omega⟩

theorem blkY (t : Fin cfg0.N) (r : Fin 640) (q : Fin 1024) : (iblk m c 0 t (ix2 r q) : EReal) = arrY m c (row t r) q := by
  show (V m c main_arg0 ((win0_0.blk t).view.emb (ix2 r q)) : EReal) = _
  rw [V_main_arg0]
  unfold arrY row
  blk_ext [idx t]
theorem blkD (t : Fin cfg0.N) (r : Fin 640) (q : Fin 1024) : (iblk m c 2 t (ix2 r q) : EReal) = arrD m c (row t r) q := by
  show (V m c main_arg2 ((win0_2.blk t).view.emb (ix2 r q)) : EReal) = _
  rw [V_main_arg2]
  unfold arrD row
  blk_ext [idx t]
theorem blkG (t : Fin cfg0.N) (q : Fin 1024) : (iblk m c 1 t (ix2 0 q) : EReal) = gain m c q := by
  show (V m c main_v0 ((win0_1.blk t).view.emb (ix2 0 q)) : EReal) = _
  rw [entryG]
  unfold gain
  pointwise []
  blk_ext [idx t]

theorem emb3 (t : Fin cfg0.N) (y : S640x1024.Idx) :
    ((win0_3.blk t).view.emb y 0).val = t.val * 640 + (y 0).val ∧ ((win0_3.blk t).view.emb y 1).val = (y 1).val := by
  constructor <;> blk_simp [idx t]

/-- The result's entries. -/
def outH (r : Fin 8320) (q : Fin 1024) : EReal :=
  if 112 ≤ r.val then dnorm (arrY m c r) (fun k => coef * arrD m c r k * gain m c k) q else 0

theorem at_outH {r r' : Fin 8320} {q q' : Fin 1024} (hr : r.val = r'.val) (hq : q.val = q'.val) : outH m c r q = outH m c r' q' := at2 _ hr hq

theorem tileH (t : Fin cfg0.N) (y : S640x1024.Idx) :
    (k0_pay7 (F := Ideal) (grid0.coords t) (iblk m c 0 t) (iblk m c 1 t) (iblk m c 2 t) y : EReal) = outH m c (row t (y 0)) (y 1) := by
  have hN := lt_of_lt_of_eq t.isLt N_0
  have hc : (grid0.coords t 0).val = t.val := (Pipeline.Grid.coords_val t 0 (by decide) rfl : (grid0.coords t 0).val = t.val / 1 % 13).trans (by omega)
  obtain ⟨r, q, rfl⟩ : ∃ r q, y = ix2 r q := ⟨y 0, y 1, by funext i; fin_cases i <;> rfl⟩
  refine (hpay7 _ t.val hc (by omega) _ _ _ r q).trans ?_
  rw [funext (fun k => blkY m c t r k), funext (fun k => mul_of_eq (congrArg (coef * ·) (blkD m c t r k)) (blkG m c t k))]
  rfl

theorem arr3 : (dats m 0 c).arrAt 3 cfg0.N = fun z : S8320x1024.Idx => outH m c (z 0) (z 1) := by
  refine (dats m 0 c).arrAt_eq_of_covers 3 _ (by decide +kernel) fun t hf y => ?_
  have e := emb3 t y
  rw [after0_3]
  by_cases h0 : t.val % 13 = 0
  · rw [outsAt0_A m c t h0]
    frame_out
    exact (tileH m c t y).trans (at_outH m c e.1.symm e.2.symm)
  · rw [outsAt0_B m c t h0]
    frame_out
    exact (tileH m c t y).trans (at_outH m c e.1.symm e.2.symm)

/-- One row's share of the gain's gradient. -/
def rowG (r : Fin 8320) (q : Fin 1024) : EReal := coef * arrD m c r q * (arrY m c r q * rinv (arrY m c r))
/-- One tile's share. -/
def tileG (n : ℕ) (q : Fin 1024) : EReal :=
  if h : n < 13 then ∑ r : Fin 640, rowG m c ⟨n * 640 + r.val, by omega⟩ q else 0

theorem tile_eq (t : Fin cfg0.N) (q : Fin 1024) :
    (k0_pay6 (F := Ideal) (iblk m c 0 t) (iblk m c 2 t) (ix2 0 q) : EReal) = tileG m c t.val q := by
  have hN := lt_of_lt_of_eq t.isLt N_0
  refine (hpay6 _ _ q).trans ?_
  unfold tileG
  rw [dif_pos (by omega)]
  refine Finset.sum_congr (M := EReal) rfl fun r _ => ?_
  rw [funext (fun k => blkY m c t r k), blkY m c t r q, blkD m c t r q]
  rfl

theorem grad_at (n : ℕ) (hn : n < cfg0.N) (y : S8x1024.Idx) :
    ((outsAt0 m c n hn).2 y : EReal) = ∑ i ∈ Finset.range (n + 1), tileG m c i (y 1) := by
  have hN := lt_of_lt_of_eq hn N_0
  induction n with
  | zero =>
    rw [outsAt0_A m c ⟨0, hn⟩ (by norm_num)]
    frame_out
    rw [hpay2, hzero, Finset.sum_range_one, zero_add]
    exact tile_eq m c ⟨0, hn⟩ (y 1)
  | succ n ih =>
    rw [outsAt0_B m c ⟨n + 1, hn⟩ (by show ¬ (n + 1) % 13 = 0; omega)]
    frame_out
    rw [hpay2, Finset.sum_range_succ]
    exact add_of_eq (ih (by omega) (by omega)) (tile_eq m c ⟨n + 1, hn⟩ (y 1))

/-- The gain's gradient. -/
def outG (q : Fin 1024) : EReal := ∑ r : Fin 8320, rowG m c r q

theorem sum_tiles (q : Fin 1024) : ∑ i ∈ Finset.range 13, tileG m c i q = outG m c q := by
  rw [Finset.sum_range]
  unfold outG tileG
  refine (Finset.sum_congr (M := EReal) rfl fun i _ => dif_pos i.isLt).trans ?_
  refine Fin.sum_mul_add_congr fun s k hl => ?_
  exact at2 (rowG m c) (by omega) rfl

theorem emb4 (t : Fin cfg0.N) (y : S8x1024.Idx) : ((win0_4.blk t).view.emb y 1).val = (y 1).val := by
  blk_simp [idx t]

theorem arr4 : (dats m 0 c).arrAt 4 cfg0.N = fun z : S8x1024.Idx => outG m c (z 1) := by
  refine (dats m 0 c).arrAt_eq_of_covers 4 _ (by decide +kernel) fun t hf y => ?_
  have ht : t.val % 13 = 12 := (flush0_4 t).mp hf
  have hN := lt_of_lt_of_eq t.isLt N_0
  rw [after0_4]
  refine (grad_at m c t.val t.isLt y).trans ?_
  rw [show t.val + 1 = 13 by omega]
  refine (sum_tiles m c (y 1)).trans ?_
  exact congrArg (outG m c) (Fin.ext (emb4 t y).symm)

end Cert.Kernel15Ideal.Value

end
-- ==== Proof.Norm.HalfEq.lean ====
/- The cotangent of a mixer's or a block's output before its norm, whose half was added: the reference, and the equation. -/
module

public import proofs.«01_k».proof.Defs
public import proofs.«01_k».proof.Proof.Norm.Half
public import proofs.«01_k».proof.Proof.Gen.Reference15Ideal.Run

@[expose] public section

set_option maxRecDepth 16384

noncomputable section

open Idealize.ShloMosaic Idealize.ShloMosaic.TcCoe Idealize.SL.Sem
namespace Cert.Reference15Ideal.Value
open Cert.Reference15Ideal Cert.Reference15Ideal.Gen Cert.Ffn

/-- Half of the cotangents. -/
def opD (D : FVec Ideal S8320x1024 .f32) : FVec Ideal S8320x1024 .f32 :=
  mulf (broadcastInDim S8320x1024 ![] bcast_S_S8320x1024 (constant S_ .f32 0x3F000000#32)) D
theorem opD_eq (D : FVec Ideal S8320x1024 .f32) (y : S8320x1024.Idx) : (opD D y : EReal) = Ideal.ofBits FTy.f32 0x3F000000#32 * D y := by
  pointwise [opD]
/-- The mean squares with the small constant. -/
def opQ (H : FVec Ideal S8320x1024 .f32) : FVec Ideal S8320x1 .f32 :=
  addf (Host.divf (broadcastInDim S8320x1 ![0] bcast_S8320_S8320x1_0 (Host.reduceAdd (mulf H H) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32))
/-- The product with the gain. -/
def opA (Y : FVec Ideal S8320x1024 .f32) (g : FVec Ideal S1024 .f32) : FVec Ideal S8320x1024 .f32 :=
  mulf Y (broadcastInDim S8320x1024 ![0, 1] bcast_S1x1024_S8320x1024_0_1 (broadcastInDim S1x1024 ![1] bcast_S1024_S1x1024_1 g))
/-- What the derivative of the mean squares carries. -/
def opT (H A : FVec Ideal S8320x1024 .f32) (Q : FVec Ideal S8320x1 .f32) : FVec Ideal S8320 .f32 :=
  Host.reduceAdd (Host.divf (mulf (shapeCast _ (Host.reduceAdd (mulf H A) (constant S_ .f32 0x00000000#32) reducesTo_S8320x1024_S8320_d1 h_S_) shapeCasts_S8320_S8320x1) (mulf (broadcastInDim S8320x1 ![] bcast_S_S8320x1 (constant S_ .f32 0xBF000000#32)) (Host.divf (Host.rsqrt Q) Q))) (broadcastInDim S8320x1 ![] bcast_S_S8320x1 (constant S_ .f32 0x44800000#32))) (constant S_ .f32 0x00000000#32) reducesTo_S8320x1_S8320_d1 h_S_
/-- The first result from these. -/
def opH (A H : FVec Ideal S8320x1024 .f32) (Q : FVec Ideal S8320x1 .f32) (T : FVec Ideal S8320 .f32) : FVec Ideal S8320x1024 .bf16 :=
  truncf .bf16 (pad S8320x1024 ![112, 0] ![0, 0] ![0, 0] (extractStridedSlice S8208x1024 ![112, 0] (addf (addf (mulf A (broadcastInDim S8320x1024 ![0, 1] bcast_S8320x1_S8320x1024_0_1 (Host.rsqrt Q))) (mulf H (broadcastInDim S8320x1024 ![0] bcast_S8320_S8320x1024_0 T))) (mulf (broadcastInDim S8320x1024 ![0] bcast_S8320_S8320x1024_0 T) H)) slices_S8320x1024_S8208x1024_112_0) (sitofp .f32 (constantI S_ 32 0#32)) pads_S8208x1024_S8320x1024_11200_000 h_S_) bitsLt_bf16_f32
/-- The second result. -/
def opG (H Y : FVec Ideal S8320x1024 .f32) (Q : FVec Ideal S8320x1 .f32) : FVec Ideal S8x1024 .f32 :=
  broadcastInDim S8x1024 ![1] bcast_S1024_S8x1024_1 (Host.reduceAdd (shapeCast _ (Host.reduceAdd (mulf (mulf H (broadcastInDim S8320x1024 ![0, 1] bcast_S8320x1_S8320x1024_0_1 (Host.rsqrt Q))) Y) (constant S_ .f32 0x00000000#32) reducesTo_S8320x1024_S1024_d0 h_S_) shapeCasts_S1024_S1x1024) (constant S_ .f32 0x00000000#32) reducesTo_S1x1024_S1024_d0 h_S_)

theorem opQ_eq (H : FVec Ideal S8320x1024 .f32) (y : S8320x1.Idx) : (opQ H y : EReal) = msq (fun k => H (ix2 (y 0) k)) := by
  unfold msq
  pointwise [opQ]
theorem opA_eq (Y : FVec Ideal S8320x1024 .f32) (g : FVec Ideal S1024 .f32) (r : Fin 8320) (q : Fin 1024) :
    (opA Y g (ix2 r q) : EReal) = Y (ix2 r q) * g (ix1 q) := by
  pointwise [opA]
theorem opT_eq (H A : FVec Ideal S8320x1024 .f32) (Q : FVec Ideal S8320x1 .f32) (r : Fin 8320) :
    (opT H A Q (ix1 r) : EReal) = Ideal.div ((∑ k : Fin 1024, H (ix2 r k) * A (ix2 r k))
      * (Ideal.ofBits FTy.f32 0xBF000000#32 * Ideal.div (Ideal.rsqrt (Q (ix2 r 0))) (Q (ix2 r 0)))) (Ideal.ofBits FTy.f32 0x44800000#32) := by
  pointwise [opT]
  exact Fin.sum_univ_one _
theorem opH_eq (A H : FVec Ideal S8320x1024 .f32) (Q : FVec Ideal S8320x1 .f32) (T : FVec Ideal S8320 .f32) (r : Fin 8320) (q : Fin 1024) :
    (opH A H Q T (ix2 r q) : EReal) = if 112 ≤ r.val
      then A (ix2 r q) * Ideal.rsqrt (Q (ix2 r 0)) + H (ix2 r q) * T (ix1 r) + T (ix1 r) * H (ix2 r q) else 0 := by
  pointwise [opH]
  by_cases h : 112 ≤ r.val
  · have e : (⟨112 + (r.val - 112), by omega⟩ : Fin 8320) = r := Fin.ext (by simp only []; omega)
    rw [dif_pos ⟨h, by omega⟩, if_pos h]
    simp only [e]
  · rw [dif_neg (fun a => h a.1), if_neg h]
    show (((0#32).toInt : ℝ) : EReal) = 0
    simp
theorem opG_eq (H Y : FVec Ideal S8320x1024 .f32) (Q : FVec Ideal S8320x1 .f32) (y : S8x1024.Idx) :
    (opG H Y Q y : EReal) = ∑ r : Fin 8320, H (ix2 r (y 1)) * Ideal.rsqrt (Q (ix2 r 0)) * Y (ix2 r (y 1)) := by
  pointwise [opG]
  exact Fin.sum_univ_one _

/-- The first result's entries. -/
theorem entryH (H Y : FVec Ideal S8320x1024 .f32) (g : FVec Ideal S1024 .f32) (r : Fin 8320) (q : Fin 1024) :
    (opH (opA Y g) H (opQ H) (opT H (opA Y g) (opQ H)) (ix2 r q) : EReal)
      = if 112 ≤ r.val then dnorm (fun k => H (ix2 r k)) (fun k => (Y (ix2 r k) : EReal) * (g (ix1 k) : EReal)) q else 0 := by
  refine (opH_eq _ _ _ _ r q).trans ?_
  rw [dnorm_eq, opT_eq, opQ_eq, opA_eq]
  simp only [opA_eq]
  rfl
/-- The second result's entries. -/
theorem entryG (H Y : FVec Ideal S8320x1024 .f32) (y : S8x1024.Idx) :
    (opG H Y (opQ H) y : EReal) = ∑ r : Fin 8320, (Y (ix2 r (y 1)) : EReal) * ((H (ix2 r (y 1)) : EReal) * rinv (fun k => H (ix2 r k))) := by
  refine (opG_eq _ _ _ y).trans ?_
  refine Finset.sum_congr (M := EReal) rfl fun r _ => ?_
  rw [opQ_eq]
  exact mul_comm _ _

end Cert.Reference15Ideal.Value

namespace Cert.Ffn

theorem algebraic15 : Cert.algebraic_Kernel15Ideal_Reference15Ideal (hKernel15Ideal := Cert.Kernel15Ideal.Gen.facts)
    (hReference15Ideal := Cert.Reference15Ideal.Gen.facts) := by
  intro m g m' g' hpre hagree
  refine ⟨fun c => (Cert.Kernel15Ideal.Gen.dats m 0 c).arrAt 3 Cert.Kernel15Ideal.cfg0.N, fun c => (Cert.Kernel15Ideal.Gen.dats m 0 c).arrAt 4 Cert.Kernel15Ideal.cfg0.N, Cert.Kernel15Ideal.Value.run_blocks m g, ?_⟩
  refine (θ_run Cert.Reference15Ideal.defs _ _).mono (fun r h c => ?_) (Cert.Reference15Ideal.Value.run (F := Ideal) m' g')
  obtain ⟨h0, h1, ha⟩ := h c
  obtain ⟨e0, e1, e2⟩ := hagree c
  have hY : ∀ (a : Fin 8320) (b : Fin 1024), (Cert.Reference15Ideal.Value.opD (m (c.tc.loc Cert.Kernel15Ideal.main_arg2)) (ix2 a b) : EReal)
      = Cert.Kernel15Ideal.Value.coef * Cert.Kernel15Ideal.Value.arrD m c a b := fun a b => Cert.Reference15Ideal.Value.opD_eq _ (ix2 a b)
  refine ⟨h0.trans (Eq.trans (funext fun y => ?_) (Cert.Kernel15Ideal.Value.arr3 m c).symm), h1.trans (Eq.trans (funext fun y => ?_) (Cert.Kernel15Ideal.Value.arr4 m c).symm), ha⟩
  · obtain ⟨a, b, rfl⟩ : ∃ (a : Fin 8320) (b : Fin 1024), y = ix2 a b := ⟨y 0, y 1, by funext i; fin_cases i <;> rfl⟩
    refine (Cert.Reference15Ideal.Value.entryH _ (Cert.Reference15Ideal.Value.opD _) _ a b).trans ?_
    rw [e0, e1, e2]
    exact dnorm_at (fun _ => rfl) (fun k => mul_of_eq (hY a k) rfl)
  · refine (Cert.Reference15Ideal.Value.entryG _ (Cert.Reference15Ideal.Value.opD _) y).trans ?_
    rw [e0, e2]
    exact Finset.sum_congr (M := EReal) rfl fun k _ => mul_of_eq (hY k (y 1)) rfl

end Cert.Ffn

end
-- ==== Proof.Norm.One.lean ====
/- The cotangent of a mixer's or a block's output before its norm, which was added: what the kernel's arrays hold. -/
module

public import proofs.«01_k».proof.Proof.Gen.Kernel16Ideal.Value
public import Idealize.ShloMosaic.Lib.Pipeline.ValueKit
public import Idealize.ShloMosaic.Lib.Pipeline.ReadBack
public import proofs.«01_k».proof.Proof.Ffn.BackMath

@[expose] public section

set_option maxRecDepth 16384

noncomputable section

open Idealize.ShloMosaic Idealize.ShloMosaic.TcCoe Idealize.SL.Sem
open Idealize.ShloMosaic.Pipeline (Dat)
namespace Cert.Kernel16Ideal.Value
open Cert.Kernel16Ideal Cert.Kernel16Ideal.Gen Cert.Ffn

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-- The factor that the normalised rows had. -/
def coef : EReal := Ideal.ofBits FTy.f32 0x3F800000#32
/-- The rows before the norm. -/
def arrY (c : Dev nD) (r : Fin 8320) (q : Fin 1024) : EReal :=
  (show FVec Ideal S8320x1024 .f32 from m ((c : Thread nD τ).loc main_arg0)) (ix2 r q)
/-- The gain. -/
def gain (c : Dev nD) (q : Fin 1024) : EReal :=
  (show FVec Ideal S1024 .f32 from m ((c : Thread nD τ).loc main_arg1)) (ix1 q)
/-- The cotangents of the sum. -/
def arrD (c : Dev nD) (r : Fin 8320) (q : Fin 1024) : EReal :=
  (show FVec Ideal S8320x1024 .f32 from m ((c : Thread nD τ).loc main_arg2)) (ix2 r q)

theorem hzero (y : S8x1024.Idx) : (k0_pay1 (F := Ideal) y : EReal) = 0 := by pointwise [k0_pay1]
theorem hpay2 (v : FVec Ideal S1x1024 .f32) (A : Vec Ideal S8x1024 .f32) (y : S8x1024.Idx) :
    (k0_pay2 (F := Ideal) v A y : EReal) = A y + v (ix2 0 (y 1)) := by pointwise [k0_pay2]
theorem hpay3 (D : Vec Ideal S640x1024 .f32) (y : S640x1024.Idx) : (k0_pay3 (F := Ideal) D y : EReal) = coef * D y := by
  unfold coef
  pointwise [k0_pay3]
theorem hpay4 (X : Vec Ideal S640x1024 .f32) (y : S640x1.Idx) :
    (k0_pay4 (F := Ideal) X y : EReal) = rinv (fun k => X (ix2 (y 0) k)) := by
  unfold rinv
  pointwise [k0_pay4]
theorem hpay5 (X : Vec Ideal S640x1024 .f32) (y : S640x1024.Idx) :
    (k0_pay5 (F := Ideal) X y : EReal) = X y * rinv (fun k => X (ix2 (y 0) k)) := by
  pointwise [k0_pay5]
  rw [hpay4]
  try rfl
/-- The gain's gradient from one tile. -/
theorem hpay6 (X D : Vec Ideal S640x1024 .f32) (q : Fin 1024) :
    (k0_pay6 (F := Ideal) X D (ix2 0 q) : EReal) = ∑ r : Fin 640, coef * D (ix2 r q) * (X (ix2 r q) * rinv (fun k => X (ix2 r k))) := by
  pointwise [k0_pay6]
  refine Finset.sum_congr (M := EReal) rfl fun r _ => ?_
  rw [hpay5, hpay3]
  try rfl
theorem hpay7 (i : grid0.Coords) (n : ℕ) (hi : (i 0).val = n) (hn : n < 13) (X : Vec Ideal S640x1024 .f32) (G : Vec Ideal S1x1024 .f32) (D : Vec Ideal S640x1024 .f32)
    (r : Fin 640) (q : Fin 1024) :
    (k0_pay7 (F := Ideal) i X G D (ix2 r q) : EReal)
      = if 112 ≤ n * 640 + r.val then dnorm (fun k => X (ix2 r k)) (fun k => coef * D (ix2 r k) * G (ix2 0 k)) q else 0 := by
  unfold dnorm
  pointwise [k0_pay7]
  simp only [hpay5, hpay4, hpay3, hi]
  have e : IntOp.cmpi .sge (IntOp.addi (Scalar.muli (BitVec.ofNat 32 n) 640#32) (BitVec.ofNat 32 r.val)) 112#32
      = BitVec.ofBool (decide (112 ≤ n * 640 + r.val)) := by
    rw [show Scalar.muli (BitVec.ofNat 32 n) 640#32 = BitVec.ofNat 32 (n * 640) from WordCmp.muli_ofNat _ _, WordCmp.addi_ofNat]
    rw [show (112#32 : BitVec 32) = BitVec.ofNat 32 112 from rfl, WordCmp.cmpi_sge_ofNat (by omega) (by omega)]
  exact (congrArg (fun b => Scalar.select b _ _) e).trans (WordCmp.select_decide _ _ _)

variable (c : Dev nD)

theorem entryG : V m c main_v0 = (shapeCast S1x1024 (show FVec Ideal S1024 .f32 from m ((c : Thread nD τ).loc main_arg1)) shapeCasts_S1024_S1x1024 : FVec Ideal S1x1024 .f32) := by
  show StableHlo.after hostOps0 _ _ = _
  after_results <;> rfl

/-- The rows that a grid point works at. -/
def row (t : Fin cfg0.N) (r : Fin 640) : Fin 8320 := ⟨t.val * 640 + r.val, by have := lt_of_lt_of_eq t.isLt N_0; omega⟩

theorem blkY (t : Fin cfg0.N) (r : Fin 640) (q : Fin 1024) : (iblk m c 0 t (ix2 r q) : EReal) = arrY m c (row t r) q := by
  show (V m c main_arg0 ((win0_0.blk t).view.emb (ix2 r q)) : EReal) = _
  rw [V_main_arg0]
  unfold arrY row
  blk_ext [idx t]
theorem blkD (t : Fin cfg0.N) (r : Fin 640) (q : Fin 1024) : (iblk m c 2 t (ix2 r q) : EReal) = arrD m c (row t r) q := by
  show (V m c main_arg2 ((win0_2.blk t).view.emb (ix2 r q)) : EReal) = _
  rw [V_main_arg2]
  unfold arrD row
  blk_ext [idx t]
theorem blkG (t : Fin cfg0.N) (q : Fin 1024) : (iblk m c 1 t (ix2 0 q) : EReal) = gain m c q := by
  show (V m c main_v0 ((win0_1.blk t).view.emb (ix2 0 q)) : EReal) = _
  rw [entryG]
  unfold gain
  pointwise []
  blk_ext [idx t]

theorem emb3 (t : Fin cfg0.N) (y : S640x1024.Idx) :
    ((win0_3.blk t).view.emb y 0).val = t.val * 640 + (y 0).val ∧ ((win0_3.blk t).view.emb y 1).val = (y 1).val := by
  constructor <;> blk_simp [idx t]

/-- The result's entries. -/
def outH (r : Fin 8320) (q : Fin 1024) : EReal :=
  if 112 ≤ r.val then dnorm (arrY m c r) (fun k => coef * arrD m c r k * gain m c k) q else 0

theorem at_outH {r r' : Fin 8320} {q q' : Fin 1024} (hr : r.val = r'.val) (hq : q.val = q'.val) : outH m c r q = outH m c r' q' := at2 _ hr hq

theorem tileH (t : Fin cfg0.N) (y : S640x1024.Idx) :
    (k0_pay7 (F := Ideal) (grid0.coords t) (iblk m c 0 t) (iblk m c 1 t) (iblk m c 2 t) y : EReal) = outH m c (row t (y 0)) (y 1) := by
  have hN := lt_of_lt_of_eq t.isLt N_0
  have hc : (grid0.coords t 0).val = t.val := (Pipeline.Grid.coords_val t 0 (by decide) rfl : (grid0.coords t 0).val = t.val / 1 % 13).trans (by omega)
  obtain ⟨r, q, rfl⟩ : ∃ r q, y = ix2 r q := ⟨y 0, y 1, by funext i; fin_cases i <;> rfl⟩
  refine (hpay7 _ t.val hc (by omega) _ _ _ r q).trans ?_
  rw [funext (fun k => blkY m c t r k), funext (fun k => mul_of_eq (congrArg (coef * ·) (blkD m c t r k)) (blkG m c t k))]
  rfl

theorem arr3 : (dats m 0 c).arrAt 3 cfg0.N = fun z : S8320x1024.Idx => outH m c (z 0) (z 1) := by
  refine (dats m 0 c).arrAt_eq_of_covers 3 _ (by decide +kernel) fun t hf y => ?_
  have e := emb3 t y
  rw [after0_3]
  by_cases h0 : t.val % 13 = 0
  · rw [outsAt0_A m c t h0]
    frame_out
    exact (tileH m c t y).trans (at_outH m c e.1.symm e.2.symm)
  · rw [outsAt0_B m c t h0]
    frame_out
    exact (tileH m c t y).trans (at_outH m c e.1.symm e.2.symm)

/-- One row's share of the gain's gradient. -/
def rowG (r : Fin 8320) (q : Fin 1024) : EReal := coef * arrD m c r q * (arrY m c r q * rinv (arrY m c r))
/-- One tile's share. -/
def tileG (n : ℕ) (q : Fin 1024) : EReal :=
  if h : n < 13 then ∑ r : Fin 640, rowG m c ⟨n * 640 + r.val, by omega⟩ q else 0

theorem tile_eq (t : Fin cfg0.N) (q : Fin 1024) :
    (k0_pay6 (F := Ideal) (iblk m c 0 t) (iblk m c 2 t) (ix2 0 q) : EReal) = tileG m c t.val q := by
  have hN := lt_of_lt_of_eq t.isLt N_0
  refine (hpay6 _ _ q).trans ?_
  unfold tileG
  rw [dif_pos (by omega)]
  refine Finset.sum_congr (M := EReal) rfl fun r _ => ?_
  rw [funext (fun k => blkY m c t r k), blkY m c t r q, blkD m c t r q]
  rfl

theorem grad_at (n : ℕ) (hn : n < cfg0.N) (y : S8x1024.Idx) :
    ((outsAt0 m c n hn).2 y : EReal) = ∑ i ∈ Finset.range (n + 1), tileG m c i (y 1) := by
  have hN := lt_of_lt_of_eq hn N_0
  induction n with
  | zero =>
    rw [outsAt0_A m c ⟨0, hn⟩ (by norm_num)]
    frame_out
    rw [hpay2, hzero, Finset.sum_range_one, zero_add]
    exact tile_eq m c ⟨0, hn⟩ (y 1)
  | succ n ih =>
    rw [outsAt0_B m c ⟨n + 1, hn⟩ (by show ¬ (n + 1) % 13 = 0; omega)]
    frame_out
    rw [hpay2, Finset.sum_range_succ]
    exact add_of_eq (ih (by omega) (by omega)) (tile_eq m c ⟨n + 1, hn⟩ (y 1))

/-- The gain's gradient. -/
def outG (q : Fin 1024) : EReal := ∑ r : Fin 8320, rowG m c r q

theorem sum_tiles (q : Fin 1024) : ∑ i ∈ Finset.range 13, tileG m c i q = outG m c q := by
  rw [Finset.sum_range]
  unfold outG tileG
  refine (Finset.sum_congr (M := EReal) rfl fun i _ => dif_pos i.isLt).trans ?_
  refine Fin.sum_mul_add_congr fun s k hl => ?_
  exact at2 (rowG m c) (by omega) rfl

theorem emb4 (t : Fin cfg0.N) (y : S8x1024.Idx) : ((win0_4.blk t).view.emb y 1).val = (y 1).val := by
  blk_simp [idx t]

theorem arr4 : (dats m 0 c).arrAt 4 cfg0.N = fun z : S8x1024.Idx => outG m c (z 1) := by
  refine (dats m 0 c).arrAt_eq_of_covers 4 _ (by decide +kernel) fun t hf y => ?_
  have ht : t.val % 13 = 12 := (flush0_4 t).mp hf
  have hN := lt_of_lt_of_eq t.isLt N_0
  rw [after0_4]
  refine (grad_at m c t.val t.isLt y).trans ?_
  rw [show t.val + 1 = 13 by omega]
  refine (sum_tiles m c (y 1)).trans ?_
  exact congrArg (outG m c) (Fin.ext (emb4 t y).symm)

end Cert.Kernel16Ideal.Value

end
-- ==== Proof.Norm.OneEq.lean ====
/- The cotangent of a mixer's or a block's output before its norm, which was added: the reference, and the equation. -/
module

public import proofs.«01_k».proof.Defs
public import proofs.«01_k».proof.Proof.Norm.One
public import proofs.«01_k».proof.Proof.Gen.Reference16Ideal.Run

@[expose] public section

set_option maxRecDepth 16384

noncomputable section

open Idealize.ShloMosaic Idealize.ShloMosaic.TcCoe Idealize.SL.Sem
namespace Cert.Reference16Ideal.Value
open Cert.Reference16Ideal Cert.Reference16Ideal.Gen Cert.Ffn

/-- The mean squares with the small constant. -/
def opQ (H : FVec Ideal S8320x1024 .f32) : FVec Ideal S8320x1 .f32 :=
  addf (Host.divf (broadcastInDim S8320x1 ![0] bcast_S8320_S8320x1_0 (Host.reduceAdd (mulf H H) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32))
/-- The product with the gain. -/
def opA (Y : FVec Ideal S8320x1024 .f32) (g : FVec Ideal S1024 .f32) : FVec Ideal S8320x1024 .f32 :=
  mulf Y (broadcastInDim S8320x1024 ![0, 1] bcast_S1x1024_S8320x1024_0_1 (broadcastInDim S1x1024 ![1] bcast_S1024_S1x1024_1 g))
/-- What the derivative of the mean squares carries. -/
def opT (H A : FVec Ideal S8320x1024 .f32) (Q : FVec Ideal S8320x1 .f32) : FVec Ideal S8320 .f32 :=
  Host.reduceAdd (Host.divf (mulf (shapeCast _ (Host.reduceAdd (mulf H A) (constant S_ .f32 0x00000000#32) reducesTo_S8320x1024_S8320_d1 h_S_) shapeCasts_S8320_S8320x1) (mulf (broadcastInDim S8320x1 ![] bcast_S_S8320x1 (constant S_ .f32 0xBF000000#32)) (Host.divf (Host.rsqrt Q) Q))) (broadcastInDim S8320x1 ![] bcast_S_S8320x1 (constant S_ .f32 0x44800000#32))) (constant S_ .f32 0x00000000#32) reducesTo_S8320x1_S8320_d1 h_S_
/-- The first result from these. -/
def opH (A H : FVec Ideal S8320x1024 .f32) (Q : FVec Ideal S8320x1 .f32) (T : FVec Ideal S8320 .f32) : FVec Ideal S8320x1024 .bf16 :=
  truncf .bf16 (pad S8320x1024 ![112, 0] ![0, 0] ![0, 0] (extractStridedSlice S8208x1024 ![112, 0] (addf (addf (mulf A (broadcastInDim S8320x1024 ![0, 1] bcast_S8320x1_S8320x1024_0_1 (Host.rsqrt Q))) (mulf H (broadcastInDim S8320x1024 ![0] bcast_S8320_S8320x1024_0 T))) (mulf (broadcastInDim S8320x1024 ![0] bcast_S8320_S8320x1024_0 T) H)) slices_S8320x1024_S8208x1024_112_0) (sitofp .f32 (constantI S_ 32 0#32)) pads_S8208x1024_S8320x1024_11200_000 h_S_) bitsLt_bf16_f32
/-- The second result. -/
def opG (H Y : FVec Ideal S8320x1024 .f32) (Q : FVec Ideal S8320x1 .f32) : FVec Ideal S8x1024 .f32 :=
  broadcastInDim S8x1024 ![1] bcast_S1024_S8x1024_1 (Host.reduceAdd (shapeCast _ (Host.reduceAdd (mulf (mulf H (broadcastInDim S8320x1024 ![0, 1] bcast_S8320x1_S8320x1024_0_1 (Host.rsqrt Q))) Y) (constant S_ .f32 0x00000000#32) reducesTo_S8320x1024_S1024_d0 h_S_) shapeCasts_S1024_S1x1024) (constant S_ .f32 0x00000000#32) reducesTo_S1x1024_S1024_d0 h_S_)

theorem opQ_eq (H : FVec Ideal S8320x1024 .f32) (y : S8320x1.Idx) : (opQ H y : EReal) = msq (fun k => H (ix2 (y 0) k)) := by
  unfold msq
  pointwise [opQ]
theorem opA_eq (Y : FVec Ideal S8320x1024 .f32) (g : FVec Ideal S1024 .f32) (r : Fin 8320) (q : Fin 1024) :
    (opA Y g (ix2 r q) : EReal) = Y (ix2 r q) * g (ix1 q) := by
  pointwise [opA]
theorem opT_eq (H A : FVec Ideal S8320x1024 .f32) (Q : FVec Ideal S8320x1 .f32) (r : Fin 8320) :
    (opT H A Q (ix1 r) : EReal) = Ideal.div ((∑ k : Fin 1024, H (ix2 r k) * A (ix2 r k))
      * (Ideal.ofBits FTy.f32 0xBF000000#32 * Ideal.div (Ideal.rsqrt (Q (ix2 r 0))) (Q (ix2 r 0)))) (Ideal.ofBits FTy.f32 0x44800000#32) := by
  pointwise [opT]
  exact Fin.sum_univ_one _
theorem opH_eq (A H : FVec Ideal S8320x1024 .f32) (Q : FVec Ideal S8320x1 .f32) (T : FVec Ideal S8320 .f32) (r : Fin 8320) (q : Fin 1024) :
    (opH A H Q T (ix2 r q) : EReal) = if 112 ≤ r.val
      then A (ix2 r q) * Ideal.rsqrt (Q (ix2 r 0)) + H (ix2 r q) * T (ix1 r) + T (ix1 r) * H (ix2 r q) else 0 := by
  pointwise [opH]
  by_cases h : 112 ≤ r.val
  · have e : (⟨112 + (r.val - 112), by omega⟩ : Fin 8320) = r := Fin.ext (by simp only []; omega)
    rw [dif_pos ⟨h, by omega⟩, if_pos h]
    simp only [e]
  · rw [dif_neg (fun a => h a.1), if_neg h]
    show (((0#32).toInt : ℝ) : EReal) = 0
    simp
theorem opG_eq (H Y : FVec Ideal S8320x1024 .f32) (Q : FVec Ideal S8320x1 .f32) (y : S8x1024.Idx) :
    (opG H Y Q y : EReal) = ∑ r : Fin 8320, H (ix2 r (y 1)) * Ideal.rsqrt (Q (ix2 r 0)) * Y (ix2 r (y 1)) := by
  pointwise [opG]
  exact Fin.sum_univ_one _

/-- The first result's entries. -/
theorem entryH (H Y : FVec Ideal S8320x1024 .f32) (g : FVec Ideal S1024 .f32) (r : Fin 8320) (q : Fin 1024) :
    (opH (opA Y g) H (opQ H) (opT H (opA Y g) (opQ H)) (ix2 r q) : EReal)
      = if 112 ≤ r.val then dnorm (fun k => H (ix2 r k)) (fun k => (Y (ix2 r k) : EReal) * (g (ix1 k) : EReal)) q else 0 := by
  refine (opH_eq _ _ _ _ r q).trans ?_
  rw [dnorm_eq, opT_eq, opQ_eq, opA_eq]
  simp only [opA_eq]
  rfl
/-- The second result's entries. -/
theorem entryG (H Y : FVec Ideal S8320x1024 .f32) (y : S8x1024.Idx) :
    (opG H Y (opQ H) y : EReal) = ∑ r : Fin 8320, (Y (ix2 r (y 1)) : EReal) * ((H (ix2 r (y 1)) : EReal) * rinv (fun k => H (ix2 r k))) := by
  refine (opG_eq _ _ _ y).trans ?_
  refine Finset.sum_congr (M := EReal) rfl fun r _ => ?_
  rw [opQ_eq]
  exact mul_comm _ _

end Cert.Reference16Ideal.Value

namespace Cert.Ffn

theorem algebraic16 : Cert.algebraic_Kernel16Ideal_Reference16Ideal (hKernel16Ideal := Cert.Kernel16Ideal.Gen.facts)
    (hReference16Ideal := Cert.Reference16Ideal.Gen.facts) := by
  intro m g m' g' hpre hagree
  refine ⟨fun c => (Cert.Kernel16Ideal.Gen.dats m 0 c).arrAt 3 Cert.Kernel16Ideal.cfg0.N, fun c => (Cert.Kernel16Ideal.Gen.dats m 0 c).arrAt 4 Cert.Kernel16Ideal.cfg0.N, Cert.Kernel16Ideal.Value.run_blocks m g, ?_⟩
  refine (θ_run Cert.Reference16Ideal.defs _ _).mono (fun r h c => ?_) (Cert.Reference16Ideal.Value.run (F := Ideal) m' g')
  obtain ⟨h0, h1, ha⟩ := h c
  obtain ⟨e0, e1, e2⟩ := hagree c
  have hY : ∀ (a : Fin 8320) (b : Fin 1024), ((show FVec Ideal Cert.Kernel16Ideal.S8320x1024 .f32 from (m (c.tc.loc Cert.Kernel16Ideal.main_arg2))) (ix2 a b) : EReal)
      = Cert.Kernel16Ideal.Value.coef * Cert.Kernel16Ideal.Value.arrD m c a b := fun a b => (show (_ : EReal) = Ideal.ofBits FTy.f32 0x3F800000#32 * _ by rw [cone, one_mul]; rfl)
  refine ⟨h0.trans (Eq.trans (funext fun y => ?_) (Cert.Kernel16Ideal.Value.arr3 m c).symm), h1.trans (Eq.trans (funext fun y => ?_) (Cert.Kernel16Ideal.Value.arr4 m c).symm), ha⟩
  · obtain ⟨a, b, rfl⟩ : ∃ (a : Fin 8320) (b : Fin 1024), y = ix2 a b := ⟨y 0, y 1, by funext i; fin_cases i <;> rfl⟩
    refine (Cert.Reference16Ideal.Value.entryH _ _ _ a b).trans ?_
    rw [e0, e1, e2]
    exact dnorm_at (fun _ => rfl) (fun k => mul_of_eq (hY a k) rfl)
  · refine (Cert.Reference16Ideal.Value.entryG _ _ y).trans ?_
    rw [e0, e2]
    exact Finset.sum_congr (M := EReal) rfl fun k _ => mul_of_eq (hY k (y 1)) rfl

end Cert.Ffn

end
-- ==== Proof.Adam.Base.lean ====
/- One step of the optimiser on one entry. -/
module

public import proofs.«01_k».proof.Proof.Ffn.Base

@[expose] public section

noncomputable section

open Idealize.ShloMosaic
namespace Cert.Adam

/-- The mean of the gradients, moved on by the gradient `g`. -/
def newM (g a : EReal) : EReal :=
  Ideal.ofBits FTy.f32 0x3F666666#32 * a + Ideal.ofBits FTy.f32 0x3DCCCCCD#32 * g
/-- The mean of their squares, moved on. -/
def newV (g b : EReal) : EReal :=
  Ideal.ofBits FTy.f32 0x3F7FBE77#32 * b + Ideal.ofBits FTy.f32 0x3A83126F#32 * (g * g)
/-- The change of the weight `w`. -/
def delta (w g a b : EReal) : EReal :=
  Ideal.ofBits FTy.f32 0xBA83126F#32 * (Ideal.div (Ideal.div (newM g a) (Ideal.ofBits FTy.f32 0x3F26BD02#32))
    (Ideal.sqrt (Ideal.div (newV g b) (Ideal.ofBits FTy.f32 0x3C231ACC#32)) + Ideal.ofBits FTy.f32 0x322BCC77#32)
    + Ideal.ofBits FTy.f32 0x3C23D70A#32 * w)

end Cert.Adam

end
-- ==== Proof.Adam.FfnUp.lean ====
/- One step of the optimiser on the weights of the feed-forward blocks that go up: the kernel's arrays, the reference, the equation. -/
module

public import proofs.«01_k».proof.Defs
public import proofs.«01_k».proof.Proof.Gen.Kernel20Ideal.Value
public import proofs.«01_k».proof.Proof.Gen.Reference20Ideal.Run
public import Idealize.ShloMosaic.Lib.Pipeline.ValueKit
public import Idealize.ShloMosaic.Lib.Pipeline.ReadBack
public import proofs.«01_k».proof.Proof.Adam.Base

@[expose] public section

set_option maxRecDepth 16384

noncomputable section

open Idealize.ShloMosaic Idealize.ShloMosaic.TcCoe Idealize.SL.Sem
open Idealize.ShloMosaic.Pipeline (Dat)
namespace Cert.Kernel20Ideal.Value
open Cert.Kernel20Ideal Cert.Kernel20Ideal.Gen Cert.Adam

variable (m : (ℓ : Loc nD τ sig) → Buf (Elt Ideal) ℓ) (c : Dev nD)

theorem pay2 (G A : Vec Ideal S512x704 .f32) (y : S512x704.Idx) : (k0_pay2 (F := Ideal) G A y : EReal) = newM (G y) (A y) := by
  unfold newM
  pointwise [k0_pay2, k0_pay1]
theorem pay3 (G B : Vec Ideal S512x704 .f32) (y : S512x704.Idx) : (k0_pay3 (F := Ideal) G B y : EReal) = newV (G y) (B y) := by
  unfold newV
  pointwise [k0_pay3, k0_pay1]
theorem pay4 (G A B W : Vec Ideal S512x704 .f32) (y : S512x704.Idx) : (k0_pay4 (F := Ideal) G A B W y : EReal) = delta (W y) (G y) (A y) (B y) := by
  unfold delta newM newV
  pointwise [k0_pay4, k0_pay3, k0_pay2, k0_pay1]

/-- One of the four arguments as the call takes it, in rows. -/
def rows (x : FVec Ideal S2x2x1024x704 .f32) : FVec Ideal S4096x704 .f32 := shapeCast S4096x704 x shapeCasts_S2x2x1024x704_S4096x704
theorem entryW : V m c main_v0 = rows (m ((c : Thread nD τ).loc main_arg0)) := by
  show StableHlo.after hostOps0 _ _ = _
  after_results <;> rfl
theorem entryG : V m c main_v1 = rows (m ((c : Thread nD τ).loc main_arg1)) := by
  show StableHlo.after hostOps0 _ _ = _
  after_results <;> rfl
theorem entryA : V m c main_v2 = rows (m ((c : Thread nD τ).loc main_arg2)) := by
  show StableHlo.after hostOps0 _ _ = _
  after_results <;> rfl
theorem entryB : V m c main_v3 = rows (m ((c : Thread nD τ).loc main_arg3)) := by
  show StableHlo.after hostOps0 _ _ = _
  after_results <;> rfl

theorem arr4 : (dats m 0 c).arrAt 4 cfg0.N = fun z : S4096x704.Idx => (delta (rows (m ((c : Thread nD τ).loc main_arg0)) z : EReal) (rows (m ((c : Thread nD τ).loc main_arg1)) z : EReal) (rows (m ((c : Thread nD τ).loc main_arg2)) z : EReal) (rows (m ((c : Thread nD τ).loc main_arg3)) z : EReal) : EReal) := by
  refine (dats m 0 c).arrAt_eq_of_covers 4 _ (by decide +kernel) fun t hf y => ?_
  rw [after0_4]
  unfold out0_4
  frame_out
  refine (pay4 _ _ _ _ y).trans ?_
  rw [← entryW m c]
  rw [← entryG m c]
  rw [← entryA m c]
  rw [← entryB m c]
  rfl

theorem arr5 : (dats m 0 c).arrAt 5 cfg0.N = fun z : S4096x704.Idx => (newM (rows (m ((c : Thread nD τ).loc main_arg1)) z : EReal) (rows (m ((c : Thread nD τ).loc main_arg2)) z : EReal) : EReal) := by
  refine (dats m 0 c).arrAt_eq_of_covers 5 _ (by decide +kernel) fun t hf y => ?_
  rw [after0_5]
  unfold out0_5
  frame_out
  refine (pay2 _ _ y).trans ?_
  rw [← entryG m c]
  rw [← entryA m c]
  rfl

theorem arr6 : (dats m 0 c).arrAt 6 cfg0.N = fun z : S4096x704.Idx => (newV (rows (m ((c : Thread nD τ).loc main_arg1)) z : EReal) (rows (m ((c : Thread nD τ).loc main_arg3)) z : EReal) : EReal) := by
  refine (dats m 0 c).arrAt_eq_of_covers 6 _ (by decide +kernel) fun t hf y => ?_
  rw [after0_6]
  unfold out0_6
  frame_out
  refine (pay3 _ _ y).trans ?_
  rw [← entryG m c]
  rw [← entryB m c]
  rfl

end Cert.Kernel20Ideal.Value

namespace Cert.Reference20Ideal.Value
open Cert.Reference20Ideal Cert.Reference20Ideal.Gen Cert.Adam

/-- The reference's operations. -/
def opM (G A : FVec Ideal S4096x704 .f32) : FVec Ideal S4096x704 .f32 :=
  addf (mulf (broadcastInDim S4096x704 ![] bcast_S_S4096x704 (constant S_ .f32 0x3F666666#32)) A) (mulf (broadcastInDim S4096x704 ![] bcast_S_S4096x704 (constant S_ .f32 0x3DCCCCCD#32)) G)
def opV (G B : FVec Ideal S4096x704 .f32) : FVec Ideal S4096x704 .f32 :=
  addf (mulf (broadcastInDim S4096x704 ![] bcast_S_S4096x704 (constant S_ .f32 0x3F7FBE77#32)) B) (mulf (broadcastInDim S4096x704 ![] bcast_S_S4096x704 (constant S_ .f32 0x3A83126F#32)) (mulf G G))
def opD (W G A B : FVec Ideal S4096x704 .f32) : FVec Ideal S4096x704 .f32 :=
  mulf (broadcastInDim S4096x704 ![] bcast_S_S4096x704 (constant S_ .f32 0xBA83126F#32)) (addf (Host.divf (Host.divf (addf (mulf (broadcastInDim S4096x704 ![] bcast_S_S4096x704 (constant S_ .f32 0x3F666666#32)) A) (mulf (broadcastInDim S4096x704 ![] bcast_S_S4096x704 (constant S_ .f32 0x3DCCCCCD#32)) G)) (broadcastInDim S4096x704 ![] bcast_S_S4096x704 (constant S_ .f32 0x3F26BD02#32))) (addf (Host.sqrt (Host.divf (addf (mulf (broadcastInDim S4096x704 ![] bcast_S_S4096x704 (constant S_ .f32 0x3F7FBE77#32)) B) (mulf (broadcastInDim S4096x704 ![] bcast_S_S4096x704 (constant S_ .f32 0x3A83126F#32)) (mulf G G))) (broadcastInDim S4096x704 ![] bcast_S_S4096x704 (constant S_ .f32 0x3C231ACC#32)))) (broadcastInDim S4096x704 ![] bcast_S_S4096x704 (constant S_ .f32 0x322BCC77#32)))) (mulf (broadcastInDim S4096x704 ![] bcast_S_S4096x704 (constant S_ .f32 0x3C23D70A#32)) W))

theorem opM_eq (G A : FVec Ideal S4096x704 .f32) (y : S4096x704.Idx) : (opM G A y : EReal) = newM (G y) (A y) := by
  unfold newM
  pointwise [opM]
theorem opV_eq (G B : FVec Ideal S4096x704 .f32) (y : S4096x704.Idx) : (opV G B y : EReal) = newV (G y) (B y) := by
  unfold newV
  pointwise [opV]
theorem opD_eq (W G A B : FVec Ideal S4096x704 .f32) (y : S4096x704.Idx) : (opD W G A B y : EReal) = delta (W y) (G y) (A y) (B y) := by
  unfold delta newM newV
  pointwise [opD]

end Cert.Reference20Ideal.Value

namespace Cert.Ffn

theorem algebraic20 : Cert.algebraic_Kernel20Ideal_Reference20Ideal (hKernel20Ideal := Cert.Kernel20Ideal.Gen.facts)
    (hReference20Ideal := Cert.Reference20Ideal.Gen.facts) := by
  intro m g m' g' hpre hagree
  refine ⟨fun c => (Cert.Kernel20Ideal.Gen.dats m 0 c).arrAt 4 Cert.Kernel20Ideal.cfg0.N, fun c => (Cert.Kernel20Ideal.Gen.dats m 0 c).arrAt 5 Cert.Kernel20Ideal.cfg0.N, fun c => (Cert.Kernel20Ideal.Gen.dats m 0 c).arrAt 6 Cert.Kernel20Ideal.cfg0.N, Cert.Kernel20Ideal.Value.run_blocks m g, ?_⟩
  refine (θ_run Cert.Reference20Ideal.defs _ _).mono (fun r h c => ?_) (Cert.Reference20Ideal.Value.run (F := Ideal) m' g')
  obtain ⟨h0, h1, h2, ha⟩ := h c
  obtain ⟨e0, e1, e2, e3⟩ := hagree c
  refine ⟨h0.trans (Eq.trans (funext fun y => ?_) (Cert.Kernel20Ideal.Value.arr4 m c).symm), h1.trans (Eq.trans (funext fun y => ?_) (Cert.Kernel20Ideal.Value.arr5 m c).symm), h2.trans (Eq.trans (funext fun y => ?_) (Cert.Kernel20Ideal.Value.arr6 m c).symm), ha⟩
  · refine (Cert.Reference20Ideal.Value.opD_eq _ _ _ _ y).trans ?_
    rw [e0, e1, e2, e3]
    rfl
  · refine (Cert.Reference20Ideal.Value.opM_eq _ _ y).trans ?_
    rw [e1, e2]
    rfl
  · refine (Cert.Reference20Ideal.Value.opV_eq _ _ y).trans ?_
    rw [e1, e3]
    rfl

end Cert.Ffn

end
-- ==== Proof.Adam.FfnDown.lean ====
/- One step of the optimiser on the weights of the feed-forward blocks that go down: the kernel's arrays, the reference, the equation. -/
module

public import proofs.«01_k».proof.Defs
public import proofs.«01_k».proof.Proof.Gen.Kernel21Ideal.Value
public import proofs.«01_k».proof.Proof.Gen.Reference21Ideal.Run
public import Idealize.ShloMosaic.Lib.Pipeline.ValueKit
public import Idealize.ShloMosaic.Lib.Pipeline.ReadBack
public import proofs.«01_k».proof.Proof.Adam.Base

@[expose] public section

set_option maxRecDepth 16384

noncomputable section

open Idealize.ShloMosaic Idealize.ShloMosaic.TcCoe Idealize.SL.Sem
open Idealize.ShloMosaic.Pipeline (Dat)
namespace Cert.Kernel21Ideal.Value
open Cert.Kernel21Ideal Cert.Kernel21Ideal.Gen Cert.Adam

variable (m : (ℓ : Loc nD τ sig) → Buf (Elt Ideal) ℓ) (c : Dev nD)

theorem pay2 (G A : Vec Ideal S256x1024 .f32) (y : S256x1024.Idx) : (k0_pay2 (F := Ideal) G A y : EReal) = newM (G y) (A y) := by
  unfold newM
  pointwise [k0_pay2, k0_pay1]
theorem pay3 (G B : Vec Ideal S256x1024 .f32) (y : S256x1024.Idx) : (k0_pay3 (F := Ideal) G B y : EReal) = newV (G y) (B y) := by
  unfold newV
  pointwise [k0_pay3, k0_pay1]
theorem pay4 (G A B W : Vec Ideal S256x1024 .f32) (y : S256x1024.Idx) : (k0_pay4 (F := Ideal) G A B W y : EReal) = delta (W y) (G y) (A y) (B y) := by
  unfold delta newM newV
  pointwise [k0_pay4, k0_pay3, k0_pay2, k0_pay1]

/-- One of the four arguments as the call takes it, in rows. -/
def rows (x : FVec Ideal S2x2x704x1024 .f32) : FVec Ideal S2816x1024 .f32 := shapeCast S2816x1024 x shapeCasts_S2x2x704x1024_S2816x1024
theorem entryW : V m c main_v0 = rows (m ((c : Thread nD τ).loc main_arg0)) := by
  show StableHlo.after hostOps0 _ _ = _
  after_results <;> rfl
theorem entryG : V m c main_v1 = rows (m ((c : Thread nD τ).loc main_arg1)) := by
  show StableHlo.after hostOps0 _ _ = _
  after_results <;> rfl
theorem entryA : V m c main_v2 = rows (m ((c : Thread nD τ).loc main_arg2)) := by
  show StableHlo.after hostOps0 _ _ = _
  after_results <;> rfl
theorem entryB : V m c main_v3 = rows (m ((c : Thread nD τ).loc main_arg3)) := by
  show StableHlo.after hostOps0 _ _ = _
  after_results <;> rfl

theorem arr4 : (dats m 0 c).arrAt 4 cfg0.N = fun z : S2816x1024.Idx => (delta (rows (m ((c : Thread nD τ).loc main_arg0)) z : EReal) (rows (m ((c : Thread nD τ).loc main_arg1)) z : EReal) (rows (m ((c : Thread nD τ).loc main_arg2)) z : EReal) (rows (m ((c : Thread nD τ).loc main_arg3)) z : EReal) : EReal) := by
  refine (dats m 0 c).arrAt_eq_of_covers 4 _ (by decide +kernel) fun t hf y => ?_
  rw [after0_4]
  unfold out0_4
  frame_out
  refine (pay4 _ _ _ _ y).trans ?_
  rw [← entryW m c]
  rw [← entryG m c]
  rw [← entryA m c]
  rw [← entryB m c]
  rfl

theorem arr5 : (dats m 0 c).arrAt 5 cfg0.N = fun z : S2816x1024.Idx => (newM (rows (m ((c : Thread nD τ).loc main_arg1)) z : EReal) (rows (m ((c : Thread nD τ).loc main_arg2)) z : EReal) : EReal) := by
  refine (dats m 0 c).arrAt_eq_of_covers 5 _ (by decide +kernel) fun t hf y => ?_
  rw [after0_5]
  unfold out0_5
  frame_out
  refine (pay2 _ _ y).trans ?_
  rw [← entryG m c]
  rw [← entryA m c]
  rfl

theorem arr6 : (dats m 0 c).arrAt 6 cfg0.N = fun z : S2816x1024.Idx => (newV (rows (m ((c : Thread nD τ).loc main_arg1)) z : EReal) (rows (m ((c : Thread nD τ).loc main_arg3)) z : EReal) : EReal) := by
  refine (dats m 0 c).arrAt_eq_of_covers 6 _ (by decide +kernel) fun t hf y => ?_
  rw [after0_6]
  unfold out0_6
  frame_out
  refine (pay3 _ _ y).trans ?_
  rw [← entryG m c]
  rw [← entryB m c]
  rfl

end Cert.Kernel21Ideal.Value

namespace Cert.Reference21Ideal.Value
open Cert.Reference21Ideal Cert.Reference21Ideal.Gen Cert.Adam

/-- The reference's operations. -/
def opM (G A : FVec Ideal S2816x1024 .f32) : FVec Ideal S2816x1024 .f32 :=
  addf (mulf (broadcastInDim S2816x1024 ![] bcast_S_S2816x1024 (constant S_ .f32 0x3F666666#32)) A) (mulf (broadcastInDim S2816x1024 ![] bcast_S_S2816x1024 (constant S_ .f32 0x3DCCCCCD#32)) G)
def opV (G B : FVec Ideal S2816x1024 .f32) : FVec Ideal S2816x1024 .f32 :=
  addf (mulf (broadcastInDim S2816x1024 ![] bcast_S_S2816x1024 (constant S_ .f32 0x3F7FBE77#32)) B) (mulf (broadcastInDim S2816x1024 ![] bcast_S_S2816x1024 (constant S_ .f32 0x3A83126F#32)) (mulf G G))
def opD (W G A B : FVec Ideal S2816x1024 .f32) : FVec Ideal S2816x1024 .f32 :=
  mulf (broadcastInDim S2816x1024 ![] bcast_S_S2816x1024 (constant S_ .f32 0xBA83126F#32)) (addf (Host.divf (Host.divf (addf (mulf (broadcastInDim S2816x1024 ![] bcast_S_S2816x1024 (constant S_ .f32 0x3F666666#32)) A) (mulf (broadcastInDim S2816x1024 ![] bcast_S_S2816x1024 (constant S_ .f32 0x3DCCCCCD#32)) G)) (broadcastInDim S2816x1024 ![] bcast_S_S2816x1024 (constant S_ .f32 0x3F26BD02#32))) (addf (Host.sqrt (Host.divf (addf (mulf (broadcastInDim S2816x1024 ![] bcast_S_S2816x1024 (constant S_ .f32 0x3F7FBE77#32)) B) (mulf (broadcastInDim S2816x1024 ![] bcast_S_S2816x1024 (constant S_ .f32 0x3A83126F#32)) (mulf G G))) (broadcastInDim S2816x1024 ![] bcast_S_S2816x1024 (constant S_ .f32 0x3C231ACC#32)))) (broadcastInDim S2816x1024 ![] bcast_S_S2816x1024 (constant S_ .f32 0x322BCC77#32)))) (mulf (broadcastInDim S2816x1024 ![] bcast_S_S2816x1024 (constant S_ .f32 0x3C23D70A#32)) W))

theorem opM_eq (G A : FVec Ideal S2816x1024 .f32) (y : S2816x1024.Idx) : (opM G A y : EReal) = newM (G y) (A y) := by
  unfold newM
  pointwise [opM]
theorem opV_eq (G B : FVec Ideal S2816x1024 .f32) (y : S2816x1024.Idx) : (opV G B y : EReal) = newV (G y) (B y) := by
  unfold newV
  pointwise [opV]
theorem opD_eq (W G A B : FVec Ideal S2816x1024 .f32) (y : S2816x1024.Idx) : (opD W G A B y : EReal) = delta (W y) (G y) (A y) (B y) := by
  unfold delta newM newV
  pointwise [opD]

end Cert.Reference21Ideal.Value

namespace Cert.Ffn

theorem algebraic21 : Cert.algebraic_Kernel21Ideal_Reference21Ideal (hKernel21Ideal := Cert.Kernel21Ideal.Gen.facts)
    (hReference21Ideal := Cert.Reference21Ideal.Gen.facts) := by
  intro m g m' g' hpre hagree
  refine ⟨fun c => (Cert.Kernel21Ideal.Gen.dats m 0 c).arrAt 4 Cert.Kernel21Ideal.cfg0.N, fun c => (Cert.Kernel21Ideal.Gen.dats m 0 c).arrAt 5 Cert.Kernel21Ideal.cfg0.N, fun c => (Cert.Kernel21Ideal.Gen.dats m 0 c).arrAt 6 Cert.Kernel21Ideal.cfg0.N, Cert.Kernel21Ideal.Value.run_blocks m g, ?_⟩
  refine (θ_run Cert.Reference21Ideal.defs _ _).mono (fun r h c => ?_) (Cert.Reference21Ideal.Value.run (F := Ideal) m' g')
  obtain ⟨h0, h1, h2, ha⟩ := h c
  obtain ⟨e0, e1, e2, e3⟩ := hagree c
  refine ⟨h0.trans (Eq.trans (funext fun y => ?_) (Cert.Kernel21Ideal.Value.arr4 m c).symm), h1.trans (Eq.trans (funext fun y => ?_) (Cert.Kernel21Ideal.Value.arr5 m c).symm), h2.trans (Eq.trans (funext fun y => ?_) (Cert.Kernel21Ideal.Value.arr6 m c).symm), ha⟩
  · refine (Cert.Reference21Ideal.Value.opD_eq _ _ _ _ y).trans ?_
    rw [e0, e1, e2, e3]
    rfl
  · refine (Cert.Reference21Ideal.Value.opM_eq _ _ y).trans ?_
    rw [e1, e2]
    rfl
  · refine (Cert.Reference21Ideal.Value.opV_eq _ _ y).trans ?_
    rw [e1, e3]
    rfl

end Cert.Ffn

end
-- ==== Proof.Adam.WAb.lean ====
/- One step of the optimiser on the input weights of the linear mixers: the kernel's arrays, the reference, the equation. -/
module

public import proofs.«01_k».proof.Defs
public import proofs.«01_k».proof.Proof.Gen.Kernel22Ideal.Value
public import proofs.«01_k».proof.Proof.Gen.Reference22Ideal.Run
public import Idealize.ShloMosaic.Lib.Pipeline.ValueKit
public import Idealize.ShloMosaic.Lib.Pipeline.ReadBack
public import proofs.«01_k».proof.Proof.Adam.Base

@[expose] public section

set_option maxRecDepth 16384

noncomputable section

open Idealize.ShloMosaic Idealize.ShloMosaic.TcCoe Idealize.SL.Sem
open Idealize.ShloMosaic.Pipeline (Dat)
namespace Cert.Kernel22Ideal.Value
open Cert.Kernel22Ideal Cert.Kernel22Ideal.Gen Cert.Adam

variable (m : (ℓ : Loc nD τ sig) → Buf (Elt Ideal) ℓ) (c : Dev nD)

theorem pay2 (G A : Vec Ideal S512x1026 .f32) (y : S512x1026.Idx) : (k0_pay2 (F := Ideal) G A y : EReal) = newM (G y) (A y) := by
  unfold newM
  pointwise [k0_pay2, k0_pay1]
theorem pay3 (G B : Vec Ideal S512x1026 .f32) (y : S512x1026.Idx) : (k0_pay3 (F := Ideal) G B y : EReal) = newV (G y) (B y) := by
  unfold newV
  pointwise [k0_pay3, k0_pay1]
theorem pay4 (G A B W : Vec Ideal S512x1026 .f32) (y : S512x1026.Idx) : (k0_pay4 (F := Ideal) G A B W y : EReal) = delta (W y) (G y) (A y) (B y) := by
  unfold delta newM newV
  pointwise [k0_pay4, k0_pay3, k0_pay2, k0_pay1]

/-- One of the four arguments as the call takes it, in rows. -/
def rows (x : FVec Ideal S1x1024x1026 .f32) : FVec Ideal S1024x1026 .f32 := shapeCast S1024x1026 x shapeCasts_S1x1024x1026_S1024x1026
theorem entryW : V m c main_v0 = rows (m ((c : Thread nD τ).loc main_arg0)) := by
  show StableHlo.after hostOps0 _ _ = _
  after_results <;> rfl
theorem entryG : V m c main_v1 = rows (m ((c : Thread nD τ).loc main_arg1)) := by
  show StableHlo.after hostOps0 _ _ = _
  after_results <;> rfl
theorem entryA : V m c main_v2 = rows (m ((c : Thread nD τ).loc main_arg2)) := by
  show StableHlo.after hostOps0 _ _ = _
  after_results <;> rfl
theorem entryB : V m c main_v3 = rows (m ((c : Thread nD τ).loc main_arg3)) := by
  show StableHlo.after hostOps0 _ _ = _
  after_results <;> rfl

theorem arr4 : (dats m 0 c).arrAt 4 cfg0.N = fun z : S1024x1026.Idx => (delta (rows (m ((c : Thread nD τ).loc main_arg0)) z : EReal) (rows (m ((c : Thread nD τ).loc main_arg1)) z : EReal) (rows (m ((c : Thread nD τ).loc main_arg2)) z : EReal) (rows (m ((c : Thread nD τ).loc main_arg3)) z : EReal) : EReal) := by
  refine (dats m 0 c).arrAt_eq_of_covers 4 _ (by decide +kernel) fun t hf y => ?_
  rw [after0_4]
  unfold out0_4
  frame_out
  refine (pay4 _ _ _ _ y).trans ?_
  rw [← entryW m c]
  rw [← entryG m c]
  rw [← entryA m c]
  rw [← entryB m c]
  rfl

theorem arr5 : (dats m 0 c).arrAt 5 cfg0.N = fun z : S1024x1026.Idx => (newM (rows (m ((c : Thread nD τ).loc main_arg1)) z : EReal) (rows (m ((c : Thread nD τ).loc main_arg2)) z : EReal) : EReal) := by
  refine (dats m 0 c).arrAt_eq_of_covers 5 _ (by decide +kernel) fun t hf y => ?_
  rw [after0_5]
  unfold out0_5
  frame_out
  refine (pay2 _ _ y).trans ?_
  rw [← entryG m c]
  rw [← entryA m c]
  rfl

theorem arr6 : (dats m 0 c).arrAt 6 cfg0.N = fun z : S1024x1026.Idx => (newV (rows (m ((c : Thread nD τ).loc main_arg1)) z : EReal) (rows (m ((c : Thread nD τ).loc main_arg3)) z : EReal) : EReal) := by
  refine (dats m 0 c).arrAt_eq_of_covers 6 _ (by decide +kernel) fun t hf y => ?_
  rw [after0_6]
  unfold out0_6
  frame_out
  refine (pay3 _ _ y).trans ?_
  rw [← entryG m c]
  rw [← entryB m c]
  rfl

end Cert.Kernel22Ideal.Value

namespace Cert.Reference22Ideal.Value
open Cert.Reference22Ideal Cert.Reference22Ideal.Gen Cert.Adam

/-- The reference's operations. -/
def opM (G A : FVec Ideal S1024x1026 .f32) : FVec Ideal S1024x1026 .f32 :=
  addf (mulf (broadcastInDim S1024x1026 ![] bcast_S_S1024x1026 (constant S_ .f32 0x3F666666#32)) A) (mulf (broadcastInDim S1024x1026 ![] bcast_S_S1024x1026 (constant S_ .f32 0x3DCCCCCD#32)) G)
def opV (G B : FVec Ideal S1024x1026 .f32) : FVec Ideal S1024x1026 .f32 :=
  addf (mulf (broadcastInDim S1024x1026 ![] bcast_S_S1024x1026 (constant S_ .f32 0x3F7FBE77#32)) B) (mulf (broadcastInDim S1024x1026 ![] bcast_S_S1024x1026 (constant S_ .f32 0x3A83126F#32)) (mulf G G))
def opD (W G A B : FVec Ideal S1024x1026 .f32) : FVec Ideal S1024x1026 .f32 :=
  mulf (broadcastInDim S1024x1026 ![] bcast_S_S1024x1026 (constant S_ .f32 0xBA83126F#32)) (addf (Host.divf (Host.divf (addf (mulf (broadcastInDim S1024x1026 ![] bcast_S_S1024x1026 (constant S_ .f32 0x3F666666#32)) A) (mulf (broadcastInDim S1024x1026 ![] bcast_S_S1024x1026 (constant S_ .f32 0x3DCCCCCD#32)) G)) (broadcastInDim S1024x1026 ![] bcast_S_S1024x1026 (constant S_ .f32 0x3F26BD02#32))) (addf (Host.sqrt (Host.divf (addf (mulf (broadcastInDim S1024x1026 ![] bcast_S_S1024x1026 (constant S_ .f32 0x3F7FBE77#32)) B) (mulf (broadcastInDim S1024x1026 ![] bcast_S_S1024x1026 (constant S_ .f32 0x3A83126F#32)) (mulf G G))) (broadcastInDim S1024x1026 ![] bcast_S_S1024x1026 (constant S_ .f32 0x3C231ACC#32)))) (broadcastInDim S1024x1026 ![] bcast_S_S1024x1026 (constant S_ .f32 0x322BCC77#32)))) (mulf (broadcastInDim S1024x1026 ![] bcast_S_S1024x1026 (constant S_ .f32 0x3C23D70A#32)) W))

theorem opM_eq (G A : FVec Ideal S1024x1026 .f32) (y : S1024x1026.Idx) : (opM G A y : EReal) = newM (G y) (A y) := by
  unfold newM
  pointwise [opM]
theorem opV_eq (G B : FVec Ideal S1024x1026 .f32) (y : S1024x1026.Idx) : (opV G B y : EReal) = newV (G y) (B y) := by
  unfold newV
  pointwise [opV]
theorem opD_eq (W G A B : FVec Ideal S1024x1026 .f32) (y : S1024x1026.Idx) : (opD W G A B y : EReal) = delta (W y) (G y) (A y) (B y) := by
  unfold delta newM newV
  pointwise [opD]

end Cert.Reference22Ideal.Value

namespace Cert.Ffn

theorem algebraic22 : Cert.algebraic_Kernel22Ideal_Reference22Ideal (hKernel22Ideal := Cert.Kernel22Ideal.Gen.facts)
    (hReference22Ideal := Cert.Reference22Ideal.Gen.facts) := by
  intro m g m' g' hpre hagree
  refine ⟨fun c => (Cert.Kernel22Ideal.Gen.dats m 0 c).arrAt 4 Cert.Kernel22Ideal.cfg0.N, fun c => (Cert.Kernel22Ideal.Gen.dats m 0 c).arrAt 5 Cert.Kernel22Ideal.cfg0.N, fun c => (Cert.Kernel22Ideal.Gen.dats m 0 c).arrAt 6 Cert.Kernel22Ideal.cfg0.N, Cert.Kernel22Ideal.Value.run_blocks m g, ?_⟩
  refine (θ_run Cert.Reference22Ideal.defs _ _).mono (fun r h c => ?_) (Cert.Reference22Ideal.Value.run (F := Ideal) m' g')
  obtain ⟨h0, h1, h2, ha⟩ := h c
  obtain ⟨e0, e1, e2, e3⟩ := hagree c
  refine ⟨h0.trans (Eq.trans (funext fun y => ?_) (Cert.Kernel22Ideal.Value.arr4 m c).symm), h1.trans (Eq.trans (funext fun y => ?_) (Cert.Kernel22Ideal.Value.arr5 m c).symm), h2.trans (Eq.trans (funext fun y => ?_) (Cert.Kernel22Ideal.Value.arr6 m c).symm), ha⟩
  · refine (Cert.Reference22Ideal.Value.opD_eq _ _ _ _ y).trans ?_
    rw [e0, e1, e2, e3]
    rfl
  · refine (Cert.Reference22Ideal.Value.opM_eq _ _ y).trans ?_
    rw [e1, e2]
    rfl
  · refine (Cert.Reference22Ideal.Value.opV_eq _ _ y).trans ?_
    rw [e1, e3]
    rfl

end Cert.Ffn

end
-- ==== Proof.Adam.WCd.lean ====
/- One step of the optimiser on the input weights of the attention mixers: the kernel's arrays, the reference, the equation. -/
module

public import proofs.«01_k».proof.Defs
public import proofs.«01_k».proof.Proof.Gen.Kernel23Ideal.Value
public import proofs.«01_k».proof.Proof.Gen.Reference23Ideal.Run
public import Idealize.ShloMosaic.Lib.Pipeline.ValueKit
public import Idealize.ShloMosaic.Lib.Pipeline.ReadBack
public import proofs.«01_k».proof.Proof.Adam.Base

@[expose] public section

set_option maxRecDepth 16384

noncomputable section

open Idealize.ShloMosaic Idealize.ShloMosaic.TcCoe Idealize.SL.Sem
open Idealize.ShloMosaic.Pipeline (Dat)
namespace Cert.Kernel23Ideal.Value
open Cert.Kernel23Ideal Cert.Kernel23Ideal.Gen Cert.Adam

variable (m : (ℓ : Loc nD τ sig) → Buf (Elt Ideal) ℓ) (c : Dev nD)

theorem pay2 (G A : Vec Ideal S512x576 .f32) (y : S512x576.Idx) : (k0_pay2 (F := Ideal) G A y : EReal) = newM (G y) (A y) := by
  unfold newM
  pointwise [k0_pay2, k0_pay1]
theorem pay3 (G B : Vec Ideal S512x576 .f32) (y : S512x576.Idx) : (k0_pay3 (F := Ideal) G B y : EReal) = newV (G y) (B y) := by
  unfold newV
  pointwise [k0_pay3, k0_pay1]
theorem pay4 (G A B W : Vec Ideal S512x576 .f32) (y : S512x576.Idx) : (k0_pay4 (F := Ideal) G A B W y : EReal) = delta (W y) (G y) (A y) (B y) := by
  unfold delta newM newV
  pointwise [k0_pay4, k0_pay3, k0_pay2, k0_pay1]

/-- One of the four arguments as the call takes it, in rows. -/
def rows (x : FVec Ideal S1x1024x576 .f32) : FVec Ideal S1024x576 .f32 := shapeCast S1024x576 x shapeCasts_S1x1024x576_S1024x576
theorem entryW : V m c main_v0 = rows (m ((c : Thread nD τ).loc main_arg0)) := by
  show StableHlo.after hostOps0 _ _ = _
  after_results <;> rfl
theorem entryG : V m c main_v1 = rows (m ((c : Thread nD τ).loc main_arg1)) := by
  show StableHlo.after hostOps0 _ _ = _
  after_results <;> rfl
theorem entryA : V m c main_v2 = rows (m ((c : Thread nD τ).loc main_arg2)) := by
  show StableHlo.after hostOps0 _ _ = _
  after_results <;> rfl
theorem entryB : V m c main_v3 = rows (m ((c : Thread nD τ).loc main_arg3)) := by
  show StableHlo.after hostOps0 _ _ = _
  after_results <;> rfl

theorem arr4 : (dats m 0 c).arrAt 4 cfg0.N = fun z : S1024x576.Idx => (delta (rows (m ((c : Thread nD τ).loc main_arg0)) z : EReal) (rows (m ((c : Thread nD τ).loc main_arg1)) z : EReal) (rows (m ((c : Thread nD τ).loc main_arg2)) z : EReal) (rows (m ((c : Thread nD τ).loc main_arg3)) z : EReal) : EReal) := by
  refine (dats m 0 c).arrAt_eq_of_covers 4 _ (by decide +kernel) fun t hf y => ?_
  rw [after0_4]
  unfold out0_4
  frame_out
  refine (pay4 _ _ _ _ y).trans ?_
  rw [← entryW m c]
  rw [← entryG m c]
  rw [← entryA m c]
  rw [← entryB m c]
  rfl

theorem arr5 : (dats m 0 c).arrAt 5 cfg0.N = fun z : S1024x576.Idx => (newM (rows (m ((c : Thread nD τ).loc main_arg1)) z : EReal) (rows (m ((c : Thread nD τ).loc main_arg2)) z : EReal) : EReal) := by
  refine (dats m 0 c).arrAt_eq_of_covers 5 _ (by decide +kernel) fun t hf y => ?_
  rw [after0_5]
  unfold out0_5
  frame_out
  refine (pay2 _ _ y).trans ?_
  rw [← entryG m c]
  rw [← entryA m c]
  rfl

theorem arr6 : (dats m 0 c).arrAt 6 cfg0.N = fun z : S1024x576.Idx => (newV (rows (m ((c : Thread nD τ).loc main_arg1)) z : EReal) (rows (m ((c : Thread nD τ).loc main_arg3)) z : EReal) : EReal) := by
  refine (dats m 0 c).arrAt_eq_of_covers 6 _ (by decide +kernel) fun t hf y => ?_
  rw [after0_6]
  unfold out0_6
  frame_out
  refine (pay3 _ _ y).trans ?_
  rw [← entryG m c]
  rw [← entryB m c]
  rfl

end Cert.Kernel23Ideal.Value

namespace Cert.Reference23Ideal.Value
open Cert.Reference23Ideal Cert.Reference23Ideal.Gen Cert.Adam

/-- The reference's operations. -/
def opM (G A : FVec Ideal S1024x576 .f32) : FVec Ideal S1024x576 .f32 :=
  addf (mulf (broadcastInDim S1024x576 ![] bcast_S_S1024x576 (constant S_ .f32 0x3F666666#32)) A) (mulf (broadcastInDim S1024x576 ![] bcast_S_S1024x576 (constant S_ .f32 0x3DCCCCCD#32)) G)
def opV (G B : FVec Ideal S1024x576 .f32) : FVec Ideal S1024x576 .f32 :=
  addf (mulf (broadcastInDim S1024x576 ![] bcast_S_S1024x576 (constant S_ .f32 0x3F7FBE77#32)) B) (mulf (broadcastInDim S1024x576 ![] bcast_S_S1024x576 (constant S_ .f32 0x3A83126F#32)) (mulf G G))
def opD (W G A B : FVec Ideal S1024x576 .f32) : FVec Ideal S1024x576 .f32 :=
  mulf (broadcastInDim S1024x576 ![] bcast_S_S1024x576 (constant S_ .f32 0xBA83126F#32)) (addf (Host.divf (Host.divf (addf (mulf (broadcastInDim S1024x576 ![] bcast_S_S1024x576 (constant S_ .f32 0x3F666666#32)) A) (mulf (broadcastInDim S1024x576 ![] bcast_S_S1024x576 (constant S_ .f32 0x3DCCCCCD#32)) G)) (broadcastInDim S1024x576 ![] bcast_S_S1024x576 (constant S_ .f32 0x3F26BD02#32))) (addf (Host.sqrt (Host.divf (addf (mulf (broadcastInDim S1024x576 ![] bcast_S_S1024x576 (constant S_ .f32 0x3F7FBE77#32)) B) (mulf (broadcastInDim S1024x576 ![] bcast_S_S1024x576 (constant S_ .f32 0x3A83126F#32)) (mulf G G))) (broadcastInDim S1024x576 ![] bcast_S_S1024x576 (constant S_ .f32 0x3C231ACC#32)))) (broadcastInDim S1024x576 ![] bcast_S_S1024x576 (constant S_ .f32 0x322BCC77#32)))) (mulf (broadcastInDim S1024x576 ![] bcast_S_S1024x576 (constant S_ .f32 0x3C23D70A#32)) W))

theorem opM_eq (G A : FVec Ideal S1024x576 .f32) (y : S1024x576.Idx) : (opM G A y : EReal) = newM (G y) (A y) := by
  unfold newM
  pointwise [opM]
theorem opV_eq (G B : FVec Ideal S1024x576 .f32) (y : S1024x576.Idx) : (opV G B y : EReal) = newV (G y) (B y) := by
  unfold newV
  pointwise [opV]
theorem opD_eq (W G A B : FVec Ideal S1024x576 .f32) (y : S1024x576.Idx) : (opD W G A B y : EReal) = delta (W y) (G y) (A y) (B y) := by
  unfold delta newM newV
  pointwise [opD]

end Cert.Reference23Ideal.Value

namespace Cert.Ffn

theorem algebraic23 : Cert.algebraic_Kernel23Ideal_Reference23Ideal (hKernel23Ideal := Cert.Kernel23Ideal.Gen.facts)
    (hReference23Ideal := Cert.Reference23Ideal.Gen.facts) := by
  intro m g m' g' hpre hagree
  refine ⟨fun c => (Cert.Kernel23Ideal.Gen.dats m 0 c).arrAt 4 Cert.Kernel23Ideal.cfg0.N, fun c => (Cert.Kernel23Ideal.Gen.dats m 0 c).arrAt 5 Cert.Kernel23Ideal.cfg0.N, fun c => (Cert.Kernel23Ideal.Gen.dats m 0 c).arrAt 6 Cert.Kernel23Ideal.cfg0.N, Cert.Kernel23Ideal.Value.run_blocks m g, ?_⟩
  refine (θ_run Cert.Reference23Ideal.defs _ _).mono (fun r h c => ?_) (Cert.Reference23Ideal.Value.run (F := Ideal) m' g')
  obtain ⟨h0, h1, h2, ha⟩ := h c
  obtain ⟨e0, e1, e2, e3⟩ := hagree c
  refine ⟨h0.trans (Eq.trans (funext fun y => ?_) (Cert.Kernel23Ideal.Value.arr4 m c).symm), h1.trans (Eq.trans (funext fun y => ?_) (Cert.Kernel23Ideal.Value.arr5 m c).symm), h2.trans (Eq.trans (funext fun y => ?_) (Cert.Kernel23Ideal.Value.arr6 m c).symm), ha⟩
  · refine (Cert.Reference23Ideal.Value.opD_eq _ _ _ _ y).trans ?_
    rw [e0, e1, e2, e3]
    rfl
  · refine (Cert.Reference23Ideal.Value.opM_eq _ _ y).trans ?_
    rw [e1, e2]
    rfl
  · refine (Cert.Reference23Ideal.Value.opV_eq _ _ y).trans ?_
    rw [e1, e3]
    rfl

end Cert.Ffn

end
-- ==== Proof.Adam.WOut.lean ====
/- One step of the optimiser on the output weights of the mixers: the kernel's arrays, the reference, the equation. -/
module

public import proofs.«01_k».proof.Defs
public import proofs.«01_k».proof.Proof.Gen.Kernel24Ideal.Value
public import proofs.«01_k».proof.Proof.Gen.Reference24Ideal.Run
public import Idealize.ShloMosaic.Lib.Pipeline.ValueKit
public import Idealize.ShloMosaic.Lib.Pipeline.ReadBack
public import proofs.«01_k».proof.Proof.Adam.Base

@[expose] public section

set_option maxRecDepth 16384

noncomputable section

open Idealize.ShloMosaic Idealize.ShloMosaic.TcCoe Idealize.SL.Sem
open Idealize.ShloMosaic.Pipeline (Dat)
namespace Cert.Kernel24Ideal.Value
open Cert.Kernel24Ideal Cert.Kernel24Ideal.Gen Cert.Adam

variable (m : (ℓ : Loc nD τ sig) → Buf (Elt Ideal) ℓ) (c : Dev nD)

theorem pay2 (G A : Vec Ideal S256x1024 .f32) (y : S256x1024.Idx) : (k0_pay2 (F := Ideal) G A y : EReal) = newM (G y) (A y) := by
  unfold newM
  pointwise [k0_pay2, k0_pay1]
theorem pay3 (G B : Vec Ideal S256x1024 .f32) (y : S256x1024.Idx) : (k0_pay3 (F := Ideal) G B y : EReal) = newV (G y) (B y) := by
  unfold newV
  pointwise [k0_pay3, k0_pay1]
theorem pay4 (G A B W : Vec Ideal S256x1024 .f32) (y : S256x1024.Idx) : (k0_pay4 (F := Ideal) G A B W y : EReal) = delta (W y) (G y) (A y) (B y) := by
  unfold delta newM newV
  pointwise [k0_pay4, k0_pay3, k0_pay2, k0_pay1]

/-- One of the four arguments as the call takes it, in rows. -/
def rows (x : FVec Ideal S1x256x1024 .f32) : FVec Ideal S256x1024 .f32 := shapeCast S256x1024 x shapeCasts_S1x256x1024_S256x1024
theorem entryW : V m c main_v0 = rows (m ((c : Thread nD τ).loc main_arg0)) := by
  show StableHlo.after hostOps0 _ _ = _
  after_results <;> rfl
theorem entryG : V m c main_v1 = rows (m ((c : Thread nD τ).loc main_arg1)) := by
  show StableHlo.after hostOps0 _ _ = _
  after_results <;> rfl
theorem entryA : V m c main_v2 = rows (m ((c : Thread nD τ).loc main_arg2)) := by
  show StableHlo.after hostOps0 _ _ = _
  after_results <;> rfl
theorem entryB : V m c main_v3 = rows (m ((c : Thread nD τ).loc main_arg3)) := by
  show StableHlo.after hostOps0 _ _ = _
  after_results <;> rfl

theorem arr4 : (dats m 0 c).arrAt 4 cfg0.N = fun z : S256x1024.Idx => (delta (rows (m ((c : Thread nD τ).loc main_arg0)) z : EReal) (rows (m ((c : Thread nD τ).loc main_arg1)) z : EReal) (rows (m ((c : Thread nD τ).loc main_arg2)) z : EReal) (rows (m ((c : Thread nD τ).loc main_arg3)) z : EReal) : EReal) := by
  refine (dats m 0 c).arrAt_eq_of_covers 4 _ (by decide +kernel) fun t hf y => ?_
  rw [after0_4]
  unfold out0_4
  frame_out
  refine (pay4 _ _ _ _ y).trans ?_
  rw [← entryW m c]
  rw [← entryG m c]
  rw [← entryA m c]
  rw [← entryB m c]
  rfl

theorem arr5 : (dats m 0 c).arrAt 5 cfg0.N = fun z : S256x1024.Idx => (newM (rows (m ((c : Thread nD τ).loc main_arg1)) z : EReal) (rows (m ((c : Thread nD τ).loc main_arg2)) z : EReal) : EReal) := by
  refine (dats m 0 c).arrAt_eq_of_covers 5 _ (by decide +kernel) fun t hf y => ?_
  rw [after0_5]
  unfold out0_5
  frame_out
  refine (pay2 _ _ y).trans ?_
  rw [← entryG m c]
  rw [← entryA m c]
  rfl

theorem arr6 : (dats m 0 c).arrAt 6 cfg0.N = fun z : S256x1024.Idx => (newV (rows (m ((c : Thread nD τ).loc main_arg1)) z : EReal) (rows (m ((c : Thread nD τ).loc main_arg3)) z : EReal) : EReal) := by
  refine (dats m 0 c).arrAt_eq_of_covers 6 _ (by decide +kernel) fun t hf y => ?_
  rw [after0_6]
  unfold out0_6
  frame_out
  refine (pay3 _ _ y).trans ?_
  rw [← entryG m c]
  rw [← entryB m c]
  rfl

end Cert.Kernel24Ideal.Value

namespace Cert.Reference24Ideal.Value
open Cert.Reference24Ideal Cert.Reference24Ideal.Gen Cert.Adam

/-- The reference's operations. -/
def opM (G A : FVec Ideal S256x1024 .f32) : FVec Ideal S256x1024 .f32 :=
  addf (mulf (broadcastInDim S256x1024 ![] bcast_S_S256x1024 (constant S_ .f32 0x3F666666#32)) A) (mulf (broadcastInDim S256x1024 ![] bcast_S_S256x1024 (constant S_ .f32 0x3DCCCCCD#32)) G)
def opV (G B : FVec Ideal S256x1024 .f32) : FVec Ideal S256x1024 .f32 :=
  addf (mulf (broadcastInDim S256x1024 ![] bcast_S_S256x1024 (constant S_ .f32 0x3F7FBE77#32)) B) (mulf (broadcastInDim S256x1024 ![] bcast_S_S256x1024 (constant S_ .f32 0x3A83126F#32)) (mulf G G))
def opD (W G A B : FVec Ideal S256x1024 .f32) : FVec Ideal S256x1024 .f32 :=
  mulf (broadcastInDim S256x1024 ![] bcast_S_S256x1024 (constant S_ .f32 0xBA83126F#32)) (addf (Host.divf (Host.divf (addf (mulf (broadcastInDim S256x1024 ![] bcast_S_S256x1024 (constant S_ .f32 0x3F666666#32)) A) (mulf (broadcastInDim S256x1024 ![] bcast_S_S256x1024 (constant S_ .f32 0x3DCCCCCD#32)) G)) (broadcastInDim S256x1024 ![] bcast_S_S256x1024 (constant S_ .f32 0x3F26BD02#32))) (addf (Host.sqrt (Host.divf (addf (mulf (broadcastInDim S256x1024 ![] bcast_S_S256x1024 (constant S_ .f32 0x3F7FBE77#32)) B) (mulf (broadcastInDim S256x1024 ![] bcast_S_S256x1024 (constant S_ .f32 0x3A83126F#32)) (mulf G G))) (broadcastInDim S256x1024 ![] bcast_S_S256x1024 (constant S_ .f32 0x3C231ACC#32)))) (broadcastInDim S256x1024 ![] bcast_S_S256x1024 (constant S_ .f32 0x322BCC77#32)))) (mulf (broadcastInDim S256x1024 ![] bcast_S_S256x1024 (constant S_ .f32 0x3C23D70A#32)) W))

theorem opM_eq (G A : FVec Ideal S256x1024 .f32) (y : S256x1024.Idx) : (opM G A y : EReal) = newM (G y) (A y) := by
  unfold newM
  pointwise [opM]
theorem opV_eq (G B : FVec Ideal S256x1024 .f32) (y : S256x1024.Idx) : (opV G B y : EReal) = newV (G y) (B y) := by
  unfold newV
  pointwise [opV]
theorem opD_eq (W G A B : FVec Ideal S256x1024 .f32) (y : S256x1024.Idx) : (opD W G A B y : EReal) = delta (W y) (G y) (A y) (B y) := by
  unfold delta newM newV
  pointwise [opD]

end Cert.Reference24Ideal.Value

namespace Cert.Ffn

theorem algebraic24 : Cert.algebraic_Kernel24Ideal_Reference24Ideal (hKernel24Ideal := Cert.Kernel24Ideal.Gen.facts)
    (hReference24Ideal := Cert.Reference24Ideal.Gen.facts) := by
  intro m g m' g' hpre hagree
  refine ⟨fun c => (Cert.Kernel24Ideal.Gen.dats m 0 c).arrAt 4 Cert.Kernel24Ideal.cfg0.N, fun c => (Cert.Kernel24Ideal.Gen.dats m 0 c).arrAt 5 Cert.Kernel24Ideal.cfg0.N, fun c => (Cert.Kernel24Ideal.Gen.dats m 0 c).arrAt 6 Cert.Kernel24Ideal.cfg0.N, Cert.Kernel24Ideal.Value.run_blocks m g, ?_⟩
  refine (θ_run Cert.Reference24Ideal.defs _ _).mono (fun r h c => ?_) (Cert.Reference24Ideal.Value.run (F := Ideal) m' g')
  obtain ⟨h0, h1, h2, ha⟩ := h c
  obtain ⟨e0, e1, e2, e3⟩ := hagree c
  refine ⟨h0.trans (Eq.trans (funext fun y => ?_) (Cert.Kernel24Ideal.Value.arr4 m c).symm), h1.trans (Eq.trans (funext fun y => ?_) (Cert.Kernel24Ideal.Value.arr5 m c).symm), h2.trans (Eq.trans (funext fun y => ?_) (Cert.Kernel24Ideal.Value.arr6 m c).symm), ha⟩
  · refine (Cert.Reference24Ideal.Value.opD_eq _ _ _ _ y).trans ?_
    rw [e0, e1, e2, e3]
    rfl
  · refine (Cert.Reference24Ideal.Value.opM_eq _ _ y).trans ?_
    rw [e1, e2]
    rfl
  · refine (Cert.Reference24Ideal.Value.opV_eq _ _ y).trans ?_
    rw [e1, e3]
    rfl

end Cert.Ffn

end
-- ==== Proof.Adam.Meta.lean ====
/- One step of the optimiser on the meta rows: the kernel's arrays, the reference, the equation. -/
module

public import proofs.«01_k».proof.Defs
public import proofs.«01_k».proof.Proof.Gen.Kernel25Ideal.Value
public import proofs.«01_k».proof.Proof.Gen.Reference25Ideal.Run
public import Idealize.ShloMosaic.Lib.Pipeline.ValueKit
public import Idealize.ShloMosaic.Lib.Pipeline.ReadBack
public import proofs.«01_k».proof.Proof.Adam.Base

@[expose] public section

set_option maxRecDepth 16384

noncomputable section

open Idealize.ShloMosaic Idealize.ShloMosaic.TcCoe Idealize.SL.Sem
namespace Cert.Reference25Ideal.Value
open Cert.Reference25Ideal Cert.Reference25Ideal.Gen Cert.Adam

/-- The reference's operations. -/
def opM (G A : FVec Ideal S16x256 .f32) : FVec Ideal S16x256 .f32 :=
  addf (mulf (broadcastInDim S16x256 ![] bcast_S_S16x256 (constant S_ .f32 0x3F666666#32)) A) (mulf (broadcastInDim S16x256 ![] bcast_S_S16x256 (constant S_ .f32 0x3DCCCCCD#32)) G)
def opV (G B : FVec Ideal S16x256 .f32) : FVec Ideal S16x256 .f32 :=
  addf (mulf (broadcastInDim S16x256 ![] bcast_S_S16x256 (constant S_ .f32 0x3F7FBE77#32)) B) (mulf (broadcastInDim S16x256 ![] bcast_S_S16x256 (constant S_ .f32 0x3A83126F#32)) (mulf G G))
def opD (W G A B : FVec Ideal S16x256 .f32) : FVec Ideal S16x256 .f32 :=
  mulf (broadcastInDim S16x256 ![] bcast_S_S16x256 (constant S_ .f32 0xBA83126F#32)) (addf (Host.divf (Host.divf (addf (mulf (broadcastInDim S16x256 ![] bcast_S_S16x256 (constant S_ .f32 0x3F666666#32)) A) (mulf (broadcastInDim S16x256 ![] bcast_S_S16x256 (constant S_ .f32 0x3DCCCCCD#32)) G)) (broadcastInDim S16x256 ![] bcast_S_S16x256 (constant S_ .f32 0x3F26BD02#32))) (addf (Host.sqrt (Host.divf (addf (mulf (broadcastInDim S16x256 ![] bcast_S_S16x256 (constant S_ .f32 0x3F7FBE77#32)) B) (mulf (broadcastInDim S16x256 ![] bcast_S_S16x256 (constant S_ .f32 0x3A83126F#32)) (mulf G G))) (broadcastInDim S16x256 ![] bcast_S_S16x256 (constant S_ .f32 0x3C231ACC#32)))) (broadcastInDim S16x256 ![] bcast_S_S16x256 (constant S_ .f32 0x322BCC77#32)))) (mulf (broadcastInDim S16x256 ![] bcast_S_S16x256 (constant S_ .f32 0x3C23D70A#32)) W))

theorem opM_eq (G A : FVec Ideal S16x256 .f32) (y : S16x256.Idx) : (opM G A y : EReal) = newM (G y) (A y) := by
  unfold newM
  pointwise [opM]
theorem opV_eq (G B : FVec Ideal S16x256 .f32) (y : S16x256.Idx) : (opV G B y : EReal) = newV (G y) (B y) := by
  unfold newV
  pointwise [opV]
theorem opD_eq (W G A B : FVec Ideal S16x256 .f32) (y : S16x256.Idx) : (opD W G A B y : EReal) = delta (W y) (G y) (A y) (B y) := by
  unfold delta newM newV
  pointwise [opD]

end Cert.Reference25Ideal.Value

namespace Cert.Ffn

theorem algebraic25 : Cert.algebraic_Kernel25Ideal_Reference25Ideal (hKernel25Ideal := Cert.Kernel25Ideal.Gen.facts)
    (hReference25Ideal := Cert.Reference25Ideal.Gen.facts) := by
  intro m g m' g' hpre hagree
  refine ⟨_, _, _, Cert.Kernel25Ideal.Value.run m g, ?_⟩
  refine (θ_run Cert.Reference25Ideal.defs _ _).mono (fun r h c => ?_) (Cert.Reference25Ideal.Value.run (F := Ideal) m' g')
  obtain ⟨h0, h1, h2, ha⟩ := h c
  obtain ⟨e0, e1, e2, e3⟩ := hagree c
  refine ⟨h0.trans (funext fun y => ?_), h1.trans (funext fun y => ?_), h2.trans (funext fun y => ?_), ha⟩
  · refine (Cert.Reference25Ideal.Value.opD_eq _ _ _ _ y).trans ?_
    rw [e0, e1, e2, e3]
    rfl
  · refine (Cert.Reference25Ideal.Value.opM_eq _ _ y).trans ?_
    rw [e1, e2]
    rfl
  · refine (Cert.Reference25Ideal.Value.opV_eq _ _ y).trans ?_
    rw [e1, e3]
    rfl

end Cert.Ffn

end
-- ==== Proof.Adam.Gains.lean ====
/- One step of the optimiser on the gains of the norms: the kernel's arrays, the reference, the equation. -/
module

public import proofs.«01_k».proof.Defs
public import proofs.«01_k».proof.Proof.Gen.Kernel26Ideal.Value
public import proofs.«01_k».proof.Proof.Gen.Reference26Ideal.Run
public import Idealize.ShloMosaic.Lib.Pipeline.ValueKit
public import Idealize.ShloMosaic.Lib.Pipeline.ReadBack
public import proofs.«01_k».proof.Proof.Adam.Base

@[expose] public section

set_option maxRecDepth 16384

noncomputable section

open Idealize.ShloMosaic Idealize.ShloMosaic.TcCoe Idealize.SL.Sem
open Idealize.ShloMosaic.Pipeline (Dat)
namespace Cert.Kernel26Ideal.Value
open Cert.Kernel26Ideal Cert.Kernel26Ideal.Gen Cert.Adam

variable (m : (ℓ : Loc nD τ sig) → Buf (Elt Ideal) ℓ) (c : Dev nD)

theorem pay2 (G A : Vec Ideal S12x256 .f32) (y : S12x256.Idx) : (k0_pay2 (F := Ideal) G A y : EReal) = newM (G y) (A y) := by
  unfold newM
  pointwise [k0_pay2, k0_pay1]
theorem pay3 (G B : Vec Ideal S12x256 .f32) (y : S12x256.Idx) : (k0_pay3 (F := Ideal) G B y : EReal) = newV (G y) (B y) := by
  unfold newV
  pointwise [k0_pay3, k0_pay1]
theorem pay4 (G A B W : Vec Ideal S12x256 .f32) (y : S12x256.Idx) : (k0_pay4 (F := Ideal) G A B W y : EReal) = delta (W y) (G y) (A y) (B y) := by
  unfold delta newM newV
  pointwise [k0_pay4, k0_pay3, k0_pay2, k0_pay1]

/-- One of the four arguments as the call takes it, in rows. -/
def rows (x : FVec Ideal S2x6x256 .f32) : FVec Ideal S12x256 .f32 := shapeCast S12x256 x shapeCasts_S2x6x256_S12x256
theorem entryW : V m c main_v0 = rows (m ((c : Thread nD τ).loc main_arg0)) := by
  show StableHlo.after hostOps0 _ _ = _
  after_results <;> rfl
theorem entryG : V m c main_v1 = rows (m ((c : Thread nD τ).loc main_arg1)) := by
  show StableHlo.after hostOps0 _ _ = _
  after_results <;> rfl
theorem entryA : V m c main_v2 = rows (m ((c : Thread nD τ).loc main_arg2)) := by
  show StableHlo.after hostOps0 _ _ = _
  after_results <;> rfl
theorem entryB : V m c main_v3 = rows (m ((c : Thread nD τ).loc main_arg3)) := by
  show StableHlo.after hostOps0 _ _ = _
  after_results <;> rfl

theorem arr4 : (dats m 0 c).arrAt 4 cfg0.N = fun z : S12x256.Idx => (delta (rows (m ((c : Thread nD τ).loc main_arg0)) z : EReal) (rows (m ((c : Thread nD τ).loc main_arg1)) z : EReal) (rows (m ((c : Thread nD τ).loc main_arg2)) z : EReal) (rows (m ((c : Thread nD τ).loc main_arg3)) z : EReal) : EReal) := by
  refine (dats m 0 c).arrAt_eq_of_covers 4 _ (by decide +kernel) fun t hf y => ?_
  rw [after0_4]
  unfold out0_4
  frame_out
  refine (pay4 _ _ _ _ y).trans ?_
  rw [← entryW m c]
  rw [← entryG m c]
  rw [← entryA m c]
  rw [← entryB m c]
  rfl

theorem arr5 : (dats m 0 c).arrAt 5 cfg0.N = fun z : S12x256.Idx => (newM (rows (m ((c : Thread nD τ).loc main_arg1)) z : EReal) (rows (m ((c : Thread nD τ).loc main_arg2)) z : EReal) : EReal) := by
  refine (dats m 0 c).arrAt_eq_of_covers 5 _ (by decide +kernel) fun t hf y => ?_
  rw [after0_5]
  unfold out0_5
  frame_out
  refine (pay2 _ _ y).trans ?_
  rw [← entryG m c]
  rw [← entryA m c]
  rfl

theorem arr6 : (dats m 0 c).arrAt 6 cfg0.N = fun z : S12x256.Idx => (newV (rows (m ((c : Thread nD τ).loc main_arg1)) z : EReal) (rows (m ((c : Thread nD τ).loc main_arg3)) z : EReal) : EReal) := by
  refine (dats m 0 c).arrAt_eq_of_covers 6 _ (by decide +kernel) fun t hf y => ?_
  rw [after0_6]
  unfold out0_6
  frame_out
  refine (pay3 _ _ y).trans ?_
  rw [← entryG m c]
  rw [← entryB m c]
  rfl

end Cert.Kernel26Ideal.Value

namespace Cert.Reference26Ideal.Value
open Cert.Reference26Ideal Cert.Reference26Ideal.Gen Cert.Adam

/-- The reference's operations. -/
def opM (G A : FVec Ideal S12x256 .f32) : FVec Ideal S12x256 .f32 :=
  addf (mulf (broadcastInDim S12x256 ![] bcast_S_S12x256 (constant S_ .f32 0x3F666666#32)) A) (mulf (broadcastInDim S12x256 ![] bcast_S_S12x256 (constant S_ .f32 0x3DCCCCCD#32)) G)
def opV (G B : FVec Ideal S12x256 .f32) : FVec Ideal S12x256 .f32 :=
  addf (mulf (broadcastInDim S12x256 ![] bcast_S_S12x256 (constant S_ .f32 0x3F7FBE77#32)) B) (mulf (broadcastInDim S12x256 ![] bcast_S_S12x256 (constant S_ .f32 0x3A83126F#32)) (mulf G G))
def opD (W G A B : FVec Ideal S12x256 .f32) : FVec Ideal S12x256 .f32 :=
  mulf (broadcastInDim S12x256 ![] bcast_S_S12x256 (constant S_ .f32 0xBA83126F#32)) (addf (Host.divf (Host.divf (addf (mulf (broadcastInDim S12x256 ![] bcast_S_S12x256 (constant S_ .f32 0x3F666666#32)) A) (mulf (broadcastInDim S12x256 ![] bcast_S_S12x256 (constant S_ .f32 0x3DCCCCCD#32)) G)) (broadcastInDim S12x256 ![] bcast_S_S12x256 (constant S_ .f32 0x3F26BD02#32))) (addf (Host.sqrt (Host.divf (addf (mulf (broadcastInDim S12x256 ![] bcast_S_S12x256 (constant S_ .f32 0x3F7FBE77#32)) B) (mulf (broadcastInDim S12x256 ![] bcast_S_S12x256 (constant S_ .f32 0x3A83126F#32)) (mulf G G))) (broadcastInDim S12x256 ![] bcast_S_S12x256 (constant S_ .f32 0x3C231ACC#32)))) (broadcastInDim S12x256 ![] bcast_S_S12x256 (constant S_ .f32 0x322BCC77#32)))) (mulf (broadcastInDim S12x256 ![] bcast_S_S12x256 (constant S_ .f32 0x3C23D70A#32)) W))

theorem opM_eq (G A : FVec Ideal S12x256 .f32) (y : S12x256.Idx) : (opM G A y : EReal) = newM (G y) (A y) := by
  unfold newM
  pointwise [opM]
theorem opV_eq (G B : FVec Ideal S12x256 .f32) (y : S12x256.Idx) : (opV G B y : EReal) = newV (G y) (B y) := by
  unfold newV
  pointwise [opV]
theorem opD_eq (W G A B : FVec Ideal S12x256 .f32) (y : S12x256.Idx) : (opD W G A B y : EReal) = delta (W y) (G y) (A y) (B y) := by
  unfold delta newM newV
  pointwise [opD]

end Cert.Reference26Ideal.Value

namespace Cert.Ffn

theorem algebraic26 : Cert.algebraic_Kernel26Ideal_Reference26Ideal (hKernel26Ideal := Cert.Kernel26Ideal.Gen.facts)
    (hReference26Ideal := Cert.Reference26Ideal.Gen.facts) := by
  intro m g m' g' hpre hagree
  refine ⟨fun c => (Cert.Kernel26Ideal.Gen.dats m 0 c).arrAt 4 Cert.Kernel26Ideal.cfg0.N, fun c => (Cert.Kernel26Ideal.Gen.dats m 0 c).arrAt 5 Cert.Kernel26Ideal.cfg0.N, fun c => (Cert.Kernel26Ideal.Gen.dats m 0 c).arrAt 6 Cert.Kernel26Ideal.cfg0.N, Cert.Kernel26Ideal.Value.run_blocks m g, ?_⟩
  refine (θ_run Cert.Reference26Ideal.defs _ _).mono (fun r h c => ?_) (Cert.Reference26Ideal.Value.run (F := Ideal) m' g')
  obtain ⟨h0, h1, h2, ha⟩ := h c
  obtain ⟨e0, e1, e2, e3⟩ := hagree c
  refine ⟨h0.trans (Eq.trans (funext fun y => ?_) (Cert.Kernel26Ideal.Value.arr4 m c).symm), h1.trans (Eq.trans (funext fun y => ?_) (Cert.Kernel26Ideal.Value.arr5 m c).symm), h2.trans (Eq.trans (funext fun y => ?_) (Cert.Kernel26Ideal.Value.arr6 m c).symm), ha⟩
  · refine (Cert.Reference26Ideal.Value.opD_eq _ _ _ _ y).trans ?_
    rw [e0, e1, e2, e3]
    rfl
  · refine (Cert.Reference26Ideal.Value.opM_eq _ _ y).trans ?_
    rw [e1, e2]
    rfl
  · refine (Cert.Reference26Ideal.Value.opV_eq _ _ y).trans ?_
    rw [e1, e3]
    rfl

end Cert.Ffn

end
-- ==== Proof.Adam.Conv.lean ====
/- One step of the optimiser on the convolution weights: the kernel's arrays, the reference, the equation. -/
module

public import proofs.«01_k».proof.Defs
public import proofs.«01_k».proof.Proof.Gen.Kernel27Ideal.Value
public import proofs.«01_k».proof.Proof.Gen.Reference27Ideal.Run
public import Idealize.ShloMosaic.Lib.Pipeline.ValueKit
public import Idealize.ShloMosaic.Lib.Pipeline.ReadBack
public import proofs.«01_k».proof.Proof.Adam.Base

@[expose] public section

set_option maxRecDepth 16384

noncomputable section

open Idealize.ShloMosaic Idealize.ShloMosaic.TcCoe Idealize.SL.Sem
open Idealize.ShloMosaic.Pipeline (Dat)
namespace Cert.Kernel27Ideal.Value
open Cert.Kernel27Ideal Cert.Kernel27Ideal.Gen Cert.Adam

variable (m : (ℓ : Loc nD τ sig) → Buf (Elt Ideal) ℓ) (c : Dev nD)

theorem pay2 (G A : Vec Ideal S4x384 .f32) (y : S4x384.Idx) : (k0_pay2 (F := Ideal) G A y : EReal) = newM (G y) (A y) := by
  unfold newM
  pointwise [k0_pay2, k0_pay1]
theorem pay3 (G B : Vec Ideal S4x384 .f32) (y : S4x384.Idx) : (k0_pay3 (F := Ideal) G B y : EReal) = newV (G y) (B y) := by
  unfold newV
  pointwise [k0_pay3, k0_pay1]
theorem pay4 (G A B W : Vec Ideal S4x384 .f32) (y : S4x384.Idx) : (k0_pay4 (F := Ideal) G A B W y : EReal) = delta (W y) (G y) (A y) (B y) := by
  unfold delta newM newV
  pointwise [k0_pay4, k0_pay3, k0_pay2, k0_pay1]

/-- One of the four arguments as the call takes it, in rows. -/
def rows (x : FVec Ideal S1x4x384 .f32) : FVec Ideal S4x384 .f32 := shapeCast S4x384 x shapeCasts_S1x4x384_S4x384
theorem entryW : V m c main_v0 = rows (m ((c : Thread nD τ).loc main_arg0)) := by
  show StableHlo.after hostOps0 _ _ = _
  after_results <;> rfl
theorem entryG : V m c main_v1 = rows (m ((c : Thread nD τ).loc main_arg1)) := by
  show StableHlo.after hostOps0 _ _ = _
  after_results <;> rfl
theorem entryA : V m c main_v2 = rows (m ((c : Thread nD τ).loc main_arg2)) := by
  show StableHlo.after hostOps0 _ _ = _
  after_results <;> rfl
theorem entryB : V m c main_v3 = rows (m ((c : Thread nD τ).loc main_arg3)) := by
  show StableHlo.after hostOps0 _ _ = _
  after_results <;> rfl

theorem arr4 : (dats m 0 c).arrAt 4 cfg0.N = fun z : S4x384.Idx => (delta (rows (m ((c : Thread nD τ).loc main_arg0)) z : EReal) (rows (m ((c : Thread nD τ).loc main_arg1)) z : EReal) (rows (m ((c : Thread nD τ).loc main_arg2)) z : EReal) (rows (m ((c : Thread nD τ).loc main_arg3)) z : EReal) : EReal) := by
  refine (dats m 0 c).arrAt_eq_of_covers 4 _ (by decide +kernel) fun t hf y => ?_
  rw [after0_4]
  unfold out0_4
  frame_out
  refine (pay4 _ _ _ _ y).trans ?_
  rw [← entryW m c]
  rw [← entryG m c]
  rw [← entryA m c]
  rw [← entryB m c]
  rfl

theorem arr5 : (dats m 0 c).arrAt 5 cfg0.N = fun z : S4x384.Idx => (newM (rows (m ((c : Thread nD τ).loc main_arg1)) z : EReal) (rows (m ((c : Thread nD τ).loc main_arg2)) z : EReal) : EReal) := by
  refine (dats m 0 c).arrAt_eq_of_covers 5 _ (by decide +kernel) fun t hf y => ?_
  rw [after0_5]
  unfold out0_5
  frame_out
  refine (pay2 _ _ y).trans ?_
  rw [← entryG m c]
  rw [← entryA m c]
  rfl

theorem arr6 : (dats m 0 c).arrAt 6 cfg0.N = fun z : S4x384.Idx => (newV (rows (m ((c : Thread nD τ).loc main_arg1)) z : EReal) (rows (m ((c : Thread nD τ).loc main_arg3)) z : EReal) : EReal) := by
  refine (dats m 0 c).arrAt_eq_of_covers 6 _ (by decide +kernel) fun t hf y => ?_
  rw [after0_6]
  unfold out0_6
  frame_out
  refine (pay3 _ _ y).trans ?_
  rw [← entryG m c]
  rw [← entryB m c]
  rfl

end Cert.Kernel27Ideal.Value

namespace Cert.Reference27Ideal.Value
open Cert.Reference27Ideal Cert.Reference27Ideal.Gen Cert.Adam

/-- The reference's operations. -/
def opM (G A : FVec Ideal S4x384 .f32) : FVec Ideal S4x384 .f32 :=
  addf (mulf (broadcastInDim S4x384 ![] bcast_S_S4x384 (constant S_ .f32 0x3F666666#32)) A) (mulf (broadcastInDim S4x384 ![] bcast_S_S4x384 (constant S_ .f32 0x3DCCCCCD#32)) G)
def opV (G B : FVec Ideal S4x384 .f32) : FVec Ideal S4x384 .f32 :=
  addf (mulf (broadcastInDim S4x384 ![] bcast_S_S4x384 (constant S_ .f32 0x3F7FBE77#32)) B) (mulf (broadcastInDim S4x384 ![] bcast_S_S4x384 (constant S_ .f32 0x3A83126F#32)) (mulf G G))
def opD (W G A B : FVec Ideal S4x384 .f32) : FVec Ideal S4x384 .f32 :=
  mulf (broadcastInDim S4x384 ![] bcast_S_S4x384 (constant S_ .f32 0xBA83126F#32)) (addf (Host.divf (Host.divf (addf (mulf (broadcastInDim S4x384 ![] bcast_S_S4x384 (constant S_ .f32 0x3F666666#32)) A) (mulf (broadcastInDim S4x384 ![] bcast_S_S4x384 (constant S_ .f32 0x3DCCCCCD#32)) G)) (broadcastInDim S4x384 ![] bcast_S_S4x384 (constant S_ .f32 0x3F26BD02#32))) (addf (Host.sqrt (Host.divf (addf (mulf (broadcastInDim S4x384 ![] bcast_S_S4x384 (constant S_ .f32 0x3F7FBE77#32)) B) (mulf (broadcastInDim S4x384 ![] bcast_S_S4x384 (constant S_ .f32 0x3A83126F#32)) (mulf G G))) (broadcastInDim S4x384 ![] bcast_S_S4x384 (constant S_ .f32 0x3C231ACC#32)))) (broadcastInDim S4x384 ![] bcast_S_S4x384 (constant S_ .f32 0x322BCC77#32)))) (mulf (broadcastInDim S4x384 ![] bcast_S_S4x384 (constant S_ .f32 0x3C23D70A#32)) W))

theorem opM_eq (G A : FVec Ideal S4x384 .f32) (y : S4x384.Idx) : (opM G A y : EReal) = newM (G y) (A y) := by
  unfold newM
  pointwise [opM]
theorem opV_eq (G B : FVec Ideal S4x384 .f32) (y : S4x384.Idx) : (opV G B y : EReal) = newV (G y) (B y) := by
  unfold newV
  pointwise [opV]
theorem opD_eq (W G A B : FVec Ideal S4x384 .f32) (y : S4x384.Idx) : (opD W G A B y : EReal) = delta (W y) (G y) (A y) (B y) := by
  unfold delta newM newV
  pointwise [opD]

end Cert.Reference27Ideal.Value

namespace Cert.Ffn

theorem algebraic27 : Cert.algebraic_Kernel27Ideal_Reference27Ideal (hKernel27Ideal := Cert.Kernel27Ideal.Gen.facts)
    (hReference27Ideal := Cert.Reference27Ideal.Gen.facts) := by
  intro m g m' g' hpre hagree
  refine ⟨fun c => (Cert.Kernel27Ideal.Gen.dats m 0 c).arrAt 4 Cert.Kernel27Ideal.cfg0.N, fun c => (Cert.Kernel27Ideal.Gen.dats m 0 c).arrAt 5 Cert.Kernel27Ideal.cfg0.N, fun c => (Cert.Kernel27Ideal.Gen.dats m 0 c).arrAt 6 Cert.Kernel27Ideal.cfg0.N, Cert.Kernel27Ideal.Value.run_blocks m g, ?_⟩
  refine (θ_run Cert.Reference27Ideal.defs _ _).mono (fun r h c => ?_) (Cert.Reference27Ideal.Value.run (F := Ideal) m' g')
  obtain ⟨h0, h1, h2, ha⟩ := h c
  obtain ⟨e0, e1, e2, e3⟩ := hagree c
  refine ⟨h0.trans (Eq.trans (funext fun y => ?_) (Cert.Kernel27Ideal.Value.arr4 m c).symm), h1.trans (Eq.trans (funext fun y => ?_) (Cert.Kernel27Ideal.Value.arr5 m c).symm), h2.trans (Eq.trans (funext fun y => ?_) (Cert.Kernel27Ideal.Value.arr6 m c).symm), ha⟩
  · refine (Cert.Reference27Ideal.Value.opD_eq _ _ _ _ y).trans ?_
    rw [e0, e1, e2, e3]
    rfl
  · refine (Cert.Reference27Ideal.Value.opM_eq _ _ y).trans ?_
    rw [e1, e2]
    rfl
  · refine (Cert.Reference27Ideal.Value.opV_eq _ _ y).trans ?_
    rw [e1, e3]
    rfl

end Cert.Ffn

end
-- ==== Proof.Adam.Decay.lean ====
/- One step of the optimiser on the decays and the step biases: the kernel's arrays, the reference, the equation. -/
module

public import proofs.«01_k».proof.Defs
public import proofs.«01_k».proof.Proof.Gen.Kernel28Ideal.Value
public import proofs.«01_k».proof.Proof.Gen.Reference28Ideal.Run
public import Idealize.ShloMosaic.Lib.Pipeline.ValueKit
public import Idealize.ShloMosaic.Lib.Pipeline.ReadBack
public import proofs.«01_k».proof.Proof.Adam.Base

@[expose] public section

set_option maxRecDepth 16384

noncomputable section

open Idealize.ShloMosaic Idealize.ShloMosaic.TcCoe Idealize.SL.Sem
namespace Cert.Reference28Ideal.Value
open Cert.Reference28Ideal Cert.Reference28Ideal.Gen Cert.Adam

/-- The reference's operations. -/
def opM (G A : FVec Ideal S1x4 .f32) : FVec Ideal S1x4 .f32 :=
  addf (mulf (broadcastInDim S1x4 ![] bcast_S_S1x4 (constant S_ .f32 0x3F666666#32)) A) (mulf (broadcastInDim S1x4 ![] bcast_S_S1x4 (constant S_ .f32 0x3DCCCCCD#32)) G)
def opV (G B : FVec Ideal S1x4 .f32) : FVec Ideal S1x4 .f32 :=
  addf (mulf (broadcastInDim S1x4 ![] bcast_S_S1x4 (constant S_ .f32 0x3F7FBE77#32)) B) (mulf (broadcastInDim S1x4 ![] bcast_S_S1x4 (constant S_ .f32 0x3A83126F#32)) (mulf G G))
def opD (W G A B : FVec Ideal S1x4 .f32) : FVec Ideal S1x4 .f32 :=
  mulf (broadcastInDim S1x4 ![] bcast_S_S1x4 (constant S_ .f32 0xBA83126F#32)) (addf (Host.divf (Host.divf (addf (mulf (broadcastInDim S1x4 ![] bcast_S_S1x4 (constant S_ .f32 0x3F666666#32)) A) (mulf (broadcastInDim S1x4 ![] bcast_S_S1x4 (constant S_ .f32 0x3DCCCCCD#32)) G)) (broadcastInDim S1x4 ![] bcast_S_S1x4 (constant S_ .f32 0x3F26BD02#32))) (addf (Host.sqrt (Host.divf (addf (mulf (broadcastInDim S1x4 ![] bcast_S_S1x4 (constant S_ .f32 0x3F7FBE77#32)) B) (mulf (broadcastInDim S1x4 ![] bcast_S_S1x4 (constant S_ .f32 0x3A83126F#32)) (mulf G G))) (broadcastInDim S1x4 ![] bcast_S_S1x4 (constant S_ .f32 0x3C231ACC#32)))) (broadcastInDim S1x4 ![] bcast_S_S1x4 (constant S_ .f32 0x322BCC77#32)))) (mulf (broadcastInDim S1x4 ![] bcast_S_S1x4 (constant S_ .f32 0x3C23D70A#32)) W))

theorem opM_eq (G A : FVec Ideal S1x4 .f32) (y : S1x4.Idx) : (opM G A y : EReal) = newM (G y) (A y) := by
  unfold newM
  pointwise [opM]
theorem opV_eq (G B : FVec Ideal S1x4 .f32) (y : S1x4.Idx) : (opV G B y : EReal) = newV (G y) (B y) := by
  unfold newV
  pointwise [opV]
theorem opD_eq (W G A B : FVec Ideal S1x4 .f32) (y : S1x4.Idx) : (opD W G A B y : EReal) = delta (W y) (G y) (A y) (B y) := by
  unfold delta newM newV
  pointwise [opD]

end Cert.Reference28Ideal.Value

namespace Cert.Ffn

theorem algebraic28 : Cert.algebraic_Kernel28Ideal_Reference28Ideal (hKernel28Ideal := Cert.Kernel28Ideal.Gen.facts)
    (hReference28Ideal := Cert.Reference28Ideal.Gen.facts) := by
  intro m g m' g' hpre hagree
  refine ⟨_, _, _, Cert.Kernel28Ideal.Value.run m g, ?_⟩
  refine (θ_run Cert.Reference28Ideal.defs _ _).mono (fun r h c => ?_) (Cert.Reference28Ideal.Value.run (F := Ideal) m' g')
  obtain ⟨h0, h1, h2, ha⟩ := h c
  obtain ⟨e0, e1, e2, e3⟩ := hagree c
  refine ⟨h0.trans (funext fun y => ?_), h1.trans (funext fun y => ?_), h2.trans (funext fun y => ?_), ha⟩
  · refine (Cert.Reference28Ideal.Value.opD_eq _ _ _ _ y).trans ?_
    rw [e0, e1, e2, e3]
    rfl
  · refine (Cert.Reference28Ideal.Value.opM_eq _ _ y).trans ?_
    rw [e1, e2]
    rfl
  · refine (Cert.Reference28Ideal.Value.opV_eq _ _ y).trans ?_
    rw [e1, e3]
    rfl

end Cert.Ffn

end
-- ==== Proof.Adam.OutNorm.lean ====
/- One step of the optimiser on the output norm: the kernel's arrays, the reference, the equation. -/
module

public import proofs.«01_k».proof.Defs
public import proofs.«01_k».proof.Proof.Gen.Kernel29Ideal.Value
public import proofs.«01_k».proof.Proof.Gen.Reference29Ideal.Run
public import Idealize.ShloMosaic.Lib.Pipeline.ValueKit
public import Idealize.ShloMosaic.Lib.Pipeline.ReadBack
public import proofs.«01_k».proof.Proof.Adam.Base

@[expose] public section

set_option maxRecDepth 16384

noncomputable section

open Idealize.ShloMosaic Idealize.ShloMosaic.TcCoe Idealize.SL.Sem
namespace Cert.Reference29Ideal.Value
open Cert.Reference29Ideal Cert.Reference29Ideal.Gen Cert.Adam

/-- The reference's operations. -/
def opM (G A : FVec Ideal S1x128 .f32) : FVec Ideal S1x128 .f32 :=
  addf (mulf (broadcastInDim S1x128 ![] bcast_S_S1x128 (constant S_ .f32 0x3F666666#32)) A) (mulf (broadcastInDim S1x128 ![] bcast_S_S1x128 (constant S_ .f32 0x3DCCCCCD#32)) G)
def opV (G B : FVec Ideal S1x128 .f32) : FVec Ideal S1x128 .f32 :=
  addf (mulf (broadcastInDim S1x128 ![] bcast_S_S1x128 (constant S_ .f32 0x3F7FBE77#32)) B) (mulf (broadcastInDim S1x128 ![] bcast_S_S1x128 (constant S_ .f32 0x3A83126F#32)) (mulf G G))
def opD (W G A B : FVec Ideal S1x128 .f32) : FVec Ideal S1x128 .f32 :=
  mulf (broadcastInDim S1x128 ![] bcast_S_S1x128 (constant S_ .f32 0xBA83126F#32)) (addf (Host.divf (Host.divf (addf (mulf (broadcastInDim S1x128 ![] bcast_S_S1x128 (constant S_ .f32 0x3F666666#32)) A) (mulf (broadcastInDim S1x128 ![] bcast_S_S1x128 (constant S_ .f32 0x3DCCCCCD#32)) G)) (broadcastInDim S1x128 ![] bcast_S_S1x128 (constant S_ .f32 0x3F26BD02#32))) (addf (Host.sqrt (Host.divf (addf (mulf (broadcastInDim S1x128 ![] bcast_S_S1x128 (constant S_ .f32 0x3F7FBE77#32)) B) (mulf (broadcastInDim S1x128 ![] bcast_S_S1x128 (constant S_ .f32 0x3A83126F#32)) (mulf G G))) (broadcastInDim S1x128 ![] bcast_S_S1x128 (constant S_ .f32 0x3C231ACC#32)))) (broadcastInDim S1x128 ![] bcast_S_S1x128 (constant S_ .f32 0x322BCC77#32)))) (mulf (broadcastInDim S1x128 ![] bcast_S_S1x128 (constant S_ .f32 0x3C23D70A#32)) W))

theorem opM_eq (G A : FVec Ideal S1x128 .f32) (y : S1x128.Idx) : (opM G A y : EReal) = newM (G y) (A y) := by
  unfold newM
  pointwise [opM]
theorem opV_eq (G B : FVec Ideal S1x128 .f32) (y : S1x128.Idx) : (opV G B y : EReal) = newV (G y) (B y) := by
  unfold newV
  pointwise [opV]
theorem opD_eq (W G A B : FVec Ideal S1x128 .f32) (y : S1x128.Idx) : (opD W G A B y : EReal) = delta (W y) (G y) (A y) (B y) := by
  unfold delta newM newV
  pointwise [opD]

end Cert.Reference29Ideal.Value

namespace Cert.Ffn

theorem algebraic29 : Cert.algebraic_Kernel29Ideal_Reference29Ideal (hKernel29Ideal := Cert.Kernel29Ideal.Gen.facts)
    (hReference29Ideal := Cert.Reference29Ideal.Gen.facts) := by
  intro m g m' g' hpre hagree
  refine ⟨_, _, _, Cert.Kernel29Ideal.Value.run m g, ?_⟩
  refine (θ_run Cert.Reference29Ideal.defs _ _).mono (fun r h c => ?_) (Cert.Reference29Ideal.Value.run (F := Ideal) m' g')
  obtain ⟨h0, h1, h2, ha⟩ := h c
  obtain ⟨e0, e1, e2, e3⟩ := hagree c
  refine ⟨h0.trans (funext fun y => ?_), h1.trans (funext fun y => ?_), h2.trans (funext fun y => ?_), ha⟩
  · refine (Cert.Reference29Ideal.Value.opD_eq _ _ _ _ y).trans ?_
    rw [e0, e1, e2, e3]
    rfl
  · refine (Cert.Reference29Ideal.Value.opM_eq _ _ y).trans ?_
    rw [e1, e2]
    rfl
  · refine (Cert.Reference29Ideal.Value.opV_eq _ _ y).trans ?_
    rw [e1, e3]
    rfl

end Cert.Ffn

end
-- ==== Proof.Adam.Sinks.lean ====
/- One step of the optimiser on the sinks: the kernel's arrays, the reference, the equation. -/
module

public import proofs.«01_k».proof.Defs
public import proofs.«01_k».proof.Proof.Gen.Kernel30Ideal.Value
public import proofs.«01_k».proof.Proof.Gen.Reference30Ideal.Run
public import Idealize.ShloMosaic.Lib.Pipeline.ValueKit
public import Idealize.ShloMosaic.Lib.Pipeline.ReadBack
public import proofs.«01_k».proof.Proof.Adam.Base

@[expose] public section

set_option maxRecDepth 16384

noncomputable section

open Idealize.ShloMosaic Idealize.ShloMosaic.TcCoe Idealize.SL.Sem
namespace Cert.Reference30Ideal.Value
open Cert.Reference30Ideal Cert.Reference30Ideal.Gen Cert.Adam

/-- The reference's operations. -/
def opM (G A : FVec Ideal S1x8 .f32) : FVec Ideal S1x8 .f32 :=
  addf (mulf (broadcastInDim S1x8 ![] bcast_S_S1x8 (constant S_ .f32 0x3F666666#32)) A) (mulf (broadcastInDim S1x8 ![] bcast_S_S1x8 (constant S_ .f32 0x3DCCCCCD#32)) G)
def opV (G B : FVec Ideal S1x8 .f32) : FVec Ideal S1x8 .f32 :=
  addf (mulf (broadcastInDim S1x8 ![] bcast_S_S1x8 (constant S_ .f32 0x3F7FBE77#32)) B) (mulf (broadcastInDim S1x8 ![] bcast_S_S1x8 (constant S_ .f32 0x3A83126F#32)) (mulf G G))
def opD (W G A B : FVec Ideal S1x8 .f32) : FVec Ideal S1x8 .f32 :=
  mulf (broadcastInDim S1x8 ![] bcast_S_S1x8 (constant S_ .f32 0xBA83126F#32)) (addf (Host.divf (Host.divf (addf (mulf (broadcastInDim S1x8 ![] bcast_S_S1x8 (constant S_ .f32 0x3F666666#32)) A) (mulf (broadcastInDim S1x8 ![] bcast_S_S1x8 (constant S_ .f32 0x3DCCCCCD#32)) G)) (broadcastInDim S1x8 ![] bcast_S_S1x8 (constant S_ .f32 0x3F26BD02#32))) (addf (Host.sqrt (Host.divf (addf (mulf (broadcastInDim S1x8 ![] bcast_S_S1x8 (constant S_ .f32 0x3F7FBE77#32)) B) (mulf (broadcastInDim S1x8 ![] bcast_S_S1x8 (constant S_ .f32 0x3A83126F#32)) (mulf G G))) (broadcastInDim S1x8 ![] bcast_S_S1x8 (constant S_ .f32 0x3C231ACC#32)))) (broadcastInDim S1x8 ![] bcast_S_S1x8 (constant S_ .f32 0x322BCC77#32)))) (mulf (broadcastInDim S1x8 ![] bcast_S_S1x8 (constant S_ .f32 0x3C23D70A#32)) W))

theorem opM_eq (G A : FVec Ideal S1x8 .f32) (y : S1x8.Idx) : (opM G A y : EReal) = newM (G y) (A y) := by
  unfold newM
  pointwise [opM]
theorem opV_eq (G B : FVec Ideal S1x8 .f32) (y : S1x8.Idx) : (opV G B y : EReal) = newV (G y) (B y) := by
  unfold newV
  pointwise [opV]
theorem opD_eq (W G A B : FVec Ideal S1x8 .f32) (y : S1x8.Idx) : (opD W G A B y : EReal) = delta (W y) (G y) (A y) (B y) := by
  unfold delta newM newV
  pointwise [opD]

end Cert.Reference30Ideal.Value

namespace Cert.Ffn

theorem algebraic30 : Cert.algebraic_Kernel30Ideal_Reference30Ideal (hKernel30Ideal := Cert.Kernel30Ideal.Gen.facts)
    (hReference30Ideal := Cert.Reference30Ideal.Gen.facts) := by
  intro m g m' g' hpre hagree
  refine ⟨_, _, _, Cert.Kernel30Ideal.Value.run m g, ?_⟩
  refine (θ_run Cert.Reference30Ideal.defs _ _).mono (fun r h c => ?_) (Cert.Reference30Ideal.Value.run (F := Ideal) m' g')
  obtain ⟨h0, h1, h2, ha⟩ := h c
  obtain ⟨e0, e1, e2, e3⟩ := hagree c
  refine ⟨h0.trans (funext fun y => ?_), h1.trans (funext fun y => ?_), h2.trans (funext fun y => ?_), ha⟩
  · refine (Cert.Reference30Ideal.Value.opD_eq _ _ _ _ y).trans ?_
    rw [e0, e1, e2, e3]
    rfl
  · refine (Cert.Reference30Ideal.Value.opM_eq _ _ y).trans ?_
    rw [e1, e2]
    rfl
  · refine (Cert.Reference30Ideal.Value.opV_eq _ _ y).trans ?_
    rw [e1, e3]
    rfl

end Cert.Ffn

end
-- ==== Proof.Ffn.GateRun.lean ====
module

public import proofs.«01_k».proof.Proof.Gen.Kernel6Ideal.Frame
public import proofs.«01_k».proof.Proof.Gen.Kernel6Ideal.Skeleton
public import Idealize.ShloMosaic.Lib.Pipeline.TableIdle
public import Idealize.ShloMosaic.Lib.Claim

@[expose] public section

/-!
The run of the feed-forward block's forward call that goes up. The normalised rows are stored at a row tile's first
grid step, read at the later three and written back at the last; the other three results are stored at every step.
-/

set_option maxRecDepth 16384

noncomputable section

namespace Cert.Kernel6Ideal.Body

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a grid step leaves -/

/-- The whole row tile. -/
abbrev tileR : Rect S640x1024 := Rect.unit (s := S640x1024) ![0, 0] S640x1024.size inb_S640x1024_S640x1024_0_0
/-- The whole gain. -/
abbrev gainR : Rect S1x1024 := Rect.unit (s := S1x1024) ![0, 0] S1x1024.size inb_S1x1024_S1x1024_0_0
/-- One shard's whole weights. -/
abbrev weightR : Rect S1x1024x704 := Rect.unit (s := S1x1024x704) ![0, 0, 0] S1x1024x704.size inb_S1x1024x704_S1x1024x704_0_0_0
/-- The whole tile of one shard's columns. -/
abbrev shardR : Rect S1x640x704 := Rect.unit (s := S1x640x704) ![0, 0, 0] S1x640x704.size inb_S1x640x704_S1x640x704_0_0_0

/-- The normalised rows, from the rows and the gain. -/
def outU (x0 : Vec F S640x1024 .f32) (x1 : Vec F S1x1024 .f32) : Vec F S640x1024 .bf16 :=
  View.canon [⟨tileR, k0_pay1 (View.ld x0 tileR) (View.ld x1 gainR)⟩]

/-- The first product, from the normalised rows and the first weights. -/
def outG (u : Vec F S640x1024 .bf16) (x2 : Vec F S1x1024x704 .bf16) : Vec F S1x640x704 .bf16 :=
  View.canon [⟨shardR, k0_pay5 (View.ld u tileR) (View.ld x2 weightR)⟩]

/-- The second product. -/
def outV (u : Vec F S640x1024 .bf16) (x3 : Vec F S1x1024x704 .bf16) : Vec F S1x640x704 .bf16 :=
  View.canon [⟨shardR, k0_pay6 (View.ld u tileR) (View.ld x3 weightR)⟩]

/-- The activations. -/
def outA (u : Vec F S640x1024 .bf16) (x2 x3 : Vec F S1x1024x704 .bf16) : Vec F S1x640x704 .bf16 :=
  View.canon [⟨shardR, k0_pay7 (View.ld u tileR) (View.ld x2 weightR) (View.ld x3 weightR)⟩]

/-- A store of the whole tile covers it. -/
theorem cover_tile (p : Vec F S640x1024 .bf16) (y : S640x1024.Idx) :
    ∃ pc ∈ ([⟨tileR, p⟩] : List (View.Piece (Elt F) S640x1024 .bf16)), y ∈ pc.1.set :=
  View.cover_of_tiled [⟨tileR, p⟩] S640x1024.size (by rfl) y

/-- A store of a shard's whole tile covers it. -/
theorem cover_shard (p : Vec F S1x640x704 .bf16) (y : S1x640x704.Idx) :
    ∃ pc ∈ ([⟨shardR, p⟩] : List (View.Piece (Elt F) S1x640x704 .bf16)), y ∈ pc.1.set :=
  View.cover_of_tiled [⟨shardR, p⟩] S1x640x704.size (by rfl) y

/-! ## The body at a step that normalises and at one that does not -/

set_option maxHeartbeats 1000000 in
/-- The body at a row tile's first step: the normalised rows are stored and read back. -/
theorem sound_first (c : Dev nD) (E : Set ℕ) (i : grid0.Coords) (arg2 : Memref sig .tc .vmem S640x1024 .f32) (harg2 : arg2.IsWhole) (arg3 : Memref sig .tc .vmem S1x1024 .f32) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S640x1024 .bf16) (harg6 : arg6.IsWhole) (arg7 : Memref sig .tc .vmem S1x640x704 .bf16) (harg7 : arg7.IsWhole) (arg8 : Memref sig .tc .vmem S1x640x704 .bf16) (harg8 : arg8.IsWhole) (arg9 : Memref sig .tc .vmem S1x640x704 .bf16) (harg9 : arg9.IsWhole)
    (hc : k0_cond1 i = 1#1)
    (x0 : Vec F S640x1024 .f32) (x1 : Vec F S1x1024 .f32) (x2 : Vec F S1x1024x704 .bf16) (x3 : Vec F S1x1024x704 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outU x0 x1) ∗ owns (c : Thread nD τ) arg7 fullShare (outG (outU x0 x1) x2) ∗ owns (c : Thread nD τ) arg8 fullShare (outV (outU x0 x1) x3) ∗ owns (c : Thread nD τ) arg9 fullShare (outA (outU x0 x1) x2 x3)) -∗ K ⟨⟩))
      ⊢ wp frame (wpE (defs₀ (F := F)) Variants.none c none) E (cc0_ffn_up i arg2 harg2 arg3 harg3 arg4 harg4 arg5 harg5 arg6 harg6 arg7 harg7 arg8 harg8 arg9 harg9) K := by
  simp only [cc0_ffn_up_eq_skeleton]; unfold cc0_ffn_up_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_tile _)
  have hu : sound_first.sl.v3 c arg2 arg3 arg6 f0 f1 = View.ld (outU (View.read (Elt F) arg2.view f0) (View.read (Elt F) arg3.view f1)) tileR := by
    delta sound_first.sl.v3 sound_first.sl.H4_1
    exact View.readCov_eq_canon' _ _ _
  isplitl [H5]
  · iexists _; isplitr
    swap; · iexact H5
    ipureintro
    refine (View.read_writes_eq_canon _ _ _ (cover_shard _)).trans ?_
    rw [hu]; rfl
  isplitl [H6]
  · iexists _; isplitr
    swap; · iexact H6
    ipureintro
    refine (View.read_writes_eq_canon _ _ _ (cover_shard _)).trans ?_
    rw [hu]; rfl
  iexists _; isplitr
  swap; · iexact H7
  ipureintro
  refine (View.read_writes_eq_canon _ _ _ (cover_shard _)).trans ?_
  rw [hu]; rfl

set_option maxHeartbeats 1000000 in
/-- The body at a later step of the row tile: the normalised rows are read. -/
theorem sound_later (c : Dev nD) (E : Set ℕ) (i : grid0.Coords) (arg2 : Memref sig .tc .vmem S640x1024 .f32) (harg2 : arg2.IsWhole) (arg3 : Memref sig .tc .vmem S1x1024 .f32) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S640x1024 .bf16) (harg6 : arg6.IsWhole) (arg7 : Memref sig .tc .vmem S1x640x704 .bf16) (harg7 : arg7.IsWhole) (arg8 : Memref sig .tc .vmem S1x640x704 .bf16) (harg8 : arg8.IsWhole) (arg9 : Memref sig .tc .vmem S1x640x704 .bf16) (harg9 : arg9.IsWhole)
    (hc : ¬k0_cond1 i = 1#1)
    (x0 : Vec F S640x1024 .f32) (x1 : Vec F S1x1024 .f32) (x2 : Vec F S1x1024x704 .bf16) (x3 : Vec F S1x1024x704 .bf16) (u : Vec F S640x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare u ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare u ∗ owns (c : Thread nD τ) arg7 fullShare (outG u x2) ∗ owns (c : Thread nD τ) arg8 fullShare (outV u x3) ∗ owns (c : Thread nD τ) arg9 fullShare (outA u x2 x3)) -∗ K ⟨⟩))
      ⊢ wp frame (wpE (defs₀ (F := F)) Variants.none c none) E (cc0_ffn_up i arg2 harg2 arg3 harg3 arg4 harg4 arg5 harg5 arg6 harg6 arg7 harg7 arg8 harg8 arg9 harg9) K := by
  simp only [cc0_ffn_up_eq_skeleton]; unfold cc0_ffn_up_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_shard _)
  isplitl [H6]
  · iexists _; isplitr
    swap; · iexact H6
    ipureintro
    exact View.read_writes_eq_canon _ _ _ (cover_shard _)
  iexists _; isplitr
  swap; · iexact H7
  ipureintro
  exact View.read_writes_eq_canon _ _ _ (cover_shard _)

/-! ## The steps -/

/-- The rows are normalised at the first of a row tile's four steps. -/
theorem cond_iff : ∀ t : Fin cfg0.N, k0_cond1 (grid0.coords t) = 1#1 ↔ t.val % 4 = 0 := by decide +kernel

/-- The other steps do not store the normalised rows. -/
theorem idle_u : ∀ t : Fin cfg0.N, cfg0.idle 4 (grid0.coords t) = decide (t.val % 4 ≠ 0) := by decide +kernel

/-- Nothing of the normalised rows is held when a row tile begins. -/
theorem fresh_u : ∀ n, n ≤ cfg0.N → cfg0.fresh 4 n = decide (n % 4 = 0) :=
  cfg0.fresh_tab 4 (fun n => decide (n % 4 = 0)) rfl (by decide +kernel)

/-! ## The pipeline's contents -/

/-- After a grid step each input's buffer holds its block, the first output's the row tile's normalised rows, and the
    other outputs' what the step stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outU (iblk m c 0 t) (iblk m c 1 t)
    | ⟨5, _⟩ => outG (outU (iblk m c 0 t) (iblk m c 1 t)) (iblk m c 2 t)
    | ⟨6, _⟩ => outV (outU (iblk m c 0 t) (iblk m c 1 t)) (iblk m c 3 t)
    | ⟨7, _⟩ => outA (outU (iblk m c 0 t) (iblk m c 1 t)) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outU (iblk m c 0 t) (iblk m c 1 t) := by dsimp only [dats]
theorem after0_5 (c : Dev nD) (t : Fin cfg0.N) : (dats m 0 c).after 5 t = outG (outU (iblk m c 0 t) (iblk m c 1 t)) (iblk m c 2 t) := by dsimp only [dats]
theorem after0_6 (c : Dev nD) (t : Fin cfg0.N) : (dats m 0 c).after 6 t = outV (outU (iblk m c 0 t) (iblk m c 1 t)) (iblk m c 3 t) := by dsimp only [dats]
theorem after0_7 (c : Dev nD) (t : Fin cfg0.N) : (dats m 0 c).after 7 t = outA (outU (iblk m c 0 t) (iblk m c 1 t)) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Where the rows are not fetched they are those of the step before. -/
theorem rows_prev (c : Dev nD) (t : Fin cfg0.N) (h : t.val % 4 ≠ 0) :
    iblk m c 0 t = iblk m c 0 ⟨t.val - 1, lt_of_le_of_lt (Nat.sub_le _ _) t.isLt⟩ := by
  have hf : (cfg0.win 0).fetch t = false := by rw [← Bool.not_eq_true, fetch0_0]; exact h
  rw [← before0_0 m c t (iblk m c 0 t), (dats m 0 c).before_unfetched_in 0 rfl t hf (fun _ => rfl)]
  unfold Dat.kept
  rw [Pipeline.fill_of_clip_none (cfg := cfg0) 0 _ (fun _ => rfl) _ ((dats m 0 c).after 0 _), Window.fill_cut, after0_0]

/-- Likewise the gain. -/
theorem gain_prev (c : Dev nD) (t : Fin cfg0.N) (h : t.val % 4 ≠ 0) :
    iblk m c 1 t = iblk m c 1 ⟨t.val - 1, lt_of_le_of_lt (Nat.sub_le _ _) t.isLt⟩ := by
  have hf : (cfg0.win 1).fetch t = false := by rw [← Bool.not_eq_true, fetch0_1]; omega
  rw [← before0_1 m c t (iblk m c 1 t), (dats m 0 c).before_unfetched_in 1 rfl t hf (fun _ => rfl)]
  unfold Dat.kept
  rw [Pipeline.fill_of_clip_none (cfg := cfg0) 1 _ (fun _ => rfl) _ ((dats m 0 c).after 1 _), Window.fill_cut, after0_1]

/-- So the normalised rows are those of the step before. -/
theorem carry_u (c : Dev nD) (t : Fin cfg0.N) (h : t.val % 4 ≠ 0) :
    (dats m 0 c).after 4 t = (dats m 0 c).after 4 ⟨t.val - 1, lt_of_le_of_lt (Nat.sub_le _ _) t.isLt⟩ := by
  rw [after0_4, after0_4, rows_prev m c t h, gain_prev m c t h]

/-- At a later step of a row tile the first output's buffer holds its normalised rows. -/
theorem before_u (c : Dev nD) (t : Fin cfg0.N) (h : t.val % 4 ≠ 0) (d) :
    (dats m 0 c).before 4 t d = outU (iblk m c 0 t) (iblk m c 1 t) := by
  rw [(dats m 0 c).before_out_traj 4 rfl (fun _ _ => rfl) (fun t _ hi _ => carry_u m c t (by rw [idle_u] at hi; exact of_decide_eq_true hi)) t.val t rfl d,
    fresh_u t.val t.isLt.le, if_neg (by simpa using h), ← carry_u m c t h, after0_4]

/-! ## The body at every step -/

/-- What the body finds at a step, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The normalised rows in the buffer are what the step is to leave of them. -/
theorem leaves_u (c : Dev nD) (t : Fin cfg0.N) :
    owns (c : Thread nD τ) (st0_4 t) fullShare (outU (iblk m c 0 t) (iblk m c 1 t)) ⊢ (dats m 0 c).leavesExact 4 t := by
  by_cases h : t.val % 4 = 0
  · rw [show (dats m 0 c).leavesExact 4 t = owns (c : Thread nD τ) (st0_4 t) fullShare ((dats m 0 c).after 4 t) from by
      unfold Dat.leavesExact; rw [idle_u t, decide_eq_false (not_not.mpr h)], after0_4]
  · by_cases hf : t.val % 4 = 3
    · rw [show (dats m 0 c).leavesExact 4 t = owns (c : Thread nD τ) (st0_4 t) fullShare ((dats m 0 c).after 4 t) from by
        unfold Dat.leavesExact; rw [idle_u t, decide_eq_true h, (flush0_4 t).mpr hf], after0_4]
    · rw [Dat.leavesExact_idle (dats m 0 c) 4 t (by rw [idle_u t, decide_eq_true h]) (by rw [← Bool.not_eq_true, flush0_4]; exact hf)]
      simp only [before_u m c t h]
      iintro H
      iexists (outU (iblk m c 0 t) (iblk m c 1 t))
      iexact H

/-- The body runs from the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_5, after0_6, after0_7]
  by_cases h : t.val % 4 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_first c Set.univ (grid0.coords t) _ _ _ _ _ _ _ _ _ _ _ _ _ _ _ _ ((cond_iff t).mpr h) (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iapply (leaves_u m c t); iexact H4
    isplitl [H5]; · iexact H5
    isplitl [H6]; · iexact H6
    iexact H7
  · simp only [before_u m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_later c Set.univ (grid0.coords t) _ _ _ _ _ _ _ _ _ _ _ _ _ _ _ _ (fun hc => h ((cond_iff t).mp hc)) (iblk m c 0 t) (iblk m c 1 t) (iblk m c 2 t) (iblk m c 3 t) (outU (iblk m c 0 t) (iblk m c 1 t)) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iapply (leaves_u m c t); iexact H4
    isplitl [H5]; · iexact H5
    isplitl [H6]; · iexact H6
    iexact H7

/-- The body's row in the program's table is the body at the step. -/
theorem row_eq (t : Fin cfg0.N) :
    defs₀ (F := F) .tc cfg0.body (cfg0.bodyArgs t (cfg0.slots t)) = bodyAt0 t := by
  unfold defs₀; rw [Defs.onTc_tc]

/-- The body does at every step what the pipeline asks of it. -/
theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-! ## The run -/

set_option backward.isDefEq.respectTransparency.types false in
set_option maxHeartbeats 800000 in
/-- Every run ends with each array at what the pipeline leaves and every semaphore at zero. -/
theorem run_end : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arrays of that. -/
theorem run_main : θ_run defs (onTc (τ := τ) (main (F := F))) (s₀ m ρ) (Pipeline.FramePost cfgs (dats m) 0 (V m)) :=
  (θ_run defs _ _).mono (fun _ h => h.1) (run_end m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_end m ρ))

end Cert.Kernel6Ideal.Body

end
-- ==== Proof.Ffn.NormRow.lean ====
/- A row over its root mean square, times a gain. -/
module

public import proofs.«01_k».proof.Proof.Ffn.Base

@[expose] public section

noncomputable section

open Idealize.ShloMosaic
namespace Cert.Ffn

/-- An entry of a row divided by the row's root mean square and multiplied by the gain. -/
def normRow (x g : Fin 1024 → EReal) (q : Fin 1024) : EReal := x q * rinv x * g q

theorem normRow_congr {x x' g g' : Fin 1024 → EReal} (ex : ∀ k, x k = x' k) (eg : ∀ k, g k = g' k) (q : Fin 1024) :
    normRow x g q = normRow x' g' q := by rw [funext ex, funext eg]

end Cert.Ffn

end
-- ==== Proof.Ffn.Gate.lean ====
/- The forward call that goes up: what the kernel's arrays hold. -/
module

public import proofs.«01_k».proof.Proof.Ffn.GateRun
public import Idealize.ShloMosaic.Lib.Pipeline.Value
public import Idealize.ShloMosaic.Lib.Pipeline.ValueKit
public import proofs.«01_k».proof.Proof.Ffn.NormRow
public import proofs.«01_k».proof.Proof.Ffn.Silu

@[expose] public section

set_option maxRecDepth 16384

noncomputable section

open Idealize.ShloMosaic Idealize.ShloMosaic.TcCoe Idealize.SL.Sem
open Idealize.ShloMosaic.Pipeline (Dat)
namespace Cert.Kernel6Ideal.Value
open Cert.Kernel6Ideal Cert.Kernel6Ideal.Gen Cert.Kernel6Ideal.Body Cert.Ffn

variable (m : (ℓ : Loc nD τ sig) → Buf (Elt Ideal) ℓ) (ρ : Dev nD → PrngReg)

/-- The run with each result's array named. -/
theorem run_blocks : θ_run defs (onTc (τ := τ) (main (F := Ideal))) ⟨m, fun _ => 0, ρ⟩ fun r => ∀ c : Dev nD,
      r.2.mem ((c : Thread nD τ).loc main_v1_0) = (dats m 0 c).arrAt 4 cfg0.N
      ∧ r.2.mem ((c : Thread nD τ).loc main_v1_1) = (dats m 0 c).arrAt 5 cfg0.N
      ∧ r.2.mem ((c : Thread nD τ).loc main_v1_2) = (dats m 0 c).arrAt 6 cfg0.N
      ∧ r.2.mem ((c : Thread nD τ).loc main_v1_3) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 4, (h.1 c).1 5, (h.1 c).1 6, (h.1 c).1 7, h.2 c⟩)
    (θ_run_and (run_main m ρ) (frame_of m ρ (dats m) (A_eq m) (run_main m ρ)))

theorem idx : ∀ t : Fin cfg0.N, win0_0.index t = ![t.val / 4, 0] ∧ win0_1.index t = ![0, 0]
    ∧ win0_2.index t = ![t.val % 4, 0, 0] ∧ win0_3.index t = ![t.val % 4, 0, 0]
    ∧ win0_4.index t = ![t.val / 4, 0] ∧ win0_5.index t = ![t.val % 4, t.val / 4, 0]
    ∧ win0_6.index t = ![t.val % 4, t.val / 4, 0] ∧ win0_7.index t = ![t.val % 4, t.val / 4, 0] :=
  (by decide +kernel : ∀ t : Fin grid0.N, _)

/-- The rows, the gain and the two weights. -/
def arrH (c : Dev nD) (r : Fin 8320) (q : Fin 1024) : EReal :=
  (show FVec Ideal S8320x1024 .f32 from m ((c : Thread nD τ).loc main_arg0)) (ix2 r q)
def gain (c : Dev nD) (q : Fin 1024) : EReal :=
  (show FVec Ideal S1024 .f32 from m ((c : Thread nD τ).loc main_arg1)) (ix1 q)
def arrW (c : Dev nD) (s : Fin 4) (k : Fin 1024) (f : Fin 704) : EReal :=
  (show FVec Ideal S4x1024x704 .bf16 from m ((c : Thread nD τ).loc main_arg2)) (ix3 s k f)
def arrX (c : Dev nD) (s : Fin 4) (k : Fin 1024) (f : Fin 704) : EReal :=
  (show FVec Ideal S4x1024x704 .bf16 from m ((c : Thread nD τ).loc main_arg3)) (ix3 s k f)

theorem eta2 (y : S640x1024.Idx) : y = ix2 (y 0) (y 1) := by funext i; fin_cases i <;> rfl

/-- What one grid step multiplies. -/
def part (X : Vec Ideal S640x1024 .bf16) (Y : Vec Ideal S1x1024x704 .bf16) (r : Fin 640) (f : Fin 704) : EReal :=
  ∑ k : Fin 1024, X (ix2 r k) * Y (ix3 0 k f)

theorem hU (H : Vec Ideal S640x1024 .f32) (g : Vec Ideal S1x1024 .f32) (y : S640x1024.Idx) :
    (k0_pay1 (F := Ideal) H g y : EReal) = normRow (fun k => H (ix2 (y 0) k)) (fun k => g (ix2 0 k)) (y 1) := by
  unfold normRow rinv
  pointwise [k0_pay1]
theorem hG (X : Vec Ideal S640x1024 .bf16) (Y : Vec Ideal S1x1024x704 .bf16) (y : S1x640x704.Idx) :
    (k0_pay5 (F := Ideal) X Y y : EReal) = part X Y (y 1) (y 2) := by
  unfold part
  pointwise [k0_pay5, k0_pay3, k0_pay2]
theorem hV (X : Vec Ideal S640x1024 .bf16) (Y : Vec Ideal S1x1024x704 .bf16) (y : S1x640x704.Idx) :
    (k0_pay6 (F := Ideal) X Y y : EReal) = part X Y (y 1) (y 2) := by
  unfold part
  pointwise [k0_pay6, k0_pay4, k0_pay2]
theorem hA (X : Vec Ideal S640x1024 .bf16) (Y Z : Vec Ideal S1x1024x704 .bf16) (y : S1x640x704.Idx) :
    (k0_pay7 (F := Ideal) X Y Z y : EReal) = part X Y (y 1) (y 2) * sgm (part X Y (y 1) (y 2)) * part X Z (y 1) (y 2) := by
  unfold part sgm
  pointwise [k0_pay7, k0_pay4, k0_pay3, k0_pay2]
  rw [zero_sub]

variable (c : Dev nD)

theorem entryG : V m c main_v0 = (shapeCast S1x1024 (show FVec Ideal S1024 .f32 from m ((c : Thread nD τ).loc main_arg1)) shapeCasts_S1024_S1x1024 : FVec Ideal S1x1024 .f32) := by
  show StableHlo.after hostOps0 _ _ = _
  after_results <;> rfl

/-- The row of a block's row, and the shard a grid step works at. -/
def row (t : Fin cfg0.N) (r : Fin 640) : Fin 8320 := ⟨t.val / 4 * 640 + r.val, by have := lt_of_lt_of_eq t.isLt N_0; omega⟩
def sh (t : Fin cfg0.N) : Fin 4 := ⟨t.val % 4, by omega⟩

theorem blkH (t : Fin cfg0.N) (r : Fin 640) (q : Fin 1024) : (iblk m c 0 t (ix2 r q) : EReal) = arrH m c (row t r) q := by
  show (V m c main_arg0 ((win0_0.blk t).view.emb (ix2 r q)) : EReal) = _
  rw [V_main_arg0]
  unfold arrH row
  blk_ext [idx t]
theorem blkG (t : Fin cfg0.N) (q : Fin 1024) : (iblk m c 1 t (ix2 0 q) : EReal) = gain m c q := by
  show (V m c main_v0 ((win0_1.blk t).view.emb (ix2 0 q)) : EReal) = _
  rw [entryG]
  unfold gain
  pointwise []
  blk_ext [idx t]
theorem blkW (t : Fin cfg0.N) (k : Fin 1024) (f : Fin 704) : (iblk m c 2 t (ix3 0 k f) : EReal) = arrW m c (sh t) k f := by
  show (V m c main_arg2 ((win0_2.blk t).view.emb (ix3 0 k f)) : EReal) = _
  rw [V_main_arg2]
  unfold arrW sh
  blk_ext [idx t]
theorem blkX (t : Fin cfg0.N) (k : Fin 1024) (f : Fin 704) : (iblk m c 3 t (ix3 0 k f) : EReal) = arrX m c (sh t) k f := by
  show (V m c main_arg3 ((win0_3.blk t).view.emb (ix3 0 k f)) : EReal) = _
  rw [V_main_arg3]
  unfold arrX sh
  blk_ext [idx t]

/-- The normalised rows and the two products. -/
def u (r : Fin 8320) (q : Fin 1024) : EReal := normRow (arrH m c r) (gain m c) q
def prodG (s : Fin 4) (r : Fin 8320) (f : Fin 704) : EReal := ∑ k : Fin 1024, u m c r k * arrW m c s k f
def prodV (s : Fin 4) (r : Fin 8320) (f : Fin 704) : EReal := ∑ k : Fin 1024, u m c r k * arrX m c s k f

theorem outU_eq (t : Fin cfg0.N) (y : S640x1024.Idx) : (outU (iblk m c 0 t) (iblk m c 1 t) y : EReal) = u m c (row t (y 0)) (y 1) := by
  unfold outU
  frame_out
  exact (hU _ _ y).trans (normRow_congr (fun k => blkH m c t (y 0) k) (fun k => blkG m c t k) (y 1))

theorem partG (t : Fin cfg0.N) (r : Fin 640) (f : Fin 704) :
    part (outU (iblk m c 0 t) (iblk m c 1 t)) (iblk m c 2 t) r f = prodG m c (sh t) (row t r) f :=
  Finset.sum_congr (M := EReal) rfl fun k _ => mul_of_eq (outU_eq m c t (ix2 r k)) (blkW m c t k f)
theorem partV (t : Fin cfg0.N) (r : Fin 640) (f : Fin 704) :
    part (outU (iblk m c 0 t) (iblk m c 1 t)) (iblk m c 3 t) r f = prodV m c (sh t) (row t r) f :=
  Finset.sum_congr (M := EReal) rfl fun k _ => mul_of_eq (outU_eq m c t (ix2 r k)) (blkX m c t k f)

/-- The activation. -/
def act (s : Fin 4) (r : Fin 8320) (f : Fin 704) : EReal := prodG m c s r f * sgm (prodG m c s r f) * prodV m c s r f

theorem outG_eq (X : Vec Ideal S640x1024 .bf16) (Y : Vec Ideal S1x1024x704 .bf16) (y : S1x640x704.Idx) :
    (outG X Y y : EReal) = part X Y (y 1) (y 2) := by
  unfold outG
  frame_out
  exact hG _ _ y
theorem outV_eq (X : Vec Ideal S640x1024 .bf16) (Y : Vec Ideal S1x1024x704 .bf16) (y : S1x640x704.Idx) :
    (outV X Y y : EReal) = part X Y (y 1) (y 2) := by
  unfold outV
  frame_out
  exact hV _ _ y
theorem outA_eq (X : Vec Ideal S640x1024 .bf16) (Y Z : Vec Ideal S1x1024x704 .bf16) (y : S1x640x704.Idx) :
    (outA X Y Z y : EReal) = part X Y (y 1) (y 2) * sgm (part X Y (y 1) (y 2)) * part X Z (y 1) (y 2) := by
  unfold outA
  frame_out
  exact hA _ _ _ y

theorem emb4 (t : Fin cfg0.N) (y : S640x1024.Idx) :
    ((win0_4.blk t).view.emb y 0).val = t.val / 4 * 640 + (y 0).val ∧ ((win0_4.blk t).view.emb y 1).val = (y 1).val := by
  constructor <;> blk_simp [idx t]
theorem emb5 (t : Fin cfg0.N) (y : S1x640x704.Idx) :
    ((win0_5.blk t).view.emb y 0).val = t.val % 4 ∧ ((win0_5.blk t).view.emb y 1).val = t.val / 4 * 640 + (y 1).val ∧ ((win0_5.blk t).view.emb y 2).val = (y 2).val := by
  have y0 : (y 0).val < 1 := (y 0).isLt
  refine ⟨?_, ?_, ?_⟩ <;> blk_simp [idx t]
theorem emb6 (t : Fin cfg0.N) (y : S1x640x704.Idx) :
    ((win0_6.blk t).view.emb y 0).val = t.val % 4 ∧ ((win0_6.blk t).view.emb y 1).val = t.val / 4 * 640 + (y 1).val ∧ ((win0_6.blk t).view.emb y 2).val = (y 2).val := by
  have y0 : (y 0).val < 1 := (y 0).isLt
  refine ⟨?_, ?_, ?_⟩ <;> blk_simp [idx t]
theorem emb7 (t : Fin cfg0.N) (y : S1x640x704.Idx) :
    ((win0_7.blk t).view.emb y 0).val = t.val % 4 ∧ ((win0_7.blk t).view.emb y 1).val = t.val / 4 * 640 + (y 1).val ∧ ((win0_7.blk t).view.emb y 2).val = (y 2).val := by
  have y0 : (y 0).val < 1 := (y 0).isLt
  refine ⟨?_, ?_, ?_⟩ <;> blk_simp [idx t]

theorem arr4 : (dats m 0 c).arrAt 4 cfg0.N = fun z : S8320x1024.Idx => u m c (z 0) (z 1) := by
  refine (dats m 0 c).arrAt_eq_of_covers 4 _ (by decide +kernel) fun t hf y => ?_
  have e := emb4 t y
  rw [after0_4]
  refine (cast_eq _ _).trans ?_
  exact (outU_eq m c t y).trans (at2 (u m c) e.1.symm e.2.symm)
theorem arr5 : (dats m 0 c).arrAt 5 cfg0.N = fun z : S4x8320x704.Idx => prodG m c (z 0) (z 1) (z 2) := by
  refine (dats m 0 c).arrAt_eq_of_covers 5 _ (by decide +kernel) fun t hf y => ?_
  have e := emb5 t y
  rw [after0_5]
  refine (cast_eq _ _).trans ?_
  exact ((outG_eq _ _ y).trans (partG m c t _ _)).trans (at3 (prodG m c) e.1.symm e.2.1.symm e.2.2.symm)
theorem arr6 : (dats m 0 c).arrAt 6 cfg0.N = fun z : S4x8320x704.Idx => prodV m c (z 0) (z 1) (z 2) := by
  refine (dats m 0 c).arrAt_eq_of_covers 6 _ (by decide +kernel) fun t hf y => ?_
  have e := emb6 t y
  rw [after0_6]
  refine (cast_eq _ _).trans ?_
  exact ((outV_eq _ _ y).trans (partV m c t _ _)).trans (at3 (prodV m c) e.1.symm e.2.1.symm e.2.2.symm)
theorem arr7 : (dats m 0 c).arrAt 7 cfg0.N = fun z : S4x8320x704.Idx => act m c (z 0) (z 1) (z 2) := by
  refine (dats m 0 c).arrAt_eq_of_covers 7 _ (by decide +kernel) fun t hf y => ?_
  have e := emb7 t y
  rw [after0_7]
  refine (cast_eq _ _).trans ?_
  refine (outA_eq _ _ _ y).trans (Eq.trans (b := act m c (sh t) (row t (y 1)) (y 2)) ?_ (at3 (act m c) e.1.symm e.2.1.symm e.2.2.symm))
  exact mul_of_eq (mul_of_eq (partG m c t _ _) (congrArg sgm (partG m c t _ _))) (partV m c t _ _)

end Cert.Kernel6Ideal.Value

end
-- ==== Proof.Ffn.GateEq.lean ====
/- The forward call that goes up: the reference, and the equation. -/
module

public import proofs.«01_k».proof.Defs
public import proofs.«01_k».proof.Proof.Ffn.Gate
public import proofs.«01_k».proof.Proof.Gen.Reference6Ideal.Run

@[expose] public section

set_option maxRecDepth 16384

noncomputable section

open Idealize.ShloMosaic Idealize.ShloMosaic.TcCoe Idealize.SL.Sem
namespace Cert.Reference6Ideal.Value
open Cert.Reference6Ideal Cert.Reference6Ideal.Gen Cert.Ffn

/-- The normalised rows. -/
def opU (H : FVec Ideal S8320x1024 .f32) (g : FVec Ideal S1024 .f32) : FVec Ideal S8320x1024 .f32 :=
  mulf (mulf H (broadcastInDim S8320x1024 ![0, 1] bcast_S8320x1_S8320x1024_0_1 (Host.rsqrt (addf (Host.divf (broadcastInDim S8320x1 ![0] bcast_S8320_S8320x1_0 (Host.reduceAdd (mulf H H) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (broadcastInDim S1x1024 ![1] bcast_S1024_S1x1024_1 g))

theorem opU_eq (H : FVec Ideal S8320x1024 .f32) (g : FVec Ideal S1024 .f32) (y : S8320x1024.Idx) :
    (opU H g y : EReal) = normRow (fun k => H (ix2 (y 0) k)) (fun k => g (ix1 k)) (y 1) := by
  unfold normRow rinv
  pointwise [opU]

/-- The normalised rows as they are returned. -/
def opT (H : FVec Ideal S8320x1024 .f32) (g : FVec Ideal S1024 .f32) : FVec Ideal S8320x1024 .bf16 := truncf .bf16 (opU H g) bitsLt_bf16_f32

theorem opT_eq (H : FVec Ideal S8320x1024 .f32) (g : FVec Ideal S1024 .f32) (y : S8320x1024.Idx) : (opT H g y : EReal) = opU H g y := by
  pointwise [opT]

/-- A product of the normalised rows, the columns of the four shards side by side. -/
def opD (U : FVec Ideal S8320x1024 .f32) (W : FVec Ideal S4x1024x704 .bf16) : FVec Ideal S8320x2816 .f32 :=
  Host.dotGeneral dot_S8320x1024_S1024x2816_S8320x2816_1_0_0_1_n_n none U (shapeCast _ (transpose S1024x4x704 [1, 0, 2] (extf .f32 W bitsLt_bf16_f32) transposes_S4x1024x704_S1024x4x704_1_0_2) shapeCasts_S1024x4x704_S1024x2816)

/-- The columns dealt out to the shards. -/
def opS (D : FVec Ideal S8320x2816 .f32) : FVec Ideal S4x8320x704 .bf16 :=
  truncf .bf16 (transpose S4x8320x704 [1, 0, 2] (shapeCast _ D shapeCasts_S8320x2816_S8320x4x704) transposes_S8320x4x704_S4x8320x704_1_0_2) bitsLt_bf16_f32

/-- The gated activation. -/
def opA (G V : FVec Ideal S8320x2816 .f32) : FVec Ideal S8320x2816 .f32 :=
  mulf (mulf G (Host.divf (broadcastInDim S8320x2816 ![] bcast_S_S8320x2816 (constant S_ .f32 0x3F800000#32)) (addf (broadcastInDim S8320x2816 ![] bcast_S_S8320x2816 (constant S_ .f32 0x3F800000#32)) (Host.exp (Host.negf G))))) V

theorem opS_eq (D : FVec Ideal S8320x2816 .f32) (s : Fin 4) (r : Fin 8320) (f : Fin 704) :
    (opS D (ix3 s r f) : EReal) = D (ix2 r (⟨s.val * 704 + f.val, by omega⟩ : Fin 2816)) := by
  pointwise [opS]

theorem opD_eq (U : FVec Ideal S8320x1024 .f32) (W : FVec Ideal S4x1024x704 .bf16) (s : Fin 4) (r : Fin 8320) (f : Fin 704) :
    (opD U W (ix2 r (⟨s.val * 704 + f.val, by omega⟩ : Fin 2816)) : EReal) = ∑ k : Fin 1024, (U (ix2 r k) : EReal) * (W (ix3 s k f) : EReal) := by
  pointwise [opD]

theorem opA_eq (G V : FVec Ideal S8320x2816 .f32) (y : S8320x2816.Idx) :
    (opA G V y : EReal) = (G y : EReal) * sgm (G y : EReal) * (V y : EReal) := by
  unfold sgm
  pointwise [opA]

end Cert.Reference6Ideal.Value

namespace Cert.Ffn

theorem algebraic6 : Cert.algebraic_Kernel6Ideal_Reference6Ideal (hKernel6Ideal := Cert.Kernel6Ideal.Gen.facts)
    (hReference6Ideal := Cert.Reference6Ideal.Gen.facts) := by
  intro m g m' g' hpre hagree
  refine ⟨fun c => (Cert.Kernel6Ideal.Body.dats m 0 c).arrAt 4 Cert.Kernel6Ideal.cfg0.N, fun c => (Cert.Kernel6Ideal.Body.dats m 0 c).arrAt 5 Cert.Kernel6Ideal.cfg0.N, fun c => (Cert.Kernel6Ideal.Body.dats m 0 c).arrAt 6 Cert.Kernel6Ideal.cfg0.N, fun c => (Cert.Kernel6Ideal.Body.dats m 0 c).arrAt 7 Cert.Kernel6Ideal.cfg0.N, Cert.Kernel6Ideal.Value.run_blocks m g, ?_⟩
  refine (θ_run Cert.Reference6Ideal.defs _ _).mono (fun r h c => ?_) (Cert.Reference6Ideal.Value.run (F := Ideal) m' g')
  obtain ⟨h0, h1, h2, h3, ha⟩ := h c
  obtain ⟨e0, e1, e2, e3⟩ := hagree c
  have e : ∀ y : Cert.Kernel6Ideal.S4x8320x704.Idx, y = ix3 (y 0) (y 1) (y 2) := fun y => by funext i; fin_cases i <;> rfl
  have hG : ∀ s r f, (Cert.Reference6Ideal.Value.opD (Cert.Reference6Ideal.Value.opU (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))) (m ((c.tc : Thread Cert.Kernel6Ideal.nD Cert.Kernel6Ideal.τ).loc Cert.Kernel6Ideal.main_arg2)) (ix2 r (⟨s.val * 704 + f.val, by omega⟩ : Fin 2816)) : EReal) = Cert.Kernel6Ideal.Value.prodG m c s r f := fun s r f =>
    (Cert.Reference6Ideal.Value.opD_eq _ _ s r f).trans (Finset.sum_congr (M := EReal) rfl fun k _ => mul_of_eq (Cert.Reference6Ideal.Value.opU_eq _ _ (ix2 r k)) rfl)
  have hV : ∀ s r f, (Cert.Reference6Ideal.Value.opD (Cert.Reference6Ideal.Value.opU (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))) (m ((c.tc : Thread Cert.Kernel6Ideal.nD Cert.Kernel6Ideal.τ).loc Cert.Kernel6Ideal.main_arg3)) (ix2 r (⟨s.val * 704 + f.val, by omega⟩ : Fin 2816)) : EReal) = Cert.Kernel6Ideal.Value.prodV m c s r f := fun s r f =>
    (Cert.Reference6Ideal.Value.opD_eq _ _ s r f).trans (Finset.sum_congr (M := EReal) rfl fun k _ => mul_of_eq (Cert.Reference6Ideal.Value.opU_eq _ _ (ix2 r k)) rfl)
  refine ⟨h0.trans (Eq.trans (funext fun y => ?_) (Cert.Kernel6Ideal.Value.arr4 m c).symm), h1.trans (Eq.trans (funext fun y => ?_) (Cert.Kernel6Ideal.Value.arr5 m c).symm), h2.trans (Eq.trans (funext fun y => ?_) (Cert.Kernel6Ideal.Value.arr6 m c).symm), h3.trans (Eq.trans (funext fun y => ?_) (Cert.Kernel6Ideal.Value.arr7 m c).symm), ha⟩
  · rw [e0, e1]
    exact (Cert.Reference6Ideal.Value.opT_eq _ _ y).trans (Cert.Reference6Ideal.Value.opU_eq _ _ y)
  · rw [e0, e1, e2]
    exact (congrArg (Cert.Reference6Ideal.Value.opS (Cert.Reference6Ideal.Value.opD (Cert.Reference6Ideal.Value.opU _ _) _)) (e y)).trans ((Cert.Reference6Ideal.Value.opS_eq _ _ _ _).trans (hG _ _ _))
  · rw [e0, e1, e3]
    exact (congrArg (Cert.Reference6Ideal.Value.opS (Cert.Reference6Ideal.Value.opD (Cert.Reference6Ideal.Value.opU _ _) _)) (e y)).trans ((Cert.Reference6Ideal.Value.opS_eq _ _ _ _).trans (hV _ _ _))
  · rw [e0, e1, e2, e3]
    refine (congrArg (Cert.Reference6Ideal.Value.opS (Cert.Reference6Ideal.Value.opA (Cert.Reference6Ideal.Value.opD (Cert.Reference6Ideal.Value.opU _ _) _) (Cert.Reference6Ideal.Value.opD (Cert.Reference6Ideal.Value.opU _ _) _))) (e y)).trans ((Cert.Reference6Ideal.Value.opS_eq _ _ _ _).trans ((Cert.Reference6Ideal.Value.opA_eq _ _ _).trans ?_))
    exact mul_of_eq (mul_of_eq (hG _ _ _) (congrArg sgm (hG _ _ _))) (hV _ _ _)

end Cert.Ffn

end
-- ==== Proof.Mixer.ProjAbRun.lean ====
module

public import proofs.«01_k».proof.Proof.Gen.Kernel17Ideal.Frame
public import proofs.«01_k».proof.Proof.Gen.Kernel17Ideal.Skeleton
public import Idealize.ShloMosaic.Lib.Pipeline.TableIdle
public import Idealize.ShloMosaic.Lib.Claim

@[expose] public section

/-!
The run of the mixer's forward call that normalises the rows and projects them. The normalised rows are stored at a
row tile's first grid step, read at the later two and written back at the last; the product is stored at every step.
-/

set_option maxRecDepth 16384

noncomputable section

namespace Cert.Kernel17Ideal.Body

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a grid step leaves -/

/-- The whole row tile. -/
abbrev tileR : Rect S640x1024 := Rect.unit (s := S640x1024) ![0, 0] S640x1024.size inb_S640x1024_S640x1024_0_0
/-- The whole gain. -/
abbrev gainR : Rect S1x1024 := Rect.unit (s := S1x1024) ![0, 0] S1x1024.size inb_S1x1024_S1x1024_0_0
/-- The step's columns of the weights. -/
abbrev weightR : Rect S1024x1408 := Rect.unit (s := S1024x1408) ![0, 0] S1024x1408.size inb_S1024x1408_S1024x1408_0_0
/-- The whole tile of the product. -/
abbrev prodR : Rect S640x1408 := Rect.unit (s := S640x1408) ![0, 0] S640x1408.size inb_S640x1408_S640x1408_0_0

/-- The normalised rows, from the rows and the gain. -/
def outU (x0 : Vec F S640x1024 .f32) (x1 : Vec F S1x1024 .f32) : Vec F S640x1024 .bf16 :=
  View.canon [⟨tileR, k0_pay1 (View.ld x0 tileR) (View.ld x1 gainR)⟩]

/-- The product, from the normalised rows and the weights. -/
def outP (u : Vec F S640x1024 .bf16) (x2 : Vec F S1024x1408 .bf16) : Vec F S640x1408 .f32 :=
  View.canon [⟨prodR, k0_pay2 (View.ld u tileR) (View.ld x2 weightR)⟩]

/-- A store of the whole tile covers it. -/
theorem cover_tile (p : Vec F S640x1024 .bf16) (y : S640x1024.Idx) :
    ∃ pc ∈ ([⟨tileR, p⟩] : List (View.Piece (Elt F) S640x1024 .bf16)), y ∈ pc.1.set :=
  View.cover_of_tiled [⟨tileR, p⟩] S640x1024.size (by rfl) y

/-- A store of the product's whole tile covers it. -/
theorem cover_prod (p : Vec F S640x1408 .f32) (y : S640x1408.Idx) :
    ∃ pc ∈ ([⟨prodR, p⟩] : List (View.Piece (Elt F) S640x1408 .f32)), y ∈ pc.1.set :=
  View.cover_of_tiled [⟨prodR, p⟩] S640x1408.size (by rfl) y

/-! ## The body at a step that normalises and at one that does not -/

set_option maxHeartbeats 1000000 in
/-- The body at a row tile's first step: the normalised rows are stored and read back. -/
theorem sound_first (c : Dev nD) (E : Set ℕ) (i : grid0.Coords) (arg2 : Memref sig .tc .vmem S640x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S640x1024 .bf16) (harg5 : arg5.IsWhole) (arg6 : Memref sig .tc .vmem S640x1408 .f32) (harg6 : arg6.IsWhole)
    (hc : k0_cond1 i = 1#1)
    (x0 : Vec F S640x1024 .f32) (x1 : Vec F S1x1024 .f32) (x2 : Vec F S1024x1408 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outU x0 x1) ∗ owns (c : Thread nD τ) arg6 fullShare (outP (outU x0 x1) x2)) -∗ K ⟨⟩))
      ⊢ wp frame (wpE (defs₀ (F := F)) Variants.none c none) E (cc0_norm_proj i arg2 harg2 arg3 harg3 arg4 harg4 arg5 harg5 arg6 harg6) K := by
  simp only [cc0_norm_proj_eq_skeleton]; unfold cc0_norm_proj_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_tile _)
  have hu : sound_first.sl.v3 c arg2 arg3 arg5 f0 f1 = View.ld (outU (View.read (Elt F) arg2.view f0) (View.read (Elt F) arg3.view f1)) tileR := by
    delta sound_first.sl.v3 sound_first.sl.H3_1
    exact View.readCov_eq_canon' _ _ _
  iexists _; isplitr
  swap; · iexact H4
  ipureintro
  refine (View.read_writes_eq_canon _ _ _ (cover_prod _)).trans ?_
  rw [hu]; rfl

set_option maxHeartbeats 1000000 in
/-- The body at a later step of the row tile: the normalised rows are read. -/
theorem sound_later (c : Dev nD) (E : Set ℕ) (i : grid0.Coords) (arg2 : Memref sig .tc .vmem S640x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S640x1024 .bf16) (harg5 : arg5.IsWhole) (arg6 : Memref sig .tc .vmem S640x1408 .f32) (harg6 : arg6.IsWhole)
    (hc : ¬k0_cond1 i = 1#1)
    (x0 : Vec F S640x1024 .f32) (x1 : Vec F S1x1024 .f32) (x2 : Vec F S1024x1408 .bf16) (u : Vec F S640x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare u ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare u ∗ owns (c : Thread nD τ) arg6 fullShare (outP u x2)) -∗ K ⟨⟩))
      ⊢ wp frame (wpE (defs₀ (F := F)) Variants.none c none) E (cc0_norm_proj i arg2 harg2 arg3 harg3 arg4 harg4 arg5 harg5 arg6 harg6) K := by
  simp only [cc0_norm_proj_eq_skeleton]; unfold cc0_norm_proj_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_prod _)

/-! ## The steps -/

/-- The rows are normalised at the first of a row tile's three steps. -/
theorem cond_iff : ∀ t : Fin cfg0.N, k0_cond1 (grid0.coords t) = 1#1 ↔ t.val % 3 = 0 := by decide +kernel

/-- The other steps do not store the normalised rows. -/
theorem idle_u : ∀ t : Fin cfg0.N, cfg0.idle 3 (grid0.coords t) = decide (t.val % 3 ≠ 0) := by decide +kernel

/-- Nothing of the normalised rows is held when a row tile begins. -/
theorem fresh_u : ∀ n, n ≤ cfg0.N → cfg0.fresh 3 n = decide (n % 3 = 0) :=
  cfg0.fresh_tab 3 (fun n => decide (n % 3 = 0)) rfl (by decide +kernel)

/-! ## The pipeline's contents -/

/-- After a grid step each input's buffer holds its block, the first output's the row tile's normalised rows, and the
    other output's what the step stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outU (iblk m c 0 t) (iblk m c 1 t)
    | ⟨4, _⟩ => outP (outU (iblk m c 0 t) (iblk m c 1 t)) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outU (iblk m c 0 t) (iblk m c 1 t) := by dsimp only [dats]
theorem after0_4 (c : Dev nD) (t : Fin cfg0.N) : (dats m 0 c).after 4 t = outP (outU (iblk m c 0 t) (iblk m c 1 t)) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Where the rows are not fetched they are those of the step before. -/
theorem rows_prev (c : Dev nD) (t : Fin cfg0.N) (h : t.val % 3 ≠ 0) :
    iblk m c 0 t = iblk m c 0 ⟨t.val - 1, lt_of_le_of_lt (Nat.sub_le _ _) t.isLt⟩ := by
  have hf : (cfg0.win 0).fetch t = false := by rw [← Bool.not_eq_true, fetch0_0]; exact h
  rw [← before0_0 m c t (iblk m c 0 t), (dats m 0 c).before_unfetched_in 0 rfl t hf (fun _ => rfl)]
  unfold Dat.kept
  rw [Pipeline.fill_of_clip_none (cfg := cfg0) 0 _ (fun _ => rfl) _ ((dats m 0 c).after 0 _), Window.fill_cut, after0_0]

/-- Likewise the gain. -/
theorem gain_prev (c : Dev nD) (t : Fin cfg0.N) (h : t.val % 3 ≠ 0) :
    iblk m c 1 t = iblk m c 1 ⟨t.val - 1, lt_of_le_of_lt (Nat.sub_le _ _) t.isLt⟩ := by
  have hf : (cfg0.win 1).fetch t = false := by rw [← Bool.not_eq_true, fetch0_1]; omega
  rw [← before0_1 m c t (iblk m c 1 t), (dats m 0 c).before_unfetched_in 1 rfl t hf (fun _ => rfl)]
  unfold Dat.kept
  rw [Pipeline.fill_of_clip_none (cfg := cfg0) 1 _ (fun _ => rfl) _ ((dats m 0 c).after 1 _), Window.fill_cut, after0_1]

/-- So the normalised rows are those of the step before. -/
theorem carry_u (c : Dev nD) (t : Fin cfg0.N) (h : t.val % 3 ≠ 0) :
    (dats m 0 c).after 3 t = (dats m 0 c).after 3 ⟨t.val - 1, lt_of_le_of_lt (Nat.sub_le _ _) t.isLt⟩ := by
  rw [after0_3, after0_3, rows_prev m c t h, gain_prev m c t h]

/-- At a later step of a row tile the first output's buffer holds its normalised rows. -/
theorem before_u (c : Dev nD) (t : Fin cfg0.N) (h : t.val % 3 ≠ 0) (d) :
    (dats m 0 c).before 3 t d = outU (iblk m c 0 t) (iblk m c 1 t) := by
  rw [(dats m 0 c).before_out_traj 3 rfl (fun _ _ => rfl) (fun t _ hi _ => carry_u m c t (by rw [idle_u] at hi; exact of_decide_eq_true hi)) t.val t rfl d,
    fresh_u t.val t.isLt.le, if_neg (by simpa using h), ← carry_u m c t h, after0_3]

/-! ## The body at every step -/

/-- What the body finds at a step, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ owns (c : Thread nD τ) (st0_4 t) fullShare ((dats m 0 c).after 4 t))

/-- The normalised rows in the buffer are what the step is to leave of them. -/
theorem leaves_u (c : Dev nD) (t : Fin cfg0.N) :
    owns (c : Thread nD τ) (st0_3 t) fullShare (outU (iblk m c 0 t) (iblk m c 1 t)) ⊢ (dats m 0 c).leavesExact 3 t := by
  by_cases h : t.val % 3 = 0
  · rw [show (dats m 0 c).leavesExact 3 t = owns (c : Thread nD τ) (st0_3 t) fullShare ((dats m 0 c).after 3 t) from by
      unfold Dat.leavesExact; rw [idle_u t, decide_eq_false (not_not.mpr h)], after0_3]
  · by_cases hf : t.val % 3 = 2
    · rw [show (dats m 0 c).leavesExact 3 t = owns (c : Thread nD τ) (st0_3 t) fullShare ((dats m 0 c).after 3 t) from by
        unfold Dat.leavesExact; rw [idle_u t, decide_eq_true h, (flush0_3 t).mpr hf], after0_3]
    · rw [Dat.leavesExact_idle (dats m 0 c) 3 t (by rw [idle_u t, decide_eq_true h]) (by rw [← Bool.not_eq_true, flush0_3]; exact hf)]
      simp only [before_u m c t h]
      iintro H
      iexists (outU (iblk m c 0 t) (iblk m c 1 t))
      iexact H

/-- The body runs from the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_4]
  by_cases h : t.val % 3 = 0
  · iintro ⟨HΦ, Ho, ⟨%d0, H0⟩, ⟨%d1, H1⟩, ⟨%d2, H2⟩, ⟨%d3, H3⟩, ⟨%d4, H4⟩⟩
    iapply (sound_first c Set.univ (grid0.coords t) _ _ _ _ _ _ _ _ _ _ ((cond_iff t).mpr h) (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · iapply (leaves_u m c t); iexact H3
    iexact H4
  · simp only [before_u m c t h]
    iintro ⟨HΦ, Ho, ⟨%d0, H0⟩, ⟨%d1, H1⟩, ⟨%d2, H2⟩, ⟨%d3, H3⟩, ⟨%d4, H4⟩⟩
    iapply (sound_later c Set.univ (grid0.coords t) _ _ _ _ _ _ _ _ _ _ (fun hc => h ((cond_iff t).mp hc)) (iblk m c 0 t) (iblk m c 1 t) (iblk m c 2 t) (outU (iblk m c 0 t) (iblk m c 1 t)) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · iapply (leaves_u m c t); iexact H3
    iexact H4

/-- The body's row in the program's table is the body at the step. -/
theorem row_eq (t : Fin cfg0.N) :
    defs₀ (F := F) .tc cfg0.body (cfg0.bodyArgs t (cfg0.slots t)) = bodyAt0 t := by
  unfold defs₀; rw [Defs.onTc_tc]

/-- The body does at every step what the pipeline asks of it. -/
theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-! ## The run -/

set_option backward.isDefEq.respectTransparency.types false in
set_option maxHeartbeats 800000 in
/-- Every run ends with each array at what the pipeline leaves and every semaphore at zero. -/
theorem run_end : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arrays of that. -/
theorem run_main : θ_run defs (onTc (τ := τ) (main (F := F))) (s₀ m ρ) (Pipeline.FramePost cfgs (dats m) 0 (V m)) :=
  (θ_run defs _ _).mono (fun _ h => h.1) (run_end m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_end m ρ))

end Cert.Kernel17Ideal.Body

end
-- ==== Proof.Mixer.ProjAb.lean ====
/- The call that normalises the rows and projects them: what the kernel's arrays hold. -/
module

public import proofs.«01_k».proof.Proof.Mixer.ProjAbRun
public import Idealize.ShloMosaic.Lib.Pipeline.Value
public import Idealize.ShloMosaic.Lib.Pipeline.ValueKit
public import proofs.«01_k».proof.Proof.Ffn.NormRow

@[expose] public section

set_option maxRecDepth 16384

noncomputable section

open Idealize.ShloMosaic Idealize.ShloMosaic.TcCoe Idealize.SL.Sem
open Idealize.ShloMosaic.Pipeline (Dat)
namespace Cert.Kernel17Ideal.Value
open Cert.Kernel17Ideal Cert.Kernel17Ideal.Gen Cert.Kernel17Ideal.Body Cert.Ffn

variable (m : (ℓ : Loc nD τ sig) → Buf (Elt Ideal) ℓ) (ρ : Dev nD → PrngReg)

/-- The run with each result's array named. -/
theorem run_blocks : θ_run defs (onTc (τ := τ) (main (F := Ideal))) ⟨m, fun _ => 0, ρ⟩ fun r => ∀ c : Dev nD,
      r.2.mem ((c : Thread nD τ).loc main_v1_0) = (dats m 0 c).arrAt 3 cfg0.N
      ∧ r.2.mem ((c : Thread nD τ).loc main_v1_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, (h.1 c).1 4, h.2 c⟩)
    (θ_run_and (run_main m ρ) (frame_of m ρ (dats m) (A_eq m) (run_main m ρ)))

theorem idx : ∀ t : Fin cfg0.N, win0_0.index t = ![t.val / 3, 0] ∧ win0_1.index t = ![0, 0]
    ∧ win0_2.index t = ![0, t.val % 3] ∧ win0_3.index t = ![t.val / 3, 0] ∧ win0_4.index t = ![t.val / 3, t.val % 3] :=
  (by decide +kernel : ∀ t : Fin grid0.N, _)

/-- The rows, the gain and the weights. -/
def arrH (c : Dev nD) (r : Fin 8320) (q : Fin 1024) : EReal :=
  (show FVec Ideal S8320x1024 .f32 from m ((c : Thread nD τ).loc main_arg0)) (ix2 r q)
def gain (c : Dev nD) (q : Fin 1024) : EReal :=
  (show FVec Ideal S1024 .f32 from m ((c : Thread nD τ).loc main_arg1)) (ix1 q)
def arrW (c : Dev nD) (k : Fin 1024) (f : Fin 4224) : EReal :=
  (show FVec Ideal S1024x4224 .bf16 from m ((c : Thread nD τ).loc main_arg2)) (ix2 k f)

theorem hU (H : Vec Ideal S640x1024 .f32) (g : Vec Ideal S1x1024 .f32) (y : S640x1024.Idx) :
    (k0_pay1 (F := Ideal) H g y : EReal) = normRow (fun k => H (ix2 (y 0) k)) (fun k => g (ix2 0 k)) (y 1) := by
  unfold normRow rinv
  pointwise [k0_pay1]
theorem hP (X : Vec Ideal S640x1024 .bf16) (Y : Vec Ideal S1024x1408 .bf16) (y : S640x1408.Idx) :
    (k0_pay2 (F := Ideal) X Y y : EReal) = ∑ k : Fin 1024, X (ix2 (y 0) k) * Y (ix2 k (y 1)) := by
  pointwise [k0_pay2]

variable (c : Dev nD)

theorem entryG : V m c main_v0 = (shapeCast S1x1024 (show FVec Ideal S1024 .f32 from m ((c : Thread nD τ).loc main_arg1)) shapeCasts_S1024_S1x1024 : FVec Ideal S1x1024 .f32) := by
  show StableHlo.after hostOps0 _ _ = _
  after_results <;> rfl

/-- The row of a block's row, and the column of a block's column. -/
def row (t : Fin cfg0.N) (r : Fin 640) : Fin 8320 := ⟨t.val / 3 * 640 + r.val, by have := lt_of_lt_of_eq t.isLt N_0; omega⟩
def col (t : Fin cfg0.N) (f : Fin 1408) : Fin 4224 := ⟨t.val % 3 * 1408 + f.val, by omega⟩

theorem blkH (t : Fin cfg0.N) (r : Fin 640) (q : Fin 1024) : (iblk m c 0 t (ix2 r q) : EReal) = arrH m c (row t r) q := by
  show (V m c main_arg0 ((win0_0.blk t).view.emb (ix2 r q)) : EReal) = _
  rw [V_main_arg0]
  unfold arrH row
  blk_ext [idx t]
theorem blkG (t : Fin cfg0.N) (q : Fin 1024) : (iblk m c 1 t (ix2 0 q) : EReal) = gain m c q := by
  show (V m c main_v0 ((win0_1.blk t).view.emb (ix2 0 q)) : EReal) = _
  rw [entryG]
  unfold gain
  pointwise []
  blk_ext [idx t]
theorem blkW (t : Fin cfg0.N) (k : Fin 1024) (f : Fin 1408) : (iblk m c 2 t (ix2 k f) : EReal) = arrW m c k (col t f) := by
  show (V m c main_arg2 ((win0_2.blk t).view.emb (ix2 k f)) : EReal) = _
  rw [V_main_arg2]
  unfold arrW col
  blk_ext [idx t]

/-- The normalised rows and the product. -/
def u (r : Fin 8320) (q : Fin 1024) : EReal := normRow (arrH m c r) (gain m c) q
def prod (r : Fin 8320) (f : Fin 4224) : EReal := ∑ k : Fin 1024, u m c r k * arrW m c k f

theorem outU_eq (t : Fin cfg0.N) (y : S640x1024.Idx) : (outU (iblk m c 0 t) (iblk m c 1 t) y : EReal) = u m c (row t (y 0)) (y 1) := by
  unfold outU
  frame_out
  exact (hU _ _ y).trans (normRow_congr (fun k => blkH m c t (y 0) k) (fun k => blkG m c t k) (y 1))
theorem outP_eq (X : Vec Ideal S640x1024 .bf16) (Y : Vec Ideal S1024x1408 .bf16) (y : S640x1408.Idx) :
    (outP X Y y : EReal) = ∑ k : Fin 1024, X (ix2 (y 0) k) * Y (ix2 k (y 1)) := by
  unfold outP
  frame_out
  exact hP _ _ y

theorem emb3 (t : Fin cfg0.N) (y : S640x1024.Idx) :
    ((win0_3.blk t).view.emb y 0).val = t.val / 3 * 640 + (y 0).val ∧ ((win0_3.blk t).view.emb y 1).val = (y 1).val := by
  constructor <;> blk_simp [idx t]
theorem emb4 (t : Fin cfg0.N) (y : S640x1408.Idx) :
    ((win0_4.blk t).view.emb y 0).val = t.val / 3 * 640 + (y 0).val ∧ ((win0_4.blk t).view.emb y 1).val = t.val % 3 * 1408 + (y 1).val := by
  constructor <;> blk_simp [idx t]

theorem arr3 : (dats m 0 c).arrAt 3 cfg0.N = fun z : S8320x1024.Idx => u m c (z 0) (z 1) := by
  refine (dats m 0 c).arrAt_eq_of_covers 3 _ (by decide +kernel) fun t hf y => ?_
  have e := emb3 t y
  rw [after0_3]
  refine (cast_eq _ _).trans ?_
  exact (outU_eq m c t y).trans (at2 (u m c) e.1.symm e.2.symm)
theorem arr4 : (dats m 0 c).arrAt 4 cfg0.N = fun z : S8320x4224.Idx => prod m c (z 0) (z 1) := by
  refine (dats m 0 c).arrAt_eq_of_covers 4 _ (by decide +kernel) fun t hf y => ?_
  have e := emb4 t y
  rw [after0_4]
  refine (cast_eq _ _).trans ?_
  refine (outP_eq _ _ y).trans (Eq.trans (b := prod m c (row t (y 0)) (col t (y 1))) ?_ (at2 (prod m c) e.1.symm e.2.symm))
  exact Finset.sum_congr (M := EReal) rfl fun k _ => mul_of_eq (outU_eq m c t (ix2 (y 0) k)) (blkW m c t k (y 1))

end Cert.Kernel17Ideal.Value

end
-- ==== Proof.Mixer.ProjAbEq.lean ====
/- The forward call that normalises the rows and projects them: the reference, and the equation. -/
module

public import proofs.«01_k».proof.Defs
public import proofs.«01_k».proof.Proof.Mixer.ProjAb
public import proofs.«01_k».proof.Proof.Gen.Reference17Ideal.Run

@[expose] public section

set_option maxRecDepth 16384

noncomputable section

open Idealize.ShloMosaic Idealize.ShloMosaic.TcCoe Idealize.SL.Sem
namespace Cert.Reference17Ideal.Value
open Cert.Reference17Ideal Cert.Reference17Ideal.Gen Cert.Ffn

/-- The normalised rows. -/
def opU (H : FVec Ideal S8320x1024 .f32) (g : FVec Ideal S1024 .f32) : FVec Ideal S8320x1024 .f32 :=
  mulf (mulf H (broadcastInDim S8320x1024 ![0, 1] bcast_S8320x1_S8320x1024_0_1 (Host.rsqrt (addf (Host.divf (broadcastInDim S8320x1 ![0] bcast_S8320_S8320x1_0 (Host.reduceAdd (mulf H H) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (broadcastInDim S1x1024 ![1] bcast_S1024_S1x1024_1 g))

theorem opU_eq (H : FVec Ideal S8320x1024 .f32) (g : FVec Ideal S1024 .f32) (y : S8320x1024.Idx) :
    (opU H g y : EReal) = normRow (fun k => H (ix2 (y 0) k)) (fun k => g (ix1 k)) (y 1) := by
  unfold normRow rinv
  pointwise [opU]

/-- The normalised rows as they are returned. -/
def opT (H : FVec Ideal S8320x1024 .f32) (g : FVec Ideal S1024 .f32) : FVec Ideal S8320x1024 .bf16 := truncf .bf16 (opU H g) bitsLt_bf16_f32

theorem opT_eq (H : FVec Ideal S8320x1024 .f32) (g : FVec Ideal S1024 .f32) (y : S8320x1024.Idx) : (opT H g y : EReal) = opU H g y := by
  pointwise [opT]

/-- The product of the normalised rows and the weights. -/
def opP (U : FVec Ideal S8320x1024 .f32) (W : FVec Ideal S1024x4224 .bf16) : FVec Ideal S8320x4224 .f32 :=
  Host.dotGeneral dot_S8320x1024_S1024x4224_S8320x4224_1_0_0_1_n_n none U (extf .f32 W bitsLt_bf16_f32)

theorem opP_eq (U : FVec Ideal S8320x1024 .f32) (W : FVec Ideal S1024x4224 .bf16) (y : S8320x4224.Idx) :
    (opP U W y : EReal) = ∑ k : Fin 1024, (U (ix2 (y 0) k) : EReal) * (W (ix2 k (y 1)) : EReal) := by
  pointwise [opP]

end Cert.Reference17Ideal.Value

namespace Cert.Ffn

theorem algebraic17 : Cert.algebraic_Kernel17Ideal_Reference17Ideal (hKernel17Ideal := Cert.Kernel17Ideal.Gen.facts)
    (hReference17Ideal := Cert.Reference17Ideal.Gen.facts) := by
  intro m g m' g' hpre hagree
  refine ⟨fun c => (Cert.Kernel17Ideal.Body.dats m 0 c).arrAt 3 Cert.Kernel17Ideal.cfg0.N, fun c => (Cert.Kernel17Ideal.Body.dats m 0 c).arrAt 4 Cert.Kernel17Ideal.cfg0.N, Cert.Kernel17Ideal.Value.run_blocks m g, ?_⟩
  refine (θ_run Cert.Reference17Ideal.defs _ _).mono (fun r h c => ?_) (Cert.Reference17Ideal.Value.run (F := Ideal) m' g')
  obtain ⟨h0, h1, ha⟩ := h c
  obtain ⟨e0, e1, e2⟩ := hagree c
  refine ⟨h0.trans (Eq.trans (funext fun y => ?_) (Cert.Kernel17Ideal.Value.arr3 m c).symm), h1.trans (Eq.trans (funext fun y => ?_) (Cert.Kernel17Ideal.Value.arr4 m c).symm), ha⟩
  · rw [e0, e1]
    exact (Cert.Reference17Ideal.Value.opT_eq _ _ y).trans (Cert.Reference17Ideal.Value.opU_eq _ _ y)
  · rw [e0, e1, e2]
    refine (Cert.Reference17Ideal.Value.opP_eq (Cert.Reference17Ideal.Value.opU _ _) _ y).trans ?_
    exact Finset.sum_congr (M := EReal) rfl fun k _ => mul_of_eq (Cert.Reference17Ideal.Value.opU_eq _ _ (ix2 (y 0) k)) rfl

end Cert.Ffn

end
-- ==== Proof.Mixer.ProjCdRun.lean ====
module

public import proofs.«01_k».proof.Proof.Gen.Kernel18Ideal.Frame
public import proofs.«01_k».proof.Proof.Gen.Kernel18Ideal.Skeleton
public import Idealize.ShloMosaic.Lib.Pipeline.TableIdle
public import Idealize.ShloMosaic.Lib.Claim

@[expose] public section

/-!
The run of the mixer's forward call that normalises the rows and projects them. The normalised rows are stored at a
row tile's first grid step, read at the later two and written back at the last; the product is stored at every step.
-/

set_option maxRecDepth 16384

noncomputable section

namespace Cert.Kernel18Ideal.Body

open Cert.Kernel18Ideal Cert.Kernel18Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a grid step leaves -/

/-- The whole row tile. -/
abbrev tileR : Rect S640x1024 := Rect.unit (s := S640x1024) ![0, 0] S640x1024.size inb_S640x1024_S640x1024_0_0
/-- The whole gain. -/
abbrev gainR : Rect S1x1024 := Rect.unit (s := S1x1024) ![0, 0] S1x1024.size inb_S1x1024_S1x1024_0_0
/-- The step's columns of the weights. -/
abbrev weightR : Rect S1024x768 := Rect.unit (s := S1024x768) ![0, 0] S1024x768.size inb_S1024x768_S1024x768_0_0
/-- The whole tile of the product. -/
abbrev prodR : Rect S640x768 := Rect.unit (s := S640x768) ![0, 0] S640x768.size inb_S640x768_S640x768_0_0

/-- The normalised rows, from the rows and the gain. -/
def outU (x0 : Vec F S640x1024 .f32) (x1 : Vec F S1x1024 .f32) : Vec F S640x1024 .bf16 :=
  View.canon [⟨tileR, k0_pay1 (View.ld x0 tileR) (View.ld x1 gainR)⟩]

/-- The product, from the normalised rows and the weights. -/
def outP (u : Vec F S640x1024 .bf16) (x2 : Vec F S1024x768 .bf16) : Vec F S640x768 .f32 :=
  View.canon [⟨prodR, k0_pay2 (View.ld u tileR) (View.ld x2 weightR)⟩]

/-- A store of the whole tile covers it. -/
theorem cover_tile (p : Vec F S640x1024 .bf16) (y : S640x1024.Idx) :
    ∃ pc ∈ ([⟨tileR, p⟩] : List (View.Piece (Elt F) S640x1024 .bf16)), y ∈ pc.1.set :=
  View.cover_of_tiled [⟨tileR, p⟩] S640x1024.size (by rfl) y

/-- A store of the product's whole tile covers it. -/
theorem cover_prod (p : Vec F S640x768 .f32) (y : S640x768.Idx) :
    ∃ pc ∈ ([⟨prodR, p⟩] : List (View.Piece (Elt F) S640x768 .f32)), y ∈ pc.1.set :=
  View.cover_of_tiled [⟨prodR, p⟩] S640x768.size (by rfl) y

/-! ## The body at a step that normalises and at one that does not -/

set_option maxHeartbeats 1000000 in
/-- The body at a row tile's first step: the normalised rows are stored and read back. -/
theorem sound_first (c : Dev nD) (E : Set ℕ) (i : grid0.Coords) (arg2 : Memref sig .tc .vmem S640x1024 .f32) (harg2 : arg2.IsWhole) (arg3 : Memref sig .tc .vmem S1x1024 .f32) (harg3 : arg3.IsWhole) (arg4 : Memref sig .tc .vmem S1024x768 .bf16) (harg4 : arg4.IsWhole) (arg5 : Memref sig .tc .vmem S640x1024 .bf16) (harg5 : arg5.IsWhole) (arg6 : Memref sig .tc .vmem S640x768 .f32) (harg6 : arg6.IsWhole)
    (hc : k0_cond1 i = 1#1)
    (x0 : Vec F S640x1024 .f32) (x1 : Vec F S1x1024 .f32) (x2 : Vec F S1024x768 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outU x0 x1) ∗ owns (c : Thread nD τ) arg6 fullShare (outP (outU x0 x1) x2)) -∗ K ⟨⟩))
      ⊢ wp frame (wpE (defs₀ (F := F)) Variants.none c none) E (cc0_norm_proj i arg2 harg2 arg3 harg3 arg4 harg4 arg5 harg5 arg6 harg6) K := by
  simp only [cc0_norm_proj_eq_skeleton]; unfold cc0_norm_proj_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_tile _)
  have hu : sound_first.sl.v3 c arg2 arg3 arg5 f0 f1 = View.ld (outU (View.read (Elt F) arg2.view f0) (View.read (Elt F) arg3.view f1)) tileR := by
    delta sound_first.sl.v3 sound_first.sl.H3_1
    exact View.readCov_eq_canon' _ _ _
  iexists _; isplitr
  swap; · iexact H4
  ipureintro
  refine (View.read_writes_eq_canon _ _ _ (cover_prod _)).trans ?_
  rw [hu]; rfl

set_option maxHeartbeats 1000000 in
/-- The body at a later step of the row tile: the normalised rows are read. -/
theorem sound_later (c : Dev nD) (E : Set ℕ) (i : grid0.Coords) (arg2 : Memref sig .tc .vmem S640x1024 .f32) (harg2 : arg2.IsWhole) (arg3 : Memref sig .tc .vmem S1x1024 .f32) (harg3 : arg3.IsWhole) (arg4 : Memref sig .tc .vmem S1024x768 .bf16) (harg4 : arg4.IsWhole) (arg5 : Memref sig .tc .vmem S640x1024 .bf16) (harg5 : arg5.IsWhole) (arg6 : Memref sig .tc .vmem S640x768 .f32) (harg6 : arg6.IsWhole)
    (hc : ¬k0_cond1 i = 1#1)
    (x0 : Vec F S640x1024 .f32) (x1 : Vec F S1x1024 .f32) (x2 : Vec F S1024x768 .bf16) (u : Vec F S640x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare u ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare u ∗ owns (c : Thread nD τ) arg6 fullShare (outP u x2)) -∗ K ⟨⟩))
      ⊢ wp frame (wpE (defs₀ (F := F)) Variants.none c none) E (cc0_norm_proj i arg2 harg2 arg3 harg3 arg4 harg4 arg5 harg5 arg6 harg6) K := by
  simp only [cc0_norm_proj_eq_skeleton]; unfold cc0_norm_proj_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_prod _)

/-! ## The steps -/

/-- The rows are normalised at the first of a row tile's three steps. -/
theorem cond_iff : ∀ t : Fin cfg0.N, k0_cond1 (grid0.coords t) = 1#1 ↔ t.val % 3 = 0 := by decide +kernel

/-- The other steps do not store the normalised rows. -/
theorem idle_u : ∀ t : Fin cfg0.N, cfg0.idle 3 (grid0.coords t) = decide (t.val % 3 ≠ 0) := by decide +kernel

/-- Nothing of the normalised rows is held when a row tile begins. -/
theorem fresh_u : ∀ n, n ≤ cfg0.N → cfg0.fresh 3 n = decide (n % 3 = 0) :=
  cfg0.fresh_tab 3 (fun n => decide (n % 3 = 0)) rfl (by decide +kernel)

/-! ## The pipeline's contents -/

/-- After a grid step each input's buffer holds its block, the first output's the row tile's normalised rows, and the
    other output's what the step stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outU (iblk m c 0 t) (iblk m c 1 t)
    | ⟨4, _⟩ => outP (outU (iblk m c 0 t) (iblk m c 1 t)) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outU (iblk m c 0 t) (iblk m c 1 t) := by dsimp only [dats]
theorem after0_4 (c : Dev nD) (t : Fin cfg0.N) : (dats m 0 c).after 4 t = outP (outU (iblk m c 0 t) (iblk m c 1 t)) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Where the rows are not fetched they are those of the step before. -/
theorem rows_prev (c : Dev nD) (t : Fin cfg0.N) (h : t.val % 3 ≠ 0) :
    iblk m c 0 t = iblk m c 0 ⟨t.val - 1, lt_of_le_of_lt (Nat.sub_le _ _) t.isLt⟩ := by
  have hf : (cfg0.win 0).fetch t = false := by rw [← Bool.not_eq_true, fetch0_0]; exact h
  rw [← before0_0 m c t (iblk m c 0 t), (dats m 0 c).before_unfetched_in 0 rfl t hf (fun _ => rfl)]
  unfold Dat.kept
  rw [Pipeline.fill_of_clip_none (cfg := cfg0) 0 _ (fun _ => rfl) _ ((dats m 0 c).after 0 _), Window.fill_cut, after0_0]

/-- Likewise the gain. -/
theorem gain_prev (c : Dev nD) (t : Fin cfg0.N) (h : t.val % 3 ≠ 0) :
    iblk m c 1 t = iblk m c 1 ⟨t.val - 1, lt_of_le_of_lt (Nat.sub_le _ _) t.isLt⟩ := by
  have hf : (cfg0.win 1).fetch t = false := by rw [← Bool.not_eq_true, fetch0_1]; omega
  rw [← before0_1 m c t (iblk m c 1 t), (dats m 0 c).before_unfetched_in 1 rfl t hf (fun _ => rfl)]
  unfold Dat.kept
  rw [Pipeline.fill_of_clip_none (cfg := cfg0) 1 _ (fun _ => rfl) _ ((dats m 0 c).after 1 _), Window.fill_cut, after0_1]

/-- So the normalised rows are those of the step before. -/
theorem carry_u (c : Dev nD) (t : Fin cfg0.N) (h : t.val % 3 ≠ 0) :
    (dats m 0 c).after 3 t = (dats m 0 c).after 3 ⟨t.val - 1, lt_of_le_of_lt (Nat.sub_le _ _) t.isLt⟩ := by
  rw [after0_3, after0_3, rows_prev m c t h, gain_prev m c t h]

/-- At a later step of a row tile the first output's buffer holds its normalised rows. -/
theorem before_u (c : Dev nD) (t : Fin cfg0.N) (h : t.val % 3 ≠ 0) (d) :
    (dats m 0 c).before 3 t d = outU (iblk m c 0 t) (iblk m c 1 t) := by
  rw [(dats m 0 c).before_out_traj 3 rfl (fun _ _ => rfl) (fun t _ hi _ => carry_u m c t (by rw [idle_u] at hi; exact of_decide_eq_true hi)) t.val t rfl d,
    fresh_u t.val t.isLt.le, if_neg (by simpa using h), ← carry_u m c t h, after0_3]

/-! ## The body at every step -/

/-- What the body finds at a step, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ owns (c : Thread nD τ) (st0_4 t) fullShare ((dats m 0 c).after 4 t))

/-- The normalised rows in the buffer are what the step is to leave of them. -/
theorem leaves_u (c : Dev nD) (t : Fin cfg0.N) :
    owns (c : Thread nD τ) (st0_3 t) fullShare (outU (iblk m c 0 t) (iblk m c 1 t)) ⊢ (dats m 0 c).leavesExact 3 t := by
  by_cases h : t.val % 3 = 0
  · rw [show (dats m 0 c).leavesExact 3 t = owns (c : Thread nD τ) (st0_3 t) fullShare ((dats m 0 c).after 3 t) from by
      unfold Dat.leavesExact; rw [idle_u t, decide_eq_false (not_not.mpr h)], after0_3]
  · by_cases hf : t.val % 3 = 2
    · rw [show (dats m 0 c).leavesExact 3 t = owns (c : Thread nD τ) (st0_3 t) fullShare ((dats m 0 c).after 3 t) from by
        unfold Dat.leavesExact; rw [idle_u t, decide_eq_true h, (flush0_3 t).mpr hf], after0_3]
    · rw [Dat.leavesExact_idle (dats m 0 c) 3 t (by rw [idle_u t, decide_eq_true h]) (by rw [← Bool.not_eq_true, flush0_3]; exact hf)]
      simp only [before_u m c t h]
      iintro H
      iexists (outU (iblk m c 0 t) (iblk m c 1 t))
      iexact H

/-- The body runs from the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_4]
  by_cases h : t.val % 3 = 0
  · iintro ⟨HΦ, Ho, ⟨%d0, H0⟩, ⟨%d1, H1⟩, ⟨%d2, H2⟩, ⟨%d3, H3⟩, ⟨%d4, H4⟩⟩
    iapply (sound_first c Set.univ (grid0.coords t) _ _ _ _ _ _ _ _ _ _ ((cond_iff t).mpr h) (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · iapply (leaves_u m c t); iexact H3
    iexact H4
  · simp only [before_u m c t h]
    iintro ⟨HΦ, Ho, ⟨%d0, H0⟩, ⟨%d1, H1⟩, ⟨%d2, H2⟩, ⟨%d3, H3⟩, ⟨%d4, H4⟩⟩
    iapply (sound_later c Set.univ (grid0.coords t) _ _ _ _ _ _ _ _ _ _ (fun hc => h ((cond_iff t).mp hc)) (iblk m c 0 t) (iblk m c 1 t) (iblk m c 2 t) (outU (iblk m c 0 t) (iblk m c 1 t)) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · iapply (leaves_u m c t); iexact H3
    iexact H4

/-- The body's row in the program's table is the body at the step. -/
theorem row_eq (t : Fin cfg0.N) :
    defs₀ (F := F) .tc cfg0.body (cfg0.bodyArgs t (cfg0.slots t)) = bodyAt0 t := by
  unfold defs₀; rw [Defs.onTc_tc]

/-- The body does at every step what the pipeline asks of it. -/
theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-! ## The run -/

set_option backward.isDefEq.respectTransparency.types false in
set_option maxHeartbeats 800000 in
/-- Every run ends with each array at what the pipeline leaves and every semaphore at zero. -/
theorem run_end : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arrays of that. -/
theorem run_main : θ_run defs (onTc (τ := τ) (main (F := F))) (s₀ m ρ) (Pipeline.FramePost cfgs (dats m) 0 (V m)) :=
  (θ_run defs _ _).mono (fun _ h => h.1) (run_end m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_end m ρ))

end Cert.Kernel18Ideal.Body

end
-- ==== Proof.Mixer.ProjCd.lean ====
/- The call that normalises the rows and projects them: what the kernel's arrays hold. -/
module

public import proofs.«01_k».proof.Proof.Mixer.ProjCdRun
public import Idealize.ShloMosaic.Lib.Pipeline.Value
public import Idealize.ShloMosaic.Lib.Pipeline.ValueKit
public import proofs.«01_k».proof.Proof.Ffn.NormRow

@[expose] public section

set_option maxRecDepth 16384

noncomputable section

open Idealize.ShloMosaic Idealize.ShloMosaic.TcCoe Idealize.SL.Sem
open Idealize.ShloMosaic.Pipeline (Dat)
namespace Cert.Kernel18Ideal.Value
open Cert.Kernel18Ideal Cert.Kernel18Ideal.Gen Cert.Kernel18Ideal.Body Cert.Ffn

variable (m : (ℓ : Loc nD τ sig) → Buf (Elt Ideal) ℓ) (ρ : Dev nD → PrngReg)

/-- The run with each result's array named. -/
theorem run_blocks : θ_run defs (onTc (τ := τ) (main (F := Ideal))) ⟨m, fun _ => 0, ρ⟩ fun r => ∀ c : Dev nD,
      r.2.mem ((c : Thread nD τ).loc main_v1_0) = (dats m 0 c).arrAt 3 cfg0.N
      ∧ r.2.mem ((c : Thread nD τ).loc main_v1_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, (h.1 c).1 4, h.2 c⟩)
    (θ_run_and (run_main m ρ) (frame_of m ρ (dats m) (A_eq m) (run_main m ρ)))

theorem idx : ∀ t : Fin cfg0.N, win0_0.index t = ![t.val / 3, 0] ∧ win0_1.index t = ![0, 0]
    ∧ win0_2.index t = ![0, t.val % 3] ∧ win0_3.index t = ![t.val / 3, 0] ∧ win0_4.index t = ![t.val / 3, t.val % 3] :=
  (by decide +kernel : ∀ t : Fin grid0.N, _)

/-- The rows, the gain and the weights. -/
def arrH (c : Dev nD) (r : Fin 8320) (q : Fin 1024) : EReal :=
  (show FVec Ideal S8320x1024 .f32 from m ((c : Thread nD τ).loc main_arg0)) (ix2 r q)
def gain (c : Dev nD) (q : Fin 1024) : EReal :=
  (show FVec Ideal S1024 .f32 from m ((c : Thread nD τ).loc main_arg1)) (ix1 q)
def arrW (c : Dev nD) (k : Fin 1024) (f : Fin 2304) : EReal :=
  (show FVec Ideal S1024x2304 .bf16 from m ((c : Thread nD τ).loc main_arg2)) (ix2 k f)

theorem hU (H : Vec Ideal S640x1024 .f32) (g : Vec Ideal S1x1024 .f32) (y : S640x1024.Idx) :
    (k0_pay1 (F := Ideal) H g y : EReal) = normRow (fun k => H (ix2 (y 0) k)) (fun k => g (ix2 0 k)) (y 1) := by
  unfold normRow rinv
  pointwise [k0_pay1]
theorem hP (X : Vec Ideal S640x1024 .bf16) (Y : Vec Ideal S1024x768 .bf16) (y : S640x768.Idx) :
    (k0_pay2 (F := Ideal) X Y y : EReal) = ∑ k : Fin 1024, X (ix2 (y 0) k) * Y (ix2 k (y 1)) := by
  pointwise [k0_pay2]

variable (c : Dev nD)

theorem entryG : V m c main_v0 = (shapeCast S1x1024 (show FVec Ideal S1024 .f32 from m ((c : Thread nD τ).loc main_arg1)) shapeCasts_S1024_S1x1024 : FVec Ideal S1x1024 .f32) := by
  show StableHlo.after hostOps0 _ _ = _
  after_results <;> rfl

/-- The row of a block's row, and the column of a block's column. -/
def row (t : Fin cfg0.N) (r : Fin 640) : Fin 8320 := ⟨t.val / 3 * 640 + r.val, by have := lt_of_lt_of_eq t.isLt N_0; omega⟩
def col (t : Fin cfg0.N) (f : Fin 768) : Fin 2304 := ⟨t.val % 3 * 768 + f.val, by omega⟩

theorem blkH (t : Fin cfg0.N) (r : Fin 640) (q : Fin 1024) : (iblk m c 0 t (ix2 r q) : EReal) = arrH m c (row t r) q := by
  show (V m c main_arg0 ((win0_0.blk t).view.emb (ix2 r q)) : EReal) = _
  rw [V_main_arg0]
  unfold arrH row
  blk_ext [idx t]
theorem blkG (t : Fin cfg0.N) (q : Fin 1024) : (iblk m c 1 t (ix2 0 q) : EReal) = gain m c q := by
  show (V m c main_v0 ((win0_1.blk t).view.emb (ix2 0 q)) : EReal) = _
  rw [entryG]
  unfold gain
  pointwise []
  blk_ext [idx t]
theorem blkW (t : Fin cfg0.N) (k : Fin 1024) (f : Fin 768) : (iblk m c 2 t (ix2 k f) : EReal) = arrW m c k (col t f) := by
  show (V m c main_arg2 ((win0_2.blk t).view.emb (ix2 k f)) : EReal) = _
  rw [V_main_arg2]
  unfold arrW col
  blk_ext [idx t]

/-- The normalised rows and the product. -/
def u (r : Fin 8320) (q : Fin 1024) : EReal := normRow (arrH m c r) (gain m c) q
def prod (r : Fin 8320) (f : Fin 2304) : EReal := ∑ k : Fin 1024, u m c r k * arrW m c k f

theorem outU_eq (t : Fin cfg0.N) (y : S640x1024.Idx) : (outU (iblk m c 0 t) (iblk m c 1 t) y : EReal) = u m c (row t (y 0)) (y 1) := by
  unfold outU
  frame_out
  exact (hU _ _ y).trans (normRow_congr (fun k => blkH m c t (y 0) k) (fun k => blkG m c t k) (y 1))
theorem outP_eq (X : Vec Ideal S640x1024 .bf16) (Y : Vec Ideal S1024x768 .bf16) (y : S640x768.Idx) :
    (outP X Y y : EReal) = ∑ k : Fin 1024, X (ix2 (y 0) k) * Y (ix2 k (y 1)) := by
  unfold outP
  frame_out
  exact hP _ _ y

theorem emb3 (t : Fin cfg0.N) (y : S640x1024.Idx) :
    ((win0_3.blk t).view.emb y 0).val = t.val / 3 * 640 + (y 0).val ∧ ((win0_3.blk t).view.emb y 1).val = (y 1).val := by
  constructor <;> blk_simp [idx t]
theorem emb4 (t : Fin cfg0.N) (y : S640x768.Idx) :
    ((win0_4.blk t).view.emb y 0).val = t.val / 3 * 640 + (y 0).val ∧ ((win0_4.blk t).view.emb y 1).val = t.val % 3 * 768 + (y 1).val := by
  constructor <;> blk_simp [idx t]

theorem arr3 : (dats m 0 c).arrAt 3 cfg0.N = fun z : S8320x1024.Idx => u m c (z 0) (z 1) := by
  refine (dats m 0 c).arrAt_eq_of_covers 3 _ (by decide +kernel) fun t hf y => ?_
  have e := emb3 t y
  rw [after0_3]
  refine (cast_eq _ _).trans ?_
  exact (outU_eq m c t y).trans (at2 (u m c) e.1.symm e.2.symm)
theorem arr4 : (dats m 0 c).arrAt 4 cfg0.N = fun z : S8320x2304.Idx => prod m c (z 0) (z 1) := by
  refine (dats m 0 c).arrAt_eq_of_covers 4 _ (by decide +kernel) fun t hf y => ?_
  have e := emb4 t y
  rw [after0_4]
  refine (cast_eq _ _).trans ?_
  refine (outP_eq _ _ y).trans (Eq.trans (b := prod m c (row t (y 0)) (col t (y 1))) ?_ (at2 (prod m c) e.1.symm e.2.symm))
  exact Finset.sum_congr (M := EReal) rfl fun k _ => mul_of_eq (outU_eq m c t (ix2 (y 0) k)) (blkW m c t k (y 1))

end Cert.Kernel18Ideal.Value

end
-- ==== Proof.Mixer.ProjCdEq.lean ====
/- The forward call that normalises the rows and projects them: the reference, and the equation. -/
module

public import proofs.«01_k».proof.Defs
public import proofs.«01_k».proof.Proof.Mixer.ProjCd
public import proofs.«01_k».proof.Proof.Gen.Reference18Ideal.Run

@[expose] public section

set_option maxRecDepth 16384

noncomputable section

open Idealize.ShloMosaic Idealize.ShloMosaic.TcCoe Idealize.SL.Sem
namespace Cert.Reference18Ideal.Value
open Cert.Reference18Ideal Cert.Reference18Ideal.Gen Cert.Ffn

/-- The normalised rows. -/
def opU (H : FVec Ideal S8320x1024 .f32) (g : FVec Ideal S1024 .f32) : FVec Ideal S8320x1024 .f32 :=
  mulf (mulf H (broadcastInDim S8320x1024 ![0, 1] bcast_S8320x1_S8320x1024_0_1 (Host.rsqrt (addf (Host.divf (broadcastInDim S8320x1 ![0] bcast_S8320_S8320x1_0 (Host.reduceAdd (mulf H H) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (broadcastInDim S1x1024 ![1] bcast_S1024_S1x1024_1 g))

theorem opU_eq (H : FVec Ideal S8320x1024 .f32) (g : FVec Ideal S1024 .f32) (y : S8320x1024.Idx) :
    (opU H g y : EReal) = normRow (fun k => H (ix2 (y 0) k)) (fun k => g (ix1 k)) (y 1) := by
  unfold normRow rinv
  pointwise [opU]

/-- The normalised rows as they are returned. -/
def opT (H : FVec Ideal S8320x1024 .f32) (g : FVec Ideal S1024 .f32) : FVec Ideal S8320x1024 .bf16 := truncf .bf16 (opU H g) bitsLt_bf16_f32

theorem opT_eq (H : FVec Ideal S8320x1024 .f32) (g : FVec Ideal S1024 .f32) (y : S8320x1024.Idx) : (opT H g y : EReal) = opU H g y := by
  pointwise [opT]

/-- The product of the normalised rows and the weights. -/
def opP (U : FVec Ideal S8320x1024 .f32) (W : FVec Ideal S1024x2304 .bf16) : FVec Ideal S8320x2304 .f32 :=
  Host.dotGeneral dot_S8320x1024_S1024x2304_S8320x2304_1_0_0_1_n_n none U (extf .f32 W bitsLt_bf16_f32)

theorem opP_eq (U : FVec Ideal S8320x1024 .f32) (W : FVec Ideal S1024x2304 .bf16) (y : S8320x2304.Idx) :
    (opP U W y : EReal) = ∑ k : Fin 1024, (U (ix2 (y 0) k) : EReal) * (W (ix2 k (y 1)) : EReal) := by
  pointwise [opP]

end Cert.Reference18Ideal.Value

namespace Cert.Ffn

theorem algebraic18 : Cert.algebraic_Kernel18Ideal_Reference18Ideal (hKernel18Ideal := Cert.Kernel18Ideal.Gen.facts)
    (hReference18Ideal := Cert.Reference18Ideal.Gen.facts) := by
  intro m g m' g' hpre hagree
  refine ⟨fun c => (Cert.Kernel18Ideal.Body.dats m 0 c).arrAt 3 Cert.Kernel18Ideal.cfg0.N, fun c => (Cert.Kernel18Ideal.Body.dats m 0 c).arrAt 4 Cert.Kernel18Ideal.cfg0.N, Cert.Kernel18Ideal.Value.run_blocks m g, ?_⟩
  refine (θ_run Cert.Reference18Ideal.defs _ _).mono (fun r h c => ?_) (Cert.Reference18Ideal.Value.run (F := Ideal) m' g')
  obtain ⟨h0, h1, ha⟩ := h c
  obtain ⟨e0, e1, e2⟩ := hagree c
  refine ⟨h0.trans (Eq.trans (funext fun y => ?_) (Cert.Kernel18Ideal.Value.arr3 m c).symm), h1.trans (Eq.trans (funext fun y => ?_) (Cert.Kernel18Ideal.Value.arr4 m c).symm), ha⟩
  · rw [e0, e1]
    exact (Cert.Reference18Ideal.Value.opT_eq _ _ y).trans (Cert.Reference18Ideal.Value.opU_eq _ _ y)
  · rw [e0, e1, e2]
    refine (Cert.Reference18Ideal.Value.opP_eq (Cert.Reference18Ideal.Value.opU _ _) _ y).trans ?_
    exact Finset.sum_congr (M := EReal) rfl fun k _ => mul_of_eq (Cert.Reference18Ideal.Value.opU_eq _ _ (ix2 (y 0) k)) rfl

end Cert.Ffn

end
-- ==== Proof.Norm.Loss.lean ====
/- The loss of one device's example and its derivative: what the kernel's arrays hold. -/
module

public import proofs.«01_k».proof.Proof.Gen.Kernel31Ideal.Value
public import Idealize.ShloMosaic.Lib.Pipeline.ValueKit
public import Idealize.ShloMosaic.Lib.Pipeline.ReadBack
public import proofs.«01_k».proof.Proof.Ffn.BackMath

@[expose] public section

set_option maxRecDepth 16384

noncomputable section

open Idealize.ShloMosaic Idealize.ShloMosaic.TcCoe Idealize.SL.Sem
open Idealize.ShloMosaic.Pipeline (Dat)
namespace Cert.Kernel31Ideal.Value
open Cert.Kernel31Ideal Cert.Kernel31Ideal.Gen Cert.Ffn

variable (m : (ℓ : Loc nD τ sig) → Buf (Elt Ideal) ℓ)

theorem idx : ∀ t : Fin cfg0.N, win0_0.index t = ![t.val, 0] ∧ win0_1.index t = ![t.val - 1, 0]
    ∧ win0_2.index t = ![t.val, 0] ∧ win0_3.index t = ![0, 0] :=
  (by decide +kernel : ∀ t : Fin grid0.N, _)

/-- The rows that leave the last layer. -/
def arrH (c : Dev nD) (r : Fin 8320) (q : Fin 1024) : EReal :=
  (show FVec Ideal S8320x1024 .f32 from m ((c : Thread nD τ).loc main_arg0)) (ix2 r q)
/-- The targets. -/
def arrT (c : Dev nD) (r : Fin 8192) (q : Fin 1024) : EReal :=
  (show FVec Ideal S8192x1024 .f32 from m ((c : Thread nD τ).loc main_arg1)) (ix2 r q)

/-- The mean of the squares of a row. -/
def rowMean (e : Fin 1024 → EReal) : EReal := Ideal.div (∑ k : Fin 1024, e k * e k) (Ideal.ofBits FTy.f32 0x44800000#32)

theorem hzero1 (y : S128x1024.Idx) : (k0_pay1 (F := Ideal) y : EReal) = 0 := by pointwise [k0_pay1]
theorem hzero2 (y : S8x128.Idx) : (k0_pay2 (F := Ideal) y : EReal) = 0 := by pointwise [k0_pay2]
theorem hpay3 (X T : Vec Ideal S128x1024 .f32) (y : S128x1024.Idx) : (k0_pay3 (F := Ideal) X T y : EReal) = X y - T y := by
  pointwise [k0_pay3]
theorem hpay4 (X T : Vec Ideal S128x1024 .f32) (y : S128x1024.Idx) :
    (k0_pay4 (F := Ideal) X T y : EReal) = (X y - T y) * Ideal.ofBits FTy.f32 0x3A800000#32 := by
  pointwise [k0_pay4]
  rw [hpay3]
theorem hpay5 (X T : Vec Ideal S128x1024 .f32) (A : Vec Ideal S8x128 .f32) (y : S8x128.Idx) :
    (k0_pay5 (F := Ideal) X T A y : EReal) = A y + Ideal.ofBits FTy.f32 0x3F000000#32
      * ∑ r : Fin 128, rowMean (fun k => X (ix2 r k) - T (ix2 r k)) := by
  unfold rowMean
  pointwise [k0_pay5]
  simp only [hpay3]
  try rfl

variable (c : Dev nD)

/-- The error of a row that has a target. -/
def err (r : Fin 8192) (k : Fin 1024) : EReal := arrH m c ⟨128 + r.val, by omega⟩ k - arrT m c r k

theorem blkH (t : Fin cfg0.N) (r : Fin 128) (q : Fin 1024) :
    (iblk m c 0 t (ix2 r q) : EReal) = arrH m c ⟨t.val * 128 + r.val, by have := lt_of_lt_of_eq t.isLt N_0; omega⟩ q := by
  show (V m c main_arg0 ((win0_0.blk t).view.emb (ix2 r q)) : EReal) = _
  rw [V_main_arg0]
  unfold arrH
  blk_ext [idx t]
theorem blkT (t : Fin cfg0.N) (r : Fin 128) (q : Fin 1024) :
    (iblk m c 1 t (ix2 r q) : EReal) = arrT m c ⟨(t.val - 1) * 128 + r.val, by have := lt_of_lt_of_eq t.isLt N_0; omega⟩ q := by
  show (V m c main_arg1 ((win0_1.blk t).view.emb (ix2 r q)) : EReal) = _
  rw [V_main_arg1]
  unfold arrT
  blk_ext [idx t]

/-- The rows that a grid point works at, -/
def bH (t : Fin cfg0.N) (r : Fin 128) (q : Fin 1024) : EReal := iblk m c 0 t (ix2 r q)
/-- and their targets. -/
def bT (t : Fin cfg0.N) (r : Fin 128) (q : Fin 1024) : EReal := iblk m c 1 t (ix2 r q)

/-- The errors of the rows that a later grid point works at. -/
theorem blkE (t : Fin cfg0.N) (h : 1 ≤ t.val) (r : Fin 128) (q : Fin 1024) :
    bH m c t r q - bT m c t r q
      = err m c ⟨(t.val - 1) * 128 + r.val, by have := lt_of_lt_of_eq t.isLt N_0; omega⟩ q := by
  unfold bH bT
  rw [blkH, blkT]
  unfold err
  rw [at2 (arrH m c) (i' := ⟨128 + ((t.val - 1) * 128 + r.val), by have := lt_of_lt_of_eq t.isLt N_0; omega⟩) (j' := q) (by show t.val * 128 + r.val = 128 + ((t.val - 1) * 128 + r.val); omega) rfl]

theorem emb2 (t : Fin cfg0.N) (y : S128x1024.Idx) :
    ((win0_2.blk t).view.emb y 0).val = t.val * 128 + (y 0).val ∧ ((win0_2.blk t).view.emb y 1).val = (y 1).val := by
  constructor <;> blk_simp [idx t]

/-- The derivative's entries: the rows in front have none. -/
def outD (r : Fin 8320) (q : Fin 1024) : EReal :=
  if h : 128 ≤ r.val then err m c ⟨r.val - 128, by omega⟩ q * Ideal.ofBits FTy.f32 0x3A800000#32 else 0

theorem arr2 : (dats m 0 c).arrAt 2 cfg0.N = fun z : S8320x1024.Idx => outD m c (z 0) (z 1) := by
  refine (dats m 0 c).arrAt_eq_of_covers 2 _ (by decide +kernel) fun t hf y => ?_
  have e := emb2 t y
  have hN := lt_of_lt_of_eq t.isLt N_0
  have hy : (y 0).val < 128 := (y 0).isLt
  rw [after0_2]
  by_cases h0 : t.val = 0
  · rw [outsAt0_A m c t (by omega) (by omega)]
    frame_out
    refine (hzero1 y).trans ?_
    unfold outD
    rw [dif_neg (by rw [e.1]; omega)]
  · rw [outsAt0_B m c t (by omega) (by omega)]
    frame_out
    refine (hpay4 _ _ y).trans ?_
    unfold outD
    rw [dif_pos (by rw [e.1]; omega)]
    refine mul_of_eq ?_ rfl
    obtain ⟨r, q, rfl⟩ : ∃ r q, y = ix2 r q := ⟨y 0, y 1, by funext i; fin_cases i <;> rfl⟩
    refine (blkE m c t (by omega) r q).trans (at2 (err m c) ?_ e.2.symm)
    show (t.val - 1) * 128 + r.val = _ - 128
    rw [e.1]
    show (t.val - 1) * 128 + r.val = t.val * 128 + r.val - 128
    omega

/-- One row's share of the loss, before the half. -/
def rowL (r : Fin 8192) : EReal := rowMean (err m c r)
/-- One block's share of the loss. -/
def tileL (n : ℕ) : EReal :=
  if h : n < 64 then Ideal.ofBits FTy.f32 0x3F000000#32 * ∑ r : Fin 128, rowL m c ⟨n * 128 + r.val, by omega⟩ else 0

theorem tile_eq (n : ℕ) (hn : n + 1 < cfg0.N) :
    Ideal.ofBits FTy.f32 0x3F000000#32 * (∑ r : Fin 128, rowMean (fun k =>
      bH m c ⟨n + 1, hn⟩ r k - bT m c ⟨n + 1, hn⟩ r k)) = tileL m c n := by
  have hN := lt_of_lt_of_eq hn N_0
  unfold tileL
  rw [dif_pos (by omega)]
  refine mul_of_eq rfl (Finset.sum_congr (M := EReal) rfl fun r _ => ?_)
  unfold rowL
  exact congrArg rowMean (funext fun k => blkE m c ⟨n + 1, hn⟩ (Nat.le_add_left _ _) r k)

theorem loss_at (n : ℕ) (hn : n < cfg0.N) (y : S8x128.Idx) :
    ((outsAt0 m c n hn).2 y : EReal) = ∑ i ∈ Finset.range n, tileL m c i := by
  have hN := lt_of_lt_of_eq hn N_0
  induction n with
  | zero =>
    rw [outsAt0_A m c ⟨0, hn⟩ (by norm_num) (by norm_num)]
    frame_out
    rw [hzero2, Finset.sum_range_zero]
  | succ n ih =>
    rw [outsAt0_B m c ⟨n + 1, hn⟩ (by show ¬ (n + 1) % 65 = 0; omega) (Nat.le_add_left _ _)]
    frame_out
    rw [hpay5, Finset.sum_range_succ]
    exact add_of_eq (ih (by omega) (by omega)) (tile_eq m c n hn)

/-- The loss. -/
def outL : EReal := Ideal.ofBits FTy.f32 0x3F000000#32 * ∑ r : Fin 8192, rowL m c r

theorem chalf' : Ideal.ofBits FTy.f32 0x3F000000#32 = ((1 / 2 : ℝ) : EReal) := by
  simp [Ideal.ofBits, Ideal.ieee]; rw [← EReal.coe_mul]; norm_num

theorem sum_tiles : ∑ i ∈ Finset.range 64, tileL m c i = outL m c := by
  rw [Finset.sum_range]
  unfold outL tileL
  refine (Finset.sum_congr (M := EReal) rfl fun i _ => (dif_pos i.isLt).trans (mul_comm _ _)).trans ?_
  rw [chalf', mul_comm, ← sum_mul_coe _ _ (by norm_num)]
  refine mul_of_eq (Fin.sum_mul_add_congr fun s k hl => ?_) rfl
  exact congrArg (rowL m c) (Fin.ext (by omega))

theorem arr3 : (dats m 0 c).arrAt 3 cfg0.N = fun _ : S8x128.Idx => outL m c := by
  refine (dats m 0 c).arrAt_eq_of_covers 3 _ (by decide +kernel) fun t hf y => ?_
  have ht : t.val % 65 = 64 := (flush0_3 t).mp hf
  have hN := lt_of_lt_of_eq t.isLt N_0
  rw [after0_3]
  refine (loss_at m c t.val t.isLt y).trans ?_
  rw [show t.val = 64 by omega]
  exact sum_tiles m c

end Cert.Kernel31Ideal.Value

end
-- ==== Proof.Norm.LossEq.lean ====
/- The loss of one device's example and its derivative: the reference, and the equation. -/
module

public import proofs.«01_k».proof.Defs
public import proofs.«01_k».proof.Proof.Norm.Loss
public import proofs.«01_k».proof.Proof.Gen.Reference31Ideal.Run

@[expose] public section

set_option maxRecDepth 16384

noncomputable section

open Idealize.ShloMosaic Idealize.ShloMosaic.TcCoe Idealize.SL.Sem
namespace Cert.Reference31Ideal.Value
open Cert.Reference31Ideal Cert.Reference31Ideal.Gen Cert.Ffn

/-- The errors. -/
def opE (H : FVec Ideal S8320x1024 .f32) (T : FVec Ideal S8192x1024 .f32) : FVec Ideal S8192x1024 .f32 :=
  subf (extractStridedSlice S8192x1024 ![128, 0] H slices_S8320x1024_S8192x1024_128_0) T
/-- The derivative from the errors. -/
def opD (E : FVec Ideal S8192x1024 .f32) : FVec Ideal S8320x1024 .f32 :=
  pad S8320x1024 ![128, 0] ![0, 0] ![0, 0] (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) E)) (constant S_ .f32 0x00000000#32) pads_S8192x1024_S8320x1024_12800_000 h_S_
/-- The loss from the errors. -/
def opL (E : FVec Ideal S8192x1024 .f32) : FVec Ideal S8x128 .f32 :=
  broadcastInDim S8x128 ![] bcast_S_S8x128 (mulf (constant S_ .f32 0x3F000000#32) (Host.reduceAdd (Host.divf (Host.reduceAdd (mulf E E) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_))

theorem opE_eq (H : FVec Ideal S8320x1024 .f32) (T : FVec Ideal S8192x1024 .f32) (r : Fin 8192) (q : Fin 1024) :
    (opE H T (ix2 r q) : EReal) = H (ix2 ⟨128 + r.val, by omega⟩ q) - T (ix2 r q) := by
  pointwise [opE]
theorem opD_eq (E : FVec Ideal S8192x1024 .f32) (r : Fin 8320) (q : Fin 1024) :
    (opD E (ix2 r q) : EReal) = if h : 128 ≤ r.val
      then Ideal.div (Ideal.ofBits FTy.f32 0x3F000000#32 * Ideal.ofBits FTy.f32 0x3F800000#32) (Ideal.ofBits FTy.f32 0x44800000#32)
        * (Ideal.ofBits FTy.f32 0x40000000#32 * E (ix2 ⟨r.val - 128, by omega⟩ q)) else 0 := by
  pointwise [opD]
  by_cases h : 128 ≤ r.val
  · rw [dif_pos ⟨h, by omega⟩, dif_pos h]
  · rw [dif_neg (fun a => h a.1), dif_neg h]
theorem opL_eq (E : FVec Ideal S8192x1024 .f32) (y : S8x128.Idx) :
    (opL E y : EReal) = Ideal.ofBits FTy.f32 0x3F000000#32 * ∑ r : Fin 8192, Cert.Kernel31Ideal.Value.rowMean (fun k => E (ix2 r k)) := by
  unfold Cert.Kernel31Ideal.Value.rowMean
  pointwise [opL]

theorem ctwo : Ideal.ofBits FTy.f32 0x40000000#32 = ((2 : ℝ) : EReal) := by
  simp [Ideal.ofBits, Ideal.ieee]; rw [← EReal.coe_mul]; norm_num
theorem cinv : Ideal.ofBits FTy.f32 0x3A800000#32 = ((1 / 1024 : ℝ) : EReal) := by
  simp [Ideal.ofBits, Ideal.ieee]; rw [← EReal.coe_mul]; norm_num

/-- The derivative of the square, times the cotangent of the mean. -/
theorem factor (e : EReal) : Ideal.div (Ideal.ofBits FTy.f32 0x3F000000#32 * Ideal.ofBits FTy.f32 0x3F800000#32) (Ideal.ofBits FTy.f32 0x44800000#32)
    * (Ideal.ofBits FTy.f32 0x40000000#32 * e) = e * Ideal.ofBits FTy.f32 0x3A800000#32 := by
  rw [cone, mul_one, Cert.Kernel31Ideal.Value.chalf', c1024, div_coe _ (by norm_num), ctwo, cinv, ← mul_assoc, mul_comm]
  refine mul_of_eq rfl ?_
  rw [← EReal.coe_mul, ← EReal.coe_mul]
  norm_num

end Cert.Reference31Ideal.Value

namespace Cert.Ffn

theorem algebraic31 : Cert.algebraic_Kernel31Ideal_Reference31Ideal (hKernel31Ideal := Cert.Kernel31Ideal.Gen.facts)
    (hReference31Ideal := Cert.Reference31Ideal.Gen.facts) := by
  intro m g m' g' hpre hagree
  refine ⟨fun c => (Cert.Kernel31Ideal.Gen.dats m 0 c).arrAt 2 Cert.Kernel31Ideal.cfg0.N, fun c => (Cert.Kernel31Ideal.Gen.dats m 0 c).arrAt 3 Cert.Kernel31Ideal.cfg0.N, Cert.Kernel31Ideal.Value.run_blocks m g, ?_⟩
  refine (θ_run Cert.Reference31Ideal.defs _ _).mono (fun r h c => ?_) (Cert.Reference31Ideal.Value.run (F := Ideal) m' g')
  obtain ⟨h0, h1, ha⟩ := h c
  obtain ⟨e0, e1⟩ := hagree c
  have hE : ∀ (a : Fin 8192) (b : Fin 1024), (Cert.Reference31Ideal.Value.opE (m (c.tc.loc Cert.Kernel31Ideal.main_arg0)) (m (c.tc.loc Cert.Kernel31Ideal.main_arg1)) (ix2 a b) : EReal)
      = Cert.Kernel31Ideal.Value.err m c a b := fun a b => Cert.Reference31Ideal.Value.opE_eq _ _ a b
  refine ⟨h0.trans (Eq.trans (funext fun y => ?_) (Cert.Kernel31Ideal.Value.arr2 m c).symm), h1.trans (Eq.trans (funext fun y => ?_) (Cert.Kernel31Ideal.Value.arr3 m c).symm), ha⟩
  · obtain ⟨a, b, rfl⟩ : ∃ (a : Fin 8320) (b : Fin 1024), y = ix2 a b := ⟨y 0, y 1, by funext i; fin_cases i <;> rfl⟩
    refine (Cert.Reference31Ideal.Value.opD_eq (Cert.Reference31Ideal.Value.opE _ _) a b).trans ?_
    rw [e0, e1]
    show _ = Cert.Kernel31Ideal.Value.outD m c a b
    unfold Cert.Kernel31Ideal.Value.outD
    by_cases h : 128 ≤ a.val
    · rw [dif_pos h, dif_pos h, Cert.Reference31Ideal.Value.factor, hE]
    · rw [dif_neg h, dif_neg h]
  · refine (Cert.Reference31Ideal.Value.opL_eq (Cert.Reference31Ideal.Value.opE _ _) y).trans ?_
    rw [e0, e1]
    exact mul_of_eq rfl (Finset.sum_congr (M := EReal) rfl fun k _ => congrArg Cert.Kernel31Ideal.Value.rowMean (funext fun q => hE k q))

end Cert.Ffn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Swa.Equation
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Ffn.UpEq
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Ffn.DownEq
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Ffn.BackEq
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Ffn.ActEq
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Ffn.OutEq
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Mixer.DMixEq
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Mixer.WOutEq
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Mixer.WAbEq
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Mixer.WCdEq
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Mixer.BackAbEq
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Mixer.BackCdEq
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Mixer.OutEq
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Norm.HalfEq
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Norm.OneEq
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel20Ideal.Value
public import proofs.«01_k».proof.Proof.Gen.Reference20Ideal.Run
public import proofs.«01_k».proof.Proof.Adam.FfnUp
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel21Ideal.Value
public import proofs.«01_k».proof.Proof.Gen.Reference21Ideal.Run
public import proofs.«01_k».proof.Proof.Adam.FfnDown
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel22Ideal.Value
public import proofs.«01_k».proof.Proof.Gen.Reference22Ideal.Run
public import proofs.«01_k».proof.Proof.Adam.WAb
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel23Ideal.Value
public import proofs.«01_k».proof.Proof.Gen.Reference23Ideal.Run
public import proofs.«01_k».proof.Proof.Adam.WCd
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel24Ideal.Value
public import proofs.«01_k».proof.Proof.Gen.Reference24Ideal.Run
public import proofs.«01_k».proof.Proof.Adam.WOut
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel25Ideal.Value
public import proofs.«01_k».proof.Proof.Gen.Reference25Ideal.Run
public import proofs.«01_k».proof.Proof.Adam.Meta
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel26Ideal.Value
public import proofs.«01_k».proof.Proof.Gen.Reference26Ideal.Run
public import proofs.«01_k».proof.Proof.Adam.Gains
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Kernel27Ideal.Value
public import proofs.«01_k».proof.Proof.Gen.Reference27Ideal.Run
public import proofs.«01_k».proof.Proof.Adam.Conv
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Gen.Kernel28Ideal.Value
public import proofs.«01_k».proof.Proof.Gen.Reference28Ideal.Run
public import proofs.«01_k».proof.Proof.Adam.Decay
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Reference29Ideal
public import proofs.«01_k».proof.Proof.Gen.Kernel29Ideal.Value
public import proofs.«01_k».proof.Proof.Gen.Reference29Ideal.Run
public import proofs.«01_k».proof.Proof.Adam.OutNorm
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Reference30Ideal
public import proofs.«01_k».proof.Proof.Gen.Kernel30Ideal.Value
public import proofs.«01_k».proof.Proof.Gen.Reference30Ideal.Run
public import proofs.«01_k».proof.Proof.Adam.Sinks
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Ffn.GateRun
public import proofs.«01_k».proof.Proof.Ffn.GateBits
public import proofs.«01_k».proof.Proof.Gen.Reference6Ideal.Run
public import proofs.«01_k».proof.Proof.Ffn.GateEq
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Mixer.ProjAbRun
public import proofs.«01_k».proof.Proof.Mixer.ProjAbBits
public import proofs.«01_k».proof.Proof.Gen.Reference17Ideal.Run
public import proofs.«01_k».proof.Proof.Mixer.ProjAbEq
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Mixer.ProjCdRun
public import proofs.«01_k».proof.Proof.Mixer.ProjCdBits
public import proofs.«01_k».proof.Proof.Gen.Reference18Ideal.Run
public import proofs.«01_k».proof.Proof.Mixer.ProjCdEq
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Reference31Ideal
public import proofs.«01_k».proof.Proof.Gen.Kernel31Ideal.Value
public import proofs.«01_k».proof.Proof.Gen.Reference31Ideal.Run
public import proofs.«01_k».proof.Proof.Norm.LossEq
public import Idealize.ShloMosaic.Adequacy
public import Idealize.ShloMosaic.Init
public import Idealize.ShloMosaic.Lib.Quiescent

@[expose] public section

noncomputable section

namespace Cert.Proof

open Idealize.ShloMosaic Idealize.SL.Sem

theorem reference_frame : Cert.quiescent_ReferenceIdeal (hReferenceIdeal := Cert.ReferenceIdeal.Gen.facts) := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

theorem reference2_frame : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

theorem reference3_frame : Cert.quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem reference4_frame : Cert.quiescent_Reference4Ideal (hReference4Ideal := Cert.Reference4Ideal.Gen.facts) := fun m ρ _ =>
  (θ_run Cert.Reference4Ideal.defs _ _).mono
    (fun r h => ⟨fun c => (h c).2.2, Idealize.ShloMosaic.sem_eq_zero_of_no_sems (by decide) r.2⟩)
    (Cert.Reference4Ideal.Value.run (F := Ideal) m ρ)

theorem reference5_frame : Cert.quiescent_Reference5Ideal (hReference5Ideal := Cert.Reference5Ideal.Gen.facts) := fun m ρ _ =>
  (θ_run Cert.Reference5Ideal.defs _ _).mono
    (fun r h => ⟨fun c => (h c).2.2, Idealize.ShloMosaic.sem_eq_zero_of_no_sems (by decide) r.2⟩)
    (Cert.Reference5Ideal.Value.run (F := Ideal) m ρ)

theorem reference7_frame : Cert.quiescent_Reference7Ideal (hReference7Ideal := Cert.Reference7Ideal.Gen.facts) := fun m ρ _ =>
  (θ_run Cert.Reference7Ideal.defs _ _).mono
    (fun r h => ⟨fun c => (h c).2.2, Idealize.ShloMosaic.sem_eq_zero_of_no_sems (by decide) r.2⟩)
    (Cert.Reference7Ideal.Value.run (F := Ideal) m ρ)

theorem reference8_frame : Cert.quiescent_Reference8Ideal (hReference8Ideal := Cert.Reference8Ideal.Gen.facts) := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

theorem reference9_frame : Cert.quiescent_Reference9Ideal (hReference9Ideal := Cert.Reference9Ideal.Gen.facts) := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

theorem reference10_frame : Cert.quiescent_Reference10Ideal (hReference10Ideal := Cert.Reference10Ideal.Gen.facts) := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

theorem reference11_frame : Cert.quiescent_Reference11Ideal (hReference11Ideal := Cert.Reference11Ideal.Gen.facts) := fun m ρ _ =>
  (θ_run Cert.Reference11Ideal.defs _ _).mono
    (fun r h => ⟨fun c => (h c).2, Idealize.ShloMosaic.sem_eq_zero_of_no_sems (by decide) r.2⟩)
    (Cert.Reference11Ideal.Value.run (F := Ideal) m ρ)

theorem reference12_frame : Cert.quiescent_Reference12Ideal (hReference12Ideal := Cert.Reference12Ideal.Gen.facts) := fun m ρ _ =>
  (θ_run Cert.Reference12Ideal.defs _ _).mono
    (fun r h => ⟨fun c => (h c).2.2, Idealize.ShloMosaic.sem_eq_zero_of_no_sems (by decide) r.2⟩)
    (Cert.Reference12Ideal.Value.run (F := Ideal) m ρ)

theorem reference13_frame : Cert.quiescent_Reference13Ideal (hReference13Ideal := Cert.Reference13Ideal.Gen.facts) := fun m ρ _ =>
  (θ_run Cert.Reference13Ideal.defs _ _).mono
    (fun r h => ⟨fun c => (h c).2.2, Idealize.ShloMosaic.sem_eq_zero_of_no_sems (by decide) r.2⟩)
    (Cert.Reference13Ideal.Value.run (F := Ideal) m ρ)

theorem reference14_frame : Cert.quiescent_Reference14Ideal (hReference14Ideal := Cert.Reference14Ideal.Gen.facts) := fun m ρ _ =>
  (θ_run Cert.Reference14Ideal.defs _ _).mono
    (fun r h => ⟨fun c => (h c).2.2, Idealize.ShloMosaic.sem_eq_zero_of_no_sems (by decide) r.2⟩)
    (Cert.Reference14Ideal.Value.run (F := Ideal) m ρ)

theorem reference15_frame : Cert.quiescent_Reference15Ideal (hReference15Ideal := Cert.Reference15Ideal.Gen.facts) := fun m ρ _ =>
  (θ_run Cert.Reference15Ideal.defs _ _).mono
    (fun r h => ⟨fun c => (h c).2.2, Idealize.ShloMosaic.sem_eq_zero_of_no_sems (by decide) r.2⟩)
    (Cert.Reference15Ideal.Value.run (F := Ideal) m ρ)

theorem reference16_frame : Cert.quiescent_Reference16Ideal (hReference16Ideal := Cert.Reference16Ideal.Gen.facts) := fun m ρ _ =>
  (θ_run Cert.Reference16Ideal.defs _ _).mono
    (fun r h => ⟨fun c => (h c).2.2, Idealize.ShloMosaic.sem_eq_zero_of_no_sems (by decide) r.2⟩)
    (Cert.Reference16Ideal.Value.run (F := Ideal) m ρ)

theorem reference20_frame : Cert.quiescent_Reference20Ideal (hReference20Ideal := Cert.Reference20Ideal.Gen.facts) := fun m ρ _ =>
  (θ_run Cert.Reference20Ideal.defs _ _).mono
    (fun r h => ⟨fun c => (h c).2.2.2, Idealize.ShloMosaic.sem_eq_zero_of_no_sems (by decide) r.2⟩)
    (Cert.Reference20Ideal.Value.run (F := Ideal) m ρ)

theorem reference21_frame : Cert.quiescent_Reference21Ideal (hReference21Ideal := Cert.Reference21Ideal.Gen.facts) := fun m ρ _ =>
  (θ_run Cert.Reference21Ideal.defs _ _).mono
    (fun r h => ⟨fun c => (h c).2.2.2, Idealize.ShloMosaic.sem_eq_zero_of_no_sems (by decide) r.2⟩)
    (Cert.Reference21Ideal.Value.run (F := Ideal) m ρ)

theorem reference22_frame : Cert.quiescent_Reference22Ideal (hReference22Ideal := Cert.Reference22Ideal.Gen.facts) := fun m ρ _ =>
  (θ_run Cert.Reference22Ideal.defs _ _).mono
    (fun r h => ⟨fun c => (h c).2.2.2, Idealize.ShloMosaic.sem_eq_zero_of_no_sems (by decide) r.2⟩)
    (Cert.Reference22Ideal.Value.run (F := Ideal) m ρ)

theorem reference23_frame : Cert.quiescent_Reference23Ideal (hReference23Ideal := Cert.Reference23Ideal.Gen.facts) := fun m ρ _ =>
  (θ_run Cert.Reference23Ideal.defs _ _).mono
    (fun r h => ⟨fun c => (h c).2.2.2, Idealize.ShloMosaic.sem_eq_zero_of_no_sems (by decide) r.2⟩)
    (Cert.Reference23Ideal.Value.run (F := Ideal) m ρ)

theorem reference24_frame : Cert.quiescent_Reference24Ideal (hReference24Ideal := Cert.Reference24Ideal.Gen.facts) := fun m ρ _ =>
  (θ_run Cert.Reference24Ideal.defs _ _).mono
    (fun r h => ⟨fun c => (h c).2.2.2, Idealize.ShloMosaic.sem_eq_zero_of_no_sems (by decide) r.2⟩)
    (Cert.Reference24Ideal.Value.run (F := Ideal) m ρ)

theorem reference25_frame : Cert.quiescent_Reference25Ideal (hReference25Ideal := Cert.Reference25Ideal.Gen.facts) := fun m ρ _ =>
  (θ_run Cert.Reference25Ideal.defs _ _).mono
    (fun r h => ⟨fun c => (h c).2.2.2, Idealize.ShloMosaic.sem_eq_zero_of_no_sems (by decide) r.2⟩)
    (Cert.Reference25Ideal.Value.run (F := Ideal) m ρ)

theorem reference26_frame : Cert.quiescent_Reference26Ideal (hReference26Ideal := Cert.Reference26Ideal.Gen.facts) := fun m ρ _ =>
  (θ_run Cert.Reference26Ideal.defs _ _).mono
    (fun r h => ⟨fun c => (h c).2.2.2, Idealize.ShloMosaic.sem_eq_zero_of_no_sems (by decide) r.2⟩)
    (Cert.Reference26Ideal.Value.run (F := Ideal) m ρ)

theorem reference27_frame : Cert.quiescent_Reference27Ideal (hReference27Ideal := Cert.Reference27Ideal.Gen.facts) := fun m ρ _ =>
  (θ_run Cert.Reference27Ideal.defs _ _).mono
    (fun r h => ⟨fun c => (h c).2.2.2, Idealize.ShloMosaic.sem_eq_zero_of_no_sems (by decide) r.2⟩)
    (Cert.Reference27Ideal.Value.run (F := Ideal) m ρ)

theorem reference28_frame : Cert.quiescent_Reference28Ideal (hReference28Ideal := Cert.Reference28Ideal.Gen.facts) := fun m ρ _ =>
  (θ_run Cert.Reference28Ideal.defs _ _).mono
    (fun r h => ⟨fun c => (h c).2.2.2, Idealize.ShloMosaic.sem_eq_zero_of_no_sems (by decide) r.2⟩)
    (Cert.Reference28Ideal.Value.run (F := Ideal) m ρ)

theorem reference29_frame : Cert.quiescent_Reference29Ideal (hReference29Ideal := Cert.Reference29Ideal.Gen.facts) := fun m ρ _ =>
  (θ_run Cert.Reference29Ideal.defs _ _).mono
    (fun r h => ⟨fun c => (h c).2.2.2, Idealize.ShloMosaic.sem_eq_zero_of_no_sems (by decide) r.2⟩)
    (Cert.Reference29Ideal.Value.run (F := Ideal) m ρ)

theorem reference30_frame : Cert.quiescent_Reference30Ideal (hReference30Ideal := Cert.Reference30Ideal.Gen.facts) := fun m ρ _ =>
  (θ_run Cert.Reference30Ideal.defs _ _).mono
    (fun r h => ⟨fun c => (h c).2.2.2, Idealize.ShloMosaic.sem_eq_zero_of_no_sems (by decide) r.2⟩)
    (Cert.Reference30Ideal.Value.run (F := Ideal) m ρ)

theorem reference6_frame : Cert.quiescent_Reference6Ideal (hReference6Ideal := Cert.Reference6Ideal.Gen.facts) := fun m ρ _ =>
  (θ_run Cert.Reference6Ideal.defs _ _).mono
    (fun r h => ⟨fun c => (h c).2.2.2.2, Idealize.ShloMosaic.sem_eq_zero_of_no_sems (by decide) r.2⟩)
    (Cert.Reference6Ideal.Value.run (F := Ideal) m ρ)

theorem reference17_frame : Cert.quiescent_Reference17Ideal (hReference17Ideal := Cert.Reference17Ideal.Gen.facts) := fun m ρ _ =>
  (θ_run Cert.Reference17Ideal.defs _ _).mono
    (fun r h => ⟨fun c => (h c).2.2, Idealize.ShloMosaic.sem_eq_zero_of_no_sems (by decide) r.2⟩)
    (Cert.Reference17Ideal.Value.run (F := Ideal) m ρ)

theorem reference18_frame : Cert.quiescent_Reference18Ideal (hReference18Ideal := Cert.Reference18Ideal.Gen.facts) := fun m ρ _ =>
  (θ_run Cert.Reference18Ideal.defs _ _).mono
    (fun r h => ⟨fun c => (h c).2.2, Idealize.ShloMosaic.sem_eq_zero_of_no_sems (by decide) r.2⟩)
    (Cert.Reference18Ideal.Value.run (F := Ideal) m ρ)

theorem reference31_frame : Cert.quiescent_Reference31Ideal (hReference31Ideal := Cert.Reference31Ideal.Gen.facts) := fun m ρ _ =>
  (θ_run Cert.Reference31Ideal.defs _ _).mono
    (fun r h => ⟨fun c => (h c).2.2, Idealize.ShloMosaic.sem_eq_zero_of_no_sems (by decide) r.2⟩)
    (Cert.Reference31Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel6.Gen.facts, Cert.Kernel6Ideal.Gen.facts, Cert.Reference6Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel31.Gen.facts, Cert.Kernel31Ideal.Gen.facts, Cert.Reference31Ideal.Gen.facts,
    Cert.Pre_finite_scores.facts, Cert.Pre_finite_factors.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ _ => Cert.Kernel2.Gen.frame m ρ,
    fun m ρ _ => Cert.Kernel2Ideal.Gen.frame m ρ,
    reference2_frame,
    fun m ρ _ => Cert.Kernel3.Gen.frame m ρ,
    fun m ρ _ => Cert.Kernel3Ideal.Gen.frame m ρ,
    reference3_frame,
    fun m ρ _ => Cert.Kernel4.Gen.frame m ρ,
    fun m ρ _ => Cert.Kernel4Ideal.Gen.frame m ρ,
    reference4_frame,
    fun m ρ _ => Cert.Kernel5.Gen.frame m ρ,
    fun m ρ _ => Cert.Kernel5Ideal.Gen.frame m ρ,
    fun m ρ _ => Cert.Kernel5Ideal.Gen.frame m ρ,
    reference5_frame,
    fun m ρ _ => reference5_frame m ρ trivial,
    fun m ρ _ => Cert.Kernel7.Gen.frame m ρ,
    fun m ρ _ => Cert.Kernel7Ideal.Gen.frame m ρ,
    reference7_frame,
    fun m ρ _ => Cert.Kernel8.Gen.frame m ρ,
    fun m ρ _ => Cert.Kernel8Ideal.Gen.frame m ρ,
    reference8_frame,
    fun m ρ _ => Cert.Kernel9.Gen.frame m ρ,
    fun m ρ _ => Cert.Kernel9Ideal.Gen.frame m ρ,
    reference9_frame,
    fun m ρ _ => Cert.Kernel10.Gen.frame m ρ,
    fun m ρ _ => Cert.Kernel10Ideal.Gen.frame m ρ,
    reference10_frame,
    fun m ρ _ => Cert.Kernel11.Gen.frame m ρ,
    fun m ρ _ => Cert.Kernel11Ideal.Gen.frame m ρ,
    reference11_frame,
    fun m ρ _ => Cert.Kernel12.Gen.frame m ρ,
    fun m ρ _ => Cert.Kernel12Ideal.Gen.frame m ρ,
    reference12_frame,
    fun m ρ _ => Cert.Kernel13.Gen.frame m ρ,
    fun m ρ _ => Cert.Kernel13Ideal.Gen.frame m ρ,
    reference13_frame,
    fun m ρ _ => Cert.Kernel14.Gen.frame m ρ,
    fun m ρ _ => Cert.Kernel14Ideal.Gen.frame m ρ,
    reference14_frame,
    fun m ρ _ => Cert.Kernel15.Gen.frame m ρ,
    fun m ρ _ => Cert.Kernel15Ideal.Gen.frame m ρ,
    reference15_frame,
    fun m ρ _ => Cert.Kernel16.Gen.frame m ρ,
    fun m ρ _ => Cert.Kernel16Ideal.Gen.frame m ρ,
    reference16_frame,
    fun m ρ _ => Cert.Kernel20.Gen.frame m ρ,
    fun m ρ _ => Cert.Kernel20Ideal.Gen.frame m ρ,
    reference20_frame,
    fun m ρ _ => Cert.Kernel21.Gen.frame m ρ,
    fun m ρ _ => Cert.Kernel21Ideal.Gen.frame m ρ,
    reference21_frame,
    fun m ρ _ => Cert.Kernel22.Gen.frame m ρ,
    fun m ρ _ => Cert.Kernel22Ideal.Gen.frame m ρ,
    reference22_frame,
    fun m ρ _ => Cert.Kernel23.Gen.frame m ρ,
    fun m ρ _ => Cert.Kernel23Ideal.Gen.frame m ρ,
    reference23_frame,
    fun m ρ _ => Cert.Kernel24.Gen.frame m ρ,
    fun m ρ _ => Cert.Kernel24Ideal.Gen.frame m ρ,
    reference24_frame,
    fun m ρ _ => Cert.Kernel25.Gen.frame m ρ,
    fun m ρ _ => Cert.Kernel25Ideal.Gen.frame m ρ,
    reference25_frame,
    fun m ρ _ => Cert.Kernel26.Gen.frame m ρ,
    fun m ρ _ => Cert.Kernel26Ideal.Gen.frame m ρ,
    reference26_frame,
    fun m ρ _ => Cert.Kernel27.Gen.frame m ρ,
    fun m ρ _ => Cert.Kernel27Ideal.Gen.frame m ρ,
    reference27_frame,
    fun m ρ _ => Cert.Kernel28.Gen.frame m ρ,
    fun m ρ _ => Cert.Kernel28Ideal.Gen.frame m ρ,
    reference28_frame,
    fun m ρ _ => Cert.Kernel29.Gen.frame m ρ,
    fun m ρ _ => Cert.Kernel29Ideal.Gen.frame m ρ,
    reference29_frame,
    fun m ρ _ => Cert.Kernel30.Gen.frame m ρ,
    fun m ρ _ => Cert.Kernel30Ideal.Gen.frame m ρ,
    reference30_frame,
    fun m ρ _ => Cert.Kernel6.Body.frame m ρ,
    fun m ρ _ => Cert.Kernel6Ideal.Body.frame m ρ,
    reference6_frame,
    fun m ρ _ => Cert.Kernel17.Body.frame m ρ,
    fun m ρ _ => Cert.Kernel17Ideal.Body.frame m ρ,
    reference17_frame,
    fun m ρ _ => Cert.Kernel18.Body.frame m ρ,
    fun m ρ _ => Cert.Kernel18Ideal.Body.frame m ρ,
    reference18_frame,
    fun m ρ _ => Cert.Kernel31.Gen.frame m ρ,
    fun m ρ _ => Cert.Kernel31Ideal.Gen.frame m ρ,
    reference31_frame,
    IdealRules.named_const.statement Cert.KernelIdeal.κ "mask" .f32 0xF149F2CA#32 ⊥ rfl,
    Cert.Swa.algebraic,
    trivial,
    Cert.Ffn.algebraic2,
    trivial,
    Cert.Ffn.algebraic3,
    trivial,
    Cert.Ffn.algebraic4,
    trivial,
    Cert.Ffn.algebraic5,
    trivial,
    Cert.Ffn.algebraic7,
    trivial,
    Cert.Ffn.algebraic8,
    trivial,
    Cert.Ffn.algebraic9,
    trivial,
    Cert.Ffn.algebraic10,
    trivial,
    Cert.Ffn.algebraic11,
    trivial,
    Cert.Ffn.algebraic12,
    trivial,
    Cert.Ffn.algebraic13,
    trivial,
    Cert.Ffn.algebraic14,
    trivial,
    Cert.Ffn.algebraic15,
    trivial,
    Cert.Ffn.algebraic16,
    trivial,
    Cert.Ffn.algebraic20,
    trivial,
    Cert.Ffn.algebraic21,
    trivial,
    Cert.Ffn.algebraic22,
    trivial,
    Cert.Ffn.algebraic23,
    trivial,
    Cert.Ffn.algebraic24,
    trivial,
    Cert.Ffn.algebraic25,
    trivial,
    Cert.Ffn.algebraic26,
    trivial,
    Cert.Ffn.algebraic27,
    trivial,
    Cert.Ffn.algebraic28,
    trivial,
    Cert.Ffn.algebraic29,
    trivial,
    Cert.Ffn.algebraic30,
    trivial,
    Cert.Ffn.algebraic6,
    trivial,
    Cert.Ffn.algebraic17,
    trivial,
    Cert.Ffn.algebraic18,
    trivial,
    Cert.Ffn.algebraic31⟩

end Cert.Proof

end
